-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchReferenceIdeal (m : (ℓ : Loc Cert.BranchReferenceIdeal.nD Cert.BranchReferenceIdeal.τ Cert.BranchReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_down_finite [hPre_down_finite : Cert.Pre_down_finite.Facts] (m : (ℓ : Loc Cert.DownIdeal.nD Cert.DownIdeal.τ Cert.DownIdeal.sig) → Buf (Elt Ideal) ℓ) : Prop :=
  ∀ c : Dev Cert.DownIdeal.nD,
    (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_down_finite [hPre_down_finite : Cert.Pre_down_finite.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_down_finite.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3))) = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdReferenceIdeal (m : (ℓ : Loc Cert.MixBwdReferenceIdeal.nD Cert.MixBwdReferenceIdeal.τ Cert.MixBwdReferenceIdeal.sig) → Buf (Elt Ideal) ℓ) : Prop :=
  True

def Pre_BranchBwd (m : (ℓ : Loc Cert.BranchBwd.nD Cert.BranchBwd.τ Cert.BranchBwd.sig) → Buf (Elt Bits) ℓ) : Prop :=
  True

def Pre_BranchBwdIdeal (m : (ℓ : Loc Cert.BranchBwdIdeal.nD Cert.BranchBwdIdeal.τ Cert.BranchBwdIdeal.sig) → Buf (Elt Ideal) ℓ) : Prop :=
  True

def Pre_BranchBwdReferenceIdeal (m : (ℓ : Loc Cert.BranchBwdReferenceIdeal.nD Cert.BranchBwdReferenceIdeal.τ Cert.BranchBwdReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchReferenceIdeal [hBranchReferenceIdeal : Cert.BranchReferenceIdeal.Facts] : Prop :=
  ∀ (m : (ℓ : Loc Cert.BranchReferenceIdeal.nD Cert.BranchReferenceIdeal.τ Cert.BranchReferenceIdeal.sig) → Buf (Elt Ideal) ℓ) (g : Dev Cert.BranchReferenceIdeal.nD → PrngReg), Pre_BranchReferenceIdeal m →
    θ_run (Cert.BranchReferenceIdeal.defs (F := Ideal)) (onTc (τ := Cert.BranchReferenceIdeal.τ) (Cert.BranchReferenceIdeal.main (F := Ideal))) ⟨m, fun _ => 0, g⟩ (fun r => (∀ c : Dev Cert.BranchReferenceIdeal.nD,
      r.2.mem ((c.tc : Thread Cert.BranchReferenceIdeal.nD Cert.BranchReferenceIdeal.τ).loc Cert.BranchReferenceIdeal.main_arg0) = m ((c.tc : Thread Cert.BranchReferenceIdeal.nD Cert.BranchReferenceIdeal.τ).loc Cert.BranchReferenceIdeal.main_arg0)
      ∧ r.2.mem ((c.tc : Thread Cert.BranchReferenceIdeal.nD Cert.BranchReferenceIdeal.τ).loc Cert.BranchReferenceIdeal.main_arg1) = m ((c.tc : Thread Cert.BranchReferenceIdeal.nD Cert.BranchReferenceIdeal.τ).loc Cert.BranchReferenceIdeal.main_arg1))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownIdeal_pre_down_finite [hDownIdeal : Cert.DownIdeal.Facts] [hPre_down_finite : Cert.Pre_down_finite.Facts] : Prop :=
  ∀ (m : (ℓ : Loc Cert.DownIdeal.nD Cert.DownIdeal.τ Cert.DownIdeal.sig) → Buf (Elt Ideal) ℓ) (g : Dev Cert.DownIdeal.nD → PrngReg), Pre_DownIdeal_down_finite m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_DownReferenceIdeal_pre_down_finite [hDownReferenceIdeal : Cert.DownReferenceIdeal.Facts] [hPre_down_finite : Cert.Pre_down_finite.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_down_finite m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6))
      ∧ r.2.sem = fun _ => 0)

def quiescent_MixBwdReferenceIdeal [hMixBwdReferenceIdeal : Cert.MixBwdReferenceIdeal.Facts] : Prop :=
  ∀ (m : (ℓ : Loc Cert.MixBwdReferenceIdeal.nD Cert.MixBwdReferenceIdeal.τ Cert.MixBwdReferenceIdeal.sig) → Buf (Elt Ideal) ℓ) (g : Dev Cert.MixBwdReferenceIdeal.nD → PrngReg), Pre_MixBwdReferenceIdeal m →
    θ_run (Cert.MixBwdReferenceIdeal.defs (F := Ideal)) (onTc (τ := Cert.MixBwdReferenceIdeal.τ) (Cert.MixBwdReferenceIdeal.main (F := Ideal))) ⟨m, fun _ => 0, g⟩ (fun r => (∀ c : Dev Cert.MixBwdReferenceIdeal.nD,
      r.2.mem ((c.tc : Thread Cert.MixBwdReferenceIdeal.nD Cert.MixBwdReferenceIdeal.τ).loc Cert.MixBwdReferenceIdeal.main_arg0) = m ((c.tc : Thread Cert.MixBwdReferenceIdeal.nD Cert.MixBwdReferenceIdeal.τ).loc Cert.MixBwdReferenceIdeal.main_arg0)
      ∧ r.2.mem ((c.tc : Thread Cert.MixBwdReferenceIdeal.nD Cert.MixBwdReferenceIdeal.τ).loc Cert.MixBwdReferenceIdeal.main_arg1) = m ((c.tc : Thread Cert.MixBwdReferenceIdeal.nD Cert.MixBwdReferenceIdeal.τ).loc Cert.MixBwdReferenceIdeal.main_arg1)
      ∧ r.2.mem ((c.tc : Thread Cert.MixBwdReferenceIdeal.nD Cert.MixBwdReferenceIdeal.τ).loc Cert.MixBwdReferenceIdeal.main_arg2) = m ((c.tc : Thread Cert.MixBwdReferenceIdeal.nD Cert.MixBwdReferenceIdeal.τ).loc Cert.MixBwdReferenceIdeal.main_arg2)
      ∧ r.2.mem ((c.tc : Thread Cert.MixBwdReferenceIdeal.nD Cert.MixBwdReferenceIdeal.τ).loc Cert.MixBwdReferenceIdeal.main_arg3) = m ((c.tc : Thread Cert.MixBwdReferenceIdeal.nD Cert.MixBwdReferenceIdeal.τ).loc Cert.MixBwdReferenceIdeal.main_arg3)
      ∧ r.2.mem ((c.tc : Thread Cert.MixBwdReferenceIdeal.nD Cert.MixBwdReferenceIdeal.τ).loc Cert.MixBwdReferenceIdeal.main_arg4) = m ((c.tc : Thread Cert.MixBwdReferenceIdeal.nD Cert.MixBwdReferenceIdeal.τ).loc Cert.MixBwdReferenceIdeal.main_arg4)
      ∧ r.2.mem ((c.tc : Thread Cert.MixBwdReferenceIdeal.nD Cert.MixBwdReferenceIdeal.τ).loc Cert.MixBwdReferenceIdeal.main_arg5) = m ((c.tc : Thread Cert.MixBwdReferenceIdeal.nD Cert.MixBwdReferenceIdeal.τ).loc Cert.MixBwdReferenceIdeal.main_arg5)
      ∧ r.2.mem ((c.tc : Thread Cert.MixBwdReferenceIdeal.nD Cert.MixBwdReferenceIdeal.τ).loc Cert.MixBwdReferenceIdeal.main_arg6) = m ((c.tc : Thread Cert.MixBwdReferenceIdeal.nD Cert.MixBwdReferenceIdeal.τ).loc Cert.MixBwdReferenceIdeal.main_arg6))
      ∧ r.2.sem = fun _ => 0)

def quiescent_BranchBwd [hBranchBwd : Cert.BranchBwd.Facts] : Prop :=
  ∀ (m : (ℓ : Loc Cert.BranchBwd.nD Cert.BranchBwd.τ Cert.BranchBwd.sig) → Buf (Elt Bits) ℓ) (g : Dev Cert.BranchBwd.nD → PrngReg), Pre_BranchBwd m →
    θ_run (Cert.BranchBwd.defs (F := Bits)) (onTc (τ := Cert.BranchBwd.τ) (Cert.BranchBwd.main (F := Bits))) ⟨m, fun _ => 0, g⟩ (fun r => (∀ c : Dev Cert.BranchBwd.nD,
      r.2.mem ((c.tc : Thread Cert.BranchBwd.nD Cert.BranchBwd.τ).loc Cert.BranchBwd.main_arg0) = m ((c.tc : Thread Cert.BranchBwd.nD Cert.BranchBwd.τ).loc Cert.BranchBwd.main_arg0)
      ∧ r.2.mem ((c.tc : Thread Cert.BranchBwd.nD Cert.BranchBwd.τ).loc Cert.BranchBwd.main_arg1) = m ((c.tc : Thread Cert.BranchBwd.nD Cert.BranchBwd.τ).loc Cert.BranchBwd.main_arg1))
      ∧ r.2.sem = fun _ => 0)

def quiescent_BranchBwdIdeal [hBranchBwdIdeal : Cert.BranchBwdIdeal.Facts] : Prop :=
  ∀ (m : (ℓ : Loc Cert.BranchBwdIdeal.nD Cert.BranchBwdIdeal.τ Cert.BranchBwdIdeal.sig) → Buf (Elt Ideal) ℓ) (g : Dev Cert.BranchBwdIdeal.nD → PrngReg), Pre_BranchBwdIdeal m →
    θ_run (Cert.BranchBwdIdeal.defs (F := Ideal)) (onTc (τ := Cert.BranchBwdIdeal.τ) (Cert.BranchBwdIdeal.main (F := Ideal))) ⟨m, fun _ => 0, g⟩ (fun r => (∀ c : Dev Cert.BranchBwdIdeal.nD,
      r.2.mem ((c.tc : Thread Cert.BranchBwdIdeal.nD Cert.BranchBwdIdeal.τ).loc Cert.BranchBwdIdeal.main_arg0) = m ((c.tc : Thread Cert.BranchBwdIdeal.nD Cert.BranchBwdIdeal.τ).loc Cert.BranchBwdIdeal.main_arg0)
      ∧ r.2.mem ((c.tc : Thread Cert.BranchBwdIdeal.nD Cert.BranchBwdIdeal.τ).loc Cert.BranchBwdIdeal.main_arg1) = m ((c.tc : Thread Cert.BranchBwdIdeal.nD Cert.BranchBwdIdeal.τ).loc Cert.BranchBwdIdeal.main_arg1))
      ∧ r.2.sem = fun _ => 0)

def quiescent_BranchBwdReferenceIdeal [hBranchBwdReferenceIdeal : Cert.BranchBwdReferenceIdeal.Facts] : Prop :=
  ∀ (m : (ℓ : Loc Cert.BranchBwdReferenceIdeal.nD Cert.BranchBwdReferenceIdeal.τ Cert.BranchBwdReferenceIdeal.sig) → Buf (Elt Ideal) ℓ) (g : Dev Cert.BranchBwdReferenceIdeal.nD → PrngReg), Pre_BranchBwdReferenceIdeal m →
    θ_run (Cert.BranchBwdReferenceIdeal.defs (F := Ideal)) (onTc (τ := Cert.BranchBwdReferenceIdeal.τ) (Cert.BranchBwdReferenceIdeal.main (F := Ideal))) ⟨m, fun _ => 0, g⟩ (fun r => (∀ c : Dev Cert.BranchBwdReferenceIdeal.nD,
      r.2.mem ((c.tc : Thread Cert.BranchBwdReferenceIdeal.nD Cert.BranchBwdReferenceIdeal.τ).loc Cert.BranchBwdReferenceIdeal.main_arg0) = m ((c.tc : Thread Cert.BranchBwdReferenceIdeal.nD Cert.BranchBwdReferenceIdeal.τ).loc Cert.BranchBwdReferenceIdeal.main_arg0)
      ∧ r.2.mem ((c.tc : Thread Cert.BranchBwdReferenceIdeal.nD Cert.BranchBwdReferenceIdeal.τ).loc Cert.BranchBwdReferenceIdeal.main_arg1) = m ((c.tc : Thread Cert.BranchBwdReferenceIdeal.nD Cert.BranchBwdReferenceIdeal.τ).loc Cert.BranchBwdReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_v269) = v1 c
          ∧ r.2.mem ((c.tc : Thread Cert.ReferenceIdeal.nD Cert.ReferenceIdeal.τ).loc Cert.ReferenceIdeal.main_v271) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v6) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v6) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_Branch_BranchIdeal : Prop :=
  True

def algebraic_BranchIdeal_BranchReferenceIdeal [hBranchIdeal : Cert.BranchIdeal.Facts] [hBranchReferenceIdeal : Cert.BranchReferenceIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchReferenceIdeal.nD Cert.BranchReferenceIdeal.τ Cert.BranchReferenceIdeal.sig) → Buf (Elt Ideal) ℓ) (g' : Dev Cert.BranchReferenceIdeal.nD → PrngReg), Pre_BranchIdeal m →
    (∀ c : Dev Cert.BranchIdeal.nD,
      m' ((c.tc : Thread Cert.BranchReferenceIdeal.nD Cert.BranchReferenceIdeal.τ).loc Cert.BranchReferenceIdeal.main_arg0) = m ((c.tc : Thread Cert.BranchIdeal.nD Cert.BranchIdeal.τ).loc Cert.BranchIdeal.main_arg0)
      ∧ m' ((c.tc : Thread Cert.BranchReferenceIdeal.nD Cert.BranchReferenceIdeal.τ).loc Cert.BranchReferenceIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchReferenceIdeal.defs (F := Ideal)) (onTc (τ := Cert.BranchReferenceIdeal.τ) (Cert.BranchReferenceIdeal.main (F := Ideal))) ⟨m', fun _ => 0, g'⟩ (fun r => ∀ c : Dev Cert.BranchReferenceIdeal.nD,
          r.2.mem ((c.tc : Thread Cert.BranchReferenceIdeal.nD Cert.BranchReferenceIdeal.τ).loc Cert.BranchReferenceIdeal.main_v7) = v0 c
          ∧ r.2.mem ((c.tc : Thread Cert.BranchReferenceIdeal.nD Cert.BranchReferenceIdeal.τ).loc Cert.BranchReferenceIdeal.main_arg0) = m' ((c.tc : Thread Cert.BranchReferenceIdeal.nD Cert.BranchReferenceIdeal.τ).loc Cert.BranchReferenceIdeal.main_arg0)
          ∧ r.2.mem ((c.tc : Thread Cert.BranchReferenceIdeal.nD Cert.BranchReferenceIdeal.τ).loc Cert.BranchReferenceIdeal.main_arg1) = m' ((c.tc : Thread Cert.BranchReferenceIdeal.nD Cert.BranchReferenceIdeal.τ).loc Cert.BranchReferenceIdeal.main_arg1))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
      ∧ m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)) →
    ∃ (v0 : (c : Dev Cert.FirstIdeal.nD) → Buf (Elt Ideal) ((c.tc : Thread Cert.FirstIdeal.nD Cert.FirstIdeal.τ).loc Cert.FirstIdeal.main_v0_0)) (v1 : (c : Dev Cert.FirstIdeal.nD) → Buf (Elt Ideal) ((c.tc : Thread Cert.FirstIdeal.nD Cert.FirstIdeal.τ).loc Cert.FirstIdeal.main_v0_1)) (v2 : (c : Dev Cert.FirstIdeal.nD) → Buf (Elt Ideal) ((c.tc : Thread Cert.FirstIdeal.nD Cert.FirstIdeal.τ).loc Cert.FirstIdeal.main_v0_2)) (v3 : (c : Dev Cert.FirstIdeal.nD) → Buf (Elt Ideal) ((c.tc : Thread Cert.FirstIdeal.nD Cert.FirstIdeal.τ).loc Cert.FirstIdeal.main_v0_3)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v0_0) = v0 c
          ∧ r.2.mem ((c.tc : Thread Cert.FirstIdeal.nD Cert.FirstIdeal.τ).loc Cert.FirstIdeal.main_v0_1) = v1 c
          ∧ r.2.mem ((c.tc : Thread Cert.FirstIdeal.nD Cert.FirstIdeal.τ).loc Cert.FirstIdeal.main_v0_2) = v2 c
          ∧ r.2.mem ((c.tc : Thread Cert.FirstIdeal.nD Cert.FirstIdeal.τ).loc Cert.FirstIdeal.main_v0_3) = v3 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v7) = v0 c
          ∧ r.2.mem ((c.tc : Thread Cert.FirstReferenceIdeal.nD Cert.FirstReferenceIdeal.τ).loc Cert.FirstReferenceIdeal.main_v15) = v1 c
          ∧ r.2.mem ((c.tc : Thread Cert.FirstReferenceIdeal.nD Cert.FirstReferenceIdeal.τ).loc Cert.FirstReferenceIdeal.main_v23) = v2 c
          ∧ r.2.mem ((c.tc : Thread Cert.FirstReferenceIdeal.nD Cert.FirstReferenceIdeal.τ).loc Cert.FirstReferenceIdeal.main_v31) = v3 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v0_0)) (v1 : (c : Dev Cert.LastIdeal.nD) → Buf (Elt Ideal) ((c.tc : Thread Cert.LastIdeal.nD Cert.LastIdeal.τ).loc Cert.LastIdeal.main_v0_1)) (v2 : (c : Dev Cert.LastIdeal.nD) → Buf (Elt Ideal) ((c.tc : Thread Cert.LastIdeal.nD Cert.LastIdeal.τ).loc Cert.LastIdeal.main_v0_2)) (v3 : (c : Dev Cert.LastIdeal.nD) → Buf (Elt Ideal) ((c.tc : Thread Cert.LastIdeal.nD Cert.LastIdeal.τ).loc Cert.LastIdeal.main_v0_3)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v0_0) = v0 c
          ∧ r.2.mem ((c.tc : Thread Cert.LastIdeal.nD Cert.LastIdeal.τ).loc Cert.LastIdeal.main_v0_1) = v1 c
          ∧ r.2.mem ((c.tc : Thread Cert.LastIdeal.nD Cert.LastIdeal.τ).loc Cert.LastIdeal.main_v0_2) = v2 c
          ∧ r.2.mem ((c.tc : Thread Cert.LastIdeal.nD Cert.LastIdeal.τ).loc Cert.LastIdeal.main_v0_3) = v3 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v7) = v0 c
          ∧ r.2.mem ((c.tc : Thread Cert.LastReferenceIdeal.nD Cert.LastReferenceIdeal.τ).loc Cert.LastReferenceIdeal.main_v15) = v1 c
          ∧ r.2.mem ((c.tc : Thread Cert.LastReferenceIdeal.nD Cert.LastReferenceIdeal.τ).loc Cert.LastReferenceIdeal.main_v23) = v2 c
          ∧ r.2.mem ((c.tc : Thread Cert.LastReferenceIdeal.nD Cert.LastReferenceIdeal.τ).loc Cert.LastReferenceIdeal.main_v31) = v3 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v5) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v9) = v0 c
          ∧ r.2.mem ((c.tc : Thread Cert.GateReferenceIdeal.nD Cert.GateReferenceIdeal.τ).loc Cert.GateReferenceIdeal.main_v10) = v1 c
          ∧ r.2.mem ((c.tc : Thread Cert.GateReferenceIdeal.nD Cert.GateReferenceIdeal.τ).loc Cert.GateReferenceIdeal.main_v11) = v2 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_Down_DownIdeal : Prop :=
  True

def algebraic_DownIdeal_DownReferenceIdeal_pre_down_finite [hDownIdeal : Cert.DownIdeal.Facts] [hDownReferenceIdeal : Cert.DownReferenceIdeal.Facts] [hPre_down_finite : Cert.Pre_down_finite.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal_down_finite m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v11) = v0 c
          ∧ r.2.mem ((c.tc : Thread Cert.DownReferenceIdeal.nD Cert.DownReferenceIdeal.τ).loc Cert.DownReferenceIdeal.main_v12) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_MixBwd_MixBwdIdeal : Prop :=
  True

def algebraic_MixBwdIdeal_MixBwdReferenceIdeal [hMixBwdIdeal : Cert.MixBwdIdeal.Facts] [hMixBwdReferenceIdeal : Cert.MixBwdReferenceIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdReferenceIdeal.nD Cert.MixBwdReferenceIdeal.τ Cert.MixBwdReferenceIdeal.sig) → Buf (Elt Ideal) ℓ) (g' : Dev Cert.MixBwdReferenceIdeal.nD → PrngReg), Pre_MixBwdIdeal m →
    (∀ c : Dev Cert.MixBwdIdeal.nD,
      m' ((c.tc : Thread Cert.MixBwdReferenceIdeal.nD Cert.MixBwdReferenceIdeal.τ).loc Cert.MixBwdReferenceIdeal.main_arg0) = m ((c.tc : Thread Cert.MixBwdIdeal.nD Cert.MixBwdIdeal.τ).loc Cert.MixBwdIdeal.main_arg0)
      ∧ m' ((c.tc : Thread Cert.MixBwdReferenceIdeal.nD Cert.MixBwdReferenceIdeal.τ).loc Cert.MixBwdReferenceIdeal.main_arg1) = m ((c.tc : Thread Cert.MixBwdIdeal.nD Cert.MixBwdIdeal.τ).loc Cert.MixBwdIdeal.main_arg1)
      ∧ m' ((c.tc : Thread Cert.MixBwdReferenceIdeal.nD Cert.MixBwdReferenceIdeal.τ).loc Cert.MixBwdReferenceIdeal.main_arg2) = m ((c.tc : Thread Cert.MixBwdIdeal.nD Cert.MixBwdIdeal.τ).loc Cert.MixBwdIdeal.main_arg2)
      ∧ m' ((c.tc : Thread Cert.MixBwdReferenceIdeal.nD Cert.MixBwdReferenceIdeal.τ).loc Cert.MixBwdReferenceIdeal.main_arg3) = m ((c.tc : Thread Cert.MixBwdIdeal.nD Cert.MixBwdIdeal.τ).loc Cert.MixBwdIdeal.main_arg3)
      ∧ m' ((c.tc : Thread Cert.MixBwdReferenceIdeal.nD Cert.MixBwdReferenceIdeal.τ).loc Cert.MixBwdReferenceIdeal.main_arg4) = m ((c.tc : Thread Cert.MixBwdIdeal.nD Cert.MixBwdIdeal.τ).loc Cert.MixBwdIdeal.main_arg4)
      ∧ m' ((c.tc : Thread Cert.MixBwdReferenceIdeal.nD Cert.MixBwdReferenceIdeal.τ).loc Cert.MixBwdReferenceIdeal.main_arg5) = m ((c.tc : Thread Cert.MixBwdIdeal.nD Cert.MixBwdIdeal.τ).loc Cert.MixBwdIdeal.main_arg5)
      ∧ m' ((c.tc : Thread Cert.MixBwdReferenceIdeal.nD Cert.MixBwdReferenceIdeal.τ).loc Cert.MixBwdReferenceIdeal.main_arg6) = m ((c.tc : Thread Cert.MixBwdIdeal.nD Cert.MixBwdIdeal.τ).loc Cert.MixBwdIdeal.main_arg6)) →
    ∃ (v0 : (c : Dev Cert.MixBwdIdeal.nD) → Buf (Elt Ideal) ((c.tc : Thread Cert.MixBwdIdeal.nD Cert.MixBwdIdeal.τ).loc Cert.MixBwdIdeal.main_v0_0)) (v1 : (c : Dev Cert.MixBwdIdeal.nD) → Buf (Elt Ideal) ((c.tc : Thread Cert.MixBwdIdeal.nD Cert.MixBwdIdeal.τ).loc Cert.MixBwdIdeal.main_v0_1)) (v2 : (c : Dev Cert.MixBwdIdeal.nD) → Buf (Elt Ideal) ((c.tc : Thread Cert.MixBwdIdeal.nD Cert.MixBwdIdeal.τ).loc Cert.MixBwdIdeal.main_v0_2)) (v3 : (c : Dev Cert.MixBwdIdeal.nD) → Buf (Elt Ideal) ((c.tc : Thread Cert.MixBwdIdeal.nD Cert.MixBwdIdeal.τ).loc Cert.MixBwdIdeal.main_v0_3)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v0_0) = v0 c
          ∧ r.2.mem ((c.tc : Thread Cert.MixBwdIdeal.nD Cert.MixBwdIdeal.τ).loc Cert.MixBwdIdeal.main_v0_1) = v1 c
          ∧ r.2.mem ((c.tc : Thread Cert.MixBwdIdeal.nD Cert.MixBwdIdeal.τ).loc Cert.MixBwdIdeal.main_v0_2) = v2 c
          ∧ r.2.mem ((c.tc : Thread Cert.MixBwdIdeal.nD Cert.MixBwdIdeal.τ).loc Cert.MixBwdIdeal.main_v0_3) = v3 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6))
      ∧ θ_run (Cert.MixBwdReferenceIdeal.defs (F := Ideal)) (onTc (τ := Cert.MixBwdReferenceIdeal.τ) (Cert.MixBwdReferenceIdeal.main (F := Ideal))) ⟨m', fun _ => 0, g'⟩ (fun r => ∀ c : Dev Cert.MixBwdReferenceIdeal.nD,
          r.2.mem ((c.tc : Thread Cert.MixBwdReferenceIdeal.nD Cert.MixBwdReferenceIdeal.τ).loc Cert.MixBwdReferenceIdeal.main_v42) = v0 c
          ∧ r.2.mem ((c.tc : Thread Cert.MixBwdReferenceIdeal.nD Cert.MixBwdReferenceIdeal.τ).loc Cert.MixBwdReferenceIdeal.main_v43) = v1 c
          ∧ r.2.mem ((c.tc : Thread Cert.MixBwdReferenceIdeal.nD Cert.MixBwdReferenceIdeal.τ).loc Cert.MixBwdReferenceIdeal.main_v44) = v2 c
          ∧ r.2.mem ((c.tc : Thread Cert.MixBwdReferenceIdeal.nD Cert.MixBwdReferenceIdeal.τ).loc Cert.MixBwdReferenceIdeal.main_v45) = v3 c
          ∧ r.2.mem ((c.tc : Thread Cert.MixBwdReferenceIdeal.nD Cert.MixBwdReferenceIdeal.τ).loc Cert.MixBwdReferenceIdeal.main_arg0) = m' ((c.tc : Thread Cert.MixBwdReferenceIdeal.nD Cert.MixBwdReferenceIdeal.τ).loc Cert.MixBwdReferenceIdeal.main_arg0)
          ∧ r.2.mem ((c.tc : Thread Cert.MixBwdReferenceIdeal.nD Cert.MixBwdReferenceIdeal.τ).loc Cert.MixBwdReferenceIdeal.main_arg1) = m' ((c.tc : Thread Cert.MixBwdReferenceIdeal.nD Cert.MixBwdReferenceIdeal.τ).loc Cert.MixBwdReferenceIdeal.main_arg1)
          ∧ r.2.mem ((c.tc : Thread Cert.MixBwdReferenceIdeal.nD Cert.MixBwdReferenceIdeal.τ).loc Cert.MixBwdReferenceIdeal.main_arg2) = m' ((c.tc : Thread Cert.MixBwdReferenceIdeal.nD Cert.MixBwdReferenceIdeal.τ).loc Cert.MixBwdReferenceIdeal.main_arg2)
          ∧ r.2.mem ((c.tc : Thread Cert.MixBwdReferenceIdeal.nD Cert.MixBwdReferenceIdeal.τ).loc Cert.MixBwdReferenceIdeal.main_arg3) = m' ((c.tc : Thread Cert.MixBwdReferenceIdeal.nD Cert.MixBwdReferenceIdeal.τ).loc Cert.MixBwdReferenceIdeal.main_arg3)
          ∧ r.2.mem ((c.tc : Thread Cert.MixBwdReferenceIdeal.nD Cert.MixBwdReferenceIdeal.τ).loc Cert.MixBwdReferenceIdeal.main_arg4) = m' ((c.tc : Thread Cert.MixBwdReferenceIdeal.nD Cert.MixBwdReferenceIdeal.τ).loc Cert.MixBwdReferenceIdeal.main_arg4)
          ∧ r.2.mem ((c.tc : Thread Cert.MixBwdReferenceIdeal.nD Cert.MixBwdReferenceIdeal.τ).loc Cert.MixBwdReferenceIdeal.main_arg5) = m' ((c.tc : Thread Cert.MixBwdReferenceIdeal.nD Cert.MixBwdReferenceIdeal.τ).loc Cert.MixBwdReferenceIdeal.main_arg5)
          ∧ r.2.mem ((c.tc : Thread Cert.MixBwdReferenceIdeal.nD Cert.MixBwdReferenceIdeal.τ).loc Cert.MixBwdReferenceIdeal.main_arg6) = m' ((c.tc : Thread Cert.MixBwdReferenceIdeal.nD Cert.MixBwdReferenceIdeal.τ).loc Cert.MixBwdReferenceIdeal.main_arg6))

def preserves_BranchBwd_BranchBwdIdeal : Prop :=
  True

def algebraic_BranchBwdIdeal_BranchBwdReferenceIdeal [hBranchBwdIdeal : Cert.BranchBwdIdeal.Facts] [hBranchBwdReferenceIdeal : Cert.BranchBwdReferenceIdeal.Facts] : Prop :=
  ∀ (m : (ℓ : Loc Cert.BranchBwdIdeal.nD Cert.BranchBwdIdeal.τ Cert.BranchBwdIdeal.sig) → Buf (Elt Ideal) ℓ) (g : Dev Cert.BranchBwdIdeal.nD → PrngReg)
    (m' : (ℓ : Loc Cert.BranchBwdReferenceIdeal.nD Cert.BranchBwdReferenceIdeal.τ Cert.BranchBwdReferenceIdeal.sig) → Buf (Elt Ideal) ℓ) (g' : Dev Cert.BranchBwdReferenceIdeal.nD → PrngReg), Pre_BranchBwdIdeal m →
    (∀ c : Dev Cert.BranchBwdIdeal.nD,
      m' ((c.tc : Thread Cert.BranchBwdReferenceIdeal.nD Cert.BranchBwdReferenceIdeal.τ).loc Cert.BranchBwdReferenceIdeal.main_arg0) = m ((c.tc : Thread Cert.BranchBwdIdeal.nD Cert.BranchBwdIdeal.τ).loc Cert.BranchBwdIdeal.main_arg0)
      ∧ m' ((c.tc : Thread Cert.BranchBwdReferenceIdeal.nD Cert.BranchBwdReferenceIdeal.τ).loc Cert.BranchBwdReferenceIdeal.main_arg1) = m ((c.tc : Thread Cert.BranchBwdIdeal.nD Cert.BranchBwdIdeal.τ).loc Cert.BranchBwdIdeal.main_arg1)) →
    ∃ (v0 : (c : Dev Cert.BranchBwdIdeal.nD) → Buf (Elt Ideal) ((c.tc : Thread Cert.BranchBwdIdeal.nD Cert.BranchBwdIdeal.τ).loc Cert.BranchBwdIdeal.main_v0)),
      θ_run (Cert.BranchBwdIdeal.defs (F := Ideal)) (onTc (τ := Cert.BranchBwdIdeal.τ) (Cert.BranchBwdIdeal.main (F := Ideal))) ⟨m, fun _ => 0, g⟩ (fun r => ∀ c : Dev Cert.BranchBwdIdeal.nD,
          r.2.mem ((c.tc : Thread Cert.BranchBwdIdeal.nD Cert.BranchBwdIdeal.τ).loc Cert.BranchBwdIdeal.main_v0) = v0 c
          ∧ r.2.mem ((c.tc : Thread Cert.BranchBwdIdeal.nD Cert.BranchBwdIdeal.τ).loc Cert.BranchBwdIdeal.main_arg0) = m ((c.tc : Thread Cert.BranchBwdIdeal.nD Cert.BranchBwdIdeal.τ).loc Cert.BranchBwdIdeal.main_arg0)
          ∧ r.2.mem ((c.tc : Thread Cert.BranchBwdIdeal.nD Cert.BranchBwdIdeal.τ).loc Cert.BranchBwdIdeal.main_arg1) = m ((c.tc : Thread Cert.BranchBwdIdeal.nD Cert.BranchBwdIdeal.τ).loc Cert.BranchBwdIdeal.main_arg1))
      ∧ θ_run (Cert.BranchBwdReferenceIdeal.defs (F := Ideal)) (onTc (τ := Cert.BranchBwdReferenceIdeal.τ) (Cert.BranchBwdReferenceIdeal.main (F := Ideal))) ⟨m', fun _ => 0, g'⟩ (fun r => ∀ c : Dev Cert.BranchBwdReferenceIdeal.nD,
          r.2.mem ((c.tc : Thread Cert.BranchBwdReferenceIdeal.nD Cert.BranchBwdReferenceIdeal.τ).loc Cert.BranchBwdReferenceIdeal.main_v5) = v0 c
          ∧ r.2.mem ((c.tc : Thread Cert.BranchBwdReferenceIdeal.nD Cert.BranchBwdReferenceIdeal.τ).loc Cert.BranchBwdReferenceIdeal.main_arg0) = m' ((c.tc : Thread Cert.BranchBwdReferenceIdeal.nD Cert.BranchBwdReferenceIdeal.τ).loc Cert.BranchBwdReferenceIdeal.main_arg0)
          ∧ r.2.mem ((c.tc : Thread Cert.BranchBwdReferenceIdeal.nD Cert.BranchBwdReferenceIdeal.τ).loc Cert.BranchBwdReferenceIdeal.main_arg1) = m' ((c.tc : Thread Cert.BranchBwdReferenceIdeal.nD Cert.BranchBwdReferenceIdeal.τ).loc Cert.BranchBwdReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v26) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)) (v2 : (c : Dev Cert.ProjIdeal.nD) → Buf (Elt Ideal) ((c.tc : Thread Cert.ProjIdeal.nD Cert.ProjIdeal.τ).loc Cert.ProjIdeal.main_v0_2)) (v3 : (c : Dev Cert.ProjIdeal.nD) → Buf (Elt Ideal) ((c.tc : Thread Cert.ProjIdeal.nD Cert.ProjIdeal.τ).loc Cert.ProjIdeal.main_v0_3)) (v4 : (c : Dev Cert.ProjIdeal.nD) → Buf (Elt Ideal) ((c.tc : Thread Cert.ProjIdeal.nD Cert.ProjIdeal.τ).loc Cert.ProjIdeal.main_v0_4)) (v5 : (c : Dev Cert.ProjIdeal.nD) → Buf (Elt Ideal) ((c.tc : Thread Cert.ProjIdeal.nD Cert.ProjIdeal.τ).loc Cert.ProjIdeal.main_v0_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_v0_2) = v2 c
          ∧ r.2.mem ((c.tc : Thread Cert.ProjIdeal.nD Cert.ProjIdeal.τ).loc Cert.ProjIdeal.main_v0_3) = v3 c
          ∧ r.2.mem ((c.tc : Thread Cert.ProjIdeal.nD Cert.ProjIdeal.τ).loc Cert.ProjIdeal.main_v0_4) = v4 c
          ∧ r.2.mem ((c.tc : Thread Cert.ProjIdeal.nD Cert.ProjIdeal.τ).loc Cert.ProjIdeal.main_v0_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v33) = v0 c
          ∧ r.2.mem ((c.tc : Thread Cert.ProjReferenceIdeal.nD Cert.ProjReferenceIdeal.τ).loc Cert.ProjReferenceIdeal.main_v20) = v1 c
          ∧ r.2.mem ((c.tc : Thread Cert.ProjReferenceIdeal.nD Cert.ProjReferenceIdeal.τ).loc Cert.ProjReferenceIdeal.main_v23) = v2 c
          ∧ r.2.mem ((c.tc : Thread Cert.ProjReferenceIdeal.nD Cert.ProjReferenceIdeal.τ).loc Cert.ProjReferenceIdeal.main_v34) = v3 c
          ∧ r.2.mem ((c.tc : Thread Cert.ProjReferenceIdeal.nD Cert.ProjReferenceIdeal.τ).loc Cert.ProjReferenceIdeal.main_v29) = v4 c
          ∧ r.2.mem ((c.tc : Thread Cert.ProjReferenceIdeal.nD Cert.ProjReferenceIdeal.τ).loc Cert.ProjReferenceIdeal.main_v35) = v5 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hOut : Cert.Out.Facts) (hOutIdeal : Cert.OutIdeal.Facts) (hOutReferenceIdeal : Cert.OutReferenceIdeal.Facts) (hBranch : Cert.Branch.Facts) (hBranchIdeal : Cert.BranchIdeal.Facts) (hBranchReferenceIdeal : Cert.BranchReferenceIdeal.Facts) (hFirst : Cert.First.Facts) (hFirstIdeal : Cert.FirstIdeal.Facts) (hFirstReferenceIdeal : Cert.FirstReferenceIdeal.Facts) (hLast : Cert.Last.Facts) (hLastIdeal : Cert.LastIdeal.Facts) (hLastReferenceIdeal : Cert.LastReferenceIdeal.Facts) (hAda : Cert.Ada.Facts) (hAdaIdeal : Cert.AdaIdeal.Facts) (hAdaReferenceIdeal : Cert.AdaReferenceIdeal.Facts) (hGate : Cert.Gate.Facts) (hGateIdeal : Cert.GateIdeal.Facts) (hGateReferenceIdeal : Cert.GateReferenceIdeal.Facts) (hDown : Cert.Down.Facts) (hDownIdeal : Cert.DownIdeal.Facts) (hDownReferenceIdeal : Cert.DownReferenceIdeal.Facts) (hMixBwd : Cert.MixBwd.Facts) (hMixBwdIdeal : Cert.MixBwdIdeal.Facts) (hMixBwdReferenceIdeal : Cert.MixBwdReferenceIdeal.Facts) (hBranchBwd : Cert.BranchBwd.Facts) (hBranchBwdIdeal : Cert.BranchBwdIdeal.Facts) (hBranchBwdReferenceIdeal : Cert.BranchBwdReferenceIdeal.Facts) (hMerge : Cert.Merge.Facts) (hMergeIdeal : Cert.MergeIdeal.Facts) (hMergeReferenceIdeal : Cert.MergeReferenceIdeal.Facts) (hProj : Cert.Proj.Facts) (hProjIdeal : Cert.ProjIdeal.Facts) (hProjReferenceIdeal : Cert.ProjReferenceIdeal.Facts) (hPre_finite : Cert.Pre_finite.Facts) (hPre_down_finite : Cert.Pre_down_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Out (hOut := hOut)
    ∧ quiescent_OutIdeal (hOutIdeal := hOutIdeal)
    ∧ quiescent_OutReferenceIdeal (hOutReferenceIdeal := hOutReferenceIdeal)
    ∧ quiescent_Branch (hBranch := hBranch)
    ∧ quiescent_BranchIdeal (hBranchIdeal := hBranchIdeal)
    ∧ quiescent_BranchReferenceIdeal (hBranchReferenceIdeal := hBranchReferenceIdeal)
    ∧ quiescent_First (hFirst := hFirst)
    ∧ quiescent_FirstIdeal (hFirstIdeal := hFirstIdeal)
    ∧ quiescent_FirstReferenceIdeal (hFirstReferenceIdeal := hFirstReferenceIdeal)
    ∧ quiescent_Last (hLast := hLast)
    ∧ quiescent_LastIdeal (hLastIdeal := hLastIdeal)
    ∧ quiescent_LastReferenceIdeal (hLastReferenceIdeal := hLastReferenceIdeal)
    ∧ quiescent_Ada (hAda := hAda)
    ∧ quiescent_AdaIdeal (hAdaIdeal := hAdaIdeal)
    ∧ quiescent_AdaReferenceIdeal (hAdaReferenceIdeal := hAdaReferenceIdeal)
    ∧ quiescent_Gate (hGate := hGate)
    ∧ quiescent_GateIdeal (hGateIdeal := hGateIdeal)
    ∧ quiescent_GateReferenceIdeal (hGateReferenceIdeal := hGateReferenceIdeal)
    ∧ quiescent_Down (hDown := hDown)
    ∧ quiescent_DownIdeal (hDownIdeal := hDownIdeal)
    ∧ quiescent_DownIdeal_pre_down_finite (hDownIdeal := hDownIdeal) (hPre_down_finite := hPre_down_finite)
    ∧ quiescent_DownReferenceIdeal (hDownReferenceIdeal := hDownReferenceIdeal)
    ∧ quiescent_DownReferenceIdeal_pre_down_finite (hDownReferenceIdeal := hDownReferenceIdeal) (hPre_down_finite := hPre_down_finite)
    ∧ quiescent_MixBwd (hMixBwd := hMixBwd)
    ∧ quiescent_MixBwdIdeal (hMixBwdIdeal := hMixBwdIdeal)
    ∧ quiescent_MixBwdReferenceIdeal (hMixBwdReferenceIdeal := hMixBwdReferenceIdeal)
    ∧ quiescent_BranchBwd (hBranchBwd := hBranchBwd)
    ∧ quiescent_BranchBwdIdeal (hBranchBwdIdeal := hBranchBwdIdeal)
    ∧ quiescent_BranchBwdReferenceIdeal (hBranchBwdReferenceIdeal := hBranchBwdReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Out_OutIdeal
    ∧ algebraic_OutIdeal_OutReferenceIdeal (hOutIdeal := hOutIdeal) (hOutReferenceIdeal := hOutReferenceIdeal)
    ∧ preserves_Branch_BranchIdeal
    ∧ algebraic_BranchIdeal_BranchReferenceIdeal (hBranchIdeal := hBranchIdeal) (hBranchReferenceIdeal := hBranchReferenceIdeal)
    ∧ preserves_First_FirstIdeal
    ∧ algebraic_FirstIdeal_FirstReferenceIdeal (hFirstIdeal := hFirstIdeal) (hFirstReferenceIdeal := hFirstReferenceIdeal)
    ∧ preserves_Last_LastIdeal
    ∧ algebraic_LastIdeal_LastReferenceIdeal (hLastIdeal := hLastIdeal) (hLastReferenceIdeal := hLastReferenceIdeal)
    ∧ preserves_Ada_AdaIdeal
    ∧ algebraic_AdaIdeal_AdaReferenceIdeal (hAdaIdeal := hAdaIdeal) (hAdaReferenceIdeal := hAdaReferenceIdeal)
    ∧ preserves_Gate_GateIdeal
    ∧ algebraic_GateIdeal_GateReferenceIdeal (hGateIdeal := hGateIdeal) (hGateReferenceIdeal := hGateReferenceIdeal)
    ∧ preserves_Down_DownIdeal
    ∧ algebraic_DownIdeal_DownReferenceIdeal_pre_down_finite (hDownIdeal := hDownIdeal) (hDownReferenceIdeal := hDownReferenceIdeal) (hPre_down_finite := hPre_down_finite)
    ∧ preserves_MixBwd_MixBwdIdeal
    ∧ algebraic_MixBwdIdeal_MixBwdReferenceIdeal (hMixBwdIdeal := hMixBwdIdeal) (hMixBwdReferenceIdeal := hMixBwdReferenceIdeal)
    ∧ preserves_BranchBwd_BranchBwdIdeal
    ∧ algebraic_BranchBwdIdeal_BranchBwdReferenceIdeal (hBranchBwdIdeal := hBranchBwdIdeal) (hBranchBwdReferenceIdeal := hBranchBwdReferenceIdeal)
    ∧ preserves_Merge_MergeIdeal
    ∧ algebraic_MergeIdeal_MergeReferenceIdeal (hMergeIdeal := hMergeIdeal) (hMergeReferenceIdeal := hMergeReferenceIdeal)
    ∧ preserves_Proj_ProjIdeal
    ∧ algebraic_ProjIdeal_ProjReferenceIdeal (hProjIdeal := hProjIdeal) (hProjReferenceIdeal := hProjReferenceIdeal)
-- ==== Pre_down_finite.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x1024 .bf16) (main_arg1 : FVec F S2816x1024 .bf16) (main_arg2 : FVec F S8192x2816 .bf16) (main_arg3 : FVec F S8192x2816 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S8192x2816 .f32 := (extf .f32 · bitsLt_bf16_f32) main_arg3
  let main_v12 : FVec F S8192x2816 .f32 := Host.absf main_v11
  let main_cst_2 : FVec F S_ .f32 := constant S_ .f32 0x7F800000#32
  let main_v13 : FVec F S8192x2816 .f32 := broadcastInDim S8192x2816 ![] bcast_S_S8192x2816 main_cst_2
  let main_v14 : IVec S8192x2816 1 := cmpf .olt main_v12 main_v13
  let main_c_3 : IVec S_ 1 := constantI S_ 1 1#1
  let main_v15 : IVec S_ 1 := (fun x v => Host.reduce IntOp.andi x v reducesTo_S8192x2816_S_d0_1 h_S_) main_v14 main_c_3
  let main_v16 : IVec S_ 1 := andi main_v10 main_v15
  main_v16
-- ==== Pre_finite.lean ====
abbrev S8192x768 : Shape := ⟨2, ![8192, 768]⟩
abbrev S1x8192 : Shape := ⟨2, ![1, 8192]⟩
abbrev S1x8 : Shape := ⟨2, ![1, 8]⟩
abbrev S8192x512 : Shape := ⟨2, ![8192, 512]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S1x8 : S_.BroadcastsInDim S1x8 (![] : Fin 0 → Fin S1x8.rank)
  reducesTo_S1x8_S_d0_1 : S1x8.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x768 .f32) (main_arg1 : IVec S1x8192 32) (main_arg2 : FVec F S1x8 .f32) (main_arg3 : FVec F S8192x512 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S1x8 .f32 := Host.absf main_arg2
  let main_cst_0 : FVec F S_ .f32 := constant S_ .f32 0x7F800000#32
  let main_v5 : FVec F S1x8 .f32 := broadcastInDim S1x8 ![] bcast_S_S1x8 main_cst_0
  let main_v6 : IVec S1x8 1 := cmpf .olt main_v4 main_v5
  let main_c_1 : IVec S_ 1 := constantI S_ 1 1#1
  let main_v7 : IVec S_ 1 := (fun x v => Host.reduce IntOp.andi x v reducesTo_S1x8_S_d0_1 h_S_) main_v6 main_c_1
  let main_v8 : IVec S_ 1 := andi main_v3 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  main_v13
-- ==== Kernel.lean ====
abbrev S8192x768 : Shape := ⟨2, ![8192, 768]⟩
abbrev S1x8192 : Shape := ⟨2, ![1, 8192]⟩
abbrev S1x8 : Shape := ⟨2, ![1, 8]⟩
abbrev S8192x512 : Shape := ⟨2, ![8192, 512]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S8192x256 : Shape := ⟨2, ![8192, 256]⟩
abbrev S8x128 : Shape := ⟨2, ![8, 128]⟩
abbrev S128x768 : Shape := ⟨2, ![128, 768]⟩
abbrev S128x128 : Shape := ⟨2, ![128, 128]⟩
abbrev S128x512 : Shape := ⟨2, ![128, 512]⟩
abbrev S128x256 : Shape := ⟨2, ![128, 256]⟩
abbrev S256x128 : Shape := ⟨2, ![256, 128]⟩
abbrev S1x128x128 : Shape := ⟨3, ![1, 128, 128]⟩
abbrev S8x128x128 : Shape := ⟨3, ![8, 128, 128]⟩
abbrev S1x256x128 : Shape := ⟨3, ![1, 256, 128]⟩
abbrev S8x256x128 : Shape := ⟨3, ![8, 256, 128]⟩
abbrev S1x1 : Shape := ⟨2, ![1, 1]⟩
abbrev S1x1x1 : Shape := ⟨3, ![1, 1, 1]⟩
abbrev S8x1x1 : Shape := ⟨3, ![8, 1, 1]⟩
abbrev S8x128x256 : Shape := ⟨3, ![8, 128, 256]⟩
abbrev S1x128x256 : Shape := ⟨3, ![1, 128, 256]⟩
abbrev S8x128x1 : Shape := ⟨3, ![8, 128, 1]⟩
abbrev S1x128 : Shape := ⟨2, ![1, 128]⟩
abbrev S1x128x1 : Shape := ⟨3, ![1, 128, 1]⟩
abbrev S128x1 : Shape := ⟨2, ![128, 1]⟩
abbrev S1 : Shape := ⟨1, ![1]⟩

abbrev nBuf : Space → Nat
  | .hbm => 29
  | .vmem => 20
  | .smem => 1
  | _ => 0

abbrev bufTy : (tb : Table) → Fin (tcTables nBuf tb) → BufTy
  | .hbm, ⟨0, _⟩ => ⟨S8192x768, .f32⟩
  | .hbm, ⟨1, _⟩ => ⟨S1x8192, .i32⟩
  | .hbm, ⟨2, _⟩ => ⟨S1x8, .f32⟩
  | .hbm, ⟨3, _⟩ => ⟨S8192x512, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S1x8192, .f32⟩
  | .hbm, ⟨15, _⟩ => ⟨S8192, .f32⟩
  | .hbm, ⟨16, _⟩ => ⟨S8192x1, .f32⟩
  | .hbm, ⟨17, _⟩ => ⟨S1x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x128, .f32⟩
  | .hbm, ⟨24, _⟩ => ⟨S8192x32, .f32⟩
  | .hbm, ⟨25, _⟩ => ⟨S8192x128, .f32⟩
  | .hbm, ⟨26, _⟩ => ⟨S8192x512, .bf16⟩
  | .hbm, ⟨27, _⟩ => ⟨S8192x256, .bf16⟩
  | .hbm, ⟨28, _⟩ => ⟨S8x128, .f32⟩
  | .local _ .vmem, ⟨0, _⟩ => ⟨S128x768, .f32⟩
  | .local _ .vmem, ⟨1, _⟩ => ⟨S128x768, .f32⟩
  | .local _ .vmem, ⟨2, _⟩ => ⟨S128x768, .f32⟩
  | .local _ .vmem, ⟨3, _⟩ => ⟨S128x768, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x512, .f32⟩
  | .local _ .vmem, ⟨13, _⟩ => ⟨S128x512, .f32⟩
  | .local _ .vmem, ⟨14, _⟩ => ⟨S128x512, .bf16⟩
  | .local _ .vmem, ⟨15, _⟩ => ⟨S128x512, .bf16⟩
  | .local _ .vmem, ⟨16, _⟩ => ⟨S128x256, .bf16⟩
  | .local _ .vmem, ⟨17, _⟩ => ⟨S128x256, .bf16⟩
  | .local _ .vmem, ⟨18, _⟩ => ⟨S8x128, .f32⟩
  | .local _ .vmem, ⟨19, _⟩ => ⟨S128x256, .f32⟩
  | .local _ .smem, ⟨0, _⟩ => ⟨S1x8, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v19_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c63_i32 : BitVec 32 := 63#32
  let v0 : BitVec 32 := Scalar.subi c63_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x768 : Shape := ⟨2, ![8192, 768]⟩
abbrev S1x8192 : Shape := ⟨2, ![1, 8192]⟩
abbrev S1x8 : Shape := ⟨2, ![1, 8]⟩
abbrev S8192x512 : Shape := ⟨2, ![8192, 512]⟩
abbrev S1x8192x512 : Shape := ⟨3, ![1, 8192, 512]⟩
abbrev S8192x128 : Shape := ⟨2, ![8192, 128]⟩
abbrev S1x8192x128 : Shape := ⟨3, ![1, 8192, 128]⟩
abbrev S8 : Shape := ⟨1, ![8]⟩
abbrev S1x8192x8x64 : Shape := ⟨4, ![1, 8192, 8, 64]⟩
abbrev S32 : Shape := ⟨1, ![32]⟩
abbrev S_ : Shape := ⟨0, ![]⟩
abbrev S1x8192x1 : Shape := ⟨3, ![1, 8192, 1]⟩
abbrev S1x1x32 : Shape := ⟨3, ![1, 1, 32]⟩
abbrev S1x8192x32 : Shape := ⟨3, ![1, 8192, 32]⟩
abbrev S1x8192x1x32 : Shape := ⟨4, ![1, 8192, 1, 32]⟩
abbrev S1x8192x8x32 : Shape := ⟨4, ![1, 8192, 8, 32]⟩
abbrev S1x8192x2x64 : Shape := ⟨4, ![1, 8192, 2, 64]⟩
abbrev S1x8192x2x32 : Shape := ⟨4, ![1, 8192, 2, 32]⟩
abbrev S1x64x128x2x4x64 : Shape := ⟨6, ![1, 64, 128, 2, 4, 64]⟩
abbrev S1x64x128x2x64 : Shape := ⟨5, ![1, 64, 128, 2, 64]⟩
abbrev S1x1x128x2x64 : Shape := ⟨5, ![1, 1, 128, 2, 64]⟩
abbrev S1x63x128x2x64 : Shape := ⟨5, ![1, 63, 128, 2, 64]⟩
abbrev S1x64x256x2x64 : Shape := ⟨5, ![1, 64, 256, 2, 64]⟩
abbrev S1x64x2x256x128x4 : Shape := ⟨6, ![1, 64, 2, 256, 128, 4]⟩
abbrev S1x64x2x4x128x256 : Shape := ⟨6, ![1, 64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S2x4 : Shape := ⟨2, ![2, 4]⟩
abbrev S1x1x2x4x1x1 : Shape := ⟨6, ![1, 1, 2, 4, 1, 1]⟩
abbrev S1x64x2x4x128 : Shape := ⟨5, ![1, 64, 2, 4, 128]⟩
abbrev S1x64x2x4x128x1 : Shape := ⟨6, ![1, 64, 2, 4, 128, 1]⟩
abbrev S1x64x2x64x4x128 : Shape := ⟨6, ![1, 64, 2, 64, 4, 128]⟩
abbrev S1x64x2x64x256 : Shape := ⟨5, ![1, 64, 2, 64, 256]⟩
abbrev S1x2x4x1 : Shape := ⟨4, ![1, 2, 4, 1]⟩
abbrev S64x2x4x128 : Shape := ⟨4, ![64, 2, 4, 128]⟩
abbrev S1x64x2x128x4x64 : Shape := ⟨6, ![1, 64, 2, 128, 4, 64]⟩
abbrev S1x64x2x256x64 : Shape := ⟨5, ![1, 64, 2, 256, 64]⟩
abbrev S8192x256 : Shape := ⟨2, ![8192, 256]⟩
abbrev S8x1 : Shape := ⟨2, ![8, 1]⟩
abbrev S8x128 : Shape := ⟨2, ![8, 128]⟩

abbrev nBuf : Space → Nat
  | .hbm => 323
  | .vmem => 0
  | .smem => 0
  | _ => 0

abbrev hbmTy0_0 (i : Nat) : BufTy := match i % 128 with
  | 0 => ⟨S8192x768, .f32⟩
  | 1 => ⟨S1x8192, .i32⟩
  | 2 => ⟨S1x8, .f32⟩
  | 3 => ⟨S8192x512, .f32⟩
  | 4 => ⟨S8192x512, .f32⟩
  | 5 => ⟨S1x8192x512, .f32⟩
  | 6 => ⟨S8192x128, .f32⟩
  | 7 => ⟨S1x8192x128, .f32⟩
  | 8 => ⟨S8192x128, .f32⟩
  | 9 => ⟨S1x8192x128, .f32⟩
  | 10 => ⟨S8, .f32⟩
  | 11 => ⟨S1x8192x8x64, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S1x8192, .f32⟩
  | 23 => ⟨S1x8192x1, .f32⟩
  | 24 => ⟨S1x1x32, .f32⟩
  | 25 => ⟨S1x8192x32, .f32⟩
  | 26 => ⟨S1x8192x32, .f32⟩
  | 27 => ⟨S1x8192x32, .f32⟩
  | 28 => ⟨S1x8192x32, .f32⟩
  | 29 => ⟨S1x8192x1x32, .f32⟩
  | 30 => ⟨S1x8192x32, .f32⟩
  | 31 => ⟨S1x8192x1x32, .f32⟩
  | 32 => ⟨S1x8192x8x32, .f32⟩
  | 33 => ⟨S1x8192x8x32, .f32⟩
  | 34 => ⟨S1x8192x8x32, .f32⟩
  | 35 => ⟨S1x8192x8x32, .f32⟩
  | 36 => ⟨S1x8192x8x32, .f32⟩
  | 37 => ⟨S1x8192x8x32, .f32⟩
  | 38 => ⟨S1x8192x8x32, .f32⟩
  | 39 => ⟨S1x8192x8x32, .f32⟩
  | 40 => ⟨S1x8192x8x32, .f32⟩
  | 41 => ⟨S1x8192x8x32, .f32⟩
  | 42 => ⟨S1x8192x8x32, .f32⟩
  | 43 => ⟨S1x8192x8x32, .f32⟩
  | 44 => ⟨S1x8192x8x64, .f32⟩
  | 45 => ⟨S1x8192x2x64, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S1x8192, .f32⟩
  | 57 => ⟨S1x8192x1, .f32⟩
  | 58 => ⟨S1x1x32, .f32⟩
  | 59 => ⟨S1x8192x32, .f32⟩
  | 60 => ⟨S1x8192x32, .f32⟩
  | 61 => ⟨S1x8192x32, .f32⟩
  | 62 => ⟨S1x8192x32, .f32⟩
  | 63 => ⟨S1x8192x1x32, .f32⟩
  | 64 => ⟨S1x8192x32, .f32⟩
  | 65 => ⟨S1x8192x1x32, .f32⟩
  | 66 => ⟨S1x8192x2x32, .f32⟩
  | 67 => ⟨S1x8192x2x32, .f32⟩
  | 68 => ⟨S1x8192x2x32, .f32⟩
  | 69 => ⟨S1x8192x2x32, .f32⟩
  | 70 => ⟨S1x8192x2x32, .f32⟩
  | 71 => ⟨S1x8192x2x32, .f32⟩
  | 72 => ⟨S1x8192x2x32, .f32⟩
  | 73 => ⟨S1x8192x2x32, .f32⟩
  | 74 => ⟨S1x8192x2x32, .f32⟩
  | 75 => ⟨S1x8192x2x32, .f32⟩
  | 76 => ⟨S1x8192x2x32, .f32⟩
  | 77 => ⟨S1x8192x2x32, .f32⟩
  | 78 => ⟨S1x8192x2x64, .f32⟩
  | 79 => ⟨S1x8192x2x64, .f32⟩
  | 80 => ⟨S1x64x128x2x4x64, .f32⟩
  | 81 => ⟨S_, .f32⟩
  | 82 => ⟨S1x64x128x2x4x64, .f32⟩
  | 83 => ⟨S1x64x128x2x4x64, .f32⟩
  | 84 => ⟨S1x64x128x2x64, .f32⟩
  | 85 => ⟨S1x1x128x2x64, .f32⟩
  | 86 => ⟨S_, .f32⟩
  | 87 => ⟨S1x1x128x2x64, .f32⟩
  | 88 => ⟨S1x63x128x2x64, .f32⟩
  | 89 => ⟨S1x64x128x2x64, .f32⟩
  | 90 => ⟨S_, .f32⟩
  | 91 => ⟨S1x1x128x2x64, .f32⟩
  | 92 => ⟨S1x64x256x2x64, .f32⟩
  | 93 => ⟨S1x64x128x2x64, .f32⟩
  | 94 => ⟨S1x1x128x2x64, .f32⟩
  | 95 => ⟨S_, .f32⟩
  | 96 => ⟨S1x1x128x2x64, .f32⟩
  | 97 => ⟨S1x63x128x2x64, .f32⟩
  | 98 => ⟨S1x64x128x2x64, .f32⟩
  | 99 => ⟨S_, .f32⟩
  | 100 => ⟨S1x1x128x2x64, .f32⟩
  | 101 => ⟨S1x64x256x2x64, .f32⟩
  | 102 => ⟨S1x64x2x256x128x4, .f32⟩
  | 103 => ⟨S1x64x2x4x128x256, .f32⟩
  | 104 => ⟨S128, .i32⟩
  | 105 => ⟨S128x1, .i32⟩
  | 106 => ⟨S256, .i32⟩
  | 107 => ⟨S1x256, .i32⟩
  | 108 => ⟨S_, .i32⟩
  | 109 => ⟨S1x256, .i32⟩
  | 110 => ⟨S1x256, .i32⟩
  | 111 => ⟨S128x256, .i32⟩
  | 112 => ⟨S128x256, .i32⟩
  | 113 => ⟨S128x256, .i1⟩
  | 114 => ⟨S128x256, .i32⟩
  | 115 => ⟨S128x256, .i32⟩
  | 116 => ⟨S128x256, .i32⟩
  | 117 => ⟨S_, .i32⟩
  | 118 => ⟨S128x256, .i32⟩
  | 119 => ⟨S128x256, .i1⟩
  | 120 => ⟨S128x256, .i1⟩
  | 121 => ⟨S64, .i32⟩
  | 122 => ⟨S64x1x1, .i32⟩
  | 123 => ⟨S1x128x256, .i1⟩
  | 124 => ⟨S_, .i32⟩
  | 125 => ⟨S64x1x1, .i32⟩
  | 126 => ⟨S64x1x1, .i1⟩
  | 127 => ⟨S1x1x256, .i32⟩
  | _ => ⟨S8192x768, .f32⟩

abbrev hbmTy0_1 (i : Nat) : BufTy := match i % 128 with
  | 0 => ⟨S_, .i32⟩
  | 1 => ⟨S1x1x256, .i32⟩
  | 2 => ⟨S1x1x256, .i1⟩
  | 3 => ⟨S64x1x256, .i1⟩
  | 4 => ⟨S64x1x256, .i1⟩
  | 5 => ⟨S64x1x256, .i1⟩
  | 6 => ⟨S64x128x256, .i1⟩
  | 7 => ⟨S64x128x256, .i1⟩
  | 8 => ⟨S64x128x256, .i1⟩
  | 9 => ⟨S1x64x1x1x128x256, .i1⟩
  | 10 => ⟨S_, .f32⟩
  | 11 => ⟨S_, .f32⟩
  | 12 => ⟨S1x64x2x4x128x256, .i1⟩
  | 13 => ⟨S1x64x2x4x128x256, .f32⟩
  | 14 => ⟨S1x64x2x4x128x256, .f32⟩
  | 15 => ⟨S_, .f32⟩
  | 16 => ⟨S1x64x2x4x128x256, .f32⟩
  | 17 => ⟨S2x4, .f32⟩
  | 18 => ⟨S1x1x2x4x1x1, .f32⟩
  | 19 => ⟨S_, .f32⟩
  | 20 => ⟨S1x64x2x4x128, .f32⟩
  | 21 => ⟨S1x64x2x4x128x1, .f32⟩
  | 22 => ⟨S1x64x2x4x128x256, .f32⟩
  | 23 => ⟨S1x64x2x4x128x256, .i1⟩
  | 24 => ⟨S1x64x2x4x128x256, .f32⟩
  | 25 => ⟨S_, .f32⟩
  | 26 => ⟨S1x64x2x4x128, .f32⟩
  | 27 => ⟨S1x64x2x4x128x1, .f32⟩
  | 28 => ⟨S1x64x2x4x128x1, .f32⟩
  | 29 => ⟨S1x64x2x4x128x1, .f32⟩
  | 30 => ⟨S1x64x2x4x128x1, .f32⟩
  | 31 => ⟨S1x64x2x4x128x1, .i1⟩
  | 32 => ⟨S1x64x2x4x128x1, .f32⟩
  | 33 => ⟨S1x64x2x4x128x1, .i1⟩
  | 34 => ⟨S_, .f32⟩
  | 35 => ⟨S1x64x2x4x128x1, .f32⟩
  | 36 => ⟨S_, .f32⟩
  | 37 => ⟨S1x64x2x4x128x1, .f32⟩
  | 38 => ⟨S_, .f32⟩
  | 39 => ⟨S1x64x2x4x128x1, .f32⟩
  | 40 => ⟨S1x64x2x4x128x1, .f32⟩
  | 41 => ⟨S1x64x2x4x128x1, .f32⟩
  | 42 => ⟨S1x64x2x4x128x1, .f32⟩
  | 43 => ⟨S1x64x2x4x128x1, .i1⟩
  | 44 => ⟨S1x64x2x4x128x1, .f32⟩
  | 45 => ⟨S1x64x2x4x128x1, .i1⟩
  | 46 => ⟨S_, .f32⟩
  | 47 => ⟨S1x64x2x4x128x1, .f32⟩
  | 48 => ⟨S_, .f32⟩
  | 49 => ⟨S1x64x2x4x128x1, .f32⟩
  | 50 => ⟨S_, .f32⟩
  | 51 => ⟨S1x64x2x4x128x1, .f32⟩
  | 52 => ⟨S1x64x2x4x128x1, .f32⟩
  | 53 => ⟨S1x64x2x4x128x1, .f32⟩
  | 54 => ⟨S1x64x2x4x128x256, .f32⟩
  | 55 => ⟨S1x64x2x4x128x256, .f32⟩
  | 56 => ⟨S1x64x2x4x128x256, .f32⟩
  | 57 => ⟨S_, .f32⟩
  | 58 => ⟨S1x64x2x4x128, .f32⟩
  | 59 => ⟨S1x64x2x4x128x1, .f32⟩
  | 60 => ⟨S1x64x2x4x128x1, .f32⟩
  | 61 => ⟨S1x64x2x4x128x1, .f32⟩
  | 62 => ⟨S1x64x2x4x128x1, .f32⟩
  | 63 => ⟨S1x64x2x4x128x1, .f32⟩
  | 64 => ⟨S1x64x2x4x128x256, .f32⟩
  | 65 => ⟨S1x64x2x4x128x256, .f32⟩
  | 66 => ⟨S1x64x2x4x128x1, .f32⟩
  | 67 => ⟨S_, .f32⟩
  | 68 => ⟨S1x64x2x4x128x1, .f32⟩
  | 69 => ⟨S1x64x2x4x128x1, .f32⟩
  | 70 => ⟨S1x64x2x64x4x128, .f32⟩
  | 71 => ⟨S1x64x128x2x4x64, .f32⟩
  | 72 => ⟨S1x8192x512, .f32⟩
  | 73 => ⟨S1x8192x512, .f32⟩
  | 74 => ⟨S1x64x128x2x4x64, .f32⟩
  | 75 => ⟨S1x64x2x64x4x128, .f32⟩
  | 76 => ⟨S1x64x2x4x128x256, .f32⟩
  | 77 => ⟨S1x64x2x64x256, .f32⟩
  | 78 => ⟨S1x64x256x2x64, .f32⟩
  | 79 => ⟨S1x64x2x4x128x256, .f32⟩
  | 80 => ⟨S1x64x2x4x128x256, .f32⟩
  | 81 => ⟨S1x64x2x4x128x256, .f32⟩
  | 82 => ⟨S_, .f32⟩
  | 83 => ⟨S1x64x2x4x128, .f32⟩
  | 84 => ⟨S1x64x2x4x128x1, .f32⟩
  | 85 => ⟨S1x64x2x4x128x1, .f32⟩
  | 86 => ⟨S1x64x2x4x128x256, .f32⟩
  | 87 => ⟨S1x64x2x4x128x256, .f32⟩
  | 88 => ⟨S1x64x2x4x128x1, .f32⟩
  | 89 => ⟨S_, .f32⟩
  | 90 => ⟨S1x2x4x1, .f32⟩
  | 91 => ⟨S1x1x2x4x1x1, .f32⟩
  | 92 => ⟨S1x64x2x4x128x1, .f32⟩
  | 93 => ⟨S_, .f32⟩
  | 94 => ⟨S64x2x4x128, .f32⟩
  | 95 => ⟨S1x64x2x4x128, .f32⟩
  | 96 => ⟨S1x64x2x4x128x256, .f32⟩
  | 97 => ⟨S1x64x2x4x128x256, .f32⟩
  | 98 => ⟨S1x64x2x4x128x256, .f32⟩
  | 99 => ⟨S1x64x2x4x128x256, .f32⟩
  | 100 => ⟨S_, .f32⟩
  | 101 => ⟨S1x64x2x4x128, .f32⟩
  | 102 => ⟨S1x64x2x4x128x1, .f32⟩
  | 103 => ⟨S1x64x2x4x128x1, .f32⟩
  | 104 => ⟨S1x64x2x4x128x1, .f32⟩
  | 105 => ⟨S_, .f32⟩
  | 106 => ⟨S1x2x4x1, .f32⟩
  | 107 => ⟨S1x1x2x4x1x1, .f32⟩
  | 108 => ⟨S1x1x2x4x1x1, .f32⟩
  | 109 => ⟨S1x64x2x4x128x1, .f32⟩
  | 110 => ⟨S_, .f32⟩
  | 111 => ⟨S64x2x4x128, .f32⟩
  | 112 => ⟨S1x64x2x4x128, .f32⟩
  | 113 => ⟨S1x64x2x4x128, .f32⟩
  | 114 => ⟨S1x64x2x4x128x256, .f32⟩
  | 115 => ⟨S1x64x2x4x128x256, .f32⟩
  | 116 => ⟨S1x64x2x4x128x256, .f32⟩
  | 117 => ⟨S_, .f32⟩
  | 118 => ⟨S2x4, .f32⟩
  | 119 => ⟨S8, .f32⟩
  | 120 => ⟨S_, .f32⟩
  | 121 => ⟨S1x64x2x4x128x256, .f32⟩
  | 122 => ⟨S1x64x2x4x128x256, .f32⟩
  | 123 => ⟨S1x64x2x256x128x4, .f32⟩
  | 124 => ⟨S1x64x2x128x4x64, .f32⟩
  | 125 => ⟨S1x64x128x2x4x64, .f32⟩
  | 126 => ⟨S1x64x2x256x64, .f32⟩
  | 127 => ⟨S1x64x256x2x64, .f32⟩
  | _ => ⟨S8192x768, .f32⟩

abbrev hbmTy0_2 (i : Nat) : BufTy := match i % 128 with
  | 0 => ⟨S1x64x128x2x64, .f32⟩
  | 1 => ⟨S1x64x128x2x64, .f32⟩
  | 2 => ⟨S1x1x128x2x64, .f32⟩
  | 3 => ⟨S1x63x128x2x64, .f32⟩
  | 4 => ⟨S_, .f32⟩
  | 5 => ⟨S1x64x128x2x64, .f32⟩
  | 6 => ⟨S1x64x128x2x64, .f32⟩
  | 7 => ⟨S1x8192x2x64, .f32⟩
  | 8 => ⟨S1x64x128x2x64, .f32⟩
  | 9 => ⟨S1x64x128x2x64, .f32⟩
  | 10 => ⟨S1x1x128x2x64, .f32⟩
  | 11 => ⟨S1x63x128x2x64, .f32⟩
  | 12 => ⟨S_, .f32⟩
  | 13 => ⟨S1x64x128x2x64, .f32⟩
  | 14 => ⟨S1x64x128x2x64, .f32⟩
  | 15 => ⟨S1x8192x2x64, .f32⟩
  | 16 => ⟨S_, .f32⟩
  | 17 => ⟨S1x64x128x2x4x64, .f32⟩
  | 18 => ⟨S1x64x128x2x4x64, .f32⟩
  | 19 => ⟨S1x8192x8x64, .f32⟩
  | 20 => ⟨S1x8192x128, .f32⟩
  | 21 => ⟨S1x8192x2x32, .f32⟩
  | 22 => ⟨S1x8192x2x32, .f32⟩
  | 23 => ⟨S1x8192x2x32, .f32⟩
  | 24 => ⟨S1x8192x2x32, .f32⟩
  | 25 => ⟨S1x8192x2x32, .f32⟩
  | 26 => ⟨S1x8192x2x32, .f32⟩
  | 27 => ⟨S1x8192x2x32, .f32⟩
  | 28 => ⟨S1x8192x2x32, .f32⟩
  | 29 => ⟨S1x8192x2x32, .f32⟩
  | 30 => ⟨S1x8192x2x32, .f32⟩
  | 31 => ⟨S1x8192x2x32, .f32⟩
  | 32 => ⟨S1x8192x2x32, .f32⟩
  | 33 => ⟨S1x8192x2x32, .f32⟩
  | 34 => ⟨S_, .f32⟩
  | 35 => ⟨S1x8192x2x64, .f32⟩
  | 36 => ⟨S_, .f32⟩
  | 37 => ⟨S1x8192x2x64, .f32⟩
  | 38 => ⟨S1x8192x2x64, .f32⟩
  | 39 => ⟨S1x8192x128, .f32⟩
  | 40 => ⟨S1x8192x8x32, .f32⟩
  | 41 => ⟨S1x8192x8x32, .f32⟩
  | 42 => ⟨S1x8192x8x32, .f32⟩
  | 43 => ⟨S1x8192x8x32, .f32⟩
  | 44 => ⟨S1x8192x8x32, .f32⟩
  | 45 => ⟨S1x8192x8x32, .f32⟩
  | 46 => ⟨S1x8192x8x32, .f32⟩
  | 47 => ⟨S1x8192x8x32, .f32⟩
  | 48 => ⟨S1x8192x8x32, .f32⟩
  | 49 => ⟨S1x8192x8x32, .f32⟩
  | 50 => ⟨S1x8192x8x32, .f32⟩
  | 51 => ⟨S1x8192x8x32, .f32⟩
  | 52 => ⟨S1x8192x8x32, .f32⟩
  | 53 => ⟨S_, .f32⟩
  | 54 => ⟨S1x8192x8x64, .f32⟩
  | 55 => ⟨S_, .f32⟩
  | 56 => ⟨S1x8192x8x64, .f32⟩
  | 57 => ⟨S1x8192x8x64, .f32⟩
  | 58 => ⟨S1x8192x512, .f32⟩
  | 59 => ⟨S8192x512, .f32⟩
  | 60 => ⟨S8192x512, .bf16⟩
  | 61 => ⟨S8192x128, .f32⟩
  | 62 => ⟨S8192x128, .f32⟩
  | 63 => ⟨S8192x256, .f32⟩
  | 64 => ⟨S8192x256, .bf16⟩
  | 65 => ⟨S8x1, .f32⟩
  | 66 => ⟨S8x128, .f32⟩
  | _ => ⟨S8192x768, .f32⟩

abbrev hbmTy (i : Nat) : BufTy := match i / 128 with
  | 0 => hbmTy0_0 i
  | 1 => hbmTy0_1 i
  | 2 => hbmTy0_2 i
  | _ => ⟨S8192x768, .f32⟩

abbrev bufTy : (tb : Table) → Fin (tcTables nBuf tb) → BufTy
  | .hbm, ⟨i, _⟩ => hbmTy i
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_2 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_5 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_cst_6 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_7 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_cst_8 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_cst_9 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_c : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_c_10 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_c_11 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_c_12 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_cst_13 : Ref sig .tc := ⟨.hbm, 138, rfl⟩
abbrev main_call0_v0 : Ref sig .tc := ⟨.hbm, 139, rfl⟩
abbrev main_v119_1 : Ref sig .tc := ⟨.hbm, 140, rfl⟩
abbrev main_call0_v2 : Ref sig .tc := ⟨.hbm, 141, rfl⟩
abbrev main_v119_0 : Ref sig .tc := ⟨.hbm, 142, rfl⟩
abbrev main_call0_cst : Ref sig .tc := ⟨.hbm, 143, rfl⟩
abbrev main_v119_2 : Ref sig .tc := ⟨.hbm, 144, rfl⟩
abbrev main_v120 : Ref sig .tc := ⟨.hbm, 145, rfl⟩
abbrev main_v121 : Ref sig .tc := ⟨.hbm, 146, rfl⟩
abbrev main_cst_14 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_cst_15 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_cst_16 : Ref sig .tc := ⟨.hbm, 162, rfl⟩
abbrev main_v135 : Ref sig .tc := ⟨.hbm, 163, rfl⟩
abbrev main_cst_17 : Ref sig .tc := ⟨.hbm, 164, rfl⟩
abbrev main_v136 : Ref sig .tc := ⟨.hbm, 165, rfl⟩
abbrev main_cst_18 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_cst_19 : Ref sig .tc := ⟨.hbm, 174, rfl⟩
abbrev main_v144 : Ref sig .tc := ⟨.hbm, 175, rfl⟩
abbrev main_cst_20 : Ref sig .tc := ⟨.hbm, 176, rfl⟩
abbrev main_v145 : Ref sig .tc := ⟨.hbm, 177, rfl⟩
abbrev main_cst_21 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_cst_22 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_cst_23 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_cst_24 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_cst_25 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_cst_26 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_cst_27 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_cst_28 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_cst_29 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_cst_30 : Ref sig .tc := ⟨.hbm, 245, rfl⟩
abbrev main_v204 : Ref sig .tc := ⟨.hbm, 246, rfl⟩
abbrev main_v205 : Ref sig .tc := ⟨.hbm, 247, rfl⟩
abbrev main_call1_cst : Ref sig .tc := ⟨.hbm, 248, rfl⟩
abbrev main_call1_v0 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_cst_31 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_cst_32 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_cst_33 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_cst_34 : Ref sig .tc := ⟨.hbm, 290, rfl⟩
abbrev main_v243 : Ref sig .tc := ⟨.hbm, 291, rfl⟩
abbrev main_cst_35 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_v258 : Ref sig .tc := ⟨.hbm, 307, rfl⟩
abbrev main_v259 : Ref sig .tc := ⟨.hbm, 308, rfl⟩
abbrev main_cst_36 : Ref sig .tc := ⟨.hbm, 309, rfl⟩
abbrev main_v260 : Ref sig .tc := ⟨.hbm, 310, rfl⟩
abbrev main_cst_37 : Ref sig .tc := ⟨.hbm, 311, rfl⟩
abbrev main_v261 : Ref sig .tc := ⟨.hbm, 312, rfl⟩
abbrev main_v262 : Ref sig .tc := ⟨.hbm, 313, rfl⟩
abbrev main_v263 : Ref sig .tc := ⟨.hbm, 314, rfl⟩
abbrev main_v264 : Ref sig .tc := ⟨.hbm, 315, rfl⟩
abbrev main_v265 : Ref sig .tc := ⟨.hbm, 316, rfl⟩
abbrev main_v266 : Ref sig .tc := ⟨.hbm, 317, rfl⟩
abbrev main_v267 : Ref sig .tc := ⟨.hbm, 318, rfl⟩
abbrev main_v268 : Ref sig .tc := ⟨.hbm, 319, rfl⟩
abbrev main_v269 : Ref sig .tc := ⟨.hbm, 320, rfl⟩
abbrev main_v270 : Ref sig .tc := ⟨.hbm, 321, rfl⟩
abbrev main_v271 : Ref sig .tc := ⟨.hbm, 322, rfl⟩

abbrev nD : Nat := 1
abbrev τ : Topo := Topo.v7x

variable {F : FTy → Type} [FloatOps F]
-- ==== Ffn.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== FfnReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== OutReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Branch.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== BranchReferenceIdeal.lean ====
abbrev S8192x1024 : Shape := ⟨2, ![8192, 1024]⟩
abbrev S8192x512 : Shape := ⟨2, ![8192, 512]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== First.lean ====
abbrev S8192x512 : Shape := ⟨2, ![8192, 512]⟩
abbrev S8192x256 : Shape := ⟨2, ![8192, 256]⟩
abbrev S8192x1024 : Shape := ⟨2, ![8192, 1024]⟩
abbrev S512x1024 : Shape := ⟨2, ![512, 1024]⟩
abbrev S256x1024 : Shape := ⟨2, ![256, 1024]⟩
abbrev S1024x1024 : Shape := ⟨2, ![1024, 1024]⟩
abbrev S1024x512 : Shape := ⟨2, ![1024, 512]⟩
abbrev S1024x256 : Shape := ⟨2, ![1024, 256]⟩

abbrev nBuf : Space → Nat
  | .hbm => 9
  | .vmem => 18
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x1024, .bf16⟩
  | .hbm, ⟨3, _⟩ => ⟨S8192x512, .bf16⟩
  | .hbm, ⟨4, _⟩ => ⟨S8192x1024, .bf16⟩
  | .hbm, ⟨5, _⟩ => ⟨S512x1024, .bf16⟩
  | .hbm, ⟨6, _⟩ => ⟨S256x1024, .bf16⟩
  | .hbm, ⟨7, _⟩ => ⟨S1024x1024, .bf16⟩
  | .hbm, ⟨8, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .bf16⟩
  | .local _ .vmem, ⟨11, _⟩ => ⟨S256x1024, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .f32⟩
  | .local _ .vmem, ⟨15, _⟩ => ⟨S256x1024, .f32⟩
  | .local _ .vmem, ⟨16, _⟩ => ⟨S1024x1024, .f32⟩
  | .local _ .vmem, ⟨17, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v35 : BitVec 1 := Scalar.cmpi .eq arg0 c7_i32
  let v36 : BitVec 32 := Scalar.extui v35
  let c0_i32_35 : BitVec 32 := 0#32
  let v37 : BitVec 1 := Scalar.cmpi .ne v36 c0_i32_35
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FirstReferenceIdeal.lean ====
abbrev S8192x512 : Shape := ⟨2, ![8192, 512]⟩
abbrev S8192x256 : Shape := ⟨2, ![8192, 256]⟩
abbrev S8192x1024 : Shape := ⟨2, ![8192, 1024]⟩
abbrev S_ : Shape := ⟨0, ![]⟩
abbrev S1024x512 : Shape := ⟨2, ![1024, 512]⟩
abbrev S512x1024 : Shape := ⟨2, ![512, 1024]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x1024, .bf16⟩
  | .hbm, ⟨3, _⟩ => ⟨S8192x512, .bf16⟩
  | .hbm, ⟨4, _⟩ => ⟨S8192x1024, .bf16⟩
  | .hbm, ⟨5, _⟩ => ⟨S_, .f32⟩
  | .hbm, ⟨6, _⟩ => ⟨S1024x512, .f32⟩
  | .hbm, ⟨7, _⟩ => ⟨S8192x1024, .f32⟩
  | .hbm, ⟨8, _⟩ => ⟨S8192x512, .f32⟩
  | .hbm, ⟨9, _⟩ => ⟨S8192x512, .f32⟩
  | .hbm, ⟨10, _⟩ => ⟨S512x1024, .f32⟩
  | .hbm, ⟨11, _⟩ => ⟨S1024x512, .f32⟩
  | .hbm, ⟨12, _⟩ => ⟨S512x1024, .f32⟩
  | .hbm, ⟨13, _⟩ => ⟨S512x1024, .bf16⟩
  | .hbm, ⟨14, _⟩ => ⟨S_, .f32⟩
  | .hbm, ⟨15, _⟩ => ⟨S1024x256, .f32⟩
  | .hbm, ⟨16, _⟩ => ⟨S8192x1024, .f32⟩
  | .hbm, ⟨17, _⟩ => ⟨S8192x256, .f32⟩
  | .hbm, ⟨18, _⟩ => ⟨S8192x256, .f32⟩
  | .hbm, ⟨19, _⟩ => ⟨S256x1024, .f32⟩
  | .hbm, ⟨20, _⟩ => ⟨S1024x256, .f32⟩
  | .hbm, ⟨21, _⟩ => ⟨S256x1024, .f32⟩
  | .hbm, ⟨22, _⟩ => ⟨S256x1024, .bf16⟩
  | .hbm, ⟨23, _⟩ => ⟨S_, .f32⟩
  | .hbm, ⟨24, _⟩ => ⟨S1024x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S1024x1024, .bf16⟩
  | .hbm, ⟨32, _⟩ => ⟨S_, .f32⟩
  | .hbm, ⟨33, _⟩ => ⟨S1024x512, .f32⟩
  | .hbm, ⟨34, _⟩ => ⟨S8192x1024, .f32⟩
  | .hbm, ⟨35, _⟩ => ⟨S8192x512, .f32⟩
  | .hbm, ⟨36, _⟩ => ⟨S8192x512, .f32⟩
  | .hbm, ⟨37, _⟩ => ⟨S512x1024, .f32⟩
  | .hbm, ⟨38, _⟩ => ⟨S1024x512, .f32⟩
  | .hbm, ⟨39, _⟩ => ⟨S512x1024, .f32⟩
  | .hbm, ⟨40, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Last.lean ====
abbrev S8192x512 : Shape := ⟨2, ![8192, 512]⟩
abbrev S8192x128 : Shape := ⟨2, ![8192, 128]⟩
abbrev S8192x1024 : Shape := ⟨2, ![8192, 1024]⟩
abbrev S512x1024 : Shape := ⟨2, ![512, 1024]⟩
abbrev S128x1024 : Shape := ⟨2, ![128, 1024]⟩
abbrev S1024x1024 : Shape := ⟨2, ![1024, 1024]⟩
abbrev S1024x512 : Shape := ⟨2, ![1024, 512]⟩
abbrev S1024x128 : Shape := ⟨2, ![1024, 128]⟩

abbrev nBuf : Space → Nat
  | .hbm => 9
  | .vmem => 18
  | .smem => 0
  | _ => 0

abbrev bufTy : (tb : Table) → Fin (tcTables nBuf tb) → BufTy
  | .hbm, ⟨0, _⟩ => ⟨S8192x512, .bf16⟩
  | .hbm, ⟨1, _⟩ => ⟨S8192x128, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S512x1024, .bf16⟩
  | .hbm, ⟨6, _⟩ => ⟨S128x1024, .bf16⟩
  | .hbm, ⟨7, _⟩ => ⟨S1024x1024, .bf16⟩
  | .hbm, ⟨8, _⟩ => ⟨S1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x128, .bf16⟩
  | .local _ .vmem, ⟨3, _⟩ => ⟨S1024x128, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .bf16⟩
  | .local _ .vmem, ⟨11, _⟩ => ⟨S128x1024, .bf16⟩
  | .local _ .vmem, ⟨12, _⟩ => ⟨S1024x1024, .bf16⟩
  | .local _ .vmem, ⟨13, _⟩ => ⟨S1024x1024, .bf16⟩
  | .local _ .vmem, ⟨14, _⟩ => ⟨S512x1024, .f32⟩
  | .local _ .vmem, ⟨15, _⟩ => ⟨S128x1024, .f32⟩
  | .local _ .vmem, ⟨16, _⟩ => ⟨S1024x1024, .f32⟩
  | .local _ .vmem, ⟨17, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v35 : BitVec 1 := Scalar.cmpi .eq arg0 c7_i32
  let v36 : BitVec 32 := Scalar.extui v35
  let c0_i32_35 : BitVec 32 := 0#32
  let v37 : BitVec 1 := Scalar.cmpi .ne v36 c0_i32_35
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LastReferenceIdeal.lean ====
abbrev S8192x512 : Shape := ⟨2, ![8192, 512]⟩
abbrev S8192x128 : Shape := ⟨2, ![8192, 128]⟩
abbrev S8192x1024 : Shape := ⟨2, ![8192, 1024]⟩
abbrev S_ : Shape := ⟨0, ![]⟩
abbrev S1024x512 : Shape := ⟨2, ![1024, 512]⟩
abbrev S512x1024 : Shape := ⟨2, ![512, 1024]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x128, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S_, .f32⟩
  | .hbm, ⟨6, _⟩ => ⟨S1024x512, .f32⟩
  | .hbm, ⟨7, _⟩ => ⟨S8192x1024, .f32⟩
  | .hbm, ⟨8, _⟩ => ⟨S8192x512, .f32⟩
  | .hbm, ⟨9, _⟩ => ⟨S8192x512, .f32⟩
  | .hbm, ⟨10, _⟩ => ⟨S512x1024, .f32⟩
  | .hbm, ⟨11, _⟩ => ⟨S1024x512, .f32⟩
  | .hbm, ⟨12, _⟩ => ⟨S512x1024, .f32⟩
  | .hbm, ⟨13, _⟩ => ⟨S512x1024, .bf16⟩
  | .hbm, ⟨14, _⟩ => ⟨S_, .f32⟩
  | .hbm, ⟨15, _⟩ => ⟨S1024x128, .f32⟩
  | .hbm, ⟨16, _⟩ => ⟨S8192x1024, .f32⟩
  | .hbm, ⟨17, _⟩ => ⟨S8192x128, .f32⟩
  | .hbm, ⟨18, _⟩ => ⟨S8192x128, .f32⟩
  | .hbm, ⟨19, _⟩ => ⟨S128x1024, .f32⟩
  | .hbm, ⟨20, _⟩ => ⟨S1024x128, .f32⟩
  | .hbm, ⟨21, _⟩ => ⟨S128x1024, .f32⟩
  | .hbm, ⟨22, _⟩ => ⟨S128x1024, .bf16⟩
  | .hbm, ⟨23, _⟩ => ⟨S_, .f32⟩
  | .hbm, ⟨24, _⟩ => ⟨S1024x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S1024x1024, .bf16⟩
  | .hbm, ⟨32, _⟩ => ⟨S_, .f32⟩
  | .hbm, ⟨33, _⟩ => ⟨S1024x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S1024x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Ada.lean ====
abbrev S8x1024 : Shape := ⟨2, ![8, 1024]⟩
abbrev S8x1536 : Shape := ⟨2, ![8, 1536]⟩
abbrev S1024x1536 : Shape := ⟨2, ![1024, 1536]⟩

abbrev nBuf : Space → Nat
  | .hbm => 3
  | .vmem => 4
  | .smem => 0
  | _ => 0

abbrev bufTy : (tb : Table) → Fin (tcTables nBuf tb) → BufTy
  | .hbm, ⟨0, _⟩ => ⟨S8x1024, .bf16⟩
  | .hbm, ⟨1, _⟩ => ⟨S8x1536, .bf16⟩
  | .hbm, ⟨2, _⟩ => ⟨S1024x1536, .f32⟩
  | .local _ .vmem, ⟨0, _⟩ => ⟨S8x1024, .bf16⟩
  | .local _ .vmem, ⟨1, _⟩ => ⟨S8x1536, .bf16⟩
  | .local _ .vmem, ⟨2, _⟩ => ⟨S1024x1536, .f32⟩
  | .local _ .vmem, ⟨3, _⟩ => ⟨S1024x1536, .f32⟩
  | _, _ => ⟨S8x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def k0_cond2 (i : grid0.Coords) : BitVec 1 :=
  let arg0 : BitVec 32 := BitVec.ofNat 32 (i 0).val
  let c0_i32_8 : BitVec 32 := 0#32
  let v11 : BitVec 1 := Scalar.cmpi .eq arg0 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== AdaReferenceIdeal.lean ====
abbrev S8x1024 : Shape := ⟨2, ![8, 1024]⟩
abbrev S8x1536 : Shape := ⟨2, ![8, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8x1024, .bf16⟩
  | .hbm, ⟨1, _⟩ => ⟨S8x1536, .bf16⟩
  | .hbm, ⟨2, _⟩ => ⟨S_, .f32⟩
  | .hbm, ⟨3, _⟩ => ⟨S1024x1536, .f32⟩
  | .hbm, ⟨4, _⟩ => ⟨S8x1024, .f32⟩
  | .hbm, ⟨5, _⟩ => ⟨S8x1536, .f32⟩
  | .hbm, ⟨6, _⟩ => ⟨S8x1536, .f32⟩
  | .hbm, ⟨7, _⟩ => ⟨S1536x1024, .f32⟩
  | .hbm, ⟨8, _⟩ => ⟨S1024x1536, .f32⟩
  | _, _ => ⟨S8x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Gate.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x1024, .bf16⟩
  | .local _ .vmem, ⟨4, _⟩ => ⟨S512x1024, .bf16⟩
  | .local _ .vmem, ⟨5, _⟩ => ⟨S2816x1024, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateReferenceIdeal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x1024, .f32⟩
  | .hbm, ⟨4, _⟩ => ⟨S2816x1024, .f32⟩
  | .hbm, ⟨5, _⟩ => ⟨S1024x2816, .f32⟩
  | .hbm, ⟨6, _⟩ => ⟨S2816x1024, .f32⟩
  | .hbm, ⟨7, _⟩ => ⟨S1024x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .bf16⟩
  | .hbm, ⟨21, _⟩ => ⟨S8192x2816, .bf16⟩
  | .hbm, ⟨22, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Down.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownReferenceIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S2816x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== MixBwd.lean ====
abbrev S8192x1024 : Shape := ⟨2, ![8192, 1024]⟩
abbrev S1024x1024 : Shape := ⟨2, ![1024, 1024]⟩
abbrev S8192x512 : Shape := ⟨2, ![8192, 512]⟩
abbrev S1024x512 : Shape := ⟨2, ![1024, 512]⟩
abbrev S8192x2048 : Shape := ⟨2, ![8192, 2048]⟩
abbrev S512x1024 : Shape := ⟨2, ![512, 1024]⟩
abbrev S512x512 : Shape := ⟨2, ![512, 512]⟩

abbrev nBuf : Space → Nat
  | .hbm => 11
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x512, .bf16⟩
  | .hbm, ⟨3, _⟩ => ⟨S1024x512, .bf16⟩
  | .hbm, ⟨4, _⟩ => ⟨S8192x512, .bf16⟩
  | .hbm, ⟨5, _⟩ => ⟨S1024x512, .bf16⟩
  | .hbm, ⟨6, _⟩ => ⟨S8192x2048, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .bf16⟩
  | .local _ .vmem, ⟨4, _⟩ => ⟨S512x512, .bf16⟩
  | .local _ .vmem, ⟨5, _⟩ => ⟨S1024x512, .bf16⟩
  | .local _ .vmem, ⟨6, _⟩ => ⟨S512x512, .bf16⟩
  | .local _ .vmem, ⟨7, _⟩ => ⟨S512x512, .bf16⟩
  | .local _ .vmem, ⟨8, _⟩ => ⟨S1024x512, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixBwdReferenceIdeal.lean ====
abbrev S8192x1024 : Shape := ⟨2, ![8192, 1024]⟩
abbrev S1024x1024 : Shape := ⟨2, ![1024, 1024]⟩
abbrev S8192x512 : Shape := ⟨2, ![8192, 512]⟩
abbrev S1024x512 : Shape := ⟨2, ![1024, 512]⟩
abbrev S8192x2048 : Shape := ⟨2, ![8192, 2048]⟩
abbrev S512x1024 : Shape := ⟨2, ![512, 1024]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x512, .bf16⟩
  | .hbm, ⟨3, _⟩ => ⟨S1024x512, .bf16⟩
  | .hbm, ⟨4, _⟩ => ⟨S8192x512, .bf16⟩
  | .hbm, ⟨5, _⟩ => ⟨S1024x512, .bf16⟩
  | .hbm, ⟨6, _⟩ => ⟨S8192x2048, .bf16⟩
  | .hbm, ⟨7, _⟩ => ⟨S8192x1024, .f32⟩
  | .hbm, ⟨8, _⟩ => ⟨S1024x1024, .f32⟩
  | .hbm, ⟨9, _⟩ => ⟨S8192x512, .f32⟩
  | .hbm, ⟨10, _⟩ => ⟨S1024x512, .f32⟩
  | .hbm, ⟨11, _⟩ => ⟨S8192x512, .f32⟩
  | .hbm, ⟨12, _⟩ => ⟨S1024x512, .f32⟩
  | .hbm, ⟨13, _⟩ => ⟨S8192x2048, .f32⟩
  | .hbm, ⟨14, _⟩ => ⟨S8192x1024, .f32⟩
  | .hbm, ⟨15, _⟩ => ⟨S8192x1024, .f32⟩
  | .hbm, ⟨16, _⟩ => ⟨S512x1024, .f32⟩
  | .hbm, ⟨17, _⟩ => ⟨S8192x1024, .f32⟩
  | .hbm, ⟨18, _⟩ => ⟨S512x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | .hbm, ⟨56, _⟩ => ⟨S8192x1024, .bf16⟩
  | .hbm, ⟨57, _⟩ => ⟨S8192x1024, .bf16⟩
  | .hbm, ⟨58, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== BranchBwd.lean ====
abbrev S8192x1024 : Shape := ⟨2, ![8192, 1024]⟩
abbrev S1024x512 : Shape := ⟨2, ![1024, 512]⟩
abbrev S8192x512 : Shape := ⟨2, ![8192, 512]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BranchBwdReferenceIdeal.lean ====
abbrev S8192x1024 : Shape := ⟨2, ![8192, 1024]⟩
abbrev S1024x512 : Shape := ⟨2, ![1024, 512]⟩
abbrev S_ : Shape := ⟨0, ![]⟩
abbrev S8192x512 : Shape := ⟨2, ![8192, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S_, .f32⟩
  | .hbm, ⟨3, _⟩ => ⟨S8192x512, .f32⟩
  | .hbm, ⟨4, _⟩ => ⟨S1024x512, .f32⟩
  | .hbm, ⟨5, _⟩ => ⟨S512x1024, .f32⟩
  | .hbm, ⟨6, _⟩ => ⟨S8192x1024, .f32⟩
  | .hbm, ⟨7, _⟩ => ⟨S8192x1024, .f32⟩
  | .hbm, ⟨8, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Merge.lean ====
abbrev S8192x512 : Shape := ⟨2, ![8192, 512]⟩
abbrev S1024x512 : Shape := ⟨2, ![1024, 512]⟩
abbrev S8192x2048 : Shape := ⟨2, ![8192, 2048]⟩
abbrev S8192x1024 : Shape := ⟨2, ![8192, 1024]⟩
abbrev S512x512 : Shape := ⟨2, ![512, 512]⟩
abbrev S512x1024 : Shape := ⟨2, ![512, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x512, .bf16⟩
  | .hbm, ⟨3, _⟩ => ⟨S1024x512, .bf16⟩
  | .hbm, ⟨4, _⟩ => ⟨S8192x2048, .bf16⟩
  | .hbm, ⟨5, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S512x512, .bf16⟩
  | .local _ .vmem, ⟨4, _⟩ => ⟨S512x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeReferenceIdeal.lean ====
abbrev S8192x512 : Shape := ⟨2, ![8192, 512]⟩
abbrev S1024x512 : Shape := ⟨2, ![1024, 512]⟩
abbrev S8192x2048 : Shape := ⟨2, ![8192, 2048]⟩
abbrev S8192x1024 : Shape := ⟨2, ![8192, 1024]⟩
abbrev S_ : Shape := ⟨0, ![]⟩
abbrev S512x1024 : Shape := ⟨2, ![512, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x512, .bf16⟩
  | .hbm, ⟨3, _⟩ => ⟨S1024x512, .bf16⟩
  | .hbm, ⟨4, _⟩ => ⟨S8192x2048, .bf16⟩
  | .hbm, ⟨5, _⟩ => ⟨S8192x512, .f32⟩
  | .hbm, ⟨6, _⟩ => ⟨S1024x512, .f32⟩
  | .hbm, ⟨7, _⟩ => ⟨S8192x512, .f32⟩
  | .hbm, ⟨8, _⟩ => ⟨S1024x512, .f32⟩
  | .hbm, ⟨9, _⟩ => ⟨S8192x2048, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S512x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S512x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proj.lean ====
abbrev S8192x1024 : Shape := ⟨2, ![8192, 1024]⟩
abbrev S1x1024 : Shape := ⟨2, ![1, 1024]⟩
abbrev S768x1024 : Shape := ⟨2, ![768, 1024]⟩
abbrev S1024x1024 : Shape := ⟨2, ![1024, 1024]⟩
abbrev S128x1024 : Shape := ⟨2, ![128, 1024]⟩
abbrev S2048x1024 : Shape := ⟨2, ![2048, 1024]⟩
abbrev S8192x768 : Shape := ⟨2, ![8192, 768]⟩
abbrev S8192x128 : Shape := ⟨2, ![8192, 128]⟩
abbrev S8192x2048 : Shape := ⟨2, ![8192, 2048]⟩
abbrev S512x1024 : Shape := ⟨2, ![512, 1024]⟩
abbrev S512x768 : Shape := ⟨2, ![512, 768]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S512x512 : Shape := ⟨2, ![512, 512]⟩

abbrev nBuf : Space → Nat
  | .hbm => 15
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S768x1024, .bf16⟩
  | .hbm, ⟨5, _⟩ => ⟨S1024x1024, .bf16⟩
  | .hbm, ⟨6, _⟩ => ⟨S1024x1024, .bf16⟩
  | .hbm, ⟨7, _⟩ => ⟨S128x1024, .bf16⟩
  | .hbm, ⟨8, _⟩ => ⟨S2048x1024, .bf16⟩
  | .hbm, ⟨9, _⟩ => ⟨S8192x1024, .bf16⟩
  | .hbm, ⟨10, _⟩ => ⟨S8192x768, .f32⟩
  | .hbm, ⟨11, _⟩ => ⟨S8192x1024, .f32⟩
  | .hbm, ⟨12, _⟩ => ⟨S8192x1024, .bf16⟩
  | .hbm, ⟨13, _⟩ => ⟨S8192x128, .f32⟩
  | .hbm, ⟨14, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S768x1024, .bf16⟩
  | .local _ .vmem, ⟨6, _⟩ => ⟨S1024x1024, .bf16⟩
  | .local _ .vmem, ⟨7, _⟩ => ⟨S1024x1024, .bf16⟩
  | .local _ .vmem, ⟨8, _⟩ => ⟨S128x1024, .bf16⟩
  | .local _ .vmem, ⟨9, _⟩ => ⟨S2048x1024, .bf16⟩
  | .local _ .vmem, ⟨10, _⟩ => ⟨S512x1024, .bf16⟩
  | .local _ .vmem, ⟨11, _⟩ => ⟨S512x1024, .bf16⟩
  | .local _ .vmem, ⟨12, _⟩ => ⟨S512x768, .f32⟩
  | .local _ .vmem, ⟨13, _⟩ => ⟨S512x768, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x128, .f32⟩
  | .local _ .vmem, ⟨19, _⟩ => ⟨S512x128, .f32⟩
  | .local _ .vmem, ⟨20, _⟩ => ⟨S512x2048, .bf16⟩
  | .local _ .vmem, ⟨21, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ProjReferenceIdeal.lean ====
abbrev S8192x1024 : Shape := ⟨2, ![8192, 1024]⟩
abbrev S1x1024 : Shape := ⟨2, ![1, 1024]⟩
abbrev S768x1024 : Shape := ⟨2, ![768, 1024]⟩
abbrev S1024x1024 : Shape := ⟨2, ![1024, 1024]⟩
abbrev S128x1024 : Shape := ⟨2, ![128, 1024]⟩
abbrev S2048x1024 : Shape := ⟨2, ![2048, 1024]⟩
abbrev S_ : Shape := ⟨0, ![]⟩
abbrev S8192 : Shape := ⟨1, ![8192]⟩
abbrev S8192x1 : Shape := ⟨2, ![8192, 1]⟩
abbrev S1024x768 : Shape := ⟨2, ![1024, 768]⟩
abbrev S8192x768 : Shape := ⟨2, ![8192, 768]⟩
abbrev S1024x128 : Shape := ⟨2, ![1024, 128]⟩
abbrev S8192x128 : Shape := ⟨2, ![8192, 128]⟩
abbrev S1024x2048 : Shape := ⟨2, ![1024, 2048]⟩
abbrev S8192x2048 : Shape := ⟨2, ![8192, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S768x1024, .bf16⟩
  | .hbm, ⟨5, _⟩ => ⟨S1024x1024, .bf16⟩
  | .hbm, ⟨6, _⟩ => ⟨S1024x1024, .bf16⟩
  | .hbm, ⟨7, _⟩ => ⟨S128x1024, .bf16⟩
  | .hbm, ⟨8, _⟩ => ⟨S2048x1024, .bf16⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S768x1024, .f32⟩
  | .hbm, ⟨32, _⟩ => ⟨S1024x768, .f32⟩
  | .hbm, ⟨33, _⟩ => ⟨S8192x768, .f32⟩
  | .hbm, ⟨34, _⟩ => ⟨S1024x1024, .f32⟩
  | .hbm, ⟨35, _⟩ => ⟨S1024x1024, .f32⟩
  | .hbm, ⟨36, _⟩ => ⟨S8192x1024, .f32⟩
  | .hbm, ⟨37, _⟩ => ⟨S1024x1024, .f32⟩
  | .hbm, ⟨38, _⟩ => ⟨S1024x1024, .f32⟩
  | .hbm, ⟨39, _⟩ => ⟨S8192x1024, .f32⟩
  | .hbm, ⟨40, _⟩ => ⟨S128x1024, .f32⟩
  | .hbm, ⟨41, _⟩ => ⟨S1024x128, .f32⟩
  | .hbm, ⟨42, _⟩ => ⟨S8192x128, .f32⟩
  | .hbm, ⟨43, _⟩ => ⟨S2048x1024, .f32⟩
  | .hbm, ⟨44, _⟩ => ⟨S1024x2048, .f32⟩
  | .hbm, ⟨45, _⟩ => ⟨S8192x2048, .f32⟩
  | .hbm, ⟨46, _⟩ => ⟨S8192x1024, .bf16⟩
  | .hbm, ⟨47, _⟩ => ⟨S8192x1024, .bf16⟩
  | .hbm, ⟨48, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Proof.Sweep.lean ====
/-
  The run of the attention backward's kernel over its 64 grid points, and its frame. The grid walks the blocks of 128
  rows from the last to the first. The first point (`first`) clears the running sink gradient and the carried rows; every
  later point (`later`) starts from what the point before left in them.
-/
module

public import proofs.«01_k».proof.Proof.Gen.KernelIdeal.Frame.RunA
public import proofs.«01_k».proof.Proof.Gen.KernelIdeal.Frame.RunB
public import Idealize.ShloMosaic.Lib.Claim
public import Idealize.ShloMosaic.Lib.Pipeline.Value

@[expose] public section

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves: the block of dq, the block of dk and dv, the running sink gradient, the carried rows. -/
abbrev Left (F : FTy → Type) [FloatOps F] : Type :=
  Vec F S128x512 .bf16 × Vec F S128x256 .bf16 × Vec F S8x128 .f32 × Vec F S128x256 .f32

/-- The body's run at a first point, on the point's staging buffers and input blocks. -/
def firstRun (c : Dev nD) (t : Fin cfg0.N) (h : t.val % 64 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h) (iblk m c 0 t) (iblk m c 1 t) (iblk m c 2 t) (iblk m c 3 t) (iblk m c 4 t) (iblk m c 5 t) (iblk m c 6 t) (iblk m c 7 t)

/-- What a first point leaves: its stores read back. -/
def first (c : Dev nD) (t : Fin cfg0.N) (h : t.val % 64 = 0) : Left F :=
  (VO0_8.read (Elt F) (VO0_8.writes (Elt F) VO0_8.junk (firstRun m c t h).1),
   VO0_9.read (Elt F) (VO0_9.writes (Elt F) VO0_9.junk (firstRun m c t h).2.1),
   VO0_10.read (Elt F) (VO0_10.writes (Elt F) VO0_10.junk (firstRun m c t h).2.2.1),
   VS0_0.read (Elt F) (VS0_0.writes (Elt F) VS0_0.junk (firstRun m c t h).2.2.2.1))

/-- The stores of a first point cover the block of dq. -/
theorem first_covers_dq (c : Dev nD) (t : Fin cfg0.N) (h : t.val % 64 = 0) (y : S128x512.Idx) :
    ∃ pc ∈ (firstRun m c t h).1, y ∈ pc.1.set :=
  View.cover_of_tiledL (firstRun m c t h).1 S128x128.size (by sl_kernel_rfl) y
/-- The stores of a first point cover the block of dk and dv. -/
theorem first_covers_dkv (c : Dev nD) (t : Fin cfg0.N) (h : t.val % 64 = 0) (y : S128x256.Idx) :
    ∃ pc ∈ (firstRun m c t h).2.1, y ∈ pc.1.set :=
  View.cover_of_tiledL (firstRun m c t h).2.1 S128x128.size (by sl_kernel_rfl) y
/-- The stores of a first point cover the sink gradient. -/
theorem first_covers_sink (c : Dev nD) (t : Fin cfg0.N) (h : t.val % 64 = 0) (y : S8x128.Idx) :
    ∃ pc ∈ (firstRun m c t h).2.2.1, y ∈ pc.1.set :=
  View.cover_of_tiledBy (firstRun m c t h).2.2.1 ![1, 128] (by sl_kernel_rfl) y
/-- The stores of a first point cover the carried rows. -/
theorem first_covers_carry (c : Dev nD) (t : Fin cfg0.N) (h : t.val % 64 = 0) (y : S128x256.Idx) :
    ∃ pc ∈ (firstRun m c t h).2.2.2.1, y ∈ pc.1.set :=
  View.cover_of_wholeMem (firstRun m c t h).2.2.2.1 (by unfold firstRun; sl_whole_mem) y

/-- The body's run at a later point, on the point's staging buffers and input blocks. -/
def laterRun (c : Dev nD) (t : Fin cfg0.N) (h : ¬t.val % 64 = 0) (xo : Vec F S8x128 .f32) (xs : Vec F S128x256 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t) xo xs

/-- What a later point leaves: its stores read back. -/
def later (c : Dev nD) (t : Fin cfg0.N) (h : ¬t.val % 64 = 0) (xo : Vec F S8x128 .f32) (xs : Vec F S128x256 .f32) : Left F :=
  (VO0_8.read (Elt F) (VO0_8.writes (Elt F) VO0_8.junk (laterRun m c t h xo xs).1),
   VO0_9.read (Elt F) (VO0_9.writes (Elt F) VO0_9.junk (laterRun m c t h xo xs).2.1),
   VO0_10.read (Elt F) (VO0_10.writes (Elt F) VO0_10.junk (laterRun m c t h xo xs).2.2.1),
   VS0_0.read (Elt F) (VS0_0.writes (Elt F) VS0_0.junk (laterRun m c t h xo xs).2.2.2.1))

/-- The stores of a later point cover the block of dq. -/
theorem later_covers_dq (c : Dev nD) (t : Fin cfg0.N) (h : ¬t.val % 64 = 0) (xo : Vec F S8x128 .f32) (xs : Vec F S128x256 .f32) (y : S128x512.Idx) :
    ∃ pc ∈ (laterRun m c t h xo xs).1, y ∈ pc.1.set :=
  View.cover_of_tiledL (laterRun m c t h xo xs).1 S128x128.size (by sl_kernel_rfl) y
/-- The stores of a later point cover the block of dk and dv. -/
theorem later_covers_dkv (c : Dev nD) (t : Fin cfg0.N) (h : ¬t.val % 64 = 0) (xo : Vec F S8x128 .f32) (xs : Vec F S128x256 .f32) (y : S128x256.Idx) :
    ∃ pc ∈ (laterRun m c t h xo xs).2.1, y ∈ pc.1.set :=
  View.cover_of_tiledL (laterRun m c t h xo xs).2.1 S128x128.size (by sl_kernel_rfl) y
/-- The stores of a later point cover the sink gradient. -/
theorem later_covers_sink (c : Dev nD) (t : Fin cfg0.N) (h : ¬t.val % 64 = 0) (xo : Vec F S8x128 .f32) (xs : Vec F S128x256 .f32) (y : S8x128.Idx) :
    ∃ pc ∈ (laterRun m c t h xo xs).2.2.1, y ∈ pc.1.set :=
  View.cover_of_tiledL (laterRun m c t h xo xs).2.2.1 S1x128.size (by sl_kernel_rfl) y
/-- The stores of a later point cover the carried rows. -/
theorem later_covers_carry (c : Dev nD) (t : Fin cfg0.N) (h : ¬t.val % 64 = 0) (xo : Vec F S8x128 .f32) (xs : Vec F S128x256 .f32) (y : S128x256.Idx) :
    ∃ pc ∈ (laterRun m c t h xo xs).2.2.2.1, y ∈ pc.1.set :=
  View.cover_of_tiledL (laterRun m c t h xo xs).2.2.2.1 S128x128.size (by sl_kernel_rfl) y

/-- A later position of the grid is not a multiple of 64. -/
theorem succ_mod {n : ℕ} (hn : n + 1 < cfg0.N) : ¬(n + 1) % 64 = 0 := by
  have : n + 1 < 64 := lt_of_lt_of_eq hn N_0
  omega

/-- What the points leave, one after the other. -/
def left (c : Dev nD) : (n : ℕ) → n < cfg0.N → Left F
  | 0, hn => first m c ⟨0, hn⟩ (Nat.zero_mod _)
  | n + 1, hn => later m c ⟨n + 1, hn⟩ (succ_mod hn) (left c n (Nat.lt_of_succ_lt hn)).2.2.1 (left c n (Nat.lt_of_succ_lt hn)).2.2.2

/-- What the first point leaves. -/
theorem left_zero (c : Dev nD) (hn : 0 < cfg0.N) : left m c 0 hn = first m c ⟨0, hn⟩ (Nat.zero_mod _) := rfl

/-- What a later point leaves, over what the point before left. -/
theorem left_succ (c : Dev nD) (n : ℕ) (hn : n + 1 < cfg0.N) :
    left m c (n + 1) hn = later m c ⟨n + 1, hn⟩ (succ_mod hn) (left m c n (Nat.lt_of_succ_lt hn)).2.2.1 (left m c n (Nat.lt_of_succ_lt hn)).2.2.2 := rfl

/-- The first point's contents at a point known to be the first. -/
theorem left_first (c : Dev nD) (t : Fin cfg0.N) (h : t.val % 64 = 0) : left m c t.val t.isLt = first m c t h := by
  obtain ⟨n, hn⟩ := t
  cases n with
  | zero => exact left_zero m c hn
  | succ n => exact absurd h (succ_mod hn)

/-- A later point's contents at a point known to be a later one. -/
theorem left_later (c : Dev nD) (t : Fin cfg0.N) (h : ¬t.val % 64 = 0) :
    left m c t.val t.isLt = later m c t h (left m c (t.val - 1) (Nat.lt_of_le_of_lt (Nat.sub_le _ _) t.isLt)).2.2.1
      (left m c (t.val - 1) (Nat.lt_of_le_of_lt (Nat.sub_le _ _) t.isLt)).2.2.2 := by
  obtain ⟨n, hn⟩ := t
  cases n with
  | zero => exact absurd (Nat.zero_mod _) h
  | succ n => exact left_succ m c n hn

/-- The invariant before a position: at first every scratch is at anything; afterwards the carried rows are what the
    point before left. -/
def inv (c : Dev nD) : (n : ℕ) → n ≤ cfg0.N → sProp 𝕄
  | 0, _ => Pipeline.ΦA spec0 c
  | n + 1, hn => iprop(iprop(owns (c : Thread nD τ) scM0_0 fullShare ((left m c n hn).2.2.2)) ∗ (∃ r, prngReg c r))

/-- The invariant before the first position. -/
theorem inv_zero (c : Dev nD) (n : ℕ) (h : n ≤ cfg0.N) (hz : n = 0) : inv m c n h = Pipeline.ΦA spec0 c := by
  subst hz; rfl

/-- The invariant after a position. -/
theorem inv_succ (c : Dev nD) (n : ℕ) (hn : n < cfg0.N) :
    inv m c (n + 1) hn = iprop(iprop(owns (c : Thread nD τ) scM0_0 fullShare ((left m c n hn).2.2.2)) ∗ (∃ r, prngReg c r)) := rfl

/-- The invariant before a later position. -/
theorem inv_pos (c : Dev nD) (n : ℕ) (h : n ≤ cfg0.N) (hz : n ≠ 0) :
    inv m c n h = iprop(iprop(owns (c : Thread nD τ) scM0_0 fullShare ((left m c (n - 1) (by omega)).2.2.2)) ∗ (∃ r, prngReg c r)) := by
  cases n with
  | zero => exact absurd rfl hz
  | succ n => rfl

/-- The pipeline's proof data: the arrays as the region finds them, each input's buffer at its block, the outputs' at
    what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (left m c t.val t.isLt).1
    | ⟨9, _⟩ => (left m c t.val t.isLt).2.1
    | ⟨10, _⟩ => (left m c t.val t.isLt).2.2.1
  Φ t := inv m c t.val (Nat.le_of_lt_succ t.isLt)
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-- The invariant at a point's start. -/
theorem inv_castSucc (c : Dev nD) (t : Fin cfg0.N) :
    (dats m 0 c).Φ t.castSucc = inv m c t.val (Nat.le_of_lt t.isLt) := by
  dsimp only [dats]; exact Pipeline.Dat.Φ_castSucc (inv m c) t

/-- The body leaves input 0's block in place. -/
theorem after_0 (c : Dev nD) (t : Fin cfg0.N) : (dats m 0 c).after 0 t = iblk m c 0 t := by dsimp only [dats]
/-- The body leaves input 1's block in place. -/
theorem after_1 (c : Dev nD) (t : Fin cfg0.N) : (dats m 0 c).after 1 t = iblk m c 1 t := by dsimp only [dats]
/-- The body leaves input 2's block in place. -/
theorem after_2 (c : Dev nD) (t : Fin cfg0.N) : (dats m 0 c).after 2 t = iblk m c 2 t := by dsimp only [dats]
/-- The body leaves input 3's block in place. -/
theorem after_3 (c : Dev nD) (t : Fin cfg0.N) : (dats m 0 c).after 3 t = iblk m c 3 t := by dsimp only [dats]
/-- The body leaves input 4's block in place. -/
theorem after_4 (c : Dev nD) (t : Fin cfg0.N) : (dats m 0 c).after 4 t = iblk m c 4 t := by dsimp only [dats]
/-- The body leaves input 5's block in place. -/
theorem after_5 (c : Dev nD) (t : Fin cfg0.N) : (dats m 0 c).after 5 t = iblk m c 5 t := by dsimp only [dats]
/-- The body leaves input 6's block in place. -/
theorem after_6 (c : Dev nD) (t : Fin cfg0.N) : (dats m 0 c).after 6 t = iblk m c 6 t := by dsimp only [dats]
/-- The body leaves input 7's block in place. -/
theorem after_7 (c : Dev nD) (t : Fin cfg0.N) : (dats m 0 c).after 7 t = iblk m c 7 t := by dsimp only [dats]
/-- What the body leaves in output 8's buffer. -/
theorem after_8 (c : Dev nD) (t : Fin cfg0.N) : (dats m 0 c).after 8 t = (left m c t.val t.isLt).1 := by dsimp only [dats]
/-- What the body leaves in output 9's buffer. -/
theorem after_9 (c : Dev nD) (t : Fin cfg0.N) : (dats m 0 c).after 9 t = (left m c t.val t.isLt).2.1 := by dsimp only [dats]
/-- What the body leaves in output 10's buffer. -/
theorem after_10 (c : Dev nD) (t : Fin cfg0.N) : (dats m 0 c).after 10 t = (left m c t.val t.isLt).2.2.1 := by dsimp only [dats]
/-- Input 0's buffer holds its block before the body. -/
theorem before_0 (c : Dev nD) (t : Fin cfg0.N) (d) : (dats m 0 c).before 0 t d = iblk m c 0 t :=
  before0_0_of m (dats m 0 c) (A_eq m c 0) (after_0 m c) t d
/-- Input 1's buffer holds its block before the body. -/
theorem before_1 (c : Dev nD) (t : Fin cfg0.N) (d) : (dats m 0 c).before 1 t d = iblk m c 1 t :=
  before0_1_of m (dats m 0 c) (A_eq m c 1) (after_1 m c) t d
/-- Input 2's buffer holds its block before the body. -/
theorem before_2 (c : Dev nD) (t : Fin cfg0.N) (d) : (dats m 0 c).before 2 t d = iblk m c 2 t :=
  before0_2_of m (dats m 0 c) (A_eq m c 2) (after_2 m c) t d
/-- Input 3's buffer holds its block before the body. -/
theorem before_3 (c : Dev nD) (t : Fin cfg0.N) (d) : (dats m 0 c).before 3 t d = iblk m c 3 t :=
  before0_3_of m (dats m 0 c) (A_eq m c 3) (after_3 m c) t d
/-- Input 4's buffer holds its block before the body. -/
theorem before_4 (c : Dev nD) (t : Fin cfg0.N) (d) : (dats m 0 c).before 4 t d = iblk m c 4 t :=
  before0_4_of m (dats m 0 c) (A_eq m c 4) (after_4 m c) t d
/-- Input 5's buffer holds its block before the body. -/
theorem before_5 (c : Dev nD) (t : Fin cfg0.N) (d) : (dats m 0 c).before 5 t d = iblk m c 5 t :=
  before0_5_of m (dats m 0 c) (A_eq m c 5) (after_5 m c) t d
/-- Input 6's buffer holds its block before the body. -/
theorem before_6 (c : Dev nD) (t : Fin cfg0.N) (d) : (dats m 0 c).before 6 t d = iblk m c 6 t :=
  before0_6_of m (dats m 0 c) (A_eq m c 6) (after_6 m c) t d
/-- Input 7's buffer holds its block before the body. -/
theorem before_7 (c : Dev nD) (t : Fin cfg0.N) (d) : (dats m 0 c).before 7 t d = iblk m c 7 t :=
  before0_7_of m (dats m 0 c) (A_eq m c 7) (after_7 m c) t d
/-- At a later point the sink gradient's buffer holds what the point before left. -/
theorem before_sink (c : Dev nD) (t : Fin cfg0.N) (h0 : ¬t.val % 64 = 0) (d) :
    (dats m 0 c).before 10 t d = (left m c (t.val - 1) (Nat.lt_of_le_of_lt (Nat.sub_le _ _) t.isLt)).2.2.1 := by
  have hN : t.val < 64 := lt_of_lt_of_eq t.isLt (show cfg0.N = 64 from N_0)
  rw [Dat.before_out_kept _ 10 rfl t (by omega) (Bool.eq_false_iff.mpr fun h => by have := (flush0_10 _).mp h; dsimp only at this; omega)
    (fun _ => rfl) (fun _ _ => rfl)]
  dsimp only [dats]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What the body returns at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 9600000 in
/-- The body at any point: the first or a later one, each by its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    after_0, after_1, after_2, after_3, after_4, after_5, after_6, after_7, after_8, after_9, after_10]
  rw [show (dats m 0 c).Φ t.succ = inv m c (t.val + 1) t.isLt from rfl, inv_succ]
  have hN : t.val < 64 := lt_of_lt_of_eq t.isLt (show cfg0.N = 64 from N_0)
  by_cases h0 : t.val % 64 = 0
  · have hz : t.val = 0 := by omega
    · rw [inv_castSucc m c t, inv_zero m c _ _ hz, PhiA0_eq]
      rw [left_first m c t h0]
      unfold first; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((firstRun m c t h0).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      iintro ⟨H0, H1, H2, H3, H4, H5, H6, H7, ⟨%e8, H8⟩, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (first_covers_carry m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (first_covers_dq m c t h0)
      isplitl [H9]
      · unfold owns; iexists _; isplitr
        swap; · iexact H9
        ipureintro; exact View.read_writes_of_cover _ _ _ _ _ (first_covers_dkv m c t h0)
      unfold owns; iexists _; isplitr
      swap; · iexact H10
      ipureintro; exact View.read_writes_of_cover _ _ _ _ _ (first_covers_sink m c t h0)
  · have hz : t.val ≠ 0 := fun h => h0 (by rw [h])
    · rw [inv_castSucc m c t, inv_pos m c _ _ hz]
      rw [left_later m c t h0]
      simp only [before_sink m c t h0]
      unfold later; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((laterRun m c t h0 _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexact H10
      isplitl [HS0]; · iexact HS0
      iintro ⟨H0, H1, H2, H3, H4, H5, H6, H7, ⟨%e8, H8⟩, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (later_covers_carry m c t h0 _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (later_covers_dq m c t h0 _ _)
      isplitl [H9]
      · unfold owns; iexists _; isplitr
        swap; · iexact H9
        ipureintro; exact View.read_writes_of_cover _ _ _ _ _ (later_covers_dkv m c t h0 _ _)
      unfold owns; iexists _; isplitr
      swap; · iexact H10
      ipureintro; exact View.read_writes_of_cover _ _ _ _ _ (later_covers_sink m c t h0 _ _)

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After any point the carried rows' contents may be forgotten. -/
theorem inv_out (c : Dev nD) (t : Fin (cfg0.N + 1)) (ht : t.val ≠ 0) : (dats m 0 c).Φ t ⊢ Pipeline.ΦA spec0 c := by
  rw [show (dats m 0 c).Φ t = inv m c t.val (Nat.le_of_lt_succ t.isLt) from rfl, inv_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  inv_out m c _ (by rw [Fin.val_last]; have : cfg0.N = 64 := N_0; omega)

set_option backward.isDefEq.respectTransparency.types false in
/-- The launch: every array ends at what the proof data says, and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The launch without the counters. -/
theorem run : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_quiescent m ρ))

end Cert.KernelIdeal.Sweep

end
-- ==== Proof.Rows.lean ====
module

public import Idealize.ShloMosaic.Lib.Pointwise
public import Idealize.ShloMosaic.Lib.Claim

@[expose] public section

noncomputable section

/-! A sum over 8192 rows taken in 8 tiles, and the place of an entry in a window that starts at the corner. -/

namespace Cert.Rows

/-- The corner of an array. -/
theorem corner : (![0, 0] : Fin 2 → ℕ) = fun _ => 0 := by funext d; revert d; decide

/-- The point before is a point. -/
theorem prev {N : ℕ} (t : Fin N) : t.val - 1 < N := Nat.lt_of_le_of_lt (Nat.sub_le _ _) t.isLt

/-- An entry of a window at the corner keeps its place. -/
theorem at0 (x : ℕ) : 0 + 1 * x = x := by omega

/-- A running sum over the tiles, cleared at the first and read at the last, is the sum over all rows. -/
theorem total {N : ℕ} (hN : N = 8) (f : Fin 8192 → EReal) (p : Fin N → EReal) (acc : (n : ℕ) → n < N → EReal) (out : EReal)
    (hp : ∀ t : Fin N, p t = ∑ r : Fin 1024, f ⟨1024 * t.val + r.val, by have := t.isLt; omega⟩)
    (h0 : ∀ h, acc 0 h = p ⟨0, h⟩)
    (hs : ∀ n h, n + 1 < 7 → acc (n + 1) h = acc n (Nat.lt_of_succ_lt h) + p ⟨n + 1, h⟩)
    (t : Fin N) (h7 : t.val = 7) (ho : out = acc (t.val - 1) (Nat.lt_of_le_of_lt (Nat.sub_le _ _) t.isLt) + p t) :
    out = ∑ k, f k := by
  have hq : ∀ t : Fin N, p t = ∑ r ∈ Finset.range 1024, (fun k => if h : k < 8192 then f ⟨k, h⟩ else 0) (1024 * t.val + r) := by
    intro t
    rw [hp t, ← Fin.sum_univ_eq_sum_range (fun r => (fun k => if h : k < 8192 then f ⟨k, h⟩ else 0) (1024 * t.val + r)) 1024]
    refine Finset.sum_congr rfl fun r _ => ?_
    have h : 1024 * t.val + r.val < 8192 := by have := t.isLt; omega
    show _ = if h : 1024 * t.val + r.val < 8192 then f ⟨_, h⟩ else 0
    rw [dif_pos h]
  have ha : ∀ n h, n < 7 → acc n h = ∑ k ∈ Finset.range (1024 * (n + 1)), (fun k => if h : k < 8192 then f ⟨k, h⟩ else 0) k := by
    intro n
    induction n with
    | zero =>
      intro h _
      rw [h0, hq]
      refine Finset.sum_congr rfl fun r _ => ?_
      show (fun k => if h : k < 8192 then f ⟨k, h⟩ else 0) (1024 * 0 + r) = _
      rw [Nat.mul_zero, Nat.zero_add]
    | succ n ih =>
      intro h h7
      rw [hs n h h7, ih _ (by omega), hq]
      exact (Finset.sum_range_add _ (1024 * (n + 1)) 1024).symm
  rw [ho, ha _ _ (by omega), hq t, show 1024 * (t.val - 1 + 1) = 1024 * t.val by omega, ← Finset.sum_range_add, h7,
    ← Fin.sum_univ_eq_sum_range (fun k => if h : k < 8192 then f ⟨k, h⟩ else 0) (1024 * 7 + 1024)]
  refine Finset.sum_congr rfl fun k _ => ?_
  show (if h : k.val < 8192 then f ⟨k.val, h⟩ else 0) = _
  rw [dif_pos k.isLt]

end Cert.Rows

end
-- ==== Proof.Spec.lean ====
module

public import Idealize.ShloMosaic.Lib.Pointwise

@[expose] public section

noncomputable section

/-! The gradient of the banded attention over the reals, block by block: the functions both programs are read as. -/

namespace Cert.Attn

open Idealize.ShloMosaic

/-- The inputs over the reals: the rows `[q | k | v]`, the cosines and sines by row and frequency, the sinks, the
    gradient of the output. -/
structure Inp where
  X : ℕ → ℕ → ℝ
  C : ℕ → ℕ → ℝ
  S : ℕ → ℕ → ℝ
  SK : ℕ → ℝ
  DY : ℕ → ℕ → ℝ

/-- The rotation of a head's 64 coordinates. -/
def ropeVal (f c s : ℕ → ℝ) (d : ℕ) : ℝ :=
  if d < 32 then f d * c d - f (d + 32) * s d else f d * c (d - 32) + f (d - 32) * s (d - 32)

/-- The transposed rotation. -/
def unrope (f c s : ℕ → ℝ) (d : ℕ) : ℝ :=
  if d < 32 then f d * c d + f (d + 32) * s d else f d * c (d - 32) - f (d - 32) * s (d - 32)

variable (D : Inp)

/-- The array row of key `j` of block `n`'s window: the previous block's rows, then the block's own. -/
def krow (n j : ℕ) : ℕ := if j < 128 then 128 * (n - 1) + j else 128 * n + (j - 128)

/-- The roped and scaled query of head `h`, row `r` of block `n`. -/
def qs (n h r d : ℕ) : ℝ :=
  ropeVal (fun d => D.X (128 * n + r) (64 * h + d)) (D.C (128 * n + r)) (D.S (128 * n + r)) d * (1 / 8)

/-- The roped key `j` of block `n`'s window, key head `g`. -/
def kk (n g j d : ℕ) : ℝ :=
  ropeVal (fun d => D.X (krow n j) (512 + 64 * g + d)) (D.C (krow n j)) (D.S (krow n j)) d

/-- The value `j` of block `n`'s window, value head `g`. -/
def vv (n g j d : ℕ) : ℝ := D.X (krow n j) (640 + 64 * g + d)

/-- The gradient of the output of head `h`, row `r` of block `n`. -/
def dyv (n h r d : ℕ) : ℝ := D.DY (128 * n + r) (64 * h + d)

/-- Row `r` of block `n` sees key `j` of its window. -/
abbrev msk (n r j : ℕ) : Prop := j ≤ r + 128 ∧ r < j ∧ (0 < n ∨ 128 ≤ j)

/-- The score. -/
def sc (n h r j : ℕ) : ℝ := ∑ d : Fin 64, qs D n h r d * kk D n (h / 4) j d

/-- The exponential of a score, zero where masked. -/
def ee (n h r j : ℕ) : ℝ := if msk n r j then Real.exp (sc D n h r j) else 0

/-- The softmax's denominator, the sink's exponential included. -/
def zz (n h r : ℕ) : ℝ := (∑ j : Fin 256, ee D n h r j) + Real.exp (D.SK h)

/-- The probability. -/
def pn (n h r j : ℕ) : ℝ := ee D n h r j / zz D n h r

/-- The probability's gradient. -/
def dp (n h r j : ℕ) : ℝ := ∑ d : Fin 64, dyv D n h r d * vv D n (h / 4) j d

/-- The row's sum of probability times gradient. -/
def dl (n h r : ℕ) : ℝ := ∑ j : Fin 256, pn D n h r j * dp D n h r j

/-- The score's gradient. -/
def ds (n h r j : ℕ) : ℝ := pn D n h r j * (dp D n h r j - dl D n h r)

/-- The sink's share of row `r`. -/
def sk (n h r : ℕ) : ℝ := Real.exp (D.SK h) / zz D n h r * dl D n h r

/-- The gradient of the roped query, before the scale. -/
def gq (n h r d : ℕ) : ℝ := ∑ j : Fin 256, ds D n h r j * kk D n (h / 4) j d

/-- One head's gradient of the roped key. -/
def gk1 (n h j d : ℕ) : ℝ := ∑ r : Fin 128, ds D n h r j * qs D n h r d

/-- One head's gradient of the value. -/
def gv1 (n h j d : ℕ) : ℝ := ∑ r : Fin 128, pn D n h r j * dyv D n h r d

/-- The gradient of the roped key: four query heads share one key head. -/
def gk (n g j d : ℕ) : ℝ := ∑ i : Fin 4, gk1 D n (4 * g + i) j d

/-- The gradient of the value. -/
def gv (n g j d : ℕ) : ℝ := ∑ i : Fin 4, gv1 D n (4 * g + i) j d

/-- Block `n`'s gradient of head `h`'s sink. -/
def gs (n h : ℕ) : ℝ := -(∑ r : Fin 128, sk D n h r)

/-- The key gradient of array row `128 n + r` before the transposed rotation: its own block's and the next block's. -/
def gkk (n g r d : ℕ) : ℝ := gk D n g (128 + r) d + (if n < 63 then gk D (n + 1) g r d else 0)

/-- The same of the value. -/
def gvv (n g r d : ℕ) : ℝ := gv D n g (128 + r) d + (if n < 63 then gv D (n + 1) g r d else 0)

/-- The first result at row `t`, column `c`. -/
def outQ (t c : ℕ) : ℝ :=
  unrope (fun d => gq D (t / 128) (c / 64) (t % 128) d * (1 / 8)) (D.C t) (D.S t) (c % 64)

/-- The second result's key half. -/
def outK (t c : ℕ) : ℝ :=
  unrope (fun d => gkk D (t / 128) (c / 64) (t % 128) d) (D.C t) (D.S t) (c % 64)

/-- The second result's value half. -/
def outV (t c : ℕ) : ℝ := gvv D (t / 128) (c / 64) (t % 128) (c % 64)

/-- The second result. -/
def outKV (t c : ℕ) : ℝ := if c < 128 then outK D t c else outV D t (c - 128)

/-- The third result of head `h`. -/
def outS (h : ℕ) : ℝ := ∑ n : Fin 64, gs D n h

theorem zz_pos (n h r : ℕ) : 0 < zz D n h r := by
  unfold zz
  refine add_pos_of_nonneg_of_pos (Finset.sum_nonneg fun j _ => ?_) (Real.exp_pos _)
  unfold ee
  split_ifs
  · exact (Real.exp_pos _).le
  · exact le_rfl

theorem zz_ne (n h r : ℕ) : zz D n h r ≠ 0 := (zz_pos D n h r).ne'

/-- Where masked the probability is zero. -/
theorem pn_of_not {n h r j : ℕ} (hm : ¬ msk n r j) : pn D n h r j = 0 := by
  simp only [pn, ee, if_neg hm, zero_div]

/-- Where masked the score's gradient is zero. -/
theorem ds_of_not {n h r j : ℕ} (hm : ¬ msk n r j) : ds D n h r j = 0 := by
  simp only [ds, pn_of_not D hm, zero_mul]

/-- A sum of reals, extended. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A maximum of extended reals that are each real or minus infinity, taken with a real, is real. -/
theorem max_real {ι : Type*} (s : Finset ι) (f : ι → EReal) (hf : ∀ i, f i ≠ ⊤) (a : ℝ) :
    ∃ M : ℝ, max (s.fold max ⊥ f) (a : EReal) = (M : EReal) := by
  classical
  have h1 : s.fold max ⊥ f ≠ ⊤ := by
    induction s using Finset.induction_on with
    | empty => simp
    | insert b s hb ih =>
      rw [Finset.fold_insert hb]
      rcases max_choice (f b) (s.fold max ⊥ f) with h | h <;> rw [h]
      · exact hf b
      · exact ih
  have h2 : max (s.fold max ⊥ f) (a : EReal) ≠ ⊤ := by
    rcases max_choice (s.fold max ⊥ f) (a : EReal) with h | h <;> rw [h]
    · exact h1
    · exact EReal.coe_ne_top a
  have h3 : max (s.fold max ⊥ f) (a : EReal) ≠ ⊥ := by
    intro h
    have : (a : EReal) ≤ ⊥ := h ▸ le_max_right _ _
    exact EReal.coe_ne_bot a (le_bot_iff.mp this)
  exact ⟨_, (EReal.coe_toReal h2 h3).symm⟩

/-- The exponentials after a shift of every score and of the sink by `M`. -/
def eM (M : ℝ) (n h r j : ℕ) : ℝ := if msk n r j then Real.exp (sc D n h r j - M) else 0

/-- The denominator after the shift. -/
def zM (M : ℝ) (n h r : ℕ) : ℝ := (∑ j : Fin 256, eM D M n h r j) + Real.exp (D.SK h - M)

theorem eM_eq (M : ℝ) (n h r j : ℕ) : eM D M n h r j = ee D n h r j * Real.exp (-M) := by
  unfold eM ee
  split_ifs
  · rw [sub_eq_add_neg, Real.exp_add]
  · rw [zero_mul]

theorem zM_eq (M : ℝ) (n h r : ℕ) : zM D M n h r = zz D n h r * Real.exp (-M) := by
  unfold zM zz
  rw [add_mul, Finset.sum_mul, sub_eq_add_neg, Real.exp_add]
  simp only [eM_eq]

theorem zM_ne (M : ℝ) (n h r : ℕ) : zM D M n h r ≠ 0 := by
  rw [zM_eq]; exact mul_ne_zero (zz_ne D n h r) (Real.exp_pos _).ne'

/-- The shift leaves the probabilities. -/
theorem eM_div (M : ℝ) (n h r j : ℕ) : eM D M n h r j / zM D M n h r = pn D n h r j := by
  rw [eM_eq, zM_eq, pn, mul_div_mul_right _ _ (Real.exp_pos _).ne']

/-- The shift leaves the sink's probability. -/
theorem sM_div (M : ℝ) (n h r : ℕ) : Real.exp (D.SK h - M) / zM D M n h r = Real.exp (D.SK h) / zz D n h r := by
  rw [zM_eq, sub_eq_add_neg, Real.exp_add, mul_div_mul_right _ _ (Real.exp_pos _).ne']

/-- A sum over 128 lanes of which one half is zero is the sum over the 64 lanes of the other half. -/
theorem lane_sum (b : ℕ) (hb : b < 2) (f : ℕ → ℝ) :
    (∑ l : Fin 128, if (l : ℕ) / 64 = b then f ((l : ℕ) % 64) else 0) = ∑ d : Fin 64, f d := by
  rw [Fin.sum_univ_eq_sum_range (fun l => if l / 64 = b then f (l % 64) else 0) 128,
    Fin.sum_univ_eq_sum_range f 64, show (128 : ℕ) = 64 + 64 from rfl, Finset.sum_range_add]
  have h1 : ∀ x ∈ Finset.range 64, x / 64 = 0 ∧ x % 64 = x ∧ (64 + x) / 64 = 1 ∧ (64 + x) % 64 = x := by
    intro x hx
    have := Finset.mem_range.mp hx
    omega
  have h2 : b = 0 ∨ b = 1 := by omega
  rcases h2 with rfl | rfl
  · have a1 : (∑ x ∈ Finset.range 64, if x / 64 = 0 then f (x % 64) else 0) = ∑ x ∈ Finset.range 64, f x :=
      Finset.sum_congr rfl fun x hx => by rw [(h1 x hx).1, (h1 x hx).2.1, if_pos rfl]
    have a2 : (∑ x ∈ Finset.range 64, if (64 + x) / 64 = 0 then f ((64 + x) % 64) else 0) = 0 :=
      Finset.sum_eq_zero fun x hx => by rw [(h1 x hx).2.2.1, if_neg (by decide)]
    rw [a1, a2, add_zero]
  · have a1 : (∑ x ∈ Finset.range 64, if x / 64 = 1 then f (x % 64) else 0) = 0 :=
      Finset.sum_eq_zero fun x hx => by rw [(h1 x hx).1, if_neg (by decide)]
    have a2 : (∑ x ∈ Finset.range 64, if (64 + x) / 64 = 1 then f ((64 + x) % 64) else 0) = ∑ x ∈ Finset.range 64, f x :=
      Finset.sum_congr rfl fun x hx => by rw [(h1 x hx).2.2.1, (h1 x hx).2.2.2, if_pos rfl]
    rw [a1, a2, zero_add]

end Cert.Attn

end
-- ==== Proof.Inputs.lean ====
module

public import proofs.«01_k».proof.Proof.Spec

@[expose] public section

noncomputable section

/-! The real inputs both programs start from, read off the four argument arrays. -/

namespace Cert.Attn

open Idealize.ShloMosaic

/-- The rotation angle of frequency `d` at the position word `p`. -/
def ang (p : BitVec 32) (d : ℕ) : ℝ := (p.toInt : ℝ) * Real.rpow 10000 (-2 * ((BitVec.ofNat 32 d).toInt : ℝ) * (1 / 64))

theorem ang_eq (p : BitVec 32) (d : ℕ) :
    (FloatOps.sitofp FTy.f32 p : Ideal .f32) * Ideal.pow (Ideal.ofBits FTy.f32 1176256512#32)
      (Ideal.div (Ideal.ofBits FTy.f32 3221225472#32 * (FloatOps.sitofp FTy.f32 (BitVec.ofNat 32 d) : Ideal .f32))
        (Ideal.ofBits FTy.f32 1115684864#32)) = ((ang p d : ℝ) : EReal) := by
  have e1 : Ideal.ofBits FTy.f32 1176256512#32 = ((10000 : ℝ) : EReal) := by
    simp [Ideal.ofBits, Ideal.ieee, -EReal.coe_mul]; norm_num
  have e2 : Ideal.ofBits FTy.f32 3221225472#32 = ((-2 : ℝ) : EReal) := by
    simp [Ideal.ofBits, Ideal.ieee, -EReal.coe_mul]; norm_num
  have e3 : Ideal.ofBits FTy.f32 1115684864#32 = ((64 : ℝ) : EReal) := by
    simp [Ideal.ofBits, Ideal.ieee, -EReal.coe_mul]; norm_num
  have s : ∀ q : BitVec 32, (FloatOps.sitofp FTy.f32 q : Ideal .f32) = ((q.toInt : ℝ) : EReal) := fun _ => rfl
  rw [e1, e2, e3, s, s, ← EReal.coe_mul, Ideal.div_coe (by norm_num), ← EReal.coe_mul, Ideal.pow_coe_coe, ← EReal.coe_mul]
  rfl

/-- The real inputs of the four arrays: rows, positions, sinks, gradient of the output. -/
def inp (x : Fin 8192 → Fin 768 → EReal) (p : Fin 8192 → BitVec 32) (s : Fin 8 → EReal) (g : Fin 8192 → Fin 512 → EReal) : Inp where
  X T k := if h : T < 8192 ∧ k < 768 then (x ⟨T, h.1⟩ ⟨k, h.2⟩).toReal else 0
  C T d := if h : T < 8192 then Real.cos (ang (p ⟨T, h⟩) d) else 0
  S T d := if h : T < 8192 then Real.sin (ang (p ⟨T, h⟩) d) else 0
  SK h := if h' : h < 8 then (s ⟨h, h'⟩).toReal else 0
  DY T k := if h : T < 8192 ∧ k < 512 then (g ⟨T, h.1⟩ ⟨k, h.2⟩).toReal else 0

/-- The arrays that must be finite are. -/
structure Finite (x : Fin 8192 → Fin 768 → EReal) (s : Fin 8 → EReal) (g : Fin 8192 → Fin 512 → EReal) : Prop where
  x : ∀ T k, ∃ r : ℝ, x T k = r
  s : ∀ h, ∃ r : ℝ, s h = r
  g : ∀ T k, ∃ r : ℝ, g T k = r

variable {x : Fin 8192 → Fin 768 → EReal} {p : Fin 8192 → BitVec 32} {s : Fin 8 → EReal} {g : Fin 8192 → Fin 512 → EReal}

theorem Finite.x_eq (H : Finite x s g) (T : Fin 8192) (k : Fin 768) : x T k = (((inp x p s g).X T k : ℝ) : EReal) := by
  obtain ⟨r, hr⟩ := H.x T k
  simp [inp, hr]

theorem Finite.s_eq (H : Finite x s g) (h : Fin 8) : s h = (((inp x p s g).SK h : ℝ) : EReal) := by
  obtain ⟨r, hr⟩ := H.s h
  simp [inp, hr]

theorem Finite.g_eq (H : Finite x s g) (T : Fin 8192) (k : Fin 512) : g T k = (((inp x p s g).DY T k : ℝ) : EReal) := by
  obtain ⟨r, hr⟩ := H.g T k
  simp [inp, hr]

theorem inp_C (T : Fin 8192) (d : ℕ) : (inp x p s g).C T d = Real.cos (ang (p T) d) := by simp [inp]
theorem inp_S (T : Fin 8192) (d : ℕ) : (inp x p s g).S T d = Real.sin (ang (p T) d) := by simp [inp]

end Cert.Attn

end
-- ==== Proof.Tables.lean ====
module

public import proofs.«01_k».proof.Proof.Sweep
public import proofs.«01_k».proof.Proof.Inputs
public import Idealize.ShloMosaic.Lib.Claim
public import Idealize.ShloMosaic.Lib.Pointwise

@[expose] public section

set_option maxRecDepth 16384

noncomputable section

/-! The tables of cosines and sines that the kernel's host line computes, at an index. -/

namespace Cert.KernelIdeal.Sweep

open Idealize.ShloMosaic Idealize.ShloMosaic.TcCoe Idealize.ShloMosaic.Tactic
open Cert.KernelIdeal Cert.KernelIdeal.Gen Cert.Attn

/-- The angles the host line computes from the positions. -/
def angles (x1 : (⟨S1x8192, .i32⟩ : BufTy).Contents (Elt Ideal)) : FVec Ideal S8192x32 .f32 :=
  mulf (broadcastInDim S8192x32 ![0, 1] bcast_S8192x1_S8192x32_0_1 (broadcastInDim S8192x1 ![0] bcast_S8192_S8192x1_0
      (shapeCast S8192 (sitofp .f32 x1) shapeCasts_S1x8192_S8192)))
    (broadcastInDim S8192x32 ![0, 1] bcast_S1x32_S8192x32_0_1 (broadcastInDim S1x32 ![1] bcast_S32_S1x32_1
      (Host.powf (broadcastInDim S32 ![] bcast_S_S32 (constant S_ .f32 0x461C4000#32))
        (Host.divf (mulf (broadcastInDim S32 ![] bcast_S_S32 (constant S_ .f32 0xC0000000#32)) (sitofp .f32 (iotaInDim S32 32 0)))
          (broadcastInDim S32 ![] bcast_S_S32 (constant S_ .f32 0x42800000#32))))))

/-- The host line up to the cosines and sines of the angles. -/
def headOps : List (HloOp τ sig (Elt Ideal)) := (hostOps0 (F := Ideal)).take 19
/-- The rest of the host line: the two tables. -/
def tailOps : List (HloOp τ sig (Elt Ideal)) := (hostOps0 (F := Ideal)).drop 19

variable (σ : Valuation τ sig (Elt Ideal))

set_option maxHeartbeats 1000000 in
theorem head_cos : StableHlo.after headOps σ (Proc.devRef .tc main_v14) = Host.cos (angles (σ (Proc.devRef .tc main_arg1))) := by
  simp only [headOps, hostOps0, List.take_succ_cons, List.take_zero]
  after_results_simp
  rfl

set_option maxHeartbeats 1000000 in
theorem head_sin : StableHlo.after headOps σ (Proc.devRef .tc main_v15) = Host.sin (angles (σ (Proc.devRef .tc main_arg1))) := by
  simp only [headOps, hostOps0, List.take_succ_cons, List.take_zero]
  after_results_simp
  rfl

set_option maxHeartbeats 1000000 in
theorem tail_cos : StableHlo.after tailOps σ (Proc.devRef .tc main_v16) =
    (concatenate S8192x128 1 [⟨S8192x32, (σ (Proc.devRef .tc main_v14) : FVec Ideal S8192x32 .f32)⟩, ⟨S8192x32, (σ (Proc.devRef .tc main_v14) : FVec Ideal S8192x32 .f32)⟩,
      ⟨S8192x32, (σ (Proc.devRef .tc main_v14) : FVec Ideal S8192x32 .f32)⟩, ⟨S8192x32, (σ (Proc.devRef .tc main_v14) : FVec Ideal S8192x32 .f32)⟩]
      concatenates_S8192x32_S8192x32_S8192x32_S8192x32_S8192x128_d1 : FVec Ideal S8192x128 .f32) := by
  simp only [tailOps, hostOps0, List.drop_succ_cons, List.drop_zero]
  after_results_simp
  rfl
set_option maxHeartbeats 1000000 in
theorem tail_sin : StableHlo.after tailOps σ (Proc.devRef .tc main_v18) =
    (concatenate S8192x128 1 [⟨S8192x32, (Host.negf (σ (Proc.devRef .tc main_v15) : FVec Ideal S8192x32 .f32) : FVec Ideal S8192x32 .f32)⟩, ⟨S8192x32, (σ (Proc.devRef .tc main_v15) : FVec Ideal S8192x32 .f32)⟩,
      ⟨S8192x32, (Host.negf (σ (Proc.devRef .tc main_v15) : FVec Ideal S8192x32 .f32) : FVec Ideal S8192x32 .f32)⟩, ⟨S8192x32, (σ (Proc.devRef .tc main_v15) : FVec Ideal S8192x32 .f32)⟩]
      concatenates_S8192x32_S8192x32_S8192x32_S8192x32_S8192x128_d1 : FVec Ideal S8192x128 .f32) := by
  simp only [tailOps, hostOps0, List.drop_succ_cons, List.drop_zero]
  after_results_simp
  rfl

/-- The angle of frequency `d` at row `T`. -/
theorem angles_apply (x1 : (⟨S1x8192, .i32⟩ : BufTy).Contents (Elt Ideal)) (T : Fin 8192) (d : Fin 32) :
    angles x1 (ix2 T d) = ((ang (x1 (ix2 0 T)) d : ℝ) : EReal) := by
  pointwise [angles]
  exact ang_eq _ _

variable (m : (ℓ : Loc nD τ sig) → Buf (Elt Ideal) ℓ) (c : Dev nD)

theorem line_eq (b : Ref sig .tc) :
    V m c b = StableHlo.after tailOps (StableHlo.after headOps fun b => m (c, b)) (Proc.devRef .tc b) := rfl

/-- The table of cosines at row `T`, lane `l`. -/
theorem cos_table (T : Fin 8192) (l : Fin 128) :
    V m c main_v16 (ix2 T l) = ((Real.cos (ang (m (c, main_arg1) (ix2 0 T)) (l % 32)) : ℝ) : EReal) := by
  rw [line_eq, tail_cos, head_cos]
  pointwise []
  have hl := l.isLt
  simp only [angles_apply, Ideal.cos_coe]
  split_ifs <;> congr 4 <;> omega

/-- The table of sines at row `T`, lane `l`: the first half of a head is negated. -/
theorem sin_table (T : Fin 8192) (l : Fin 128) :
    V m c main_v18 (ix2 T l) = (((if (l : ℕ) % 64 < 32 then -Real.sin (ang (m (c, main_arg1) (ix2 0 T)) (l % 32))
      else Real.sin (ang (m (c, main_arg1) (ix2 0 T)) (l % 32))) : ℝ) : EReal) := by
  rw [line_eq, tail_sin, head_sin]
  pointwise []
  have hl := l.isLt
  simp only [angles_apply, Ideal.sin_coe, ← EReal.coe_neg]
  have e : ∀ a : ℕ, a = (l : ℕ) % 32 → ang (m (c, Proc.tc.devRef main_arg1) (ix2 0 T)) a =
    ang (m (c, Proc.tc.devRef main_arg1) (ix2 0 T)) ((l : ℕ) % 32) := fun a h => by rw [h]
  split_ifs <;> first | omega | rw [e _ (by omega)]

end Cert.KernelIdeal.Sweep

end
-- ==== Proof.Block.lean ====
module

public import proofs.«01_k».proof.Proof.Gen.KernelIdeal.Skeleton
public import proofs.«01_k».proof.Proof.Spec

@[expose] public section

set_option maxRecDepth 16384

noncomputable section

/-! What one point computes: the payloads between its loads and its stores, grouped by what they mean, and the first of
    them (the roped queries, keys and values, head by head) read over the reals. -/

namespace Cert.KernelIdeal.Block

open Idealize.ShloMosaic Cert.KernelIdeal Cert.KernelIdeal.Gen Cert.Attn

/-- The lane numbers of 128 rows. -/
abbrev lanes : IVec S128x128 32 := iota .tc S128x128 32 [1] iota_S128x128_d1_w32

/-- The lane numbers of 256 rows. -/
abbrev lanesW : IVec S256x128 32 := iota .tc S256x128 32 [1] iota_S256x128_d1_w32

/-- The roped and scaled queries of the block. -/
def queries (x : FVec Ideal S128x768 .f32) (cs sn : FVec Ideal S128x128 .f32) : FVec Ideal S128x512 .f32 :=
  k0_pay4 (k0_pay3 x cs sn)

/-- The queries head by head, each in its half of the lanes. -/
def queryHeads (q : FVec Ideal S128x512 .f32) : FVec Ideal S8x128x128 .bf16 :=
  k0_pay25 (k0_pay15 q k0_pay11 k0_pay12 k0_pay13) (k0_pay16 q k0_pay11 k0_pay12 k0_pay13)
    (k0_pay17 q k0_pay11 k0_pay12 k0_pay13) (k0_pay18 q k0_pay11 k0_pay12 k0_pay13)
    (k0_pay19 q k0_pay11 k0_pay12 k0_pay13) (k0_pay20 q k0_pay11 k0_pay12 k0_pay13)
    (k0_pay21 q k0_pay11 k0_pay12 k0_pay13) (k0_pay22 k0_pay11 k0_pay12 k0_pay13) (k0_pay23 q) k0_pay24

/-- The roped keys of the block's window. -/
def keys (x xp : FVec Ideal S128x768 .f32) (cs sn csp snp : FVec Ideal S128x128 .f32) : FVec Ideal S256x128 .f32 :=
  k0_pay9 (k0_pay5 xp csp snp) (k0_pay6 x) (k0_pay7 sn) (k0_pay8 x cs) lanes 64#32 0#1

/-- The keys head by head. -/
def keyHeads (k : FVec Ideal S256x128 .f32) : FVec Ideal S8x256x128 .bf16 :=
  k0_pay31 k k0_pay26 (k0_pay27 k) (k0_pay28 k) (k0_pay29 k) k0_pay30

/-- The values of the block's window. -/
def values (x xp : FVec Ideal S128x768 .f32) : FVec Ideal S256x128 .f32 := k0_pay10 x xp

/-- The values head by head. -/
def valueHeads (v : FVec Ideal S256x128 .f32) : FVec Ideal S8x256x128 .bf16 :=
  k0_pay43 v (k0_pay34 lanesW 64#32 k0_pay32 k0_pay33 1#32 0#32)
    (k0_pay36 v lanesW 64#32 k0_pay32 k0_pay33 1#32 0#32) (k0_pay37 v lanesW 64#32 k0_pay32 k0_pay33 1#32 0#32)
    (k0_pay38 v lanesW 64#32 k0_pay32 k0_pay33 1#32 0#32) (k0_pay39 v lanesW 64#32 k0_pay32 k0_pay33 1#32 0#32)
    (k0_pay40 v lanesW 64#32 k0_pay32 k0_pay33 1#32 0#32) (k0_pay41 v lanesW 64#32 k0_pay32 k0_pay33 1#32 0#32)
    (k0_pay42 v lanesW 64#32 k0_pay32 k0_pay33 1#32 0#32) 1#32

/-- The output's gradient head by head. -/
def gradHeads (dy : FVec Ideal S128x512 .f32) : FVec Ideal S8x128x128 .bf16 :=
  k0_pay67 dy (k0_pay60 lanes 64#32 k0_pay58 k0_pay59 1#1) (k0_pay61 dy lanes 64#32 k0_pay58 k0_pay59 1#1)
    (k0_pay62 dy lanes 64#32 k0_pay58 k0_pay59 1#1) (k0_pay63 dy lanes 64#32 k0_pay58 k0_pay59 1#1)
    (k0_pay64 dy lanes 64#32 k0_pay58 k0_pay59 1#1) (k0_pay65 dy lanes 64#32 k0_pay58 k0_pay59 1#1)
    (k0_pay66 dy lanes 64#32 k0_pay58 k0_pay59 1#1) 0#32

/-- The scale is an eighth. -/
theorem ofBits_eighth : Ideal.ofBits .f32 0x3E000000#32 = ((1 / 8 : ℝ) : EReal) := by
  simp [Ideal.ofBits, Ideal.ieee, -EReal.coe_mul]; norm_num

/-- The lane test of the rotation, by number: the lower half of a head. -/
theorem lane_low_fin : ∀ j : Fin 512,
    (IntOp.cmpi CmpIPredicate.slt
            (Scalar.select
              (IntOp.andi
                (IntOp.xori
                  (IntOp.cmpi CmpIPredicate.slt
                    (IntOp.remsi ArithUnit.vector (BitVec.ofNat 32 ↑j)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 ↑j)
                    (Scalar.select (Scalar.cmpi CmpIPredicate.eq 64#32 0#32) 1#32 64#32))
                  0#32))
              (IntOp.addi
                (IntOp.remsi ArithUnit.vector (BitVec.ofNat 32 ↑j)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 ↑j)
                (Scalar.select (Scalar.cmpi CmpIPredicate.eq 64#32 0#32) 1#32 64#32)))
            32#32) = if (j : ℕ) % 64 < 32 then 1#1 else 0#1 := by decide +kernel

/-- The lane test of the rotation: the lower half of a head. -/
theorem lane_low (j : ℕ) (hj : j < 512) :
    (IntOp.cmpi CmpIPredicate.slt
            (Scalar.select
              (IntOp.andi
                (IntOp.xori
                  (IntOp.cmpi CmpIPredicate.slt
                    (IntOp.remsi ArithUnit.vector (BitVec.ofNat 32 j)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 j)
                    (Scalar.select (Scalar.cmpi CmpIPredicate.eq 64#32 0#32) 1#32 64#32))
                  0#32))
              (IntOp.addi
                (IntOp.remsi ArithUnit.vector (BitVec.ofNat 32 j)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 j)
                (Scalar.select (Scalar.cmpi CmpIPredicate.eq 64#32 0#32) 1#32 64#32)))
            32#32) = if j % 64 < 32 then 1#1 else 0#1 := lane_low_fin ⟨j, hj⟩

/-- The lane test of the rotation in its other spelling, by number: the lower half of a head. -/
theorem lane_low_lit_fin : ∀ j : Fin 512,
    (IntOp.cmpi CmpIPredicate.slt
            (Scalar.select
              (IntOp.andi
                (IntOp.xori
                  (IntOp.cmpi CmpIPredicate.slt
                    (IntOp.remsi ArithUnit.vector (BitVec.ofNat 32 ↑j)
                      64#32)
                    0#32)
                  (Scalar.cmpi CmpIPredicate.slt 64#32
                    0#32))
                (IntOp.cmpi CmpIPredicate.ne
                  (IntOp.remsi ArithUnit.vector (BitVec.ofNat 32 ↑j)
                    64#32)
                  0#32))
              (IntOp.addi
                (IntOp.remsi ArithUnit.vector (BitVec.ofNat 32 ↑j)
                  64#32)
                64#32)
              (IntOp.remsi ArithUnit.vector (BitVec.ofNat 32 ↑j)
                64#32))
            32#32) = if (j : ℕ) % 64 < 32 then 1#1 else 0#1 := by decide +kernel

/-- The lane test of the rotation in its other spelling: the lower half of a head. -/
theorem lane_low_lit (j : ℕ) (hj : j < 512) :
    (IntOp.cmpi CmpIPredicate.slt
            (Scalar.select
              (IntOp.andi
                (IntOp.xori
                  (IntOp.cmpi CmpIPredicate.slt
                    (IntOp.remsi ArithUnit.vector (BitVec.ofNat 32 j)
                      64#32)
                    0#32)
                  (Scalar.cmpi CmpIPredicate.slt 64#32
                    0#32))
                (IntOp.cmpi CmpIPredicate.ne
                  (IntOp.remsi ArithUnit.vector (BitVec.ofNat 32 j)
                    64#32)
                  0#32))
              (IntOp.addi
                (IntOp.remsi ArithUnit.vector (BitVec.ofNat 32 j)
                  64#32)
                64#32)
              (IntOp.remsi ArithUnit.vector (BitVec.ofNat 32 j)
                64#32))
            32#32) = if j % 64 < 32 then 1#1 else 0#1 := lane_low_lit_fin ⟨j, hj⟩

/-- A choice by a lane test. -/
theorem select_ite {α : Type} (p : Prop) [Decidable p] (a b : α) :
    Scalar.select (if p then 1#1 else 0#1) a b = if p then a else b := by
  split_ifs <;> rfl

section Inputs
variable {X C S : ℕ → ℕ → ℝ} {x xp : FVec Ideal S128x768 .f32} {cs sn csp snp : FVec Ideal S128x128 .f32}

/-- A table of four equal parts of 128 columns, read at a column. -/
theorem ladder {f : ℕ → ℝ} (hf : ∀ a, f (a + 128) = f a) (l : ℕ) (hl : l < 512) :
    (if h : l < 128 then ((f l : ℝ) : EReal)
      else if h : l - 128 < 128 then ((f (l - 128) : ℝ) : EReal)
      else if h : l - 128 - 128 < 128 then ((f (l - 128 - 128) : ℝ) : EReal)
      else ((f (l - 128 - 128 - 128) : ℝ) : EReal)) = ((f l : ℝ) : EReal) := by
  have e : ∀ a, 128 ≤ a → f (a - 128) = f a := fun a ha => by
    rw [← hf (a - 128)]; congr 1; omega
  split_ifs
  · rfl
  · rw [e l (by omega)]
  · rw [e (l - 128) (by omega), e l (by omega)]
  · rw [e (l - 128 - 128) (by omega), e (l - 128) (by omega), e l (by omega)]

/-- The queries over the reals. -/
theorem queries_apply (hx : ∀ (r : Fin 128) (c : Fin 768), x (ix2 r c) = ((X r c : ℝ) : EReal))
    (hc : ∀ r l : Fin 128, cs (ix2 r l) = ((C r (l % 32) : ℝ) : EReal))
    (hs : ∀ r l : Fin 128, sn (ix2 r l) = (((if (l : ℕ) % 64 < 32 then -S r (l % 32) else S r (l % 32)) : ℝ) : EReal))
    (r : Fin 128) (l : Fin 512) :
    queries x cs sn (ix2 r l) =
      ((ropeVal (fun d => X r (64 * (l / 64) + d)) (C r) (S r) (l % 64) * (1 / 8) : ℝ) : EReal) := by
  pointwise [queries, k0_pay4, k0_pay3]
  have hl := l.isLt
  rw [lane_low l hl, ofBits_eighth]
  simp only [hx, hc, hs]
  rw [ladder (f := fun a => C r (a % 32)) (fun a => by congr 1; omega) l hl,
    ladder (f := fun a => if a % 64 < 32 then -S r (a % 32) else S r (a % 32))
      (fun a => by rw [show (a + 128) % 64 = a % 64 by omega, show (a + 128) % 32 = a % 32 by omega]) l hl,
    select_ite]
  unfold ropeVal
  have e0 : 64 * ((l : ℕ) / 64) + (l : ℕ) % 64 = l := Nat.div_add_mod _ _
  by_cases hlow : (l : ℕ) % 64 < 32
  · rw [if_pos hlow, if_pos hlow, if_pos hlow]
    dsimp only
    rw [e0, show ((l : ℕ) + 512 - 480) % 512 = 64 * ((l : ℕ) / 64) + ((l : ℕ) % 64 + 32) by omega,
      show (l : ℕ) % 32 = (l : ℕ) % 64 by omega, ← EReal.coe_mul, ← EReal.coe_mul, ← EReal.coe_add, ← EReal.coe_mul]
    congr 1; ring
  · rw [if_neg hlow, if_neg hlow, if_neg hlow]
    dsimp only
    rw [e0, show ((l : ℕ) + 512 - 32) % 512 = 64 * ((l : ℕ) / 64) + ((l : ℕ) % 64 - 32) by omega,
      show (l : ℕ) % 32 = (l : ℕ) % 64 - 32 by omega, ← EReal.coe_mul, ← EReal.coe_mul, ← EReal.coe_add, ← EReal.coe_mul]

/-- The half of the lanes a lane lies in. -/
theorem half_lane (r l : Fin 128) : k0_pay14 k0_pay11 k0_pay12 k0_pay13 (ix2 r l) = if (l : ℕ) / 64 = 0 then 0#32 else 1#32 := by
  pointwise [k0_pay14, k0_pay11, k0_pay12, k0_pay13]
  revert l
  decide +kernel

/-- The half of the lanes a lane lies in, for the windows of keys. -/
theorem half_lane_k (r : Fin 256) (l : Fin 128) : k0_pay26 (ix2 r l) = if (l : ℕ) / 64 = 0 then 0#32 else 1#32 := by
  pointwise [k0_pay26]
  revert l
  decide +kernel

/-- The same for the windows of values. -/
theorem half_lane_v (r : Fin 256) (l : Fin 128) : k0_pay34 lanesW 64#32 k0_pay32 k0_pay33 1#32 0#32 (ix2 r l) =
    if (l : ℕ) / 64 = 0 then 0#32 else 1#32 := by
  pointwise [k0_pay34, k0_pay32, k0_pay33]
  revert l
  decide +kernel

/-- The same for the output's gradient. -/
theorem half_lane_d (r l : Fin 128) : k0_pay60 lanes 64#32 k0_pay58 k0_pay59 1#1 (ix2 r l) =
    if (l : ℕ) / 64 = 0 then 0#32 else 1#32 := by
  pointwise [k0_pay60, k0_pay58, k0_pay59]
  revert l
  decide +kernel

/-- A value kept in the lower half of the lanes. -/
theorem pick_low {n : ℕ} {a : EReal} {v : ℝ} (ha : n = 0 → a = (v : EReal)) :
    Scalar.select (IntOp.cmpi CmpIPredicate.eq (if n = 0 then 0#32 else 1#32) 0#32) a 0 =
      (((if n = 0 then v else 0) : ℝ) : EReal) := by
  by_cases h : n = 0
  · rw [if_pos h, if_pos h]; exact ha h
  · rw [if_neg h, if_neg h]; rfl

/-- A value kept in the upper half of the lanes. -/
theorem pick_high {n : ℕ} {a : EReal} {v : ℝ} (hn : n < 2) (ha : n = 1 → a = (v : EReal)) :
    Scalar.select (IntOp.cmpi CmpIPredicate.eq (if n = 0 then 0#32 else 1#32) 1#32) a 0 =
      (((if n = 1 then v else 0) : ℝ) : EReal) := by
  by_cases h : n = 0
  · rw [if_pos h, if_neg (by omega)]; rfl
  · rw [if_neg h, if_pos (by omega)]; exact ha (by omega)

/-- The queries head by head over the reals. -/
theorem queryHeads_apply {Q : ℕ → ℕ → ℝ} {q : FVec Ideal S128x512 .f32}
    (hq : ∀ (r : Fin 128) (c : Fin 512), q (ix2 r c) = ((Q r c : ℝ) : EReal)) (h : Fin 8) (r l : Fin 128) :
    queryHeads q (ix3 h r l) = (((if (l : ℕ) / 64 = (h : ℕ) % 2 then Q r (64 * h + l % 64) else 0) : ℝ) : EReal) := by
  have hl := l.isLt
  fin_vals h with hk
  all_goals
    pointwise [queryHeads, k0_pay25, k0_pay15, k0_pay16, k0_pay17, k0_pay18, k0_pay19, k0_pay20, k0_pay21, k0_pay22, k0_pay23, k0_pay24]
    simp only [hk, Nat.reduceSub, Nat.reduceLT, ↓reduceDIte]
    rw [half_lane]
    first
      | exact pick_low fun h0 => (hq _ _).trans (congrArg (fun a : ℕ => ((Q r a : ℝ) : EReal)) (by first | omega | (simp only; omega)))
      | exact pick_high (by omega) fun h0 => (hq _ _).trans (congrArg (fun a : ℕ => ((Q r a : ℝ) : EReal)) (by first | omega | (simp only; omega)))

/-- The output's gradient head by head over the reals. -/
theorem gradHeads_apply {Q : ℕ → ℕ → ℝ} {q : FVec Ideal S128x512 .f32}
    (hq : ∀ (r : Fin 128) (c : Fin 512), q (ix2 r c) = ((Q r c : ℝ) : EReal)) (h : Fin 8) (r l : Fin 128) :
    gradHeads q (ix3 h r l) = (((if (l : ℕ) / 64 = (h : ℕ) % 2 then Q r (64 * h + l % 64) else 0) : ℝ) : EReal) := by
  have hl := l.isLt
  fin_vals h with hk
  all_goals
    pointwise [gradHeads, k0_pay67, k0_pay61, k0_pay62, k0_pay63, k0_pay64, k0_pay65, k0_pay66]
    simp only [hk, Nat.reduceSub, Nat.reduceLT, ↓reduceDIte]
    rw [half_lane_d]
    first
      | exact pick_low fun h0 => (hq _ _).trans (congrArg (fun a : ℕ => ((Q r a : ℝ) : EReal)) (by first | omega | (simp only; omega)))
      | exact pick_high (by omega) fun h0 => (hq _ _).trans (congrArg (fun a : ℕ => ((Q r a : ℝ) : EReal)) (by first | omega | (simp only; omega)))

/-- The keys head by head over the reals. -/
theorem keyHeads_apply {K : ℕ → ℕ → ℝ} {k : FVec Ideal S256x128 .f32}
    (hq : ∀ (r : Fin 256) (c : Fin 128), k (ix2 r c) = ((K r c : ℝ) : EReal)) (h : Fin 8) (r : Fin 256) (l : Fin 128) :
    keyHeads k (ix3 h r l) = (((if (l : ℕ) / 64 = (h : ℕ) % 2 then K r (64 * (h / 4) + l % 64) else 0) : ℝ) : EReal) := by
  have hl := l.isLt
  fin_vals h with hk
  all_goals
    pointwise [keyHeads, k0_pay31, k0_pay27, k0_pay28, k0_pay29, k0_pay30]
    simp only [hk, Nat.reduceSub, Nat.reduceLT, ↓reduceDIte]
    rw [half_lane_k]
    first
      | exact pick_low fun h0 => (hq _ _).trans (congrArg (fun a : ℕ => ((K r a : ℝ) : EReal)) (by first | omega | (simp only; omega)))
      | exact pick_high (by omega) fun h0 => (hq _ _).trans (congrArg (fun a : ℕ => ((K r a : ℝ) : EReal)) (by first | omega | (simp only; omega)))

/-- The values head by head over the reals. -/
theorem valueHeads_apply {K : ℕ → ℕ → ℝ} {k : FVec Ideal S256x128 .f32}
    (hq : ∀ (r : Fin 256) (c : Fin 128), k (ix2 r c) = ((K r c : ℝ) : EReal)) (h : Fin 8) (r : Fin 256) (l : Fin 128) :
    valueHeads k (ix3 h r l) = (((if (l : ℕ) / 64 = (h : ℕ) % 2 then K r (64 * (h / 4) + l % 64) else 0) : ℝ) : EReal) := by
  have hl := l.isLt
  fin_vals h with hk
  all_goals
    pointwise [valueHeads, k0_pay43, k0_pay35, k0_pay36, k0_pay37, k0_pay38, k0_pay39, k0_pay40, k0_pay41, k0_pay42]
    simp only [hk, Nat.reduceSub, Nat.reduceLT, ↓reduceDIte]
    rw [half_lane_v]
    first
      | exact pick_low fun h0 => (hq _ _).trans (congrArg (fun a : ℕ => ((K r a : ℝ) : EReal)) (by first | omega | (simp only; omega)))
      | exact pick_high (by omega) fun h0 => (hq _ _).trans (congrArg (fun a : ℕ => ((K r a : ℝ) : EReal)) (by first | omega | (simp only; omega)))

/-- The values of the window over the reals. -/
theorem values_apply {XP : ℕ → ℕ → ℝ} (hx : ∀ (r : Fin 128) (c : Fin 768), x (ix2 r c) = ((X r c : ℝ) : EReal))
    (hp : ∀ (r : Fin 128) (c : Fin 768), xp (ix2 r c) = ((XP r c : ℝ) : EReal)) (j : Fin 256) (l : Fin 128) :
    values x xp (ix2 j l) = (((if (j : ℕ) < 128 then XP j (640 + l) else X (j - 128) (640 + l)) : ℝ) : EReal) := by
  pointwise [values, k0_pay10]
  simp only [hx, hp]
  split_ifs <;> rfl

/-- One half of the window's keys: 128 rows roped. -/
theorem rope_row {f c s : ℕ → ℝ} (l : ℕ) (hl : l < 128) :
    ((f l : ℝ) : EReal) * ((c (l % 32) : ℝ) : EReal) + Scalar.select (if l % 64 < 32 then 1#1 else 0#1) ((f ((l + 128 - 96) % 128) : ℝ) : EReal) ((f ((l + 128 - 32) % 128) : ℝ) : EReal)
      * (((if l % 64 < 32 then -s (l % 32) else s (l % 32)) : ℝ) : EReal) =
    ((ropeVal (fun d => f (64 * (l / 64) + d)) c s (l % 64) : ℝ) : EReal) := by
  rw [select_ite]
  unfold ropeVal
  have e0 : 64 * (l / 64) + l % 64 = l := Nat.div_add_mod _ _
  by_cases hlow : l % 64 < 32
  · rw [if_pos hlow, if_pos hlow, if_pos hlow]
    dsimp only
    rw [e0, show (l + 128 - 96) % 128 = 64 * (l / 64) + (l % 64 + 32) by omega,
      show l % 32 = l % 64 by omega, ← EReal.coe_mul, ← EReal.coe_mul, ← EReal.coe_add]
    congr 1; ring
  · rw [if_neg hlow, if_neg hlow, if_neg hlow]
    dsimp only
    rw [e0, show (l + 128 - 32) % 128 = 64 * (l / 64) + (l % 64 - 32) by omega,
      show l % 32 = l % 64 - 32 by omega, ← EReal.coe_mul, ← EReal.coe_mul, ← EReal.coe_add]

/-- The roped keys of the window over the reals. -/
theorem keys_apply {XP CP SP : ℕ → ℕ → ℝ} (hx : ∀ (r : Fin 128) (c : Fin 768), x (ix2 r c) = ((X r c : ℝ) : EReal))
    (hp : ∀ (r : Fin 128) (c : Fin 768), xp (ix2 r c) = ((XP r c : ℝ) : EReal))
    (hc : ∀ r l : Fin 128, cs (ix2 r l) = ((C r (l % 32) : ℝ) : EReal))
    (hs : ∀ r l : Fin 128, sn (ix2 r l) = (((if (l : ℕ) % 64 < 32 then -S r (l % 32) else S r (l % 32)) : ℝ) : EReal))
    (hcp : ∀ r l : Fin 128, csp (ix2 r l) = ((CP r (l % 32) : ℝ) : EReal))
    (hsp : ∀ r l : Fin 128, snp (ix2 r l) = (((if (l : ℕ) % 64 < 32 then -SP r (l % 32) else SP r (l % 32)) : ℝ) : EReal))
    (j : Fin 256) (l : Fin 128) :
    keys x xp cs sn csp snp (ix2 j l) =
      (((if (j : ℕ) < 128 then ropeVal (fun d => XP j (512 + (64 * (l / 64) + d))) (CP j) (SP j) (l % 64)
        else ropeVal (fun d => X (j - 128) (512 + (64 * (l / 64) + d))) (C (j - 128)) (S (j - 128)) (l % 64)) : ℝ) : EReal) := by
  pointwise [keys, k0_pay9, k0_pay5, k0_pay6, k0_pay7, k0_pay8]
  simp only [hx, hp, hc, hs, hcp, hsp]
  have hl := l.isLt
  by_cases h : (j : ℕ) < 128
  · rw [dif_pos h, if_pos h, lane_low l (by omega)]
    exact rope_row (f := fun a => XP j (512 + a)) (c := CP j) (s := SP j) l hl
  · rw [dif_neg h, if_neg h, lane_low_lit l (by omega)]
    exact rope_row (f := fun a => X (j - 128) (512 + a)) (c := C (j - 128)) (s := S (j - 128)) l hl

end Inputs

end Cert.KernelIdeal.Block

end
-- ==== Proof.Grads.lean ====
module

public import proofs.«01_k».proof.Proof.Block

@[expose] public section

set_option maxRecDepth 16384

noncomputable section

/-! The gradients of one point over the reals: the scores', the queries', the keys', the values', the sinks'. -/

namespace Cert.KernelIdeal.Block

open Idealize.ShloMosaic Cert.KernelIdeal Cert.KernelIdeal.Gen Cert.Attn

/-- The probabilities' gradients. -/
def probGrads (v : FVec Ideal S8x256x128 .bf16) (dy : FVec Ideal S128x512 .f32) : FVec Ideal S8x128x256 .f32 :=
  k0_pay68 v
    dy (k0_pay60 lanes 64#32 k0_pay58 k0_pay59 1#1) (k0_pay61 dy lanes 64#32 k0_pay58 k0_pay59 1#1) (k0_pay62 dy lanes 64#32 k0_pay58 k0_pay59 1#1) (k0_pay63 dy lanes 64#32 k0_pay58 k0_pay59 1#1) (k0_pay64 dy lanes 64#32 k0_pay58 k0_pay59 1#1) (k0_pay65 dy lanes 64#32 k0_pay58 k0_pay59 1#1) (k0_pay66 dy lanes 64#32 k0_pay58 k0_pay59 1#1) 0#32

/-- The rows' sums of probability times gradient. -/
def rowSums (v : FVec Ideal S8x256x128 .bf16) (ps : FVec Ideal S8x128x256 .f32) (dy : FVec Ideal S128x512 .f32) :
    FVec Ideal S8x128x1 .f32 := k0_pay69 v ps
    dy (k0_pay60 lanes 64#32 k0_pay58 k0_pay59 1#1) (k0_pay61 dy lanes 64#32 k0_pay58 k0_pay59 1#1) (k0_pay62 dy lanes 64#32 k0_pay58 k0_pay59 1#1) (k0_pay63 dy lanes 64#32 k0_pay58 k0_pay59 1#1) (k0_pay64 dy lanes 64#32 k0_pay58 k0_pay59 1#1) (k0_pay65 dy lanes 64#32 k0_pay58 k0_pay59 1#1) (k0_pay66 dy lanes 64#32 k0_pay58 k0_pay59 1#1) 0#32

/-- The scores' gradients. -/
def scoreGrads (v : FVec Ideal S8x256x128 .bf16) (ps : FVec Ideal S8x128x256 .f32) (dy : FVec Ideal S128x512 .f32) :
    FVec Ideal S8x128x256 .bf16 := k0_pay70 v ps
    dy (k0_pay60 lanes 64#32 k0_pay58 k0_pay59 1#1) (k0_pay61 dy lanes 64#32 k0_pay58 k0_pay59 1#1) (k0_pay62 dy lanes 64#32 k0_pay58 k0_pay59 1#1) (k0_pay63 dy lanes 64#32 k0_pay58 k0_pay59 1#1) (k0_pay64 dy lanes 64#32 k0_pay58 k0_pay59 1#1) (k0_pay65 dy lanes 64#32 k0_pay58 k0_pay59 1#1) (k0_pay66 dy lanes 64#32 k0_pay58 k0_pay59 1#1) 0#32

/-- The sinks' shares, row by row. -/
def sinkRows (v : FVec Ideal S8x256x128 .bf16) (es rl : FVec Ideal S8x128x1 .f32) (ps : FVec Ideal S8x128x256 .f32)
    (dy : FVec Ideal S128x512 .f32) : FVec Ideal S8x128x1 .f32 := k0_pay71 v es rl ps
    dy (k0_pay60 lanes 64#32 k0_pay58 k0_pay59 1#1) (k0_pay61 dy lanes 64#32 k0_pay58 k0_pay59 1#1) (k0_pay62 dy lanes 64#32 k0_pay58 k0_pay59 1#1) (k0_pay63 dy lanes 64#32 k0_pay58 k0_pay59 1#1) (k0_pay64 dy lanes 64#32 k0_pay58 k0_pay59 1#1) (k0_pay65 dy lanes 64#32 k0_pay58 k0_pay59 1#1) (k0_pay66 dy lanes 64#32 k0_pay58 k0_pay59 1#1) 0#32

/-- The queries' gradients, head by head. -/
def queryGrads (k v : FVec Ideal S8x256x128 .bf16) (ps : FVec Ideal S8x128x256 .f32) (dy : FVec Ideal S128x512 .f32) :
    FVec Ideal S8x128x128 .f32 := k0_pay72 k v ps
    dy (k0_pay60 lanes 64#32 k0_pay58 k0_pay59 1#1) (k0_pay61 dy lanes 64#32 k0_pay58 k0_pay59 1#1) (k0_pay62 dy lanes 64#32 k0_pay58 k0_pay59 1#1) (k0_pay63 dy lanes 64#32 k0_pay58 k0_pay59 1#1) (k0_pay64 dy lanes 64#32 k0_pay58 k0_pay59 1#1) (k0_pay65 dy lanes 64#32 k0_pay58 k0_pay59 1#1) (k0_pay66 dy lanes 64#32 k0_pay58 k0_pay59 1#1) 0#32

/-- The keys' gradients, head by head. -/
def keyGrads (q : FVec Ideal S8x128x128 .bf16) (v : FVec Ideal S8x256x128 .bf16) (ps : FVec Ideal S8x128x256 .f32)
    (dy : FVec Ideal S128x512 .f32) : FVec Ideal S8x256x128 .f32 :=
  k0_pay77 q (scoreGrads v ps dy)
    (k0_pay73 q v ps
    dy (k0_pay60 lanes 64#32 k0_pay58 k0_pay59 1#1) (k0_pay61 dy lanes 64#32 k0_pay58 k0_pay59 1#1) (k0_pay62 dy lanes 64#32 k0_pay58 k0_pay59 1#1) (k0_pay63 dy lanes 64#32 k0_pay58 k0_pay59 1#1) (k0_pay64 dy lanes 64#32 k0_pay58 k0_pay59 1#1) (k0_pay65 dy lanes 64#32 k0_pay58 k0_pay59 1#1) (k0_pay66 dy lanes 64#32 k0_pay58 k0_pay59 1#1) 0#32)
    (k0_pay74 q v ps
    dy (k0_pay60 lanes 64#32 k0_pay58 k0_pay59 1#1) (k0_pay61 dy lanes 64#32 k0_pay58 k0_pay59 1#1) (k0_pay62 dy lanes 64#32 k0_pay58 k0_pay59 1#1) (k0_pay63 dy lanes 64#32 k0_pay58 k0_pay59 1#1) (k0_pay64 dy lanes 64#32 k0_pay58 k0_pay59 1#1) (k0_pay65 dy lanes 64#32 k0_pay58 k0_pay59 1#1) (k0_pay66 dy lanes 64#32 k0_pay58 k0_pay59 1#1) 0#32)
    (k0_pay75 q v ps
    dy (k0_pay60 lanes 64#32 k0_pay58 k0_pay59 1#1) (k0_pay61 dy lanes 64#32 k0_pay58 k0_pay59 1#1) (k0_pay62 dy lanes 64#32 k0_pay58 k0_pay59 1#1) (k0_pay63 dy lanes 64#32 k0_pay58 k0_pay59 1#1) (k0_pay64 dy lanes 64#32 k0_pay58 k0_pay59 1#1) (k0_pay65 dy lanes 64#32 k0_pay58 k0_pay59 1#1) (k0_pay66 dy lanes 64#32 k0_pay58 k0_pay59 1#1) 0#32)
    (k0_pay76 v ps
    dy (k0_pay60 lanes 64#32 k0_pay58 k0_pay59 1#1) (k0_pay61 dy lanes 64#32 k0_pay58 k0_pay59 1#1) (k0_pay62 dy lanes 64#32 k0_pay58 k0_pay59 1#1) (k0_pay63 dy lanes 64#32 k0_pay58 k0_pay59 1#1) (k0_pay64 dy lanes 64#32 k0_pay58 k0_pay59 1#1) (k0_pay65 dy lanes 64#32 k0_pay58 k0_pay59 1#1) (k0_pay66 dy lanes 64#32 k0_pay58 k0_pay59 1#1) 0#32)

/-- The values' gradients, head by head. -/
def valueGrads (ps : FVec Ideal S8x128x256 .f32) (g : FVec Ideal S8x128x128 .bf16) : FVec Ideal S8x256x128 .f32 :=
  k0_pay84 g (k0_pay78 ps) (k0_pay79 ps g) (k0_pay80 ps g) (k0_pay81 ps g) (k0_pay82 ps) (k0_pay83 g)

/-- A product of two sums of lanes, one half of which is zero. -/
theorem lane_dot' (h : ℕ) (f g : ℕ → ℝ) :
    (∑ l : Fin 128, (((if (l : ℕ) / 64 = h % 2 then f (l % 64) else 0) : ℝ) : EReal) *
      (((if (l : ℕ) / 64 = h % 2 then g (l % 64) else 0) : ℝ) : EReal)) = ((∑ d : Fin 64, f d * g d : ℝ) : EReal) := by
  rw [← lane_sum (h % 2) (Nat.mod_lt _ (by decide)) (fun d => f d * g d), ← coe_sum]
  refine Finset.sum_congr rfl fun l _ => ?_
  rw [← EReal.coe_mul]
  congr 1
  split_ifs <;> simp

/-- A sum of products whose second factor lives in one half of the lanes. -/
theorem half_dot {ι : Type} [Fintype ι] (p : Prop) [Decidable p] (f g : ι → ℝ) :
    (∑ i, ((f i : ℝ) : EReal) * (((if p then g i else 0) : ℝ) : EReal)) =
      (((if p then ∑ i, f i * g i else 0) : ℝ) : EReal) := by
  by_cases h : p
  · simp only [if_pos h, ← EReal.coe_mul]
    exact coe_sum _ _
  · simp only [if_neg h, EReal.coe_zero, mul_zero, Finset.sum_const_zero]

variable (D : Inp) (n : ℕ) {qh : FVec Ideal S8x128x128 .bf16} {kh vh : FVec Ideal S8x256x128 .bf16}
  {ps : FVec Ideal S8x128x256 .f32} {es rl : FVec Ideal S8x128x1 .f32} {dy : FVec Ideal S128x512 .f32}
  (hv : ∀ (h : Fin 8) (j : Fin 256) (l : Fin 128), vh (ix3 h j l) = (((if (l : ℕ) / 64 = (h : ℕ) % 2 then vv D n (h / 4) j (l % 64) else 0) : ℝ) : EReal))
  (hd : ∀ (h : Fin 8) (r l : Fin 128), gradHeads dy (ix3 h r l) = (((if (l : ℕ) / 64 = (h : ℕ) % 2 then dyv D n h r (l % 64) else 0) : ℝ) : EReal))

include hv hd in
theorem probGrads_apply (h : Fin 8) (r : Fin 128) (j : Fin 256) :
    probGrads vh dy (ix3 h r j) = ((dp D n h r j : ℝ) : EReal) := by
  unfold gradHeads at hd
  pointwise [probGrads, k0_pay68]
  simp only [hd, hv]
  rw [lane_dot']
  rfl

variable (hp : ∀ (h : Fin 8) (r : Fin 128) (j : Fin 256), ps (ix3 h r j) = ((pn D n h r j : ℝ) : EReal))

include hv hd hp in
theorem rowSums_apply (h : Fin 8) (r : Fin 128) :
    rowSums vh ps dy (ix3 h r 0) = ((dl D n h r : ℝ) : EReal) := by
  have e := probGrads_apply D n hv hd
  unfold probGrads at e
  pointwise [rowSums, k0_pay69]
  simp only [e, hp, ← EReal.coe_mul]
  rw [coe_sum]
  rfl

include hv hd hp in
theorem scoreGrads_apply (h : Fin 8) (r : Fin 128) (j : Fin 256) :
    scoreGrads vh ps dy (ix3 h r j) = ((ds D n h r j : ℝ) : EReal) := by
  have e := probGrads_apply D n hv hd
  have e' := rowSums_apply D n hv hd hp
  unfold probGrads at e
  unfold rowSums at e'
  pointwise [scoreGrads, k0_pay70]
  rw [e, e', hp, ← EReal.coe_sub, ← EReal.coe_mul]
  rfl

include hv hd hp in
theorem sinkRows_apply (he : ∀ (h : Fin 8) (r : Fin 128), es (ix3 h r 0) * rl (ix3 h r 0) = ((Real.exp (D.SK h) / zz D n h r : ℝ) : EReal))
    (h : Fin 8) (r : Fin 128) : sinkRows vh es rl ps dy (ix3 h r 0) = ((sk D n h r : ℝ) : EReal) := by
  have e' := rowSums_apply D n hv hd hp
  unfold rowSums at e'
  pointwise [sinkRows, k0_pay71]
  rw [e', he, ← EReal.coe_mul]
  rfl

include hv hd hp in
theorem queryGrads_apply
    (hk : ∀ (h : Fin 8) (j : Fin 256) (l : Fin 128), kh (ix3 h j l) = (((if (l : ℕ) / 64 = (h : ℕ) % 2 then kk D n (h / 4) j (l % 64) else 0) : ℝ) : EReal))
    (h : Fin 8) (r l : Fin 128) : queryGrads kh vh ps dy (ix3 h r l) =
      (((if (l : ℕ) / 64 = (h : ℕ) % 2 then gq D n h r (l % 64) * (1 / 8) else 0) : ℝ) : EReal) := by
  have e := scoreGrads_apply D n hv hd hp
  unfold scoreGrads at e
  pointwise [queryGrads, k0_pay72]
  simp only [e, hk]
  rw [half_dot, ofBits_eighth, ← EReal.coe_mul]
  congr 1
  split_ifs
  · rfl
  · rw [zero_mul]

include hv hd hp in
theorem keyGrads_apply
    (hq : ∀ (h : Fin 8) (r l : Fin 128), qh (ix3 h r l) = (((if (l : ℕ) / 64 = (h : ℕ) % 2 then qs D n h r (l % 64) else 0) : ℝ) : EReal))
    (h : Fin 8) (j : Fin 256) (l : Fin 128) : keyGrads qh vh ps dy (ix3 h j l) =
      (((if (l : ℕ) / 64 = (h : ℕ) % 2 then gk1 D n h j (l % 64) else 0) : ℝ) : EReal) := by
  have e := scoreGrads_apply D n hv hd hp
  unfold scoreGrads at e
  fin_vals h with hk
  all_goals
    pointwise [keyGrads, scoreGrads, k0_pay77, k0_pay73, k0_pay74, k0_pay75, k0_pay76]
    simp only [hk, Nat.reduceSub, Nat.reduceLT, ↓reduceDIte]
    simp only [e, hq]
    rw [half_dot]
    rfl

include hp in
theorem valueGrads_apply {g : FVec Ideal S8x128x128 .bf16}
    (hg : ∀ (h : Fin 8) (r l : Fin 128), g (ix3 h r l) = (((if (l : ℕ) / 64 = (h : ℕ) % 2 then dyv D n h r (l % 64) else 0) : ℝ) : EReal))
    (h : Fin 8) (j : Fin 256) (l : Fin 128) : valueGrads ps g (ix3 h j l) =
      (((if (l : ℕ) / 64 = (h : ℕ) % 2 then gv1 D n h j (l % 64) else 0) : ℝ) : EReal) := by
  fin_vals h with hk
  all_goals
    pointwise [valueGrads, k0_pay78, k0_pay84, k0_pay79, k0_pay80, k0_pay81, k0_pay82, k0_pay83]
    simp only [hk, Nat.reduceSub, Nat.reduceLT, ↓reduceDIte]
    simp only [hp, hg]
    rw [half_dot]
    rfl

end Cert.KernelIdeal.Block

end
-- ==== Proof.Folds.lean ====
module

public import proofs.«01_k».proof.Proof.Block

@[expose] public section

set_option maxRecDepth 16384

noncomputable section

/-! What one point stores, over the reals: the folded key and value gradients, the sinks' rows, the unroped rows. -/

namespace Cert.KernelIdeal.Block

open Idealize.ShloMosaic Cert.KernelIdeal Cert.KernelIdeal.Gen Cert.Attn

/-- The query gradients' two rows of heads `2 p` and `2 p + 1`, unroped. -/
def queryOut0 (w : FVec Ideal S8x128x128 .f32) (cs sn : FVec Ideal S128x128 .f32) : FVec Ideal S128x128 .bf16 :=
  k0_pay97 (k0_pay95 w) (k0_pay96 w) cs sn

/-- The same of heads 2 and 3. -/
def queryOut1 (w : FVec Ideal S8x128x128 .f32) (cs sn : FVec Ideal S128x128 .f32) : FVec Ideal S128x128 .bf16 :=
  k0_pay100 (k0_pay98 w) (k0_pay99 cs) sn

/-- The same of heads 4 and 5. -/
def queryOut2 (w : FVec Ideal S8x128x128 .f32) (cs sn : FVec Ideal S128x128 .f32) : FVec Ideal S128x128 .bf16 :=
  k0_pay104 (k0_pay102 w cs) (k0_pay103 w sn) lanes 64#32 0#1

/-- The same of heads 6 and 7. -/
def queryOut3 (w : FVec Ideal S8x128x128 .f32) (cs sn : FVec Ideal S128x128 .f32) : FVec Ideal S128x128 .bf16 :=
  k0_pay110 (k0_pay106 w cs) (k0_pay107 w sn) 64#32 k0_pay108 k0_pay109 0#32

/-- The key gradients' rows, unroped. -/
def keyOut (w : FVec Ideal S256x128 .f32) (ca cs sn : FVec Ideal S128x128 .f32) : FVec Ideal S128x128 .bf16 :=
  k0_pay116 (k0_pay112 w ca cs) (k0_pay113 w ca sn) 64#32 k0_pay114 k0_pay115

/-- The fold of eight heads onto two. -/
theorem fold_lanes (f : ℕ → ℕ → ℝ) (l : ℕ) (hl : l < 128) :
    ((((if l / 64 = 0 % 2 then f 0 (l % 64) else 0) : ℝ) : EReal) + (((if l / 64 = 2 % 2 then f 2 (l % 64) else 0) : ℝ) : EReal)
      + (((if l / 64 = 5 % 2 then f 5 (l % 64) else 0) : ℝ) : EReal) + (((if l / 64 = 7 % 2 then f 7 (l % 64) else 0) : ℝ) : EReal)) +
    ((((if (l + 128 - 64) % 128 / 64 = 1 % 2 then f 1 ((l + 128 - 64) % 128 % 64) else 0) : ℝ) : EReal) +
      (((if (l + 128 - 64) % 128 / 64 = 3 % 2 then f 3 ((l + 128 - 64) % 128 % 64) else 0) : ℝ) : EReal) +
      (((if (l + 128 - 64) % 128 / 64 = 4 % 2 then f 4 ((l + 128 - 64) % 128 % 64) else 0) : ℝ) : EReal) +
      (((if (l + 128 - 64) % 128 / 64 = 6 % 2 then f 6 ((l + 128 - 64) % 128 % 64) else 0) : ℝ) : EReal)) =
    ((∑ i : Fin 4, f (4 * (l / 64) + i) (l % 64) : ℝ) : EReal) := by
  simp only [← EReal.coe_add]
  congr 1
  rw [show (l + 128 - 64) % 128 % 64 = l % 64 by omega]
  have h : l / 64 = 0 ∨ l / 64 = 1 := by omega
  rcases h with h | h
  · rw [show (l + 128 - 64) % 128 / 64 = 1 by omega, h]
    simp [Fin.sum_univ_four]; ring
  · rw [show (l + 128 - 64) % 128 / 64 = 0 by omega, h]
    simp [Fin.sum_univ_four]; ring

/-- The key gradients folded. -/
theorem foldK_apply {w : FVec Ideal S8x256x128 .f32} {f : ℕ → ℕ → ℕ → ℝ}
    (hw : ∀ (h : Fin 8) (j : Fin 256) (l : Fin 128), w (ix3 h j l) =
      (((if (l : ℕ) / 64 = (h : ℕ) % 2 then f h j (l % 64) else 0) : ℝ) : EReal)) (j : Fin 256) (l : Fin 128) :
    k0_pay85 w (ix2 j l) = ((∑ i : Fin 4, f (4 * (l / 64) + i) j (l % 64) : ℝ) : EReal) := by
  pointwise [k0_pay85]
  simp only [hw]
  exact fold_lanes (fun h d => f h j d) l l.isLt

/-- The value gradients folded. -/
theorem foldV_apply {w : FVec Ideal S8x256x128 .f32} {f : ℕ → ℕ → ℕ → ℝ}
    (hw : ∀ (h : Fin 8) (j : Fin 256) (l : Fin 128), w (ix3 h j l) =
      (((if (l : ℕ) / 64 = (h : ℕ) % 2 then f h j (l % 64) else 0) : ℝ) : EReal)) (j : Fin 256) (l : Fin 128) :
    k0_pay86 w (ix2 j l) = ((∑ i : Fin 4, f (4 * (l / 64) + i) j (l % 64) : ℝ) : EReal) := by
  pointwise [k0_pay86]
  simp only [hw]
  exact fold_lanes (fun h d => f h j d) l l.isLt

/-- The sinks' row 0: the row it had less the sum of the block's shares. -/
theorem sinkRow0_apply {w : FVec Ideal S8x128x1 .f32} {f : ℕ → ℕ → ℝ} (hw : ∀ (h : Fin 8) (r : Fin 128), w (ix3 h r 0) = ((f h r : ℝ) : EReal))
    {x : FVec Ideal S1x128 .f32} {a : ℝ} {l : Fin 128} (hx : x (ix2 0 l) = (a : EReal)) :
    k0_pay87 (F := Ideal) w x (ix2 0 l) = ((a + -(∑ r : Fin 128, f 0 r) : ℝ) : EReal) := by
  pointwise [k0_pay87]
  simp only [hw]
  rw [hx]
  simp only [Finset.sum_const, Finset.card_univ, Fintype.card_fin, one_smul]
  rw [coe_sum, zero_sub, ← EReal.coe_neg, ← EReal.coe_add]
  rfl

/-- The sinks' row 1: the row it had less the sum of the block's shares. -/
theorem sinkRow1_apply {w : FVec Ideal S8x128x1 .f32} {f : ℕ → ℕ → ℝ} (hw : ∀ (h : Fin 8) (r : Fin 128), w (ix3 h r 0) = ((f h r : ℝ) : EReal))
    {x : FVec Ideal S1x128 .f32} {a : ℝ} {l : Fin 128} (hx : x (ix2 0 l) = (a : EReal)) :
    k0_pay88 (F := Ideal) w x (ix2 0 l) = ((a + -(∑ r : Fin 128, f 1 r) : ℝ) : EReal) := by
  pointwise [k0_pay88]
  simp only [hw]
  rw [hx]
  simp only [Finset.sum_const, Finset.card_univ, Fintype.card_fin, one_smul]
  rw [coe_sum, zero_sub, ← EReal.coe_neg, ← EReal.coe_add]
  rfl

/-- The sinks' row 2: the row it had less the sum of the block's shares. -/
theorem sinkRow2_apply {w : FVec Ideal S8x128x1 .f32} {f : ℕ → ℕ → ℝ} (hw : ∀ (h : Fin 8) (r : Fin 128), w (ix3 h r 0) = ((f h r : ℝ) : EReal))
    {x : FVec Ideal S1x128 .f32} {a : ℝ} {l : Fin 128} (hx : x (ix2 0 l) = (a : EReal)) :
    k0_pay89 (F := Ideal) w x (ix2 0 l) = ((a + -(∑ r : Fin 128, f 2 r) : ℝ) : EReal) := by
  pointwise [k0_pay89]
  simp only [hw]
  rw [hx]
  simp only [Finset.sum_const, Finset.card_univ, Fintype.card_fin, one_smul]
  rw [coe_sum, zero_sub, ← EReal.coe_neg, ← EReal.coe_add]
  rfl

/-- The sinks' row 3: the row it had less the sum of the block's shares. -/
theorem sinkRow3_apply {w : FVec Ideal S8x128x1 .f32} {f : ℕ → ℕ → ℝ} (hw : ∀ (h : Fin 8) (r : Fin 128), w (ix3 h r 0) = ((f h r : ℝ) : EReal))
    {x : FVec Ideal S1x128 .f32} {a : ℝ} {l : Fin 128} (hx : x (ix2 0 l) = (a : EReal)) :
    k0_pay90 (F := Ideal) w x (ix2 0 l) = ((a + -(∑ r : Fin 128, f 3 r) : ℝ) : EReal) := by
  pointwise [k0_pay90]
  simp only [hw]
  rw [hx]
  simp only [Finset.sum_const, Finset.card_univ, Fintype.card_fin, one_smul]
  rw [coe_sum, zero_sub, ← EReal.coe_neg, ← EReal.coe_add]
  rfl

/-- The sinks' row 4: the row it had less the sum of the block's shares. -/
theorem sinkRow4_apply {w : FVec Ideal S8x128x1 .f32} {f : ℕ → ℕ → ℝ} (hw : ∀ (h : Fin 8) (r : Fin 128), w (ix3 h r 0) = ((f h r : ℝ) : EReal))
    {x : FVec Ideal S1x128 .f32} {a : ℝ} {l : Fin 128} (hx : x (ix2 0 l) = (a : EReal)) :
    k0_pay91 (F := Ideal) w x (ix2 0 l) = ((a + -(∑ r : Fin 128, f 4 r) : ℝ) : EReal) := by
  pointwise [k0_pay91]
  simp only [hw]
  rw [hx]
  simp only [Finset.sum_const, Finset.card_univ, Fintype.card_fin, one_smul]
  rw [coe_sum, zero_sub, ← EReal.coe_neg, ← EReal.coe_add]
  rfl

/-- The sinks' row 5: the row it had less the sum of the block's shares. -/
theorem sinkRow5_apply {w : FVec Ideal S8x128x1 .f32} {f : ℕ → ℕ → ℝ} (hw : ∀ (h : Fin 8) (r : Fin 128), w (ix3 h r 0) = ((f h r : ℝ) : EReal))
    {x : FVec Ideal S1x128 .f32} {a : ℝ} {l : Fin 128} (hx : x (ix2 0 l) = (a : EReal)) :
    k0_pay92 (F := Ideal) w x (ix2 0 l) = ((a + -(∑ r : Fin 128, f 5 r) : ℝ) : EReal) := by
  pointwise [k0_pay92]
  simp only [hw]
  rw [hx]
  simp only [Finset.sum_const, Finset.card_univ, Fintype.card_fin, one_smul]
  rw [coe_sum, zero_sub, ← EReal.coe_neg, ← EReal.coe_add]
  rfl

/-- The sinks' row 6: the row it had less the sum of the block's shares. -/
theorem sinkRow6_apply {w : FVec Ideal S8x128x1 .f32} {f : ℕ → ℕ → ℝ} (hw : ∀ (h : Fin 8) (r : Fin 128), w (ix3 h r 0) = ((f h r : ℝ) : EReal))
    {x : FVec Ideal S1x128 .f32} {a : ℝ} {l : Fin 128} (hx : x (ix2 0 l) = (a : EReal)) :
    k0_pay93 (F := Ideal) w x (ix2 0 l) = ((a + -(∑ r : Fin 128, f 6 r) : ℝ) : EReal) := by
  pointwise [k0_pay93]
  simp only [hw]
  rw [hx]
  simp only [Finset.sum_const, Finset.card_univ, Fintype.card_fin, one_smul]
  rw [coe_sum, zero_sub, ← EReal.coe_neg, ← EReal.coe_add]
  rfl

/-- The sinks' row 7: the row it had less the sum of the block's shares. -/
theorem sinkRow7_apply {w : FVec Ideal S8x128x1 .f32} {f : ℕ → ℕ → ℝ} (hw : ∀ (h : Fin 8) (r : Fin 128), w (ix3 h r 0) = ((f h r : ℝ) : EReal))
    {x : FVec Ideal S1x128 .f32} {a : ℝ} {l : Fin 128} (hx : x (ix2 0 l) = (a : EReal)) :
    k0_pay94 (F := Ideal) w x (ix2 0 l) = ((a + -(∑ r : Fin 128, f 7 r) : ℝ) : EReal) := by
  pointwise [k0_pay94]
  simp only [hw]
  rw [hx]
  simp only [Finset.sum_const, Finset.card_univ, Fintype.card_fin, one_smul]
  rw [coe_sum, zero_sub, ← EReal.coe_neg, ← EReal.coe_add]
  rfl

/-- A row of two heads, unroped. -/
theorem unrope_row {f c s : ℕ → ℝ} {m : BitVec 1} (l : ℕ) (hl : l < 128) (hm : m = if l % 64 < 32 then 1#1 else 0#1) :
    ((f l : ℝ) : EReal) * ((c (l % 32) : ℝ) : EReal) + Scalar.select m
      (((f ((l + 128 - 96) % 128) : ℝ) : EReal) * (((if (l + 128 - 96) % 128 % 64 < 32 then -s ((l + 128 - 96) % 128 % 32) else s ((l + 128 - 96) % 128 % 32)) : ℝ) : EReal))
      (((f ((l + 128 - 32) % 128) : ℝ) : EReal) * (((if (l + 128 - 32) % 128 % 64 < 32 then -s ((l + 128 - 32) % 128 % 32) else s ((l + 128 - 32) % 128 % 32)) : ℝ) : EReal)) =
    ((unrope (fun d => f (64 * (l / 64) + d)) c s (l % 64) : ℝ) : EReal) := by
  rw [hm, select_ite]
  unfold unrope
  have e0 : 64 * (l / 64) + l % 64 = l := Nat.div_add_mod _ _
  by_cases hlow : l % 64 < 32
  · rw [if_pos hlow, if_pos hlow, if_neg (by omega)]
    dsimp only
    rw [e0, show (l + 128 - 96) % 128 % 32 = l % 32 by omega, show (l + 128 - 96) % 128 = 64 * (l / 64) + (l % 64 + 32) by omega,
      show l % 32 = l % 64 by omega, ← EReal.coe_mul, ← EReal.coe_mul, ← EReal.coe_add]
  · rw [if_neg hlow, if_neg hlow, if_pos (by omega)]
    dsimp only
    rw [e0, show (l + 128 - 32) % 128 % 32 = l % 32 by omega, show (l + 128 - 32) % 128 = 64 * (l / 64) + (l % 64 - 32) by omega,
      show l % 32 = l % 64 - 32 by omega, ← EReal.coe_mul, ← EReal.coe_mul, ← EReal.coe_add]
    congr 1; ring

/-- The transposed rotation reads its 64 coordinates. -/
theorem unrope_congr {f g : ℕ → ℝ} (c s : ℕ → ℝ) (d : ℕ) (hd : d < 64) (h : ∀ d < 64, f d = g d) : unrope f c s d = unrope g c s d := by
  unfold unrope
  split_ifs with hlow
  · rw [h d hd, h (d + 32) (by omega)]
  · rw [h d hd, h (d - 32) (by omega)]

/-- Two heads of one row: each lives in its half of the lanes. -/
theorem pair_lanes (f : ℕ → ℕ → ℝ) (a b l : ℕ) (ha : a % 2 = 0) (hb : b = a + 1) (hl : l < 128) :
    (((if l / 64 = a % 2 then f a (l % 64) else 0) : ℝ) : EReal) + (((if l / 64 = b % 2 then f b (l % 64) else 0) : ℝ) : EReal) =
    ((f (a + l / 64) (l % 64) : ℝ) : EReal) := by
  rw [← EReal.coe_add]
  congr 1
  have h : l / 64 = 0 ∨ l / 64 = 1 := by omega
  rcases h with h | h
  · rw [h, if_pos (by omega), if_neg (by omega), add_zero, add_zero]
  · rw [h, if_neg (by omega), if_pos (by omega), zero_add, hb]

section Out
variable {C S : ℕ → ℕ → ℝ} {cs sn ca : FVec Ideal S128x128 .f32}
  (hc : ∀ r l : Fin 128, cs (ix2 r l) = ((C r (l % 32) : ℝ) : EReal))
  (hs : ∀ r l : Fin 128, sn (ix2 r l) = (((if (l : ℕ) % 64 < 32 then -S r (l % 32) else S r (l % 32)) : ℝ) : EReal))
include hc hs

/-- The stored rows of heads 0 and 1. -/
theorem queryOut0_apply {w : FVec Ideal S8x128x128 .f32} {f : ℕ → ℕ → ℕ → ℝ}
    (hw : ∀ (h : Fin 8) (r l : Fin 128), w (ix3 h r l) =
      (((if (l : ℕ) / 64 = (h : ℕ) % 2 then f h r (l % 64) else 0) : ℝ) : EReal)) (r l : Fin 128) :
    queryOut0 w cs sn (ix2 r l) = ((unrope (fun d => f (0 + l / 64) r d) (C r) (S r) (l % 64) : ℝ) : EReal) := by
  have hl := l.isLt
  pointwise [queryOut0, k0_pay97, k0_pay95, k0_pay96]
  have e := fun l hl => pair_lanes (fun h d => f h r d) ((0 : Fin 8) : ℕ) ((1 : Fin 8) : ℕ) l rfl rfl hl
  simp only [hw, hc, hs]
  rw [e l hl, e ((l + 128 - 96) % 128) (by omega), e ((l + 128 - 32) % 128) (by omega)]
  refine (unrope_row (f := fun a => f (((0 : Fin 8) : ℕ) + a / 64) r (a % 64)) (c := C r) (s := S r) l hl ?_).trans ?_
  · first
      | exact lane_low l (by omega)
      | exact lane_low_lit l (by omega)
      | (clear hw hc hs hl e; revert l; decide +kernel)
  · refine congrArg _ (unrope_congr _ _ (l % 64) (Nat.mod_lt _ (by decide)) fun d hd => ?_)
    show f (0 + (64 * ((l : ℕ) / 64) + d) / 64) r ((64 * ((l : ℕ) / 64) + d) % 64) = f ((l : ℕ) / 64) r d
    rw [show (64 * ((l : ℕ) / 64) + d) / 64 = l / 64 by omega, show (64 * ((l : ℕ) / 64) + d) % 64 = d by omega, Nat.zero_add]

/-- The stored rows of heads 2 and 3. -/
theorem queryOut1_apply {w : FVec Ideal S8x128x128 .f32} {f : ℕ → ℕ → ℕ → ℝ}
    (hw : ∀ (h : Fin 8) (r l : Fin 128), w (ix3 h r l) =
      (((if (l : ℕ) / 64 = (h : ℕ) % 2 then f h r (l % 64) else 0) : ℝ) : EReal)) (r l : Fin 128) :
    queryOut1 w cs sn (ix2 r l) = ((unrope (fun d => f (2 + l / 64) r d) (C r) (S r) (l % 64) : ℝ) : EReal) := by
  have hl := l.isLt
  pointwise [queryOut1, k0_pay100, k0_pay98, k0_pay99]
  have e := fun l hl => pair_lanes (fun h d => f h r d) ((2 : Fin 8) : ℕ) ((3 : Fin 8) : ℕ) l rfl rfl hl
  simp only [hw, hc, hs]
  rw [e l hl, e ((l + 128 - 96) % 128) (by omega), e ((l + 128 - 32) % 128) (by omega)]
  refine (unrope_row (f := fun a => f (((2 : Fin 8) : ℕ) + a / 64) r (a % 64)) (c := C r) (s := S r) l hl ?_).trans ?_
  · first
      | exact lane_low l (by omega)
      | exact lane_low_lit l (by omega)
      | (clear hw hc hs hl e; revert l; decide +kernel)
  · refine congrArg _ (unrope_congr _ _ (l % 64) (Nat.mod_lt _ (by decide)) fun d hd => ?_)
    show f (2 + (64 * ((l : ℕ) / 64) + d) / 64) r ((64 * ((l : ℕ) / 64) + d) % 64) = f (2 + (l : ℕ) / 64) r d
    rw [show (64 * ((l : ℕ) / 64) + d) / 64 = l / 64 by omega, show (64 * ((l : ℕ) / 64) + d) % 64 = d by omega]

/-- The stored rows of heads 4 and 5. -/
theorem queryOut2_apply {w : FVec Ideal S8x128x128 .f32} {f : ℕ → ℕ → ℕ → ℝ}
    (hw : ∀ (h : Fin 8) (r l : Fin 128), w (ix3 h r l) =
      (((if (l : ℕ) / 64 = (h : ℕ) % 2 then f h r (l % 64) else 0) : ℝ) : EReal)) (r l : Fin 128) :
    queryOut2 w cs sn (ix2 r l) = ((unrope (fun d => f (4 + l / 64) r d) (C r) (S r) (l % 64) : ℝ) : EReal) := by
  have hl := l.isLt
  pointwise [queryOut2, k0_pay104, k0_pay101, k0_pay102, k0_pay103]
  have e := fun l hl => pair_lanes (fun h d => f h r d) ((4 : Fin 8) : ℕ) ((5 : Fin 8) : ℕ) l rfl rfl hl
  simp only [hw, hc, hs]
  rw [e l hl, e ((l + 128 - 96) % 128) (by omega), e ((l + 128 - 32) % 128) (by omega)]
  refine (unrope_row (f := fun a => f (((4 : Fin 8) : ℕ) + a / 64) r (a % 64)) (c := C r) (s := S r) l hl ?_).trans ?_
  · first
      | exact lane_low l (by omega)
      | exact lane_low_lit l (by omega)
      | (clear hw hc hs hl e; revert l; decide +kernel)
  · refine congrArg _ (unrope_congr _ _ (l % 64) (Nat.mod_lt _ (by decide)) fun d hd => ?_)
    show f (4 + (64 * ((l : ℕ) / 64) + d) / 64) r ((64 * ((l : ℕ) / 64) + d) % 64) = f (4 + (l : ℕ) / 64) r d
    rw [show (64 * ((l : ℕ) / 64) + d) / 64 = l / 64 by omega, show (64 * ((l : ℕ) / 64) + d) % 64 = d by omega]

/-- The stored rows of heads 6 and 7. -/
theorem queryOut3_apply {w : FVec Ideal S8x128x128 .f32} {f : ℕ → ℕ → ℕ → ℝ}
    (hw : ∀ (h : Fin 8) (r l : Fin 128), w (ix3 h r l) =
      (((if (l : ℕ) / 64 = (h : ℕ) % 2 then f h r (l % 64) else 0) : ℝ) : EReal)) (r l : Fin 128) :
    queryOut3 w cs sn (ix2 r l) = ((unrope (fun d => f (6 + l / 64) r d) (C r) (S r) (l % 64) : ℝ) : EReal) := by
  have hl := l.isLt
  pointwise [queryOut3, k0_pay110, k0_pay105, k0_pay106, k0_pay107, k0_pay108, k0_pay109]
  have e := fun l hl => pair_lanes (fun h d => f h r d) ((6 : Fin 8) : ℕ) ((7 : Fin 8) : ℕ) l rfl rfl hl
  simp only [hw, hc, hs]
  rw [e l hl, e ((l + 128 - 96) % 128) (by omega), e ((l + 128 - 32) % 128) (by omega)]
  refine (unrope_row (f := fun a => f (((6 : Fin 8) : ℕ) + a / 64) r (a % 64)) (c := C r) (s := S r) l hl ?_).trans ?_
  · first
      | exact lane_low l (by omega)
      | exact lane_low_lit l (by omega)
      | (clear hw hc hs hl e; revert l; decide +kernel)
  · refine congrArg _ (unrope_congr _ _ (l % 64) (Nat.mod_lt _ (by decide)) fun d hd => ?_)
    show f (6 + (64 * ((l : ℕ) / 64) + d) / 64) r ((64 * ((l : ℕ) / 64) + d) % 64) = f (6 + (l : ℕ) / 64) r d
    rw [show (64 * ((l : ℕ) / 64) + d) / 64 = l / 64 by omega, show (64 * ((l : ℕ) / 64) + d) % 64 = d by omega]

/-- The stored key rows. -/
theorem keyOut_apply {w : FVec Ideal S256x128 .f32} {f : ℕ → ℕ → ℕ → ℝ} {fa : ℕ → ℕ → ℕ → ℝ}
    (hw : ∀ (j : Fin 256) (l : Fin 128), w (ix2 j l) = ((f (l / 64) j (l % 64) : ℝ) : EReal))
    (ha : ∀ (r l : Fin 128), ca (ix2 r l) = ((fa (l / 64) r (l % 64) : ℝ) : EReal)) (r l : Fin 128) :
    keyOut w ca cs sn (ix2 r l) =
      ((unrope (fun d => f (l / 64) (128 + r) d + fa (l / 64) r d) (C r) (S r) (l % 64) : ℝ) : EReal) := by
  have hl := l.isLt
  pointwise [keyOut, k0_pay116, k0_pay111, k0_pay112, k0_pay113, k0_pay114, k0_pay115]
  simp only [hw, ha, hc, hs, ← EReal.coe_add]
  refine (unrope_row (f := fun a => f (a / 64) (128 + r) (a % 64) + fa (a / 64) r (a % 64)) (c := C r) (s := S r) l hl ?_).trans ?_
  · first
      | exact lane_low l (by omega)
      | exact lane_low_lit l (by omega)
      | (clear hw ha hc hs hl; revert l; decide +kernel)
  · refine congrArg _ (unrope_congr _ _ (l % 64) (Nat.mod_lt _ (by decide)) fun d hd => ?_)
    rw [show (64 * ((l : ℕ) / 64) + d) / 64 = l / 64 by omega, show (64 * ((l : ℕ) / 64) + d) % 64 = d by omega]

end Out

/-- The stored value rows. -/
theorem valueOut_apply {w : FVec Ideal S256x128 .f32} {ca : FVec Ideal S128x128 .f32} {f : ℕ → ℕ → ℕ → ℝ} {fa : ℕ → ℕ → ℕ → ℝ}
    (hw : ∀ (j : Fin 256) (l : Fin 128), w (ix2 j l) = ((f (l / 64) j (l % 64) : ℝ) : EReal))
    (ha : ∀ (r l : Fin 128), ca (ix2 r l) = ((fa (l / 64) r (l % 64) : ℝ) : EReal)) (r l : Fin 128) :
    k0_pay117 (F := Ideal) w ca (ix2 r l) = ((f (l / 64) (128 + r) (l % 64) + fa (l / 64) r (l % 64) : ℝ) : EReal) := by
  pointwise [k0_pay117]
  rw [hw, ha, ← EReal.coe_add]

/-- The carried key rows. -/
theorem carryK_apply {w : FVec Ideal S256x128 .f32} {f : ℕ → ℕ → ℕ → ℝ}
    (hw : ∀ (j : Fin 256) (l : Fin 128), w (ix2 j l) = ((f (l / 64) j (l % 64) : ℝ) : EReal)) (r l : Fin 128) :
    k0_pay118 (F := Ideal) w (ix2 r l) = ((f (l / 64) r (l % 64) : ℝ) : EReal) := by
  pointwise [k0_pay118]
  exact hw _ _

/-- The carried value rows. -/
theorem carryV_apply {w : FVec Ideal S256x128 .f32} {f : ℕ → ℕ → ℕ → ℝ}
    (hw : ∀ (j : Fin 256) (l : Fin 128), w (ix2 j l) = ((f (l / 64) j (l % 64) : ℝ) : EReal)) (r l : Fin 128) :
    k0_pay119 (F := Ideal) w (ix2 r l) = ((f (l / 64) r (l % 64) : ℝ) : EReal) := by
  pointwise [k0_pay119]
  exact hw _ _

end Cert.KernelIdeal.Block

end
-- ==== Proof.Mask.lean ====
module

public import proofs.«01_k».proof.Proof.Block

@[expose] public section

set_option maxRecDepth 16384

noncomputable section

/-! The mask of one point. -/

namespace Cert.KernelIdeal.Block

open Idealize.ShloMosaic Cert.KernelIdeal Cert.KernelIdeal.Gen Cert.Attn

/-- Minus infinity. -/
theorem ofBits_bot : Ideal.ofBits .f32 0xFF800000#32 = ⊥ := by simp [Ideal.ofBits, Ideal.ieee]

/-- The band's words. -/
theorem band_words (r : Fin 128) (j : Fin 256) :
    IntOp.andi (IntOp.cmpi CmpIPredicate.sle (IntOp.subi (BitVec.ofNat 32 ↑j) 128#32) (BitVec.ofNat 32 ↑r))
      (IntOp.cmpi CmpIPredicate.slt (IntOp.subi (BitVec.ofNat 32 ↑r) (IntOp.subi (BitVec.ofNat 32 ↑j) 128#32)) 128#32) =
      if (j : ℕ) ≤ r + 128 ∧ (r : ℕ) < j then 1#1 else 0#1 := by
  revert r j; decide +kernel

/-- The words that shut off the window before the first block. -/
theorem first_words (n : Fin 64) (j : Fin 256) :
    IntOp.ori (Scalar.cmpi CmpIPredicate.sgt (BitVec.ofNat 32 ↑n) 0#32) (IntOp.cmpi CmpIPredicate.sge (BitVec.ofNat 32 ↑j) 128#32) =
      if 0 < (n : ℕ) ∨ 128 ≤ (j : ℕ) then 1#1 else 0#1 := by
  revert n j; decide +kernel

/-- The mask of block `n`. -/
theorem mask_apply (n : ℕ) (hn : n < 64) (r : Fin 128) (j : Fin 256) :
    k0_pay44 (BitVec.ofNat 32 n) (ix2 r j) = if msk n r j then 1#1 else 0#1 := by
  pointwise [k0_pay44]
  have h1 := band_words r j
  have h2 := first_words ⟨n, hn⟩ j
  rw [h1]
  refine (congrArg (IntOp.andi _) h2).trans ?_
  by_cases a : (j : ℕ) ≤ r + 128 ∧ (r : ℕ) < j <;> by_cases b : 0 < n ∨ 128 ≤ (j : ℕ) <;>
    simp only [msk, a, b, ↓reduceIte, true_and, and_true, false_and, and_false, ← and_assoc] <;> rfl

end Cert.KernelIdeal.Block

end
-- ==== Proof.Points.lean ====
module

public import proofs.«01_k».proof.Proof.Sweep
public import proofs.«01_k».proof.Proof.Block
public import proofs.«01_k».proof.Proof.Grads
public import proofs.«01_k».proof.Proof.Folds
public import proofs.«01_k».proof.Proof.Mask

@[expose] public section

set_option maxRecDepth 16384

noncomputable section

/-! What one point stores, as the stages of the block over the point's input blocks. -/

namespace Cert.KernelIdeal.Sweep

open Idealize.ShloMosaic Idealize.ShloMosaic.TcCoe Idealize.ShloMosaic.Tactic
open Cert.KernelIdeal Cert.KernelIdeal.Gen Cert.KernelIdeal.Block

variable (m : (ℓ : Loc nD τ sig) → Buf (Elt Ideal) ℓ) (c : Dev nD) (t : Fin cfg0.N)

/-- The point's queries, head by head. -/
def qh : FVec Ideal S8x128x128 .bf16 := queryHeads (queries (iblk m c 0 t) (iblk m c 2 t) (iblk m c 3 t))

/-- The point's keys, head by head. -/
def kh : FVec Ideal S8x256x128 .bf16 :=
  keyHeads (keys (iblk m c 0 t) (iblk m c 1 t) (iblk m c 2 t) (iblk m c 3 t) (iblk m c 4 t) (iblk m c 5 t))

/-- The point's values, head by head. -/
def vh : FVec Ideal S8x256x128 .bf16 := valueHeads (values (iblk m c 0 t) (iblk m c 1 t))

/-- The point's mask. -/
def mk : IVec S128x256 1 := k0_pay44 (Scalar.subi (63#32) (BitVec.ofNat 32 ↑(grid0.coords t 0)))

/-- The sink of head 0. -/
def s0 : EReal := View.ld (iblk m c 6 t) (Rect.unit ![0, 0] ![1, 1] inb_S1x8_S1x1_0_0) (Shape.Idx.first (lt_of_lt_of_eq Nat.one_pos (numel1_S1x1).symm))

/-- The sink of head 1. -/
def s1 : EReal := View.ld (iblk m c 6 t) (Rect.unit ![0, 1] ![1, 1] inb_S1x8_S1x1_0_1) (Shape.Idx.first (lt_of_lt_of_eq Nat.one_pos (numel1_S1x1).symm))

/-- The sink of head 2. -/
def s2 : EReal := View.ld (iblk m c 6 t) (Rect.unit ![0, 2] ![1, 1] inb_S1x8_S1x1_0_2) (Shape.Idx.first (lt_of_lt_of_eq Nat.one_pos (numel1_S1x1).symm))

/-- The sink of head 3. -/
def s3 : EReal := View.ld (iblk m c 6 t) (Rect.unit ![0, 3] ![1, 1] inb_S1x8_S1x1_0_3) (Shape.Idx.first (lt_of_lt_of_eq Nat.one_pos (numel1_S1x1).symm))

/-- The sink of head 4. -/
def s4 : EReal := View.ld (iblk m c 6 t) (Rect.unit ![0, 4] ![1, 1] inb_S1x8_S1x1_0_4) (Shape.Idx.first (lt_of_lt_of_eq Nat.one_pos (numel1_S1x1).symm))

/-- The sink of head 5. -/
def s5 : EReal := View.ld (iblk m c 6 t) (Rect.unit ![0, 5] ![1, 1] inb_S1x8_S1x1_0_5) (Shape.Idx.first (lt_of_lt_of_eq Nat.one_pos (numel1_S1x1).symm))

/-- The sink of head 6. -/
def s6 : EReal := View.ld (iblk m c 6 t) (Rect.unit ![0, 6] ![1, 1] inb_S1x8_S1x1_0_6) (Shape.Idx.first (lt_of_lt_of_eq Nat.one_pos (numel1_S1x1).symm))

/-- The sink of head 7. -/
def s7 : EReal := View.ld (iblk m c 6 t) (Rect.unit ![0, 7] ![1, 1] inb_S1x8_S1x1_0_7) (Shape.Idx.first (lt_of_lt_of_eq Nat.one_pos (numel1_S1x1).symm))

/-- The sink's shifted exponentials. -/
def es : FVec Ideal S8x128x1 .f32 := k0_pay55 (F := Ideal) (qh m c t) (kh m c t) (mk t) (k0_pay45 (s0 m c t)) (k0_pay46 (s1 m c t)) (k0_pay47 (s2 m c t)) (k0_pay48 (s3 m c t)) (k0_pay49 (s4 m c t)) (k0_pay50 (s5 m c t)) (s6 m c t) (s7 m c t)

/-- The denominators' reciprocals. -/
def rl : FVec Ideal S8x128x1 .f32 := k0_pay56 (F := Ideal) (qh m c t) (kh m c t) (mk t) (k0_pay45 (s0 m c t)) (k0_pay46 (s1 m c t)) (k0_pay47 (s2 m c t)) (k0_pay48 (s3 m c t)) (k0_pay49 (s4 m c t)) (k0_pay50 (s5 m c t)) (s6 m c t) (s7 m c t)

/-- The probabilities. -/
def ps : FVec Ideal S8x128x256 .f32 := k0_pay57 (F := Ideal) (qh m c t) (kh m c t) (mk t) (k0_pay45 (s0 m c t)) (k0_pay46 (s1 m c t)) (k0_pay47 (s2 m c t)) (k0_pay48 (s3 m c t)) (k0_pay49 (s4 m c t)) (k0_pay50 (s5 m c t)) (s6 m c t) (s7 m c t)

/-- The queries' gradients. -/
def qg : FVec Ideal S8x128x128 .f32 := queryGrads (kh m c t) (vh m c t) (ps m c t) (iblk m c 7 t)

/-- The keys' gradients, folded. -/
def kg : FVec Ideal S256x128 .f32 := k0_pay85 (keyGrads (qh m c t) (vh m c t) (ps m c t) (iblk m c 7 t))

/-- The values' gradients, folded. -/
def vg : FVec Ideal S256x128 .f32 := k0_pay86 (valueGrads (ps m c t) (gradHeads (iblk m c 7 t)))

/-- The sinks' shares. -/
def sr : FVec Ideal S8x128x1 .f32 := sinkRows (vh m c t) (es m c t) (rl m c t) (ps m c t) (iblk m c 7 t)

theorem hz2 : (![0, 0] : Fin 2 → ℕ) = fun _ => 0 := by funext d; revert d; decide

/-- The stores of the block of dq. -/
def dqStores : List (View.Piece (Elt Ideal) S128x512 .bf16) :=
  [⟨Rect.unit ![0, 384] ![128, 128] inb_S128x512_S128x128_0_384, queryOut3 (qg m c t) (iblk m c 2 t) (iblk m c 3 t)⟩,
   ⟨Rect.unit ![0, 256] ![128, 128] inb_S128x512_S128x128_0_256, queryOut2 (qg m c t) (iblk m c 2 t) (iblk m c 3 t)⟩,
   ⟨Rect.unit ![0, 128] ![128, 128] inb_S128x512_S128x128_0_128, queryOut1 (qg m c t) (iblk m c 2 t) (iblk m c 3 t)⟩,
   ⟨Rect.unit ![0, 0] ![128, 128] inb_S128x512_S128x128_0_0, queryOut0 (qg m c t) (iblk m c 2 t) (iblk m c 3 t)⟩]

/-- The stores of the block of dk and dv, over the carried rows' two halves. -/
def dkvStores (ca cb : FVec Ideal S128x128 .f32) : List (View.Piece (Elt Ideal) S128x256 .bf16) :=
  [⟨Rect.unit ![0, 128] ![128, 128] inb_S128x256_S128x128_0_128, k0_pay117 (F := Ideal) (vg m c t) cb⟩,
   ⟨Rect.unit ![0, 0] ![128, 128] inb_S128x256_S128x128_0_0, keyOut (kg m c t) ca (iblk m c 2 t) (iblk m c 3 t)⟩]

/-- The stores of the carried rows. -/
def carryStores : List (View.Piece (Elt Ideal) S128x256 .f32) :=
  [⟨Rect.unit ![0, 128] ![128, 128] inb_S128x256_S128x128_0_128, k0_pay119 (F := Ideal) (vg m c t)⟩,
   ⟨Rect.unit ![0, 0] ![128, 128] inb_S128x256_S128x128_0_0, k0_pay118 (F := Ideal) (kg m c t)⟩]

/-- The stores of the sinks' gradient, over the rows they add to. -/
def sinkStores (x0 x1 x2 x3 x4 x5 x6 x7 : FVec Ideal S1x128 .f32) : List (View.Piece (Elt Ideal) S8x128 .f32) :=
  [⟨Rect.unit ![7, 0] ![1, 128] inb_S8x128_S1x128_7_0, k0_pay94 (F := Ideal) (sr m c t) x7⟩,
   ⟨Rect.unit ![6, 0] ![1, 128] inb_S8x128_S1x128_6_0, k0_pay93 (F := Ideal) (sr m c t) x6⟩,
   ⟨Rect.unit ![5, 0] ![1, 128] inb_S8x128_S1x128_5_0, k0_pay92 (F := Ideal) (sr m c t) x5⟩,
   ⟨Rect.unit ![4, 0] ![1, 128] inb_S8x128_S1x128_4_0, k0_pay91 (F := Ideal) (sr m c t) x4⟩,
   ⟨Rect.unit ![3, 0] ![1, 128] inb_S8x128_S1x128_3_0, k0_pay90 (F := Ideal) (sr m c t) x3⟩,
   ⟨Rect.unit ![2, 0] ![1, 128] inb_S8x128_S1x128_2_0, k0_pay89 (F := Ideal) (sr m c t) x2⟩,
   ⟨Rect.unit ![1, 0] ![1, 128] inb_S8x128_S1x128_1_0, k0_pay88 (F := Ideal) (sr m c t) x1⟩,
   ⟨Rect.unit ![0, 0] ![1, 128] inb_S8x128_S1x128_0_0, k0_pay87 (F := Ideal) (sr m c t) x0⟩]

/-- The cleared sink gradient is zero. -/
theorem pay1_zero (y : S8x128.Idx) : k0_pay1 (F := Ideal) y = 0 := by
  idx_vars y
  pointwise [k0_pay1]

/-- The cleared carried rows are zero. -/
theorem pay2_zero (y : S128x256.Idx) : k0_pay2 (F := Ideal) y = 0 := by
  idx_vars y
  pointwise [k0_pay2]

/-- The store that clears the sinks' gradient. -/
abbrev clearSinks : View.Piece (Elt Ideal) S8x128 .f32 := ⟨Rect.unit ![0, 0] ![8, 128] inb_S8x128_S8x128_0_0, k0_pay1 (F := Ideal)⟩

/-- The store that clears the carried rows. -/
abbrev clearCarry : View.Piece (Elt Ideal) S128x256 .f32 := ⟨Rect.unit ![0, 0] ![128, 256] inb_S128x256_S128x256_0_0, k0_pay2 (F := Ideal)⟩

theorem canon_clearSinks : View.canon (Val := Elt Ideal) [clearSinks] = k0_pay1 (F := Ideal) :=
  View.canon_unit_zero (Val := Elt Ideal) (S := S8x128) (e := .f32) hz2 inb_S8x128_S8x128_0_0 (k0_pay1 (F := Ideal))

theorem canon_clearCarry : View.canon (Val := Elt Ideal) [clearCarry] = k0_pay2 (F := Ideal) :=
  View.canon_unit_zero (Val := Elt Ideal) (S := S128x256) (e := .f32) hz2 inb_S128x256_S128x256_0_0 (k0_pay2 (F := Ideal))

theorem mem_clearSinks (y : S8x128.Idx) : y ∈ clearSinks.1.set := View.mem_set_unit_zero (S := S8x128) hz2 inb_S8x128_S8x128_0_0 y

theorem mem_clearCarry (y : S128x256.Idx) : y ∈ clearCarry.1.set := View.mem_set_unit_zero (S := S128x256) hz2 inb_S128x256_S128x256_0_0 y

/-- Every store of the list lies in the rows below `h`. -/
def RowsBelow (h : ℕ) (L : List (View.Piece (Elt Ideal) S8x128 .f32)) : Prop := ∀ p ∈ L, ∀ y : S8x128.Idx, y ∈ p.1.set → (y 0).val < h

theorem rowsBelow_nil (h : ℕ) : RowsBelow h [] := fun _ hp => absurd hp List.not_mem_nil

theorem rowsBelow_cons {h k : ℕ} (hk : k < h) (inb : ∀ a, (![k, 0] : Fin S8x128.rank → ℕ) a + (![1, 128] : Fin S8x128.rank → ℕ) a ≤ S8x128.size a)
    (w : FVec Ideal S1x128 .f32) {L : List (View.Piece (Elt Ideal) S8x128 .f32)} (hL : RowsBelow h L) :
    RowsBelow h ((⟨Rect.unit (s := S8x128) ![k, 0] ![1, 128] inb, w⟩ : View.Piece (Elt Ideal) S8x128 .f32) :: L) := by
  intro p hp y hy
  rcases List.mem_cons.mp hp with rfl | hp
  · have h0 : y ∈ (Rect.unit (s := S8x128) ![k, 0] ![1, 128] inb).set := hy
    rw [Rect.mem_set_unit] at h0
    have h1 := (h0 (0 : Fin 2)).2
    change (y 0).val < k + 1 at h1
    omega
  · exact hL p hp y hy

/-- Row `h` is still zero after stores in rows below it. -/
theorem canon_rows {h : ℕ} {L : List (View.Piece (Elt Ideal) S8x128 .f32)} (hL : RowsBelow h L) (y : S8x128.Idx) (hy : h ≤ (y 0).val) :
    View.canon (Val := Elt Ideal) (L ++ [clearSinks]) y = (0 : EReal) := by
  induction L with
  | nil =>
    rw [List.nil_append, canon_clearSinks]
    exact pay1_zero y
  | cons p L ih =>
    rw [List.cons_append, View.canon_cons_of_not_mem]
    · exact ih fun q hq => hL q (List.mem_cons_of_mem _ hq)
    · intro hm
      have := hL p List.mem_cons_self y hm
      omega

/-- The same as a load reads it. -/
theorem row_zero {h : ℕ} (inb : ∀ a, (![h, 0] : Fin S8x128.rank → ℕ) a + (![1, 128] : Fin S8x128.rank → ℕ) a ≤ S8x128.size a)
    (v : View sig .tc .vmem S8x128 .f32) (L : List (View.Piece (Elt Ideal) S8x128 .f32)) (hL : RowsBelow h L)
    (x : S1x128.Idx) :
    v.readCov (Val := Elt Ideal) (L ++ [clearSinks]) (Rect.unit (s := S8x128) ![h, 0] ![1, 128] inb).toLoadRect x = (0 : EReal) := by
  rw [View.readCov_eq_canon_ld (Val := Elt Ideal) v (L ++ [clearSinks]) (Rect.unit (s := S8x128) ![h, 0] ![1, 128] inb)
    (fun y => ⟨clearSinks, List.mem_append_right _ (List.mem_singleton_self _), mem_clearSinks y⟩)]
  refine canon_rows hL _ ?_
  exact Nat.le_add_right _ _

/-- A load of the cleared carried rows is zero. -/
theorem carry_zero (v : View sig .tc .vmem S128x256 .f32) (r : Rect S128x256) (x : r.shape.Idx) :
    v.readCov (Val := Elt Ideal) [clearCarry] r.toLoadRect x = (0 : EReal) := by
  rw [View.readCov_eq_canon_ld (Val := Elt Ideal) v [clearCarry] r (fun y => ⟨clearCarry, List.mem_singleton_self _, mem_clearCarry y⟩), canon_clearCarry]
  exact pay2_zero _

set_option maxHeartbeats 1000000 in
/-- What a later point leaves of dq. -/
theorem later_dq (h : ¬t.val % 64 = 0) (xo : Vec Ideal S8x128 .f32) (xs : Vec Ideal S128x256 .f32) :
    (later m c t h xo xs).1 = View.canon (dqStores m c t) := by
  unfold later
  dsimp only
  rw [View.read_writes_eq_canon _ _ _ (later_covers_dq m c t h xo xs)]
  unfold laterRun
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S128x768) hz2, View.ld_unit_zero (S := S128x128) hz2, View.ld_unit_zero (S := S128x512) hz2]
  rfl

set_option maxHeartbeats 1000000 in
/-- What a later point leaves of dk and dv. -/
theorem later_dkv (h : ¬t.val % 64 = 0) (xo : Vec Ideal S8x128 .f32) (xs : Vec Ideal S128x256 .f32) :
    (later m c t h xo xs).2.1 = View.canon (dkvStores m c t (View.ld xs (Rect.unit ![0, 0] ![128, 128] inb_S128x256_S128x128_0_0)) (View.ld xs (Rect.unit ![0, 128] ![128, 128] inb_S128x256_S128x128_0_128))) := by
  unfold later
  dsimp only
  rw [View.read_writes_eq_canon _ _ _ (later_covers_dkv m c t h xo xs)]
  unfold laterRun
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S128x768) hz2, View.ld_unit_zero (S := S128x128) hz2, View.ld_unit_zero (S := S128x512) hz2, (Memref.isWhole_whole _).read_unread]
  rfl

set_option maxHeartbeats 1000000 in
/-- What a later point leaves of the sink gradient. -/
theorem later_sink (h : ¬t.val % 64 = 0) (xo : Vec Ideal S8x128 .f32) (xs : Vec Ideal S128x256 .f32) :
    (later m c t h xo xs).2.2.1 = View.canon (sinkStores m c t (View.ld xo (Rect.unit ![0, 0] ![1, 128] inb_S8x128_S1x128_0_0)) (View.ld xo (Rect.unit ![1, 0] ![1, 128] inb_S8x128_S1x128_1_0)) (View.ld xo (Rect.unit ![2, 0] ![1, 128] inb_S8x128_S1x128_2_0)) (View.ld xo (Rect.unit ![3, 0] ![1, 128] inb_S8x128_S1x128_3_0)) (View.ld xo (Rect.unit ![4, 0] ![1, 128] inb_S8x128_S1x128_4_0)) (View.ld xo (Rect.unit ![5, 0] ![1, 128] inb_S8x128_S1x128_5_0)) (View.ld xo (Rect.unit ![6, 0] ![1, 128] inb_S8x128_S1x128_6_0)) (View.ld xo (Rect.unit ![7, 0] ![1, 128] inb_S8x128_S1x128_7_0))) := by
  unfold later
  dsimp only
  rw [View.read_writes_eq_canon _ _ _ (later_covers_sink m c t h xo xs)]
  unfold laterRun
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S128x768) hz2, View.ld_unit_zero (S := S128x128) hz2, View.ld_unit_zero (S := S128x512) hz2, (hs0_10 t).read_unread]
  rfl

set_option maxHeartbeats 1000000 in
/-- What a later point leaves of the carried rows. -/
theorem later_carry (h : ¬t.val % 64 = 0) (xo : Vec Ideal S8x128 .f32) (xs : Vec Ideal S128x256 .f32) :
    (later m c t h xo xs).2.2.2 = View.canon (carryStores m c t) := by
  unfold later
  dsimp only
  rw [View.read_writes_eq_canon _ _ _ (later_covers_carry m c t h xo xs)]
  unfold laterRun
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S128x768) hz2, View.ld_unit_zero (S := S128x128) hz2, View.ld_unit_zero (S := S128x512) hz2]
  rfl

set_option maxHeartbeats 1000000 in
/-- What the first point leaves of dq. -/
theorem first_dq (h : t.val % 64 = 0) :
    (first m c t h).1 = View.canon (dqStores m c t) := by
  unfold first
  dsimp only
  rw [View.read_writes_eq_canon _ _ _ (first_covers_dq m c t h)]
  unfold firstRun
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S128x768) hz2, View.ld_unit_zero (S := S128x128) hz2, View.ld_unit_zero (S := S128x512) hz2]
  rfl

set_option maxHeartbeats 1000000 in
/-- What the first point leaves of dk and dv. -/
theorem first_dkv (h : t.val % 64 = 0) : ∃ ca cb : FVec Ideal S128x128 .f32,
    (∀ r l : Fin 128, ca (ix2 r l) = 0 ∧ cb (ix2 r l) = 0) ∧ (first m c t h).2.1 = View.canon (dkvStores m c t ca cb) := by
  unfold first
  dsimp only
  rw [View.read_writes_eq_canon _ _ _ (first_covers_dkv m c t h)]
  unfold firstRun
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S128x768) hz2, View.ld_unit_zero (S := S128x128) hz2, View.ld_unit_zero (S := S128x512) hz2]
  refine ⟨_, _, ?_, rfl⟩
  exact fun r l => ⟨carry_zero _ _ _, carry_zero _ _ _⟩

set_option maxHeartbeats 1000000 in
/-- What the first point leaves of the sink gradient. -/
theorem first_sink (h : t.val % 64 = 0) : ∃ x0 x1 x2 x3 x4 x5 x6 x7 : FVec Ideal S1x128 .f32,
    (∀ l : Fin 128, x0 (ix2 0 l) = 0 ∧ x1 (ix2 0 l) = 0 ∧ x2 (ix2 0 l) = 0 ∧ x3 (ix2 0 l) = 0 ∧ x4 (ix2 0 l) = 0 ∧ x5 (ix2 0 l) = 0 ∧ x6 (ix2 0 l) = 0 ∧ x7 (ix2 0 l) = 0) ∧ (first m c t h).2.2.1 = View.canon (sinkStores m c t x0 x1 x2 x3 x4 x5 x6 x7 ++ [clearSinks]) := by
  unfold first
  dsimp only
  rw [View.read_writes_eq_canon _ _ _ (first_covers_sink m c t h)]
  unfold firstRun
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S128x768) hz2, View.ld_unit_zero (S := S128x128) hz2, View.ld_unit_zero (S := S128x512) hz2]
  refine ⟨_, _, _, _, _, _, _, _, ?_, rfl⟩
  refine fun l => ⟨?_, ?_, ?_, ?_, ?_, ?_, ?_, ?_⟩
  · exact row_zero inb_S8x128_S1x128_0_0 _ _ (rowsBelow_nil 0) (ix2 0 l)
  · exact row_zero inb_S8x128_S1x128_1_0 _ _ (rowsBelow_cons (by decide) _ _ (rowsBelow_nil 1)) (ix2 0 l)
  · exact row_zero inb_S8x128_S1x128_2_0 _ _ (rowsBelow_cons (by decide) _ _ (rowsBelow_cons (by decide) _ _ (rowsBelow_nil 2))) (ix2 0 l)
  · exact row_zero inb_S8x128_S1x128_3_0 _ _ (rowsBelow_cons (by decide) _ _ (rowsBelow_cons (by decide) _ _ (rowsBelow_cons (by decide) _ _ (rowsBelow_nil 3)))) (ix2 0 l)
  · exact row_zero inb_S8x128_S1x128_4_0 _ _ (rowsBelow_cons (by decide) _ _ (rowsBelow_cons (by decide) _ _ (rowsBelow_cons (by decide) _ _ (rowsBelow_cons (by decide) _ _ (rowsBelow_nil 4))))) (ix2 0 l)
  · exact row_zero inb_S8x128_S1x128_5_0 _ _ (rowsBelow_cons (by decide) _ _ (rowsBelow_cons (by decide) _ _ (rowsBelow_cons (by decide) _ _ (rowsBelow_cons (by decide) _ _ (rowsBelow_cons (by decide) _ _ (rowsBelow_nil 5)))))) (ix2 0 l)
  · exact row_zero inb_S8x128_S1x128_6_0 _ _ (rowsBelow_cons (by decide) _ _ (rowsBelow_cons (by decide) _ _ (rowsBelow_cons (by decide) _ _ (rowsBelow_cons (by decide) _ _ (rowsBelow_cons (by decide) _ _ (rowsBelow_cons (by decide) _ _ (rowsBelow_nil 6))))))) (ix2 0 l)
  · exact row_zero inb_S8x128_S1x128_7_0 _ _ (rowsBelow_cons (by decide) _ _ (rowsBelow_cons (by decide) _ _ (rowsBelow_cons (by decide) _ _ (rowsBelow_cons (by decide) _ _ (rowsBelow_cons (by decide) _ _ (rowsBelow_cons (by decide) _ _ (rowsBelow_cons (by decide) _ _ (rowsBelow_nil 7)))))))) (ix2 0 l)

set_option maxHeartbeats 1000000 in
/-- What the first point leaves of the carried rows. -/
theorem first_carry (h : t.val % 64 = 0) :
    (first m c t h).2.2.2 = View.canon (carryStores m c t ++ [clearCarry]) := by
  unfold first
  dsimp only
  rw [View.read_writes_eq_canon _ _ _ (first_covers_carry m c t h)]
  unfold firstRun
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S128x768) hz2, View.ld_unit_zero (S := S128x128) hz2, View.ld_unit_zero (S := S128x512) hz2]
  rfl

end Cert.KernelIdeal.Sweep

end
-- ==== Proof.Softmax.lean ====
module

public import proofs.«01_k».proof.Proof.Mask

@[expose] public section

set_option maxRecDepth 16384

noncomputable section

/-! The probabilities and their gradients, as one point computes them, over the reals. -/

namespace Cert.KernelIdeal.Block

open Idealize.ShloMosaic Cert.KernelIdeal Cert.KernelIdeal.Gen Cert.Attn

section Probs
variable (D : Inp) (n : ℕ) {qh : FVec Ideal S8x128x128 .bf16} {kh vh : FVec Ideal S8x256x128 .bf16} {mk : IVec S128x256 1}
  {s0 s1 s2 s3 s4 s5 s6 s7 : EReal}

/-- A product of two sums of lanes, one half of which is zero. -/
theorem lane_dot (h : ℕ) (f g : ℕ → ℝ) :
    (∑ l : Fin 128, (((if (l : ℕ) / 64 = h % 2 then f (l % 64) else 0) : ℝ) : EReal) *
      (((if (l : ℕ) / 64 = h % 2 then g (l % 64) else 0) : ℝ) : EReal)) = ((∑ d : Fin 64, f d * g d : ℝ) : EReal) := by
  rw [← lane_sum (h % 2) (Nat.mod_lt _ (by decide)) (fun d => f d * g d), ← coe_sum]
  refine Finset.sum_congr rfl fun l _ => ?_
  rw [← EReal.coe_mul]
  congr 1
  split_ifs <;> simp

/-- The masked scores. -/
theorem scores_apply
    (hq : ∀ (h : Fin 8) (r l : Fin 128), qh (ix3 h r l) = (((if (l : ℕ) / 64 = (h : ℕ) % 2 then qs D n h r (l % 64) else 0) : ℝ) : EReal))
    (hk : ∀ (h : Fin 8) (j : Fin 256) (l : Fin 128), kh (ix3 h j l) = (((if (l : ℕ) / 64 = (h : ℕ) % 2 then kk D n (h / 4) j (l % 64) else 0) : ℝ) : EReal))
    (hm : ∀ (r : Fin 128) (j : Fin 256), mk (ix2 r j) = if msk n r j then 1#1 else 0#1)
    (h : Fin 8) (r : Fin 128) (j : Fin 256) :
    k0_pay52 qh kh mk (ix3 h r j) = if msk n r j then ((sc D n h r j : ℝ) : EReal) else ⊥ := by
  pointwise [k0_pay52]
  rw [hm, select_ite, ofBits_bot]
  simp only [hq, hk]
  rw [lane_dot]
  rfl

/-- The sinks, head by head. -/
abbrev sinkHeads (s0 s1 s2 s3 s4 s5 s6 s7 : EReal) : FVec Ideal S8x1x1 .f32 :=
  k0_pay51 (F := Ideal) (k0_pay45 s0) (k0_pay46 s1) (k0_pay47 s2) (k0_pay48 s3) (k0_pay49 s4) (k0_pay50 s5) s6 s7

theorem sinkHeads_apply (f : ℕ → ℝ) (h0 : s0 = f 0) (h1 : s1 = f 1) (h2 : s2 = f 2) (h3 : s3 = f 3) (h4 : s4 = f 4)
    (h5 : s5 = f 5) (h6 : s6 = f 6) (h7 : s7 = f 7) (h : Fin 8) :
    sinkHeads s0 s1 s2 s3 s4 s5 s6 s7 (ix3 h 0 0) = ((f h : ℝ) : EReal) := by
  subst h0 h1 h2 h3 h4 h5 h6 h7
  fin_vals h with hk
  all_goals
    pointwise [sinkHeads, k0_pay51, k0_pay45, k0_pay46, k0_pay47, k0_pay48, k0_pay49, k0_pay50]
    simp only [hk, Nat.reduceSub, Nat.reduceLT, ↓reduceDIte]

variable
    (hq : ∀ (h : Fin 8) (r l : Fin 128), qh (ix3 h r l) = (((if (l : ℕ) / 64 = (h : ℕ) % 2 then qs D n h r (l % 64) else 0) : ℝ) : EReal))
    (hk : ∀ (h : Fin 8) (j : Fin 256) (l : Fin 128), kh (ix3 h j l) = (((if (l : ℕ) / 64 = (h : ℕ) % 2 then kk D n (h / 4) j (l % 64) else 0) : ℝ) : EReal))
    (hm : ∀ (r : Fin 128) (j : Fin 256), mk (ix2 r j) = if msk n r j then 1#1 else 0#1)

include hq hk hm

/-- The shift of row `r`: the greatest of its scores and of the sink, a real. -/
theorem shift_apply (hs : ∀ h : Fin 8, sinkHeads s0 s1 s2 s3 s4 s5 s6 s7 (ix3 h 0 0) = ((D.SK h : ℝ) : EReal)) (h : Fin 8) (r : Fin 128) :
    ∃ M : ℝ, k0_pay53 (F := Ideal) qh kh mk (k0_pay45 s0) (k0_pay46 s1) (k0_pay47 s2) (k0_pay48 s3) (k0_pay49 s4) (k0_pay50 s5) s6 s7
      (ix3 h r 0) = (M : EReal) := by
  have hs' := hs h
  unfold sinkHeads at hs'
  pointwise [k0_pay53]
  rw [hs', ofBits_bot]
  refine max_real _ _ (fun j => ?_) _
  rw [scores_apply D n hq hk hm]
  split_ifs
  · exact EReal.coe_ne_top _
  · exact bot_ne_top

variable (hs : ∀ h : Fin 8, sinkHeads s0 s1 s2 s3 s4 s5 s6 s7 (ix3 h 0 0) = ((D.SK h : ℝ) : EReal))
  {M : ℝ} {h : Fin 8} {r : Fin 128}
  (hM : k0_pay53 (F := Ideal) qh kh mk (k0_pay45 s0) (k0_pay46 s1) (k0_pay47 s2) (k0_pay48 s3) (k0_pay49 s4) (k0_pay50 s5) s6 s7
      (ix3 h r 0) = (M : EReal))

include hM in
/-- The shifted exponentials. -/
theorem exps_apply (j : Fin 256) :
    k0_pay54 (F := Ideal) qh kh mk (k0_pay45 s0) (k0_pay46 s1) (k0_pay47 s2) (k0_pay48 s3) (k0_pay49 s4) (k0_pay50 s5) s6 s7
      (ix3 h r j) = ((eM D M n h r j : ℝ) : EReal) := by
  pointwise [k0_pay54]
  rw [hM, scores_apply D n hq hk hm, eM]
  split_ifs
  · rw [← EReal.coe_sub]; rfl
  · rfl

include hs hM in
omit hq hk hm in
/-- The sink's shifted exponential. -/
theorem sinkExp_apply :
    k0_pay55 (F := Ideal) qh kh mk (k0_pay45 s0) (k0_pay46 s1) (k0_pay47 s2) (k0_pay48 s3) (k0_pay49 s4) (k0_pay50 s5) s6 s7
      (ix3 h r 0) = ((Real.exp (D.SK h - M) : ℝ) : EReal) := by
  have hs' := hs h
  unfold sinkHeads at hs'
  pointwise [k0_pay55]
  rw [hM, hs', ← EReal.coe_sub]
  rfl

include hs hM in
/-- The denominator's reciprocal. -/
theorem recip_apply :
    k0_pay56 (F := Ideal) qh kh mk (k0_pay45 s0) (k0_pay46 s1) (k0_pay47 s2) (k0_pay48 s3) (k0_pay49 s4) (k0_pay50 s5) s6 s7
      (ix3 h r 0) = ((1 / zM D M n h r : ℝ) : EReal) := by
  pointwise [k0_pay56]
  rw [sinkExp_apply D hs hM]
  simp only [exps_apply D n hq hk hm hM]
  rw [coe_sum, ← EReal.coe_add]
  change Ideal.div _ ((zM D M n h r : ℝ) : EReal) = _
  rw [Ideal.div_coe (zM_ne D M n h r), one_mul]

omit hM in
include hs in
/-- The probabilities. -/
theorem probs_apply (h : Fin 8) (r : Fin 128) (j : Fin 256) :
    k0_pay57 (F := Ideal) qh kh mk (k0_pay45 s0) (k0_pay46 s1) (k0_pay47 s2) (k0_pay48 s3) (k0_pay49 s4) (k0_pay50 s5) s6 s7
      (ix3 h r j) = ((pn D n h r j : ℝ) : EReal) := by
  obtain ⟨M, hM⟩ := shift_apply D n hq hk hm hs h r
  pointwise [k0_pay57]
  rw [recip_apply D n hq hk hm hs hM, exps_apply D n hq hk hm hM, ← EReal.coe_mul, ← eM_div D M, mul_one_div]

omit hM in
include hs in
/-- The sink's probability. -/
theorem sinkProb_apply (h : Fin 8) (r : Fin 128) :
    k0_pay55 (F := Ideal) qh kh mk (k0_pay45 s0) (k0_pay46 s1) (k0_pay47 s2) (k0_pay48 s3) (k0_pay49 s4) (k0_pay50 s5) s6 s7
      (ix3 h r 0) *
    k0_pay56 (F := Ideal) qh kh mk (k0_pay45 s0) (k0_pay46 s1) (k0_pay47 s2) (k0_pay48 s3) (k0_pay49 s4) (k0_pay50 s5) s6 s7
      (ix3 h r 0) = ((Real.exp (D.SK h) / zz D n h r : ℝ) : EReal) := by
  obtain ⟨M, hM⟩ := shift_apply D n hq hk hm hs h r
  rw [recip_apply D n hq hk hm hs hM, sinkExp_apply D hs hM, ← EReal.coe_mul, ← sM_div D M, mul_one_div]

end Probs

end Cert.KernelIdeal.Block

end
-- ==== Proof.PointVal.lean ====
module

public import proofs.«01_k».proof.Proof.Points
public import proofs.«01_k».proof.Proof.Softmax

@[expose] public section

set_option maxRecDepth 16384

noncomputable section

/-! One point's stores over the reals: what each block holds once the point has run, given the real blocks it reads. -/

namespace Cert.KernelIdeal.Sweep

open Idealize.ShloMosaic Idealize.ShloMosaic.TcCoe Idealize.ShloMosaic.Tactic
open Cert.KernelIdeal Cert.KernelIdeal.Gen Cert.KernelIdeal.Block Cert.Attn

variable (m : (ℓ : Loc nD τ sig) → Buf (Elt Ideal) ℓ) (c : Dev nD) (t : Fin cfg0.N) (D : Inp) (n : ℕ)

/-- The blocks point `t` reads are block `n`'s rows of the real inputs. -/
structure Reads : Prop where
  hn : n = 63 - t.val
  x : ∀ (r : Fin 128) (k : Fin 768), iblk m c 0 t (ix2 r k) = ((D.X (128 * n + r) k : ℝ) : EReal)
  xp : ∀ (r : Fin 128) (k : Fin 768), iblk m c 1 t (ix2 r k) = ((D.X (128 * (n - 1) + r) k : ℝ) : EReal)
  cs : ∀ r l : Fin 128, iblk m c 2 t (ix2 r l) = ((D.C (128 * n + r) (l % 32) : ℝ) : EReal)
  sn : ∀ r l : Fin 128, iblk m c 3 t (ix2 r l) =
    (((if (l : ℕ) % 64 < 32 then -D.S (128 * n + r) (l % 32) else D.S (128 * n + r) (l % 32)) : ℝ) : EReal)
  csp : ∀ r l : Fin 128, iblk m c 4 t (ix2 r l) = ((D.C (128 * (n - 1) + r) (l % 32) : ℝ) : EReal)
  snp : ∀ r l : Fin 128, iblk m c 5 t (ix2 r l) =
    (((if (l : ℕ) % 64 < 32 then -D.S (128 * (n - 1) + r) (l % 32) else D.S (128 * (n - 1) + r) (l % 32)) : ℝ) : EReal)
  sk : ∀ h : Fin 8, iblk m c 6 t (ix2 0 h) = ((D.SK h : ℝ) : EReal)
  dy : ∀ (r : Fin 128) (k : Fin 512), iblk m c 7 t (ix2 r k) = ((D.DY (128 * n + r) k : ℝ) : EReal)

variable {m c t D n} (R : Reads m c t D n)
include R

/-- The point's queries. -/
theorem qh_val (h : Fin 8) (r l : Fin 128) :
    qh m c t (ix3 h r l) = (((if (l : ℕ) / 64 = (h : ℕ) % 2 then qs D n h r (l % 64) else 0) : ℝ) : EReal) := by
  refine (queryHeads_apply (Q := fun r a => qs D n (a / 64) r (a % 64)) (fun r a => queries_apply (X := fun r k => D.X (128 * n + r) k)
    (C := fun r => D.C (128 * n + r)) (S := fun r => D.S (128 * n + r)) R.x R.cs R.sn r a) h r l).trans ?_
  have e1 : (64 * (h : ℕ) + l % 64) / 64 = h := by omega
  have e2 : (64 * (h : ℕ) + l % 64) % 64 = l % 64 := by omega
  simp only [e1, e2]

/-- The point's keys. -/
theorem kh_val (h : Fin 8) (j : Fin 256) (l : Fin 128) :
    kh m c t (ix3 h j l) = (((if (l : ℕ) / 64 = (h : ℕ) % 2 then kk D n (h / 4) j (l % 64) else 0) : ℝ) : EReal) := by
  refine (keyHeads_apply (K := fun j a => kk D n (a / 64) j (a % 64)) (fun j a => ?_) h j l).trans ?_
  · refine (keys_apply (X := fun r k => D.X (128 * n + r) k) (XP := fun r k => D.X (128 * (n - 1) + r) k) (C := fun r => D.C (128 * n + r))
      (S := fun r => D.S (128 * n + r)) (CP := fun r => D.C (128 * (n - 1) + r)) (SP := fun r => D.S (128 * (n - 1) + r))
      R.x R.xp R.cs R.sn R.csp R.snp j a).trans ?_
    unfold kk krow
    simp only [Nat.add_assoc]
    split_ifs <;> rfl
  · have e1 : (64 * ((h : ℕ) / 4) + l % 64) / 64 = h / 4 := by omega
    have e2 : (64 * ((h : ℕ) / 4) + l % 64) % 64 = l % 64 := by omega
    simp only [e1, e2]

/-- The point's values. -/
theorem vh_val (h : Fin 8) (j : Fin 256) (l : Fin 128) :
    vh m c t (ix3 h j l) = (((if (l : ℕ) / 64 = (h : ℕ) % 2 then vv D n (h / 4) j (l % 64) else 0) : ℝ) : EReal) := by
  refine (valueHeads_apply (K := fun j a => vv D n (a / 64) j (a % 64)) (fun j a => ?_) h j l).trans ?_
  · refine (values_apply (X := fun r k => D.X (128 * n + r) k) (XP := fun r k => D.X (128 * (n - 1) + r) k) R.x R.xp j a).trans ?_
    unfold vv krow
    have e0 : 640 + 64 * ((a : ℕ) / 64) + a % 64 = 640 + a := by omega
    rw [e0]
    split_ifs <;> rfl
  · have e1 : (64 * ((h : ℕ) / 4) + l % 64) / 64 = h / 4 := by omega
    have e2 : (64 * ((h : ℕ) / 4) + l % 64) % 64 = l % 64 := by omega
    simp only [e1, e2]

/-- The output's gradient, head by head. -/
theorem gh_val (h : Fin 8) (r l : Fin 128) :
    gradHeads (iblk m c 7 t) (ix3 h r l) = (((if (l : ℕ) / 64 = (h : ℕ) % 2 then dyv D n h r (l % 64) else 0) : ℝ) : EReal) :=
  gradHeads_apply (Q := fun r a => D.DY (128 * n + r) a) R.dy h r l

/-- The point's mask. -/
theorem mk_val (r : Fin 128) (j : Fin 256) : mk t (ix2 r j) = if msk n r j then 1#1 else 0#1 := by
  have e : Scalar.subi (63#32) (BitVec.ofNat 32 ↑(grid0.coords t 0)) = BitVec.ofNat 32 n := by
    rw [R.hn]
    clear R
    revert t
    decide +kernel
  unfold mk
  rw [e]
  exact mask_apply n (by have := R.hn; omega) r j

omit R in
/-- A load of one sink. -/
theorem ld_sink (x : Vec Ideal S1x8 .f32) (k : Fin 8) (inb : ∀ a, (![0, (k : ℕ)] : Fin S1x8.rank → ℕ) a + (![1, 1] : Fin S1x8.rank → ℕ) a ≤ S1x8.size a) :
    View.ld (Val := Elt Ideal) (e' := .f32) x (Rect.unit (s := S1x8) ![0, (k : ℕ)] ![1, 1] inb)
      (Shape.Idx.first (s := S1x1) (lt_of_lt_of_eq Nat.one_pos (numel1_S1x1).symm)) = x (ix2 0 k) := by
  refine congrArg x (funext fun a => Fin.ext ?_)
  match a with
  | ⟨0, _⟩ => rfl
  | ⟨1, _⟩ => rfl

/-- The point's sinks. -/
theorem sinks_val (h : Fin 8) :
    sinkHeads (s0 m c t) (s1 m c t) (s2 m c t) (s3 m c t) (s4 m c t) (s5 m c t) (s6 m c t) (s7 m c t) (ix3 h 0 0) = ((D.SK h : ℝ) : EReal) :=
  sinkHeads_apply D.SK ((ld_sink _ 0 _).trans (R.sk 0)) ((ld_sink _ 1 _).trans (R.sk 1)) ((ld_sink _ 2 _).trans (R.sk 2)) ((ld_sink _ 3 _).trans (R.sk 3)) ((ld_sink _ 4 _).trans (R.sk 4)) ((ld_sink _ 5 _).trans (R.sk 5)) ((ld_sink _ 6 _).trans (R.sk 6)) ((ld_sink _ 7 _).trans (R.sk 7)) h

/-- The point's probabilities. -/
theorem ps_val (h : Fin 8) (r : Fin 128) (j : Fin 256) : ps m c t (ix3 h r j) = ((pn D n h r j : ℝ) : EReal) :=
  probs_apply D n (qh_val R) (kh_val R) (mk_val R) (sinks_val R) h r j

/-- The queries' gradients at the point. -/
theorem qg_val (h : Fin 8) (r l : Fin 128) :
    qg m c t (ix3 h r l) = (((if (l : ℕ) / 64 = (h : ℕ) % 2 then gq D n h r (l % 64) * (1 / 8) else 0) : ℝ) : EReal) :=
  queryGrads_apply D n (vh_val R) (gh_val R) (ps_val R) (kh_val R) h r l

/-- The keys' gradients at the point. -/
theorem kg_val (j : Fin 256) (l : Fin 128) : kg m c t (ix2 j l) = ((gk D n (l / 64) j (l % 64) : ℝ) : EReal) :=
  foldK_apply (f := fun h j d => gk1 D n h j d) (keyGrads_apply D n (vh_val R) (gh_val R) (ps_val R) (qh_val R)) j l

/-- The values' gradients at the point. -/
theorem vg_val (j : Fin 256) (l : Fin 128) : vg m c t (ix2 j l) = ((gv D n (l / 64) j (l % 64) : ℝ) : EReal) :=
  foldV_apply (f := fun h j d => gv1 D n h j d) (valueGrads_apply D n (ps_val R) (gh_val R)) j l

/-- The sinks' shares at the point. -/
theorem sr_val (h : Fin 8) (r : Fin 128) : sr m c t (ix3 h r 0) = ((Attn.sk D n h r : ℝ) : EReal) :=
  sinkRows_apply D n (vh_val R) (gh_val R) (ps_val R) (sinkProb_apply D n (qh_val R) (kh_val R) (mk_val R) (sinks_val R)) h r

end Cert.KernelIdeal.Sweep

end
-- ==== Proof.Blocks.lean ====
module

public import proofs.«01_k».proof.Proof.Rows
public import proofs.«01_k».proof.Proof.Tables
public import proofs.«01_k».proof.Proof.PointVal

@[expose] public section

set_option maxRecDepth 16384

noncomputable section

/-! The blocks a point reads are rows of the real inputs. -/

namespace Cert.KernelIdeal.Sweep

open Idealize.ShloMosaic Idealize.ShloMosaic.TcCoe Idealize.ShloMosaic.Tactic
open Cert.KernelIdeal Cert.KernelIdeal.Gen Cert.Attn

variable (m : (ℓ : Loc nD τ sig) → Buf (Elt Ideal) ℓ) (c : Dev nD)

theorem index_0 : ∀ t : Fin cfg0.N, win0_0.index t 0 = 63 - t.val := by decide +kernel

/-- Window 0 holds rows of its array. -/
theorem blk_0 (t : Fin cfg0.N) (r : Fin 128) (k : Fin 768) :
    iblk m c 0 t (ix2 r k) = V m c main_arg0 (ix2 ⟨128 * (63 - t.val) + r, by omega⟩ k) := by
  refine congrArg (V m c main_arg0) (funext fun a => Fin.ext ?_)
  match a with
  | ⟨0, _⟩ =>
    show win0_0.index t 0 * 128 + 1 * r.val = 128 * (63 - t.val) + r
    rw [index_0]; omega
  | ⟨1, _⟩ => exact Rows.at0 _

theorem index_1 : ∀ t : Fin cfg0.N, win0_1.index t 0 = 63 - t.val - 1 := by decide +kernel

/-- Window 1 holds rows of its array. -/
theorem blk_1 (t : Fin cfg0.N) (r : Fin 128) (k : Fin 768) :
    iblk m c 1 t (ix2 r k) = V m c main_arg0 (ix2 ⟨128 * (63 - t.val - 1) + r, by omega⟩ k) := by
  refine congrArg (V m c main_arg0) (funext fun a => Fin.ext ?_)
  match a with
  | ⟨0, _⟩ =>
    show win0_1.index t 0 * 128 + 1 * r.val = 128 * (63 - t.val - 1) + r
    rw [index_1]; omega
  | ⟨1, _⟩ => exact Rows.at0 _

theorem index_2 : ∀ t : Fin cfg0.N, win0_2.index t 0 = 63 - t.val := by decide +kernel

/-- Window 2 holds rows of its array. -/
theorem blk_2 (t : Fin cfg0.N) (r : Fin 128) (k : Fin 128) :
    iblk m c 2 t (ix2 r k) = V m c main_v16 (ix2 ⟨128 * (63 - t.val) + r, by omega⟩ k) := by
  refine congrArg (V m c main_v16) (funext fun a => Fin.ext ?_)
  match a with
  | ⟨0, _⟩ =>
    show win0_2.index t 0 * 128 + 1 * r.val = 128 * (63 - t.val) + r
    rw [index_2]; omega
  | ⟨1, _⟩ => exact Rows.at0 _

theorem index_3 : ∀ t : Fin cfg0.N, win0_3.index t 0 = 63 - t.val := by decide +kernel

/-- Window 3 holds rows of its array. -/
theorem blk_3 (t : Fin cfg0.N) (r : Fin 128) (k : Fin 128) :
    iblk m c 3 t (ix2 r k) = V m c main_v18 (ix2 ⟨128 * (63 - t.val) + r, by omega⟩ k) := by
  refine congrArg (V m c main_v18) (funext fun a => Fin.ext ?_)
  match a with
  | ⟨0, _⟩ =>
    show win0_3.index t 0 * 128 + 1 * r.val = 128 * (63 - t.val) + r
    rw [index_3]; omega
  | ⟨1, _⟩ => exact Rows.at0 _

theorem index_4 : ∀ t : Fin cfg0.N, win0_4.index t 0 = 63 - t.val - 1 := by decide +kernel

/-- Window 4 holds rows of its array. -/
theorem blk_4 (t : Fin cfg0.N) (r : Fin 128) (k : Fin 128) :
    iblk m c 4 t (ix2 r k) = V m c main_v16 (ix2 ⟨128 * (63 - t.val - 1) + r, by omega⟩ k) := by
  refine congrArg (V m c main_v16) (funext fun a => Fin.ext ?_)
  match a with
  | ⟨0, _⟩ =>
    show win0_4.index t 0 * 128 + 1 * r.val = 128 * (63 - t.val - 1) + r
    rw [index_4]; omega
  | ⟨1, _⟩ => exact Rows.at0 _

theorem index_5 : ∀ t : Fin cfg0.N, win0_5.index t 0 = 63 - t.val - 1 := by decide +kernel

/-- Window 5 holds rows of its array. -/
theorem blk_5 (t : Fin cfg0.N) (r : Fin 128) (k : Fin 128) :
    iblk m c 5 t (ix2 r k) = V m c main_v18 (ix2 ⟨128 * (63 - t.val - 1) + r, by omega⟩ k) := by
  refine congrArg (V m c main_v18) (funext fun a => Fin.ext ?_)
  match a with
  | ⟨0, _⟩ =>
    show win0_5.index t 0 * 128 + 1 * r.val = 128 * (63 - t.val - 1) + r
    rw [index_5]; omega
  | ⟨1, _⟩ => exact Rows.at0 _

theorem index_7 : ∀ t : Fin cfg0.N, win0_7.index t 0 = 63 - t.val := by decide +kernel

/-- Window 7 holds rows of its array. -/
theorem blk_7 (t : Fin cfg0.N) (r : Fin 128) (k : Fin 512) :
    iblk m c 7 t (ix2 r k) = V m c main_arg3 (ix2 ⟨128 * (63 - t.val) + r, by omega⟩ k) := by
  refine congrArg (V m c main_arg3) (funext fun a => Fin.ext ?_)
  match a with
  | ⟨0, _⟩ =>
    show win0_7.index t 0 * 128 + 1 * r.val = 128 * (63 - t.val) + r
    rw [index_7]; omega
  | ⟨1, _⟩ => exact Rows.at0 _

/-- Window 6 holds the sinks. -/
theorem blk_6 (t : Fin cfg0.N) (h : Fin 8) : iblk m c 6 t (ix2 0 h) = V m c main_arg2 (ix2 0 h) := by
  refine congrArg (V m c main_arg2) (funext fun a => Fin.ext ?_)
  match a with
  | ⟨0, _⟩ => rfl
  | ⟨1, _⟩ => exact Rows.at0 _

/-- The real inputs of the device's arguments. -/
def din : Inp :=
  inp (fun T k => m (c, main_arg0) (ix2 T k)) (fun T => m (c, main_arg1) (ix2 0 T)) (fun h => m (c, main_arg2) (ix2 0 h))
    (fun T k => m (c, main_arg3) (ix2 T k))

/-- The device's arguments are finite. -/
def Fin0 : Prop :=
  Finite (fun T k => m (c, main_arg0) (ix2 T k)) (fun h => m (c, main_arg2) (ix2 0 h)) (fun T k => m (c, main_arg3) (ix2 T k))

theorem din_C (T : Fin 8192) (d : ℕ) : (din m c).C T d = Real.cos (ang (m (c, main_arg1) (ix2 0 T)) d) := by
  unfold din; exact inp_C T d
theorem din_S (T : Fin 8192) (d : ℕ) : (din m c).S T d = Real.sin (ang (m (c, main_arg1) (ix2 0 T)) d) := by
  unfold din; exact inp_S T d
theorem din_X (H : Fin0 m c) (T : Fin 8192) (k : Fin 768) : m (c, main_arg0) (ix2 T k) = (((din m c).X T k : ℝ) : EReal) := by
  unfold din; exact H.x_eq T k
theorem din_SK (H : Fin0 m c) (h : Fin 8) : m (c, main_arg2) (ix2 0 h) = (((din m c).SK h : ℝ) : EReal) := by
  unfold din; exact H.s_eq h
theorem din_DY (H : Fin0 m c) (T : Fin 8192) (k : Fin 512) : m (c, main_arg3) (ix2 T k) = (((din m c).DY T k : ℝ) : EReal) := by
  unfold din; exact H.g_eq T k

theorem cos_row (T : Fin 8192) (l : Fin 128) : V m c main_v16 (ix2 T l) = (((din m c).C T (l % 32) : ℝ) : EReal) := by
  rw [cos_table, din_C]
theorem sin_row (T : Fin 8192) (l : Fin 128) : V m c main_v18 (ix2 T l) =
    (((if (l : ℕ) % 64 < 32 then -(din m c).S T (l % 32) else (din m c).S T (l % 32)) : ℝ) : EReal) := by
  rw [sin_table, din_S]

/-- Every point reads its block's rows of the real inputs. -/
theorem reads (H : Fin0 m c) (t : Fin cfg0.N) : Reads m c t (din m c) (63 - t.val) where
  hn := rfl
  x r k := by
    rw [blk_0, V_main_arg0]; exact din_X m c H _ k
  xp r k := by
    rw [blk_1, V_main_arg0]; exact din_X m c H _ k
  cs r l := (blk_2 m c t r l).trans (cos_row m c _ l)
  sn r l := (blk_3 m c t r l).trans (sin_row m c _ l)
  csp r l := (blk_4 m c t r l).trans (cos_row m c _ l)
  snp r l := (blk_5 m c t r l).trans (sin_row m c _ l)
  sk h := by
    rw [blk_6, V_main_arg2]; exact din_SK m c H h
  dy r k := by
    rw [blk_7, V_main_arg3]; exact din_DY m c H _ k

end Cert.KernelIdeal.Sweep

end
-- ==== Proof.Pre.lean ====
module

public import proofs.«01_k».proof.Defs
public import proofs.«01_k».proof.Proof.Blocks
public import Idealize.ShloMosaic.Lib.ReduceAll

@[expose] public section

set_option maxRecDepth 16384

noncomputable section

/-! The precondition, read: the rows, the sinks and the gradient of the output hold real numbers. -/

namespace Cert.Attn

open Idealize.ShloMosaic

/-- The side conditions of the precondition's operations. -/
instance preFacts : Cert.Pre_finite.Facts where
  bcast_S_S8192x768 := by decide
  reducesTo_S8192x768_S_d0_1 := by decide
  h_S_ := by decide
  bcast_S_S1x8 := by decide
  reducesTo_S1x8_S_d0_1 := by decide
  bcast_S_S8192x512 := by decide
  reducesTo_S8192x512_S_d0_1 := by decide

/-- Two one-bit words whose conjunction is one are both one. -/
theorem both_one (a b : BitVec 1) (h : IntOp.andi a b = 1#1) : a = 1#1 ∧ b = 1#1 := by
  revert a b; decide

/-- The word of plus infinity. -/
theorem ofBits_top : Ideal.ofBits .f32 0x7F800000#32 = ⊤ := by simp [Ideal.ofBits, Ideal.ieee]

/-- An extended real whose absolute value is below infinity is a real. -/
theorem real_of_abs_lt (x : EReal) (h : Ideal.cmp .olt (max x (-x)) (Ideal.ofBits .f32 0x7F800000#32) = 1#1) : ∃ r : ℝ, x = r := by
  rw [ofBits_top] at h
  have hb : ∀ b : Bool, BitVec.ofBool b = 1#1 → b = true := by decide
  have hlt : max x (-x) < ⊤ := of_decide_eq_true (hb _ h)
  have h1 : x ≠ ⊤ := ne_of_lt (lt_of_le_of_lt (le_max_left _ _) hlt)
  have h2 : x ≠ ⊥ := by
    rintro rfl
    exact absurd hlt (by simp)
  exact ⟨x.toReal, (EReal.coe_toReal h1 h2).symm⟩

instance : Subsingleton Cert.Pre_finite.S_.Idx := ⟨fun a b => funext fun i => i.elim0⟩

/-- The predicate, all ones, says that the three arrays hold reals. -/
theorem reals_of_pre (a : FVec Ideal Cert.Pre_finite.S8192x768 .f32) (p : IVec Cert.Pre_finite.S1x8192 32) (s : FVec Ideal Cert.Pre_finite.S1x8 .f32)
    (g : FVec Ideal Cert.Pre_finite.S8192x512 .f32) (h : Cert.Pre_finite.fn (F := Ideal) a p s g = fun _ => 1#1) :
    (∀ i, ∃ r : ℝ, (a i : EReal) = r) ∧ (∀ i, ∃ r : ℝ, (s i : EReal) = r) ∧ ∀ i, ∃ r : ℝ, (g i : EReal) = r := by
  have h0 := congrFun h (Shape.Idx.first Cert.Pre_finite.Facts.h_S_)
  unfold Cert.Pre_finite.fn at h0
  obtain ⟨h1, h2⟩ := both_one _ _ h0
  obtain ⟨h3, h4⟩ := both_one _ _ h1
  exact ⟨fun i => real_of_abs_lt _ (Host.reduce_andi_all _ _ _ _ _ h3 i), fun i => real_of_abs_lt _ (Host.reduce_andi_all _ _ _ _ _ h4 i),
    fun i => real_of_abs_lt _ (Host.reduce_andi_all _ _ _ _ _ h2 i)⟩

open Cert.KernelIdeal in
/-- Under the precondition every device's arguments are finite. -/
theorem fin_of_pre (m : (ℓ : Loc nD τ sig) → Buf (Elt Ideal) ℓ) (H : Cert.Pre_KernelIdeal_finite m) (c : Dev nD) : Cert.KernelIdeal.Sweep.Fin0 m c := by
  obtain ⟨h1, h2, h3⟩ := reals_of_pre _ _ _ _ (H c)
  exact ⟨fun T k => h1 (ix2 T k), fun h => h2 (ix2 0 h), fun T k => h3 (ix2 T k)⟩

end Cert.Attn

end
-- ==== Proof.PointOut.lean ====
module

public import proofs.«01_k».proof.Proof.PointVal
public import Idealize.ShloMosaic.Lib.Pipeline.CanonAppend

@[expose] public section

set_option maxRecDepth 16384

noncomputable section

/-! What a point leaves in its four blocks, over the reals. -/

namespace Cert.KernelIdeal.Sweep

open Idealize.ShloMosaic Idealize.ShloMosaic.TcCoe Idealize.ShloMosaic.Tactic
open Cert.KernelIdeal Cert.KernelIdeal.Gen Cert.KernelIdeal.Block Cert.Attn

variable {m : (ℓ : Loc nD τ sig) → Buf (Elt Ideal) ℓ} {c : Dev nD} {t : Fin cfg0.N} {D : Inp} {n : ℕ} (R : Reads m c t D n)

/-- The first result at a row of block `n`. -/
theorem outQ_at (r l p : ℕ) (hr : r < 128) (hl : l < 128) :
    outQ D (128 * n + (0 + 1 * r)) (128 * p + 1 * l) =
      unrope (fun d => gq D n (2 * p + l / 64) r d * (1 / 8)) (D.C (128 * n + r)) (D.S (128 * n + r)) (l % 64) := by
  have e1 : (128 * n + (0 + 1 * r)) / 128 = n := by omega
  have e2 : (128 * n + (0 + 1 * r)) % 128 = r := by omega
  have e3 : (128 * p + 1 * l) / 64 = 2 * p + l / 64 := by omega
  have e4 : (128 * p + 1 * l) % 64 = l % 64 := by omega
  have e5 : 128 * n + (0 + 1 * r) = 128 * n + r := by omega
  unfold outQ
  rw [e1, e2, e3, e4, e5]

/-- A block of 128 columns, read at its index. -/
theorem idx_split (x : S128x128.Idx) : ∃ r l : Fin 128, x = ix2 r l :=
  ⟨x 0, x 1, by funext a; match a with | ⟨0, _⟩ => rfl | ⟨1, _⟩ => rfl⟩

include R in
/-- The block of dq. -/
theorem dq_val (y : S128x512.Idx) :
    View.canon (Val := Elt Ideal) (dqStores m c t) y = ((outQ D (128 * n + (y 0).val) (y 1).val : ℝ) : EReal) := by
  refine View.canon_apply_of_pieces (Val := Elt Ideal) (e := .bf16) (fun y : S128x512.Idx => ((outQ D (128 * n + (y 0).val) (y 1).val : ℝ) : EReal)) _ ?_ y ?_
  · intro p hp
    rcases List.mem_cons.mp hp with rfl | hp
    · intro x
      obtain ⟨r, l, rfl⟩ := idx_split x
      refine (queryOut3_apply (C := fun r => D.C (128 * n + r)) (S := fun r => D.S (128 * n + r)) R.cs R.sn (f := fun h r d => gq D n h r d * (1 / 8)) (qg_val R) r l).trans ?_
      exact congrArg _ (outQ_at (D := D) (n := n) r l 3 r.isLt l.isLt).symm
    rcases List.mem_cons.mp hp with rfl | hp
    · intro x
      obtain ⟨r, l, rfl⟩ := idx_split x
      refine (queryOut2_apply (C := fun r => D.C (128 * n + r)) (S := fun r => D.S (128 * n + r)) R.cs R.sn (f := fun h r d => gq D n h r d * (1 / 8)) (qg_val R) r l).trans ?_
      exact congrArg _ (outQ_at (D := D) (n := n) r l 2 r.isLt l.isLt).symm
    rcases List.mem_cons.mp hp with rfl | hp
    · intro x
      obtain ⟨r, l, rfl⟩ := idx_split x
      refine (queryOut1_apply (C := fun r => D.C (128 * n + r)) (S := fun r => D.S (128 * n + r)) R.cs R.sn (f := fun h r d => gq D n h r d * (1 / 8)) (qg_val R) r l).trans ?_
      exact congrArg _ (outQ_at (D := D) (n := n) r l 1 r.isLt l.isLt).symm
    rcases List.mem_cons.mp hp with rfl | hp
    · intro x
      obtain ⟨r, l, rfl⟩ := idx_split x
      refine (queryOut0_apply (C := fun r => D.C (128 * n + r)) (S := fun r => D.S (128 * n + r)) R.cs R.sn (f := fun h r d => gq D n h r d * (1 / 8)) (qg_val R) r l).trans ?_
      exact congrArg _ (outQ_at (D := D) (n := n) r l 0 r.isLt l.isLt).symm
    · exact absurd hp List.not_mem_nil
  · have h0 : (y 0).val < 128 := (y 0).isLt
    have h1 : (y 1).val < 512 := (y 1).isLt
    have hin : ∀ (o : ℕ) (inb : ∀ a, (![0, o] : Fin S128x512.rank → ℕ) a + (![128, 128] : Fin S128x512.rank → ℕ) a ≤ S128x512.size a),
        o ≤ (y 1).val → (y 1).val < o + 128 → y ∈ (Rect.unit (s := S128x512) ![0, o] ![128, 128] inb).set := by
      intro o inb ha hb
      rw [Rect.mem_set_unit]
      intro a
      match a with
      | ⟨0, _⟩ => exact ⟨Nat.zero_le _, by simpa using h0⟩
      | ⟨1, _⟩ => exact ⟨ha, hb⟩
    by_cases c3 : 384 ≤ (y 1).val
    · exact ⟨_, List.mem_cons_self, hin 384 inb_S128x512_S128x128_0_384 c3 (by omega)⟩
    by_cases c2 : 256 ≤ (y 1).val
    · exact ⟨_, List.mem_cons_of_mem _ List.mem_cons_self, hin 256 inb_S128x512_S128x128_0_256 c2 (by omega)⟩
    by_cases c1 : 128 ≤ (y 1).val
    · exact ⟨_, List.mem_cons_of_mem _ (List.mem_cons_of_mem _ List.mem_cons_self), hin 128 inb_S128x512_S128x128_0_128 c1 (by omega)⟩
    · exact ⟨_, List.mem_cons_of_mem _ (List.mem_cons_of_mem _ (List.mem_cons_of_mem _ List.mem_cons_self)), hin 0 inb_S128x512_S128x128_0_0 (by omega) (by omega)⟩

/-- An index of a block of 256 columns lies in a half. -/
theorem mem_half (y : S128x256.Idx) (o : ℕ) (inb : ∀ a, (![0, o] : Fin S128x256.rank → ℕ) a + (![128, 128] : Fin S128x256.rank → ℕ) a ≤ S128x256.size a)
    (ha : o ≤ (y 1).val) (hb : (y 1).val < o + 128) : y ∈ (Rect.unit (s := S128x256) ![0, o] ![128, 128] inb).set := by
  have h0 : (y 0).val < 128 := (y 0).isLt
  rw [Rect.mem_set_unit]
  intro a
  match a with
  | ⟨0, _⟩ => exact ⟨Nat.zero_le _, by simpa using h0⟩
  | ⟨1, _⟩ => exact ⟨ha, hb⟩

/-- The second result's key half at a row of block `n`. -/
theorem outK_at (r l : ℕ) (hr : r < 128) (hl : l < 128) :
    outKV D (128 * n + (0 + 1 * r)) (0 + 1 * l) =
      unrope (fun d => gk D n (l / 64) (128 + r) d + (if n < 63 then gk D (n + 1) (l / 64) r d else 0)) (D.C (128 * n + r)) (D.S (128 * n + r)) (l % 64) := by
  have e1 : (128 * n + (0 + 1 * r)) / 128 = n := by omega
  have e2 : (128 * n + (0 + 1 * r)) % 128 = r := by omega
  have e3 : 0 + 1 * l = l := by omega
  have e5 : 128 * n + (0 + 1 * r) = 128 * n + r := by omega
  unfold outKV outK
  rw [e1, e2, e3, e5, if_pos hl]
  rfl

/-- The second result's value half at a row of block `n`. -/
theorem outV_at (r l : ℕ) (hr : r < 128) (hl : l < 128) :
    outKV D (128 * n + (0 + 1 * r)) (128 + 1 * l) =
      gv D n (l / 64) (128 + r) (l % 64) + (if n < 63 then gv D (n + 1) (l / 64) r (l % 64) else 0) := by
  have e1 : (128 * n + (0 + 1 * r)) / 128 = n := by omega
  have e2 : (128 * n + (0 + 1 * r)) % 128 = r := by omega
  have e3 : 128 + 1 * l - 128 = l := by omega
  unfold outKV outV
  rw [if_neg (by omega), e1, e2, e3]
  rfl

include R in
/-- The block of dk and dv, over the rows carried from the next block. -/
theorem dkv_val {ca cb : FVec Ideal S128x128 .f32}
    (ha : ∀ r l : Fin 128, ca (ix2 r l) = (((if n < 63 then gk D (n + 1) (l / 64) r (l % 64) else 0) : ℝ) : EReal))
    (hb : ∀ r l : Fin 128, cb (ix2 r l) = (((if n < 63 then gv D (n + 1) (l / 64) r (l % 64) else 0) : ℝ) : EReal)) (y : S128x256.Idx) :
    View.canon (Val := Elt Ideal) (dkvStores m c t ca cb) y = ((outKV D (128 * n + (y 0).val) (y 1).val : ℝ) : EReal) := by
  refine View.canon_apply_of_pieces (Val := Elt Ideal) (e := .bf16) (fun y : S128x256.Idx => ((outKV D (128 * n + (y 0).val) (y 1).val : ℝ) : EReal)) _ ?_ y ?_
  · intro p hp
    rcases List.mem_cons.mp hp with rfl | hp
    · intro x
      obtain ⟨r, l, rfl⟩ := idx_split x
      refine (valueOut_apply (f := fun g j d => gv D n g j d) (fa := fun g r d => if n < 63 then gv D (n + 1) g r d else 0) (vg_val R) hb r l).trans ?_
      exact congrArg _ (outV_at (D := D) (n := n) r l r.isLt l.isLt).symm
    rcases List.mem_cons.mp hp with rfl | hp
    · intro x
      obtain ⟨r, l, rfl⟩ := idx_split x
      refine (keyOut_apply (C := fun r => D.C (128 * n + r)) (S := fun r => D.S (128 * n + r)) R.cs R.sn (f := fun g j d => gk D n g j d) (fa := fun g r d => if n < 63 then gk D (n + 1) g r d else 0) (kg_val R) ha r l).trans ?_
      exact congrArg _ (outK_at (D := D) (n := n) r l r.isLt l.isLt).symm
    · exact absurd hp List.not_mem_nil
  · have h1 : (y 1).val < 256 := (y 1).isLt
    by_cases c1 : 128 ≤ (y 1).val
    · exact ⟨_, List.mem_cons_self, mem_half y 128 inb_S128x256_S128x128_0_128 c1 (by omega)⟩
    · exact ⟨_, List.mem_cons_of_mem _ List.mem_cons_self, mem_half y 0 inb_S128x256_S128x128_0_0 (by omega) (by omega)⟩

/-- The carried rows of block `n`. -/
def carried (D : Inp) (n r l : ℕ) : ℝ :=
  if l < 128 then gk D n (l / 64) r (l % 64) else gv D n ((l - 128) / 64) r ((l - 128) % 64)

include R in
/-- The carried rows, whatever they were before. -/
theorem carry_val (L : List (View.Piece (Elt Ideal) S128x256 .f32)) (y : S128x256.Idx) :
    View.canon (Val := Elt Ideal) (carryStores m c t ++ L) y = ((carried D n (y 0).val (y 1).val : ℝ) : EReal) := by
  refine View.canon_append_of_pieces (Val := Elt Ideal) (e := .f32) (fun y : S128x256.Idx => ((carried D n (y 0).val (y 1).val : ℝ) : EReal)) _ _ ?_ y ?_
  · intro p hp
    rcases List.mem_cons.mp hp with rfl | hp
    · intro x
      obtain ⟨r, l, rfl⟩ := idx_split x
      refine (carryV_apply (f := fun g j d => gv D n g j d) (vg_val R) r l).trans (congrArg _ ?_)
      show _ = carried D n (0 + 1 * (r : ℕ)) (128 + 1 * (l : ℕ))
      have e1 : 0 + 1 * (r : ℕ) = r := by omega
      have e2 : 128 + 1 * (l : ℕ) - 128 = l := by omega
      unfold carried
      rw [if_neg (by omega), e1, e2]
    rcases List.mem_cons.mp hp with rfl | hp
    · intro x
      obtain ⟨r, l, rfl⟩ := idx_split x
      refine (carryK_apply (f := fun g j d => gk D n g j d) (kg_val R) r l).trans (congrArg _ ?_)
      show _ = carried D n (0 + 1 * (r : ℕ)) (0 + 1 * (l : ℕ))
      have e1 : 0 + 1 * (r : ℕ) = r := by omega
      have e2 : 0 + 1 * (l : ℕ) = l := by omega
      unfold carried
      rw [e1, e2, if_pos l.isLt]
    · exact absurd hp List.not_mem_nil
  · have h1 : (y 1).val < 256 := (y 1).isLt
    by_cases c1 : 128 ≤ (y 1).val
    · exact ⟨_, List.mem_cons_self, mem_half y 128 inb_S128x256_S128x128_0_128 c1 (by omega)⟩
    · exact ⟨_, List.mem_cons_of_mem _ List.mem_cons_self, mem_half y 0 inb_S128x256_S128x128_0_0 (by omega) (by omega)⟩

/-- One row of 128 columns, read at its index. -/
theorem idx_row (x : S1x128.Idx) : ∃ l : Fin 128, x = ix2 0 l :=
  ⟨x 1, by
    funext a
    match a with
    | ⟨0, _⟩ => exact Fin.ext (Nat.lt_one_iff.mp (x 0).isLt)
    | ⟨1, _⟩ => rfl⟩

include R in
/-- The sinks' rows: what they held, and the block's share. -/
theorem sink_val {a : ℕ → ℝ} {x0 x1 x2 x3 x4 x5 x6 x7 : FVec Ideal S1x128 .f32}
    (hx0 : ∀ l : Fin 128, x0 (ix2 0 l) = ((a 0 : ℝ) : EReal)) (hx1 : ∀ l : Fin 128, x1 (ix2 0 l) = ((a 1 : ℝ) : EReal)) (hx2 : ∀ l : Fin 128, x2 (ix2 0 l) = ((a 2 : ℝ) : EReal)) (hx3 : ∀ l : Fin 128, x3 (ix2 0 l) = ((a 3 : ℝ) : EReal)) (hx4 : ∀ l : Fin 128, x4 (ix2 0 l) = ((a 4 : ℝ) : EReal)) (hx5 : ∀ l : Fin 128, x5 (ix2 0 l) = ((a 5 : ℝ) : EReal)) (hx6 : ∀ l : Fin 128, x6 (ix2 0 l) = ((a 6 : ℝ) : EReal)) (hx7 : ∀ l : Fin 128, x7 (ix2 0 l) = ((a 7 : ℝ) : EReal))
    (L : List (View.Piece (Elt Ideal) S8x128 .f32)) (y : S8x128.Idx) :
    View.canon (Val := Elt Ideal) (sinkStores m c t x0 x1 x2 x3 x4 x5 x6 x7 ++ L) y = ((a (y 0).val + gs D n (y 0).val : ℝ) : EReal) := by
  refine View.canon_append_of_pieces (Val := Elt Ideal) (e := .f32) (fun y : S8x128.Idx => ((a (y 0).val + gs D n (y 0).val : ℝ) : EReal)) _ _ ?_ y ?_
  · intro p hp
    rcases List.mem_cons.mp hp with rfl | hp
    · intro x
      obtain ⟨l, rfl⟩ := idx_row x
      exact (sinkRow7_apply (f := fun h r => Attn.sk D n h r) (sr_val R) (hx7 l)).trans rfl
    rcases List.mem_cons.mp hp with rfl | hp
    · intro x
      obtain ⟨l, rfl⟩ := idx_row x
      exact (sinkRow6_apply (f := fun h r => Attn.sk D n h r) (sr_val R) (hx6 l)).trans rfl
    rcases List.mem_cons.mp hp with rfl | hp
    · intro x
      obtain ⟨l, rfl⟩ := idx_row x
      exact (sinkRow5_apply (f := fun h r => Attn.sk D n h r) (sr_val R) (hx5 l)).trans rfl
    rcases List.mem_cons.mp hp with rfl | hp
    · intro x
      obtain ⟨l, rfl⟩ := idx_row x
      exact (sinkRow4_apply (f := fun h r => Attn.sk D n h r) (sr_val R) (hx4 l)).trans rfl
    rcases List.mem_cons.mp hp with rfl | hp
    · intro x
      obtain ⟨l, rfl⟩ := idx_row x
      exact (sinkRow3_apply (f := fun h r => Attn.sk D n h r) (sr_val R) (hx3 l)).trans rfl
    rcases List.mem_cons.mp hp with rfl | hp
    · intro x
      obtain ⟨l, rfl⟩ := idx_row x
      exact (sinkRow2_apply (f := fun h r => Attn.sk D n h r) (sr_val R) (hx2 l)).trans rfl
    rcases List.mem_cons.mp hp with rfl | hp
    · intro x
      obtain ⟨l, rfl⟩ := idx_row x
      exact (sinkRow1_apply (f := fun h r => Attn.sk D n h r) (sr_val R) (hx1 l)).trans rfl
    rcases List.mem_cons.mp hp with rfl | hp
    · intro x
      obtain ⟨l, rfl⟩ := idx_row x
      exact (sinkRow0_apply (f := fun h r => Attn.sk D n h r) (sr_val R) (hx0 l)).trans rfl
    · exact absurd hp List.not_mem_nil
  · have h0 : (y 0).val < 8 := (y 0).isLt
    have h1 : (y 1).val < 128 := (y 1).isLt
    have hin : ∀ (o : ℕ) (inb : ∀ a, (![o, 0] : Fin S8x128.rank → ℕ) a + (![1, 128] : Fin S8x128.rank → ℕ) a ≤ S8x128.size a),
        (y 0).val = o → y ∈ (Rect.unit (s := S8x128) ![o, 0] ![1, 128] inb).set := by
      intro o inb ha
      rw [Rect.mem_set_unit]
      intro a
      match a with
      | ⟨0, _⟩ => exact ⟨ha.ge, by show (y 0).val < o + 1; omega⟩
      | ⟨1, _⟩ => exact ⟨Nat.zero_le _, by simpa using h1⟩
    have hc : (y 0).val = 0 ∨ (y 0).val = 1 ∨ (y 0).val = 2 ∨ (y 0).val = 3 ∨ (y 0).val = 4 ∨ (y 0).val = 5 ∨ (y 0).val = 6 ∨ (y 0).val = 7 := by omega
    rcases hc with hy | hy | hy | hy | hy | hy | hy | hy
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), hin 0 inb_S8x128_S1x128_0_0 hy⟩
    · exact ⟨_, List.mem_cons_of_mem _ (List.mem_cons_of_mem _ (List.mem_cons_of_mem _ (List.mem_cons_of_mem _ (List.mem_cons_of_mem _ (List.mem_cons_of_mem _ (List.mem_cons_self)))))), hin 1 inb_S8x128_S1x128_1_0 hy⟩
    · exact ⟨_, List.mem_cons_of_mem _ (List.mem_cons_of_mem _ (List.mem_cons_of_mem _ (List.mem_cons_of_mem _ (List.mem_cons_of_mem _ (List.mem_cons_self))))), hin 2 inb_S8x128_S1x128_2_0 hy⟩
    · exact ⟨_, List.mem_cons_of_mem _ (List.mem_cons_of_mem _ (List.mem_cons_of_mem _ (List.mem_cons_of_mem _ (List.mem_cons_self)))), hin 3 inb_S8x128_S1x128_3_0 hy⟩
    · exact ⟨_, List.mem_cons_of_mem _ (List.mem_cons_of_mem _ (List.mem_cons_of_mem _ (List.mem_cons_self))), hin 4 inb_S8x128_S1x128_4_0 hy⟩
    · exact ⟨_, List.mem_cons_of_mem _ (List.mem_cons_of_mem _ (List.mem_cons_self)), hin 5 inb_S8x128_S1x128_5_0 hy⟩
    · exact ⟨_, List.mem_cons_of_mem _ (List.mem_cons_self), hin 6 inb_S8x128_S1x128_6_0 hy⟩
    · exact ⟨_, List.mem_cons_self, hin 7 inb_S8x128_S1x128_7_0 hy⟩

end Cert.KernelIdeal.Sweep

end
-- ==== Proof.Trajectory.lean ====
module

public import proofs.«01_k».proof.Proof.PointOut

@[expose] public section

set_option maxRecDepth 16384

noncomputable section

/-! What every point leaves, over the reals: the carried rows go from block to block, the sinks' rows add up. -/

namespace Cert.KernelIdeal.Sweep

open Idealize.ShloMosaic Idealize.ShloMosaic.TcCoe Idealize.ShloMosaic.Tactic
open Cert.KernelIdeal Cert.KernelIdeal.Gen Cert.KernelIdeal.Block Cert.Attn

variable {m : (ℓ : Loc nD τ sig) → Buf (Elt Ideal) ℓ} {c : Dev nD} {D : Inp}

/-- What a point leaves: the rows of both gradients, the sinks' sums so far, the rows carried to the block before. -/
structure Holds (x : Left Ideal) (D : Inp) (k : ℕ) : Prop where
  dq : ∀ y : S128x512.Idx, x.1 y = ((outQ D (128 * (63 - k) + (y 0).val) (y 1).val : ℝ) : EReal)
  dkv : ∀ y : S128x256.Idx, x.2.1 y = ((outKV D (128 * (63 - k) + (y 0).val) (y 1).val : ℝ) : EReal)
  sink : ∀ y : S8x128.Idx, x.2.2.1 y = ((∑ i ∈ Finset.range (k + 1), gs D (63 - i) (y 0).val : ℝ) : EReal)
  carry : ∀ y : S128x256.Idx, x.2.2.2 y = ((carried D (63 - k) (y 0).val (y 1).val : ℝ) : EReal)

/-- The first point. -/
theorem holds_first (t : Fin cfg0.N) (h : t.val % 64 = 0) (ht : t.val = 0) (R : Reads m c t D (63 - t.val)) :
    Holds (first m c t h) D t.val where
  dq y := (congrFun (first_dq m c t h) y).trans (dq_val R y)
  dkv y := by
    obtain ⟨ca, cb, hz, e⟩ := first_dkv m c t h
    refine (congrFun e y).trans (dkv_val R (fun r l => ?_) (fun r l => ?_) y)
    · rw [if_neg (by omega)]; exact (hz r l).1
    · rw [if_neg (by omega)]; exact (hz r l).2
  sink y := by
    obtain ⟨x0, x1, x2, x3, x4, x5, x6, x7, hz, e⟩ := first_sink m c t h
    refine (congrFun e y).trans ((sink_val R (a := fun _ => 0) (fun l => ((hz l).1).trans EReal.coe_zero.symm) (fun l => ((hz l).2.1).trans EReal.coe_zero.symm) (fun l => ((hz l).2.2.1).trans EReal.coe_zero.symm) (fun l => ((hz l).2.2.2.1).trans EReal.coe_zero.symm) (fun l => ((hz l).2.2.2.2.1).trans EReal.coe_zero.symm) (fun l => ((hz l).2.2.2.2.2.1).trans EReal.coe_zero.symm) (fun l => ((hz l).2.2.2.2.2.2.1).trans EReal.coe_zero.symm) (fun l => ((hz l).2.2.2.2.2.2.2).trans EReal.coe_zero.symm) _ y).trans (congrArg _ ?_))
    rw [ht, zero_add, zero_add, Finset.sum_range_one]
  carry y := (congrFun (first_carry m c t h) y).trans (carry_val R _ y)

/-- A later point, over what the point before left. -/
theorem holds_later (t : Fin cfg0.N) (h : ¬t.val % 64 = 0) {k : ℕ} (ht : t.val = k + 1) (R : Reads m c t D (63 - t.val))
    {x : Left Ideal} (H : Holds x D k) : Holds (later m c t h x.2.2.1 x.2.2.2) D t.val where
  dq y := (congrFun (later_dq m c t h _ _) y).trans (dq_val R y)
  dkv y := by
    have hN : t.val < 64 := t.isLt
    have e : 63 - t.val + 1 = 63 - k := by omega
    refine (congrFun (later_dkv m c t h _ _) y).trans (dkv_val R (fun r l => ?_) (fun r l => ?_) y)
    · refine (H.carry _).trans (congrArg _ ?_)
      show carried D (63 - k) (0 + 1 * (r : ℕ)) (0 + 1 * (l : ℕ)) = _
      have e1 : 0 + 1 * (r : ℕ) = r := by omega
      have e2 : 0 + 1 * (l : ℕ) = l := by omega
      unfold carried
      rw [e1, e2, if_pos l.isLt, if_pos (by omega), e]
    · refine (H.carry _).trans (congrArg _ ?_)
      show carried D (63 - k) (0 + 1 * (r : ℕ)) (128 + 1 * (l : ℕ)) = _
      have e1 : 0 + 1 * (r : ℕ) = r := by omega
      have e2 : 128 + 1 * (l : ℕ) - 128 = l := by omega
      unfold carried
      rw [if_neg (by omega), e1, e2, if_pos (by omega), e]
  sink y := by
    have hx : ∀ (o : ℕ) (inb : ∀ a, (![o, 0] : Fin S8x128.rank → ℕ) a + (![1, 128] : Fin S8x128.rank → ℕ) a ≤ S8x128.size a) (l : Fin 128),
        View.ld (Val := Elt Ideal) (e' := .f32) x.2.2.1 (Rect.unit (s := S8x128) ![o, 0] ![1, 128] inb) (ix2 0 l : S1x128.Idx) =
          ((∑ i ∈ Finset.range (k + 1), gs D (63 - i) o : ℝ) : EReal) := fun o inb l => H.sink _
    refine (congrFun ((later_sink m c t h _ _).trans (congrArg _ (List.append_nil _).symm)) y).trans
      ((sink_val R (a := fun o => ∑ i ∈ Finset.range (k + 1), gs D (63 - i) o) (hx 0 inb_S8x128_S1x128_0_0) (hx 1 inb_S8x128_S1x128_1_0) (hx 2 inb_S8x128_S1x128_2_0) (hx 3 inb_S8x128_S1x128_3_0) (hx 4 inb_S8x128_S1x128_4_0) (hx 5 inb_S8x128_S1x128_5_0) (hx 6 inb_S8x128_S1x128_6_0) (hx 7 inb_S8x128_S1x128_7_0) [] y).trans (congrArg _ ?_))
    rw [ht, Finset.sum_range_succ _ (k + 1)]
  carry y := (congrFun ((later_carry m c t h _ _).trans (congrArg _ (List.append_nil _).symm)) y).trans (carry_val R [] y)

/-- What every point leaves. -/
theorem holds_left (R : ∀ t : Fin cfg0.N, Reads m c t D (63 - t.val)) : ∀ (k : ℕ) (hk : k < cfg0.N), Holds (left m c k hk) D k
  | 0, hk => holds_first ⟨0, hk⟩ (Nat.zero_mod _) rfl (R _)
  | k + 1, hk => holds_later ⟨k + 1, hk⟩ (succ_mod hk) rfl (R _) (holds_left R k (Nat.lt_of_succ_lt hk))

end Cert.KernelIdeal.Sweep

end
-- ==== Proof.Arrays.lean ====
module

public import proofs.«01_k».proof.Proof.Blocks
public import proofs.«01_k».proof.Proof.Trajectory
public import Idealize.ShloMosaic.Lib.Pipeline.Value

@[expose] public section

set_option maxRecDepth 16384

noncomputable section

/-! What the three result arrays hold after the kernel's run. -/

namespace Cert.KernelIdeal.Sweep

open Idealize.ShloMosaic Idealize.ShloMosaic.TcCoe Idealize.ShloMosaic.Tactic Idealize.SL.Sem
open Idealize.ShloMosaic.Pipeline (Dat)
open Cert.KernelIdeal Cert.KernelIdeal.Gen Cert.Attn

variable (m : (ℓ : Loc nD τ sig) → Buf (Elt Ideal) ℓ) (ρ : Dev nD → PrngReg) (c : Dev nD)

/-- The gradient of the queries, as an array. -/
def arrQ : S8192x512.Idx → EReal := fun i => ((outQ (din m c) (i 0).val (i 1).val : ℝ) : EReal)
/-- The gradients of the keys and values, as an array. -/
def arrKV : S8192x256.Idx → EReal := fun i => ((outKV (din m c) (i 0).val (i 1).val : ℝ) : EReal)
/-- The gradient of the sinks, as an array: every lane of a row holds its head's. -/
def arrS : S8x128.Idx → EReal := fun i => ((outS (din m c) (i 0).val : ℝ) : EReal)

theorem holds (H : Fin0 m c) (t : Fin cfg0.N) : Holds (left m c t.val t.isLt) (din m c) t.val :=
  holds_left (fun t => reads m c H t) t.val t.isLt

theorem index_8 : ∀ t : Fin cfg0.N, win0_8.index t 0 = 63 - t.val := by decide +kernel
theorem index_9 : ∀ t : Fin cfg0.N, win0_9.index t 0 = 63 - t.val := by decide +kernel

theorem flushed_8 (H : Fin0 m c) (t : Fin cfg0.N) :
    (dats m 0 c).flushed 8 t = ((cfg0.win 8).blk t).view.read (Elt Ideal) (arrQ m c) := by
  show (cfg0.win 8).cut (grid0.coords t) ((dats m 0 c).after 8 t) = _
  rw [after_8]
  funext y
  refine ((holds m c H t).dq y).trans ?_
  show _ = arrQ m c (((cfg0.win 8).blk t).view.emb y)
  have e0 : ((((cfg0.win 8).blk t).view.emb y) 0 : ℕ) = 128 * (63 - t.val) + (y 0).val := by
    show win0_8.index t 0 * 128 + 1 * (y 0).val = _
    rw [index_8]; omega
  have e1 : ((((cfg0.win 8).blk t).view.emb y) 1 : ℕ) = (y 1).val := by
    show win0_8.index t 1 * 512 + 1 * (y 1).val = _
    have : win0_8.index t 1 = 0 := rfl
    omega
  unfold arrQ
  rw [e0, e1]

theorem flushed_9 (H : Fin0 m c) (t : Fin cfg0.N) :
    (dats m 0 c).flushed 9 t = ((cfg0.win 9).blk t).view.read (Elt Ideal) (arrKV m c) := by
  show (cfg0.win 9).cut (grid0.coords t) ((dats m 0 c).after 9 t) = _
  rw [after_9]
  funext y
  refine ((holds m c H t).dkv y).trans ?_
  show _ = arrKV m c (((cfg0.win 9).blk t).view.emb y)
  have e0 : ((((cfg0.win 9).blk t).view.emb y) 0 : ℕ) = 128 * (63 - t.val) + (y 0).val := by
    show win0_9.index t 0 * 128 + 1 * (y 0).val = _
    rw [index_9]; omega
  have e1 : ((((cfg0.win 9).blk t).view.emb y) 1 : ℕ) = (y 1).val := by
    show win0_9.index t 1 * 256 + 1 * (y 1).val = _
    have : win0_9.index t 1 = 0 := rfl
    omega
  unfold arrKV
  rw [e0, e1]

/-- The blocks' terms of a head's sink gradient, summed from the last block to the first. -/
theorem sum_gs (D : Inp) (h : ℕ) : ∑ i ∈ Finset.range (63 + 1), gs D (63 - i) h = outS D h := by
  have e := Finset.sum_range_reflect (fun n => gs D n h) 64
  unfold outS
  rw [← Fin.sum_univ_eq_sum_range (fun n => gs D n h) 64] at e
  exact e

theorem flushed_10 (H : Fin0 m c) (t : Fin cfg0.N) (ht : (cfg0.win 10).flush t = true) :
    (dats m 0 c).flushed 10 t = ((cfg0.win 10).blk t).view.read (Elt Ideal) (arrS m c) := by
  have h63 : t.val = 63 := by
    have := (flush0_10 t).mp ht
    have hN : t.val < 64 := lt_of_lt_of_eq t.isLt (show cfg0.N = 64 from N_0)
    omega
  show (cfg0.win 10).cut (grid0.coords t) ((dats m 0 c).after 10 t) = _
  rw [after_10]
  funext y
  refine ((holds m c H t).sink y).trans ?_
  show _ = arrS m c (((cfg0.win 10).blk t).view.emb y)
  have e0 : ((((cfg0.win 10).blk t).view.emb y) 0 : ℕ) = (y 0).val := by
    show win0_10.index t 0 * 8 + 1 * (y 0).val = _
    have : win0_10.index t 0 = 0 := rfl
    omega
  unfold arrS
  rw [e0, h63, sum_gs]

theorem box_8 : ∀ t : Fin cfg0.N, win0_8.index t 0 * win0_8.size 0 = 128 * (63 - t.val) ∧ win0_8.xsize (grid0.coords t) 0 = 128
    ∧ win0_8.index t 1 * win0_8.size 1 = 0 ∧ win0_8.xsize (grid0.coords t) 1 = 512 := by decide +kernel
theorem box_9 : ∀ t : Fin cfg0.N, win0_9.index t 0 * win0_9.size 0 = 128 * (63 - t.val) ∧ win0_9.xsize (grid0.coords t) 0 = 128
    ∧ win0_9.index t 1 * win0_9.size 1 = 0 ∧ win0_9.xsize (grid0.coords t) 1 = 256 := by decide +kernel
theorem box_10 : ∀ t : Fin cfg0.N, win0_10.index t 0 * win0_10.size 0 = 0 ∧ win0_10.xsize (grid0.coords t) 0 = 8
    ∧ win0_10.index t 1 * win0_10.size 1 = 0 ∧ win0_10.xsize (grid0.coords t) 1 = 128 := by decide +kernel

theorem cover_8 (i : S8192x512.Idx) : ∃ t, (cfg0.win 8).flush t = true ∧ i ∈ ((cfg0.win 8).blk t).view.set := by
  have h0 : (i 0 : ℕ) < 8192 := (i 0).isLt
  have h1 : (i 1 : ℕ) < 512 := (i 1).isLt
  refine ⟨⟨63 - (i 0).val / 128, lt_of_lt_of_eq (by omega) (show 64 = cfg0.N from N_0.symm)⟩, flush0_8 _, ?_⟩
  generalize ht : (⟨63 - (i 0).val / 128, _⟩ : Fin cfg0.N) = t
  have hv : t.val = 63 - (i 0).val / 128 := by rw [← ht]
  show i ∈ ((View.whole main_v19_0).slice (win0_8.rect t)).set
  rw [View.set_slice_whole, Rect.mem_set_unit]
  obtain ⟨b0, b1, b2, b3⟩ := box_8 t
  intro a
  match a with
  | ⟨0, _⟩ =>
    show win0_8.index t 0 * win0_8.size 0 ≤ (i 0 : ℕ) ∧ (i 0 : ℕ) < win0_8.index t 0 * win0_8.size 0 + win0_8.xsize (grid0.coords t) 0
    rw [b0, b1]; omega
  | ⟨1, _⟩ =>
    show win0_8.index t 1 * win0_8.size 1 ≤ (i 1 : ℕ) ∧ (i 1 : ℕ) < win0_8.index t 1 * win0_8.size 1 + win0_8.xsize (grid0.coords t) 1
    rw [b2, b3]; omega

theorem cover_9 (i : S8192x256.Idx) : ∃ t, (cfg0.win 9).flush t = true ∧ i ∈ ((cfg0.win 9).blk t).view.set := by
  have h0 : (i 0 : ℕ) < 8192 := (i 0).isLt
  have h1 : (i 1 : ℕ) < 256 := (i 1).isLt
  refine ⟨⟨63 - (i 0).val / 128, lt_of_lt_of_eq (by omega) (show 64 = cfg0.N from N_0.symm)⟩, flush0_9 _, ?_⟩
  generalize ht : (⟨63 - (i 0).val / 128, _⟩ : Fin cfg0.N) = t
  have hv : t.val = 63 - (i 0).val / 128 := by rw [← ht]
  show i ∈ ((View.whole main_v19_1).slice (win0_9.rect t)).set
  rw [View.set_slice_whole, Rect.mem_set_unit]
  obtain ⟨b0, b1, b2, b3⟩ := box_9 t
  intro a
  match a with
  | ⟨0, _⟩ =>
    show win0_9.index t 0 * win0_9.size 0 ≤ (i 0 : ℕ) ∧ (i 0 : ℕ) < win0_9.index t 0 * win0_9.size 0 + win0_9.xsize (grid0.coords t) 0
    rw [b0, b1]; omega
  | ⟨1, _⟩ =>
    show win0_9.index t 1 * win0_9.size 1 ≤ (i 1 : ℕ) ∧ (i 1 : ℕ) < win0_9.index t 1 * win0_9.size 1 + win0_9.xsize (grid0.coords t) 1
    rw [b2, b3]; omega

theorem cover_10 (i : S8x128.Idx) : ∃ t, (cfg0.win 10).flush t = true ∧ i ∈ ((cfg0.win 10).blk t).view.set := by
  have h0 : (i 0 : ℕ) < 8 := (i 0).isLt
  have h1 : (i 1 : ℕ) < 128 := (i 1).isLt
  refine ⟨⟨63, lt_of_lt_of_eq (by omega) (show 64 = cfg0.N from N_0.symm)⟩, (flush0_10 _).mpr rfl, ?_⟩
  generalize (⟨63, _⟩ : Fin cfg0.N) = t
  show i ∈ ((View.whole main_v19_2).slice (win0_10.rect t)).set
  rw [View.set_slice_whole, Rect.mem_set_unit]
  obtain ⟨b0, b1, b2, b3⟩ := box_10 t
  intro a
  match a with
  | ⟨0, _⟩ =>
    show win0_10.index t 0 * win0_10.size 0 ≤ (i 0 : ℕ) ∧ (i 0 : ℕ) < win0_10.index t 0 * win0_10.size 0 + win0_10.xsize (grid0.coords t) 0
    rw [b0, b1]; omega
  | ⟨1, _⟩ =>
    show win0_10.index t 1 * win0_10.size 1 ≤ (i 1 : ℕ) ∧ (i 1 : ℕ) < win0_10.index t 1 * win0_10.size 1 + win0_10.xsize (grid0.coords t) 1
    rw [b2, b3]; omega

theorem final_8 (H : Fin0 m c) : (dats m 0 c).arrAt 8 cfg0.N = arrQ m c :=
  Dat.arrAt_eq_of_cover (dats m 0 c) 8 (arrQ m c) (fun t _ => flushed_8 m c H t) cover_8
theorem final_9 (H : Fin0 m c) : (dats m 0 c).arrAt 9 cfg0.N = arrKV m c :=
  Dat.arrAt_eq_of_cover (dats m 0 c) 9 (arrKV m c) (fun t _ => flushed_9 m c H t) cover_9
theorem final_10 (H : Fin0 m c) : (dats m 0 c).arrAt 10 cfg0.N = arrS m c :=
  Dat.arrAt_eq_of_cover (dats m 0 c) 10 (arrS m c) (fun t ht => flushed_10 m c H t ht) cover_10

/-- The kernel's run leaves the three results at the gradients of the real inputs. -/
theorem outputs (H : ∀ c, Fin0 m c) : θ_run defs (onTc (τ := τ) (main (F := Ideal))) ⟨m, fun _ => 0, ρ⟩ fun r => ∀ c : Dev nD,
      r.2.mem ((c.tc : Thread nD τ).loc main_v19_0) = arrQ m c
      ∧ r.2.mem ((c.tc : Thread nD τ).loc main_v19_1) = arrKV m c
      ∧ r.2.mem ((c.tc : Thread nD τ).loc main_v19_2) = arrS m c :=
  (θ_run defs _ _).mono (fun _ h c =>
    ⟨((h c).1 8).trans (final_8 m c (H c)), ((h c).1 9).trans (final_9 m c (H c)), ((h c).1 10).trans (final_10 m c (H c))⟩)
    (run m ρ)

/-- The kernel's run, read: the three results at the gradients of the real inputs, the arguments unchanged. -/
theorem value (H : ∀ c, Fin0 m c) : θ_run defs (onTc (τ := τ) (main (F := Ideal))) ⟨m, fun _ => 0, ρ⟩ fun r => ∀ c : Dev nD,
      r.2.mem ((c.tc : Thread nD τ).loc main_v19_0) = arrQ m c
      ∧ r.2.mem ((c.tc : Thread nD τ).loc main_v19_1) = arrKV m c
      ∧ r.2.mem ((c.tc : Thread nD τ).loc main_v19_2) = arrS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).1, (h.1 c).2.1, (h.1 c).2.2, h.2.1 c⟩)
    (θ_run_and (outputs m ρ H) (frame m ρ))

end Cert.KernelIdeal.Sweep

end
-- ==== Proof.RefOps.lean ====
module

public import proofs.«01_k».proof.Proof.Gen.ReferenceIdeal
public import Idealize.ShloMosaic.Lib.Pointwise

@[expose] public section

set_option maxRecDepth 16384

noncomputable section

/-! The reference's operations over the extended reals, each as a function of the arguments it depends on. -/

namespace Cert.ReferenceIdeal.Ops

open Idealize.ShloMosaic Cert.ReferenceIdeal Cert.ReferenceIdeal.Gen

variable (x0 : FVec Ideal S8192x768 .f32) (x1 : (⟨S1x8192, .i32⟩ : BufTy).Contents (Elt Ideal)) (x2 : FVec Ideal S1x8 .f32) (x3 : FVec Ideal S8192x512 .f32)

def o_0 : FVec Ideal S8192x512 .f32 :=
  extractStridedSlice S8192x512 ![0, 0] x0 slices_S8192x768_S8192x512_0_0
def o_1 : FVec Ideal S1x8192x512 .f32 :=
  broadcastInDim S1x8192x512 ![1, 2] bcast_S8192x512_S1x8192x512_1_2 (o_0 x0)
def o_2 : FVec Ideal S8192x128 .f32 :=
  extractStridedSlice S8192x128 ![0, 512] x0 slices_S8192x768_S8192x128_0_512
def o_3 : FVec Ideal S1x8192x128 .f32 :=
  broadcastInDim S1x8192x128 ![1, 2] bcast_S8192x128_S1x8192x128_1_2 (o_2 x0)
def o_4 : FVec Ideal S8192x128 .f32 :=
  extractStridedSlice S8192x128 ![0, 640] x0 slices_S8192x768_S8192x128_0_640
def o_5 : FVec Ideal S1x8192x128 .f32 :=
  broadcastInDim S1x8192x128 ![1, 2] bcast_S8192x128_S1x8192x128_1_2 (o_4 x0)
def o_6 : FVec Ideal S8 .f32 :=
  shapeCast _ x2 shapeCasts_S1x8_S8
def o_7 : FVec Ideal S1x8192x8x64 .f32 :=
  shapeCast _ (o_1 x0) shapeCasts_S1x8192x512_S1x8192x8x64
def o_8 : FVec Ideal S32 .f32 :=
  sitofp .f32 (iotaInDim S32 32 0)
def o_cst : FVec Ideal S_ .f32 :=
  constant S_ .f32 0xC0000000#32
def o_9 : FVec Ideal S32 .f32 :=
  broadcastInDim S32 ![] bcast_S_S32 o_cst
def o_10 : FVec Ideal S32 .f32 :=
  mulf o_9 o_8
def o_cst_0 : FVec Ideal S_ .f32 :=
  constant S_ .f32 0x42800000#32
def o_11 : FVec Ideal S32 .f32 :=
  broadcastInDim S32 ![] bcast_S_S32 o_cst_0
def o_12 : FVec Ideal S32 .f32 :=
  Host.divf o_10 o_11
def o_cst_1 : FVec Ideal S_ .f32 :=
  constant S_ .f32 0x461C4000#32
def o_13 : FVec Ideal S32 .f32 :=
  broadcastInDim S32 ![] bcast_S_S32 o_cst_1
def o_14 : FVec Ideal S32 .f32 :=
  Host.powf o_13 o_12
def o_15 : FVec Ideal S1x8192 .f32 :=
  sitofp .f32 x1
def o_16 : FVec Ideal S1x8192x1 .f32 :=
  broadcastInDim S1x8192x1 ![0, 1] bcast_S1x8192_S1x8192x1_0_1 (o_15 x1)
def o_17 : FVec Ideal S1x1x32 .f32 :=
  broadcastInDim S1x1x32 ![2] bcast_S32_S1x1x32_2 o_14
def o_18 : FVec Ideal S1x8192x32 .f32 :=
  broadcastInDim S1x8192x32 ![0, 1, 2] bcast_S1x8192x1_S1x8192x32_0_1_2 (o_16 x1)
def o_19 : FVec Ideal S1x8192x32 .f32 :=
  broadcastInDim S1x8192x32 ![0, 1, 2] bcast_S1x1x32_S1x8192x32_0_1_2 o_17
def o_20 : FVec Ideal S1x8192x32 .f32 :=
  mulf (o_18 x1) o_19
def o_21 : FVec Ideal S1x8192x32 .f32 :=
  Host.cos (o_20 x1)
def o_22 : FVec Ideal S1x8192x1x32 .f32 :=
  broadcastInDim S1x8192x1x32 ![0, 1, 3] bcast_S1x8192x32_S1x8192x1x32_0_1_3 (o_21 x1)
def o_23 : FVec Ideal S1x8192x32 .f32 :=
  Host.sin (o_20 x1)
def o_24 : FVec Ideal S1x8192x1x32 .f32 :=
  broadcastInDim S1x8192x1x32 ![0, 1, 3] bcast_S1x8192x32_S1x8192x1x32_0_1_3 (o_23 x1)
def o_25 : FVec Ideal S1x8192x8x32 .f32 :=
  extractStridedSlice S1x8192x8x32 ![0, 0, 0, 0] (o_7 x0) slices_S1x8192x8x64_S1x8192x8x32_0_0_0_0
def o_26 : FVec Ideal S1x8192x8x32 .f32 :=
  extractStridedSlice S1x8192x8x32 ![0, 0, 0, 32] (o_7 x0) slices_S1x8192x8x64_S1x8192x8x32_0_0_0_32
def o_27 : FVec Ideal S1x8192x8x32 .f32 :=
  broadcastInDim S1x8192x8x32 ![0, 1, 2, 3] bcast_S1x8192x1x32_S1x8192x8x32_0_1_2_3 (o_22 x1)
def o_28 : FVec Ideal S1x8192x8x32 .f32 :=
  mulf (o_25 x0) (o_27 x1)
def o_29 : FVec Ideal S1x8192x8x32 .f32 :=
  broadcastInDim S1x8192x8x32 ![0, 1, 2, 3] bcast_S1x8192x1x32_S1x8192x8x32_0_1_2_3 (o_24 x1)
def o_30 : FVec Ideal S1x8192x8x32 .f32 :=
  mulf (o_26 x0) (o_29 x1)
def o_31 : FVec Ideal S1x8192x8x32 .f32 :=
  subf (o_28 x0 x1) (o_30 x0 x1)
def o_32 : FVec Ideal S1x8192x8x32 .f32 :=
  broadcastInDim S1x8192x8x32 ![0, 1, 2, 3] bcast_S1x8192x1x32_S1x8192x8x32_0_1_2_3 (o_22 x1)
def o_33 : FVec Ideal S1x8192x8x32 .f32 :=
  mulf (o_26 x0) (o_32 x1)
def o_34 : FVec Ideal S1x8192x8x32 .f32 :=
  broadcastInDim S1x8192x8x32 ![0, 1, 2, 3] bcast_S1x8192x1x32_S1x8192x8x32_0_1_2_3 (o_24 x1)
def o_35 : FVec Ideal S1x8192x8x32 .f32 :=
  mulf (o_25 x0) (o_34 x1)
def o_36 : FVec Ideal S1x8192x8x32 .f32 :=
  addf (o_33 x0 x1) (o_35 x0 x1)
def o_37 : FVec Ideal S1x8192x8x64 .f32 :=
  concatenate S1x8192x8x64 3 [⟨S1x8192x8x32, (o_31 x0 x1)⟩, ⟨S1x8192x8x32, (o_36 x0 x1)⟩] concatenates_S1x8192x8x32_S1x8192x8x32_S1x8192x8x64_d3
def o_38 : FVec Ideal S1x8192x2x64 .f32 :=
  shapeCast _ (o_3 x0) shapeCasts_S1x8192x128_S1x8192x2x64
def o_39 : FVec Ideal S32 .f32 :=
  sitofp .f32 (iotaInDim S32 32 0)
def o_cst_2 : FVec Ideal S_ .f32 :=
  constant S_ .f32 0xC0000000#32
def o_40 : FVec Ideal S32 .f32 :=
  broadcastInDim S32 ![] bcast_S_S32 o_cst_2
def o_41 : FVec Ideal S32 .f32 :=
  mulf o_40 o_39
def o_cst_3 : FVec Ideal S_ .f32 :=
  constant S_ .f32 0x42800000#32
def o_42 : FVec Ideal S32 .f32 :=
  broadcastInDim S32 ![] bcast_S_S32 o_cst_3
def o_43 : FVec Ideal S32 .f32 :=
  Host.divf o_41 o_42
def o_cst_4 : FVec Ideal S_ .f32 :=
  constant S_ .f32 0x461C4000#32
def o_44 : FVec Ideal S32 .f32 :=
  broadcastInDim S32 ![] bcast_S_S32 o_cst_4
def o_45 : FVec Ideal S32 .f32 :=
  Host.powf o_44 o_43
def o_46 : FVec Ideal S1x8192 .f32 :=
  sitofp .f32 x1
def o_47 : FVec Ideal S1x8192x1 .f32 :=
  broadcastInDim S1x8192x1 ![0, 1] bcast_S1x8192_S1x8192x1_0_1 (o_46 x1)
def o_48 : FVec Ideal S1x1x32 .f32 :=
  broadcastInDim S1x1x32 ![2] bcast_S32_S1x1x32_2 o_45
def o_49 : FVec Ideal S1x8192x32 .f32 :=
  broadcastInDim S1x8192x32 ![0, 1, 2] bcast_S1x8192x1_S1x8192x32_0_1_2 (o_47 x1)
def o_50 : FVec Ideal S1x8192x32 .f32 :=
  broadcastInDim S1x8192x32 ![0, 1, 2] bcast_S1x1x32_S1x8192x32_0_1_2 o_48
def o_51 : FVec Ideal S1x8192x32 .f32 :=
  mulf (o_49 x1) o_50
def o_52 : FVec Ideal S1x8192x32 .f32 :=
  Host.cos (o_51 x1)
def o_53 : FVec Ideal S1x8192x1x32 .f32 :=
  broadcastInDim S1x8192x1x32 ![0, 1, 3] bcast_S1x8192x32_S1x8192x1x32_0_1_3 (o_52 x1)
def o_54 : FVec Ideal S1x8192x32 .f32 :=
  Host.sin (o_51 x1)
def o_55 : FVec Ideal S1x8192x1x32 .f32 :=
  broadcastInDim S1x8192x1x32 ![0, 1, 3] bcast_S1x8192x32_S1x8192x1x32_0_1_3 (o_54 x1)
def o_56 : FVec Ideal S1x8192x2x32 .f32 :=
  extractStridedSlice S1x8192x2x32 ![0, 0, 0, 0] (o_38 x0) slices_S1x8192x2x64_S1x8192x2x32_0_0_0_0
def o_57 : FVec Ideal S1x8192x2x32 .f32 :=
  extractStridedSlice S1x8192x2x32 ![0, 0, 0, 32] (o_38 x0) slices_S1x8192x2x64_S1x8192x2x32_0_0_0_32
def o_58 : FVec Ideal S1x8192x2x32 .f32 :=
  broadcastInDim S1x8192x2x32 ![0, 1, 2, 3] bcast_S1x8192x1x32_S1x8192x2x32_0_1_2_3 (o_53 x1)
def o_59 : FVec Ideal S1x8192x2x32 .f32 :=
  mulf (o_56 x0) (o_58 x1)
def o_60 : FVec Ideal S1x8192x2x32 .f32 :=
  broadcastInDim S1x8192x2x32 ![0, 1, 2, 3] bcast_S1x8192x1x32_S1x8192x2x32_0_1_2_3 (o_55 x1)
def o_61 : FVec Ideal S1x8192x2x32 .f32 :=
  mulf (o_57 x0) (o_60 x1)
def o_62 : FVec Ideal S1x8192x2x32 .f32 :=
  subf (o_59 x0 x1) (o_61 x0 x1)
def o_63 : FVec Ideal S1x8192x2x32 .f32 :=
  broadcastInDim S1x8192x2x32 ![0, 1, 2, 3] bcast_S1x8192x1x32_S1x8192x2x32_0_1_2_3 (o_53 x1)
def o_64 : FVec Ideal S1x8192x2x32 .f32 :=
  mulf (o_57 x0) (o_63 x1)
def o_65 : FVec Ideal S1x8192x2x32 .f32 :=
  broadcastInDim S1x8192x2x32 ![0, 1, 2, 3] bcast_S1x8192x1x32_S1x8192x2x32_0_1_2_3 (o_55 x1)
def o_66 : FVec Ideal S1x8192x2x32 .f32 :=
  mulf (o_56 x0) (o_65 x1)
def o_67 : FVec Ideal S1x8192x2x32 .f32 :=
  addf (o_64 x0 x1) (o_66 x0 x1)
def o_68 : FVec Ideal S1x8192x2x64 .f32 :=
  concatenate S1x8192x2x64 3 [⟨S1x8192x2x32, (o_62 x0 x1)⟩, ⟨S1x8192x2x32, (o_67 x0 x1)⟩] concatenates_S1x8192x2x32_S1x8192x2x32_S1x8192x2x64_d3
def o_69 : FVec Ideal S1x8192x2x64 .f32 :=
  shapeCast _ (o_5 x0) shapeCasts_S1x8192x128_S1x8192x2x64
def o_70 : FVec Ideal S1x64x128x2x4x64 .f32 :=
  shapeCast _ (o_37 x0 x1) shapeCasts_S1x8192x8x64_S1x64x128x2x4x64
def o_cst_5 : FVec Ideal S_ .f32 :=
  constant S_ .f32 0x3E000000#32
def o_71 : FVec Ideal S1x64x128x2x4x64 .f32 :=
  broadcastInDim S1x64x128x2x4x64 ![] bcast_S_S1x64x128x2x4x64 o_cst_5
def o_72 : FVec Ideal S1x64x128x2x4x64 .f32 :=
  mulf (o_70 x0 x1) o_71
def o_73 : FVec Ideal S1x64x128x2x64 .f32 :=
  shapeCast _ (o_68 x0 x1) shapeCasts_S1x8192x2x64_S1x64x128x2x64
def o_74 : FVec Ideal S1x1x128x2x64 .f32 :=
  extractStridedSlice S1x1x128x2x64 ![0, 0, 0, 0, 0] (o_73 x0 x1) slices_S1x64x128x2x64_S1x1x128x2x64_0_0_0_0_0
def o_cst_6 : FVec Ideal S_ .f32 :=
  constant S_ .f32 0x00000000#32
def o_75 : FVec Ideal S1x1x128x2x64 .f32 :=
  broadcastInDim S1x1x128x2x64 ![] bcast_S_S1x1x128x2x64 o_cst_6
def o_76 : FVec Ideal S1x63x128x2x64 .f32 :=
  extractStridedSlice S1x63x128x2x64 ![0, 0, 0, 0, 0] (o_73 x0 x1) slices_S1x64x128x2x64_S1x63x128x2x64_0_0_0_0_0
def o_77 : FVec Ideal S1x64x128x2x64 .f32 :=
  concatenate S1x64x128x2x64 1 [⟨S1x1x128x2x64, o_75⟩, ⟨S1x63x128x2x64, (o_76 x0 x1)⟩] concatenates_S1x1x128x2x64_S1x63x128x2x64_S1x64x128x2x64_d1
def o_cst_7 : FVec Ideal S_ .f32 :=
  constant S_ .f32 0x00000000#32
def o_78 : FVec Ideal S1x1x128x2x64 .f32 :=
  broadcastInDim S1x1x128x2x64 ![] bcast_S_S1x1x128x2x64 o_cst_7
def o_79 : FVec Ideal S1x64x256x2x64 .f32 :=
  concatenate S1x64x256x2x64 2 [⟨S1x64x128x2x64, (o_77 x0 x1)⟩, ⟨S1x64x128x2x64, (o_73 x0 x1)⟩] concatenates_S1x64x128x2x64_S1x64x128x2x64_S1x64x256x2x64_d2
def o_80 : FVec Ideal S1x64x128x2x64 .f32 :=
  shapeCast _ (o_69 x0) shapeCasts_S1x8192x2x64_S1x64x128x2x64
def o_81 : FVec Ideal S1x1x128x2x64 .f32 :=
  extractStridedSlice S1x1x128x2x64 ![0, 0, 0, 0, 0] (o_80 x0) slices_S1x64x128x2x64_S1x1x128x2x64_0_0_0_0_0
def o_cst_8 : FVec Ideal S_ .f32 :=
  constant S_ .f32 0x00000000#32
def o_82 : FVec Ideal S1x1x128x2x64 .f32 :=
  broadcastInDim S1x1x128x2x64 ![] bcast_S_S1x1x128x2x64 o_cst_8
def o_83 : FVec Ideal S1x63x128x2x64 .f32 :=
  extractStridedSlice S1x63x128x2x64 ![0, 0, 0, 0, 0] (o_80 x0) slices_S1x64x128x2x64_S1x63x128x2x64_0_0_0_0_0
def o_84 : FVec Ideal S1x64x128x2x64 .f32 :=
  concatenate S1x64x128x2x64 1 [⟨S1x1x128x2x64, o_82⟩, ⟨S1x63x128x2x64, (o_83 x0)⟩] concatenates_S1x1x128x2x64_S1x63x128x2x64_S1x64x128x2x64_d1
def o_cst_9 : FVec Ideal S_ .f32 :=
  constant S_ .f32 0x00000000#32
def o_85 : FVec Ideal S1x1x128x2x64 .f32 :=
  broadcastInDim S1x1x128x2x64 ![] bcast_S_S1x1x128x2x64 o_cst_9
def o_86 : FVec Ideal S1x64x256x2x64 .f32 :=
  concatenate S1x64x256x2x64 2 [⟨S1x64x128x2x64, (o_84 x0)⟩, ⟨S1x64x128x2x64, (o_80 x0)⟩] concatenates_S1x64x128x2x64_S1x64x128x2x64_S1x64x256x2x64_d2
def o_87 : FVec Ideal S1x64x2x256x128x4 .f32 :=
  Host.dotGeneral dot_S1x64x256x2x64_S1x64x128x2x4x64_S1x64x2x256x128x4_4_5_2_24_013_013 none (o_79 x0 x1) (o_72 x0 x1)
def o_88 : FVec Ideal S1x64x2x4x128x256 .f32 :=
  transpose S1x64x2x4x128x256 [0, 1, 2, 5, 4, 3] (o_87 x0 x1) transposes_S1x64x2x256x128x4_S1x64x2x4x128x256_0_1_2_5_4_3
def o_89 : (⟨S128, .i32⟩ : BufTy).Contents (Elt Ideal) :=
  iotaInDim S128 32 0
def o_90 : (⟨S128x1, .i32⟩ : BufTy).Contents (Elt Ideal) :=
  broadcastInDim S128x1 ![0] bcast_S128_S128x1_0 o_89
def o_91 : (⟨S256, .i32⟩ : BufTy).Contents (Elt Ideal) :=
  iotaInDim S256 32 0
def o_92 : (⟨S1x256, .i32⟩ : BufTy).Contents (Elt Ideal) :=
  broadcastInDim S1x256 ![1] bcast_S256_S1x256_1 o_91
def o_c : (⟨S_, .i32⟩ : BufTy).Contents (Elt Ideal) :=
  constantI S_ 32 128#32
def o_93 : (⟨S1x256, .i32⟩ : BufTy).Contents (Elt Ideal) :=
  broadcastInDim S1x256 ![] bcast_S_S1x256 o_c
def o_94 : (⟨S1x256, .i32⟩ : BufTy).Contents (Elt Ideal) :=
  subi o_92 o_93
def o_95 : (⟨S128x256, .i32⟩ : BufTy).Contents (Elt Ideal) :=
  broadcastInDim S128x256 ![0, 1] bcast_S1x256_S128x256_0_1 o_94
def o_96 : (⟨S128x256, .i32⟩ : BufTy).Contents (Elt Ideal) :=
  broadcastInDim S128x256 ![0, 1] bcast_S128x1_S128x256_0_1 o_90
def o_97 : (⟨S128x256, .i1⟩ : BufTy).Contents (Elt Ideal) :=
  cmpi .sle o_95 o_96
def o_98 : (⟨S128x256, .i32⟩ : BufTy).Contents (Elt Ideal) :=
  broadcastInDim S128x256 ![0, 1] bcast_S128x1_S128x256_0_1 o_90
def o_99 : (⟨S128x256, .i32⟩ : BufTy).Contents (Elt Ideal) :=
  broadcastInDim S128x256 ![0, 1] bcast_S1x256_S128x256_0_1 o_94
def o_100 : (⟨S128x256, .i32⟩ : BufTy).Contents (Elt Ideal) :=
  subi o_98 o_99
def o_c_10 : (⟨S_, .i32⟩ : BufTy).Contents (Elt Ideal) :=
  constantI S_ 32 128#32
def o_101 : (⟨S128x256, .i32⟩ : BufTy).Contents (Elt Ideal) :=
  broadcastInDim S128x256 ![] bcast_S_S128x256 o_c_10
def o_102 : (⟨S128x256, .i1⟩ : BufTy).Contents (Elt Ideal) :=
  cmpi .slt o_100 o_101
def o_103 : (⟨S128x256, .i1⟩ : BufTy).Contents (Elt Ideal) :=
  andi o_97 o_102
def o_104 : (⟨S64, .i32⟩ : BufTy).Contents (Elt Ideal) :=
  iotaInDim S64 32 0
def o_105 : (⟨S64x1x1, .i32⟩ : BufTy).Contents (Elt Ideal) :=
  broadcastInDim S64x1x1 ![0] bcast_S64_S64x1x1_0 o_104
def o_106 : (⟨S1x128x256, .i1⟩ : BufTy).Contents (Elt Ideal) :=
  broadcastInDim S1x128x256 ![1, 2] bcast_S128x256_S1x128x256_1_2 o_103
def o_c_11 : (⟨S_, .i32⟩ : BufTy).Contents (Elt Ideal) :=
  constantI S_ 32 0#32
def o_107 : (⟨S64x1x1, .i32⟩ : BufTy).Contents (Elt Ideal) :=
  broadcastInDim S64x1x1 ![] bcast_S_S64x1x1 o_c_11
def o_108 : (⟨S64x1x1, .i1⟩ : BufTy).Contents (Elt Ideal) :=
  cmpi .sgt o_105 o_107
def o_109 : (⟨S1x1x256, .i32⟩ : BufTy).Contents (Elt Ideal) :=
  broadcastInDim S1x1x256 ![1, 2] bcast_S1x256_S1x1x256_1_2 o_92
def o_c_12 : (⟨S_, .i32⟩ : BufTy).Contents (Elt Ideal) :=
  constantI S_ 32 128#32
def o_110 : (⟨S1x1x256, .i32⟩ : BufTy).Contents (Elt Ideal) :=
  broadcastInDim S1x1x256 ![] bcast_S_S1x1x256 o_c_12
def o_111 : (⟨S1x1x256, .i1⟩ : BufTy).Contents (Elt Ideal) :=
  cmpi .sge o_109 o_110
def o_112 : (⟨S64x1x256, .i1⟩ : BufTy).Contents (Elt Ideal) :=
  broadcastInDim S64x1x256 ![0, 1, 2] bcast_S64x1x1_S64x1x256_0_1_2 o_108
def o_113 : (⟨S64x1x256, .i1⟩ : BufTy).Contents (Elt Ideal) :=
  broadcastInDim S64x1x256 ![0, 1, 2] bcast_S1x1x256_S64x1x256_0_1_2 o_111
def o_114 : (⟨S64x1x256, .i1⟩ : BufTy).Contents (Elt Ideal) :=
  ori o_112 o_113
def o_115 : (⟨S64x128x256, .i1⟩ : BufTy).Contents (Elt Ideal) :=
  broadcastInDim S64x128x256 ![0, 1, 2] bcast_S1x128x256_S64x128x256_0_1_2 o_106
def o_116 : (⟨S64x128x256, .i1⟩ : BufTy).Contents (Elt Ideal) :=
  broadcastInDim S64x128x256 ![0, 1, 2] bcast_S64x1x256_S64x128x256_0_1_2 o_114
def o_117 : (⟨S64x128x256, .i1⟩ : BufTy).Contents (Elt Ideal) :=
  andi o_115 o_116
def o_118 : (⟨S1x64x1x1x128x256, .i1⟩ : BufTy).Contents (Elt Ideal) :=
  broadcastInDim S1x64x1x1x128x256 ![1, 4, 5] bcast_S64x128x256_S1x64x1x1x128x256_1_4_5 o_117
def o_cst_13 : FVec Ideal S_ .f32 :=
  constant S_ .f32 0xFF800000#32
def o_call0_v0 : FVec Ideal S_ .f32 :=
  id o_cst_13
def o_119_1 : (⟨S1x64x2x4x128x256, .i1⟩ : BufTy).Contents (Elt Ideal) :=
  broadcastInDim S1x64x2x4x128x256 ![0, 1, 2, 3, 4, 5] bcast_S1x64x1x1x128x256_S1x64x2x4x128x256_0_1_2_3_4_5 o_118
def o_call0_v2 : FVec Ideal S1x64x2x4x128x256 .f32 :=
  broadcastInDim S1x64x2x4x128x256 ![] bcast_S_S1x64x2x4x128x256 o_call0_v0
def o_119_0 : FVec Ideal S1x64x2x4x128x256 .f32 :=
  select o_119_1 (o_88 x0 x1) o_call0_v2
def o_call0_cst : FVec Ideal S_ .f32 :=
  constant S_ .f32 0x00000000#32
def o_119_2 : FVec Ideal S1x64x2x4x128x256 .f32 :=
  broadcastInDim S1x64x2x4x128x256 ![] bcast_S_S1x64x2x4x128x256 o_call0_cst
def o_120 : FVec Ideal S2x4 .f32 :=
  shapeCast _ (o_6 x2) shapeCasts_S8_S2x4
def o_121 : FVec Ideal S1x1x2x4x1x1 .f32 :=
  broadcastInDim S1x1x2x4x1x1 ![2, 3] bcast_S2x4_S1x1x2x4x1x1_2_3 (o_120 x2)
def o_cst_14 : FVec Ideal S_ .f32 :=
  constant S_ .f32 0xFF800000#32
def o_122 : FVec Ideal S1x64x2x4x128 .f32 :=
  Host.reduce FloatOps.maximumf (o_119_0 x0 x1) o_cst_14 reducesTo_S1x64x2x4x128x256_S1x64x2x4x128_d5 h_S_
def o_123 : FVec Ideal S1x64x2x4x128x1 .f32 :=
  shapeCast _ (o_122 x0 x1) shapeCasts_S1x64x2x4x128_S1x64x2x4x128x1
def o_124 : FVec Ideal S1x64x2x4x128x256 .f32 :=
  broadcastInDim S1x64x2x4x128x256 ![0, 1, 2, 3, 4, 5] bcast_S1x64x2x4x128x1_S1x64x2x4x128x256_0_1_2_3_4_5 (o_123 x0 x1)
def o_125 : (⟨S1x64x2x4x128x256, .i1⟩ : BufTy).Contents (Elt Ideal) :=
  cmpf .oeq (o_119_0 x0 x1) (o_124 x0 x1)
def o_126 : FVec Ideal S1x64x2x4x128x256 .f32 :=
  uitofp .f32 (o_125 x0 x1)
def o_cst_15 : FVec Ideal S_ .f32 :=
  constant S_ .f32 0x00000000#32
def o_127 : FVec Ideal S1x64x2x4x128 .f32 :=
  Host.reduceAdd (o_126 x0 x1) o_cst_15 reducesTo_S1x64x2x4x128x256_S1x64x2x4x128_d5 h_S_
def o_128 : FVec Ideal S1x64x2x4x128x1 .f32 :=
  broadcastInDim S1x64x2x4x128x1 ![0, 1, 2, 3, 4] bcast_S1x64x2x4x128_S1x64x2x4x128x1_0_1_2_3_4 (o_122 x0 x1)
def o_129 : FVec Ideal S1x64x2x4x128x1 .f32 :=
  broadcastInDim S1x64x2x4x128x1 ![0, 1, 2, 3, 4, 5] bcast_S1x1x2x4x1x1_S1x64x2x4x128x1_0_1_2_3_4_5 (o_121 x2)
def o_130 : FVec Ideal S1x64x2x4x128x1 .f32 :=
  maximumf (o_128 x0 x1) (o_129 x2)
def o_131 : FVec Ideal S1x64x2x4x128x1 .f32 :=
  broadcastInDim S1x64x2x4x128x1 ![0, 1, 2, 3, 4, 5] bcast_S1x1x2x4x1x1_S1x64x2x4x128x1_0_1_2_3_4_5 (o_121 x2)
def o_132 : (⟨S1x64x2x4x128x1, .i1⟩ : BufTy).Contents (Elt Ideal) :=
  cmpf .ogt (o_128 x0 x1) (o_131 x2)
def o_133 : FVec Ideal S1x64x2x4x128x1 .f32 :=
  broadcastInDim S1x64x2x4x128x1 ![0, 1, 2, 3, 4, 5] bcast_S1x1x2x4x1x1_S1x64x2x4x128x1_0_1_2_3_4_5 (o_121 x2)
def o_134 : (⟨S1x64x2x4x128x1, .i1⟩ : BufTy).Contents (Elt Ideal) :=
  cmpf .oeq (o_128 x0 x1) (o_133 x2)
def o_cst_16 : FVec Ideal S_ .f32 :=
  constant S_ .f32 0x3F800000#32
def o_135 : FVec Ideal S1x64x2x4x128x1 .f32 :=
  broadcastInDim S1x64x2x4x128x1 ![] bcast_S_S1x64x2x4x128x1 o_cst_16
def o_cst_17 : FVec Ideal S_ .f32 :=
  constant S_ .f32 0x00000000#32
def o_136 : FVec Ideal S1x64x2x4x128x1 .f32 :=
  broadcastInDim S1x64x2x4x128x1 ![] bcast_S_S1x64x2x4x128x1 o_cst_17
def o_cst_18 : FVec Ideal S_ .f32 :=
  constant S_ .f32 0x3F000000#32
def o_137 : FVec Ideal S1x64x2x4x128x1 .f32 :=
  broadcastInDim S1x64x2x4x128x1 ![] bcast_S_S1x64x2x4x128x1 o_cst_18
def o_138 : FVec Ideal S1x64x2x4x128x1 .f32 :=
  select (o_134 x0 x1 x2) o_137 o_136
def o_139 : FVec Ideal S1x64x2x4x128x1 .f32 :=
  select (o_132 x0 x1 x2) o_135 (o_138 x0 x1 x2)
def o_140 : FVec Ideal S1x64x2x4x128x1 .f32 :=
  broadcastInDim S1x64x2x4x128x1 ![0, 1, 2, 3, 4, 5] bcast_S1x1x2x4x1x1_S1x64x2x4x128x1_0_1_2_3_4_5 (o_121 x2)
def o_141 : (⟨S1x64x2x4x128x1, .i1⟩ : BufTy).Contents (Elt Ideal) :=
  cmpf .ogt (o_140 x2) (o_128 x0 x1)
def o_142 : FVec Ideal S1x64x2x4x128x1 .f32 :=
  broadcastInDim S1x64x2x4x128x1 ![0, 1, 2, 3, 4, 5] bcast_S1x1x2x4x1x1_S1x64x2x4x128x1_0_1_2_3_4_5 (o_121 x2)
def o_143 : (⟨S1x64x2x4x128x1, .i1⟩ : BufTy).Contents (Elt Ideal) :=
  cmpf .oeq (o_142 x2) (o_128 x0 x1)
def o_cst_19 : FVec Ideal S_ .f32 :=
  constant S_ .f32 0x3F800000#32
def o_144 : FVec Ideal S1x64x2x4x128x1 .f32 :=
  broadcastInDim S1x64x2x4x128x1 ![] bcast_S_S1x64x2x4x128x1 o_cst_19
def o_cst_20 : FVec Ideal S_ .f32 :=
  constant S_ .f32 0x00000000#32
def o_145 : FVec Ideal S1x64x2x4x128x1 .f32 :=
  broadcastInDim S1x64x2x4x128x1 ![] bcast_S_S1x64x2x4x128x1 o_cst_20
def o_cst_21 : FVec Ideal S_ .f32 :=
  constant S_ .f32 0x3F000000#32
def o_146 : FVec Ideal S1x64x2x4x128x1 .f32 :=
  broadcastInDim S1x64x2x4x128x1 ![] bcast_S_S1x64x2x4x128x1 o_cst_21
def o_147 : FVec Ideal S1x64x2x4x128x1 .f32 :=
  select (o_143 x0 x1 x2) o_146 o_145
def o_148 : FVec Ideal S1x64x2x4x128x1 .f32 :=
  select (o_141 x0 x1 x2) o_144 (o_147 x0 x1 x2)
def o_149 : FVec Ideal S1x64x2x4x128x256 .f32 :=
  broadcastInDim S1x64x2x4x128x256 ![0, 1, 2, 3, 4, 5] bcast_S1x64x2x4x128x1_S1x64x2x4x128x256_0_1_2_3_4_5 (o_130 x0 x1 x2)
def o_150 : FVec Ideal S1x64x2x4x128x256 .f32 :=
  subf (o_119_0 x0 x1) (o_149 x0 x1 x2)
def o_151 : FVec Ideal S1x64x2x4x128x256 .f32 :=
  Host.exp (o_150 x0 x1 x2)
def o_cst_22 : FVec Ideal S_ .f32 :=
  constant S_ .f32 0x00000000#32
def o_152 : FVec Ideal S1x64x2x4x128 .f32 :=
  Host.reduceAdd (o_151 x0 x1 x2) o_cst_22 reducesTo_S1x64x2x4x128x256_S1x64x2x4x128_d5 h_S_
def o_153 : FVec Ideal S1x64x2x4x128x1 .f32 :=
  broadcastInDim S1x64x2x4x128x1 ![0, 1, 2, 3, 4] bcast_S1x64x2x4x128_S1x64x2x4x128x1_0_1_2_3_4 (o_152 x0 x1 x2)
def o_154 : FVec Ideal S1x64x2x4x128x1 .f32 :=
  broadcastInDim S1x64x2x4x128x1 ![0, 1, 2, 3, 4, 5] bcast_S1x1x2x4x1x1_S1x64x2x4x128x1_0_1_2_3_4_5 (o_121 x2)
def o_155 : FVec Ideal S1x64x2x4x128x1 .f32 :=
  subf (o_154 x2) (o_130 x0 x1 x2)
def o_156 : FVec Ideal S1x64x2x4x128x1 .f32 :=
  Host.exp (o_155 x0 x1 x2)
def o_157 : FVec Ideal S1x64x2x4x128x1 .f32 :=
  addf (o_153 x0 x1 x2) (o_156 x0 x1 x2)
def o_158 : FVec Ideal S1x64x2x4x128x256 .f32 :=
  broadcastInDim S1x64x2x4x128x256 ![0, 1, 2, 3, 4, 5] bcast_S1x64x2x4x128x1_S1x64x2x4x128x256_0_1_2_3_4_5 (o_157 x0 x1 x2)
def o_159 : FVec Ideal S1x64x2x4x128x256 .f32 :=
  Host.divf (o_151 x0 x1 x2) (o_158 x0 x1 x2)
def o_160 : FVec Ideal S1x64x2x4x128x1 .f32 :=
  mulf (o_157 x0 x1 x2) (o_157 x0 x1 x2)
def o_cst_23 : FVec Ideal S_ .f32 :=
  constant S_ .f32 0x3F800000#32
def o_161 : FVec Ideal S1x64x2x4x128x1 .f32 :=
  broadcastInDim S1x64x2x4x128x1 ![] bcast_S_S1x64x2x4x128x1 o_cst_23
def o_162 : FVec Ideal S1x64x2x4x128x1 .f32 :=
  Host.divf o_161 (o_160 x0 x1 x2)
def o_163 : FVec Ideal S1x64x2x64x4x128 .f32 :=
  Host.dotGeneral dot_S1x64x256x2x64_S1x64x2x4x128x256_S1x64x2x64x4x128_2_5_4_34_013_012 none (o_86 x0) (o_159 x0 x1 x2)
def o_164 : FVec Ideal S1x64x128x2x4x64 .f32 :=
  transpose S1x64x128x2x4x64 [0, 1, 5, 2, 4, 3] (o_163 x0 x1 x2) transposes_S1x64x2x64x4x128_S1x64x128x2x4x64_0_1_5_2_4_3
def o_165 : FVec Ideal S1x8192x512 .f32 :=
  shapeCast _ (o_164 x0 x1 x2) shapeCasts_S1x64x128x2x4x64_S1x8192x512
def o_166 : FVec Ideal S1x8192x512 .f32 :=
  broadcastInDim S1x8192x512 ![1, 2] bcast_S8192x512_S1x8192x512_1_2 x3
def o_167 : FVec Ideal S1x64x128x2x4x64 .f32 :=
  shapeCast _ (o_166 x3) shapeCasts_S1x8192x512_S1x64x128x2x4x64
def o_168 : FVec Ideal S1x64x2x64x4x128 .f32 :=
  transpose S1x64x2x64x4x128 [0, 1, 3, 5, 4, 2] (o_167 x3) transposes_S1x64x128x2x4x64_S1x64x2x64x4x128_0_1_3_5_4_2
def o_169 : FVec Ideal S1x64x2x4x128x256 .f32 :=
  Host.dotGeneral dot_S1x64x2x64x4x128_S1x64x256x2x64_S1x64x2x4x128x256_3_4_45_2_012_013 none (o_168 x3) (o_86 x0)
def o_170 : FVec Ideal S1x64x2x64x256 .f32 :=
  Host.dotGeneral dot_S1x64x2x64x4x128_S1x64x2x4x128x256_S1x64x2x64x256_45_34_3_5_012_012 none (o_168 x3) (o_159 x0 x1 x2)
def o_171 : FVec Ideal S1x64x256x2x64 .f32 :=
  transpose S1x64x256x2x64 [0, 1, 4, 2, 3] (o_170 x0 x1 x2 x3) transposes_S1x64x2x64x256_S1x64x256x2x64_0_1_4_2_3
def o_172 : FVec Ideal S1x64x2x4x128x256 .f32 :=
  broadcastInDim S1x64x2x4x128x256 ![0, 1, 2, 3, 4, 5] bcast_S1x64x2x4x128x1_S1x64x2x4x128x256_0_1_2_3_4_5 (o_162 x0 x1 x2)
def o_173 : FVec Ideal S1x64x2x4x128x256 .f32 :=
  mulf (o_169 x0 x3) (o_172 x0 x1 x2)
def o_174 : FVec Ideal S1x64x2x4x128x256 .f32 :=
  mulf (o_173 x0 x1 x2 x3) (o_151 x0 x1 x2)
def o_cst_24 : FVec Ideal S_ .f32 :=
  constant S_ .f32 0x00000000#32
def o_175 : FVec Ideal S1x64x2x4x128 .f32 :=
  Host.reduceAdd (o_174 x0 x1 x2 x3) o_cst_24 reducesTo_S1x64x2x4x128x256_S1x64x2x4x128_d5 h_S_
def o_176 : FVec Ideal S1x64x2x4x128x1 .f32 :=
  shapeCast _ (o_175 x0 x1 x2 x3) shapeCasts_S1x64x2x4x128_S1x64x2x4x128x1
def o_177 : FVec Ideal S1x64x2x4x128x1 .f32 :=
  Host.negf (o_176 x0 x1 x2 x3)
def o_178 : FVec Ideal S1x64x2x4x128x256 .f32 :=
  broadcastInDim S1x64x2x4x128x256 ![0, 1, 2, 3, 4, 5] bcast_S1x64x2x4x128x1_S1x64x2x4x128x256_0_1_2_3_4_5 (o_157 x0 x1 x2)
def o_179 : FVec Ideal S1x64x2x4x128x256 .f32 :=
  Host.divf (o_169 x0 x3) (o_178 x0 x1 x2)
def o_180 : FVec Ideal S1x64x2x4x128x1 .f32 :=
  mulf (o_177 x0 x1 x2 x3) (o_156 x0 x1 x2)
def o_cst_25 : FVec Ideal S_ .f32 :=
  constant S_ .f32 0x00000000#32
def o_181 : FVec Ideal S1x2x4x1 .f32 :=
  Host.reduceAdd (o_180 x0 x1 x2 x3) o_cst_25 reducesTo_S1x64x2x4x128x1_S1x2x4x1_d1_4 h_S_
def o_182 : FVec Ideal S1x1x2x4x1x1 .f32 :=
  shapeCast _ (o_181 x0 x1 x2 x3) shapeCasts_S1x2x4x1_S1x1x2x4x1x1
def o_183 : FVec Ideal S1x64x2x4x128x1 .f32 :=
  Host.negf (o_180 x0 x1 x2 x3)
def o_cst_26 : FVec Ideal S_ .f32 :=
  constant S_ .f32 0x00000000#32
def o_184 : FVec Ideal S64x2x4x128 .f32 :=
  Host.reduceAdd (o_177 x0 x1 x2 x3) o_cst_26 reducesTo_S1x64x2x4x128x1_S64x2x4x128_d0_5 h_S_
def o_185 : FVec Ideal S1x64x2x4x128 .f32 :=
  broadcastInDim S1x64x2x4x128 ![1, 2, 3, 4] bcast_S64x2x4x128_S1x64x2x4x128_1_2_3_4 (o_184 x0 x1 x2 x3)
def o_186 : FVec Ideal S1x64x2x4x128x256 .f32 :=
  broadcastInDim S1x64x2x4x128x256 ![0, 1, 2, 3, 4] bcast_S1x64x2x4x128_S1x64x2x4x128x256_0_1_2_3_4 (o_185 x0 x1 x2 x3)
def o_187 : FVec Ideal S1x64x2x4x128x256 .f32 :=
  addf (o_179 x0 x1 x2 x3) (o_186 x0 x1 x2 x3)
def o_188 : FVec Ideal S1x64x2x4x128x256 .f32 :=
  mulf (o_187 x0 x1 x2 x3) (o_151 x0 x1 x2)
def o_189 : FVec Ideal S1x64x2x4x128x256 .f32 :=
  Host.negf (o_188 x0 x1 x2 x3)
def o_cst_27 : FVec Ideal S_ .f32 :=
  constant S_ .f32 0x00000000#32
def o_190 : FVec Ideal S1x64x2x4x128 .f32 :=
  Host.reduceAdd (o_189 x0 x1 x2 x3) o_cst_27 reducesTo_S1x64x2x4x128x256_S1x64x2x4x128_d5 h_S_
def o_191 : FVec Ideal S1x64x2x4x128x1 .f32 :=
  shapeCast _ (o_190 x0 x1 x2 x3) shapeCasts_S1x64x2x4x128_S1x64x2x4x128x1
def o_192 : FVec Ideal S1x64x2x4x128x1 .f32 :=
  addf (o_183 x0 x1 x2 x3) (o_191 x0 x1 x2 x3)
def o_193 : FVec Ideal S1x64x2x4x128x1 .f32 :=
  mulf (o_192 x0 x1 x2 x3) (o_148 x0 x1 x2)
def o_cst_28 : FVec Ideal S_ .f32 :=
  constant S_ .f32 0x00000000#32
def o_194 : FVec Ideal S1x2x4x1 .f32 :=
  Host.reduceAdd (o_193 x0 x1 x2 x3) o_cst_28 reducesTo_S1x64x2x4x128x1_S1x2x4x1_d1_4 h_S_
def o_195 : FVec Ideal S1x1x2x4x1x1 .f32 :=
  shapeCast _ (o_194 x0 x1 x2 x3) shapeCasts_S1x2x4x1_S1x1x2x4x1x1
def o_196 : FVec Ideal S1x1x2x4x1x1 .f32 :=
  addf (o_182 x0 x1 x2 x3) (o_195 x0 x1 x2 x3)
def o_197 : FVec Ideal S1x64x2x4x128x1 .f32 :=
  mulf (o_192 x0 x1 x2 x3) (o_139 x0 x1 x2)
def o_cst_29 : FVec Ideal S_ .f32 :=
  constant S_ .f32 0x00000000#32
def o_198 : FVec Ideal S64x2x4x128 .f32 :=
  Host.reduceAdd (o_197 x0 x1 x2 x3) o_cst_29 reducesTo_S1x64x2x4x128x1_S64x2x4x128_d0_5 h_S_
def o_199 : FVec Ideal S1x64x2x4x128 .f32 :=
  broadcastInDim S1x64x2x4x128 ![1, 2, 3, 4] bcast_S64x2x4x128_S1x64x2x4x128_1_2_3_4 (o_198 x0 x1 x2 x3)
def o_200 : FVec Ideal S1x64x2x4x128 .f32 :=
  Host.divf (o_199 x0 x1 x2 x3) (o_127 x0 x1)
def o_201 : FVec Ideal S1x64x2x4x128x256 .f32 :=
  broadcastInDim S1x64x2x4x128x256 ![0, 1, 2, 3, 4] bcast_S1x64x2x4x128_S1x64x2x4x128x256_0_1_2_3_4 (o_200 x0 x1 x2 x3)
def o_202 : FVec Ideal S1x64x2x4x128x256 .f32 :=
  mulf (o_201 x0 x1 x2 x3) (o_126 x0 x1)
def o_203 : FVec Ideal S1x64x2x4x128x256 .f32 :=
  addf (o_188 x0 x1 x2 x3) (o_202 x0 x1 x2 x3)
def o_cst_30 : FVec Ideal S_ .f32 :=
  constant S_ .f32 0x00000000#32
def o_204 : FVec Ideal S2x4 .f32 :=
  Host.reduceAdd (o_196 x0 x1 x2 x3) o_cst_30 reducesTo_S1x1x2x4x1x1_S2x4_d0_1_4_5 h_S_
def o_205 : FVec Ideal S8 .f32 :=
  shapeCast _ (o_204 x0 x1 x2 x3) shapeCasts_S2x4_S8
def o_call1_cst : FVec Ideal S_ .f32 :=
  constant S_ .f32 0x00000000#32
def o_call1_v0 : FVec Ideal S1x64x2x4x128x256 .f32 :=
  broadcastInDim S1x64x2x4x128x256 ![] bcast_S_S1x64x2x4x128x256 o_call1_cst
def o_206 : FVec Ideal S1x64x2x4x128x256 .f32 :=
  select o_119_1 (o_203 x0 x1 x2 x3) o_call1_v0
def o_207 : FVec Ideal S1x64x2x256x128x4 .f32 :=
  transpose S1x64x2x256x128x4 [0, 1, 2, 5, 4, 3] (o_206 x0 x1 x2 x3) transposes_S1x64x2x4x128x256_S1x64x2x256x128x4_0_1_2_5_4_3
def o_208 : FVec Ideal S1x64x2x128x4x64 .f32 :=
  Host.dotGeneral dot_S1x64x2x256x128x4_S1x64x256x2x64_S1x64x2x128x4x64_3_2_45_4_012_013 none (o_207 x0 x1 x2 x3) (o_79 x0 x1)
def o_209 : FVec Ideal S1x64x128x2x4x64 .f32 :=
  transpose S1x64x128x2x4x64 [0, 1, 3, 2, 4, 5] (o_208 x0 x1 x2 x3) transposes_S1x64x2x128x4x64_S1x64x128x2x4x64_0_1_3_2_4_5
def o_210 : FVec Ideal S1x64x2x256x64 .f32 :=
  Host.dotGeneral dot_S1x64x2x256x128x4_S1x64x128x2x4x64_S1x64x2x256x64_45_24_3_5_012_013 none (o_207 x0 x1 x2 x3) (o_72 x0 x1)
def o_211 : FVec Ideal S1x64x256x2x64 .f32 :=
  transpose S1x64x256x2x64 [0, 1, 3, 2, 4] (o_210 x0 x1 x2 x3) transposes_S1x64x2x256x64_S1x64x256x2x64_0_1_3_2_4
def o_212 : FVec Ideal S1x64x128x2x64 .f32 :=
  extractStridedSlice S1x64x128x2x64 ![0, 0, 0, 0, 0] (o_171 x0 x1 x2 x3) slices_S1x64x256x2x64_S1x64x128x2x64_0_0_0_0_0
def o_213 : FVec Ideal S1x64x128x2x64 .f32 :=
  extractStridedSlice S1x64x128x2x64 ![0, 0, 128, 0, 0] (o_171 x0 x1 x2 x3) slices_S1x64x256x2x64_S1x64x128x2x64_0_0_128_0_0
def o_214 : FVec Ideal S1x1x128x2x64 .f32 :=
  extractStridedSlice S1x1x128x2x64 ![0, 0, 0, 0, 0] (o_212 x0 x1 x2 x3) slices_S1x64x128x2x64_S1x1x128x2x64_0_0_0_0_0
def o_215 : FVec Ideal S1x63x128x2x64 .f32 :=
  extractStridedSlice S1x63x128x2x64 ![0, 1, 0, 0, 0] (o_212 x0 x1 x2 x3) slices_S1x64x128x2x64_S1x63x128x2x64_0_1_0_0_0
def o_cst_31 : FVec Ideal S_ .f32 :=
  constant S_ .f32 0x00000000#32
def o_216 : FVec Ideal S1x64x128x2x64 .f32 :=
  pad S1x64x128x2x64 ![0, 0, 0, 0, 0] ![0, 1, 0, 0, 0] ![0, 0, 0, 0, 0] (o_215 x0 x1 x2 x3) o_cst_31 pads_S1x63x128x2x64_S1x64x128x2x64_000_010_000_000_000 h_S_
def o_217 : FVec Ideal S1x64x128x2x64 .f32 :=
  addf (o_213 x0 x1 x2 x3) (o_216 x0 x1 x2 x3)
def o_218 : FVec Ideal S1x8192x2x64 .f32 :=
  shapeCast _ (o_217 x0 x1 x2 x3) shapeCasts_S1x64x128x2x64_S1x8192x2x64
def o_219 : FVec Ideal S1x64x128x2x64 .f32 :=
  extractStridedSlice S1x64x128x2x64 ![0, 0, 0, 0, 0] (o_211 x0 x1 x2 x3) slices_S1x64x256x2x64_S1x64x128x2x64_0_0_0_0_0
def o_220 : FVec Ideal S1x64x128x2x64 .f32 :=
  extractStridedSlice S1x64x128x2x64 ![0, 0, 128, 0, 0] (o_211 x0 x1 x2 x3) slices_S1x64x256x2x64_S1x64x128x2x64_0_0_128_0_0
def o_221 : FVec Ideal S1x1x128x2x64 .f32 :=
  extractStridedSlice S1x1x128x2x64 ![0, 0, 0, 0, 0] (o_219 x0 x1 x2 x3) slices_S1x64x128x2x64_S1x1x128x2x64_0_0_0_0_0
def o_222 : FVec Ideal S1x63x128x2x64 .f32 :=
  extractStridedSlice S1x63x128x2x64 ![0, 1, 0, 0, 0] (o_219 x0 x1 x2 x3) slices_S1x64x128x2x64_S1x63x128x2x64_0_1_0_0_0
def o_cst_32 : FVec Ideal S_ .f32 :=
  constant S_ .f32 0x00000000#32
def o_223 : FVec Ideal S1x64x128x2x64 .f32 :=
  pad S1x64x128x2x64 ![0, 0, 0, 0, 0] ![0, 1, 0, 0, 0] ![0, 0, 0, 0, 0] (o_222 x0 x1 x2 x3) o_cst_32 pads_S1x63x128x2x64_S1x64x128x2x64_000_010_000_000_000 h_S_
def o_224 : FVec Ideal S1x64x128x2x64 .f32 :=
  addf (o_220 x0 x1 x2 x3) (o_223 x0 x1 x2 x3)
def o_225 : FVec Ideal S1x8192x2x64 .f32 :=
  shapeCast _ (o_224 x0 x1 x2 x3) shapeCasts_S1x64x128x2x64_S1x8192x2x64
def o_cst_33 : FVec Ideal S_ .f32 :=
  constant S_ .f32 0x3E000000#32
def o_226 : FVec Ideal S1x64x128x2x4x64 .f32 :=
  broadcastInDim S1x64x128x2x4x64 ![] bcast_S_S1x64x128x2x4x64 o_cst_33
def o_227 : FVec Ideal S1x64x128x2x4x64 .f32 :=
  mulf (o_209 x0 x1 x2 x3) o_226
def o_228 : FVec Ideal S1x8192x8x64 .f32 :=
  shapeCast _ (o_227 x0 x1 x2 x3) shapeCasts_S1x64x128x2x4x64_S1x8192x8x64
def o_229 : FVec Ideal S1x8192x128 .f32 :=
  shapeCast _ (o_218 x0 x1 x2 x3) shapeCasts_S1x8192x2x64_S1x8192x128
def o_230 : FVec Ideal S1x8192x2x32 .f32 :=
  extractStridedSlice S1x8192x2x32 ![0, 0, 0, 0] (o_225 x0 x1 x2 x3) slices_S1x8192x2x64_S1x8192x2x32_0_0_0_0
def o_231 : FVec Ideal S1x8192x2x32 .f32 :=
  extractStridedSlice S1x8192x2x32 ![0, 0, 0, 32] (o_225 x0 x1 x2 x3) slices_S1x8192x2x64_S1x8192x2x32_0_0_0_32
def o_232 : FVec Ideal S1x8192x2x32 .f32 :=
  broadcastInDim S1x8192x2x32 ![0, 1, 2, 3] bcast_S1x8192x1x32_S1x8192x2x32_0_1_2_3 (o_55 x1)
def o_233 : FVec Ideal S1x8192x2x32 .f32 :=
  mulf (o_231 x0 x1 x2 x3) (o_232 x1)
def o_234 : FVec Ideal S1x8192x2x32 .f32 :=
  broadcastInDim S1x8192x2x32 ![0, 1, 2, 3] bcast_S1x8192x1x32_S1x8192x2x32_0_1_2_3 (o_53 x1)
def o_235 : FVec Ideal S1x8192x2x32 .f32 :=
  mulf (o_231 x0 x1 x2 x3) (o_234 x1)
def o_236 : FVec Ideal S1x8192x2x32 .f32 :=
  Host.negf (o_230 x0 x1 x2 x3)
def o_237 : FVec Ideal S1x8192x2x32 .f32 :=
  broadcastInDim S1x8192x2x32 ![0, 1, 2, 3] bcast_S1x8192x1x32_S1x8192x2x32_0_1_2_3 (o_55 x1)
def o_238 : FVec Ideal S1x8192x2x32 .f32 :=
  mulf (o_236 x0 x1 x2 x3) (o_237 x1)
def o_239 : FVec Ideal S1x8192x2x32 .f32 :=
  addf (o_235 x0 x1 x2 x3) (o_238 x0 x1 x2 x3)
def o_240 : FVec Ideal S1x8192x2x32 .f32 :=
  broadcastInDim S1x8192x2x32 ![0, 1, 2, 3] bcast_S1x8192x1x32_S1x8192x2x32_0_1_2_3 (o_53 x1)
def o_241 : FVec Ideal S1x8192x2x32 .f32 :=
  mulf (o_230 x0 x1 x2 x3) (o_240 x1)
def o_242 : FVec Ideal S1x8192x2x32 .f32 :=
  addf (o_233 x0 x1 x2 x3) (o_241 x0 x1 x2 x3)
def o_cst_34 : FVec Ideal S_ .f32 :=
  constant S_ .f32 0x00000000#32
def o_243 : FVec Ideal S1x8192x2x64 .f32 :=
  pad S1x8192x2x64 ![0, 0, 0, 32] ![0, 0, 0, 0] ![0, 0, 0, 0] (o_239 x0 x1 x2 x3) o_cst_34 pads_S1x8192x2x32_S1x8192x2x64_000_000_000_3200 h_S_
def o_cst_35 : FVec Ideal S_ .f32 :=
  constant S_ .f32 0x00000000#32
def o_244 : FVec Ideal S1x8192x2x64 .f32 :=
  pad S1x8192x2x64 ![0, 0, 0, 0] ![0, 0, 0, 32] ![0, 0, 0, 0] (o_242 x0 x1 x2 x3) o_cst_35 pads_S1x8192x2x32_S1x8192x2x64_000_000_000_0320 h_S_
def o_245 : FVec Ideal S1x8192x2x64 .f32 :=
  addf (o_243 x0 x1 x2 x3) (o_244 x0 x1 x2 x3)
def o_246 : FVec Ideal S1x8192x128 .f32 :=
  shapeCast _ (o_245 x0 x1 x2 x3) shapeCasts_S1x8192x2x64_S1x8192x128
def o_247 : FVec Ideal S1x8192x8x32 .f32 :=
  extractStridedSlice S1x8192x8x32 ![0, 0, 0, 0] (o_228 x0 x1 x2 x3) slices_S1x8192x8x64_S1x8192x8x32_0_0_0_0
def o_248 : FVec Ideal S1x8192x8x32 .f32 :=
  extractStridedSlice S1x8192x8x32 ![0, 0, 0, 32] (o_228 x0 x1 x2 x3) slices_S1x8192x8x64_S1x8192x8x32_0_0_0_32
def o_249 : FVec Ideal S1x8192x8x32 .f32 :=
  broadcastInDim S1x8192x8x32 ![0, 1, 2, 3] bcast_S1x8192x1x32_S1x8192x8x32_0_1_2_3 (o_24 x1)
def o_250 : FVec Ideal S1x8192x8x32 .f32 :=
  mulf (o_248 x0 x1 x2 x3) (o_249 x1)
def o_251 : FVec Ideal S1x8192x8x32 .f32 :=
  broadcastInDim S1x8192x8x32 ![0, 1, 2, 3] bcast_S1x8192x1x32_S1x8192x8x32_0_1_2_3 (o_22 x1)
def o_252 : FVec Ideal S1x8192x8x32 .f32 :=
  mulf (o_248 x0 x1 x2 x3) (o_251 x1)
def o_253 : FVec Ideal S1x8192x8x32 .f32 :=
  Host.negf (o_247 x0 x1 x2 x3)
def o_254 : FVec Ideal S1x8192x8x32 .f32 :=
  broadcastInDim S1x8192x8x32 ![0, 1, 2, 3] bcast_S1x8192x1x32_S1x8192x8x32_0_1_2_3 (o_24 x1)
def o_255 : FVec Ideal S1x8192x8x32 .f32 :=
  mulf (o_253 x0 x1 x2 x3) (o_254 x1)
def o_256 : FVec Ideal S1x8192x8x32 .f32 :=
  addf (o_252 x0 x1 x2 x3) (o_255 x0 x1 x2 x3)
def o_257 : FVec Ideal S1x8192x8x32 .f32 :=
  broadcastInDim S1x8192x8x32 ![0, 1, 2, 3] bcast_S1x8192x1x32_S1x8192x8x32_0_1_2_3 (o_22 x1)
def o_258 : FVec Ideal S1x8192x8x32 .f32 :=
  mulf (o_247 x0 x1 x2 x3) (o_257 x1)
def o_259 : FVec Ideal S1x8192x8x32 .f32 :=
  addf (o_250 x0 x1 x2 x3) (o_258 x0 x1 x2 x3)
def o_cst_36 : FVec Ideal S_ .f32 :=
  constant S_ .f32 0x00000000#32
def o_260 : FVec Ideal S1x8192x8x64 .f32 :=
  pad S1x8192x8x64 ![0, 0, 0, 32] ![0, 0, 0, 0] ![0, 0, 0, 0] (o_256 x0 x1 x2 x3) o_cst_36 pads_S1x8192x8x32_S1x8192x8x64_000_000_000_3200 h_S_
def o_cst_37 : FVec Ideal S_ .f32 :=
  constant S_ .f32 0x00000000#32
def o_261 : FVec Ideal S1x8192x8x64 .f32 :=
  pad S1x8192x8x64 ![0, 0, 0, 0] ![0, 0, 0, 32] ![0, 0, 0, 0] (o_259 x0 x1 x2 x3) o_cst_37 pads_S1x8192x8x32_S1x8192x8x64_000_000_000_0320 h_S_
def o_262 : FVec Ideal S1x8192x8x64 .f32 :=
  addf (o_260 x0 x1 x2 x3) (o_261 x0 x1 x2 x3)
def o_263 : FVec Ideal S1x8192x512 .f32 :=
  shapeCast _ (o_262 x0 x1 x2 x3) shapeCasts_S1x8192x8x64_S1x8192x512
def o_264 : FVec Ideal S8192x512 .f32 :=
  shapeCast _ (o_263 x0 x1 x2 x3) shapeCasts_S1x8192x512_S8192x512
def o_265 : FVec Ideal S8192x512 .bf16 :=
  truncf .bf16 (o_264 x0 x1 x2 x3) bitsLt_bf16_f32
def o_266 : FVec Ideal S8192x128 .f32 :=
  shapeCast _ (o_246 x0 x1 x2 x3) shapeCasts_S1x8192x128_S8192x128
def o_267 : FVec Ideal S8192x128 .f32 :=
  shapeCast _ (o_229 x0 x1 x2 x3) shapeCasts_S1x8192x128_S8192x128
def o_268 : FVec Ideal S8192x256 .f32 :=
  concatenate S8192x256 1 [⟨S8192x128, (o_266 x0 x1 x2 x3)⟩, ⟨S8192x128, (o_267 x0 x1 x2 x3)⟩] concatenates_S8192x128_S8192x128_S8192x256_d1
def o_269 : FVec Ideal S8192x256 .bf16 :=
  truncf .bf16 (o_268 x0 x1 x2 x3) bitsLt_bf16_f32
def o_270 : FVec Ideal S8x1 .f32 :=
  broadcastInDim S8x1 ![0] bcast_S8_S8x1_0 (o_205 x0 x1 x2 x3)
def o_271 : FVec Ideal S8x128 .f32 :=
  broadcastInDim S8x128 ![0, 1] bcast_S8x1_S8x128_0_1 (o_270 x0 x1 x2 x3)

end Cert.ReferenceIdeal.Ops

end
-- ==== Proof.RefRun.lean ====
module

public import proofs.«01_k».proof.Proof.Gen.ReferenceIdeal.Run
public import proofs.«01_k».proof.Proof.RefOps

@[expose] public section

set_option maxRecDepth 16384

noncomputable section

/-! The reference's run, its results as the operations composed. -/

namespace Cert.ReferenceIdeal.Attn

open Idealize.ShloMosaic Idealize.ShloMosaic.TcCoe Idealize.SL.Sem
open Cert.ReferenceIdeal Cert.ReferenceIdeal.Gen Cert.ReferenceIdeal.Ops

variable (m : (ℓ : Loc nD τ sig) → Buf (Elt Ideal) ℓ) (ρ : Dev nD → PrngReg)

set_option maxHeartbeats 4000000 in
/-- The run: the three results are the composed operations of the arguments, which end unchanged. -/
theorem run_ops : θ_run defs (onTc (τ := τ) (main (F := Ideal))) ⟨m, fun _ => 0, ρ⟩ fun r => ∀ c : Dev nD,
      r.2.mem ((c.tc : Thread nD τ).loc main_v265) = o_265 (m (c, main_arg0)) (m (c, main_arg1)) (m (c, main_arg2)) (m (c, main_arg3))
      ∧ r.2.mem ((c.tc : Thread nD τ).loc main_v269) = o_269 (m (c, main_arg0)) (m (c, main_arg1)) (m (c, main_arg2)) (m (c, main_arg3))
      ∧ r.2.mem ((c.tc : Thread nD τ).loc main_v271) = o_271 (m (c, main_arg0)) (m (c, main_arg1)) (m (c, main_arg2)) (m (c, main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2.1.trans rfl, (h c).2.2.2⟩)
    (Cert.ReferenceIdeal.Value.run (F := Ideal) m ρ)

end Cert.ReferenceIdeal.Attn

end
-- ==== Proof.RefRows.lean ====
module

public import proofs.«01_k».proof.Proof.RefOps
public import proofs.«01_k».proof.Proof.Inputs
public import Idealize.ShloMosaic.Lib.Pointwise

@[expose] public section

set_option maxRecDepth 16384

noncomputable section

/-! The reference's rotated queries and keys, its values and the gradient it receives, over the real inputs. -/

namespace Cert.ReferenceIdeal.Attn

open Idealize.ShloMosaic Idealize.ShloMosaic.Tactic
open Cert.ReferenceIdeal Cert.ReferenceIdeal.Gen Cert.ReferenceIdeal.Ops Cert.Attn

variable (x0 : (⟨S8192x768, .f32⟩ : BufTy).Contents (Elt Ideal)) (x1 : (⟨S1x8192, .i32⟩ : BufTy).Contents (Elt Ideal))
  (x2 : (⟨S1x8, .f32⟩ : BufTy).Contents (Elt Ideal)) (x3 : (⟨S8192x512, .f32⟩ : BufTy).Contents (Elt Ideal))

/-- The real inputs of the four arguments. -/
def rin : Inp := inp (fun T k => x0 (ix2 T k)) (fun T => x1 (ix2 0 T)) (fun h => x2 (ix2 0 h)) (fun T k => x3 (ix2 T k))

/-- The arguments that must be finite are. -/
def RFin : Prop := Finite (fun T k => x0 (ix2 T k)) (fun h => x2 (ix2 0 h)) (fun T k => x3 (ix2 T k))

theorem rin_C (T : Fin 8192) (d : ℕ) : (rin x0 x1 x2 x3).C T d = Real.cos (ang (x1 (ix2 0 T)) d) := by
  unfold rin; exact inp_C T d
theorem rin_S (T : Fin 8192) (d : ℕ) : (rin x0 x1 x2 x3).S T d = Real.sin (ang (x1 (ix2 0 T)) d) := by
  unfold rin; exact inp_S T d

variable {x0 x1 x2 x3} (H : RFin x0 x2 x3)
include H

theorem rin_X (T : Fin 8192) (k : Fin 768) : x0 (ix2 T k) = (((rin x0 x1 x2 x3).X T k : ℝ) : EReal) := by
  unfold rin; exact H.x_eq T k
theorem rin_SK (h : Fin 8) : x2 (ix2 0 h) = (((rin x0 x1 x2 x3).SK h : ℝ) : EReal) := by
  unfold rin; exact H.s_eq h
theorem rin_DY (T : Fin 8192) (k : Fin 512) : x3 (ix2 T k) = (((rin x0 x1 x2 x3).DY T k : ℝ) : EReal) := by
  unfold rin; exact H.g_eq T k
omit H

variable (x0 x1 x2 x3)

/-- The cosine the queries are rotated by. -/
theorem v22_val (T : Fin 8192) (d : Fin 32) : o_22 x1 (ix4 0 T 0 d) = (((rin x0 x1 x2 x3).C T d : ℝ) : EReal) := by
  pointwise [o_22, o_21, o_20, o_19, o_18, o_17, o_16, o_15, o_14, o_13, o_12, o_11, o_10, o_9, o_8, o_cst, o_cst_0, o_cst_1]
  rw [rin_C]
  exact congrArg Ideal.cos (ang_eq _ _)

/-- The sine the queries are rotated by. -/
theorem v24_val (T : Fin 8192) (d : Fin 32) : o_24 x1 (ix4 0 T 0 d) = (((rin x0 x1 x2 x3).S T d : ℝ) : EReal) := by
  pointwise [o_24, o_23, o_20, o_19, o_18, o_17, o_16, o_15, o_14, o_13, o_12, o_11, o_10, o_9, o_8, o_cst, o_cst_0, o_cst_1]
  rw [rin_S]
  exact congrArg Ideal.sin (ang_eq _ _)

/-- The cosine the keys are rotated by. -/
theorem v53_val (T : Fin 8192) (d : Fin 32) : o_53 x1 (ix4 0 T 0 d) = (((rin x0 x1 x2 x3).C T d : ℝ) : EReal) := by
  pointwise [o_53, o_52, o_51, o_50, o_49, o_48, o_47, o_46, o_45, o_44, o_43, o_42, o_41, o_40, o_39, o_cst_2, o_cst_3, o_cst_4]
  rw [rin_C]
  exact congrArg Ideal.cos (ang_eq _ _)

/-- The sine the keys are rotated by. -/
theorem v55_val (T : Fin 8192) (d : Fin 32) : o_55 x1 (ix4 0 T 0 d) = (((rin x0 x1 x2 x3).S T d : ℝ) : EReal) := by
  pointwise [o_55, o_54, o_51, o_50, o_49, o_48, o_47, o_46, o_45, o_44, o_43, o_42, o_41, o_40, o_39, o_cst_2, o_cst_3, o_cst_4]
  rw [rin_S]
  exact congrArg Ideal.sin (ang_eq _ _)

variable {x0 x1 x2 x3}
include H

/-- The rotated query of head `h`. -/
theorem v37_val (T : Fin 8192) (h : Fin 8) (d : Fin 64) : o_37 x0 x1 (ix4 0 T h d) =
    ((ropeVal (fun d => (rin x0 x1 x2 x3).X T (64 * h + d)) ((rin x0 x1 x2 x3).C T) ((rin x0 x1 x2 x3).S T) d : ℝ) : EReal) := by
  pointwise [o_37, o_36, o_35, o_34, o_33, o_32, o_31, o_30, o_29, o_28, o_27, o_26, o_25, o_7, o_1, o_0]
  simp only [v22_val x0 x1 x2 x3, v24_val x0 x1 x2 x3, rin_X (x1 := x1) H]
  unfold ropeVal
  split_ifs with hd
  · simp only [← EReal.coe_mul, ← EReal.coe_sub]
    rw [mul_comm 64 (h : ℕ), Nat.add_comm (d : ℕ) 32]
  · simp only [← EReal.coe_mul, ← EReal.coe_add]
    rw [mul_comm 64 (h : ℕ), show 32 + ((d : ℕ) - 32) = d by omega]

/-- The rotated key of head `g`. -/
theorem v68_val (T : Fin 8192) (g : Fin 2) (d : Fin 64) : o_68 x0 x1 (ix4 0 T g d) =
    ((ropeVal (fun d => (rin x0 x1 x2 x3).X T (512 + 64 * g + d)) ((rin x0 x1 x2 x3).C T) ((rin x0 x1 x2 x3).S T) d : ℝ) : EReal) := by
  pointwise [o_68, o_67, o_66, o_65, o_64, o_63, o_62, o_61, o_60, o_59, o_58, o_57, o_56, o_38, o_3, o_2]
  simp only [v53_val x0 x1 x2 x3, v55_val x0 x1 x2 x3, rin_X (x1 := x1) H]
  unfold ropeVal
  split_ifs with hd
  · simp only [← EReal.coe_mul, ← EReal.coe_sub]
    congr 4 <;> omega
  · simp only [← EReal.coe_mul, ← EReal.coe_add]
    congr 4 <;> omega

/-- The value of head `g`. -/
theorem v69_val (T : Fin 8192) (g : Fin 2) (d : Fin 64) : o_69 x0 (ix4 0 T g d) =
    (((rin x0 x1 x2 x3).X T (640 + 64 * g + d) : ℝ) : EReal) := by
  pointwise [o_69, o_5, o_4]
  rw [rin_X (x1 := x1) (x3 := x3) H]
  congr 2; dsimp only; omega

/-- The scaled query of block `n`, row `r`, head `4 g + k`. -/
theorem v72_val (n : Fin 64) (r : Fin 128) (g : Fin 2) (k : Fin 4) (d : Fin 64) :
    o_72 x0 x1 (ix6 0 n r g k d) = ((qs (rin x0 x1 x2 x3) n (4 * g + k) r d : ℝ) : EReal) := by
  pointwise [o_72, o_71, o_70, o_cst_5]
  rw [v37_val (x2 := x2) (x3 := x3) H]
  have e : Ideal.ofBits FTy.f32 1040187392#32 = ((1 / 8 : ℝ) : EReal) := by
    simp [Ideal.ofBits, Ideal.ieee, -EReal.coe_mul]; norm_num
  rw [e, ← EReal.coe_mul]
  unfold qs
  dsimp only
  rw [Nat.mul_comm (n : ℕ) 128, Nat.mul_comm (g : ℕ) 4]

/-- Key `j` of block `n`'s window: before the array's start it is zero. -/
theorem v79_val (n : Fin 64) (j : Fin 256) (g : Fin 2) (d : Fin 64) :
    o_79 x0 x1 (ix5 0 n j g d) = (((if (0 < (n : ℕ) ∨ 128 ≤ (j : ℕ)) then kk (rin x0 x1 x2 x3) n g j d else 0) : ℝ) : EReal) := by
  pointwise [o_79, o_77, o_76, o_75, o_73, o_cst_6]
  simp only [v68_val (x2 := x2) (x3 := x3) H]
  unfold kk krow
  split_ifs <;> first | omega | rfl | (rw [Nat.mul_comm]; done)

/-- Value `j` of block `n`'s window: before the array's start it is zero. -/
theorem v86_val (n : Fin 64) (j : Fin 256) (g : Fin 2) (d : Fin 64) :
    o_86 x0 (ix5 0 n j g d) = (((if (0 < (n : ℕ) ∨ 128 ≤ (j : ℕ)) then vv (rin x0 x1 x2 x3) n g j d else 0) : ℝ) : EReal) := by
  pointwise [o_86, o_84, o_83, o_82, o_80, o_cst_8]
  simp only [v69_val (x1 := x1) (x2 := x2) (x3 := x3) H]
  unfold vv krow
  split_ifs <;> first | omega | rfl | (rw [Nat.mul_comm]; done)

/-- The gradient of the output that the reference receives. -/
theorem v168_val (n : Fin 64) (r : Fin 128) (g : Fin 2) (k : Fin 4) (d : Fin 64) :
    o_168 x3 (ix6 0 n g d k r) = ((dyv (rin x0 x1 x2 x3) n (4 * g + k) r d : ℝ) : EReal) := by
  pointwise [o_168, o_167, o_166]
  rw [rin_DY (x1 := x1) H]
  unfold dyv
  congr 2 <;> dsimp only <;> omega

omit H

/-- The words of the mask decide which keys a row sees. -/
theorem v119_1_val (n : Fin 64) (r : Fin 128) (g : Fin 2) (k : Fin 4) (j : Fin 256) :
    o_119_1 (ix6 0 n g k r j) = if msk n r j then 1#1 else 0#1 := by
  pointwise [o_119_1, o_118, o_117, o_116, o_115, o_114, o_113, o_112, o_111, o_110, o_109, o_108, o_107, o_106, o_105, o_104, o_103, o_102, o_101, o_100, o_99, o_98, o_97, o_96, o_95, o_94, o_93, o_92, o_91, o_90, o_89, o_c, o_c_10, o_c_11, o_c_12]
  have a : IntOp.cmpi CmpIPredicate.sle (IntOp.subi (BitVec.ofNat 32 ↑j) 128#32) (BitVec.ofNat 32 ↑r) = if (j : ℕ) ≤ r + 128 then 1#1 else 0#1 := by
    clear n g k
    revert r; revert j; decide +kernel
  have b : IntOp.cmpi CmpIPredicate.slt (IntOp.subi (BitVec.ofNat 32 ↑r) (IntOp.subi (BitVec.ofNat 32 ↑j) 128#32)) 128#32 = if (r : ℕ) < j then 1#1 else 0#1 := by
    clear n g k a
    revert r; revert j; decide +kernel
  have e : IntOp.cmpi CmpIPredicate.sgt (BitVec.ofNat 32 ↑n) 0#32 = if 0 < (n : ℕ) then 1#1 else 0#1 := by
    clear r j g k a b
    revert n; decide +kernel
  have f : IntOp.cmpi CmpIPredicate.sge (BitVec.ofNat 32 ↑j) 128#32 = if 128 ≤ (j : ℕ) then 1#1 else 0#1 := by
    clear r n g k a b e
    revert j; decide +kernel
  rw [a, b, e, f]
  unfold msk
  by_cases h1 : (j : ℕ) ≤ r + 128 <;> by_cases h2 : (r : ℕ) < j <;> by_cases h3 : 0 < (n : ℕ) <;> by_cases h4 : 128 ≤ (j : ℕ) <;>
    simp only [h1, h2, h3, h4, if_true, if_false, and_true, true_and, and_false, false_and, or_true, true_or, or_false, false_or] <;> rfl

end Cert.ReferenceIdeal.Attn

end
-- ==== Proof.RefSums.lean ====
module

public import proofs.«01_k».proof.Proof.RefRows

@[expose] public section

set_option maxRecDepth 16384

noncomputable section

/-! The reference's sums and its maximum over axes of an array of rank six, as sums and a maximum over the coordinates. -/

namespace Cert.ReferenceIdeal.Attn

open Idealize.ShloMosaic Idealize.ShloMosaic.Tactic
open Cert.ReferenceIdeal Cert.ReferenceIdeal.Gen Cert.ReferenceIdeal.Ops Cert.Attn

/-- The indices reduced to a row are the row's keys. -/
theorem fiber_last (n : Fin 64) (g : Fin 2) (k : Fin 4) (r : Fin 128) (i : S1x64x2x4x128x256.Idx) :
    reducesTo_S1x64x2x4x128x256_S1x64x2x4x128_d5.drop i = ix5 0 n g k r ↔ ∃ x : Fin 256, ix6 0 n g k r x = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨x, rfl⟩
    funext b; apply Fin.ext
    match b with
    | ⟨0, _⟩ => rfl
    | ⟨1, _⟩ => rfl
    | ⟨2, _⟩ => rfl
    | ⟨3, _⟩ => rfl
    | ⟨4, _⟩ => rfl

/-- The indices reduced to a head are its rows. -/
theorem fiber_rows (g : Fin 2) (k : Fin 4) (i : S1x64x2x4x128x1.Idx) :
    reducesTo_S1x64x2x4x128x1_S1x2x4x1_d1_4.drop i = ix4 0 g k 0 ↔ ∃ x : Fin 64 × Fin 128, ix6 0 x.1 g k x.2 0 = i := by
  constructor
  · intro e
    refine ⟨(i 1, i 4), ?_⟩
    funext a; apply Fin.ext
    match a with
    | ⟨0, _⟩ => exact (congrArg Fin.val (congrFun e 0)).symm
    | ⟨1, _⟩ => rfl
    | ⟨2, _⟩ => exact (congrArg Fin.val (congrFun e 1)).symm
    | ⟨3, _⟩ => exact (congrArg Fin.val (congrFun e 2)).symm
    | ⟨4, _⟩ => rfl
    | ⟨5, _⟩ => exact (congrArg Fin.val (congrFun e 3)).symm
  · rintro ⟨x, rfl⟩
    funext b; apply Fin.ext
    match b with
    | ⟨0, _⟩ => rfl
    | ⟨1, _⟩ => rfl
    | ⟨2, _⟩ => rfl
    | ⟨3, _⟩ => rfl

/-- One index reduces to a row. -/
theorem fiber_unit (n : Fin 64) (g : Fin 2) (k : Fin 4) (r : Fin 128) (i : S1x64x2x4x128x1.Idx) :
    reducesTo_S1x64x2x4x128x1_S64x2x4x128_d0_5.drop i = ix4 n g k r ↔ ∃ _x : Fin 1, ix6 0 n g k r 0 = i := by
  constructor
  · intro e
    refine ⟨0, ?_⟩
    funext a; apply Fin.ext
    match a with
    | ⟨0, _⟩ => exact (by
      have h0 : (i 0).val < 1 := (i 0).isLt
      show (0 : ℕ) = (i 0).val
      omega)
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => exact (by
      have h0 : (i 5).val < 1 := (i 5).isLt
      show (0 : ℕ) = (i 5).val
      omega)
  · rintro ⟨x, rfl⟩
    funext b; apply Fin.ext
    match b with
    | ⟨0, _⟩ => rfl
    | ⟨1, _⟩ => rfl
    | ⟨2, _⟩ => rfl
    | ⟨3, _⟩ => rfl

/-- One index reduces to a head. -/
theorem fiber_head (g : Fin 2) (k : Fin 4) (i : S1x1x2x4x1x1.Idx) :
    reducesTo_S1x1x2x4x1x1_S2x4_d0_1_4_5.drop i = ix2 g k ↔ ∃ _x : Fin 1, ix6 0 0 g k 0 0 = i := by
  constructor
  · intro e
    refine ⟨0, ?_⟩
    funext a; apply Fin.ext
    match a with
    | ⟨0, _⟩ => exact (by
      have h0 : (i 0).val < 1 := (i 0).isLt
      show (0 : ℕ) = (i 0).val
      omega)
    | ⟨1, _⟩ => exact (by
      have h0 : (i 1).val < 1 := (i 1).isLt
      show (0 : ℕ) = (i 1).val
      omega)
    | ⟨2, _⟩ => exact (congrArg Fin.val (congrFun e 0)).symm
    | ⟨3, _⟩ => exact (congrArg Fin.val (congrFun e 1)).symm
    | ⟨4, _⟩ => exact (by
      have h0 : (i 4).val < 1 := (i 4).isLt
      show (0 : ℕ) = (i 4).val
      omega)
    | ⟨5, _⟩ => exact (by
      have h0 : (i 5).val < 1 := (i 5).isLt
      show (0 : ℕ) = (i 5).val
      omega)
  · rintro ⟨x, rfl⟩
    funext b; apply Fin.ext
    match b with
    | ⟨0, _⟩ => rfl
    | ⟨1, _⟩ => rfl

/-- The sum over a row's keys. -/
theorem sum_last (v : S1x64x2x4x128x256.Idx → EReal) (n : Fin 64) (g : Fin 2) (k : Fin 4) (r : Fin 128) :
    Ideal.hostReduceAdd reducesTo_S1x64x2x4x128x256_S1x64x2x4x128_d5 v 0 (ix5 0 n g k r) = ∑ x : Fin 256, v (ix6 0 n g k r x) := by
  rw [Ideal.hostReduceAdd, zero_add]
  exact Finset.sum_filter_eq_sum_of_fiber _ (fun x : Fin 256 => (ix6 0 n g k r x : S1x64x2x4x128x256.Idx))
    (fun _ _ e => congrFun e 5) (fiber_last n g k r) v

/-- The sum over a head's rows. -/
theorem sum_rows (v : S1x64x2x4x128x1.Idx → EReal) (g : Fin 2) (k : Fin 4) :
    Ideal.hostReduceAdd reducesTo_S1x64x2x4x128x1_S1x2x4x1_d1_4 v 0 (ix4 0 g k 0) = ∑ n : Fin 64, ∑ r : Fin 128, v (ix6 0 n g k r 0) := by
  rw [Ideal.hostReduceAdd, zero_add, ← Fintype.sum_prod_type']
  exact Finset.sum_filter_eq_sum_of_fiber _ (fun x : Fin 64 × Fin 128 => (ix6 0 x.1 g k x.2 0 : S1x64x2x4x128x1.Idx))
    (fun _ _ e => Prod.ext (congrFun e 1) (congrFun e 4)) (fiber_rows g k) v

/-- The sum of one element. -/
theorem sum_unit (v : S1x64x2x4x128x1.Idx → EReal) (n : Fin 64) (g : Fin 2) (k : Fin 4) (r : Fin 128) :
    Ideal.hostReduceAdd reducesTo_S1x64x2x4x128x1_S64x2x4x128_d0_5 v 0 (ix4 n g k r) = v (ix6 0 n g k r 0) := by
  rw [Ideal.hostReduceAdd, zero_add]
  exact (Finset.sum_filter_eq_sum_of_fiber _ (fun _ : Fin 1 => (ix6 0 n g k r 0 : S1x64x2x4x128x1.Idx))
    (fun _ _ _ => Subsingleton.elim _ _) (fiber_unit n g k r) v).trans (by simp)

/-- The sum of one element. -/
theorem sum_head (v : S1x1x2x4x1x1.Idx → EReal) (g : Fin 2) (k : Fin 4) :
    Ideal.hostReduceAdd reducesTo_S1x1x2x4x1x1_S2x4_d0_1_4_5 v 0 (ix2 g k) = v (ix6 0 0 g k 0 0) := by
  rw [Ideal.hostReduceAdd, zero_add]
  exact (Finset.sum_filter_eq_sum_of_fiber _ (fun _ : Fin 1 => (ix6 0 0 g k 0 0 : S1x1x2x4x1x1.Idx))
    (fun _ _ _ => Subsingleton.elim _ _) (fiber_head g k) v).trans (by simp)

/-- The maximum over a row's keys. -/
theorem max_last (v : FVec Ideal S1x64x2x4x128x256 .f32) (i : FVec Ideal S_ .f32) (hi : i (Shape.Idx.first h_S_) = (⊥ : EReal))
    (n : Fin 64) (g : Fin 2) (k : Fin 4) (r : Fin 128) :
    Host.reduce FloatOps.maximumf v i reducesTo_S1x64x2x4x128x256_S1x64x2x4x128_d5 h_S_ (ix5 0 n g k r) =
      (Finset.univ : Finset (Fin 256)).fold (max : EReal → EReal → EReal) ⊥ (fun x => v (ix6 0 n g k r x)) := by
  rw [Ideal.maximumf_eq_max, Host.reduce_eq_fold, hi]
  exact Finset.fold_filter_eq_fold_of_fiber (max : EReal → EReal → EReal) _
    (fun x : Fin 256 => (ix6 0 n g k r x : S1x64x2x4x128x256.Idx)) (fun _ _ e => congrFun e 5) (fiber_last n g k r) ⊥ v

end Cert.ReferenceIdeal.Attn

end
-- ==== Proof.RefMax.lean ====
module

public import proofs.«01_k».proof.Proof.RefSums
public import proofs.«01_k».proof.Proof.Spec

@[expose] public section

set_option maxRecDepth 16384

noncomputable section

/-! The reference's probabilities and the gradients of its scores and of its sinks, over the real inputs. -/

namespace Cert.Attn

variable (D : Inp)

/-- The gradients of a row's scores sum to the sink's share. -/
theorem sum_ds (n h r : ℕ) : ∑ j : Fin 256, ds D n h r j = sk D n h r := by
  have e : ∑ j : Fin 256, pn D n h r j = 1 - Real.exp (D.SK h) / zz D n h r := by
    simp only [pn]
    rw [← Finset.sum_div, eq_sub_iff_add_eq, ← add_div]
    exact div_self (zz_ne D n h r)
  simp only [ds, mul_sub]
  rw [Finset.sum_sub_distrib, ← Finset.sum_mul, e, sk, ← dl]
  ring

/-- The gradient of the probability as the reference takes it: a key before the array's start counts as zero. -/
def dpx (n h r j : ℕ) : ℝ := ∑ d : Fin 64, dyv D n h r d * (if (0 < n ∨ 128 ≤ j) then vv D n (h / 4) j d else 0)

/-- Where the row sees the key, it is the gradient; elsewhere the exponential is zero. -/
theorem dpx_mul (M : ℝ) (n h r j : ℕ) : dpx D n h r j * eM D M n h r j = dp D n h r j * eM D M n h r j := by
  by_cases hm : msk n r j
  · congr 1
    unfold dpx dp
    simp only [if_pos hm.2.2]
  · rw [eM, if_neg hm, mul_zero, mul_zero]

end Cert.Attn

namespace Cert.ReferenceIdeal.Attn

open Idealize.ShloMosaic Idealize.ShloMosaic.Tactic
open Cert.ReferenceIdeal Cert.ReferenceIdeal.Gen Cert.ReferenceIdeal.Ops Cert.Attn

variable {x0 : (⟨S8192x768, .f32⟩ : BufTy).Contents (Elt Ideal)} {x1 : (⟨S1x8192, .i32⟩ : BufTy).Contents (Elt Ideal)}
  {x2 : (⟨S1x8, .f32⟩ : BufTy).Contents (Elt Ideal)} {x3 : (⟨S8192x512, .f32⟩ : BufTy).Contents (Elt Ideal)}
  (H : RFin x0 x2 x3) (n : Fin 64) (g : Fin 2) (k : Fin 4) (r : Fin 128)
include H

omit H in
/-- A choice by a decided word. -/
theorem choose_ite {α : Type} (c : Prop) [Decidable c] (a b : α) : Scalar.select (if c then 1#1 else 0#1) a b = if c then a else b := by
  split_ifs <;> rfl

omit H in
/-- The maximum starts at minus infinity. -/
theorem start_bot : o_cst_14 (Shape.Idx.first h_S_) = (⊥ : EReal) := by
  change Ideal.ofBits .f32 0xFF800000#32 = ⊥
  simp [Ideal.ofBits, Ideal.ieee]

omit H in
/-- The maximum of a row's masked scores. -/
theorem v122_val : o_122 x0 x1 (ix5 0 n g k r) =
    (Finset.univ : Finset (Fin 256)).fold (max : EReal → EReal → EReal) ⊥ (fun j => o_119_0 x0 x1 (ix6 0 n g k r j)) := by
  unfold o_122
  exact max_last (o_119_0 x0 x1) o_cst_14 start_bot n g k r

/-- The masked score. -/
theorem v119_0_val (j : Fin 256) : o_119_0 x0 x1 (ix6 0 n g k r j) =
    if msk n r j then ((sc (rin x0 x1 x2 x3) n (4 * g + k) r j : ℝ) : EReal) else ⊥ := by
  pointwise [o_119_0, o_call0_v2, o_call0_v0, o_cst_13, o_88, o_87]
  rw [v119_1_val, choose_ite]
  by_cases hm : msk n r j
  · rw [if_pos hm, if_pos hm]
    simp only [v79_val (x2 := x2) (x3 := x3) H, v72_val (x2 := x2) (x3 := x3) H, if_pos hm.2.2]
    simp only [← EReal.coe_mul]
    rw [coe_sum]
    unfold sc
    rw [show (4 * (g : ℕ) + k) / 4 = g by omega]
    simp only [mul_comm]
  · rw [if_neg hm, if_neg hm]
    exact start_bot

/-- The sink. -/
theorem v121_val : o_121 x2 (ix6 0 0 g k 0 0) = (((rin x0 x1 x2 x3).SK (4 * g + k) : ℝ) : EReal) := by
  pointwise [o_121, o_120, o_6]
  rw [rin_SK (x1 := x1) H]
  congr 2; dsimp only; omega

omit H in
/-- The greater of a row's number and a head's. -/
theorem max_rows (w : FVec Ideal S1x64x2x4x128 .f32) (u : FVec Ideal S1x1x2x4x1x1 .f32) :
    maximumf (broadcastInDim S1x64x2x4x128x1 ![0, 1, 2, 3, 4] bcast_S1x64x2x4x128_S1x64x2x4x128x1_0_1_2_3_4 w)
      (broadcastInDim S1x64x2x4x128x1 ![0, 1, 2, 3, 4, 5] bcast_S1x1x2x4x1x1_S1x64x2x4x128x1_0_1_2_3_4_5 u) (ix6 0 n g k r 0) =
      (max (w (ix5 0 n g k r) : EReal) (u (ix6 0 0 g k 0 0) : EReal) : EReal) := by
  pointwise

omit H in
/-- The shift: the greatest score or the sink. -/
theorem v130_max : o_130 x0 x1 x2 (ix6 0 n g k r 0) = (max (o_122 x0 x1 (ix5 0 n g k r) : EReal) (o_121 x2 (ix6 0 0 g k 0 0) : EReal) : EReal) := by
  unfold o_130 o_128 o_129
  exact max_rows n g k r (o_122 x0 x1) (o_121 x2)

/-- A row's scores and sink have a real maximum. -/
theorem shift_real : ∃ M : ℝ, max ((Finset.univ : Finset (Fin 256)).fold (max : EReal → EReal → EReal) ⊥ (fun j => o_119_0 x0 x1 (ix6 0 n g k r j)))
    (((rin x0 x1 x2 x3).SK (4 * g + k) : ℝ) : EReal) = (M : EReal) := by
  generalize hs : (rin x0 x1 x2 x3).SK (4 * g + k) = s
  generalize hf : (fun j : Fin 256 => (o_119_0 x0 x1 (ix6 0 n g k r j) : EReal)) = f
  refine max_real Finset.univ f (fun j => ?_) s
  rw [← hf]
  change o_119_0 x0 x1 (ix6 0 n g k r j) ≠ ⊤
  rw [v119_0_val (x2 := x2) (x3 := x3) H]
  split_ifs
  · exact EReal.coe_ne_top _
  · exact bot_ne_top

/-- The shift is real. -/
theorem v130_val : ∃ M : ℝ, o_130 x0 x1 x2 (ix6 0 n g k r 0) = (M : EReal) := by
  obtain ⟨M, hM⟩ := shift_real (x1 := x1) H n g k r
  refine ⟨M, ?_⟩
  rw [v130_max, v121_val (x1 := x1) (x3 := x3) H, v122_val]
  exact hM

end Cert.ReferenceIdeal.Attn

end
-- ==== Proof.RefSoft.lean ====
module

public import proofs.«01_k».proof.Proof.RefMax

@[expose] public section

set_option maxRecDepth 16384

noncomputable section

/-! The reference's probabilities, over the real inputs. -/

namespace Cert.ReferenceIdeal.Attn

open Idealize.ShloMosaic Idealize.ShloMosaic.Tactic
open Cert.ReferenceIdeal Cert.ReferenceIdeal.Gen Cert.ReferenceIdeal.Ops Cert.Attn

variable {x0 : (⟨S8192x768, .f32⟩ : BufTy).Contents (Elt Ideal)} {x1 : (⟨S1x8192, .i32⟩ : BufTy).Contents (Elt Ideal)}
  {x2 : (⟨S1x8, .f32⟩ : BufTy).Contents (Elt Ideal)} {x3 : (⟨S8192x512, .f32⟩ : BufTy).Contents (Elt Ideal)}
  (H : RFin x0 x2 x3) (n : Fin 64) (g : Fin 2) (k : Fin 4) (r : Fin 128)
include H

variable {n g k r} {M : ℝ} (hM : o_130 x0 x1 x2 (ix6 0 n g k r 0) = (M : EReal))
include hM

/-- The shifted exponential. -/
theorem v151_val (j : Fin 256) : o_151 x0 x1 x2 (ix6 0 n g k r j) = ((eM (rin x0 x1 x2 x3) M n (4 * g + k) r j : ℝ) : EReal) := by
  pointwise [o_151, o_150, o_149]
  rw [hM, v119_0_val H, eM]
  split_ifs
  · rw [← EReal.coe_sub]; rfl
  · rfl

/-- The sink's shifted exponential. -/
theorem v156_val : o_156 x0 x1 x2 (ix6 0 n g k r 0) = ((Real.exp ((rin x0 x1 x2 x3).SK (4 * g + k) - M) : ℝ) : EReal) := by
  pointwise [o_156, o_155, o_154]
  rw [hM, v121_val (x1 := x1) H, ← EReal.coe_sub]
  rfl

/-- The denominator. -/
theorem v157_val : o_157 x0 x1 x2 (ix6 0 n g k r 0) = ((zM (rin x0 x1 x2 x3) M n (4 * g + k) r : ℝ) : EReal) := by
  pointwise [o_157, o_153, o_152, o_cst_22]
  rw [sum_last, v156_val H hM]
  simp only [v151_val H hM]
  rw [coe_sum, ← EReal.coe_add]
  rfl

/-- The probability. -/
theorem v159_val (j : Fin 256) : o_159 x0 x1 x2 (ix6 0 n g k r j) = ((pn (rin x0 x1 x2 x3) n (4 * g + k) r j : ℝ) : EReal) := by
  pointwise [o_159, o_158]
  rw [v157_val H hM, v151_val H hM, Ideal.div_coe (zM_ne _ _ _ _ _), ← EReal.coe_mul, ← eM_div _ M, mul_one_div]

/-- The square of the denominator's reciprocal. -/
theorem v162_val : o_162 x0 x1 x2 (ix6 0 n g k r 0) =
    ((1 / (zM (rin x0 x1 x2 x3) M n (4 * g + k) r * zM (rin x0 x1 x2 x3) M n (4 * g + k) r) : ℝ) : EReal) := by
  pointwise [o_162, o_161, o_160, o_cst_23]
  rw [v157_val H hM, ← EReal.coe_mul, Ideal.div_coe (mul_ne_zero (zM_ne _ _ _ _ _) (zM_ne _ _ _ _ _)), one_mul]

omit hM

/-- The gradient of the probability. -/
theorem v169_val (j : Fin 256) : o_169 x0 x3 (ix6 0 n g k r j) = ((dpx (rin x0 x1 x2 x3) n (4 * g + k) r j : ℝ) : EReal) := by
  pointwise [o_169]
  simp only [v168_val (x1 := x1) H, v86_val (x1 := x1) H, ← EReal.coe_mul]
  rw [coe_sum]
  unfold dpx
  rw [show (4 * (g : ℕ) + k) / 4 = g by omega]

end Cert.ReferenceIdeal.Attn

end
-- ==== Proof.RefDs.lean ====
module

public import proofs.«01_k».proof.Proof.RefSoft

@[expose] public section

set_option maxRecDepth 16384

noncomputable section

/-! The reference's gradients of its scores and of its sinks, over the real inputs. -/

namespace Cert.ReferenceIdeal.Attn

open Idealize.ShloMosaic Idealize.ShloMosaic.Tactic
open Cert.ReferenceIdeal Cert.ReferenceIdeal.Gen Cert.ReferenceIdeal.Ops Cert.Attn

variable {x0 : (⟨S8192x768, .f32⟩ : BufTy).Contents (Elt Ideal)} {x1 : (⟨S1x8192, .i32⟩ : BufTy).Contents (Elt Ideal)}
  {x2 : (⟨S1x8, .f32⟩ : BufTy).Contents (Elt Ideal)} {x3 : (⟨S8192x512, .f32⟩ : BufTy).Contents (Elt Ideal)}
  (H : RFin x0 x2 x3) (n : Fin 64) (g : Fin 2) (k : Fin 4) (r : Fin 128)
include H

variable {n g k r} {M : ℝ} (hM : o_130 x0 x1 x2 (ix6 0 n g k r 0) = (M : EReal))
include hM

/-- The gradient of the denominator. -/
theorem v177_val : o_177 x0 x1 x2 x3 (ix6 0 n g k r 0) =
    ((-(dl (rin x0 x1 x2 x3) n (4 * g + k) r / zM (rin x0 x1 x2 x3) M n (4 * g + k) r) : ℝ) : EReal) := by
  pointwise [o_177, o_176, o_175, o_cst_24]
  rw [sum_last]
  have e : ∀ j : Fin 256, o_174 x0 x1 x2 x3 (ix6 0 n g k r j) =
      ((pn (rin x0 x1 x2 x3) n (4 * g + k) r j * dp (rin x0 x1 x2 x3) n (4 * g + k) r j / zM (rin x0 x1 x2 x3) M n (4 * g + k) r : ℝ) : EReal) := by
    intro j
    pointwise [o_174, o_173, o_172]
    rw [v169_val (x1 := x1) H, v162_val H hM, v151_val H hM, ← EReal.coe_mul, ← EReal.coe_mul]
    refine congrArg Real.toEReal ?_
    rw [mul_right_comm, dpx_mul, ← eM_div _ M]
    have := zM_ne (rin x0 x1 x2 x3) M n (4 * g + k) r
    field_simp
  simp only [e]
  rw [coe_sum, ← EReal.coe_neg, ← Finset.sum_div]
  rfl

/-- The gradient of the sink, one row's. -/
theorem v180_val : o_180 x0 x1 x2 x3 (ix6 0 n g k r 0) = ((-(sk (rin x0 x1 x2 x3) n (4 * g + k) r) : ℝ) : EReal) := by
  pointwise [o_180]
  rw [v177_val H hM, v156_val H hM, ← EReal.coe_mul]
  refine congrArg Real.toEReal ?_
  rw [sk, ← sM_div _ M]
  ring

/-- The gradient of the score, before the mask and the shift's own gradient. -/
theorem v188_val (j : Fin 256) : o_188 x0 x1 x2 x3 (ix6 0 n g k r j) = ((ds (rin x0 x1 x2 x3) n (4 * g + k) r j : ℝ) : EReal) := by
  pointwise [o_188, o_187, o_186, o_185, o_184, o_179, o_178, o_cst_26]
  rw [sum_unit, v169_val (x1 := x1) H, v157_val H hM, v177_val H hM, v151_val H hM, Ideal.div_coe (zM_ne _ _ _ _ _),
    ← EReal.coe_mul, ← EReal.coe_add, ← EReal.coe_mul]
  refine congrArg Real.toEReal ?_
  rw [add_mul, mul_right_comm, dpx_mul, ds, ← eM_div _ M]
  ring

/-- The gradient of the shift is zero. -/
theorem v192_val : o_192 x0 x1 x2 x3 (ix6 0 n g k r 0) = 0 := by
  pointwise [o_192, o_191, o_190, o_183, o_cst_27]
  rw [sum_last]
  have e : ∀ j : Fin 256, o_189 x0 x1 x2 x3 (ix6 0 n g k r j) = ((-(ds (rin x0 x1 x2 x3) n (4 * g + k) r j) : ℝ) : EReal) := by
    intro j
    pointwise [o_189]
    rw [v188_val H hM, ← EReal.coe_neg]
  simp only [e]
  rw [v180_val H hM, coe_sum, ← EReal.coe_neg, ← EReal.coe_add, Finset.sum_neg_distrib, sum_ds, neg_neg, add_neg_cancel]
  rfl

/-- What the shift's own gradient adds to the sink's is zero. -/
theorem v193_val : o_193 x0 x1 x2 x3 (ix6 0 n g k r 0) = 0 := by
  pointwise [o_193]
  rw [v192_val H hM, zero_mul]

/-- What the shift's own gradient adds to the score's is zero. -/
theorem v202_val (j : Fin 256) : o_202 x0 x1 x2 x3 (ix6 0 n g k r j) = 0 := by
  have e : o_197 x0 x1 x2 x3 (ix6 0 n g k r 0) = 0 := by
    pointwise [o_197]
    rw [v192_val H hM, zero_mul]
  have p : ∀ j : Fin 256, 0 ≤ o_126 x0 x1 (ix6 0 n g k r j) := by
    intro j
    pointwise [o_126]
    exact EReal.coe_nonneg.mpr (Nat.cast_nonneg _)
  have s : o_127 x0 x1 (ix5 0 n g k r) = ∑ j : Fin 256, o_126 x0 x1 (ix6 0 n g k r j) := by
    pointwise [o_127, o_cst_15]
    rw [sum_last]
  pointwise [o_202, o_201, o_200, o_199, o_198, o_cst_29]
  rw [sum_unit, e]
  by_cases hs : o_127 x0 x1 (ix5 0 n g k r) = 0
  · rw [s, Finset.sum_eq_zero_iff_of_nonneg (fun j _ => p j)] at hs
    rw [hs j (Finset.mem_univ j), mul_zero]
  · rw [Ideal.div, if_neg hs, zero_mul, zero_mul]

omit hM
variable (n g k r)

/-- The gradient of the score. -/
theorem v206_val (j : Fin 256) : o_206 x0 x1 x2 x3 (ix6 0 n g k r j) = ((ds (rin x0 x1 x2 x3) n (4 * g + k) r j : ℝ) : EReal) := by
  obtain ⟨M, hM⟩ := v130_val (x1 := x1) H n g k r
  pointwise [o_206, o_203, o_call1_v0, o_call1_cst]
  rw [v119_1_val, choose_ite, v188_val H hM, v202_val H hM, add_zero]
  split_ifs with hm
  · rfl
  · rw [ds_of_not _ hm]; rfl

/-- The probability. -/
theorem v159_val' (j : Fin 256) : o_159 x0 x1 x2 (ix6 0 n g k r j) = ((pn (rin x0 x1 x2 x3) n (4 * g + k) r j : ℝ) : EReal) := by
  obtain ⟨M, hM⟩ := v130_val (x1 := x1) H n g k r
  exact v159_val H hM j

/-- The gradient of the sink, one row's. -/
theorem v180_val' : o_180 x0 x1 x2 x3 (ix6 0 n g k r 0) = ((-(sk (rin x0 x1 x2 x3) n (4 * g + k) r) : ℝ) : EReal) := by
  obtain ⟨M, hM⟩ := v130_val (x1 := x1) H n g k r
  exact v180_val H hM

/-- What the shift's own gradient adds to the sink's is zero. -/
theorem v193_val' : o_193 x0 x1 x2 x3 (ix6 0 n g k r 0) = 0 := by
  obtain ⟨M, hM⟩ := v130_val (x1 := x1) H n g k r
  exact v193_val H hM

end Cert.ReferenceIdeal.Attn

end
-- ==== Proof.RefOut.lean ====
module

public import proofs.«01_k».proof.Proof.RefDs

@[expose] public section

set_option maxRecDepth 16384

noncomputable section

/-! The reference's results over the real inputs. -/

namespace Cert.ReferenceIdeal.Attn

open Idealize.ShloMosaic Idealize.ShloMosaic.Tactic
open Cert.ReferenceIdeal Cert.ReferenceIdeal.Gen Cert.ReferenceIdeal.Ops Cert.Attn

variable {x0 : (⟨S8192x768, .f32⟩ : BufTy).Contents (Elt Ideal)} {x1 : (⟨S1x8192, .i32⟩ : BufTy).Contents (Elt Ideal)}
  {x2 : (⟨S1x8, .f32⟩ : BufTy).Contents (Elt Ideal)} {x3 : (⟨S8192x512, .f32⟩ : BufTy).Contents (Elt Ideal)}
  (H : RFin x0 x2 x3)
include H

/-- A window's value gradient. -/
theorem v171_val (n : Fin 64) (j : Fin 256) (g : Fin 2) (d : Fin 64) :
    o_171 x0 x1 x2 x3 (ix5 0 n j g d) = ((gv (rin x0 x1 x2 x3) n g j d : ℝ) : EReal) := by
  pointwise [o_171, o_170]
  simp only [v168_val (x1 := x1) H, v159_val' H, ← EReal.coe_mul, coe_sum]
  refine congrArg Real.toEReal ?_
  unfold gv gv1
  simp only [mul_comm]

/-- A window's key gradient. -/
theorem v211_val (n : Fin 64) (j : Fin 256) (g : Fin 2) (d : Fin 64) :
    o_211 x0 x1 x2 x3 (ix5 0 n j g d) = ((gk (rin x0 x1 x2 x3) n g j d : ℝ) : EReal) := by
  pointwise [o_211, o_210, o_207]
  simp only [v72_val (x2 := x2) (x3 := x3) H, v206_val H, ← EReal.coe_mul, coe_sum]
  refine congrArg Real.toEReal ?_
  unfold gk gk1
  exact Finset.sum_comm

/-- The scaled query gradient. -/
theorem v227_val (n : Fin 64) (r : Fin 128) (g : Fin 2) (k : Fin 4) (d : Fin 64) :
    o_227 x0 x1 x2 x3 (ix6 0 n r g k d) = ((gq (rin x0 x1 x2 x3) n (4 * g + k) r d * (1 / 8) : ℝ) : EReal) := by
  pointwise [o_227, o_226, o_209, o_208, o_207, o_cst_33]
  have e : Ideal.ofBits FTy.f32 1040187392#32 = ((1 / 8 : ℝ) : EReal) := by
    simp [Ideal.ofBits, Ideal.ieee, -EReal.coe_mul]; norm_num
  simp only [v79_val (x2 := x2) (x3 := x3) H, v206_val H, ← EReal.coe_mul, coe_sum]
  rw [e, ← EReal.coe_mul]
  refine congrArg Real.toEReal ?_
  unfold gq
  rw [show (4 * (g : ℕ) + k) / 4 = g by omega]
  refine congrArg (· * (1 / 8 : ℝ)) (Finset.sum_congr rfl fun j _ => ?_)
  split_ifs with hc
  · rfl
  · rw [ds_of_not _ (fun hm => hc hm.2.2), zero_mul, zero_mul]

/-- The value gradient of an array row. -/
theorem v217_val (n : Fin 64) (r : Fin 128) (g : Fin 2) (d : Fin 64) :
    o_217 x0 x1 x2 x3 (ix5 0 n r g d) = ((gvv (rin x0 x1 x2 x3) n g r d : ℝ) : EReal) := by
  pointwise [o_217, o_216, o_215, o_214, o_213, o_212, o_cst_31]
  simp only [v171_val H]
  unfold gvv
  split_ifs with hn
  · rw [← EReal.coe_add]
    rw [Nat.add_comm 1 (n : ℕ)]
  · rw [add_zero, add_zero]

/-- The key gradient of an array row. -/
theorem v224_val (n : Fin 64) (r : Fin 128) (g : Fin 2) (d : Fin 64) :
    o_224 x0 x1 x2 x3 (ix5 0 n r g d) = ((gkk (rin x0 x1 x2 x3) n g r d : ℝ) : EReal) := by
  pointwise [o_224, o_223, o_222, o_221, o_220, o_219, o_cst_32]
  simp only [v211_val H]
  unfold gkk
  split_ifs with hn
  · rw [← EReal.coe_add]
    rw [Nat.add_comm 1 (n : ℕ)]
  · rw [add_zero, add_zero]

/-- The first result. -/
theorem v265_val (T : Fin 8192) (l : Fin 512) : o_265 x0 x1 x2 x3 (ix2 T l) = ((outQ (rin x0 x1 x2 x3) T l : ℝ) : EReal) := by
  pointwise [o_265, o_264, o_263, o_262, o_261, o_260, o_259, o_258, o_257, o_256, o_255, o_254, o_253, o_252, o_251, o_250, o_249, o_248, o_247, o_228, o_cst_36, o_cst_37]
  simp only [v227_val H, v22_val x0 x1 x2 x3, v24_val x0 x1 x2 x3]
  have hl := l.isLt
  have e1 : 4 * ((l : ℕ) / 64 / 4) + (l : ℕ) / 64 % 4 = (l : ℕ) / 64 := by omega
  unfold outQ unrope
  by_cases hd : (l : ℕ) % 64 < 32
  · rw [dif_neg (by omega), dif_pos ⟨by omega, hd⟩, if_pos hd, zero_add, ← EReal.coe_mul, ← EReal.coe_mul, ← EReal.coe_add]
    refine congrArg Real.toEReal ?_
    dsimp only
    rw [e1, Nat.add_comm 32, add_comm]
  · rw [dif_pos ⟨by omega, by omega, by omega⟩, dif_neg (by omega), if_neg hd, add_zero, ← EReal.coe_neg, ← EReal.coe_mul, ← EReal.coe_mul, ← EReal.coe_add]
    refine congrArg Real.toEReal ?_
    dsimp only
    rw [e1, show 32 + ((l : ℕ) % 64 - 32) = (l : ℕ) % 64 by omega]
    ring

/-- The second result. -/
theorem v269_val (T : Fin 8192) (l : Fin 256) : o_269 x0 x1 x2 x3 (ix2 T l) = ((outKV (rin x0 x1 x2 x3) T l : ℝ) : EReal) := by
  pointwise [o_269, o_268, o_267, o_266, o_246, o_245, o_244, o_243, o_242, o_241, o_240, o_239, o_238, o_237, o_236, o_235, o_234, o_233, o_232, o_231, o_230, o_229, o_225, o_218, o_cst_34, o_cst_35]
  simp only [v224_val H, v217_val H, v53_val x0 x1 x2 x3, v55_val x0 x1 x2 x3]
  have hl := l.isLt
  unfold outKV
  by_cases h1 : (l : ℕ) < 128
  · rw [if_pos h1]
    try rw [if_pos h1]
    try rw [dif_pos h1]
    unfold outK unrope
    by_cases hd : (l : ℕ) % 64 < 32
    · rw [dif_neg (by omega), dif_pos ⟨by omega, hd⟩, if_pos hd, zero_add, ← EReal.coe_mul, ← EReal.coe_mul, ← EReal.coe_add]
      refine congrArg Real.toEReal ?_
      dsimp only
      rw [Nat.add_comm 32, add_comm]
    · rw [dif_pos ⟨by omega, by omega, by omega⟩, dif_neg (by omega), if_neg hd, add_zero, ← EReal.coe_neg, ← EReal.coe_mul, ← EReal.coe_mul, ← EReal.coe_add]
      refine congrArg Real.toEReal ?_
      dsimp only
      rw [show 32 + ((l : ℕ) % 64 - 32) = (l : ℕ) % 64 by omega]
      ring
  · rw [if_neg h1]
    try rw [if_neg h1]
    try rw [dif_neg h1]
    rfl

/-- The gradient of a head's sink. -/
theorem v196_val (g : Fin 2) (k : Fin 4) : o_196 x0 x1 x2 x3 (ix6 0 0 g k 0 0) = ((outS (rin x0 x1 x2 x3) (4 * g + k) : ℝ) : EReal) := by
  have a : o_182 x0 x1 x2 x3 (ix6 0 0 g k 0 0) = ((outS (rin x0 x1 x2 x3) (4 * g + k) : ℝ) : EReal) := by
    pointwise [o_182, o_181, o_cst_25]
    rw [sum_rows]
    simp only [v180_val' H, coe_sum]
    refine congrArg Real.toEReal ?_
    unfold outS gs
    simp only [Finset.sum_neg_distrib]
  have b : o_195 x0 x1 x2 x3 (ix6 0 0 g k 0 0) = 0 := by
    pointwise [o_195, o_194, o_cst_28]
    rw [sum_rows]
    simp only [v193_val' H, Finset.sum_const_zero]
  pointwise [o_196]
  rw [a, b, add_zero]

/-- The third result. -/
theorem v271_val (h : Fin 8) (l : Fin 128) : o_271 x0 x1 x2 x3 (ix2 h l) = ((outS (rin x0 x1 x2 x3) h : ℝ) : EReal) := by
  pointwise [o_271, o_270, o_205, o_204, o_cst_30]
  rw [sum_head, v196_val H]
  have hh := h.isLt
  refine congrArg (fun n => Real.toEReal (outS (rin x0 x1 x2 x3) n)) ?_
  dsimp only
  omega

end Cert.ReferenceIdeal.Attn

end
-- ==== Proof.Equal.lean ====
module

public import proofs.«01_k».proof.Defs
public import proofs.«01_k».proof.Proof.Pre
public import proofs.«01_k».proof.Proof.Arrays
public import proofs.«01_k».proof.Proof.RefRun
public import proofs.«01_k».proof.Proof.RefOut

@[expose] public section

set_option maxRecDepth 16384

noncomputable section

/-! The kernel and the reference compute the same three arrays over the extended reals. -/

namespace Cert.ReferenceIdeal.Attn

open Idealize.ShloMosaic
open Cert.ReferenceIdeal Cert.ReferenceIdeal.Ops Cert.Attn

variable {x0 : (⟨S8192x768, .f32⟩ : BufTy).Contents (Elt Ideal)} {x1 : (⟨S1x8192, .i32⟩ : BufTy).Contents (Elt Ideal)}
  {x2 : (⟨S1x8, .f32⟩ : BufTy).Contents (Elt Ideal)} {x3 : (⟨S8192x512, .f32⟩ : BufTy).Contents (Elt Ideal)}
  (H : RFin x0 x2 x3)
include H

/-- The first result, as an array. -/
theorem array_Q : o_265 x0 x1 x2 x3 = fun i => ((outQ (rin x0 x1 x2 x3) (i 0).val (i 1).val : ℝ) : EReal) := by
  funext i
  have e : i = ix2 (i 0) (i 1) := by
    funext a
    match a with
    | ⟨0, _⟩ => rfl
    | ⟨1, _⟩ => rfl
  exact (congrArg (o_265 x0 x1 x2 x3) e).trans (v265_val H (i 0) (i 1))

/-- The second result, as an array. -/
theorem array_KV : o_269 x0 x1 x2 x3 = fun i => ((outKV (rin x0 x1 x2 x3) (i 0).val (i 1).val : ℝ) : EReal) := by
  funext i
  have e : i = ix2 (i 0) (i 1) := by
    funext a
    match a with
    | ⟨0, _⟩ => rfl
    | ⟨1, _⟩ => rfl
  exact (congrArg (o_269 x0 x1 x2 x3) e).trans (v269_val H (i 0) (i 1))

/-- The third result, as an array. -/
theorem array_S : o_271 x0 x1 x2 x3 = fun i => ((outS (rin x0 x1 x2 x3) (i 0).val : ℝ) : EReal) := by
  funext i
  have e : i = ix2 (i 0) (i 1) := by
    funext a
    match a with
    | ⟨0, _⟩ => rfl
    | ⟨1, _⟩ => rfl
  exact (congrArg (o_271 x0 x1 x2 x3) e).trans (v271_val H (i 0) (i 1))

end Cert.ReferenceIdeal.Attn

namespace Cert.Attn

open Idealize.ShloMosaic Idealize.ShloMosaic.TcCoe Idealize.SL.Sem

/-- From finite arguments the kernel and the reference end with the same three arrays. -/
theorem equal : Cert.algebraic_KernelIdeal_ReferenceIdeal_pre_finite := by
  intro m g m' g' hp ha
  have H := fin_of_pre m hp
  refine ⟨Cert.KernelIdeal.Sweep.arrQ m, Cert.KernelIdeal.Sweep.arrKV m, Cert.KernelIdeal.Sweep.arrS m,
    Cert.KernelIdeal.Sweep.value m g H, ?_⟩
  refine (θ_run Cert.ReferenceIdeal.defs _ _).mono (fun r h c => ?_) (Cert.ReferenceIdeal.Attn.run_ops m' g')
  obtain ⟨hq, hkv, hs, hargs⟩ := h c
  obtain ⟨a0, a1, a2, a3⟩ := ha c
  have hf : Cert.ReferenceIdeal.Attn.RFin (m (c, Cert.KernelIdeal.main_arg0)) (m (c, Cert.KernelIdeal.main_arg2)) (m (c, Cert.KernelIdeal.main_arg3)) := H c
  change m' (c, Cert.ReferenceIdeal.main_arg0) = m (c, Cert.KernelIdeal.main_arg0) at a0
  change m' (c, Cert.ReferenceIdeal.main_arg1) = m (c, Cert.KernelIdeal.main_arg1) at a1
  change m' (c, Cert.ReferenceIdeal.main_arg2) = m (c, Cert.KernelIdeal.main_arg2) at a2
  change m' (c, Cert.ReferenceIdeal.main_arg3) = m (c, Cert.KernelIdeal.main_arg3) at a3
  rw [a0, a1, a2, a3] at hq hkv hs
  exact ⟨hq.trans (Cert.ReferenceIdeal.Attn.array_Q hf), hkv.trans (Cert.ReferenceIdeal.Attn.array_KV hf),
    hs.trans (Cert.ReferenceIdeal.Attn.array_S hf), hargs⟩

end Cert.Attn

end
-- ==== Proof.FfnValue.lean ====
module

public import proofs.«01_k».proof.Proof.Rows
public import proofs.«01_k».proof.Proof.Gen.FfnIdeal.Frame
public import Idealize.ShloMosaic.Lib.Pointwise
public import Idealize.ShloMosaic.Lib.Claim
public import Idealize.ShloMosaic.Lib.Pipeline.Value

@[expose] public section

set_option maxRecDepth 16384

noncomputable section

/-! The weight gradient's accumulator, tile by tile, and the array it leaves. -/

namespace Cert.FfnIdeal.Value

open Idealize.ShloMosaic Idealize.ShloMosaic.TcCoe Idealize.ShloMosaic.Tactic Idealize.SL.Sem
open Idealize.ShloMosaic.Pipeline (Dat)
open Cert.FfnIdeal Cert.FfnIdeal.Gen Cert.Rows

variable (m : (ℓ : Loc nD τ sig) → Buf (Elt Ideal) ℓ) (ρ : Dev nD → PrngReg) (c : Dev nD)

/-- The cleared accumulator is zero. -/
theorem clear_zero (i : Fin 2816) (j : Fin 1024) : k0_pay1 (F := Ideal) (ix2 i j) = 0 := by
  pointwise [k0_pay1]

/-- A tile's step: the accumulator and the product of the tile's rows. -/
theorem step_apply (xs : Vec Ideal S2816x1024 .f32) (x0 : Vec Ideal S1024x2816 .bf16) (x1 : Vec Ideal S1024x1024 .bf16)
    (i : Fin 2816) (j : Fin 1024) :
    k0_pay2 (F := Ideal) xs x0 x1 (ix2 i j) = xs (ix2 i j) + ∑ r : Fin 1024, x0 (ix2 r i) * x1 (ix2 r j) := by
  pointwise [k0_pay2]

/-- The store at the end keeps the accumulator's numbers. -/
theorem store_apply (xs : Vec Ideal S2816x1024 .f32) (i : Fin 2816) (j : Fin 1024) :
    k0_pay3 (F := Ideal) xs (ix2 i j) = xs (ix2 i j) := by
  pointwise [k0_pay3]

variable {m c}

/-- What the first tile leaves in the accumulator. -/
theorem first_acc (t : Fin cfg0.N) (h0 : t.val % 8 = 0) (h1 : ¬t.val % 8 = 7) :
    (outsAt0 m c t.val t.isLt).2 = k0_pay2 (F := Ideal) (k0_pay1 (F := Ideal)) (iblk m c 0 t) (iblk m c 1 t) := by
  rw [outsAt0_A m c t h0 h1]
  unfold sout0_A_0
  dsimp only
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread, View.ld_unit_zero (S := S1024x2816) corner, View.ld_unit_zero (S := S1024x1024) corner]
  rw [View.canon_cons_unit_zero (Val := Elt Ideal) (S := S2816x1024) corner]
  exact congrArg (fun z => k0_pay2 (F := Ideal) z (iblk m c 0 t) (iblk m c 1 t)) (View.readCov_unit_zero (Val := Elt Ideal) (S := S2816x1024) (View.whole cc0_scratch0) corner _ _)

/-- What a middle tile leaves in the accumulator. -/
theorem middle_acc (t : Fin cfg0.N) (h0 : ¬t.val % 8 = 0) (h1 : ¬t.val % 8 = 7) :
    (outsAt0 m c t.val t.isLt).2 = k0_pay2 (F := Ideal) (outsAt0 m c (t.val - 1) (Rows.prev t)).2 (iblk m c 0 t) (iblk m c 1 t) := by
  rw [outsAt0_B m c t h0 h1]
  unfold sout0_B_0
  dsimp only
  rw [View.read_writes_eq_canon _ _ _ (scover0_B_0 c _ _ _ _ _ _ _ _ _ _ _ _ _ _)]
  unfold kernelRun0_B
  dsimp only
  sl_unfold_words
  simp only [View.readAt_eq_ld, (hs0_0 t).read_unread, (hs0_1 t).read_unread, (Memref.isWhole_whole _).read_unread, View.ld_unit_zero (S := S1024x2816) corner, View.ld_unit_zero (S := S1024x1024) corner, View.ld_unit_zero (S := S2816x1024) corner]
  exact View.canon_cons_unit_zero (Val := Elt Ideal) (S := S2816x1024) corner _ _ _

/-- What the last tile leaves in the output. -/
theorem last_out (t : Fin cfg0.N) (h0 : ¬t.val % 8 = 0) (h1 : t.val % 8 = 7) :
    (outsAt0 m c t.val t.isLt).1 = k0_pay3 (F := Ideal) (k0_pay2 (F := Ideal) (outsAt0 m c (t.val - 1) (Rows.prev t)).2 (iblk m c 0 t) (iblk m c 1 t)) := by
  rw [outsAt0_C m c t h0 h1]
  unfold out0_C_2
  dsimp only
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread, (Memref.isWhole_whole _).read_unread, View.ld_unit_zero (S := S1024x2816) corner, View.ld_unit_zero (S := S1024x1024) corner, View.ld_unit_zero (S := S2816x1024) corner]
  rw [View.canon_cons_unit_zero (Val := Elt Ideal) (S := S2816x1024) corner]
  exact congrArg (k0_pay3 (F := Ideal)) (View.readCov_unit_zero (Val := Elt Ideal) (S := S2816x1024) (View.whole cc0_scratch0) corner _ _)

theorem index_0 : ∀ t : Fin cfg0.N, win0_0.index t 0 = t.val := by decide +kernel
theorem index_1 : ∀ t : Fin cfg0.N, win0_1.index t 0 = t.val := by decide +kernel

theorem points (t : Fin cfg0.N) : t.val < 8 := lt_of_lt_of_eq t.isLt (show cfg0.N = 8 from N_0)

variable (m c)

/-- The left factor's tile holds rows of its array. -/
theorem tile_0 (t : Fin cfg0.N) (r : Fin 1024) (k : Fin 2816) :
    iblk m c 0 t (ix2 r k) = m (c, main_arg0) (ix2 ⟨1024 * t.val + r, by have := points t; omega⟩ k) := by
  refine congrArg (m (c, main_arg0)) (funext fun a => Fin.ext ?_)
  match a with
  | ⟨0, _⟩ =>
    show win0_0.index t 0 * 1024 + 1 * r.val = 1024 * t.val + r
    rw [index_0]; omega
  | ⟨1, _⟩ => exact Rows.at0 _

/-- The right factor's tile holds rows of its array. -/
theorem tile_1 (t : Fin cfg0.N) (r : Fin 1024) (k : Fin 1024) :
    iblk m c 1 t (ix2 r k) = m (c, main_arg1) (ix2 ⟨1024 * t.val + r, by have := points t; omega⟩ k) := by
  refine congrArg (m (c, main_arg1)) (funext fun a => Fin.ext ?_)
  match a with
  | ⟨0, _⟩ =>
    show win0_1.index t 0 * 1024 + 1 * r.val = 1024 * t.val + r
    rw [index_1]; omega
  | ⟨1, _⟩ => exact Rows.at0 _

/-- The left factor as the region finds it. -/
def lhs : S8192x2816.Idx → EReal := m (c, main_arg0)

/-- The right factor as the region finds it. -/
def rhs : S8192x1024.Idx → EReal := m (c, main_arg1)

/-- The weight gradient, as an array. -/
def arr : S2816x1024.Idx → EReal := fun y => ∑ k : Fin 8192, lhs m c (ix2 k (y 0)) * rhs m c (ix2 k (y 1))

/-- What the last tile leaves in the output. -/
theorem out_val (t : Fin cfg0.N) (h7 : t.val = 7) (y : S2816x1024.Idx) :
    (outsAt0 m c t.val t.isLt).1 y = arr m c y := by
  obtain ⟨i, j, rfl⟩ : ∃ (i : Fin 2816) (j : Fin 1024), y = ix2 i j :=
    ⟨y 0, y 1, by funext a; match a with | ⟨0, _⟩ => rfl | ⟨1, _⟩ => rfl⟩
  refine Rows.total N_0 (fun k => lhs m c (ix2 k i) * rhs m c (ix2 k j))
    (fun t => ∑ r : Fin 1024, (show EReal from iblk m c 0 t (ix2 r i)) * (show EReal from iblk m c 1 t (ix2 r j)))
    (fun n hn => (outsAt0 m c n hn).2 (ix2 i j)) _
    (fun t => Finset.sum_congr rfl fun r _ => congrArg₂ (fun a b : EReal => a * b) (tile_0 m c t r i) (tile_1 m c t r j))
    (fun hn => (congrFun (first_acc (m := m) (c := c) ⟨0, hn⟩ (Nat.zero_mod _) (by show ¬0 % 8 = 7; omega)) (ix2 i j)).trans ?_)
    (fun n hn h => (congrFun (middle_acc (m := m) (c := c) ⟨n + 1, hn⟩ (by show ¬(n + 1) % 8 = 0; omega) (by show ¬(n + 1) % 8 = 7; omega)) (ix2 i j)).trans ?_)
    t h7 ((congrFun (last_out (m := m) (c := c) t (by omega) (by omega)) (ix2 i j)).trans ?_)
  · rw [step_apply, clear_zero, zero_add]
  · rw [step_apply]; rfl
  · rw [store_apply, step_apply]

theorem flushed (t : Fin cfg0.N) (ht : (cfg0.win 2).flush t = true) :
    (dats m 0 c).flushed 2 t = ((cfg0.win 2).blk t).view.read (Elt Ideal) (arr m c) := by
  have h7 : t.val = 7 := by
    have := (flush0_2 t).mp ht
    have := points t
    omega
  show (cfg0.win 2).cut (grid0.coords t) ((dats m 0 c).after 2 t) = _
  rw [after0_2]
  funext y
  refine (out_val m c t h7 y).trans ?_
  show _ = arr m c (((cfg0.win 2).blk t).view.emb y)
  refine congrArg (arr m c) (funext fun a => Fin.ext ?_)
  match a with
  | ⟨0, _⟩ => exact (Rows.at0 _).symm
  | ⟨1, _⟩ => exact (Rows.at0 _).symm

theorem box : ∀ t : Fin cfg0.N, win0_2.index t 0 * win0_2.size 0 = 0 ∧ win0_2.xsize (grid0.coords t) 0 = 2816
    ∧ win0_2.index t 1 * win0_2.size 1 = 0 ∧ win0_2.xsize (grid0.coords t) 1 = 1024 := by decide +kernel

theorem cover (i : S2816x1024.Idx) : ∃ t, (cfg0.win 2).flush t = true ∧ i ∈ ((cfg0.win 2).blk t).view.set := by
  have h0 : (i 0 : ℕ) < 2816 := (i 0).isLt
  have h1 : (i 1 : ℕ) < 1024 := (i 1).isLt
  refine ⟨⟨7, lt_of_lt_of_eq (by omega) (show 8 = cfg0.N from N_0.symm)⟩, (flush0_2 _).mpr rfl, ?_⟩
  generalize (⟨7, _⟩ : Fin cfg0.N) = t
  show i ∈ ((View.whole main_v0).slice (win0_2.rect t)).set
  rw [View.set_slice_whole, Rect.mem_set_unit]
  obtain ⟨b0, b1, b2, b3⟩ := box t
  intro a
  match a with
  | ⟨0, _⟩ =>
    show win0_2.index t 0 * win0_2.size 0 ≤ (i 0 : ℕ) ∧ (i 0 : ℕ) < win0_2.index t 0 * win0_2.size 0 + win0_2.xsize (grid0.coords t) 0
    rw [b0, b1]; omega
  | ⟨1, _⟩ =>
    show win0_2.index t 1 * win0_2.size 1 ≤ (i 1 : ℕ) ∧ (i 1 : ℕ) < win0_2.index t 1 * win0_2.size 1 + win0_2.xsize (grid0.coords t) 1
    rw [b2, b3]; omega

theorem final : (dats m 0 c).arrAt 2 cfg0.N = arr m c :=
  Dat.arrAt_eq_of_cover (dats m 0 c) 2 (arr m c) (fun t ht => flushed m c t ht) cover

/-- The kernel's run leaves the result at the sum over all rows. -/
theorem output : θ_run defs (onTc (τ := τ) (main (F := Ideal))) ⟨m, fun _ => 0, ρ⟩ fun r => ∀ c : Dev nD,
      r.2.mem ((c.tc : Thread nD τ).loc main_v0) = arr m c :=
  (θ_run defs _ _).mono (fun _ h c => ((h c).1 2).trans (final m c)) (run_main m ρ)

/-- The kernel's run, read: the result is the sum over all rows, the arguments unchanged. -/
theorem value : θ_run defs (onTc (τ := τ) (main (F := Ideal))) ⟨m, fun _ => 0, ρ⟩ fun r => ∀ c : Dev nD,
      r.2.mem ((c.tc : Thread nD τ).loc main_v0) = arr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h.1 c, h.2.1 c⟩)
    (θ_run_and (output m ρ) (frame m ρ))

end Cert.FfnIdeal.Value

end
-- ==== Proof.FfnEqual.lean ====
module

public import proofs.«01_k».proof.Defs
public import proofs.«01_k».proof.Proof.FfnValue
public import Idealize.ShloMosaic.Lib.Quiescent
public import proofs.«01_k».proof.Proof.Gen.FfnReferenceIdeal.Read

@[expose] public section

set_option maxRecDepth 16384

noncomputable section

/-! The kernel and the reference of the weight gradient compute the same array over the extended reals. -/

namespace Cert.FfnReferenceIdeal.Value

open Idealize.ShloMosaic Idealize.ShloMosaic.TcCoe Idealize.SL.Sem
open Cert.FfnReferenceIdeal Cert.FfnReferenceIdeal.Gen Cert.FfnReferenceIdeal.Read

/-- The reference's result at an index: the sum over all rows. -/
theorem entry (x0 : (⟨S8192x2816, .bf16⟩ : BufTy).Contents (Elt Ideal)) (x1 : (⟨S8192x1024, .bf16⟩ : BufTy).Contents (Elt Ideal))
    (y : S2816x1024.Idx) :
    val_main_v6 (F := Ideal) x0 x1 y
      = ∑ k : Fin 8192, (show EReal from x0 (ix2 k (y 0))) * (show EReal from x1 (ix2 k (y 1))) := by
  rw [val_main_v6_apply, val_main_v5_apply]
  refine (val_main_v4_apply x0 x1 (idx_main_v5 y)).trans (Finset.sum_congr rfl fun k _ => ?_)
  have el : lidx_main_v4 (idx_main_v5 y) k = ix2 k (y 1) := by
    funext a
    match a with
    | ⟨0, _⟩ => rfl
    | ⟨1, _⟩ => rfl
  have er : ridx_main_v4 (idx_main_v5 y) k = ix2 k (y 0) := by
    funext a
    match a with
    | ⟨0, _⟩ => rfl
    | ⟨1, _⟩ => rfl
  rw [el, er]
  exact mul_comm (G := EReal) (x1 (ix2 k (y 1))) (x0 (ix2 k (y 0)))

end Cert.FfnReferenceIdeal.Value

namespace Cert.FfnEqual

open Idealize.ShloMosaic Idealize.ShloMosaic.TcCoe Idealize.SL.Sem

/-- From any arguments the kernel and the reference end with the same array. -/
theorem equal : Cert.algebraic_FfnIdeal_FfnReferenceIdeal := by
  intro m g m' g' _ ha
  refine ⟨Cert.FfnIdeal.Value.arr m, Cert.FfnIdeal.Value.value m g, ?_⟩
  refine (θ_run Cert.FfnReferenceIdeal.defs _ _).mono (fun r h c => ?_) (Cert.FfnReferenceIdeal.Value.run (F := Ideal) m' g')
  obtain ⟨hv, hargs⟩ := h c
  obtain ⟨a0, a1⟩ := ha c
  refine ⟨hv.trans ?_, hargs⟩
  rw [a0, a1]
  exact (Cert.FfnReferenceIdeal.Read.val_main_v6_eq (F := Ideal) _ _).trans (funext fun y => Cert.FfnReferenceIdeal.Value.entry _ _ y)

/-- The reference ends with its arguments unchanged and every counter at zero. -/
theorem frame_reference : Cert.quiescent_FfnReferenceIdeal := by
  intro m ρ _
  exact (θ_run Cert.FfnReferenceIdeal.defs _ _).mono (fun r h => ⟨fun c => (h c).2,
      Idealize.ShloMosaic.sem_eq_zero_of_no_sems (by decide) r.2⟩)
    (Cert.FfnReferenceIdeal.Value.run (F := Ideal) m ρ)

end Cert.FfnEqual

end
-- ==== Proof.OutValue.lean ====
module

public import proofs.«01_k».proof.Proof.Rows
public import proofs.«01_k».proof.Proof.Gen.OutIdeal.Frame
public import Idealize.ShloMosaic.Lib.Pointwise
public import Idealize.ShloMosaic.Lib.Claim
public import Idealize.ShloMosaic.Lib.Pipeline.Value

@[expose] public section

set_option maxRecDepth 16384

noncomputable section

/-! The output projection's weight gradient, tile by tile, and the array it leaves. -/

namespace Cert.OutIdeal.Value

open Idealize.ShloMosaic Idealize.ShloMosaic.TcCoe Idealize.ShloMosaic.Tactic Idealize.SL.Sem
open Idealize.ShloMosaic.Pipeline (Dat)
open Cert.OutIdeal Cert.OutIdeal.Gen Cert.Rows

variable (m : (ℓ : Loc nD τ sig) → Buf (Elt Ideal) ℓ) (ρ : Dev nD → PrngReg) (c : Dev nD)

/-- The cleared accumulator is zero. -/
theorem clear_zero (i : Fin 1024) (j : Fin 1024) : k0_pay1 (F := Ideal) (ix2 i j) = 0 := by
  pointwise [k0_pay1]

/-- A tile's step: the accumulator and the product of the tile's rows. -/
theorem step_apply (xs : Vec Ideal S1024x1024 .f32) (x0 : Vec Ideal S1024x1024 .bf16) (x1 : Vec Ideal S1024x1024 .bf16)
    (i : Fin 1024) (j : Fin 1024) :
    k0_pay2 (F := Ideal) xs x0 x1 (ix2 i j) = xs (ix2 i j) + ∑ r : Fin 1024, x0 (ix2 r i) * x1 (ix2 r j) := by
  pointwise [k0_pay2]

/-- The store at the end keeps the accumulator's numbers. -/
theorem store_apply (xs : Vec Ideal S1024x1024 .f32) (i : Fin 1024) (j : Fin 1024) :
    k0_pay3 (F := Ideal) xs (ix2 i j) = xs (ix2 i j) := by
  pointwise [k0_pay3]

variable {m c}

/-- What the first tile leaves in the accumulator. -/
theorem first_acc (t : Fin cfg0.N) (h0 : t.val % 8 = 0) (h1 : ¬t.val % 8 = 7) :
    (outsAt0 m c t.val t.isLt).2 = k0_pay2 (F := Ideal) (k0_pay1 (F := Ideal)) (iblk m c 0 t) (iblk m c 1 t) := by
  rw [outsAt0_A m c t h0 h1]
  unfold sout0_A_0
  dsimp only
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread, View.ld_unit_zero (S := S1024x1024) corner, View.ld_unit_zero (S := S1024x1024) corner]
  rw [View.canon_cons_unit_zero (Val := Elt Ideal) (S := S1024x1024) corner]
  exact congrArg (fun z => k0_pay2 (F := Ideal) z (iblk m c 0 t) (iblk m c 1 t)) (View.readCov_unit_zero (Val := Elt Ideal) (S := S1024x1024) (View.whole cc0_scratch0) corner _ _)

/-- What a middle tile leaves in the accumulator. -/
theorem middle_acc (t : Fin cfg0.N) (h0 : ¬t.val % 8 = 0) (h1 : ¬t.val % 8 = 7) :
    (outsAt0 m c t.val t.isLt).2 = k0_pay2 (F := Ideal) (outsAt0 m c (t.val - 1) (Rows.prev t)).2 (iblk m c 0 t) (iblk m c 1 t) := by
  rw [outsAt0_B m c t h0 h1]
  unfold sout0_B_0
  dsimp only
  rw [View.read_writes_eq_canon _ _ _ (scover0_B_0 c _ _ _ _ _ _ _ _ _ _ _ _ _ _)]
  unfold kernelRun0_B
  dsimp only
  sl_unfold_words
  simp only [View.readAt_eq_ld, (hs0_0 t).read_unread, (hs0_1 t).read_unread, (Memref.isWhole_whole _).read_unread, View.ld_unit_zero (S := S1024x1024) corner, View.ld_unit_zero (S := S1024x1024) corner, View.ld_unit_zero (S := S1024x1024) corner]
  exact View.canon_cons_unit_zero (Val := Elt Ideal) (S := S1024x1024) corner _ _ _

/-- What the last tile leaves in the output. -/
theorem last_out (t : Fin cfg0.N) (h0 : ¬t.val % 8 = 0) (h1 : t.val % 8 = 7) :
    (outsAt0 m c t.val t.isLt).1 = k0_pay3 (F := Ideal) (k0_pay2 (F := Ideal) (outsAt0 m c (t.val - 1) (Rows.prev t)).2 (iblk m c 0 t) (iblk m c 1 t)) := by
  rw [outsAt0_C m c t h0 h1]
  unfold out0_C_2
  dsimp only
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread, (Memref.isWhole_whole _).read_unread, View.ld_unit_zero (S := S1024x1024) corner, View.ld_unit_zero (S := S1024x1024) corner, View.ld_unit_zero (S := S1024x1024) corner]
  rw [View.canon_cons_unit_zero (Val := Elt Ideal) (S := S1024x1024) corner]
  exact congrArg (k0_pay3 (F := Ideal)) (View.readCov_unit_zero (Val := Elt Ideal) (S := S1024x1024) (View.whole cc0_scratch0) corner _ _)

theorem index_0 : ∀ t : Fin cfg0.N, win0_0.index t 0 = t.val := by decide +kernel
theorem index_1 : ∀ t : Fin cfg0.N, win0_1.index t 0 = t.val := by decide +kernel

theorem points (t : Fin cfg0.N) : t.val < 8 := lt_of_lt_of_eq t.isLt (show cfg0.N = 8 from N_0)

variable (m c)

/-- The left factor's tile holds rows of its array. -/
theorem tile_0 (t : Fin cfg0.N) (r : Fin 1024) (k : Fin 1024) :
    iblk m c 0 t (ix2 r k) = m (c, main_arg0) (ix2 ⟨1024 * t.val + r, by have := points t; omega⟩ k) := by
  refine congrArg (m (c, main_arg0)) (funext fun a => Fin.ext ?_)
  match a with
  | ⟨0, _⟩ =>
    show win0_0.index t 0 * 1024 + 1 * r.val = 1024 * t.val + r
    rw [index_0]; omega
  | ⟨1, _⟩ => exact Rows.at0 _

/-- The right factor's tile holds rows of its array. -/
theorem tile_1 (t : Fin cfg0.N) (r : Fin 1024) (k : Fin 1024) :
    iblk m c 1 t (ix2 r k) = m (c, main_arg1) (ix2 ⟨1024 * t.val + r, by have := points t; omega⟩ k) := by
  refine congrArg (m (c, main_arg1)) (funext fun a => Fin.ext ?_)
  match a with
  | ⟨0, _⟩ =>
    show win0_1.index t 0 * 1024 + 1 * r.val = 1024 * t.val + r
    rw [index_1]; omega
  | ⟨1, _⟩ => exact Rows.at0 _

/-- The left factor as the region finds it. -/
def lhs : S8192x1024.Idx → EReal := m (c, main_arg0)

/-- The right factor as the region finds it. -/
def rhs : S8192x1024.Idx → EReal := m (c, main_arg1)

/-- The weight gradient, as an array. -/
def arr : S1024x1024.Idx → EReal := fun y => ∑ k : Fin 8192, lhs m c (ix2 k (y 0)) * rhs m c (ix2 k (y 1))

/-- What the last tile leaves in the output. -/
theorem out_val (t : Fin cfg0.N) (h7 : t.val = 7) (y : S1024x1024.Idx) :
    (outsAt0 m c t.val t.isLt).1 y = arr m c y := by
  obtain ⟨i, j, rfl⟩ : ∃ (i : Fin 1024) (j : Fin 1024), y = ix2 i j :=
    ⟨y 0, y 1, by funext a; match a with | ⟨0, _⟩ => rfl | ⟨1, _⟩ => rfl⟩
  refine Rows.total N_0 (fun k => lhs m c (ix2 k i) * rhs m c (ix2 k j))
    (fun t => ∑ r : Fin 1024, (show EReal from iblk m c 0 t (ix2 r i)) * (show EReal from iblk m c 1 t (ix2 r j)))
    (fun n hn => (outsAt0 m c n hn).2 (ix2 i j)) _
    (fun t => Finset.sum_congr rfl fun r _ => congrArg₂ (fun a b : EReal => a * b) (tile_0 m c t r i) (tile_1 m c t r j))
    (fun hn => (congrFun (first_acc (m := m) (c := c) ⟨0, hn⟩ (Nat.zero_mod _) (by show ¬0 % 8 = 7; omega)) (ix2 i j)).trans ?_)
    (fun n hn h => (congrFun (middle_acc (m := m) (c := c) ⟨n + 1, hn⟩ (by show ¬(n + 1) % 8 = 0; omega) (by show ¬(n + 1) % 8 = 7; omega)) (ix2 i j)).trans ?_)
    t h7 ((congrFun (last_out (m := m) (c := c) t (by omega) (by omega)) (ix2 i j)).trans ?_)
  · rw [step_apply, clear_zero, zero_add]
  · rw [step_apply]; rfl
  · rw [store_apply, step_apply]

theorem flushed (t : Fin cfg0.N) (ht : (cfg0.win 2).flush t = true) :
    (dats m 0 c).flushed 2 t = ((cfg0.win 2).blk t).view.read (Elt Ideal) (arr m c) := by
  have h7 : t.val = 7 := by
    have := (flush0_2 t).mp ht
    have := points t
    omega
  show (cfg0.win 2).cut (grid0.coords t) ((dats m 0 c).after 2 t) = _
  rw [after0_2]
  funext y
  refine (out_val m c t h7 y).trans ?_
  show _ = arr m c (((cfg0.win 2).blk t).view.emb y)
  refine congrArg (arr m c) (funext fun a => Fin.ext ?_)
  match a with
  | ⟨0, _⟩ => exact (Rows.at0 _).symm
  | ⟨1, _⟩ => exact (Rows.at0 _).symm

theorem box : ∀ t : Fin cfg0.N, win0_2.index t 0 * win0_2.size 0 = 0 ∧ win0_2.xsize (grid0.coords t) 0 = 1024
    ∧ win0_2.index t 1 * win0_2.size 1 = 0 ∧ win0_2.xsize (grid0.coords t) 1 = 1024 := by decide +kernel

theorem cover (i : S1024x1024.Idx) : ∃ t, (cfg0.win 2).flush t = true ∧ i ∈ ((cfg0.win 2).blk t).view.set := by
  have h0 : (i 0 : ℕ) < 1024 := (i 0).isLt
  have h1 : (i 1 : ℕ) < 1024 := (i 1).isLt
  refine ⟨⟨7, lt_of_lt_of_eq (by omega) (show 8 = cfg0.N from N_0.symm)⟩, (flush0_2 _).mpr rfl, ?_⟩
  generalize (⟨7, _⟩ : Fin cfg0.N) = t
  show i ∈ ((View.whole main_v0).slice (win0_2.rect t)).set
  rw [View.set_slice_whole, Rect.mem_set_unit]
  obtain ⟨b0, b1, b2, b3⟩ := box t
  intro a
  match a with
  | ⟨0, _⟩ =>
    show win0_2.index t 0 * win0_2.size 0 ≤ (i 0 : ℕ) ∧ (i 0 : ℕ) < win0_2.index t 0 * win0_2.size 0 + win0_2.xsize (grid0.coords t) 0
    rw [b0, b1]; omega
  | ⟨1, _⟩ =>
    show win0_2.index t 1 * win0_2.size 1 ≤ (i 1 : ℕ) ∧ (i 1 : ℕ) < win0_2.index t 1 * win0_2.size 1 + win0_2.xsize (grid0.coords t) 1
    rw [b2, b3]; omega

theorem final : (dats m 0 c).arrAt 2 cfg0.N = arr m c :=
  Dat.arrAt_eq_of_cover (dats m 0 c) 2 (arr m c) (fun t ht => flushed m c t ht) cover

/-- The kernel's run leaves the result at the sum over all rows. -/
theorem output : θ_run defs (onTc (τ := τ) (main (F := Ideal))) ⟨m, fun _ => 0, ρ⟩ fun r => ∀ c : Dev nD,
      r.2.mem ((c.tc : Thread nD τ).loc main_v0) = arr m c :=
  (θ_run defs _ _).mono (fun _ h c => ((h c).1 2).trans (final m c)) (run_main m ρ)

/-- The kernel's run, read: the result is the sum over all rows, the arguments unchanged. -/
theorem value : θ_run defs (onTc (τ := τ) (main (F := Ideal))) ⟨m, fun _ => 0, ρ⟩ fun r => ∀ c : Dev nD,
      r.2.mem ((c.tc : Thread nD τ).loc main_v0) = arr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h.1 c, h.2.1 c⟩)
    (θ_run_and (output m ρ) (frame m ρ))

end Cert.OutIdeal.Value

end
-- ==== Proof.OutEqual.lean ====
module

public import proofs.«01_k».proof.Defs
public import proofs.«01_k».proof.Proof.OutValue
public import Idealize.ShloMosaic.Lib.Quiescent
public import proofs.«01_k».proof.Proof.Gen.OutReferenceIdeal.Read

@[expose] public section

set_option maxRecDepth 16384

noncomputable section

/-! The kernel and the reference of the output projection's weight gradient compute the same array. -/

namespace Cert.OutReferenceIdeal.Value

open Idealize.ShloMosaic Idealize.ShloMosaic.TcCoe Idealize.SL.Sem
open Cert.OutReferenceIdeal Cert.OutReferenceIdeal.Gen Cert.OutReferenceIdeal.Read

/-- The reference's result at an index: the sum over all rows. -/
theorem entry (x0 : (⟨S8192x1024, .bf16⟩ : BufTy).Contents (Elt Ideal)) (x1 : (⟨S8192x1024, .bf16⟩ : BufTy).Contents (Elt Ideal))
    (y : S1024x1024.Idx) :
    val_main_v6 (F := Ideal) x0 x1 y
      = ∑ k : Fin 8192, (show EReal from x0 (ix2 k (y 0))) * (show EReal from x1 (ix2 k (y 1))) := by
  rw [val_main_v6_apply, val_main_v5_apply]
  refine (val_main_v4_apply x0 x1 (idx_main_v5 y)).trans (Finset.sum_congr rfl fun k _ => ?_)
  have el : lidx_main_v4 (idx_main_v5 y) k = ix2 k (y 1) := by
    funext a
    match a with
    | ⟨0, _⟩ => rfl
    | ⟨1, _⟩ => rfl
  have er : ridx_main_v4 (idx_main_v5 y) k = ix2 k (y 0) := by
    funext a
    match a with
    | ⟨0, _⟩ => rfl
    | ⟨1, _⟩ => rfl
  rw [el, er]
  exact mul_comm (G := EReal) (x1 (ix2 k (y 1))) (x0 (ix2 k (y 0)))

end Cert.OutReferenceIdeal.Value

namespace Cert.OutEqual

open Idealize.ShloMosaic Idealize.ShloMosaic.TcCoe Idealize.SL.Sem

/-- From any arguments the kernel and the reference end with the same arrays. -/
theorem equal : Cert.algebraic_OutIdeal_OutReferenceIdeal := by
  intro m g m' g' _ ha
  refine ⟨Cert.OutIdeal.Value.arr m, Cert.OutIdeal.Value.value m g, ?_⟩
  refine (θ_run Cert.OutReferenceIdeal.defs _ _).mono (fun r h c => ?_) (Cert.OutReferenceIdeal.Value.run (F := Ideal) m' g')
  obtain ⟨hv0, hargs⟩ := h c
  obtain ⟨a0, a1⟩ := ha c
  exact ⟨hv0.trans (by rw [a0, a1]; exact (Cert.OutReferenceIdeal.Read.val_main_v6_eq (F := Ideal) _ _).trans (funext fun y => Cert.OutReferenceIdeal.Value.entry _ _ y)), hargs⟩

/-- The reference ends with its arguments unchanged and every counter at zero. -/
theorem frame_reference : Cert.quiescent_OutReferenceIdeal := by
  intro m ρ _
  exact (θ_run Cert.OutReferenceIdeal.defs _ _).mono (fun r h => ⟨fun c => (h c).2,
      Idealize.ShloMosaic.sem_eq_zero_of_no_sems (by decide) r.2⟩)
    (Cert.OutReferenceIdeal.Value.run (F := Ideal) m ρ)

end Cert.OutEqual

end
-- ==== Proof.BranchValue.lean ====
module

public import proofs.«01_k».proof.Proof.Rows
public import proofs.«01_k».proof.Proof.Gen.BranchIdeal.Frame
public import Idealize.ShloMosaic.Lib.Pointwise
public import Idealize.ShloMosaic.Lib.Claim
public import Idealize.ShloMosaic.Lib.Pipeline.Value

@[expose] public section

set_option maxRecDepth 16384

noncomputable section

/-! A branch's weight gradient, tile by tile, and the array it leaves. -/

namespace Cert.BranchIdeal.Value

open Idealize.ShloMosaic Idealize.ShloMosaic.TcCoe Idealize.ShloMosaic.Tactic Idealize.SL.Sem
open Idealize.ShloMosaic.Pipeline (Dat)
open Cert.BranchIdeal Cert.BranchIdeal.Gen Cert.Rows

variable (m : (ℓ : Loc nD τ sig) → Buf (Elt Ideal) ℓ) (ρ : Dev nD → PrngReg) (c : Dev nD)

/-- The cleared accumulator is zero. -/
theorem clear_zero (i : Fin 1024) (j : Fin 512) : k0_pay1 (F := Ideal) (ix2 i j) = 0 := by
  pointwise [k0_pay1]

/-- A tile's step: the accumulator and the product of the tile's rows. -/
theorem step_apply (xs : Vec Ideal S1024x512 .f32) (x0 : Vec Ideal S1024x1024 .bf16) (x1 : Vec Ideal S1024x512 .bf16)
    (i : Fin 1024) (j : Fin 512) :
    k0_pay2 (F := Ideal) xs x0 x1 (ix2 i j) = xs (ix2 i j) + ∑ r : Fin 1024, x0 (ix2 r i) * x1 (ix2 r j) := by
  pointwise [k0_pay2]

/-- The store at the end keeps the accumulator's numbers. -/
theorem store_apply (xs : Vec Ideal S1024x512 .f32) (i : Fin 1024) (j : Fin 512) :
    k0_pay3 (F := Ideal) xs (ix2 i j) = xs (ix2 i j) := by
  pointwise [k0_pay3]

variable {m c}

/-- What the first tile leaves in the accumulator. -/
theorem first_acc (t : Fin cfg0.N) (h0 : t.val % 8 = 0) (h1 : ¬t.val % 8 = 7) :
    (outsAt0 m c t.val t.isLt).2 = k0_pay2 (F := Ideal) (k0_pay1 (F := Ideal)) (iblk m c 0 t) (iblk m c 1 t) := by
  rw [outsAt0_A m c t h0 h1]
  unfold sout0_A_0
  dsimp only
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread, View.ld_unit_zero (S := S1024x1024) corner, View.ld_unit_zero (S := S1024x512) corner]
  rw [View.canon_cons_unit_zero (Val := Elt Ideal) (S := S1024x512) corner]
  exact congrArg (fun z => k0_pay2 (F := Ideal) z (iblk m c 0 t) (iblk m c 1 t)) (View.readCov_unit_zero (Val := Elt Ideal) (S := S1024x512) (View.whole cc0_scratch0) corner _ _)

/-- What a middle tile leaves in the accumulator. -/
theorem middle_acc (t : Fin cfg0.N) (h0 : ¬t.val % 8 = 0) (h1 : ¬t.val % 8 = 7) :
    (outsAt0 m c t.val t.isLt).2 = k0_pay2 (F := Ideal) (outsAt0 m c (t.val - 1) (Rows.prev t)).2 (iblk m c 0 t) (iblk m c 1 t) := by
  rw [outsAt0_B m c t h0 h1]
  unfold sout0_B_0
  dsimp only
  rw [View.read_writes_eq_canon _ _ _ (scover0_B_0 c _ _ _ _ _ _ _ _ _ _ _ _ _ _)]
  unfold kernelRun0_B
  dsimp only
  sl_unfold_words
  simp only [View.readAt_eq_ld, (hs0_0 t).read_unread, (hs0_1 t).read_unread, (Memref.isWhole_whole _).read_unread, View.ld_unit_zero (S := S1024x1024) corner, View.ld_unit_zero (S := S1024x512) corner, View.ld_unit_zero (S := S1024x512) corner]
  exact View.canon_cons_unit_zero (Val := Elt Ideal) (S := S1024x512) corner _ _ _

/-- What the last tile leaves in the output. -/
theorem last_out (t : Fin cfg0.N) (h0 : ¬t.val % 8 = 0) (h1 : t.val % 8 = 7) :
    (outsAt0 m c t.val t.isLt).1 = k0_pay3 (F := Ideal) (k0_pay2 (F := Ideal) (outsAt0 m c (t.val - 1) (Rows.prev t)).2 (iblk m c 0 t) (iblk m c 1 t)) := by
  rw [outsAt0_C m c t h0 h1]
  unfold out0_C_2
  dsimp only
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread, (Memref.isWhole_whole _).read_unread, View.ld_unit_zero (S := S1024x1024) corner, View.ld_unit_zero (S := S1024x512) corner, View.ld_unit_zero (S := S1024x512) corner]
  rw [View.canon_cons_unit_zero (Val := Elt Ideal) (S := S1024x512) corner]
  exact congrArg (k0_pay3 (F := Ideal)) (View.readCov_unit_zero (Val := Elt Ideal) (S := S1024x512) (View.whole cc0_scratch0) corner _ _)

theorem index_0 : ∀ t : Fin cfg0.N, win0_0.index t 0 = t.val := by decide +kernel
theorem index_1 : ∀ t : Fin cfg0.N, win0_1.index t 0 = t.val := by decide +kernel

theorem points (t : Fin cfg0.N) : t.val < 8 := lt_of_lt_of_eq t.isLt (show cfg0.N = 8 from N_0)

variable (m c)

/-- The left factor's tile holds rows of its array. -/
theorem tile_0 (t : Fin cfg0.N) (r : Fin 1024) (k : Fin 1024) :
    iblk m c 0 t (ix2 r k) = m (c, main_arg0) (ix2 ⟨1024 * t.val + r, by have := points t; omega⟩ k) := by
  refine congrArg (m (c, main_arg0)) (funext fun a => Fin.ext ?_)
  match a with
  | ⟨0, _⟩ =>
    show win0_0.index t 0 * 1024 + 1 * r.val = 1024 * t.val + r
    rw [index_0]; omega
  | ⟨1, _⟩ => exact Rows.at0 _

/-- The right factor's tile holds rows of its array. -/
theorem tile_1 (t : Fin cfg0.N) (r : Fin 1024) (k : Fin 512) :
    iblk m c 1 t (ix2 r k) = m (c, main_arg1) (ix2 ⟨1024 * t.val + r, by have := points t; omega⟩ k) := by
  refine congrArg (m (c, main_arg1)) (funext fun a => Fin.ext ?_)
  match a with
  | ⟨0, _⟩ =>
    show win0_1.index t 0 * 1024 + 1 * r.val = 1024 * t.val + r
    rw [index_1]; omega
  | ⟨1, _⟩ => exact Rows.at0 _

/-- The left factor as the region finds it. -/
def lhs : S8192x1024.Idx → EReal := m (c, main_arg0)

/-- The right factor as the region finds it. -/
def rhs : S8192x512.Idx → EReal := m (c, main_arg1)

/-- The weight gradient, as an array. -/
def arr : S1024x512.Idx → EReal := fun y => ∑ k : Fin 8192, lhs m c (ix2 k (y 0)) * rhs m c (ix2 k (y 1))

/-- What the last tile leaves in the output. -/
theorem out_val (t : Fin cfg0.N) (h7 : t.val = 7) (y : S1024x512.Idx) :
    (outsAt0 m c t.val t.isLt).1 y = arr m c y := by
  obtain ⟨i, j, rfl⟩ : ∃ (i : Fin 1024) (j : Fin 512), y = ix2 i j :=
    ⟨y 0, y 1, by funext a; match a with | ⟨0, _⟩ => rfl | ⟨1, _⟩ => rfl⟩
  refine Rows.total N_0 (fun k => lhs m c (ix2 k i) * rhs m c (ix2 k j))
    (fun t => ∑ r : Fin 1024, (show EReal from iblk m c 0 t (ix2 r i)) * (show EReal from iblk m c 1 t (ix2 r j)))
    (fun n hn => (outsAt0 m c n hn).2 (ix2 i j)) _
    (fun t => Finset.sum_congr rfl fun r _ => congrArg₂ (fun a b : EReal => a * b) (tile_0 m c t r i) (tile_1 m c t r j))
    (fun hn => (congrFun (first_acc (m := m) (c := c) ⟨0, hn⟩ (Nat.zero_mod _) (by show ¬0 % 8 = 7; omega)) (ix2 i j)).trans ?_)
    (fun n hn h => (congrFun (middle_acc (m := m) (c := c) ⟨n + 1, hn⟩ (by show ¬(n + 1) % 8 = 0; omega) (by show ¬(n + 1) % 8 = 7; omega)) (ix2 i j)).trans ?_)
    t h7 ((congrFun (last_out (m := m) (c := c) t (by omega) (by omega)) (ix2 i j)).trans ?_)
  · rw [step_apply, clear_zero, zero_add]
  · rw [step_apply]; rfl
  · rw [store_apply, step_apply]

theorem flushed (t : Fin cfg0.N) (ht : (cfg0.win 2).flush t = true) :
    (dats m 0 c).flushed 2 t = ((cfg0.win 2).blk t).view.read (Elt Ideal) (arr m c) := by
  have h7 : t.val = 7 := by
    have := (flush0_2 t).mp ht
    have := points t
    omega
  show (cfg0.win 2).cut (grid0.coords t) ((dats m 0 c).after 2 t) = _
  rw [after0_2]
  funext y
  refine (out_val m c t h7 y).trans ?_
  show _ = arr m c (((cfg0.win 2).blk t).view.emb y)
  refine congrArg (arr m c) (funext fun a => Fin.ext ?_)
  match a with
  | ⟨0, _⟩ => exact (Rows.at0 _).symm
  | ⟨1, _⟩ => exact (Rows.at0 _).symm

theorem box : ∀ t : Fin cfg0.N, win0_2.index t 0 * win0_2.size 0 = 0 ∧ win0_2.xsize (grid0.coords t) 0 = 1024
    ∧ win0_2.index t 1 * win0_2.size 1 = 0 ∧ win0_2.xsize (grid0.coords t) 1 = 512 := by decide +kernel

theorem cover (i : S1024x512.Idx) : ∃ t, (cfg0.win 2).flush t = true ∧ i ∈ ((cfg0.win 2).blk t).view.set := by
  have h0 : (i 0 : ℕ) < 1024 := (i 0).isLt
  have h1 : (i 1 : ℕ) < 512 := (i 1).isLt
  refine ⟨⟨7, lt_of_lt_of_eq (by omega) (show 8 = cfg0.N from N_0.symm)⟩, (flush0_2 _).mpr rfl, ?_⟩
  generalize (⟨7, _⟩ : Fin cfg0.N) = t
  show i ∈ ((View.whole main_v0).slice (win0_2.rect t)).set
  rw [View.set_slice_whole, Rect.mem_set_unit]
  obtain ⟨b0, b1, b2, b3⟩ := box t
  intro a
  match a with
  | ⟨0, _⟩ =>
    show win0_2.index t 0 * win0_2.size 0 ≤ (i 0 : ℕ) ∧ (i 0 : ℕ) < win0_2.index t 0 * win0_2.size 0 + win0_2.xsize (grid0.coords t) 0
    rw [b0, b1]; omega
  | ⟨1, _⟩ =>
    show win0_2.index t 1 * win0_2.size 1 ≤ (i 1 : ℕ) ∧ (i 1 : ℕ) < win0_2.index t 1 * win0_2.size 1 + win0_2.xsize (grid0.coords t) 1
    rw [b2, b3]; omega

theorem final : (dats m 0 c).arrAt 2 cfg0.N = arr m c :=
  Dat.arrAt_eq_of_cover (dats m 0 c) 2 (arr m c) (fun t ht => flushed m c t ht) cover

/-- The kernel's run leaves the result at the sum over all rows. -/
theorem output : θ_run defs (onTc (τ := τ) (main (F := Ideal))) ⟨m, fun _ => 0, ρ⟩ fun r => ∀ c : Dev nD,
      r.2.mem ((c.tc : Thread nD τ).loc main_v0) = arr m c :=
  (θ_run defs _ _).mono (fun _ h c => ((h c).1 2).trans (final m c)) (run_main m ρ)

/-- The kernel's run, read: the result is the sum over all rows, the arguments unchanged. -/
theorem value : θ_run defs (onTc (τ := τ) (main (F := Ideal))) ⟨m, fun _ => 0, ρ⟩ fun r => ∀ c : Dev nD,
      r.2.mem ((c.tc : Thread nD τ).loc main_v0) = arr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h.1 c, h.2.1 c⟩)
    (θ_run_and (output m ρ) (frame m ρ))

end Cert.BranchIdeal.Value

end
-- ==== Proof.BranchEqual.lean ====
module

public import proofs.«01_k».proof.Defs
public import proofs.«01_k».proof.Proof.BranchValue
public import Idealize.ShloMosaic.Lib.Quiescent
public import proofs.«01_k».proof.Proof.Gen.BranchReferenceIdeal.Read

@[expose] public section

set_option maxRecDepth 16384

noncomputable section

/-! The kernel and the reference of a branch's weight gradient compute the same array. -/

namespace Cert.BranchReferenceIdeal.Value

open Idealize.ShloMosaic Idealize.ShloMosaic.TcCoe Idealize.SL.Sem
open Cert.BranchReferenceIdeal Cert.BranchReferenceIdeal.Gen Cert.BranchReferenceIdeal.Read

/-- The reference's result at an index: the sum over all rows. -/
theorem entry (x0 : (⟨S8192x1024, .bf16⟩ : BufTy).Contents (Elt Ideal)) (x1 : (⟨S8192x512, .bf16⟩ : BufTy).Contents (Elt Ideal))
    (y : S1024x512.Idx) :
    val_main_v7 (F := Ideal) x0 x1 y
      = ∑ k : Fin 8192, (show EReal from x0 (ix2 k (y 0))) * (show EReal from x1 (ix2 k (y 1))) := by
  rw [val_main_v7_apply, val_main_v6_apply, val_main_v5_apply]
  refine (val_main_v4_apply x0 x1 (idx_main_v5 (idx_main_v6 y))).trans (Finset.sum_congr rfl fun k _ => ?_)
  have el : lidx_main_v4 (idx_main_v5 (idx_main_v6 y)) k = ix2 k (y 0) := by
    funext a
    match a with
    | ⟨0, _⟩ => rfl
    | ⟨1, _⟩ => rfl
  have er : ridx_main_v4 (idx_main_v5 (idx_main_v6 y)) k = ix2 k (y 1) := by
    funext a
    match a with
    | ⟨0, _⟩ => rfl
    | ⟨1, _⟩ => rfl
  rw [el, er]
  rfl

end Cert.BranchReferenceIdeal.Value

namespace Cert.BranchEqual

open Idealize.ShloMosaic Idealize.ShloMosaic.TcCoe Idealize.SL.Sem

/-- From any arguments the kernel and the reference end with the same arrays. -/
theorem equal : Cert.algebraic_BranchIdeal_BranchReferenceIdeal := by
  intro m g m' g' _ ha
  refine ⟨Cert.BranchIdeal.Value.arr m, Cert.BranchIdeal.Value.value m g, ?_⟩
  refine (θ_run Cert.BranchReferenceIdeal.defs _ _).mono (fun r h c => ?_) (Cert.BranchReferenceIdeal.Value.run (F := Ideal) m' g')
  obtain ⟨hv0, hargs⟩ := h c
  obtain ⟨a0, a1⟩ := ha c
  exact ⟨hv0.trans (by rw [a0, a1]; exact (Cert.BranchReferenceIdeal.Read.val_main_v7_eq (F := Ideal) _ _).trans (funext fun y => Cert.BranchReferenceIdeal.Value.entry _ _ y)), hargs⟩

/-- The reference ends with its arguments unchanged and every counter at zero. -/
theorem frame_reference : Cert.quiescent_BranchReferenceIdeal := by
  intro m ρ _
  exact (θ_run Cert.BranchReferenceIdeal.defs _ _).mono (fun r h => ⟨fun c => (h c).2,
      Idealize.ShloMosaic.sem_eq_zero_of_no_sems (by decide) r.2⟩)
    (Cert.BranchReferenceIdeal.Value.run (F := Ideal) m ρ)

end Cert.BranchEqual

end
-- ==== Proof.FirstPiece0.lean ====
module

public import proofs.«01_k».proof.Proof.Rows
public import proofs.«01_k».proof.Proof.Gen.FirstIdeal.Frame
public import Idealize.ShloMosaic.Lib.Pointwise
public import Idealize.ShloMosaic.Lib.Claim
public import Idealize.ShloMosaic.Lib.Pipeline.Value

@[expose] public section

set_option maxRecDepth 16384

noncomputable section

/-! Piece 0 of a group of the input projection's weight gradient: its accumulator and the array it leaves. -/

namespace Cert.FirstIdeal.Piece0

open Idealize.ShloMosaic Idealize.ShloMosaic.TcCoe Idealize.ShloMosaic.Tactic Idealize.SL.Sem
open Idealize.ShloMosaic.Pipeline (Dat)
open Cert.FirstIdeal Cert.FirstIdeal.Gen Cert.Rows

variable (m : (ℓ : Loc nD τ sig) → Buf (Elt Ideal) ℓ) (ρ : Dev nD → PrngReg) (c : Dev nD)

/-- The cleared accumulator is zero. -/
theorem clear_zero (i : Fin 512) (j : Fin 1024) : k0_pay6 (F := Ideal) (ix2 i j) = 0 := by
  pointwise [k0_pay6]

/-- A tile's step: the accumulator and the product of the tile's rows. -/
theorem step_apply (xs : Vec Ideal S512x1024 .f32) (x0 : Vec Ideal S1024x512 .bf16) (x1 : Vec Ideal S1024x1024 .bf16)
    (i : Fin 512) (j : Fin 1024) :
    k0_pay10 (F := Ideal) xs x0 x1 (ix2 i j) = xs (ix2 i j) + ∑ r : Fin 1024, x0 (ix2 r i) * x1 (ix2 r j) := by
  pointwise [k0_pay10]

/-- The store at the end keeps the accumulator's numbers. -/
theorem store_apply (xs : Vec Ideal S512x1024 .f32) (i : Fin 512) (j : Fin 1024) :
    k0_pay2 (F := Ideal) xs (ix2 i j) = xs (ix2 i j) := by
  pointwise [k0_pay2]

variable {m c}

/-- What the first tile leaves in the accumulator. -/
theorem first_acc (t : Fin cfg0.N) (h0 : t.val % 8 = 0) (h1 : ¬t.val % 8 = 7) :
    (outsAt0 m c t.val t.isLt).2.2.2.2.1 = k0_pay10 (F := Ideal) (k0_pay6 (F := Ideal)) (iblk m c 0 t) (iblk m c 4 t) := by
  rw [outsAt0_A m c t h0 h1]
  dsimp only
  unfold sout0_A_0
  dsimp only
  rw [View.read_writes_eq_canon _ _ _ (scover0_A_0 c _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_4 t).read_unread, View.ld_unit_zero (S := S1024x512) corner, View.ld_unit_zero (S := S1024x1024) corner]
  rw [View.canon_cons_unit_zero (Val := Elt Ideal) (S := S512x1024) corner]
  exact congrArg (fun z => k0_pay10 (F := Ideal) z (iblk m c 0 t) (iblk m c 4 t)) (View.readCov_unit_zero (Val := Elt Ideal) (S := S512x1024) (View.whole cc0_scratch0) corner _ _)

/-- What a middle tile leaves in the accumulator. -/
theorem middle_acc (t : Fin cfg0.N) (h0 : ¬t.val % 8 = 0) (h1 : ¬t.val % 8 = 7) :
    (outsAt0 m c t.val t.isLt).2.2.2.2.1 = k0_pay10 (F := Ideal) (outsAt0 m c (t.val - 1) (Rows.prev t)).2.2.2.2.1 (iblk m c 0 t) (iblk m c 4 t) := by
  rw [outsAt0_B m c t h0 h1]
  dsimp only
  unfold sout0_B_0
  dsimp only
  rw [View.read_writes_eq_canon _ _ _ (scover0_B_0 c _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_4 t).read_unread, (Memref.isWhole_whole _).read_unread, View.ld_unit_zero (S := S1024x512) corner, View.ld_unit_zero (S := S1024x1024) corner, View.ld_unit_zero (S := S512x1024) corner]
  exact View.canon_cons_unit_zero (Val := Elt Ideal) (S := S512x1024) corner _ _ _

/-- What the last tile leaves in the output. -/
theorem last_out (t : Fin cfg0.N) (h0 : ¬t.val % 8 = 0) (h1 : t.val % 8 = 7) :
    (outsAt0 m c t.val t.isLt).1 = k0_pay2 (F := Ideal) (k0_pay10 (F := Ideal) (outsAt0 m c (t.val - 1) (Rows.prev t)).2.2.2.2.1 (iblk m c 0 t) (iblk m c 4 t)) := by
  rw [outsAt0_C m c t h0 h1]
  dsimp only
  unfold out0_C_5
  dsimp only
  rw [View.read_writes_eq_canon _ _ _ (cover0_C_5 c _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_0 t).read_unread, (hs0_4 t).read_unread, (Memref.isWhole_whole _).read_unread, View.ld_unit_zero (S := S1024x512) corner, View.ld_unit_zero (S := S1024x1024) corner, View.ld_unit_zero (S := S512x1024) corner]
  rw [View.canon_cons_unit_zero (Val := Elt Ideal) (S := S512x1024) corner]
  exact congrArg (k0_pay2 (F := Ideal)) (View.readCov_unit_zero (Val := Elt Ideal) (S := S512x1024) (View.whole cc0_scratch0) corner _ _)

theorem index_0 : ∀ t : Fin cfg0.N, win0_0.index t 0 = t.val := by decide +kernel
theorem index_1 : ∀ t : Fin cfg0.N, win0_4.index t 0 = t.val := by decide +kernel

theorem points (t : Fin cfg0.N) : t.val < 8 := lt_of_lt_of_eq t.isLt (show cfg0.N = 8 from N_0)

variable (m c)

/-- The left factor's tile holds rows of its array. -/
theorem tile_0 (t : Fin cfg0.N) (r : Fin 1024) (k : Fin 512) :
    iblk m c 0 t (ix2 r k) = m (c, main_arg0) (ix2 ⟨1024 * t.val + r, by have := points t; omega⟩ k) := by
  refine congrArg (m (c, main_arg0)) (funext fun a => Fin.ext ?_)
  match a with
  | ⟨0, _⟩ =>
    show win0_0.index t 0 * 1024 + 1 * r.val = 1024 * t.val + r
    rw [index_0]; omega
  | ⟨1, _⟩ => exact Rows.at0 _

/-- The right factor's tile holds rows of its array. -/
theorem tile_1 (t : Fin cfg0.N) (r : Fin 1024) (k : Fin 1024) :
    iblk m c 4 t (ix2 r k) = m (c, main_arg4) (ix2 ⟨1024 * t.val + r, by have := points t; omega⟩ k) := by
  refine congrArg (m (c, main_arg4)) (funext fun a => Fin.ext ?_)
  match a with
  | ⟨0, _⟩ =>
    show win0_4.index t 0 * 1024 + 1 * r.val = 1024 * t.val + r
    rw [index_1]; omega
  | ⟨1, _⟩ => exact Rows.at0 _

/-- The left factor as the region finds it. -/
def lhs : S8192x512.Idx → EReal := m (c, main_arg0)

/-- The right factor as the region finds it. -/
def rhs : S8192x1024.Idx → EReal := m (c, main_arg4)

/-- The weight gradient, as an array. -/
def arr : S512x1024.Idx → EReal := fun y => ∑ k : Fin 8192, lhs m c (ix2 k (y 0)) * rhs m c (ix2 k (y 1))

/-- What the last tile leaves in the output. -/
theorem out_val (t : Fin cfg0.N) (h7 : t.val = 7) (y : S512x1024.Idx) :
    (outsAt0 m c t.val t.isLt).1 y = arr m c y := by
  obtain ⟨i, j, rfl⟩ : ∃ (i : Fin 512) (j : Fin 1024), y = ix2 i j :=
    ⟨y 0, y 1, by funext a; match a with | ⟨0, _⟩ => rfl | ⟨1, _⟩ => rfl⟩
  refine Rows.total N_0 (fun k => lhs m c (ix2 k i) * rhs m c (ix2 k j))
    (fun t => ∑ r : Fin 1024, (show EReal from iblk m c 0 t (ix2 r i)) * (show EReal from iblk m c 4 t (ix2 r j)))
    (fun n hn => (outsAt0 m c n hn).2.2.2.2.1 (ix2 i j)) _
    (fun t => Finset.sum_congr rfl fun r _ => congrArg₂ (fun a b : EReal => a * b) (tile_0 m c t r i) (tile_1 m c t r j))
    (fun hn => (congrFun (first_acc (m := m) (c := c) ⟨0, hn⟩ (Nat.zero_mod _) (by show ¬0 % 8 = 7; omega)) (ix2 i j)).trans ?_)
    (fun n hn h => (congrFun (middle_acc (m := m) (c := c) ⟨n + 1, hn⟩ (by show ¬(n + 1) % 8 = 0; omega) (by show ¬(n + 1) % 8 = 7; omega)) (ix2 i j)).trans ?_)
    t h7 ((congrFun (last_out (m := m) (c := c) t (by omega) (by omega)) (ix2 i j)).trans ?_)
  · rw [step_apply, clear_zero, zero_add]
  · rw [step_apply]; rfl
  · rw [store_apply, step_apply]

theorem flushed (t : Fin cfg0.N) (ht : (cfg0.win 5).flush t = true) :
    (dats m 0 c).flushed 5 t = ((cfg0.win 5).blk t).view.read (Elt Ideal) (arr m c) := by
  have h7 : t.val = 7 := by
    have := (flush0_5 t).mp ht
    have := points t
    omega
  show (cfg0.win 5).cut (grid0.coords t) ((dats m 0 c).after 5 t) = _
  rw [after0_5]
  funext y
  refine (out_val m c t h7 y).trans ?_
  show _ = arr m c (((cfg0.win 5).blk t).view.emb y)
  refine congrArg (arr m c) (funext fun a => Fin.ext ?_)
  match a with
  | ⟨0, _⟩ => exact (Rows.at0 _).symm
  | ⟨1, _⟩ => exact (Rows.at0 _).symm

theorem box : ∀ t : Fin cfg0.N, win0_5.index t 0 * win0_5.size 0 = 0 ∧ win0_5.xsize (grid0.coords t) 0 = 512
    ∧ win0_5.index t 1 * win0_5.size 1 = 0 ∧ win0_5.xsize (grid0.coords t) 1 = 1024 := by decide +kernel

theorem cover (i : S512x1024.Idx) : ∃ t, (cfg0.win 5).flush t = true ∧ i ∈ ((cfg0.win 5).blk t).view.set := by
  have h0 : (i 0 : ℕ) < 512 := (i 0).isLt
  have h1 : (i 1 : ℕ) < 1024 := (i 1).isLt
  refine ⟨⟨7, lt_of_lt_of_eq (by omega) (show 8 = cfg0.N from N_0.symm)⟩, (flush0_5 _).mpr rfl, ?_⟩
  generalize (⟨7, _⟩ : Fin cfg0.N) = t
  show i ∈ ((View.whole main_v0_0).slice (win0_5.rect t)).set
  rw [View.set_slice_whole, Rect.mem_set_unit]
  obtain ⟨b0, b1, b2, b3⟩ := box t
  intro a
  match a with
  | ⟨0, _⟩ =>
    show win0_5.index t 0 * win0_5.size 0 ≤ (i 0 : ℕ) ∧ (i 0 : ℕ) < win0_5.index t 0 * win0_5.size 0 + win0_5.xsize (grid0.coords t) 0
    rw [b0, b1]; omega
  | ⟨1, _⟩ =>
    show win0_5.index t 1 * win0_5.size 1 ≤ (i 1 : ℕ) ∧ (i 1 : ℕ) < win0_5.index t 1 * win0_5.size 1 + win0_5.xsize (grid0.coords t) 1
    rw [b2, b3]; omega

theorem final : (dats m 0 c).arrAt 5 cfg0.N = arr m c :=
  Dat.arrAt_eq_of_cover (dats m 0 c) 5 (arr m c) (fun t ht => flushed m c t ht) cover

/-- The kernel's run leaves the result at the sum over all rows. -/
theorem output : θ_run defs (onTc (τ := τ) (main (F := Ideal))) ⟨m, fun _ => 0, ρ⟩ fun r => ∀ c : Dev nD,
      r.2.mem ((c.tc : Thread nD τ).loc main_v0_0) = arr m c :=
  (θ_run defs _ _).mono (fun _ h c => ((h c).1 5).trans (final m c)) (run_main m ρ)

end Cert.FirstIdeal.Piece0

end
-- ==== Proof.FirstPiece1.lean ====
module

public import proofs.«01_k».proof.Proof.Rows
public import proofs.«01_k».proof.Proof.Gen.FirstIdeal.Frame
public import Idealize.ShloMosaic.Lib.Pointwise
public import Idealize.ShloMosaic.Lib.Claim
public import Idealize.ShloMosaic.Lib.Pipeline.Value

@[expose] public section

set_option maxRecDepth 16384

noncomputable section

/-! Piece 1 of a group of the input projection's weight gradient: its accumulator and the array it leaves. -/

namespace Cert.FirstIdeal.Piece1

open Idealize.ShloMosaic Idealize.ShloMosaic.TcCoe Idealize.ShloMosaic.Tactic Idealize.SL.Sem
open Idealize.ShloMosaic.Pipeline (Dat)
open Cert.FirstIdeal Cert.FirstIdeal.Gen Cert.Rows

variable (m : (ℓ : Loc nD τ sig) → Buf (Elt Ideal) ℓ) (ρ : Dev nD → PrngReg) (c : Dev nD)

/-- The cleared accumulator is zero. -/
theorem clear_zero (i : Fin 256) (j : Fin 1024) : k0_pay7 (F := Ideal) (ix2 i j) = 0 := by
  pointwise [k0_pay7]

/-- A tile's step: the accumulator and the product of the tile's rows. -/
theorem step_apply (xs : Vec Ideal S256x1024 .f32) (x0 : Vec Ideal S1024x256 .bf16) (x1 : Vec Ideal S1024x1024 .bf16)
    (i : Fin 256) (j : Fin 1024) :
    k0_pay11 (F := Ideal) xs x0 x1 (ix2 i j) = xs (ix2 i j) + ∑ r : Fin 1024, x0 (ix2 r i) * x1 (ix2 r j) := by
  pointwise [k0_pay11]

/-- The store at the end keeps the accumulator's numbers. -/
theorem store_apply (xs : Vec Ideal S256x1024 .f32) (i : Fin 256) (j : Fin 1024) :
    k0_pay3 (F := Ideal) xs (ix2 i j) = xs (ix2 i j) := by
  pointwise [k0_pay3]

variable {m c}

/-- What the first tile leaves in the accumulator. -/
theorem first_acc (t : Fin cfg0.N) (h0 : t.val % 8 = 0) (h1 : ¬t.val % 8 = 7) :
    (outsAt0 m c t.val t.isLt).2.2.2.2.2.1 = k0_pay11 (F := Ideal) (k0_pay7 (F := Ideal)) (iblk m c 1 t) (iblk m c 4 t) := by
  rw [outsAt0_A m c t h0 h1]
  dsimp only
  unfold sout0_A_1
  dsimp only
  rw [View.read_writes_eq_canon _ _ _ (scover0_A_1 c _ _ _ _ _ _ _ _ _ _ _ _ _ _ _ _ _ _ _ _ _ _ _ _ _ _ _ _ _ _ _ _ _ _)]
  unfold kernelRun0_A
  dsimp only
  sl_unfold_words
  simp only [View.readAt_eq_ld, (hs0_1 t).read_unread, (hs0_4 t).read_unread, View.ld_unit_zero (S := S1024x256) corner, View.ld_unit_zero (S := S1024x1024) corner]
  rw [View.canon_cons_unit_zero (Val := Elt Ideal) (S := S256x1024) corner]
  exact congrArg (fun z => k0_pay11 (F := Ideal) z (iblk m c 1 t) (iblk m c 4 t)) (View.readCov_unit_zero (Val := Elt Ideal) (S := S256x1024) (View.whole cc0_scratch1) corner _ _)

/-- What a middle tile leaves in the accumulator. -/
theorem middle_acc (t : Fin cfg0.N) (h0 : ¬t.val % 8 = 0) (h1 : ¬t.val % 8 = 7) :
    (outsAt0 m c t.val t.isLt).2.2.2.2.2.1 = k0_pay11 (F := Ideal) (outsAt0 m c (t.val - 1) (Rows.prev t)).2.2.2.2.2.1 (iblk m c 1 t) (iblk m c 4 t) := by
  rw [outsAt0_B m c t h0 h1]
  dsimp only
  unfold sout0_B_1
  dsimp only
  rw [View.read_writes_eq_canon _ _ _ (scover0_B_1 c _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_1 t).read_unread, (hs0_4 t).read_unread, (Memref.isWhole_whole _).read_unread, View.ld_unit_zero (S := S1024x256) corner, View.ld_unit_zero (S := S1024x1024) corner, View.ld_unit_zero (S := S256x1024) corner]
  exact View.canon_cons_unit_zero (Val := Elt Ideal) (S := S256x1024) corner _ _ _

/-- What the last tile leaves in the output. -/
theorem last_out (t : Fin cfg0.N) (h0 : ¬t.val % 8 = 0) (h1 : t.val % 8 = 7) :
    (outsAt0 m c t.val t.isLt).2.1 = k0_pay3 (F := Ideal) (k0_pay11 (F := Ideal) (outsAt0 m c (t.val - 1) (Rows.prev t)).2.2.2.2.2.1 (iblk m c 1 t) (iblk m c 4 t)) := by
  rw [outsAt0_C m c t h0 h1]
  dsimp only
  unfold out0_C_6
  dsimp only
  rw [View.read_writes_eq_canon _ _ _ (cover0_C_6 c _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_1 t).read_unread, (hs0_4 t).read_unread, (Memref.isWhole_whole _).read_unread, View.ld_unit_zero (S := S1024x256) corner, View.ld_unit_zero (S := S1024x1024) corner, View.ld_unit_zero (S := S256x1024) corner]
  rw [View.canon_cons_unit_zero (Val := Elt Ideal) (S := S256x1024) corner]
  exact congrArg (k0_pay3 (F := Ideal)) (View.readCov_unit_zero (Val := Elt Ideal) (S := S256x1024) (View.whole cc0_scratch1) corner _ _)

theorem index_0 : ∀ t : Fin cfg0.N, win0_1.index t 0 = t.val := by decide +kernel
theorem index_1 : ∀ t : Fin cfg0.N, win0_4.index t 0 = t.val := by decide +kernel

theorem points (t : Fin cfg0.N) : t.val < 8 := lt_of_lt_of_eq t.isLt (show cfg0.N = 8 from N_0)

variable (m c)

/-- The left factor's tile holds rows of its array. -/
theorem tile_0 (t : Fin cfg0.N) (r : Fin 1024) (k : Fin 256) :
    iblk m c 1 t (ix2 r k) = m (c, main_arg1) (ix2 ⟨1024 * t.val + r, by have := points t; omega⟩ k) := by
  refine congrArg (m (c, main_arg1)) (funext fun a => Fin.ext ?_)
  match a with
  | ⟨0, _⟩ =>
    show win0_1.index t 0 * 1024 + 1 * r.val = 1024 * t.val + r
    rw [index_0]; omega
  | ⟨1, _⟩ => exact Rows.at0 _

/-- The right factor's tile holds rows of its array. -/
theorem tile_1 (t : Fin cfg0.N) (r : Fin 1024) (k : Fin 1024) :
    iblk m c 4 t (ix2 r k) = m (c, main_arg4) (ix2 ⟨1024 * t.val + r, by have := points t; omega⟩ k) := by
  refine congrArg (m (c, main_arg4)) (funext fun a => Fin.ext ?_)
  match a with
  | ⟨0, _⟩ =>
    show win0_4.index t 0 * 1024 + 1 * r.val = 1024 * t.val + r
    rw [index_1]; omega
  | ⟨1, _⟩ => exact Rows.at0 _

/-- The left factor as the region finds it. -/
def lhs : S8192x256.Idx → EReal := m (c, main_arg1)

/-- The right factor as the region finds it. -/
def rhs : S8192x1024.Idx → EReal := m (c, main_arg4)

/-- The weight gradient, as an array. -/
def arr : S256x1024.Idx → EReal := fun y => ∑ k : Fin 8192, lhs m c (ix2 k (y 0)) * rhs m c (ix2 k (y 1))

/-- What the last tile leaves in the output. -/
theorem out_val (t : Fin cfg0.N) (h7 : t.val = 7) (y : S256x1024.Idx) :
    (outsAt0 m c t.val t.isLt).2.1 y = arr m c y := by
  obtain ⟨i, j, rfl⟩ : ∃ (i : Fin 256) (j : Fin 1024), y = ix2 i j :=
    ⟨y 0, y 1, by funext a; match a with | ⟨0, _⟩ => rfl | ⟨1, _⟩ => rfl⟩
  refine Rows.total N_0 (fun k => lhs m c (ix2 k i) * rhs m c (ix2 k j))
    (fun t => ∑ r : Fin 1024, (show EReal from iblk m c 1 t (ix2 r i)) * (show EReal from iblk m c 4 t (ix2 r j)))
    (fun n hn => (outsAt0 m c n hn).2.2.2.2.2.1 (ix2 i j)) _
    (fun t => Finset.sum_congr rfl fun r _ => congrArg₂ (fun a b : EReal => a * b) (tile_0 m c t r i) (tile_1 m c t r j))
    (fun hn => (congrFun (first_acc (m := m) (c := c) ⟨0, hn⟩ (Nat.zero_mod _) (by show ¬0 % 8 = 7; omega)) (ix2 i j)).trans ?_)
    (fun n hn h => (congrFun (middle_acc (m := m) (c := c) ⟨n + 1, hn⟩ (by show ¬(n + 1) % 8 = 0; omega) (by show ¬(n + 1) % 8 = 7; omega)) (ix2 i j)).trans ?_)
    t h7 ((congrFun (last_out (m := m) (c := c) t (by omega) (by omega)) (ix2 i j)).trans ?_)
  · rw [step_apply, clear_zero, zero_add]
  · rw [step_apply]; rfl
  · rw [store_apply, step_apply]

theorem flushed (t : Fin cfg0.N) (ht : (cfg0.win 6).flush t = true) :
    (dats m 0 c).flushed 6 t = ((cfg0.win 6).blk t).view.read (Elt Ideal) (arr m c) := by
  have h7 : t.val = 7 := by
    have := (flush0_6 t).mp ht
    have := points t
    omega
  show (cfg0.win 6).cut (grid0.coords t) ((dats m 0 c).after 6 t) = _
  rw [after0_6]
  funext y
  refine (out_val m c t h7 y).trans ?_
  show _ = arr m c (((cfg0.win 6).blk t).view.emb y)
  refine congrArg (arr m c) (funext fun a => Fin.ext ?_)
  match a with
  | ⟨0, _⟩ => exact (Rows.at0 _).symm
  | ⟨1, _⟩ => exact (Rows.at0 _).symm

theorem box : ∀ t : Fin cfg0.N, win0_6.index t 0 * win0_6.size 0 = 0 ∧ win0_6.xsize (grid0.coords t) 0 = 256
    ∧ win0_6.index t 1 * win0_6.size 1 = 0 ∧ win0_6.xsize (grid0.coords t) 1 = 1024 := by decide +kernel

theorem cover (i : S256x1024.Idx) : ∃ t, (cfg0.win 6).flush t = true ∧ i ∈ ((cfg0.win 6).blk t).view.set := by
  have h0 : (i 0 : ℕ) < 256 := (i 0).isLt
  have h1 : (i 1 : ℕ) < 1024 := (i 1).isLt
  refine ⟨⟨7, lt_of_lt_of_eq (by omega) (show 8 = cfg0.N from N_0.symm)⟩, (flush0_6 _).mpr rfl, ?_⟩
  generalize (⟨7, _⟩ : Fin cfg0.N) = t
  show i ∈ ((View.whole main_v0_1).slice (win0_6.rect t)).set
  rw [View.set_slice_whole, Rect.mem_set_unit]
  obtain ⟨b0, b1, b2, b3⟩ := box t
  intro a
  match a with
  | ⟨0, _⟩ =>
    show win0_6.index t 0 * win0_6.size 0 ≤ (i 0 : ℕ) ∧ (i 0 : ℕ) < win0_6.index t 0 * win0_6.size 0 + win0_6.xsize (grid0.coords t) 0
    rw [b0, b1]; omega
  | ⟨1, _⟩ =>
    show win0_6.index t 1 * win0_6.size 1 ≤ (i 1 : ℕ) ∧ (i 1 : ℕ) < win0_6.index t 1 * win0_6.size 1 + win0_6.xsize (grid0.coords t) 1
    rw [b2, b3]; omega

theorem final : (dats m 0 c).arrAt 6 cfg0.N = arr m c :=
  Dat.arrAt_eq_of_cover (dats m 0 c) 6 (arr m c) (fun t ht => flushed m c t ht) cover

/-- The kernel's run leaves the result at the sum over all rows. -/
theorem output : θ_run defs (onTc (τ := τ) (main (F := Ideal))) ⟨m, fun _ => 0, ρ⟩ fun r => ∀ c : Dev nD,
      r.2.mem ((c.tc : Thread nD τ).loc main_v0_1) = arr m c :=
  (θ_run defs _ _).mono (fun _ h c => ((h c).1 6).trans (final m c)) (run_main m ρ)

end Cert.FirstIdeal.Piece1

end
-- ==== Proof.FirstPiece2.lean ====
module

public import proofs.«01_k».proof.Proof.Rows
public import proofs.«01_k».proof.Proof.Gen.FirstIdeal.Frame
public import Idealize.ShloMosaic.Lib.Pointwise
public import Idealize.ShloMosaic.Lib.Claim
public import Idealize.ShloMosaic.Lib.Pipeline.Value

@[expose] public section

set_option maxRecDepth 16384

noncomputable section

/-! Piece 2 of a group of the input projection's weight gradient: its accumulator and the array it leaves. -/

namespace Cert.FirstIdeal.Piece2

open Idealize.ShloMosaic Idealize.ShloMosaic.TcCoe Idealize.ShloMosaic.Tactic Idealize.SL.Sem
open Idealize.ShloMosaic.Pipeline (Dat)
open Cert.FirstIdeal Cert.FirstIdeal.Gen Cert.Rows

variable (m : (ℓ : Loc nD τ sig) → Buf (Elt Ideal) ℓ) (ρ : Dev nD → PrngReg) (c : Dev nD)

/-- The cleared accumulator is zero. -/
theorem clear_zero (i : Fin 1024) (j : Fin 1024) : k0_pay8 (F := Ideal) (ix2 i j) = 0 := by
  pointwise [k0_pay8]

/-- A tile's step: the accumulator and the product of the tile's rows. -/
theorem step_apply (xs : Vec Ideal S1024x1024 .f32) (x0 : Vec Ideal S1024x1024 .bf16) (x1 : Vec Ideal S1024x1024 .bf16)
    (i : Fin 1024) (j : Fin 1024) :
    k0_pay12 (F := Ideal) xs x0 x1 (ix2 i j) = xs (ix2 i j) + ∑ r : Fin 1024, x0 (ix2 r i) * x1 (ix2 r j) := by
  pointwise [k0_pay12]

/-- The store at the end keeps the accumulator's numbers. -/
theorem store_apply (xs : Vec Ideal S1024x1024 .f32) (i : Fin 1024) (j : Fin 1024) :
    k0_pay4 (F := Ideal) xs (ix2 i j) = xs (ix2 i j) := by
  pointwise [k0_pay4]

variable {m c}

/-- What the first tile leaves in the accumulator. -/
theorem first_acc (t : Fin cfg0.N) (h0 : t.val % 8 = 0) (h1 : ¬t.val % 8 = 7) :
    (outsAt0 m c t.val t.isLt).2.2.2.2.2.2.1 = k0_pay12 (F := Ideal) (k0_pay8 (F := Ideal)) (iblk m c 2 t) (iblk m c 4 t) := by
  rw [outsAt0_A m c t h0 h1]
  dsimp only
  unfold sout0_A_2
  dsimp only
  rw [View.read_writes_eq_canon _ _ _ (scover0_A_2 c _ _ _ _ _ _ _ _ _ _ _ _ _ _ _ _ _ _ _ _ _ _ _ _ _ _ _ _ _ _ _ _ _ _)]
  unfold kernelRun0_A
  dsimp only
  sl_unfold_words
  simp only [View.readAt_eq_ld, (hs0_2 t).read_unread, (hs0_4 t).read_unread, View.ld_unit_zero (S := S1024x1024) corner, View.ld_unit_zero (S := S1024x1024) corner]
  rw [View.canon_cons_unit_zero (Val := Elt Ideal) (S := S1024x1024) corner]
  exact congrArg (fun z => k0_pay12 (F := Ideal) z (iblk m c 2 t) (iblk m c 4 t)) (View.readCov_unit_zero (Val := Elt Ideal) (S := S1024x1024) (View.whole cc0_scratch2) corner _ _)

/-- What a middle tile leaves in the accumulator. -/
theorem middle_acc (t : Fin cfg0.N) (h0 : ¬t.val % 8 = 0) (h1 : ¬t.val % 8 = 7) :
    (outsAt0 m c t.val t.isLt).2.2.2.2.2.2.1 = k0_pay12 (F := Ideal) (outsAt0 m c (t.val - 1) (Rows.prev t)).2.2.2.2.2.2.1 (iblk m c 2 t) (iblk m c 4 t) := by
  rw [outsAt0_B m c t h0 h1]
  dsimp only
  unfold sout0_B_2
  dsimp only
  rw [View.read_writes_eq_canon _ _ _ (scover0_B_2 c _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_2 t).read_unread, (hs0_4 t).read_unread, (Memref.isWhole_whole _).read_unread, View.ld_unit_zero (S := S1024x1024) corner, View.ld_unit_zero (S := S1024x1024) corner, View.ld_unit_zero (S := S1024x1024) corner]
  exact View.canon_cons_unit_zero (Val := Elt Ideal) (S := S1024x1024) corner _ _ _

/-- What the last tile leaves in the output. -/
theorem last_out (t : Fin cfg0.N) (h0 : ¬t.val % 8 = 0) (h1 : t.val % 8 = 7) :
    (outsAt0 m c t.val t.isLt).2.2.1 = k0_pay4 (F := Ideal) (k0_pay12 (F := Ideal) (outsAt0 m c (t.val - 1) (Rows.prev t)).2.2.2.2.2.2.1 (iblk m c 2 t) (iblk m c 4 t)) := by
  rw [outsAt0_C m c t h0 h1]
  dsimp only
  unfold out0_C_7
  dsimp only
  rw [View.read_writes_eq_canon _ _ _ (cover0_C_7 c _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_2 t).read_unread, (hs0_4 t).read_unread, (Memref.isWhole_whole _).read_unread, View.ld_unit_zero (S := S1024x1024) corner, View.ld_unit_zero (S := S1024x1024) corner, View.ld_unit_zero (S := S1024x1024) corner]
  rw [View.canon_cons_unit_zero (Val := Elt Ideal) (S := S1024x1024) corner]
  exact congrArg (k0_pay4 (F := Ideal)) (View.readCov_unit_zero (Val := Elt Ideal) (S := S1024x1024) (View.whole cc0_scratch2) corner _ _)

theorem index_0 : ∀ t : Fin cfg0.N, win0_2.index t 0 = t.val := by decide +kernel
theorem index_1 : ∀ t : Fin cfg0.N, win0_4.index t 0 = t.val := by decide +kernel

theorem points (t : Fin cfg0.N) : t.val < 8 := lt_of_lt_of_eq t.isLt (show cfg0.N = 8 from N_0)

variable (m c)

/-- The left factor's tile holds rows of its array. -/
theorem tile_0 (t : Fin cfg0.N) (r : Fin 1024) (k : Fin 1024) :
    iblk m c 2 t (ix2 r k) = m (c, main_arg2) (ix2 ⟨1024 * t.val + r, by have := points t; omega⟩ k) := by
  refine congrArg (m (c, main_arg2)) (funext fun a => Fin.ext ?_)
  match a with
  | ⟨0, _⟩ =>
    show win0_2.index t 0 * 1024 + 1 * r.val = 1024 * t.val + r
    rw [index_0]; omega
  | ⟨1, _⟩ => exact Rows.at0 _

/-- The right factor's tile holds rows of its array. -/
theorem tile_1 (t : Fin cfg0.N) (r : Fin 1024) (k : Fin 1024) :
    iblk m c 4 t (ix2 r k) = m (c, main_arg4) (ix2 ⟨1024 * t.val + r, by have := points t; omega⟩ k) := by
  refine congrArg (m (c, main_arg4)) (funext fun a => Fin.ext ?_)
  match a with
  | ⟨0, _⟩ =>
    show win0_4.index t 0 * 1024 + 1 * r.val = 1024 * t.val + r
    rw [index_1]; omega
  | ⟨1, _⟩ => exact Rows.at0 _

/-- The left factor as the region finds it. -/
def lhs : S8192x1024.Idx → EReal := m (c, main_arg2)

/-- The right factor as the region finds it. -/
def rhs : S8192x1024.Idx → EReal := m (c, main_arg4)

/-- The weight gradient, as an array. -/
def arr : S1024x1024.Idx → EReal := fun y => ∑ k : Fin 8192, lhs m c (ix2 k (y 0)) * rhs m c (ix2 k (y 1))

/-- What the last tile leaves in the output. -/
theorem out_val (t : Fin cfg0.N) (h7 : t.val = 7) (y : S1024x1024.Idx) :
    (outsAt0 m c t.val t.isLt).2.2.1 y = arr m c y := by
  obtain ⟨i, j, rfl⟩ : ∃ (i : Fin 1024) (j : Fin 1024), y = ix2 i j :=
    ⟨y 0, y 1, by funext a; match a with | ⟨0, _⟩ => rfl | ⟨1, _⟩ => rfl⟩
  refine Rows.total N_0 (fun k => lhs m c (ix2 k i) * rhs m c (ix2 k j))
    (fun t => ∑ r : Fin 1024, (show EReal from iblk m c 2 t (ix2 r i)) * (show EReal from iblk m c 4 t (ix2 r j)))
    (fun n hn => (outsAt0 m c n hn).2.2.2.2.2.2.1 (ix2 i j)) _
    (fun t => Finset.sum_congr rfl fun r _ => congrArg₂ (fun a b : EReal => a * b) (tile_0 m c t r i) (tile_1 m c t r j))
    (fun hn => (congrFun (first_acc (m := m) (c := c) ⟨0, hn⟩ (Nat.zero_mod _) (by show ¬0 % 8 = 7; omega)) (ix2 i j)).trans ?_)
    (fun n hn h => (congrFun (middle_acc (m := m) (c := c) ⟨n + 1, hn⟩ (by show ¬(n + 1) % 8 = 0; omega) (by show ¬(n + 1) % 8 = 7; omega)) (ix2 i j)).trans ?_)
    t h7 ((congrFun (last_out (m := m) (c := c) t (by omega) (by omega)) (ix2 i j)).trans ?_)
  · rw [step_apply, clear_zero, zero_add]
  · rw [step_apply]; rfl
  · rw [store_apply, step_apply]

theorem flushed (t : Fin cfg0.N) (ht : (cfg0.win 7).flush t = true) :
    (dats m 0 c).flushed 7 t = ((cfg0.win 7).blk t).view.read (Elt Ideal) (arr m c) := by
  have h7 : t.val = 7 := by
    have := (flush0_7 t).mp ht
    have := points t
    omega
  show (cfg0.win 7).cut (grid0.coords t) ((dats m 0 c).after 7 t) = _
  rw [after0_7]
  funext y
  refine (out_val m c t h7 y).trans ?_
  show _ = arr m c (((cfg0.win 7).blk t).view.emb y)
  refine congrArg (arr m c) (funext fun a => Fin.ext ?_)
  match a with
  | ⟨0, _⟩ => exact (Rows.at0 _).symm
  | ⟨1, _⟩ => exact (Rows.at0 _).symm

theorem box : ∀ t : Fin cfg0.N, win0_7.index t 0 * win0_7.size 0 = 0 ∧ win0_7.xsize (grid0.coords t) 0 = 1024
    ∧ win0_7.index t 1 * win0_7.size 1 = 0 ∧ win0_7.xsize (grid0.coords t) 1 = 1024 := by decide +kernel

theorem cover (i : S1024x1024.Idx) : ∃ t, (cfg0.win 7).flush t = true ∧ i ∈ ((cfg0.win 7).blk t).view.set := by
  have h0 : (i 0 : ℕ) < 1024 := (i 0).isLt
  have h1 : (i 1 : ℕ) < 1024 := (i 1).isLt
  refine ⟨⟨7, lt_of_lt_of_eq (by omega) (show 8 = cfg0.N from N_0.symm)⟩, (flush0_7 _).mpr rfl, ?_⟩
  generalize (⟨7, _⟩ : Fin cfg0.N) = t
  show i ∈ ((View.whole main_v0_2).slice (win0_7.rect t)).set
  rw [View.set_slice_whole, Rect.mem_set_unit]
  obtain ⟨b0, b1, b2, b3⟩ := box t
  intro a
  match a with
  | ⟨0, _⟩ =>
    show win0_7.index t 0 * win0_7.size 0 ≤ (i 0 : ℕ) ∧ (i 0 : ℕ) < win0_7.index t 0 * win0_7.size 0 + win0_7.xsize (grid0.coords t) 0
    rw [b0, b1]; omega
  | ⟨1, _⟩ =>
    show win0_7.index t 1 * win0_7.size 1 ≤ (i 1 : ℕ) ∧ (i 1 : ℕ) < win0_7.index t 1 * win0_7.size 1 + win0_7.xsize (grid0.coords t) 1
    rw [b2, b3]; omega

theorem final : (dats m 0 c).arrAt 7 cfg0.N = arr m c :=
  Dat.arrAt_eq_of_cover (dats m 0 c) 7 (arr m c) (fun t ht => flushed m c t ht) cover

/-- The kernel's run leaves the result at the sum over all rows. -/
theorem output : θ_run defs (onTc (τ := τ) (main (F := Ideal))) ⟨m, fun _ => 0, ρ⟩ fun r => ∀ c : Dev nD,
      r.2.mem ((c.tc : Thread nD τ).loc main_v0_2) = arr m c :=
  (θ_run defs _ _).mono (fun _ h c => ((h c).1 7).trans (final m c)) (run_main m ρ)

end Cert.FirstIdeal.Piece2

end
-- ==== Proof.FirstPiece3.lean ====
module

public import proofs.«01_k».proof.Proof.Rows
public import proofs.«01_k».proof.Proof.Gen.FirstIdeal.Frame
public import Idealize.ShloMosaic.Lib.Pointwise
public import Idealize.ShloMosaic.Lib.Claim
public import Idealize.ShloMosaic.Lib.Pipeline.Value

@[expose] public section

set_option maxRecDepth 16384

noncomputable section

/-! Piece 3 of a group of the input projection's weight gradient: its accumulator and the array it leaves. -/

namespace Cert.FirstIdeal.Piece3

open Idealize.ShloMosaic Idealize.ShloMosaic.TcCoe Idealize.ShloMosaic.Tactic Idealize.SL.Sem
open Idealize.ShloMosaic.Pipeline (Dat)
open Cert.FirstIdeal Cert.FirstIdeal.Gen Cert.Rows

variable (m : (ℓ : Loc nD τ sig) → Buf (Elt Ideal) ℓ) (ρ : Dev nD → PrngReg) (c : Dev nD)

/-- The cleared accumulator is zero. -/
theorem clear_zero (i : Fin 512) (j : Fin 1024) : k0_pay9 (F := Ideal) (ix2 i j) = 0 := by
  pointwise [k0_pay9]

/-- A tile's step: the accumulator and the product of the tile's rows. -/
theorem step_apply (xs : Vec Ideal S512x1024 .f32) (x0 : Vec Ideal S1024x512 .bf16) (x1 : Vec Ideal S1024x1024 .bf16)
    (i : Fin 512) (j : Fin 1024) :
    k0_pay1 (F := Ideal) xs x0 x1 (ix2 i j) = xs (ix2 i j) + ∑ r : Fin 1024, x0 (ix2 r i) * x1 (ix2 r j) := by
  pointwise [k0_pay1]

/-- The store at the end keeps the accumulator's numbers. -/
theorem store_apply (xs : Vec Ideal S512x1024 .f32) (i : Fin 512) (j : Fin 1024) :
    k0_pay5 (F := Ideal) xs (ix2 i j) = xs (ix2 i j) := by
  pointwise [k0_pay5]

variable {m c}

/-- What the first tile leaves in the accumulator. -/
theorem first_acc (t : Fin cfg0.N) (h0 : t.val % 8 = 0) (h1 : ¬t.val % 8 = 7) :
    (outsAt0 m c t.val t.isLt).2.2.2.2.2.2.2 = k0_pay1 (F := Ideal) (k0_pay9 (F := Ideal)) (iblk m c 3 t) (iblk m c 4 t) := by
  rw [outsAt0_A m c t h0 h1]
  dsimp only
  unfold sout0_A_3
  dsimp only
  rw [View.read_writes_eq_canon _ _ _ (scover0_A_3 c _ _ _ _ _ _ _ _ _ _ _ _ _ _ _ _ _ _ _ _ _ _ _ _ _ _ _ _ _ _ _ _ _ _)]
  unfold kernelRun0_A
  dsimp only
  sl_unfold_words
  simp only [View.readAt_eq_ld, (hs0_3 t).read_unread, (hs0_4 t).read_unread, View.ld_unit_zero (S := S1024x512) corner, View.ld_unit_zero (S := S1024x1024) corner]
  rw [View.canon_cons_unit_zero (Val := Elt Ideal) (S := S512x1024) corner]
  exact congrArg (fun z => k0_pay1 (F := Ideal) z (iblk m c 3 t) (iblk m c 4 t)) (View.readCov_unit_zero (Val := Elt Ideal) (S := S512x1024) (View.whole cc0_scratch3) corner _ _)

/-- What a middle tile leaves in the accumulator. -/
theorem middle_acc (t : Fin cfg0.N) (h0 : ¬t.val % 8 = 0) (h1 : ¬t.val % 8 = 7) :
    (outsAt0 m c t.val t.isLt).2.2.2.2.2.2.2 = k0_pay1 (F := Ideal) (outsAt0 m c (t.val - 1) (Rows.prev t)).2.2.2.2.2.2.2 (iblk m c 3 t) (iblk m c 4 t) := by
  rw [outsAt0_B m c t h0 h1]
  dsimp only
  unfold sout0_B_3
  dsimp only
  rw [View.read_writes_eq_canon _ _ _ (scover0_B_3 c _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_3 t).read_unread, (hs0_4 t).read_unread, (Memref.isWhole_whole _).read_unread, View.ld_unit_zero (S := S1024x512) corner, View.ld_unit_zero (S := S1024x1024) corner, View.ld_unit_zero (S := S512x1024) corner]
  exact View.canon_cons_unit_zero (Val := Elt Ideal) (S := S512x1024) corner _ _ _

/-- What the last tile leaves in the output. -/
theorem last_out (t : Fin cfg0.N) (h0 : ¬t.val % 8 = 0) (h1 : t.val % 8 = 7) :
    (outsAt0 m c t.val t.isLt).2.2.2.1 = k0_pay5 (F := Ideal) (k0_pay1 (F := Ideal) (outsAt0 m c (t.val - 1) (Rows.prev t)).2.2.2.2.2.2.2 (iblk m c 3 t) (iblk m c 4 t)) := by
  rw [outsAt0_C m c t h0 h1]
  dsimp only
  unfold out0_C_8
  dsimp only
  rw [View.read_writes_eq_canon _ _ _ (cover0_C_8 c _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_3 t).read_unread, (hs0_4 t).read_unread, (Memref.isWhole_whole _).read_unread, View.ld_unit_zero (S := S1024x512) corner, View.ld_unit_zero (S := S1024x1024) corner, View.ld_unit_zero (S := S512x1024) corner]
  rw [View.canon_cons_unit_zero (Val := Elt Ideal) (S := S512x1024) corner]
  exact congrArg (k0_pay5 (F := Ideal)) (View.readCov_unit_zero (Val := Elt Ideal) (S := S512x1024) (View.whole cc0_scratch3) corner _ _)

theorem index_0 : ∀ t : Fin cfg0.N, win0_3.index t 0 = t.val := by decide +kernel
theorem index_1 : ∀ t : Fin cfg0.N, win0_4.index t 0 = t.val := by decide +kernel

theorem points (t : Fin cfg0.N) : t.val < 8 := lt_of_lt_of_eq t.isLt (show cfg0.N = 8 from N_0)

variable (m c)

/-- The left factor's tile holds rows of its array. -/
theorem tile_0 (t : Fin cfg0.N) (r : Fin 1024) (k : Fin 512) :
    iblk m c 3 t (ix2 r k) = m (c, main_arg3) (ix2 ⟨1024 * t.val + r, by have := points t; omega⟩ k) := by
  refine congrArg (m (c, main_arg3)) (funext fun a => Fin.ext ?_)
  match a with
  | ⟨0, _⟩ =>
    show win0_3.index t 0 * 1024 + 1 * r.val = 1024 * t.val + r
    rw [index_0]; omega
  | ⟨1, _⟩ => exact Rows.at0 _

/-- The right factor's tile holds rows of its array. -/
theorem tile_1 (t : Fin cfg0.N) (r : Fin 1024) (k : Fin 1024) :
    iblk m c 4 t (ix2 r k) = m (c, main_arg4) (ix2 ⟨1024 * t.val + r, by have := points t; omega⟩ k) := by
  refine congrArg (m (c, main_arg4)) (funext fun a => Fin.ext ?_)
  match a with
  | ⟨0, _⟩ =>
    show win0_4.index t 0 * 1024 + 1 * r.val = 1024 * t.val + r
    rw [index_1]; omega
  | ⟨1, _⟩ => exact Rows.at0 _

/-- The left factor as the region finds it. -/
def lhs : S8192x512.Idx → EReal := m (c, main_arg3)

/-- The right factor as the region finds it. -/
def rhs : S8192x1024.Idx → EReal := m (c, main_arg4)

/-- The weight gradient, as an array. -/
def arr : S512x1024.Idx → EReal := fun y => ∑ k : Fin 8192, lhs m c (ix2 k (y 0)) * rhs m c (ix2 k (y 1))

/-- What the last tile leaves in the output. -/
theorem out_val (t : Fin cfg0.N) (h7 : t.val = 7) (y : S512x1024.Idx) :
    (outsAt0 m c t.val t.isLt).2.2.2.1 y = arr m c y := by
  obtain ⟨i, j, rfl⟩ : ∃ (i : Fin 512) (j : Fin 1024), y = ix2 i j :=
    ⟨y 0, y 1, by funext a; match a with | ⟨0, _⟩ => rfl | ⟨1, _⟩ => rfl⟩
  refine Rows.total N_0 (fun k => lhs m c (ix2 k i) * rhs m c (ix2 k j))
    (fun t => ∑ r : Fin 1024, (show EReal from iblk m c 3 t (ix2 r i)) * (show EReal from iblk m c 4 t (ix2 r j)))
    (fun n hn => (outsAt0 m c n hn).2.2.2.2.2.2.2 (ix2 i j)) _
    (fun t => Finset.sum_congr rfl fun r _ => congrArg₂ (fun a b : EReal => a * b) (tile_0 m c t r i) (tile_1 m c t r j))
    (fun hn => (congrFun (first_acc (m := m) (c := c) ⟨0, hn⟩ (Nat.zero_mod _) (by show ¬0 % 8 = 7; omega)) (ix2 i j)).trans ?_)
    (fun n hn h => (congrFun (middle_acc (m := m) (c := c) ⟨n + 1, hn⟩ (by show ¬(n + 1) % 8 = 0; omega) (by show ¬(n + 1) % 8 = 7; omega)) (ix2 i j)).trans ?_)
    t h7 ((congrFun (last_out (m := m) (c := c) t (by omega) (by omega)) (ix2 i j)).trans ?_)
  · rw [step_apply, clear_zero, zero_add]
  · rw [step_apply]; rfl
  · rw [store_apply, step_apply]

theorem flushed (t : Fin cfg0.N) (ht : (cfg0.win 8).flush t = true) :
    (dats m 0 c).flushed 8 t = ((cfg0.win 8).blk t).view.read (Elt Ideal) (arr m c) := by
  have h7 : t.val = 7 := by
    have := (flush0_8 t).mp ht
    have := points t
    omega
  show (cfg0.win 8).cut (grid0.coords t) ((dats m 0 c).after 8 t) = _
  rw [after0_8]
  funext y
  refine (out_val m c t h7 y).trans ?_
  show _ = arr m c (((cfg0.win 8).blk t).view.emb y)
  refine congrArg (arr m c) (funext fun a => Fin.ext ?_)
  match a with
  | ⟨0, _⟩ => exact (Rows.at0 _).symm
  | ⟨1, _⟩ => exact (Rows.at0 _).symm

theorem box : ∀ t : Fin cfg0.N, win0_8.index t 0 * win0_8.size 0 = 0 ∧ win0_8.xsize (grid0.coords t) 0 = 512
    ∧ win0_8.index t 1 * win0_8.size 1 = 0 ∧ win0_8.xsize (grid0.coords t) 1 = 1024 := by decide +kernel

theorem cover (i : S512x1024.Idx) : ∃ t, (cfg0.win 8).flush t = true ∧ i ∈ ((cfg0.win 8).blk t).view.set := by
  have h0 : (i 0 : ℕ) < 512 := (i 0).isLt
  have h1 : (i 1 : ℕ) < 1024 := (i 1).isLt
  refine ⟨⟨7, lt_of_lt_of_eq (by omega) (show 8 = cfg0.N from N_0.symm)⟩, (flush0_8 _).mpr rfl, ?_⟩
  generalize (⟨7, _⟩ : Fin cfg0.N) = t
  show i ∈ ((View.whole main_v0_3).slice (win0_8.rect t)).set
  rw [View.set_slice_whole, Rect.mem_set_unit]
  obtain ⟨b0, b1, b2, b3⟩ := box t
  intro a
  match a with
  | ⟨0, _⟩ =>
    show win0_8.index t 0 * win0_8.size 0 ≤ (i 0 : ℕ) ∧ (i 0 : ℕ) < win0_8.index t 0 * win0_8.size 0 + win0_8.xsize (grid0.coords t) 0
    rw [b0, b1]; omega
  | ⟨1, _⟩ =>
    show win0_8.index t 1 * win0_8.size 1 ≤ (i 1 : ℕ) ∧ (i 1 : ℕ) < win0_8.index t 1 * win0_8.size 1 + win0_8.xsize (grid0.coords t) 1
    rw [b2, b3]; omega

theorem final : (dats m 0 c).arrAt 8 cfg0.N = arr m c :=
  Dat.arrAt_eq_of_cover (dats m 0 c) 8 (arr m c) (fun t ht => flushed m c t ht) cover

/-- The kernel's run leaves the result at the sum over all rows. -/
theorem output : θ_run defs (onTc (τ := τ) (main (F := Ideal))) ⟨m, fun _ => 0, ρ⟩ fun r => ∀ c : Dev nD,
      r.2.mem ((c.tc : Thread nD τ).loc main_v0_3) = arr m c :=
  (θ_run defs _ _).mono (fun _ h c => ((h c).1 8).trans (final m c)) (run_main m ρ)

end Cert.FirstIdeal.Piece3

end
-- ==== Proof.FirstValue.lean ====
module

public import proofs.«01_k».proof.Proof.FirstPiece0
public import proofs.«01_k».proof.Proof.FirstPiece1
public import proofs.«01_k».proof.Proof.FirstPiece2
public import proofs.«01_k».proof.Proof.FirstPiece3

@[expose] public section

set_option maxRecDepth 16384

noncomputable section

/-! A group of the input projection's weight gradient: every piece's array at the end of the run. -/

namespace Cert.FirstIdeal.Value

open Idealize.ShloMosaic Idealize.ShloMosaic.TcCoe Idealize.SL.Sem
open Cert.FirstIdeal Cert.FirstIdeal.Gen

variable (m : (ℓ : Loc nD τ sig) → Buf (Elt Ideal) ℓ) (ρ : Dev nD → PrngReg)

/-- The kernel's run, read: every result is its sum over all rows, the arguments unchanged. -/
theorem value : θ_run defs (onTc (τ := τ) (main (F := Ideal))) ⟨m, fun _ => 0, ρ⟩ fun r => ∀ c : Dev nD,
      r.2.mem ((c.tc : Thread nD τ).loc main_v0_0) = Piece0.arr m c
      ∧ r.2.mem ((c.tc : Thread nD τ).loc main_v0_1) = Piece1.arr m c
      ∧ r.2.mem ((c.tc : Thread nD τ).loc main_v0_2) = Piece2.arr m c
      ∧ r.2.mem ((c.tc : Thread nD τ).loc main_v0_3) = Piece3.arr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨h.1 c, h.2.1 c, h.2.2.1 c, h.2.2.2.1 c, h.2.2.2.2.1 c⟩)
    (θ_run_and (Piece0.output m ρ) (θ_run_and (Piece1.output m ρ) (θ_run_and (Piece2.output m ρ) (θ_run_and (Piece3.output m ρ) (frame m ρ)))))

end Cert.FirstIdeal.Value

end
-- ==== Proof.FirstEqual.lean ====
module

public import proofs.«01_k».proof.Defs
public import proofs.«01_k».proof.Proof.FirstValue
public import Idealize.ShloMosaic.Lib.Quiescent
public import proofs.«01_k».proof.Proof.Gen.FirstReferenceIdeal.Read

@[expose] public section

set_option maxRecDepth 16384

noncomputable section

/-! The kernel and the reference of a group of the input projection's weight gradient compute the same arrays. -/

namespace Cert.FirstReferenceIdeal.Value

open Idealize.ShloMosaic Idealize.ShloMosaic.TcCoe Idealize.SL.Sem
open Cert.FirstReferenceIdeal Cert.FirstReferenceIdeal.Gen Cert.FirstReferenceIdeal.Read

/-- The reference's result at an index: the sum over all rows. -/
theorem entry_0 (x0 : (⟨S8192x512, .bf16⟩ : BufTy).Contents (Elt Ideal)) (x4 : (⟨S8192x1024, .bf16⟩ : BufTy).Contents (Elt Ideal))
    (y : S512x1024.Idx) :
    val_main_v7 (F := Ideal) x0 x4 y
      = ∑ k : Fin 8192, (show EReal from x0 (ix2 k (y 0))) * (show EReal from x4 (ix2 k (y 1))) := by
  rw [val_main_v7_apply, val_main_v6_apply, val_main_v5_apply]
  refine (val_main_v4_apply x0 x4 (idx_main_v5 (idx_main_v6 y))).trans (Finset.sum_congr rfl fun k _ => ?_)
  have el : lidx_main_v4 (idx_main_v5 (idx_main_v6 y)) k = ix2 k (y 0) := by
    funext a
    match a with
    | ⟨0, _⟩ => rfl
    | ⟨1, _⟩ => rfl
  have er : ridx_main_v4 (idx_main_v5 (idx_main_v6 y)) k = ix2 k (y 1) := by
    funext a
    match a with
    | ⟨0, _⟩ => rfl
    | ⟨1, _⟩ => rfl
  rw [el, er]
  rfl

/-- The reference's result at an index: the sum over all rows. -/
theorem entry_1 (x1 : (⟨S8192x256, .bf16⟩ : BufTy).Contents (Elt Ideal)) (x4 : (⟨S8192x1024, .bf16⟩ : BufTy).Contents (Elt Ideal))
    (y : S256x1024.Idx) :
    val_main_v15 (F := Ideal) x1 x4 y
      = ∑ k : Fin 8192, (show EReal from x1 (ix2 k (y 0))) * (show EReal from x4 (ix2 k (y 1))) := by
  rw [val_main_v15_apply, val_main_v14_apply, val_main_v13_apply]
  refine (val_main_v12_apply x1 x4 (idx_main_v13 (idx_main_v14 y))).trans (Finset.sum_congr rfl fun k _ => ?_)
  have el : lidx_main_v12 (idx_main_v13 (idx_main_v14 y)) k = ix2 k (y 0) := by
    funext a
    match a with
    | ⟨0, _⟩ => rfl
    | ⟨1, _⟩ => rfl
  have er : ridx_main_v12 (idx_main_v13 (idx_main_v14 y)) k = ix2 k (y 1) := by
    funext a
    match a with
    | ⟨0, _⟩ => rfl
    | ⟨1, _⟩ => rfl
  rw [el, er]
  rfl

/-- The reference's result at an index: the sum over all rows. -/
theorem entry_2 (x2 : (⟨S8192x1024, .bf16⟩ : BufTy).Contents (Elt Ideal)) (x4 : (⟨S8192x1024, .bf16⟩ : BufTy).Contents (Elt Ideal))
    (y : S1024x1024.Idx) :
    val_main_v23 (F := Ideal) x2 x4 y
      = ∑ k : Fin 8192, (show EReal from x2 (ix2 k (y 0))) * (show EReal from x4 (ix2 k (y 1))) := by
  rw [val_main_v23_apply, val_main_v22_apply, val_main_v21_apply]
  refine (val_main_v20_apply x2 x4 (idx_main_v21 (idx_main_v22 y))).trans (Finset.sum_congr rfl fun k _ => ?_)
  have el : lidx_main_v20 (idx_main_v21 (idx_main_v22 y)) k = ix2 k (y 0) := by
    funext a
    match a with
    | ⟨0, _⟩ => rfl
    | ⟨1, _⟩ => rfl
  have er : ridx_main_v20 (idx_main_v21 (idx_main_v22 y)) k = ix2 k (y 1) := by
    funext a
    match a with
    | ⟨0, _⟩ => rfl
    | ⟨1, _⟩ => rfl
  rw [el, er]
  rfl

/-- The reference's result at an index: the sum over all rows. -/
theorem entry_3 (x3 : (⟨S8192x512, .bf16⟩ : BufTy).Contents (Elt Ideal)) (x4 : (⟨S8192x1024, .bf16⟩ : BufTy).Contents (Elt Ideal))
    (y : S512x1024.Idx) :
    val_main_v31 (F := Ideal) x3 x4 y
      = ∑ k : Fin 8192, (show EReal from x3 (ix2 k (y 0))) * (show EReal from x4 (ix2 k (y 1))) := by
  rw [val_main_v31_apply, val_main_v30_apply, val_main_v29_apply]
  refine (val_main_v28_apply x3 x4 (idx_main_v29 (idx_main_v30 y))).trans (Finset.sum_congr rfl fun k _ => ?_)
  have el : lidx_main_v28 (idx_main_v29 (idx_main_v30 y)) k = ix2 k (y 0) := by
    funext a
    match a with
    | ⟨0, _⟩ => rfl
    | ⟨1, _⟩ => rfl
  have er : ridx_main_v28 (idx_main_v29 (idx_main_v30 y)) k = ix2 k (y 1) := by
    funext a
    match a with
    | ⟨0, _⟩ => rfl
    | ⟨1, _⟩ => rfl
  rw [el, er]
  rfl

end Cert.FirstReferenceIdeal.Value

namespace Cert.FirstEqual

open Idealize.ShloMosaic Idealize.ShloMosaic.TcCoe Idealize.SL.Sem

/-- From any arguments the kernel and the reference end with the same arrays. -/
theorem equal : Cert.algebraic_FirstIdeal_FirstReferenceIdeal := by
  intro m g m' g' _ ha
  refine ⟨Cert.FirstIdeal.Piece0.arr m, Cert.FirstIdeal.Piece1.arr m, Cert.FirstIdeal.Piece2.arr m, Cert.FirstIdeal.Piece3.arr m, Cert.FirstIdeal.Value.value m g, ?_⟩
  refine (θ_run Cert.FirstReferenceIdeal.defs _ _).mono (fun r h c => ?_) (Cert.FirstReferenceIdeal.Value.run (F := Ideal) m' g')
  obtain ⟨hv0, hv1, hv2, hv3, hargs⟩ := h c
  obtain ⟨a0, a1, a2, a3, a4⟩ := ha c
  exact ⟨hv0.trans (by rw [a0, a4]; exact (Cert.FirstReferenceIdeal.Read.val_main_v7_eq (F := Ideal) _ _).trans (funext fun y => Cert.FirstReferenceIdeal.Value.entry_0 _ _ y)),
    hv1.trans (by rw [a1, a4]; exact (Cert.FirstReferenceIdeal.Read.val_main_v15_eq (F := Ideal) _ _).trans (funext fun y => Cert.FirstReferenceIdeal.Value.entry_1 _ _ y)),
    hv2.trans (by rw [a2, a4]; exact (Cert.FirstReferenceIdeal.Read.val_main_v23_eq (F := Ideal) _ _).trans (funext fun y => Cert.FirstReferenceIdeal.Value.entry_2 _ _ y)),
    hv3.trans (by rw [a3, a4]; exact (Cert.FirstReferenceIdeal.Read.val_main_v31_eq (F := Ideal) _ _).trans (funext fun y => Cert.FirstReferenceIdeal.Value.entry_3 _ _ y)), hargs⟩

/-- The reference ends with its arguments unchanged and every counter at zero. -/
theorem frame_reference : Cert.quiescent_FirstReferenceIdeal := by
  intro m ρ _
  exact (θ_run Cert.FirstReferenceIdeal.defs _ _).mono (fun r h => ⟨fun c => (h c).2.2.2.2,
      Idealize.ShloMosaic.sem_eq_zero_of_no_sems (by decide) r.2⟩)
    (Cert.FirstReferenceIdeal.Value.run (F := Ideal) m ρ)

end Cert.FirstEqual

end
-- ==== Proof.LastPiece0.lean ====
module

public import proofs.«01_k».proof.Proof.Rows
public import proofs.«01_k».proof.Proof.Gen.LastIdeal.Frame
public import Idealize.ShloMosaic.Lib.Pointwise
public import Idealize.ShloMosaic.Lib.Claim
public import Idealize.ShloMosaic.Lib.Pipeline.Value

@[expose] public section

set_option maxRecDepth 16384

noncomputable section

/-! Piece 0 of a group of the input projection's weight gradient: its accumulator and the array it leaves. -/

namespace Cert.LastIdeal.Piece0

open Idealize.ShloMosaic Idealize.ShloMosaic.TcCoe Idealize.ShloMosaic.Tactic Idealize.SL.Sem
open Idealize.ShloMosaic.Pipeline (Dat)
open Cert.LastIdeal Cert.LastIdeal.Gen Cert.Rows

variable (m : (ℓ : Loc nD τ sig) → Buf (Elt Ideal) ℓ) (ρ : Dev nD → PrngReg) (c : Dev nD)

/-- The cleared accumulator is zero. -/
theorem clear_zero (i : Fin 512) (j : Fin 1024) : k0_pay6 (F := Ideal) (ix2 i j) = 0 := by
  pointwise [k0_pay6]

/-- A tile's step: the accumulator and the product of the tile's rows. -/
theorem step_apply (xs : Vec Ideal S512x1024 .f32) (x0 : Vec Ideal S1024x512 .bf16) (x1 : Vec Ideal S1024x1024 .bf16)
    (i : Fin 512) (j : Fin 1024) :
    k0_pay10 (F := Ideal) xs x0 x1 (ix2 i j) = xs (ix2 i j) + ∑ r : Fin 1024, x0 (ix2 r i) * x1 (ix2 r j) := by
  pointwise [k0_pay10]

/-- The store at the end keeps the accumulator's numbers. -/
theorem store_apply (xs : Vec Ideal S512x1024 .f32) (i : Fin 512) (j : Fin 1024) :
    k0_pay2 (F := Ideal) xs (ix2 i j) = xs (ix2 i j) := by
  pointwise [k0_pay2]

variable {m c}

/-- What the first tile leaves in the accumulator. -/
theorem first_acc (t : Fin cfg0.N) (h0 : t.val % 8 = 0) (h1 : ¬t.val % 8 = 7) :
    (outsAt0 m c t.val t.isLt).2.2.2.2.1 = k0_pay10 (F := Ideal) (k0_pay6 (F := Ideal)) (iblk m c 0 t) (iblk m c 4 t) := by
  rw [outsAt0_A m c t h0 h1]
  dsimp only
  unfold sout0_A_0
  dsimp only
  rw [View.read_writes_eq_canon _ _ _ (scover0_A_0 c _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_4 t).read_unread, View.ld_unit_zero (S := S1024x512) corner, View.ld_unit_zero (S := S1024x1024) corner]
  rw [View.canon_cons_unit_zero (Val := Elt Ideal) (S := S512x1024) corner]
  exact congrArg (fun z => k0_pay10 (F := Ideal) z (iblk m c 0 t) (iblk m c 4 t)) (View.readCov_unit_zero (Val := Elt Ideal) (S := S512x1024) (View.whole cc0_scratch0) corner _ _)

/-- What a middle tile leaves in the accumulator. -/
theorem middle_acc (t : Fin cfg0.N) (h0 : ¬t.val % 8 = 0) (h1 : ¬t.val % 8 = 7) :
    (outsAt0 m c t.val t.isLt).2.2.2.2.1 = k0_pay10 (F := Ideal) (outsAt0 m c (t.val - 1) (Rows.prev t)).2.2.2.2.1 (iblk m c 0 t) (iblk m c 4 t) := by
  rw [outsAt0_B m c t h0 h1]
  dsimp only
  unfold sout0_B_0
  dsimp only
  rw [View.read_writes_eq_canon _ _ _ (scover0_B_0 c _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_4 t).read_unread, (Memref.isWhole_whole _).read_unread, View.ld_unit_zero (S := S1024x512) corner, View.ld_unit_zero (S := S1024x1024) corner, View.ld_unit_zero (S := S512x1024) corner]
  exact View.canon_cons_unit_zero (Val := Elt Ideal) (S := S512x1024) corner _ _ _

/-- What the last tile leaves in the output. -/
theorem last_out (t : Fin cfg0.N) (h0 : ¬t.val % 8 = 0) (h1 : t.val % 8 = 7) :
    (outsAt0 m c t.val t.isLt).1 = k0_pay2 (F := Ideal) (k0_pay10 (F := Ideal) (outsAt0 m c (t.val - 1) (Rows.prev t)).2.2.2.2.1 (iblk m c 0 t) (iblk m c 4 t)) := by
  rw [outsAt0_C m c t h0 h1]
  dsimp only
  unfold out0_C_5
  dsimp only
  rw [View.read_writes_eq_canon _ _ _ (cover0_C_5 c _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_0 t).read_unread, (hs0_4 t).read_unread, (Memref.isWhole_whole _).read_unread, View.ld_unit_zero (S := S1024x512) corner, View.ld_unit_zero (S := S1024x1024) corner, View.ld_unit_zero (S := S512x1024) corner]
  rw [View.canon_cons_unit_zero (Val := Elt Ideal) (S := S512x1024) corner]
  exact congrArg (k0_pay2 (F := Ideal)) (View.readCov_unit_zero (Val := Elt Ideal) (S := S512x1024) (View.whole cc0_scratch0) corner _ _)

theorem index_0 : ∀ t : Fin cfg0.N, win0_0.index t 0 = t.val := by decide +kernel
theorem index_1 : ∀ t : Fin cfg0.N, win0_4.index t 0 = t.val := by decide +kernel

theorem points (t : Fin cfg0.N) : t.val < 8 := lt_of_lt_of_eq t.isLt (show cfg0.N = 8 from N_0)

variable (m c)

/-- The left factor's tile holds rows of its array. -/
theorem tile_0 (t : Fin cfg0.N) (r : Fin 1024) (k : Fin 512) :
    iblk m c 0 t (ix2 r k) = m (c, main_arg0) (ix2 ⟨1024 * t.val + r, by have := points t; omega⟩ k) := by
  refine congrArg (m (c, main_arg0)) (funext fun a => Fin.ext ?_)
  match a with
  | ⟨0, _⟩ =>
    show win0_0.index t 0 * 1024 + 1 * r.val = 1024 * t.val + r
    rw [index_0]; omega
  | ⟨1, _⟩ => exact Rows.at0 _

/-- The right factor's tile holds rows of its array. -/
theorem tile_1 (t : Fin cfg0.N) (r : Fin 1024) (k : Fin 1024) :
    iblk m c 4 t (ix2 r k) = m (c, main_arg4) (ix2 ⟨1024 * t.val + r, by have := points t; omega⟩ k) := by
  refine congrArg (m (c, main_arg4)) (funext fun a => Fin.ext ?_)
  match a with
  | ⟨0, _⟩ =>
    show win0_4.index t 0 * 1024 + 1 * r.val = 1024 * t.val + r
    rw [index_1]; omega
  | ⟨1, _⟩ => exact Rows.at0 _

/-- The left factor as the region finds it. -/
def lhs : S8192x512.Idx → EReal := m (c, main_arg0)

/-- The right factor as the region finds it. -/
def rhs : S8192x1024.Idx → EReal := m (c, main_arg4)

/-- The weight gradient, as an array. -/
def arr : S512x1024.Idx → EReal := fun y => ∑ k : Fin 8192, lhs m c (ix2 k (y 0)) * rhs m c (ix2 k (y 1))

/-- What the last tile leaves in the output. -/
theorem out_val (t : Fin cfg0.N) (h7 : t.val = 7) (y : S512x1024.Idx) :
    (outsAt0 m c t.val t.isLt).1 y = arr m c y := by
  obtain ⟨i, j, rfl⟩ : ∃ (i : Fin 512) (j : Fin 1024), y = ix2 i j :=
    ⟨y 0, y 1, by funext a; match a with | ⟨0, _⟩ => rfl | ⟨1, _⟩ => rfl⟩
  refine Rows.total N_0 (fun k => lhs m c (ix2 k i) * rhs m c (ix2 k j))
    (fun t => ∑ r : Fin 1024, (show EReal from iblk m c 0 t (ix2 r i)) * (show EReal from iblk m c 4 t (ix2 r j)))
    (fun n hn => (outsAt0 m c n hn).2.2.2.2.1 (ix2 i j)) _
    (fun t => Finset.sum_congr rfl fun r _ => congrArg₂ (fun a b : EReal => a * b) (tile_0 m c t r i) (tile_1 m c t r j))
    (fun hn => (congrFun (first_acc (m := m) (c := c) ⟨0, hn⟩ (Nat.zero_mod _) (by show ¬0 % 8 = 7; omega)) (ix2 i j)).trans ?_)
    (fun n hn h => (congrFun (middle_acc (m := m) (c := c) ⟨n + 1, hn⟩ (by show ¬(n + 1) % 8 = 0; omega) (by show ¬(n + 1) % 8 = 7; omega)) (ix2 i j)).trans ?_)
    t h7 ((congrFun (last_out (m := m) (c := c) t (by omega) (by omega)) (ix2 i j)).trans ?_)
  · rw [step_apply, clear_zero, zero_add]
  · rw [step_apply]; rfl
  · rw [store_apply, step_apply]

theorem flushed (t : Fin cfg0.N) (ht : (cfg0.win 5).flush t = true) :
    (dats m 0 c).flushed 5 t = ((cfg0.win 5).blk t).view.read (Elt Ideal) (arr m c) := by
  have h7 : t.val = 7 := by
    have := (flush0_5 t).mp ht
    have := points t
    omega
  show (cfg0.win 5).cut (grid0.coords t) ((dats m 0 c).after 5 t) = _
  rw [after0_5]
  funext y
  refine (out_val m c t h7 y).trans ?_
  show _ = arr m c (((cfg0.win 5).blk t).view.emb y)
  refine congrArg (arr m c) (funext fun a => Fin.ext ?_)
  match a with
  | ⟨0, _⟩ => exact (Rows.at0 _).symm
  | ⟨1, _⟩ => exact (Rows.at0 _).symm

theorem box : ∀ t : Fin cfg0.N, win0_5.index t 0 * win0_5.size 0 = 0 ∧ win0_5.xsize (grid0.coords t) 0 = 512
    ∧ win0_5.index t 1 * win0_5.size 1 = 0 ∧ win0_5.xsize (grid0.coords t) 1 = 1024 := by decide +kernel

theorem cover (i : S512x1024.Idx) : ∃ t, (cfg0.win 5).flush t = true ∧ i ∈ ((cfg0.win 5).blk t).view.set := by
  have h0 : (i 0 : ℕ) < 512 := (i 0).isLt
  have h1 : (i 1 : ℕ) < 1024 := (i 1).isLt
  refine ⟨⟨7, lt_of_lt_of_eq (by omega) (show 8 = cfg0.N from N_0.symm)⟩, (flush0_5 _).mpr rfl, ?_⟩
  generalize (⟨7, _⟩ : Fin cfg0.N) = t
  show i ∈ ((View.whole main_v0_0).slice (win0_5.rect t)).set
  rw [View.set_slice_whole, Rect.mem_set_unit]
  obtain ⟨b0, b1, b2, b3⟩ := box t
  intro a
  match a with
  | ⟨0, _⟩ =>
    show win0_5.index t 0 * win0_5.size 0 ≤ (i 0 : ℕ) ∧ (i 0 : ℕ) < win0_5.index t 0 * win0_5.size 0 + win0_5.xsize (grid0.coords t) 0
    rw [b0, b1]; omega
  | ⟨1, _⟩ =>
    show win0_5.index t 1 * win0_5.size 1 ≤ (i 1 : ℕ) ∧ (i 1 : ℕ) < win0_5.index t 1 * win0_5.size 1 + win0_5.xsize (grid0.coords t) 1
    rw [b2, b3]; omega

theorem final : (dats m 0 c).arrAt 5 cfg0.N = arr m c :=
  Dat.arrAt_eq_of_cover (dats m 0 c) 5 (arr m c) (fun t ht => flushed m c t ht) cover

/-- The kernel's run leaves the result at the sum over all rows. -/
theorem output : θ_run defs (onTc (τ := τ) (main (F := Ideal))) ⟨m, fun _ => 0, ρ⟩ fun r => ∀ c : Dev nD,
      r.2.mem ((c.tc : Thread nD τ).loc main_v0_0) = arr m c :=
  (θ_run defs _ _).mono (fun _ h c => ((h c).1 5).trans (final m c)) (run_main m ρ)

end Cert.LastIdeal.Piece0

end
-- ==== Proof.LastPiece1.lean ====
module

public import proofs.«01_k».proof.Proof.Rows
public import proofs.«01_k».proof.Proof.Gen.LastIdeal.Frame
public import Idealize.ShloMosaic.Lib.Pointwise
public import Idealize.ShloMosaic.Lib.Claim
public import Idealize.ShloMosaic.Lib.Pipeline.Value

@[expose] public section

set_option maxRecDepth 16384

noncomputable section

/-! Piece 1 of a group of the input projection's weight gradient: its accumulator and the array it leaves. -/

namespace Cert.LastIdeal.Piece1

open Idealize.ShloMosaic Idealize.ShloMosaic.TcCoe Idealize.ShloMosaic.Tactic Idealize.SL.Sem
open Idealize.ShloMosaic.Pipeline (Dat)
open Cert.LastIdeal Cert.LastIdeal.Gen Cert.Rows

variable (m : (ℓ : Loc nD τ sig) → Buf (Elt Ideal) ℓ) (ρ : Dev nD → PrngReg) (c : Dev nD)

/-- The cleared accumulator is zero. -/
theorem clear_zero (i : Fin 128) (j : Fin 1024) : k0_pay7 (F := Ideal) (ix2 i j) = 0 := by
  pointwise [k0_pay7]

/-- A tile's step: the accumulator and the product of the tile's rows. -/
theorem step_apply (xs : Vec Ideal S128x1024 .f32) (x0 : Vec Ideal S1024x128 .bf16) (x1 : Vec Ideal S1024x1024 .bf16)
    (i : Fin 128) (j : Fin 1024) :
    k0_pay11 (F := Ideal) xs x0 x1 (ix2 i j) = xs (ix2 i j) + ∑ r : Fin 1024, x0 (ix2 r i) * x1 (ix2 r j) := by
  pointwise [k0_pay11]

/-- The store at the end keeps the accumulator's numbers. -/
theorem store_apply (xs : Vec Ideal S128x1024 .f32) (i : Fin 128) (j : Fin 1024) :
    k0_pay3 (F := Ideal) xs (ix2 i j) = xs (ix2 i j) := by
  pointwise [k0_pay3]

variable {m c}

/-- What the first tile leaves in the accumulator. -/
theorem first_acc (t : Fin cfg0.N) (h0 : t.val % 8 = 0) (h1 : ¬t.val % 8 = 7) :
    (outsAt0 m c t.val t.isLt).2.2.2.2.2.1 = k0_pay11 (F := Ideal) (k0_pay7 (F := Ideal)) (iblk m c 1 t) (iblk m c 4 t) := by
  rw [outsAt0_A m c t h0 h1]
  dsimp only
  unfold sout0_A_1
  dsimp only
  rw [View.read_writes_eq_canon _ _ _ (scover0_A_1 c _ _ _ _ _ _ _ _ _ _ _ _ _ _ _ _ _ _ _ _ _ _ _ _ _ _ _ _ _ _ _ _ _ _)]
  unfold kernelRun0_A
  dsimp only
  sl_unfold_words
  simp only [View.readAt_eq_ld, (hs0_1 t).read_unread, (hs0_4 t).read_unread, View.ld_unit_zero (S := S1024x128) corner, View.ld_unit_zero (S := S1024x1024) corner]
  rw [View.canon_cons_unit_zero (Val := Elt Ideal) (S := S128x1024) corner]
  exact congrArg (fun z => k0_pay11 (F := Ideal) z (iblk m c 1 t) (iblk m c 4 t)) (View.readCov_unit_zero (Val := Elt Ideal) (S := S128x1024) (View.whole cc0_scratch1) corner _ _)

/-- What a middle tile leaves in the accumulator. -/
theorem middle_acc (t : Fin cfg0.N) (h0 : ¬t.val % 8 = 0) (h1 : ¬t.val % 8 = 7) :
    (outsAt0 m c t.val t.isLt).2.2.2.2.2.1 = k0_pay11 (F := Ideal) (outsAt0 m c (t.val - 1) (Rows.prev t)).2.2.2.2.2.1 (iblk m c 1 t) (iblk m c 4 t) := by
  rw [outsAt0_B m c t h0 h1]
  dsimp only
  unfold sout0_B_1
  dsimp only
  rw [View.read_writes_eq_canon _ _ _ (scover0_B_1 c _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_1 t).read_unread, (hs0_4 t).read_unread, (Memref.isWhole_whole _).read_unread, View.ld_unit_zero (S := S1024x128) corner, View.ld_unit_zero (S := S1024x1024) corner, View.ld_unit_zero (S := S128x1024) corner]
  exact View.canon_cons_unit_zero (Val := Elt Ideal) (S := S128x1024) corner _ _ _

/-- What the last tile leaves in the output. -/
theorem last_out (t : Fin cfg0.N) (h0 : ¬t.val % 8 = 0) (h1 : t.val % 8 = 7) :
    (outsAt0 m c t.val t.isLt).2.1 = k0_pay3 (F := Ideal) (k0_pay11 (F := Ideal) (outsAt0 m c (t.val - 1) (Rows.prev t)).2.2.2.2.2.1 (iblk m c 1 t) (iblk m c 4 t)) := by
  rw [outsAt0_C m c t h0 h1]
  dsimp only
  unfold out0_C_6
  dsimp only
  rw [View.read_writes_eq_canon _ _ _ (cover0_C_6 c _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_1 t).read_unread, (hs0_4 t).read_unread, (Memref.isWhole_whole _).read_unread, View.ld_unit_zero (S := S1024x128) corner, View.ld_unit_zero (S := S1024x1024) corner, View.ld_unit_zero (S := S128x1024) corner]
  rw [View.canon_cons_unit_zero (Val := Elt Ideal) (S := S128x1024) corner]
  exact congrArg (k0_pay3 (F := Ideal)) (View.readCov_unit_zero (Val := Elt Ideal) (S := S128x1024) (View.whole cc0_scratch1) corner _ _)

theorem index_0 : ∀ t : Fin cfg0.N, win0_1.index t 0 = t.val := by decide +kernel
theorem index_1 : ∀ t : Fin cfg0.N, win0_4.index t 0 = t.val := by decide +kernel

theorem points (t : Fin cfg0.N) : t.val < 8 := lt_of_lt_of_eq t.isLt (show cfg0.N = 8 from N_0)

variable (m c)

/-- The left factor's tile holds rows of its array. -/
theorem tile_0 (t : Fin cfg0.N) (r : Fin 1024) (k : Fin 128) :
    iblk m c 1 t (ix2 r k) = m (c, main_arg1) (ix2 ⟨1024 * t.val + r, by have := points t; omega⟩ k) := by
  refine congrArg (m (c, main_arg1)) (funext fun a => Fin.ext ?_)
  match a with
  | ⟨0, _⟩ =>
    show win0_1.index t 0 * 1024 + 1 * r.val = 1024 * t.val + r
    rw [index_0]; omega
  | ⟨1, _⟩ => exact Rows.at0 _

/-- The right factor's tile holds rows of its array. -/
theorem tile_1 (t : Fin cfg0.N) (r : Fin 1024) (k : Fin 1024) :
    iblk m c 4 t (ix2 r k) = m (c, main_arg4) (ix2 ⟨1024 * t.val + r, by have := points t; omega⟩ k) := by
  refine congrArg (m (c, main_arg4)) (funext fun a => Fin.ext ?_)
  match a with
  | ⟨0, _⟩ =>
    show win0_4.index t 0 * 1024 + 1 * r.val = 1024 * t.val + r
    rw [index_1]; omega
  | ⟨1, _⟩ => exact Rows.at0 _

/-- The left factor as the region finds it. -/
def lhs : S8192x128.Idx → EReal := m (c, main_arg1)

/-- The right factor as the region finds it. -/
def rhs : S8192x1024.Idx → EReal := m (c, main_arg4)

/-- The weight gradient, as an array. -/
def arr : S128x1024.Idx → EReal := fun y => ∑ k : Fin 8192, lhs m c (ix2 k (y 0)) * rhs m c (ix2 k (y 1))

/-- What the last tile leaves in the output. -/
theorem out_val (t : Fin cfg0.N) (h7 : t.val = 7) (y : S128x1024.Idx) :
    (outsAt0 m c t.val t.isLt).2.1 y = arr m c y := by
  obtain ⟨i, j, rfl⟩ : ∃ (i : Fin 128) (j : Fin 1024), y = ix2 i j :=
    ⟨y 0, y 1, by funext a; match a with | ⟨0, _⟩ => rfl | ⟨1, _⟩ => rfl⟩
  refine Rows.total N_0 (fun k => lhs m c (ix2 k i) * rhs m c (ix2 k j))
    (fun t => ∑ r : Fin 1024, (show EReal from iblk m c 1 t (ix2 r i)) * (show EReal from iblk m c 4 t (ix2 r j)))
    (fun n hn => (outsAt0 m c n hn).2.2.2.2.2.1 (ix2 i j)) _
    (fun t => Finset.sum_congr rfl fun r _ => congrArg₂ (fun a b : EReal => a * b) (tile_0 m c t r i) (tile_1 m c t r j))
    (fun hn => (congrFun (first_acc (m := m) (c := c) ⟨0, hn⟩ (Nat.zero_mod _) (by show ¬0 % 8 = 7; omega)) (ix2 i j)).trans ?_)
    (fun n hn h => (congrFun (middle_acc (m := m) (c := c) ⟨n + 1, hn⟩ (by show ¬(n + 1) % 8 = 0; omega) (by show ¬(n + 1) % 8 = 7; omega)) (ix2 i j)).trans ?_)
    t h7 ((congrFun (last_out (m := m) (c := c) t (by omega) (by omega)) (ix2 i j)).trans ?_)
  · rw [step_apply, clear_zero, zero_add]
  · rw [step_apply]; rfl
  · rw [store_apply, step_apply]

theorem flushed (t : Fin cfg0.N) (ht : (cfg0.win 6).flush t = true) :
    (dats m 0 c).flushed 6 t = ((cfg0.win 6).blk t).view.read (Elt Ideal) (arr m c) := by
  have h7 : t.val = 7 := by
    have := (flush0_6 t).mp ht
    have := points t
    omega
  show (cfg0.win 6).cut (grid0.coords t) ((dats m 0 c).after 6 t) = _
  rw [after0_6]
  funext y
  refine (out_val m c t h7 y).trans ?_
  show _ = arr m c (((cfg0.win 6).blk t).view.emb y)
  refine congrArg (arr m c) (funext fun a => Fin.ext ?_)
  match a with
  | ⟨0, _⟩ => exact (Rows.at0 _).symm
  | ⟨1, _⟩ => exact (Rows.at0 _).symm

theorem box : ∀ t : Fin cfg0.N, win0_6.index t 0 * win0_6.size 0 = 0 ∧ win0_6.xsize (grid0.coords t) 0 = 128
    ∧ win0_6.index t 1 * win0_6.size 1 = 0 ∧ win0_6.xsize (grid0.coords t) 1 = 1024 := by decide +kernel

theorem cover (i : S128x1024.Idx) : ∃ t, (cfg0.win 6).flush t = true ∧ i ∈ ((cfg0.win 6).blk t).view.set := by
  have h0 : (i 0 : ℕ) < 128 := (i 0).isLt
  have h1 : (i 1 : ℕ) < 1024 := (i 1).isLt
  refine ⟨⟨7, lt_of_lt_of_eq (by omega) (show 8 = cfg0.N from N_0.symm)⟩, (flush0_6 _).mpr rfl, ?_⟩
  generalize (⟨7, _⟩ : Fin cfg0.N) = t
  show i ∈ ((View.whole main_v0_1).slice (win0_6.rect t)).set
  rw [View.set_slice_whole, Rect.mem_set_unit]
  obtain ⟨b0, b1, b2, b3⟩ := box t
  intro a
  match a with
  | ⟨0, _⟩ =>
    show win0_6.index t 0 * win0_6.size 0 ≤ (i 0 : ℕ) ∧ (i 0 : ℕ) < win0_6.index t 0 * win0_6.size 0 + win0_6.xsize (grid0.coords t) 0
    rw [b0, b1]; omega
  | ⟨1, _⟩ =>
    show win0_6.index t 1 * win0_6.size 1 ≤ (i 1 : ℕ) ∧ (i 1 : ℕ) < win0_6.index t 1 * win0_6.size 1 + win0_6.xsize (grid0.coords t) 1
    rw [b2, b3]; omega

theorem final : (dats m 0 c).arrAt 6 cfg0.N = arr m c :=
  Dat.arrAt_eq_of_cover (dats m 0 c) 6 (arr m c) (fun t ht => flushed m c t ht) cover

/-- The kernel's run leaves the result at the sum over all rows. -/
theorem output : θ_run defs (onTc (τ := τ) (main (F := Ideal))) ⟨m, fun _ => 0, ρ⟩ fun r => ∀ c : Dev nD,
      r.2.mem ((c.tc : Thread nD τ).loc main_v0_1) = arr m c :=
  (θ_run defs _ _).mono (fun _ h c => ((h c).1 6).trans (final m c)) (run_main m ρ)

end Cert.LastIdeal.Piece1

end
-- ==== Proof.LastPiece2.lean ====
module

public import proofs.«01_k».proof.Proof.Rows
public import proofs.«01_k».proof.Proof.Gen.LastIdeal.Frame
public import Idealize.ShloMosaic.Lib.Pointwise
public import Idealize.ShloMosaic.Lib.Claim
public import Idealize.ShloMosaic.Lib.Pipeline.Value

@[expose] public section

set_option maxRecDepth 16384

noncomputable section

/-! Piece 2 of a group of the input projection's weight gradient: its accumulator and the array it leaves. -/

namespace Cert.LastIdeal.Piece2

open Idealize.ShloMosaic Idealize.ShloMosaic.TcCoe Idealize.ShloMosaic.Tactic Idealize.SL.Sem
open Idealize.ShloMosaic.Pipeline (Dat)
open Cert.LastIdeal Cert.LastIdeal.Gen Cert.Rows

variable (m : (ℓ : Loc nD τ sig) → Buf (Elt Ideal) ℓ) (ρ : Dev nD → PrngReg) (c : Dev nD)

/-- The cleared accumulator is zero. -/
theorem clear_zero (i : Fin 1024) (j : Fin 1024) : k0_pay8 (F := Ideal) (ix2 i j) = 0 := by
  pointwise [k0_pay8]

/-- A tile's step: the accumulator and the product of the tile's rows. -/
theorem step_apply (xs : Vec Ideal S1024x1024 .f32) (x0 : Vec Ideal S1024x1024 .bf16) (x1 : Vec Ideal S1024x1024 .bf16)
    (i : Fin 1024) (j : Fin 1024) :
    k0_pay12 (F := Ideal) xs x0 x1 (ix2 i j) = xs (ix2 i j) + ∑ r : Fin 1024, x0 (ix2 r i) * x1 (ix2 r j) := by
  pointwise [k0_pay12]

/-- The store at the end keeps the accumulator's numbers. -/
theorem store_apply (xs : Vec Ideal S1024x1024 .f32) (i : Fin 1024) (j : Fin 1024) :
    k0_pay4 (F := Ideal) xs (ix2 i j) = xs (ix2 i j) := by
  pointwise [k0_pay4]

variable {m c}

/-- What the first tile leaves in the accumulator. -/
theorem first_acc (t : Fin cfg0.N) (h0 : t.val % 8 = 0) (h1 : ¬t.val % 8 = 7) :
    (outsAt0 m c t.val t.isLt).2.2.2.2.2.2.1 = k0_pay12 (F := Ideal) (k0_pay8 (F := Ideal)) (iblk m c 2 t) (iblk m c 4 t) := by
  rw [outsAt0_A m c t h0 h1]
  dsimp only
  unfold sout0_A_2
  dsimp only
  rw [View.read_writes_eq_canon _ _ _ (scover0_A_2 c _ _ _ _ _ _ _ _ _ _ _ _ _ _ _ _ _ _ _ _ _ _ _ _ _ _ _ _ _ _ _ _ _ _)]
  unfold kernelRun0_A
  dsimp only
  sl_unfold_words
  simp only [View.readAt_eq_ld, (hs0_2 t).read_unread, (hs0_4 t).read_unread, View.ld_unit_zero (S := S1024x1024) corner, View.ld_unit_zero (S := S1024x1024) corner]
  rw [View.canon_cons_unit_zero (Val := Elt Ideal) (S := S1024x1024) corner]
  exact congrArg (fun z => k0_pay12 (F := Ideal) z (iblk m c 2 t) (iblk m c 4 t)) (View.readCov_unit_zero (Val := Elt Ideal) (S := S1024x1024) (View.whole cc0_scratch2) corner _ _)

/-- What a middle tile leaves in the accumulator. -/
theorem middle_acc (t : Fin cfg0.N) (h0 : ¬t.val % 8 = 0) (h1 : ¬t.val % 8 = 7) :
    (outsAt0 m c t.val t.isLt).2.2.2.2.2.2.1 = k0_pay12 (F := Ideal) (outsAt0 m c (t.val - 1) (Rows.prev t)).2.2.2.2.2.2.1 (iblk m c 2 t) (iblk m c 4 t) := by
  rw [outsAt0_B m c t h0 h1]
  dsimp only
  unfold sout0_B_2
  dsimp only
  rw [View.read_writes_eq_canon _ _ _ (scover0_B_2 c _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_2 t).read_unread, (hs0_4 t).read_unread, (Memref.isWhole_whole _).read_unread, View.ld_unit_zero (S := S1024x1024) corner, View.ld_unit_zero (S := S1024x1024) corner, View.ld_unit_zero (S := S1024x1024) corner]
  exact View.canon_cons_unit_zero (Val := Elt Ideal) (S := S1024x1024) corner _ _ _

/-- What the last tile leaves in the output. -/
theorem last_out (t : Fin cfg0.N) (h0 : ¬t.val % 8 = 0) (h1 : t.val % 8 = 7) :
    (outsAt0 m c t.val t.isLt).2.2.1 = k0_pay4 (F := Ideal) (k0_pay12 (F := Ideal) (outsAt0 m c (t.val - 1) (Rows.prev t)).2.2.2.2.2.2.1 (iblk m c 2 t) (iblk m c 4 t)) := by
  rw [outsAt0_C m c t h0 h1]
  dsimp only
  unfold out0_C_7
  dsimp only
  rw [View.read_writes_eq_canon _ _ _ (cover0_C_7 c _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_2 t).read_unread, (hs0_4 t).read_unread, (Memref.isWhole_whole _).read_unread, View.ld_unit_zero (S := S1024x1024) corner, View.ld_unit_zero (S := S1024x1024) corner, View.ld_unit_zero (S := S1024x1024) corner]
  rw [View.canon_cons_unit_zero (Val := Elt Ideal) (S := S1024x1024) corner]
  exact congrArg (k0_pay4 (F := Ideal)) (View.readCov_unit_zero (Val := Elt Ideal) (S := S1024x1024) (View.whole cc0_scratch2) corner _ _)

theorem index_0 : ∀ t : Fin cfg0.N, win0_2.index t 0 = t.val := by decide +kernel
theorem index_1 : ∀ t : Fin cfg0.N, win0_4.index t 0 = t.val := by decide +kernel

theorem points (t : Fin cfg0.N) : t.val < 8 := lt_of_lt_of_eq t.isLt (show cfg0.N = 8 from N_0)

variable (m c)

/-- The left factor's tile holds rows of its array. -/
theorem tile_0 (t : Fin cfg0.N) (r : Fin 1024) (k : Fin 1024) :
    iblk m c 2 t (ix2 r k) = m (c, main_arg2) (ix2 ⟨1024 * t.val + r, by have := points t; omega⟩ k) := by
  refine congrArg (m (c, main_arg2)) (funext fun a => Fin.ext ?_)
  match a with
  | ⟨0, _⟩ =>
    show win0_2.index t 0 * 1024 + 1 * r.val = 1024 * t.val + r
    rw [index_0]; omega
  | ⟨1, _⟩ => exact Rows.at0 _

/-- The right factor's tile holds rows of its array. -/
theorem tile_1 (t : Fin cfg0.N) (r : Fin 1024) (k : Fin 1024) :
    iblk m c 4 t (ix2 r k) = m (c, main_arg4) (ix2 ⟨1024 * t.val + r, by have := points t; omega⟩ k) := by
  refine congrArg (m (c, main_arg4)) (funext fun a => Fin.ext ?_)
  match a with
  | ⟨0, _⟩ =>
    show win0_4.index t 0 * 1024 + 1 * r.val = 1024 * t.val + r
    rw [index_1]; omega
  | ⟨1, _⟩ => exact Rows.at0 _

/-- The left factor as the region finds it. -/
def lhs : S8192x1024.Idx → EReal := m (c, main_arg2)

/-- The right factor as the region finds it. -/
def rhs : S8192x1024.Idx → EReal := m (c, main_arg4)

/-- The weight gradient, as an array. -/
def arr : S1024x1024.Idx → EReal := fun y => ∑ k : Fin 8192, lhs m c (ix2 k (y 0)) * rhs m c (ix2 k (y 1))

/-- What the last tile leaves in the output. -/
theorem out_val (t : Fin cfg0.N) (h7 : t.val = 7) (y : S1024x1024.Idx) :
    (outsAt0 m c t.val t.isLt).2.2.1 y = arr m c y := by
  obtain ⟨i, j, rfl⟩ : ∃ (i : Fin 1024) (j : Fin 1024), y = ix2 i j :=
    ⟨y 0, y 1, by funext a; match a with | ⟨0, _⟩ => rfl | ⟨1, _⟩ => rfl⟩
  refine Rows.total N_0 (fun k => lhs m c (ix2 k i) * rhs m c (ix2 k j))
    (fun t => ∑ r : Fin 1024, (show EReal from iblk m c 2 t (ix2 r i)) * (show EReal from iblk m c 4 t (ix2 r j)))
    (fun n hn => (outsAt0 m c n hn).2.2.2.2.2.2.1 (ix2 i j)) _
    (fun t => Finset.sum_congr rfl fun r _ => congrArg₂ (fun a b : EReal => a * b) (tile_0 m c t r i) (tile_1 m c t r j))
    (fun hn => (congrFun (first_acc (m := m) (c := c) ⟨0, hn⟩ (Nat.zero_mod _) (by show ¬0 % 8 = 7; omega)) (ix2 i j)).trans ?_)
    (fun n hn h => (congrFun (middle_acc (m := m) (c := c) ⟨n + 1, hn⟩ (by show ¬(n + 1) % 8 = 0; omega) (by show ¬(n + 1) % 8 = 7; omega)) (ix2 i j)).trans ?_)
    t h7 ((congrFun (last_out (m := m) (c := c) t (by omega) (by omega)) (ix2 i j)).trans ?_)
  · rw [step_apply, clear_zero, zero_add]
  · rw [step_apply]; rfl
  · rw [store_apply, step_apply]

theorem flushed (t : Fin cfg0.N) (ht : (cfg0.win 7).flush t = true) :
    (dats m 0 c).flushed 7 t = ((cfg0.win 7).blk t).view.read (Elt Ideal) (arr m c) := by
  have h7 : t.val = 7 := by
    have := (flush0_7 t).mp ht
    have := points t
    omega
  show (cfg0.win 7).cut (grid0.coords t) ((dats m 0 c).after 7 t) = _
  rw [after0_7]
  funext y
  refine (out_val m c t h7 y).trans ?_
  show _ = arr m c (((cfg0.win 7).blk t).view.emb y)
  refine congrArg (arr m c) (funext fun a => Fin.ext ?_)
  match a with
  | ⟨0, _⟩ => exact (Rows.at0 _).symm
  | ⟨1, _⟩ => exact (Rows.at0 _).symm

theorem box : ∀ t : Fin cfg0.N, win0_7.index t 0 * win0_7.size 0 = 0 ∧ win0_7.xsize (grid0.coords t) 0 = 1024
    ∧ win0_7.index t 1 * win0_7.size 1 = 0 ∧ win0_7.xsize (grid0.coords t) 1 = 1024 := by decide +kernel

theorem cover (i : S1024x1024.Idx) : ∃ t, (cfg0.win 7).flush t = true ∧ i ∈ ((cfg0.win 7).blk t).view.set := by
  have h0 : (i 0 : ℕ) < 1024 := (i 0).isLt
  have h1 : (i 1 : ℕ) < 1024 := (i 1).isLt
  refine ⟨⟨7, lt_of_lt_of_eq (by omega) (show 8 = cfg0.N from N_0.symm)⟩, (flush0_7 _).mpr rfl, ?_⟩
  generalize (⟨7, _⟩ : Fin cfg0.N) = t
  show i ∈ ((View.whole main_v0_2).slice (win0_7.rect t)).set
  rw [View.set_slice_whole, Rect.mem_set_unit]
  obtain ⟨b0, b1, b2, b3⟩ := box t
  intro a
  match a with
  | ⟨0, _⟩ =>
    show win0_7.index t 0 * win0_7.size 0 ≤ (i 0 : ℕ) ∧ (i 0 : ℕ) < win0_7.index t 0 * win0_7.size 0 + win0_7.xsize (grid0.coords t) 0
    rw [b0, b1]; omega
  | ⟨1, _⟩ =>
    show win0_7.index t 1 * win0_7.size 1 ≤ (i 1 : ℕ) ∧ (i 1 : ℕ) < win0_7.index t 1 * win0_7.size 1 + win0_7.xsize (grid0.coords t) 1
    rw [b2, b3]; omega

theorem final : (dats m 0 c).arrAt 7 cfg0.N = arr m c :=
  Dat.arrAt_eq_of_cover (dats m 0 c) 7 (arr m c) (fun t ht => flushed m c t ht) cover

/-- The kernel's run leaves the result at the sum over all rows. -/
theorem output : θ_run defs (onTc (τ := τ) (main (F := Ideal))) ⟨m, fun _ => 0, ρ⟩ fun r => ∀ c : Dev nD,
      r.2.mem ((c.tc : Thread nD τ).loc main_v0_2) = arr m c :=
  (θ_run defs _ _).mono (fun _ h c => ((h c).1 7).trans (final m c)) (run_main m ρ)

end Cert.LastIdeal.Piece2

end
-- ==== Proof.LastPiece3.lean ====
module

public import proofs.«01_k».proof.Proof.Rows
public import proofs.«01_k».proof.Proof.Gen.LastIdeal.Frame
public import Idealize.ShloMosaic.Lib.Pointwise
public import Idealize.ShloMosaic.Lib.Claim
public import Idealize.ShloMosaic.Lib.Pipeline.Value

@[expose] public section

set_option maxRecDepth 16384

noncomputable section

/-! Piece 3 of a group of the input projection's weight gradient: its accumulator and the array it leaves. -/

namespace Cert.LastIdeal.Piece3

open Idealize.ShloMosaic Idealize.ShloMosaic.TcCoe Idealize.ShloMosaic.Tactic Idealize.SL.Sem
open Idealize.ShloMosaic.Pipeline (Dat)
open Cert.LastIdeal Cert.LastIdeal.Gen Cert.Rows

variable (m : (ℓ : Loc nD τ sig) → Buf (Elt Ideal) ℓ) (ρ : Dev nD → PrngReg) (c : Dev nD)

/-- The cleared accumulator is zero. -/
theorem clear_zero (i : Fin 1024) (j : Fin 1024) : k0_pay9 (F := Ideal) (ix2 i j) = 0 := by
  pointwise [k0_pay9]

/-- A tile's step: the accumulator and the product of the tile's rows. -/
theorem step_apply (xs : Vec Ideal S1024x1024 .f32) (x0 : Vec Ideal S1024x1024 .bf16) (x1 : Vec Ideal S1024x1024 .bf16)
    (i : Fin 1024) (j : Fin 1024) :
    k0_pay1 (F := Ideal) xs x0 x1 (ix2 i j) = xs (ix2 i j) + ∑ r : Fin 1024, x0 (ix2 r i) * x1 (ix2 r j) := by
  pointwise [k0_pay1]

/-- The store at the end keeps the accumulator's numbers. -/
theorem store_apply (xs : Vec Ideal S1024x1024 .f32) (i : Fin 1024) (j : Fin 1024) :
    k0_pay5 (F := Ideal) xs (ix2 i j) = xs (ix2 i j) := by
  pointwise [k0_pay5]

variable {m c}

/-- What the first tile leaves in the accumulator. -/
theorem first_acc (t : Fin cfg0.N) (h0 : t.val % 8 = 0) (h1 : ¬t.val % 8 = 7) :
    (outsAt0 m c t.val t.isLt).2.2.2.2.2.2.2 = k0_pay1 (F := Ideal) (k0_pay9 (F := Ideal)) (iblk m c 3 t) (iblk m c 4 t) := by
  rw [outsAt0_A m c t h0 h1]
  dsimp only
  unfold sout0_A_3
  dsimp only
  rw [View.read_writes_eq_canon _ _ _ (scover0_A_3 c _ _ _ _ _ _ _ _ _ _ _ _ _ _ _ _ _ _ _ _ _ _ _ _ _ _ _ _ _ _ _ _ _ _)]
  unfold kernelRun0_A
  dsimp only
  sl_unfold_words
  simp only [View.readAt_eq_ld, (hs0_3 t).read_unread, (hs0_4 t).read_unread, View.ld_unit_zero (S := S1024x1024) corner, View.ld_unit_zero (S := S1024x1024) corner]
  rw [View.canon_cons_unit_zero (Val := Elt Ideal) (S := S1024x1024) corner]
  exact congrArg (fun z => k0_pay1 (F := Ideal) z (iblk m c 3 t) (iblk m c 4 t)) (View.readCov_unit_zero (Val := Elt Ideal) (S := S1024x1024) (View.whole cc0_scratch3) corner _ _)

/-- What a middle tile leaves in the accumulator. -/
theorem middle_acc (t : Fin cfg0.N) (h0 : ¬t.val % 8 = 0) (h1 : ¬t.val % 8 = 7) :
    (outsAt0 m c t.val t.isLt).2.2.2.2.2.2.2 = k0_pay1 (F := Ideal) (outsAt0 m c (t.val - 1) (Rows.prev t)).2.2.2.2.2.2.2 (iblk m c 3 t) (iblk m c 4 t) := by
  rw [outsAt0_B m c t h0 h1]
  dsimp only
  unfold sout0_B_3
  dsimp only
  rw [View.read_writes_eq_canon _ _ _ (scover0_B_3 c _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_3 t).read_unread, (hs0_4 t).read_unread, (Memref.isWhole_whole _).read_unread, View.ld_unit_zero (S := S1024x1024) corner, View.ld_unit_zero (S := S1024x1024) corner, View.ld_unit_zero (S := S1024x1024) corner]
  exact View.canon_cons_unit_zero (Val := Elt Ideal) (S := S1024x1024) corner _ _ _

/-- What the last tile leaves in the output. -/
theorem last_out (t : Fin cfg0.N) (h0 : ¬t.val % 8 = 0) (h1 : t.val % 8 = 7) :
    (outsAt0 m c t.val t.isLt).2.2.2.1 = k0_pay5 (F := Ideal) (k0_pay1 (F := Ideal) (outsAt0 m c (t.val - 1) (Rows.prev t)).2.2.2.2.2.2.2 (iblk m c 3 t) (iblk m c 4 t)) := by
  rw [outsAt0_C m c t h0 h1]
  dsimp only
  unfold out0_C_8
  dsimp only
  rw [View.read_writes_eq_canon _ _ _ (cover0_C_8 c _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_3 t).read_unread, (hs0_4 t).read_unread, (Memref.isWhole_whole _).read_unread, View.ld_unit_zero (S := S1024x1024) corner, View.ld_unit_zero (S := S1024x1024) corner, View.ld_unit_zero (S := S1024x1024) corner]
  rw [View.canon_cons_unit_zero (Val := Elt Ideal) (S := S1024x1024) corner]
  exact congrArg (k0_pay5 (F := Ideal)) (View.readCov_unit_zero (Val := Elt Ideal) (S := S1024x1024) (View.whole cc0_scratch3) corner _ _)

theorem index_0 : ∀ t : Fin cfg0.N, win0_3.index t 0 = t.val := by decide +kernel
theorem index_1 : ∀ t : Fin cfg0.N, win0_4.index t 0 = t.val := by decide +kernel

theorem points (t : Fin cfg0.N) : t.val < 8 := lt_of_lt_of_eq t.isLt (show cfg0.N = 8 from N_0)

variable (m c)

/-- The left factor's tile holds rows of its array. -/
theorem tile_0 (t : Fin cfg0.N) (r : Fin 1024) (k : Fin 1024) :
    iblk m c 3 t (ix2 r k) = m (c, main_arg3) (ix2 ⟨1024 * t.val + r, by have := points t; omega⟩ k) := by
  refine congrArg (m (c, main_arg3)) (funext fun a => Fin.ext ?_)
  match a with
  | ⟨0, _⟩ =>
    show win0_3.index t 0 * 1024 + 1 * r.val = 1024 * t.val + r
    rw [index_0]; omega
  | ⟨1, _⟩ => exact Rows.at0 _

/-- The right factor's tile holds rows of its array. -/
theorem tile_1 (t : Fin cfg0.N) (r : Fin 1024) (k : Fin 1024) :
    iblk m c 4 t (ix2 r k) = m (c, main_arg4) (ix2 ⟨1024 * t.val + r, by have := points t; omega⟩ k) := by
  refine congrArg (m (c, main_arg4)) (funext fun a => Fin.ext ?_)
  match a with
  | ⟨0, _⟩ =>
    show win0_4.index t 0 * 1024 + 1 * r.val = 1024 * t.val + r
    rw [index_1]; omega
  | ⟨1, _⟩ => exact Rows.at0 _

/-- The left factor as the region finds it. -/
def lhs : S8192x1024.Idx → EReal := m (c, main_arg3)

/-- The right factor as the region finds it. -/
def rhs : S8192x1024.Idx → EReal := m (c, main_arg4)

/-- The weight gradient, as an array. -/
def arr : S1024x1024.Idx → EReal := fun y => ∑ k : Fin 8192, lhs m c (ix2 k (y 0)) * rhs m c (ix2 k (y 1))

/-- What the last tile leaves in the output. -/
theorem out_val (t : Fin cfg0.N) (h7 : t.val = 7) (y : S1024x1024.Idx) :
    (outsAt0 m c t.val t.isLt).2.2.2.1 y = arr m c y := by
  obtain ⟨i, j, rfl⟩ : ∃ (i : Fin 1024) (j : Fin 1024), y = ix2 i j :=
    ⟨y 0, y 1, by funext a; match a with | ⟨0, _⟩ => rfl | ⟨1, _⟩ => rfl⟩
  refine Rows.total N_0 (fun k => lhs m c (ix2 k i) * rhs m c (ix2 k j))
    (fun t => ∑ r : Fin 1024, (show EReal from iblk m c 3 t (ix2 r i)) * (show EReal from iblk m c 4 t (ix2 r j)))
    (fun n hn => (outsAt0 m c n hn).2.2.2.2.2.2.2 (ix2 i j)) _
    (fun t => Finset.sum_congr rfl fun r _ => congrArg₂ (fun a b : EReal => a * b) (tile_0 m c t r i) (tile_1 m c t r j))
    (fun hn => (congrFun (first_acc (m := m) (c := c) ⟨0, hn⟩ (Nat.zero_mod _) (by show ¬0 % 8 = 7; omega)) (ix2 i j)).trans ?_)
    (fun n hn h => (congrFun (middle_acc (m := m) (c := c) ⟨n + 1, hn⟩ (by show ¬(n + 1) % 8 = 0; omega) (by show ¬(n + 1) % 8 = 7; omega)) (ix2 i j)).trans ?_)
    t h7 ((congrFun (last_out (m := m) (c := c) t (by omega) (by omega)) (ix2 i j)).trans ?_)
  · rw [step_apply, clear_zero, zero_add]
  · rw [step_apply]; rfl
  · rw [store_apply, step_apply]

theorem flushed (t : Fin cfg0.N) (ht : (cfg0.win 8).flush t = true) :
    (dats m 0 c).flushed 8 t = ((cfg0.win 8).blk t).view.read (Elt Ideal) (arr m c) := by
  have h7 : t.val = 7 := by
    have := (flush0_8 t).mp ht
    have := points t
    omega
  show (cfg0.win 8).cut (grid0.coords t) ((dats m 0 c).after 8 t) = _
  rw [after0_8]
  funext y
  refine (out_val m c t h7 y).trans ?_
  show _ = arr m c (((cfg0.win 8).blk t).view.emb y)
  refine congrArg (arr m c) (funext fun a => Fin.ext ?_)
  match a with
  | ⟨0, _⟩ => exact (Rows.at0 _).symm
  | ⟨1, _⟩ => exact (Rows.at0 _).symm

theorem box : ∀ t : Fin cfg0.N, win0_8.index t 0 * win0_8.size 0 = 0 ∧ win0_8.xsize (grid0.coords t) 0 = 1024
    ∧ win0_8.index t 1 * win0_8.size 1 = 0 ∧ win0_8.xsize (grid0.coords t) 1 = 1024 := by decide +kernel

theorem cover (i : S1024x1024.Idx) : ∃ t, (cfg0.win 8).flush t = true ∧ i ∈ ((cfg0.win 8).blk t).view.set := by
  have h0 : (i 0 : ℕ) < 1024 := (i 0).isLt
  have h1 : (i 1 : ℕ) < 1024 := (i 1).isLt
  refine ⟨⟨7, lt_of_lt_of_eq (by omega) (show 8 = cfg0.N from N_0.symm)⟩, (flush0_8 _).mpr rfl, ?_⟩
  generalize (⟨7, _⟩ : Fin cfg0.N) = t
  show i ∈ ((View.whole main_v0_3).slice (win0_8.rect t)).set
  rw [View.set_slice_whole, Rect.mem_set_unit]
  obtain ⟨b0, b1, b2, b3⟩ := box t
  intro a
  match a with
  | ⟨0, _⟩ =>
    show win0_8.index t 0 * win0_8.size 0 ≤ (i 0 : ℕ) ∧ (i 0 : ℕ) < win0_8.index t 0 * win0_8.size 0 + win0_8.xsize (grid0.coords t) 0
    rw [b0, b1]; omega
  | ⟨1, _⟩ =>
    show win0_8.index t 1 * win0_8.size 1 ≤ (i 1 : ℕ) ∧ (i 1 : ℕ) < win0_8.index t 1 * win0_8.size 1 + win0_8.xsize (grid0.coords t) 1
    rw [b2, b3]; omega

theorem final : (dats m 0 c).arrAt 8 cfg0.N = arr m c :=
  Dat.arrAt_eq_of_cover (dats m 0 c) 8 (arr m c) (fun t ht => flushed m c t ht) cover

/-- The kernel's run leaves the result at the sum over all rows. -/
theorem output : θ_run defs (onTc (τ := τ) (main (F := Ideal))) ⟨m, fun _ => 0, ρ⟩ fun r => ∀ c : Dev nD,
      r.2.mem ((c.tc : Thread nD τ).loc main_v0_3) = arr m c :=
  (θ_run defs _ _).mono (fun _ h c => ((h c).1 8).trans (final m c)) (run_main m ρ)

end Cert.LastIdeal.Piece3

end
-- ==== Proof.LastValue.lean ====
module

public import proofs.«01_k».proof.Proof.LastPiece0
public import proofs.«01_k».proof.Proof.LastPiece1
public import proofs.«01_k».proof.Proof.LastPiece2
public import proofs.«01_k».proof.Proof.LastPiece3

@[expose] public section

set_option maxRecDepth 16384

noncomputable section

/-! A group of the input projection's weight gradient: every piece's array at the end of the run. -/

namespace Cert.LastIdeal.Value

open Idealize.ShloMosaic Idealize.ShloMosaic.TcCoe Idealize.SL.Sem
open Cert.LastIdeal Cert.LastIdeal.Gen

variable (m : (ℓ : Loc nD τ sig) → Buf (Elt Ideal) ℓ) (ρ : Dev nD → PrngReg)

/-- The kernel's run, read: every result is its sum over all rows, the arguments unchanged. -/
theorem value : θ_run defs (onTc (τ := τ) (main (F := Ideal))) ⟨m, fun _ => 0, ρ⟩ fun r => ∀ c : Dev nD,
      r.2.mem ((c.tc : Thread nD τ).loc main_v0_0) = Piece0.arr m c
      ∧ r.2.mem ((c.tc : Thread nD τ).loc main_v0_1) = Piece1.arr m c
      ∧ r.2.mem ((c.tc : Thread nD τ).loc main_v0_2) = Piece2.arr m c
      ∧ r.2.mem ((c.tc : Thread nD τ).loc main_v0_3) = Piece3.arr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨h.1 c, h.2.1 c, h.2.2.1 c, h.2.2.2.1 c, h.2.2.2.2.1 c⟩)
    (θ_run_and (Piece0.output m ρ) (θ_run_and (Piece1.output m ρ) (θ_run_and (Piece2.output m ρ) (θ_run_and (Piece3.output m ρ) (frame m ρ)))))

end Cert.LastIdeal.Value

end
-- ==== Proof.LastEqual.lean ====
module

public import proofs.«01_k».proof.Defs
public import proofs.«01_k».proof.Proof.LastValue
public import Idealize.ShloMosaic.Lib.Quiescent
public import proofs.«01_k».proof.Proof.Gen.LastReferenceIdeal.Read

@[expose] public section

set_option maxRecDepth 16384

noncomputable section

/-! The kernel and the reference of a group of the input projection's weight gradient compute the same arrays. -/

namespace Cert.LastReferenceIdeal.Value

open Idealize.ShloMosaic Idealize.ShloMosaic.TcCoe Idealize.SL.Sem
open Cert.LastReferenceIdeal Cert.LastReferenceIdeal.Gen Cert.LastReferenceIdeal.Read

/-- The reference's result at an index: the sum over all rows. -/
theorem entry_0 (x0 : (⟨S8192x512, .bf16⟩ : BufTy).Contents (Elt Ideal)) (x4 : (⟨S8192x1024, .bf16⟩ : BufTy).Contents (Elt Ideal))
    (y : S512x1024.Idx) :
    val_main_v7 (F := Ideal) x0 x4 y
      = ∑ k : Fin 8192, (show EReal from x0 (ix2 k (y 0))) * (show EReal from x4 (ix2 k (y 1))) := by
  rw [val_main_v7_apply, val_main_v6_apply, val_main_v5_apply]
  refine (val_main_v4_apply x0 x4 (idx_main_v5 (idx_main_v6 y))).trans (Finset.sum_congr rfl fun k _ => ?_)
  have el : lidx_main_v4 (idx_main_v5 (idx_main_v6 y)) k = ix2 k (y 0) := by
    funext a
    match a with
    | ⟨0, _⟩ => rfl
    | ⟨1, _⟩ => rfl
  have er : ridx_main_v4 (idx_main_v5 (idx_main_v6 y)) k = ix2 k (y 1) := by
    funext a
    match a with
    | ⟨0, _⟩ => rfl
    | ⟨1, _⟩ => rfl
  rw [el, er]
  rfl

/-- The reference's result at an index: the sum over all rows. -/
theorem entry_1 (x1 : (⟨S8192x128, .bf16⟩ : BufTy).Contents (Elt Ideal)) (x4 : (⟨S8192x1024, .bf16⟩ : BufTy).Contents (Elt Ideal))
    (y : S128x1024.Idx) :
    val_main_v15 (F := Ideal) x1 x4 y
      = ∑ k : Fin 8192, (show EReal from x1 (ix2 k (y 0))) * (show EReal from x4 (ix2 k (y 1))) := by
  rw [val_main_v15_apply, val_main_v14_apply, val_main_v13_apply]
  refine (val_main_v12_apply x1 x4 (idx_main_v13 (idx_main_v14 y))).trans (Finset.sum_congr rfl fun k _ => ?_)
  have el : lidx_main_v12 (idx_main_v13 (idx_main_v14 y)) k = ix2 k (y 0) := by
    funext a
    match a with
    | ⟨0, _⟩ => rfl
    | ⟨1, _⟩ => rfl
  have er : ridx_main_v12 (idx_main_v13 (idx_main_v14 y)) k = ix2 k (y 1) := by
    funext a
    match a with
    | ⟨0, _⟩ => rfl
    | ⟨1, _⟩ => rfl
  rw [el, er]
  rfl

/-- The reference's result at an index: the sum over all rows. -/
theorem entry_2 (x2 : (⟨S8192x1024, .bf16⟩ : BufTy).Contents (Elt Ideal)) (x4 : (⟨S8192x1024, .bf16⟩ : BufTy).Contents (Elt Ideal))
    (y : S1024x1024.Idx) :
    val_main_v23 (F := Ideal) x2 x4 y
      = ∑ k : Fin 8192, (show EReal from x2 (ix2 k (y 0))) * (show EReal from x4 (ix2 k (y 1))) := by
  rw [val_main_v23_apply, val_main_v22_apply, val_main_v21_apply]
  refine (val_main_v20_apply x2 x4 (idx_main_v21 (idx_main_v22 y))).trans (Finset.sum_congr rfl fun k _ => ?_)
  have el : lidx_main_v20 (idx_main_v21 (idx_main_v22 y)) k = ix2 k (y 0) := by
    funext a
    match a with
    | ⟨0, _⟩ => rfl
    | ⟨1, _⟩ => rfl
  have er : ridx_main_v20 (idx_main_v21 (idx_main_v22 y)) k = ix2 k (y 1) := by
    funext a
    match a with
    | ⟨0, _⟩ => rfl
    | ⟨1, _⟩ => rfl
  rw [el, er]
  rfl

/-- The reference's result at an index: the sum over all rows. -/
theorem entry_3 (x3 : (⟨S8192x1024, .bf16⟩ : BufTy).Contents (Elt Ideal)) (x4 : (⟨S8192x1024, .bf16⟩ : BufTy).Contents (Elt Ideal))
    (y : S1024x1024.Idx) :
    val_main_v31 (F := Ideal) x3 x4 y
      = ∑ k : Fin 8192, (show EReal from x3 (ix2 k (y 0))) * (show EReal from x4 (ix2 k (y 1))) := by
  rw [val_main_v31_apply, val_main_v30_apply, val_main_v29_apply]
  refine (val_main_v28_apply x3 x4 (idx_main_v29 (idx_main_v30 y))).trans (Finset.sum_congr rfl fun k _ => ?_)
  have el : lidx_main_v28 (idx_main_v29 (idx_main_v30 y)) k = ix2 k (y 0) := by
    funext a
    match a with
    | ⟨0, _⟩ => rfl
    | ⟨1, _⟩ => rfl
  have er : ridx_main_v28 (idx_main_v29 (idx_main_v30 y)) k = ix2 k (y 1) := by
    funext a
    match a with
    | ⟨0, _⟩ => rfl
    | ⟨1, _⟩ => rfl
  rw [el, er]
  rfl

end Cert.LastReferenceIdeal.Value

namespace Cert.LastEqual

open Idealize.ShloMosaic Idealize.ShloMosaic.TcCoe Idealize.SL.Sem

/-- From any arguments the kernel and the reference end with the same arrays. -/
theorem equal : Cert.algebraic_LastIdeal_LastReferenceIdeal := by
  intro m g m' g' _ ha
  refine ⟨Cert.LastIdeal.Piece0.arr m, Cert.LastIdeal.Piece1.arr m, Cert.LastIdeal.Piece2.arr m, Cert.LastIdeal.Piece3.arr m, Cert.LastIdeal.Value.value m g, ?_⟩
  refine (θ_run Cert.LastReferenceIdeal.defs _ _).mono (fun r h c => ?_) (Cert.LastReferenceIdeal.Value.run (F := Ideal) m' g')
  obtain ⟨hv0, hv1, hv2, hv3, hargs⟩ := h c
  obtain ⟨a0, a1, a2, a3, a4⟩ := ha c
  exact ⟨hv0.trans (by rw [a0, a4]; exact (Cert.LastReferenceIdeal.Read.val_main_v7_eq (F := Ideal) _ _).trans (funext fun y => Cert.LastReferenceIdeal.Value.entry_0 _ _ y)),
    hv1.trans (by rw [a1, a4]; exact (Cert.LastReferenceIdeal.Read.val_main_v15_eq (F := Ideal) _ _).trans (funext fun y => Cert.LastReferenceIdeal.Value.entry_1 _ _ y)),
    hv2.trans (by rw [a2, a4]; exact (Cert.LastReferenceIdeal.Read.val_main_v23_eq (F := Ideal) _ _).trans (funext fun y => Cert.LastReferenceIdeal.Value.entry_2 _ _ y)),
    hv3.trans (by rw [a3, a4]; exact (Cert.LastReferenceIdeal.Read.val_main_v31_eq (F := Ideal) _ _).trans (funext fun y => Cert.LastReferenceIdeal.Value.entry_3 _ _ y)), hargs⟩

/-- The reference ends with its arguments unchanged and every counter at zero. -/
theorem frame_reference : Cert.quiescent_LastReferenceIdeal := by
  intro m ρ _
  exact (θ_run Cert.LastReferenceIdeal.defs _ _).mono (fun r h => ⟨fun c => (h c).2.2.2.2,
      Idealize.ShloMosaic.sem_eq_zero_of_no_sems (by decide) r.2⟩)
    (Cert.LastReferenceIdeal.Value.run (F := Ideal) m ρ)

end Cert.LastEqual

end
-- ==== Proof.AdaValue.lean ====
module

public import proofs.«01_k».proof.Proof.Rows
public import proofs.«01_k».proof.Proof.Gen.AdaIdeal.Frame
public import Idealize.ShloMosaic.Lib.Pointwise
public import Idealize.ShloMosaic.Lib.Claim
public import Idealize.ShloMosaic.Lib.Pipeline.Value
public import Idealize.ShloMosaic.Lib.Pipeline.ValueKit.Acc

@[expose] public section

set_option maxRecDepth 16384

noncomputable section

/-! The weight gradient of the condition's projection, in one tile, and the array it leaves. -/

namespace Cert.AdaIdeal.Value

open Idealize.ShloMosaic Idealize.ShloMosaic.TcCoe Idealize.ShloMosaic.Tactic Idealize.SL.Sem
open Idealize.ShloMosaic.Pipeline (Dat)
open Cert.AdaIdeal Cert.AdaIdeal.Gen Cert.Rows

variable (m : (ℓ : Loc nD τ sig) → Buf (Elt Ideal) ℓ) (ρ : Dev nD → PrngReg) (c : Dev nD)

/-- The cleared accumulator is zero. -/
theorem clear_zero (i : Fin 1024) (j : Fin 1536) : k0_pay1 (F := Ideal) (ix2 i j) = 0 := by
  pointwise [k0_pay1]

/-- The one tile's step: the accumulator and the product of the tile's rows. -/
theorem step_apply (xs : Vec Ideal S1024x1536 .f32) (x0 : Vec Ideal S8x1024 .bf16) (x1 : Vec Ideal S8x1536 .bf16)
    (i : Fin 1024) (j : Fin 1536) :
    k0_pay2 (F := Ideal) xs x0 x1 (ix2 i j) = xs (ix2 i j) + ∑ r : Fin 8, x0 (ix2 r i) * x1 (ix2 r j) := by
  pointwise [k0_pay2]

variable {m c}

/-- What the one tile leaves in the output. -/
theorem only_out (t : Fin cfg0.N) :
    outsAt0 m c t = k0_pay2 (F := Ideal) (k0_pay1 (F := Ideal)) (iblk m c 0 t) (iblk m c 1 t) := by
  unfold outsAt0 out0_A_2
  dsimp only
  rw [View.read_writes_eq_canon _ _ _ (cover0_A_2 c _ _ _ _ _ _ _ _ _ _ _ _ _)]
  unfold kernelRun0_A
  dsimp only
  sl_unfold_words
  simp only [View.readAt_eq_ld, (hs0_0 t).read_unread, (hs0_1 t).read_unread, View.ld_unit_zero (S := S8x1024) corner, View.ld_unit_zero (S := S8x1536) corner]
  rw [View.canon_cons_unit_zero (Val := Elt Ideal) (S := S1024x1536) corner]
  have z0 : ∀ a, (![0, 0] : Fin 2 → ℕ) a = 0 := congrFun corner
  refine (View.readCov_cons_unit_lit' (Val := Elt Ideal) (S := S1024x1536) (View.whole cc0_scratch0) _ _ _ _ z0 z0).trans ?_
  exact congrArg (fun z => k0_pay2 (F := Ideal) z (iblk m c 0 t) (iblk m c 1 t)) (View.readCov_unit_zero (Val := Elt Ideal) (S := S1024x1536) (View.whole cc0_scratch0) corner _ _)

variable (m c)

/-- The window holds the whole array. -/
theorem tile_0 (t : Fin cfg0.N) (r : Fin 8) (k : Fin 1024) : iblk m c 0 t (ix2 r k) = m (c, main_arg0) (ix2 r k) := by
  obtain rfl := fin_N0 t
  refine congrArg (m (c, main_arg0)) (funext fun a => Fin.ext ?_)
  match a with
  | ⟨0, _⟩ => exact Rows.at0 _
  | ⟨1, _⟩ => exact Rows.at0 _

/-- The window holds the whole array. -/
theorem tile_1 (t : Fin cfg0.N) (r : Fin 8) (k : Fin 1536) : iblk m c 1 t (ix2 r k) = m (c, main_arg1) (ix2 r k) := by
  obtain rfl := fin_N0 t
  refine congrArg (m (c, main_arg1)) (funext fun a => Fin.ext ?_)
  match a with
  | ⟨0, _⟩ => exact Rows.at0 _
  | ⟨1, _⟩ => exact Rows.at0 _

/-- The condition as the region finds it. -/
def lhs : S8x1024.Idx → EReal := m (c, main_arg0)

/-- The gradient of the projection's result as the region finds it. -/
def rhs : S8x1536.Idx → EReal := m (c, main_arg1)

/-- The weight gradient, as an array. -/
def arr : S1024x1536.Idx → EReal := fun y => ∑ k : Fin 8, lhs m c (ix2 k (y 0)) * rhs m c (ix2 k (y 1))

/-- What the tile leaves in the output. -/
theorem out_val (t : Fin cfg0.N) (y : S1024x1536.Idx) : outsAt0 m c t y = arr m c y := by
  obtain ⟨i, j, rfl⟩ : ∃ (i : Fin 1024) (j : Fin 1536), y = ix2 i j :=
    ⟨y 0, y 1, by funext a; match a with | ⟨0, _⟩ => rfl | ⟨1, _⟩ => rfl⟩
  refine (congrFun (only_out (m := m) (c := c) t) (ix2 i j)).trans ?_
  rw [step_apply, clear_zero, zero_add]
  exact Finset.sum_congr rfl fun k _ => congrArg₂ (fun a b : EReal => a * b) (tile_0 m c t k i) (tile_1 m c t k j)

theorem flushed (t : Fin cfg0.N) (_ : (cfg0.win 2).flush t = true) :
    (dats m 0 c).flushed 2 t = ((cfg0.win 2).blk t).view.read (Elt Ideal) (arr m c) := by
  show (cfg0.win 2).cut (grid0.coords t) ((dats m 0 c).after 2 t) = _
  rw [after0_2]
  funext y
  refine (out_val m c t y).trans ?_
  show _ = arr m c (((cfg0.win 2).blk t).view.emb y)
  refine congrArg (arr m c) (funext fun a => Fin.ext ?_)
  match a with
  | ⟨0, _⟩ => exact (Rows.at0 _).symm
  | ⟨1, _⟩ => exact (Rows.at0 _).symm

theorem box : ∀ t : Fin cfg0.N, win0_2.index t 0 * win0_2.size 0 = 0 ∧ win0_2.xsize (grid0.coords t) 0 = 1024
    ∧ win0_2.index t 1 * win0_2.size 1 = 0 ∧ win0_2.xsize (grid0.coords t) 1 = 1536 := by decide +kernel

theorem cover (i : S1024x1536.Idx) : ∃ t, (cfg0.win 2).flush t = true ∧ i ∈ ((cfg0.win 2).blk t).view.set := by
  have h0 : (i 0 : ℕ) < 1024 := (i 0).isLt
  have h1 : (i 1 : ℕ) < 1536 := (i 1).isLt
  refine ⟨t0_0, flush0_2 _, ?_⟩
  generalize (t0_0 : Fin cfg0.N) = t
  show i ∈ ((View.whole main_v0).slice (win0_2.rect t)).set
  rw [View.set_slice_whole, Rect.mem_set_unit]
  obtain ⟨b0, b1, b2, b3⟩ := box t
  intro a
  match a with
  | ⟨0, _⟩ =>
    show win0_2.index t 0 * win0_2.size 0 ≤ (i 0 : ℕ) ∧ (i 0 : ℕ) < win0_2.index t 0 * win0_2.size 0 + win0_2.xsize (grid0.coords t) 0
    rw [b0, b1]; omega
  | ⟨1, _⟩ =>
    show win0_2.index t 1 * win0_2.size 1 ≤ (i 1 : ℕ) ∧ (i 1 : ℕ) < win0_2.index t 1 * win0_2.size 1 + win0_2.xsize (grid0.coords t) 1
    rw [b2, b3]; omega

theorem final : (dats m 0 c).arrAt 2 cfg0.N = arr m c :=
  Dat.arrAt_eq_of_cover (dats m 0 c) 2 (arr m c) (fun t ht => flushed m c t ht) cover

/-- The kernel's run leaves the result at the sum over all rows. -/
theorem output : θ_run defs (onTc (τ := τ) (main (F := Ideal))) ⟨m, fun _ => 0, ρ⟩ fun r => ∀ c : Dev nD,
      r.2.mem ((c.tc : Thread nD τ).loc main_v0) = arr m c :=
  (θ_run defs _ _).mono (fun _ h c => ((h c).1 2).trans (final m c)) (run_main m ρ)

/-- The kernel's run, read: the result is the sum over all rows, the arguments unchanged. -/
theorem value : θ_run defs (onTc (τ := τ) (main (F := Ideal))) ⟨m, fun _ => 0, ρ⟩ fun r => ∀ c : Dev nD,
      r.2.mem ((c.tc : Thread nD τ).loc main_v0) = arr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h.1 c, h.2.1 c⟩)
    (θ_run_and (output m ρ) (frame m ρ))

end Cert.AdaIdeal.Value

end
-- ==== Proof.AdaEqual.lean ====
module

public import proofs.«01_k».proof.Defs
public import proofs.«01_k».proof.Proof.AdaValue
public import Idealize.ShloMosaic.Lib.Quiescent
public import proofs.«01_k».proof.Proof.Gen.AdaReferenceIdeal.Read

@[expose] public section

set_option maxRecDepth 16384

noncomputable section

/-! The kernel and the reference of a branch's weight gradient compute the same array. -/

namespace Cert.AdaReferenceIdeal.Value

open Idealize.ShloMosaic Idealize.ShloMosaic.TcCoe Idealize.SL.Sem
open Cert.AdaReferenceIdeal Cert.AdaReferenceIdeal.Gen Cert.AdaReferenceIdeal.Read

/-- The reference's result at an index: the sum over the batch. -/
theorem entry (x0 : (⟨S8x1024, .bf16⟩ : BufTy).Contents (Elt Ideal)) (x1 : (⟨S8x1536, .bf16⟩ : BufTy).Contents (Elt Ideal))
    (y : S1024x1536.Idx) :
    val_main_v5 (F := Ideal) x0 x1 y
      = ∑ k : Fin 8, (show EReal from x0 (ix2 k (y 0))) * (show EReal from x1 (ix2 k (y 1))) := by
  rw [val_main_v5_apply]
  refine (val_main_v4_apply x0 x1 (idx_main_v5 y)).trans (Finset.sum_congr rfl fun k _ => ?_)
  have el : lidx_main_v4 (idx_main_v5 y) k = ix2 k (y 1) := by
    funext a
    match a with
    | ⟨0, _⟩ => rfl
    | ⟨1, _⟩ => rfl
  have er : ridx_main_v4 (idx_main_v5 y) k = ix2 k (y 0) := by
    funext a
    match a with
    | ⟨0, _⟩ => rfl
    | ⟨1, _⟩ => rfl
  rw [el, er]
  exact mul_comm (G := EReal) _ _

end Cert.AdaReferenceIdeal.Value

namespace Cert.AdaEqual

open Idealize.ShloMosaic Idealize.ShloMosaic.TcCoe Idealize.SL.Sem

/-- From any arguments the kernel and the reference end with the same arrays. -/
theorem equal : Cert.algebraic_AdaIdeal_AdaReferenceIdeal := by
  intro m g m' g' _ ha
  refine ⟨Cert.AdaIdeal.Value.arr m, Cert.AdaIdeal.Value.value m g, ?_⟩
  refine (θ_run Cert.AdaReferenceIdeal.defs _ _).mono (fun r h c => ?_) (Cert.AdaReferenceIdeal.Value.run (F := Ideal) m' g')
  obtain ⟨hv0, hargs⟩ := h c
  obtain ⟨a0, a1⟩ := ha c
  exact ⟨hv0.trans (by rw [a0, a1]; exact (Cert.AdaReferenceIdeal.Read.val_main_v5_eq (F := Ideal) _ _).trans (funext fun y => Cert.AdaReferenceIdeal.Value.entry _ _ y)), hargs⟩

/-- The reference ends with its arguments unchanged and every counter at zero. -/
theorem frame_reference : Cert.quiescent_AdaReferenceIdeal := by
  intro m ρ _
  exact (θ_run Cert.AdaReferenceIdeal.defs _ _).mono (fun r h => ⟨fun c => (h c).2,
      Idealize.ShloMosaic.sem_eq_zero_of_no_sems (by decide) r.2⟩)
    (Cert.AdaReferenceIdeal.Value.run (F := Ideal) m ρ)

end Cert.AdaEqual

end
-- ==== Proof.GateTile.lean ====
module

public import proofs.«01_k».proof.Proof.Gen.GateIdeal.Frame
public import Idealize.ShloMosaic.Lib.Pointwise
public import Idealize.ShloMosaic.Lib.Claim
public import Idealize.ShloMosaic.Lib.Pipeline.Value

@[expose] public section

set_option maxRecDepth 16384

noncomputable section

/-! The channel mixer's two input products and its activation: one tile of 512 rows, chunk by chunk of columns. -/

namespace Cert.GateIdeal.Value

open Idealize.ShloMosaic Idealize.ShloMosaic.TcCoe Idealize.ShloMosaic.Tactic Idealize.SL.Sem
open Cert.GateIdeal Cert.GateIdeal.Gen

/-- The logistic factor as the kernel writes it: one over one plus the exponential of zero less the argument. -/
def logi (z : EReal) : EReal :=
  FloatOps.divf (F := Ideal) (φ := .f32) (Scalar.ofBits .f32 0x3F800000#32)
    (FloatOps.addf (F := Ideal) (φ := .f32) (Scalar.ofBits .f32 0x3F800000#32)
      (FloatOps.exp (F := Ideal) (φ := .f32) (FloatOps.subf (F := Ideal) (φ := .f32) (Scalar.ofBits .f32 0x00000000#32) z)))

/-- A row of the tile against a row of the weight. -/
def prod (x : S512x1024.Idx → EReal) (w : S2816x1024.Idx → EReal) (i : Fin 512) (j : Fin 2816) : EReal :=
  ∑ k : Fin 1024, x (ix2 i k) * w (ix2 j k)

/-- The chunk's product from the values it reads. -/
theorem chunk_apply (w : Vec Ideal S256x1024 .bf16) (x : Vec Ideal S512x1024 .bf16) (i : Fin 512) (j : Fin 256) :
    k0_pay1 (F := Ideal) w x (ix2 i j) = ∑ k : Fin 1024, x (ix2 i k) * w (ix2 j k) := by
  pointwise [k0_pay1]

variable (x0 : Vec Ideal S512x1024 .bf16) (x1 : Vec Ideal S2816x1024 .bf16) (x2 : Vec Ideal S512x1024 .bf16) (x3 : Vec Ideal S2816x1024 .bf16)

/-- A chunk's product is the tile's product at the chunk's place. -/
theorem chunk_prod (o : ℕ) (inb : ∀ a, (![o, 0] : Fin 2 → ℕ) a + S256x1024.size a ≤ S2816x1024.size a)
    (i : Fin 512) (j : Fin 256) (h : o + j.val < 2816) :
    k0_pay1 (F := Ideal) (View.ld x1 (Rect.unit (s := S2816x1024) ![o, 0] S256x1024.size inb)) (View.ld x0 r0_1) (ix2 i j)
      = prod x0 x1 i ⟨o + j.val, h⟩ := by
  rw [chunk_apply]
  refine Finset.sum_congr rfl fun k _ => congrArg₂ (fun a b : EReal => a * b) ?_ ?_
  · refine congrArg x0 (funext fun a => Fin.ext ?_)
    match a with
    | ⟨0, _⟩ => show 0 + 1 * i.val = i.val; omega
    | ⟨1, _⟩ => show 0 + 1 * k.val = k.val; omega
  · refine congrArg x1 (funext fun a => Fin.ext ?_)
    match a with
    | ⟨0, _⟩ => show o + 1 * j.val = o + j.val; omega
    | ⟨1, _⟩ => show 0 + 1 * k.val = k.val; omega

/-- The chunk's place in the tile. -/
theorem place (o : ℕ) (inb : ∀ a, (![0, o] : Fin 2 → ℕ) a + S512x256.size a ≤ S512x2816.size a) (i : Fin 512) (j : Fin 256)
    (h : o + j.val < 2816) : (Rect.unit (s := S512x2816) ![0, o] S512x256.size inb).emb (ix2 i j) = ix2 i ⟨o + j.val, h⟩ := by
  refine funext fun a => Fin.ext ?_
  match a with
  | ⟨0, _⟩ => show 0 + 1 * i.val = i.val; omega
  | ⟨1, _⟩ => show o + 1 * j.val = o + j.val; omega

/-- The tile of the gate. -/
def gateAt (y : S512x2816.Idx) : EReal := prod x0 x1 (y 0) (y 1)

/-- The tile of the activation. -/
def actAt (y : S512x2816.Idx) : EReal :=
  prod x0 x1 (y 0) (y 1) * logi (prod x0 x1 (y 0) (y 1)) * prod x2 x3 (y 0) (y 1)

theorem bound (o : ℕ) (inb : ∀ a, (![0, o] : Fin 2 → ℕ) a + S512x256.size a ≤ S512x2816.size a) (j : Fin 256) : o + j.val < 2816 := by
  have h : o + 256 ≤ 2816 := inb 1
  omega

theorem split (y : S512x256.Idx) : ∃ (i : Fin 512) (j : Fin 256), y = ix2 i j :=
  ⟨y 0, y 1, by funext a; match a with | ⟨0, _⟩ => rfl | ⟨1, _⟩ => rfl⟩

theorem gate_piece (o : ℕ) (inw : ∀ a, (![o, 0] : Fin 2 → ℕ) a + S256x1024.size a ≤ S2816x1024.size a)
    (inb : ∀ a, (![0, o] : Fin 2 → ℕ) a + S512x256.size a ≤ S512x2816.size a) (z : S512x256.Idx) :
    k0_pay4 (F := Ideal) (View.ld x1 (Rect.unit (s := S2816x1024) ![o, 0] S256x1024.size inw)) (View.ld x0 r0_1) z
      = gateAt x0 x1 ((Rect.unit (s := S512x2816) ![0, o] S512x256.size inb).emb z) := by
  obtain ⟨i, j, rfl⟩ := split z
  have h := bound o inb j
  refine Eq.trans ?_ (congrArg (gateAt x0 x1) (place o inb i j h).symm)
  exact chunk_prod x0 x1 o inw i j h

theorem act_piece (o : ℕ) (inw : ∀ a, (![o, 0] : Fin 2 → ℕ) a + S256x1024.size a ≤ S2816x1024.size a)
    (inb : ∀ a, (![0, o] : Fin 2 → ℕ) a + S512x256.size a ≤ S512x2816.size a) (z : S512x256.Idx) :
    k0_pay3 (F := Ideal) (View.ld x1 (Rect.unit (s := S2816x1024) ![o, 0] S256x1024.size inw)) (View.ld x0 r0_1)
      (View.ld x3 (Rect.unit (s := S2816x1024) ![o, 0] S256x1024.size inw)) (View.ld x2 r0_1) z
      = actAt x0 x1 x2 x3 ((Rect.unit (s := S512x2816) ![0, o] S512x256.size inb).emb z) := by
  obtain ⟨i, j, rfl⟩ := split z
  have h := bound o inb j
  refine Eq.trans ?_ (congrArg (actAt x0 x1 x2 x3) (place o inb i j h).symm)
  exact congrArg₂ (fun a b : EReal => a * logi a * b) (chunk_prod x0 x1 o inw i j h) (chunk_prod x2 x3 o inw i j h)

/-- What a tile's body leaves in the gate's window. -/
theorem gate_tile (y : S512x2816.Idx) : out0_5 (F := Ideal) x0 x1 x2 x3 y = gateAt x0 x1 y := by
  unfold out0_5
  refine View.canon_apply_of_pieces (Val := Elt Ideal) (gateAt x0 x1) _ ?_ y (cover0_5 _ _ _ _ _ _ _ _ _ _ _ y)
  refine List.forall_mem_cons.2 ⟨gate_piece x0 x1 2560 inb_S2816x1024_S256x1024_2560_0 inb_S512x2816_S512x256_0_2560, ?_⟩
  refine List.forall_mem_cons.2 ⟨gate_piece x0 x1 2304 inb_S2816x1024_S256x1024_2304_0 inb_S512x2816_S512x256_0_2304, ?_⟩
  refine List.forall_mem_cons.2 ⟨gate_piece x0 x1 2048 inb_S2816x1024_S256x1024_2048_0 inb_S512x2816_S512x256_0_2048, ?_⟩
  refine List.forall_mem_cons.2 ⟨gate_piece x0 x1 1792 inb_S2816x1024_S256x1024_1792_0 inb_S512x2816_S512x256_0_1792, ?_⟩
  refine List.forall_mem_cons.2 ⟨gate_piece x0 x1 1536 inb_S2816x1024_S256x1024_1536_0 inb_S512x2816_S512x256_0_1536, ?_⟩
  refine List.forall_mem_cons.2 ⟨gate_piece x0 x1 1280 inb_S2816x1024_S256x1024_1280_0 inb_S512x2816_S512x256_0_1280, ?_⟩
  refine List.forall_mem_cons.2 ⟨gate_piece x0 x1 1024 inb_S2816x1024_S256x1024_1024_0 inb_S512x2816_S512x256_0_1024, ?_⟩
  refine List.forall_mem_cons.2 ⟨gate_piece x0 x1 768 inb_S2816x1024_S256x1024_768_0 inb_S512x2816_S512x256_0_768, ?_⟩
  refine List.forall_mem_cons.2 ⟨gate_piece x0 x1 512 inb_S2816x1024_S256x1024_512_0 inb_S512x2816_S512x256_0_512, ?_⟩
  refine List.forall_mem_cons.2 ⟨gate_piece x0 x1 256 inb_S2816x1024_S256x1024_256_0 inb_S512x2816_S512x256_0_256, ?_⟩
  refine List.forall_mem_cons.2 ⟨gate_piece x0 x1 0 inb_S2816x1024_S256x1024_0_0 inb_S512x2816_S512x256_0_0, ?_⟩
  exact fun _ h => absurd h List.not_mem_nil

/-- What a tile's body leaves in the other product's window. -/
theorem up_tile (y : S512x2816.Idx) : out0_6 (F := Ideal) x0 x1 x2 x3 y = gateAt x2 x3 y := by
  unfold out0_6
  refine View.canon_apply_of_pieces (Val := Elt Ideal) (gateAt x2 x3) _ ?_ y (cover0_6 _ _ _ _ _ _ _ _ _ _ _ y)
  refine List.forall_mem_cons.2 ⟨gate_piece x2 x3 2560 inb_S2816x1024_S256x1024_2560_0 inb_S512x2816_S512x256_0_2560, ?_⟩
  refine List.forall_mem_cons.2 ⟨gate_piece x2 x3 2304 inb_S2816x1024_S256x1024_2304_0 inb_S512x2816_S512x256_0_2304, ?_⟩
  refine List.forall_mem_cons.2 ⟨gate_piece x2 x3 2048 inb_S2816x1024_S256x1024_2048_0 inb_S512x2816_S512x256_0_2048, ?_⟩
  refine List.forall_mem_cons.2 ⟨gate_piece x2 x3 1792 inb_S2816x1024_S256x1024_1792_0 inb_S512x2816_S512x256_0_1792, ?_⟩
  refine List.forall_mem_cons.2 ⟨gate_piece x2 x3 1536 inb_S2816x1024_S256x1024_1536_0 inb_S512x2816_S512x256_0_1536, ?_⟩
  refine List.forall_mem_cons.2 ⟨gate_piece x2 x3 1280 inb_S2816x1024_S256x1024_1280_0 inb_S512x2816_S512x256_0_1280, ?_⟩
  refine List.forall_mem_cons.2 ⟨gate_piece x2 x3 1024 inb_S2816x1024_S256x1024_1024_0 inb_S512x2816_S512x256_0_1024, ?_⟩
  refine List.forall_mem_cons.2 ⟨gate_piece x2 x3 768 inb_S2816x1024_S256x1024_768_0 inb_S512x2816_S512x256_0_768, ?_⟩
  refine List.forall_mem_cons.2 ⟨gate_piece x2 x3 512 inb_S2816x1024_S256x1024_512_0 inb_S512x2816_S512x256_0_512, ?_⟩
  refine List.forall_mem_cons.2 ⟨gate_piece x2 x3 256 inb_S2816x1024_S256x1024_256_0 inb_S512x2816_S512x256_0_256, ?_⟩
  refine List.forall_mem_cons.2 ⟨gate_piece x2 x3 0 inb_S2816x1024_S256x1024_0_0 inb_S512x2816_S512x256_0_0, ?_⟩
  exact fun _ h => absurd h List.not_mem_nil

/-- What a tile's body leaves in the activation's window. -/
theorem act_tile (y : S512x2816.Idx) : out0_4 (F := Ideal) x0 x1 x2 x3 y = actAt x0 x1 x2 x3 y := by
  unfold out0_4
  refine View.canon_apply_of_pieces (Val := Elt Ideal) (actAt x0 x1 x2 x3) _ ?_ y (cover0_4 _ _ _ _ _ _ _ _ _ _ _ y)
  refine List.forall_mem_cons.2 ⟨act_piece x0 x1 x2 x3 2560 inb_S2816x1024_S256x1024_2560_0 inb_S512x2816_S512x256_0_2560, ?_⟩
  refine List.forall_mem_cons.2 ⟨act_piece x0 x1 x2 x3 2304 inb_S2816x1024_S256x1024_2304_0 inb_S512x2816_S512x256_0_2304, ?_⟩
  refine List.forall_mem_cons.2 ⟨act_piece x0 x1 x2 x3 2048 inb_S2816x1024_S256x1024_2048_0 inb_S512x2816_S512x256_0_2048, ?_⟩
  refine List.forall_mem_cons.2 ⟨act_piece x0 x1 x2 x3 1792 inb_S2816x1024_S256x1024_1792_0 inb_S512x2816_S512x256_0_1792, ?_⟩
  refine List.forall_mem_cons.2 ⟨act_piece x0 x1 x2 x3 1536 inb_S2816x1024_S256x1024_1536_0 inb_S512x2816_S512x256_0_1536, ?_⟩
  refine List.forall_mem_cons.2 ⟨act_piece x0 x1 x2 x3 1280 inb_S2816x1024_S256x1024_1280_0 inb_S512x2816_S512x256_0_1280, ?_⟩
  refine List.forall_mem_cons.2 ⟨act_piece x0 x1 x2 x3 1024 inb_S2816x1024_S256x1024_1024_0 inb_S512x2816_S512x256_0_1024, ?_⟩
  refine List.forall_mem_cons.2 ⟨act_piece x0 x1 x2 x3 768 inb_S2816x1024_S256x1024_768_0 inb_S512x2816_S512x256_0_768, ?_⟩
  refine List.forall_mem_cons.2 ⟨act_piece x0 x1 x2 x3 512 inb_S2816x1024_S256x1024_512_0 inb_S512x2816_S512x256_0_512, ?_⟩
  refine List.forall_mem_cons.2 ⟨act_piece x0 x1 x2 x3 256 inb_S2816x1024_S256x1024_256_0 inb_S512x2816_S512x256_0_256, ?_⟩
  refine List.forall_mem_cons.2 ⟨act_piece x0 x1 x2 x3 0 inb_S2816x1024_S256x1024_0_0 inb_S512x2816_S512x256_0_0, ?_⟩
  exact fun _ h => absurd h List.not_mem_nil

end Cert.GateIdeal.Value

end
-- ==== Proof.GateValue.lean ====
module

public import proofs.«01_k».proof.Proof.Rows
public import proofs.«01_k».proof.Proof.GateTile
public import Idealize.ShloMosaic.Lib.Claim
public import Idealize.ShloMosaic.Lib.Pipeline.Value

@[expose] public section

set_option maxRecDepth 16384

noncomputable section

/-! The channel mixer's two input products and its activation: the arrays the run leaves. -/

namespace Cert.GateIdeal.Value

open Idealize.ShloMosaic Idealize.ShloMosaic.TcCoe Idealize.ShloMosaic.Tactic Idealize.SL.Sem
open Idealize.ShloMosaic.Pipeline (Dat)
open Cert.GateIdeal Cert.GateIdeal.Gen

variable (m : (ℓ : Loc nD τ sig) → Buf (Elt Ideal) ℓ) (ρ : Dev nD → PrngReg) (c : Dev nD)

theorem index_0 : ∀ t : Fin cfg0.N, win0_0.index t 0 = t.val := by decide +kernel
theorem index_2 : ∀ t : Fin cfg0.N, win0_2.index t 0 = t.val := by decide +kernel
theorem index_4 : ∀ t : Fin cfg0.N, win0_4.index t 0 = t.val := by decide +kernel
theorem index_5 : ∀ t : Fin cfg0.N, win0_5.index t 0 = t.val := by decide +kernel
theorem index_6 : ∀ t : Fin cfg0.N, win0_6.index t 0 = t.val := by decide +kernel

theorem points (t : Fin cfg0.N) : t.val < 16 := lt_of_lt_of_eq t.isLt (show cfg0.N = 16 from N_0)

/-- A tile's row in the whole array. -/
def row (t : Fin cfg0.N) (r : Fin 512) : Fin 8192 := ⟨512 * t.val + r.val, by have := points t; omega⟩

/-- The tile of the normed state holds rows of its array. -/
theorem tile_0 (t : Fin cfg0.N) (r : Fin 512) (k : Fin 1024) : iblk m c 0 t (ix2 r k) = m (c, main_arg0) (ix2 (row t r) k) := by
  refine congrArg (m (c, main_arg0)) (funext fun a => Fin.ext ?_)
  match a with
  | ⟨0, _⟩ =>
    show win0_0.index t 0 * 512 + 1 * r.val = 512 * t.val + r.val
    rw [index_0]; omega
  | ⟨1, _⟩ => exact Rows.at0 _

/-- The tile of the normed state holds rows of its array. -/
theorem tile_2 (t : Fin cfg0.N) (r : Fin 512) (k : Fin 1024) : iblk m c 2 t (ix2 r k) = m (c, main_arg0) (ix2 (row t r) k) := by
  refine congrArg (m (c, main_arg0)) (funext fun a => Fin.ext ?_)
  match a with
  | ⟨0, _⟩ =>
    show win0_2.index t 0 * 512 + 1 * r.val = 512 * t.val + r.val
    rw [index_2]; omega
  | ⟨1, _⟩ => exact Rows.at0 _

/-- The weight's window holds the whole weight. -/
theorem tile_1 (t : Fin cfg0.N) (j : Fin 2816) (k : Fin 1024) : iblk m c 1 t (ix2 j k) = m (c, main_arg1) (ix2 j k) := by
  refine congrArg (m (c, main_arg1)) (funext fun a => Fin.ext ?_)
  match a with
  | ⟨0, _⟩ => exact Rows.at0 _
  | ⟨1, _⟩ => exact Rows.at0 _

/-- The weight's window holds the whole weight. -/
theorem tile_3 (t : Fin cfg0.N) (j : Fin 2816) (k : Fin 1024) : iblk m c 3 t (ix2 j k) = m (c, main_arg2) (ix2 j k) := by
  refine congrArg (m (c, main_arg2)) (funext fun a => Fin.ext ?_)
  match a with
  | ⟨0, _⟩ => exact Rows.at0 _
  | ⟨1, _⟩ => exact Rows.at0 _

/-- The normed state as the region finds it. -/
def state : S8192x1024.Idx → EReal := m (c, main_arg0)

/-- The gate's weight as the region finds it. -/
def weightG : S2816x1024.Idx → EReal := m (c, main_arg1)

/-- The other weight as the region finds it. -/
def weightU : S2816x1024.Idx → EReal := m (c, main_arg2)

/-- A product of the state with a weight, row against row. -/
def rows (x : S8192x1024.Idx → EReal) (w : S2816x1024.Idx → EReal) (y : S8192x2816.Idx) : EReal :=
  ∑ k : Fin 1024, x (ix2 (y 0) k) * w (ix2 (y 1) k)

/-- The gate. -/
def gate : S8192x2816.Idx → EReal := rows (state m c) (weightG m c)

/-- The other product. -/
def up : S8192x2816.Idx → EReal := rows (state m c) (weightU m c)

/-- The activation. -/
def act : S8192x2816.Idx → EReal := fun y => gate m c y * logi (gate m c y) * up m c y

/-- A tile's gate is the gate at the tile's place. -/
theorem gate_at (t : Fin cfg0.N) (i : Fin 512) (j : Fin 2816) :
    prod (iblk m c 0 t) (iblk m c 1 t) i j = gate m c (ix2 (row t i) j) :=
  Finset.sum_congr rfl fun k _ => congrArg₂ (fun a b : EReal => a * b) (tile_0 m c t i k) (tile_1 m c t j k)

/-- A tile's other product is the other product at the tile's place. -/
theorem up_at (t : Fin cfg0.N) (i : Fin 512) (j : Fin 2816) :
    prod (iblk m c 2 t) (iblk m c 3 t) i j = up m c (ix2 (row t i) j) :=
  Finset.sum_congr rfl fun k _ => congrArg₂ (fun a b : EReal => a * b) (tile_2 m c t i k) (tile_3 m c t j k)

theorem flushed_act (t : Fin cfg0.N) (_ : (cfg0.win 4).flush t = true) :
    (dats m 0 c).flushed 4 t = ((cfg0.win 4).blk t).view.read (Elt Ideal) (act m c) := by
  show (cfg0.win 4).cut (grid0.coords t) ((dats m 0 c).after 4 t) = _
  rw [after0_4]
  funext y
  refine (act_tile (iblk m c 0 t) (iblk m c 1 t) (iblk m c 2 t) (iblk m c 3 t) y).trans ?_
  show _ = act m c (((cfg0.win 4).blk t).view.emb y)
  refine Eq.trans (congrArg₂ (fun a b : EReal => a * logi a * b) (gate_at m c t (y 0) (y 1)) (up_at m c t (y 0) (y 1))) (congrArg (act m c) (funext fun a => Fin.ext ?_))
  match a with
  | ⟨0, _⟩ =>
    show 512 * t.val + (y 0).val = win0_4.index t 0 * 512 + 1 * (y 0).val
    rw [index_4]; omega
  | ⟨1, _⟩ => exact (Rows.at0 _).symm

theorem box_4 : ∀ t : Fin cfg0.N, win0_4.index t 0 * win0_4.size 0 = 512 * t.val ∧ win0_4.xsize (grid0.coords t) 0 = 512
    ∧ win0_4.index t 1 * win0_4.size 1 = 0 ∧ win0_4.xsize (grid0.coords t) 1 = 2816 := by decide +kernel

theorem cover_act (i : S8192x2816.Idx) : ∃ t, (cfg0.win 4).flush t = true ∧ i ∈ ((cfg0.win 4).blk t).view.set := by
  have h0 : (i 0 : ℕ) < 8192 := (i 0).isLt
  have h1 : (i 1 : ℕ) < 2816 := (i 1).isLt
  refine ⟨⟨(i 0 : ℕ) / 512, lt_of_lt_of_eq (by omega) (show 16 = cfg0.N from N_0.symm)⟩, flush0_4 _, ?_⟩
  generalize ht : (⟨(i 0 : ℕ) / 512, _⟩ : Fin cfg0.N) = t
  have hv : (i 0 : ℕ) / 512 = t.val := congrArg Fin.val ht
  show i ∈ ((View.whole main_v0_0).slice (win0_4.rect t)).set
  rw [View.set_slice_whole, Rect.mem_set_unit]
  obtain ⟨b0, b1, b2, b3⟩ := box_4 t
  intro a
  match a with
  | ⟨0, _⟩ =>
    show win0_4.index t 0 * win0_4.size 0 ≤ (i 0 : ℕ) ∧ (i 0 : ℕ) < win0_4.index t 0 * win0_4.size 0 + win0_4.xsize (grid0.coords t) 0
    rw [b0, b1]; omega
  | ⟨1, _⟩ =>
    show win0_4.index t 1 * win0_4.size 1 ≤ (i 1 : ℕ) ∧ (i 1 : ℕ) < win0_4.index t 1 * win0_4.size 1 + win0_4.xsize (grid0.coords t) 1
    rw [b2, b3]; omega

theorem final_act : (dats m 0 c).arrAt 4 cfg0.N = act m c :=
  Dat.arrAt_eq_of_cover (dats m 0 c) 4 (act m c) (fun t ht => flushed_act m c t ht) cover_act

theorem flushed_gate (t : Fin cfg0.N) (_ : (cfg0.win 5).flush t = true) :
    (dats m 0 c).flushed 5 t = ((cfg0.win 5).blk t).view.read (Elt Ideal) (gate m c) := by
  show (cfg0.win 5).cut (grid0.coords t) ((dats m 0 c).after 5 t) = _
  rw [after0_5]
  funext y
  refine (gate_tile (iblk m c 0 t) (iblk m c 1 t) (iblk m c 2 t) (iblk m c 3 t) y).trans ?_
  show _ = gate m c (((cfg0.win 5).blk t).view.emb y)
  refine Eq.trans (gate_at m c t (y 0) (y 1)) (congrArg (gate m c) (funext fun a => Fin.ext ?_))
  match a with
  | ⟨0, _⟩ =>
    show 512 * t.val + (y 0).val = win0_5.index t 0 * 512 + 1 * (y 0).val
    rw [index_5]; omega
  | ⟨1, _⟩ => exact (Rows.at0 _).symm

theorem box_5 : ∀ t : Fin cfg0.N, win0_5.index t 0 * win0_5.size 0 = 512 * t.val ∧ win0_5.xsize (grid0.coords t) 0 = 512
    ∧ win0_5.index t 1 * win0_5.size 1 = 0 ∧ win0_5.xsize (grid0.coords t) 1 = 2816 := by decide +kernel

theorem cover_gate (i : S8192x2816.Idx) : ∃ t, (cfg0.win 5).flush t = true ∧ i ∈ ((cfg0.win 5).blk t).view.set := by
  have h0 : (i 0 : ℕ) < 8192 := (i 0).isLt
  have h1 : (i 1 : ℕ) < 2816 := (i 1).isLt
  refine ⟨⟨(i 0 : ℕ) / 512, lt_of_lt_of_eq (by omega) (show 16 = cfg0.N from N_0.symm)⟩, flush0_5 _, ?_⟩
  generalize ht : (⟨(i 0 : ℕ) / 512, _⟩ : Fin cfg0.N) = t
  have hv : (i 0 : ℕ) / 512 = t.val := congrArg Fin.val ht
  show i ∈ ((View.whole main_v0_1).slice (win0_5.rect t)).set
  rw [View.set_slice_whole, Rect.mem_set_unit]
  obtain ⟨b0, b1, b2, b3⟩ := box_5 t
  intro a
  match a with
  | ⟨0, _⟩ =>
    show win0_5.index t 0 * win0_5.size 0 ≤ (i 0 : ℕ) ∧ (i 0 : ℕ) < win0_5.index t 0 * win0_5.size 0 + win0_5.xsize (grid0.coords t) 0
    rw [b0, b1]; omega
  | ⟨1, _⟩ =>
    show win0_5.index t 1 * win0_5.size 1 ≤ (i 1 : ℕ) ∧ (i 1 : ℕ) < win0_5.index t 1 * win0_5.size 1 + win0_5.xsize (grid0.coords t) 1
    rw [b2, b3]; omega

theorem final_gate : (dats m 0 c).arrAt 5 cfg0.N = gate m c :=
  Dat.arrAt_eq_of_cover (dats m 0 c) 5 (gate m c) (fun t ht => flushed_gate m c t ht) cover_gate

theorem flushed_up (t : Fin cfg0.N) (_ : (cfg0.win 6).flush t = true) :
    (dats m 0 c).flushed 6 t = ((cfg0.win 6).blk t).view.read (Elt Ideal) (up m c) := by
  show (cfg0.win 6).cut (grid0.coords t) ((dats m 0 c).after 6 t) = _
  rw [after0_6]
  funext y
  refine (up_tile (iblk m c 0 t) (iblk m c 1 t) (iblk m c 2 t) (iblk m c 3 t) y).trans ?_
  show _ = up m c (((cfg0.win 6).blk t).view.emb y)
  refine Eq.trans (up_at m c t (y 0) (y 1)) (congrArg (up m c) (funext fun a => Fin.ext ?_))
  match a with
  | ⟨0, _⟩ =>
    show 512 * t.val + (y 0).val = win0_6.index t 0 * 512 + 1 * (y 0).val
    rw [index_6]; omega
  | ⟨1, _⟩ => exact (Rows.at0 _).symm

theorem box_6 : ∀ t : Fin cfg0.N, win0_6.index t 0 * win0_6.size 0 = 512 * t.val ∧ win0_6.xsize (grid0.coords t) 0 = 512
    ∧ win0_6.index t 1 * win0_6.size 1 = 0 ∧ win0_6.xsize (grid0.coords t) 1 = 2816 := by decide +kernel

theorem cover_up (i : S8192x2816.Idx) : ∃ t, (cfg0.win 6).flush t = true ∧ i ∈ ((cfg0.win 6).blk t).view.set := by
  have h0 : (i 0 : ℕ) < 8192 := (i 0).isLt
  have h1 : (i 1 : ℕ) < 2816 := (i 1).isLt
  refine ⟨⟨(i 0 : ℕ) / 512, lt_of_lt_of_eq (by omega) (show 16 = cfg0.N from N_0.symm)⟩, flush0_6 _, ?_⟩
  generalize ht : (⟨(i 0 : ℕ) / 512, _⟩ : Fin cfg0.N) = t
  have hv : (i 0 : ℕ) / 512 = t.val := congrArg Fin.val ht
  show i ∈ ((View.whole main_v0_2).slice (win0_6.rect t)).set
  rw [View.set_slice_whole, Rect.mem_set_unit]
  obtain ⟨b0, b1, b2, b3⟩ := box_6 t
  intro a
  match a with
  | ⟨0, _⟩ =>
    show win0_6.index t 0 * win0_6.size 0 ≤ (i 0 : ℕ) ∧ (i 0 : ℕ) < win0_6.index t 0 * win0_6.size 0 + win0_6.xsize (grid0.coords t) 0
    rw [b0, b1]; omega
  | ⟨1, _⟩ =>
    show win0_6.index t 1 * win0_6.size 1 ≤ (i 1 : ℕ) ∧ (i 1 : ℕ) < win0_6.index t 1 * win0_6.size 1 + win0_6.xsize (grid0.coords t) 1
    rw [b2, b3]; omega

theorem final_up : (dats m 0 c).arrAt 6 cfg0.N = up m c :=
  Dat.arrAt_eq_of_cover (dats m 0 c) 6 (up m c) (fun t ht => flushed_up m c t ht) cover_up

/-- The kernel's run leaves the three results at the activation and the two products. -/
theorem output : θ_run defs (onTc (τ := τ) (main (F := Ideal))) ⟨m, fun _ => 0, ρ⟩ fun r => ∀ c : Dev nD,
      r.2.mem ((c.tc : Thread nD τ).loc main_v0_0) = act m c
      ∧ r.2.mem ((c.tc : Thread nD τ).loc main_v0_1) = gate m c
      ∧ r.2.mem ((c.tc : Thread nD τ).loc main_v0_2) = up m c :=
  (θ_run defs _ _).mono (fun _ h c => ⟨((h c).1 4).trans (final_act m c), ((h c).1 5).trans (final_gate m c), ((h c).1 6).trans (final_up m c)⟩) (run_main m ρ)

/-- The kernel's run, read: the three results, the arguments unchanged. -/
theorem value : θ_run defs (onTc (τ := τ) (main (F := Ideal))) ⟨m, fun _ => 0, ρ⟩ fun r => ∀ c : Dev nD,
      r.2.mem ((c.tc : Thread nD τ).loc main_v0_0) = act m c
      ∧ r.2.mem ((c.tc : Thread nD τ).loc main_v0_1) = gate m c
      ∧ r.2.mem ((c.tc : Thread nD τ).loc main_v0_2) = up m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).1, (h.1 c).2.1, (h.1 c).2.2, h.2.1 c⟩)
    (θ_run_and (output m ρ) (frame m ρ))

end Cert.GateIdeal.Value

end
-- ==== Proof.GateEqual.lean ====
module

public import proofs.«01_k».proof.Defs
public import proofs.«01_k».proof.Proof.GateValue
public import Idealize.ShloMosaic.Lib.Quiescent
public import proofs.«01_k».proof.Proof.Gen.GateReferenceIdeal.Read

@[expose] public section

set_option maxRecDepth 16384

noncomputable section

/-! The kernel and the reference of the channel mixer's input products compute the same three arrays. -/

namespace Cert.GateReferenceIdeal.Value

open Idealize.ShloMosaic Idealize.ShloMosaic.TcCoe Idealize.SL.Sem
open Cert.GateReferenceIdeal Cert.GateReferenceIdeal.Gen Cert.GateReferenceIdeal.Read

variable (x0 : (⟨S8192x1024, .bf16⟩ : BufTy).Contents (Elt Ideal)) (x1 x2 : (⟨S2816x1024, .bf16⟩ : BufTy).Contents (Elt Ideal))

/-- The gate at an index: a row of the state against a row of the weight. -/
theorem product (y : S8192x2816.Idx) :
    val_main_v5 (F := Ideal) x0 x1 y = Cert.GateIdeal.Value.rows x0 x1 y := by
  refine (val_main_v5_apply x0 x1 y).trans (Finset.sum_congr rfl fun k _ => ?_)
  rw [val_main_v2_apply]
  have el : lidx_main_v5 y k = ix2 (y 0) k := by
    funext a
    match a with
    | ⟨0, _⟩ => rfl
    | ⟨1, _⟩ => rfl
  have er : idx_main_v2 (ridx_main_v5 y k) = ix2 (y 1) k := by
    funext a
    match a with
    | ⟨0, _⟩ => rfl
    | ⟨1, _⟩ => rfl
  rw [el, er]
  rfl

/-- The other product is the same function of its own weight. -/
theorem product_up (y : S8192x2816.Idx) :
    val_main_v6 (F := Ideal) x0 x2 y = Cert.GateIdeal.Value.rows x0 x2 y := product x0 x2 y

/-- The kernel's logistic factor, read: one over one plus the exponential of the negative. -/
theorem logistic (z : EReal) : Cert.GateIdeal.Value.logi z
    = FloatOps.hostDivf (F := Ideal) (φ := .f32) (FloatOps.ofBits .f32 0x3F800000#32)
        (FloatOps.addf (F := Ideal) (φ := .f32) (FloatOps.ofBits .f32 0x3F800000#32)
          (FloatOps.hostUnary (F := Ideal) (φ := .f32) .exp (FloatOps.hostNegf (F := Ideal) (φ := .f32) z))) := by
  have h : FloatOps.subf (F := Ideal) (φ := .f32) (Scalar.ofBits .f32 0x00000000#32) z = FloatOps.hostNegf (F := Ideal) (φ := .f32) z := by
    pointwise
    exact zero_sub z
  rw [Cert.GateIdeal.Value.logi, h]
  rfl

/-- The activation at an index. -/
theorem activation (y : S8192x2816.Idx) :
    val_main_v9 (F := Ideal) x0 x1 x2 y
      = Cert.GateIdeal.Value.rows x0 x1 y * Cert.GateIdeal.Value.logi (Cert.GateIdeal.Value.rows x0 x1 y) * Cert.GateIdeal.Value.rows x0 x2 y := by
  rw [val_main_v9_apply, val_main_v8_apply, val_main_v7_apply, val_main_call0_v5_apply, val_main_call0_v3_apply, val_main_call0_v1_apply,
    val_main_call0_v0_apply, val_main_call0_v4_apply, val_main_call0_v2_apply, val_main_call0_cst_apply, val_main_call0_cst_0_apply,
    product, product_up, logistic]
  rfl

end Cert.GateReferenceIdeal.Value

namespace Cert.GateEqual

open Idealize.ShloMosaic Idealize.ShloMosaic.TcCoe Idealize.SL.Sem

/-- From any arguments the kernel and the reference end with the same arrays. -/
theorem equal : Cert.algebraic_GateIdeal_GateReferenceIdeal := by
  intro m g m' g' _ ha
  refine ⟨Cert.GateIdeal.Value.act m, Cert.GateIdeal.Value.gate m, Cert.GateIdeal.Value.up m, Cert.GateIdeal.Value.value m g, ?_⟩
  refine (θ_run Cert.GateReferenceIdeal.defs _ _).mono (fun r h c => ?_) (Cert.GateReferenceIdeal.Value.run (F := Ideal) m' g')
  obtain ⟨hv0, hv1, hv2, hargs⟩ := h c
  obtain ⟨a0, a1, a2⟩ := ha c
  refine ⟨hv0.trans ?_, hv1.trans ?_, hv2.trans ?_, hargs⟩
  · rw [a0, a1, a2]
    exact (Cert.GateReferenceIdeal.Read.val_main_v9_eq (F := Ideal) _ _ _).trans (funext fun y => Cert.GateReferenceIdeal.Value.activation _ _ _ y)
  · rw [a0, a1]
    exact (Cert.GateReferenceIdeal.Read.val_main_v10_eq (F := Ideal) _ _).trans (funext fun y => Cert.GateReferenceIdeal.Value.product _ _ y)
  · rw [a0, a2]
    exact (Cert.GateReferenceIdeal.Read.val_main_v11_eq (F := Ideal) _ _).trans (funext fun y => Cert.GateReferenceIdeal.Value.product_up _ _ y)

/-- The reference ends with its arguments unchanged and every counter at zero. -/
theorem frame_reference : Cert.quiescent_GateReferenceIdeal := by
  intro m ρ _
  exact (θ_run Cert.GateReferenceIdeal.defs _ _).mono (fun r h => ⟨fun c => (h c).2.2.2,
      Idealize.ShloMosaic.sem_eq_zero_of_no_sems (by decide) r.2⟩)
    (Cert.GateReferenceIdeal.Value.run (F := Ideal) m ρ)

end Cert.GateEqual

end
-- ==== Proof.Scalars.lean ====
module

public import Idealize.ShloMosaic.Lib.Pointwise
public import Idealize.ShloMosaic.Lib.Claim
public import proofs.«01_k».proof.Defs

@[expose] public section

set_option maxRecDepth 16384

noncomputable section

/-! Scalar functions several calls share. -/

namespace Cert.Scalars

open Idealize.ShloMosaic

/-- The single-precision one. -/
def one : EReal := Scalar.ofBits (F := Ideal) .f32 0x3F800000#32

/-- The logistic factor as the kernels write it: one over one plus the exponential of zero less the argument. -/
def logi (z : EReal) : EReal :=
  FloatOps.divf (F := Ideal) (φ := .f32) (Scalar.ofBits .f32 0x3F800000#32)
    (FloatOps.addf (F := Ideal) (φ := .f32) (Scalar.ofBits .f32 0x3F800000#32)
      (FloatOps.exp (F := Ideal) (φ := .f32) (FloatOps.subf (F := Ideal) (φ := .f32) (Scalar.ofBits .f32 0x00000000#32) z)))

/-- The logistic factor, read: one over one plus the exponential of the negative. -/
theorem logistic (z : EReal) : logi z
    = FloatOps.hostDivf (F := Ideal) (φ := .f32) (FloatOps.ofBits .f32 0x3F800000#32)
        (FloatOps.addf (F := Ideal) (φ := .f32) (FloatOps.ofBits .f32 0x3F800000#32)
          (FloatOps.hostUnary (F := Ideal) (φ := .f32) .exp (FloatOps.hostNegf (F := Ideal) (φ := .f32) z))) := by
  have h : FloatOps.subf (F := Ideal) (φ := .f32) (Scalar.ofBits .f32 0x00000000#32) z = FloatOps.hostNegf (F := Ideal) (φ := .f32) z := by
    pointwise
    exact zero_sub z
  rw [logi, h]
  rfl

theorem congr1 (f : EReal → EReal) {a a' : EReal} (ha : a = a') : f a = f a' := by rw [ha]

theorem congr2 (f : EReal → EReal → EReal) {a a' b b' : EReal} (ha : a = a') (hb : b = b') : f a b = f a' b' := by rw [ha, hb]

theorem congr3 (f : EReal → EReal → EReal → EReal) {a a' b b' c c' : EReal} (ha : a = a') (hb : b = b') (hc : c = c') :
    f a b c = f a' b' c' := by rw [ha, hb, hc]

theorem congr4 (f : EReal → EReal → EReal → EReal → EReal) {a a' b b' c c' d d' : EReal} (ha : a = a') (hb : b = b') (hc : c = c')
    (hd : d = d') : f a b c d = f a' b' c' d' := by rw [ha, hb, hc, hd]

/-- A gated product's gradient in the gate's argument. -/
def slope (d g u : EReal) : EReal := d * u * (logi g * (one + g * (one - logi g)))

/-- The gradient through the other factor. -/
def through (d g : EReal) : EReal := d * (g * logi g)

/-- A gradient times a logistic gate. -/
def gated (d g : EReal) : EReal := d * logi g

/-- The gradient of a logistic gate's argument. -/
def gateSlope (d p g : EReal) : EReal := d * p * (logi g * (one - logi g))

/-- Two branches under their gates. -/
def merged (a m ga gm : EReal) : EReal := logi ga * a + logi gm * m

/-- A product left as it is. -/
def plain (a : EReal) : EReal := a

end Cert.Scalars

end
-- ==== Proof.DownTile.lean ====
module

public import proofs.«01_k».proof.Proof.Gen.DownIdeal.Frame
public import proofs.«01_k».proof.Proof.Scalars
public import Idealize.ShloMosaic.Lib.Pointwise
public import Idealize.ShloMosaic.Lib.Claim
public import Idealize.ShloMosaic.Lib.Pipeline.Value

@[expose] public section

set_option maxRecDepth 16384

noncomputable section

/-! The gradient through the channel mixer's down projection and its activation: one tile of 512 rows, chunk by chunk of columns. -/

namespace Cert.DownIdeal.Value

open Idealize.ShloMosaic Idealize.ShloMosaic.TcCoe Idealize.ShloMosaic.Tactic Idealize.SL.Sem
open Cert.DownIdeal Cert.DownIdeal.Gen Cert.Scalars

/-- A row of the tile against a row or column of the weight. -/
def prod_d (x : S512x1024.Idx → EReal) (w : S2816x1024.Idx → EReal) (i : Fin 512) (j : Fin 2816) : EReal :=
  ∑ k : Fin 1024, x (ix2 i k) * w (ix2 j k)

/-- The chunk's product from the values it reads. -/
theorem apply_d (x : Vec Ideal S512x1024 .bf16) (w : Vec Ideal S256x1024 .bf16) (i : Fin 512) (j : Fin 256) :
    (matmul (F := Ideal) (φ₁ := .bf16) (φ₂ := .bf16) dot_S512x1024_S256x1024_S512x256_1_1_0_0_n_n none x w (constant (F := Ideal) S512x256 .f32 0x00000000#32) : FVec Ideal S512x256 .f32) (ix2 i j)
      = ∑ k : Fin 1024, x (ix2 i k) * w (ix2 j k) := by
  pointwise []

/-- A chunk's product is the tile's product at the chunk's place. -/
theorem chunk_d (x : Vec Ideal S512x1024 .bf16) (w : Vec Ideal S2816x1024 .bf16) (o : ℕ)
    (inb : ∀ a, (![o, 0] : Fin 2 → ℕ) a + S256x1024.size a ≤ S2816x1024.size a) (i : Fin 512) (j : Fin 256) (h : o + j.val < 2816) :
    (matmul (F := Ideal) (φ₁ := .bf16) (φ₂ := .bf16) dot_S512x1024_S256x1024_S512x256_1_1_0_0_n_n none x (View.ld w (Rect.unit (s := S2816x1024) ![o, 0] S256x1024.size inb))
      (constant (F := Ideal) S512x256 .f32 0x00000000#32) : FVec Ideal S512x256 .f32) (ix2 i j) = prod_d x w i ⟨o + j.val, h⟩ := by
  rw [apply_d]
  refine Finset.sum_congr rfl fun k _ => congrArg (fun b : EReal => x (ix2 i k) * b) ?_
  refine congrArg w (funext fun a => Fin.ext ?_)
  match a with
  | ⟨0, _⟩ => show o + 1 * j.val = o + j.val; omega
  | ⟨1, _⟩ => show 0 + 1 * k.val = k.val; omega

/-- Reading a whole window reads it. -/
theorem whole_1024 (x : Vec Ideal S512x1024 .bf16) (inb : ∀ a, (![0, 0] : Fin 2 → ℕ) a + S512x1024.size a ≤ S512x1024.size a) :
    View.ld x (Rect.unit (s := S512x1024) ![0, 0] S512x1024.size inb) = x := by
  refine funext fun y => congrArg x (funext fun a => Fin.ext ?_)
  match a with
  | ⟨0, _⟩ => show 0 + 1 * (y 0).val = (y 0).val; omega
  | ⟨1, _⟩ => show 0 + 1 * (y 1).val = (y 1).val; omega

/-- The chunk's place in the tile. -/
theorem place_2816_256 (o : ℕ) (inb : ∀ a, (![0, o] : Fin 2 → ℕ) a + S512x256.size a ≤ S512x2816.size a) (i : Fin 512) (j : Fin 256)
    (h : o + j.val < 2816) : (Rect.unit (s := S512x2816) ![0, o] S512x256.size inb).emb (ix2 i j) = ix2 i ⟨o + j.val, h⟩ := by
  refine funext fun a => Fin.ext ?_
  match a with
  | ⟨0, _⟩ => show 0 + 1 * i.val = i.val; omega
  | ⟨1, _⟩ => show o + 1 * j.val = o + j.val; omega

theorem bound_2816_256 (o : ℕ) (inb : ∀ a, (![0, o] : Fin 2 → ℕ) a + S512x256.size a ≤ S512x2816.size a) (j : Fin 256) : o + j.val < 2816 := by
  have h : o + 256 ≤ 2816 := inb 1
  omega

theorem split_256 (y : S512x256.Idx) : ∃ (i : Fin 512) (j : Fin 256), y = ix2 i j :=
  ⟨y 0, y 1, by funext a; match a with | ⟨0, _⟩ => rfl | ⟨1, _⟩ => rfl⟩

variable (x0 : Vec Ideal S512x1024 .bf16) (x1 : Vec Ideal S2816x1024 .bf16) (x2 : Vec Ideal S512x2816 .bf16) (x3 : Vec Ideal S512x2816 .bf16)

/-- The tile of dgate. -/
def dgateAt (y : S512x2816.Idx) : EReal := slope (prod_d x0 x1 (y 0) (y 1)) (x2 (ix2 (y 0) (y 1))) (x3 (ix2 (y 0) (y 1)))

theorem dgate_piece (o : ℕ) (inw_S2816x1024 : ∀ a, (![o, 0] : Fin 2 → ℕ) a + S256x1024.size a ≤ S2816x1024.size a) (inb : ∀ a, (![0, o] : Fin 2 → ℕ) a + S512x256.size a ≤ S512x2816.size a) (z : S512x256.Idx) :
    slope ((matmul (F := Ideal) (φ₁ := .bf16) (φ₂ := .bf16) dot_S512x1024_S256x1024_S512x256_1_1_0_0_n_n none (View.ld x0 r0_1) (View.ld x1 (Rect.unit (s := S2816x1024) ![o, 0] S256x1024.size inw_S2816x1024)) (constant (F := Ideal) S512x256 .f32 0x00000000#32) : FVec Ideal S512x256 .f32) z)
      (View.ld x2 (Rect.unit (s := S512x2816) ![0, o] S512x256.size inb) z)
      (View.ld x3 (Rect.unit (s := S512x2816) ![0, o] S512x256.size inb) z)
      = dgateAt x0 x1 x2 x3 ((Rect.unit (s := S512x2816) ![0, o] S512x256.size inb).emb z) := by
  obtain ⟨i, j, rfl⟩ := split_256 z
  have h := bound_2816_256 o inb j
  refine Eq.trans ?_ (congrArg (dgateAt x0 x1 x2 x3) (place_2816_256 o inb i j h).symm)
  exact congr3 slope ((chunk_d (View.ld x0 r0_1) x1 o inw_S2816x1024 i j h).trans (congrArg (fun q => prod_d q x1 i ⟨o + j.val, h⟩) (whole_1024 x0 _)))
    (congrArg x2 (place_2816_256 o inb i j h))
    (congrArg x3 (place_2816_256 o inb i j h))

/-- What a tile's body leaves in the window of dgate. -/
theorem dgate_tile (y : S512x2816.Idx) : out0_4 (F := Ideal) x0 x1 x2 x3 y = dgateAt x0 x1 x2 x3 y := by
  unfold out0_4
  refine View.canon_apply_of_pieces (Val := Elt Ideal) (dgateAt x0 x1 x2 x3) _ ?_ y (cover0_4 _ _ _ _ _ _ _ _ _ _ _ y)
  refine List.forall_mem_cons.2 ⟨dgate_piece x0 x1 x2 x3 2560 inb_S2816x1024_S256x1024_2560_0 inb_S512x2816_S512x256_0_2560, ?_⟩
  refine List.forall_mem_cons.2 ⟨dgate_piece x0 x1 x2 x3 2304 inb_S2816x1024_S256x1024_2304_0 inb_S512x2816_S512x256_0_2304, ?_⟩
  refine List.forall_mem_cons.2 ⟨dgate_piece x0 x1 x2 x3 2048 inb_S2816x1024_S256x1024_2048_0 inb_S512x2816_S512x256_0_2048, ?_⟩
  refine List.forall_mem_cons.2 ⟨dgate_piece x0 x1 x2 x3 1792 inb_S2816x1024_S256x1024_1792_0 inb_S512x2816_S512x256_0_1792, ?_⟩
  refine List.forall_mem_cons.2 ⟨dgate_piece x0 x1 x2 x3 1536 inb_S2816x1024_S256x1024_1536_0 inb_S512x2816_S512x256_0_1536, ?_⟩
  refine List.forall_mem_cons.2 ⟨dgate_piece x0 x1 x2 x3 1280 inb_S2816x1024_S256x1024_1280_0 inb_S512x2816_S512x256_0_1280, ?_⟩
  refine List.forall_mem_cons.2 ⟨dgate_piece x0 x1 x2 x3 1024 inb_S2816x1024_S256x1024_1024_0 inb_S512x2816_S512x256_0_1024, ?_⟩
  refine List.forall_mem_cons.2 ⟨dgate_piece x0 x1 x2 x3 768 inb_S2816x1024_S256x1024_768_0 inb_S512x2816_S512x256_0_768, ?_⟩
  refine List.forall_mem_cons.2 ⟨dgate_piece x0 x1 x2 x3 512 inb_S2816x1024_S256x1024_512_0 inb_S512x2816_S512x256_0_512, ?_⟩
  refine List.forall_mem_cons.2 ⟨dgate_piece x0 x1 x2 x3 256 inb_S2816x1024_S256x1024_256_0 inb_S512x2816_S512x256_0_256, ?_⟩
  refine List.forall_mem_cons.2 ⟨dgate_piece x0 x1 x2 x3 0 inb_S2816x1024_S256x1024_0_0 inb_S512x2816_S512x256_0_0, ?_⟩
  exact fun _ h => absurd h List.not_mem_nil

/-- The tile of dup. -/
def dupAt (y : S512x2816.Idx) : EReal := through (prod_d x0 x1 (y 0) (y 1)) (x2 (ix2 (y 0) (y 1)))

theorem dup_piece (o : ℕ) (inw_S2816x1024 : ∀ a, (![o, 0] : Fin 2 → ℕ) a + S256x1024.size a ≤ S2816x1024.size a) (inb : ∀ a, (![0, o] : Fin 2 → ℕ) a + S512x256.size a ≤ S512x2816.size a) (z : S512x256.Idx) :
    through ((matmul (F := Ideal) (φ₁ := .bf16) (φ₂ := .bf16) dot_S512x1024_S256x1024_S512x256_1_1_0_0_n_n none (View.ld x0 r0_1) (View.ld x1 (Rect.unit (s := S2816x1024) ![o, 0] S256x1024.size inw_S2816x1024)) (constant (F := Ideal) S512x256 .f32 0x00000000#32) : FVec Ideal S512x256 .f32) z)
      (View.ld x2 (Rect.unit (s := S512x2816) ![0, o] S512x256.size inb) z)
      = dupAt x0 x1 x2 ((Rect.unit (s := S512x2816) ![0, o] S512x256.size inb).emb z) := by
  obtain ⟨i, j, rfl⟩ := split_256 z
  have h := bound_2816_256 o inb j
  refine Eq.trans ?_ (congrArg (dupAt x0 x1 x2) (place_2816_256 o inb i j h).symm)
  exact congr2 through ((chunk_d (View.ld x0 r0_1) x1 o inw_S2816x1024 i j h).trans (congrArg (fun q => prod_d q x1 i ⟨o + j.val, h⟩) (whole_1024 x0 _)))
    (congrArg x2 (place_2816_256 o inb i j h))

/-- What a tile's body leaves in the window of dup. -/
theorem dup_tile (y : S512x2816.Idx) : out0_5 (F := Ideal) x0 x1 x2 x3 y = dupAt x0 x1 x2 y := by
  unfold out0_5
  refine View.canon_apply_of_pieces (Val := Elt Ideal) (dupAt x0 x1 x2) _ ?_ y (cover0_5 _ _ _ _ _ _ _ _ _ _ _ y)
  refine List.forall_mem_cons.2 ⟨dup_piece x0 x1 x2 2560 inb_S2816x1024_S256x1024_2560_0 inb_S512x2816_S512x256_0_2560, ?_⟩
  refine List.forall_mem_cons.2 ⟨dup_piece x0 x1 x2 2304 inb_S2816x1024_S256x1024_2304_0 inb_S512x2816_S512x256_0_2304, ?_⟩
  refine List.forall_mem_cons.2 ⟨dup_piece x0 x1 x2 2048 inb_S2816x1024_S256x1024_2048_0 inb_S512x2816_S512x256_0_2048, ?_⟩
  refine List.forall_mem_cons.2 ⟨dup_piece x0 x1 x2 1792 inb_S2816x1024_S256x1024_1792_0 inb_S512x2816_S512x256_0_1792, ?_⟩
  refine List.forall_mem_cons.2 ⟨dup_piece x0 x1 x2 1536 inb_S2816x1024_S256x1024_1536_0 inb_S512x2816_S512x256_0_1536, ?_⟩
  refine List.forall_mem_cons.2 ⟨dup_piece x0 x1 x2 1280 inb_S2816x1024_S256x1024_1280_0 inb_S512x2816_S512x256_0_1280, ?_⟩
  refine List.forall_mem_cons.2 ⟨dup_piece x0 x1 x2 1024 inb_S2816x1024_S256x1024_1024_0 inb_S512x2816_S512x256_0_1024, ?_⟩
  refine List.forall_mem_cons.2 ⟨dup_piece x0 x1 x2 768 inb_S2816x1024_S256x1024_768_0 inb_S512x2816_S512x256_0_768, ?_⟩
  refine List.forall_mem_cons.2 ⟨dup_piece x0 x1 x2 512 inb_S2816x1024_S256x1024_512_0 inb_S512x2816_S512x256_0_512, ?_⟩
  refine List.forall_mem_cons.2 ⟨dup_piece x0 x1 x2 256 inb_S2816x1024_S256x1024_256_0 inb_S512x2816_S512x256_0_256, ?_⟩
  refine List.forall_mem_cons.2 ⟨dup_piece x0 x1 x2 0 inb_S2816x1024_S256x1024_0_0 inb_S512x2816_S512x256_0_0, ?_⟩
  exact fun _ h => absurd h List.not_mem_nil

end Cert.DownIdeal.Value

end
-- ==== Proof.DownValue.lean ====
module

public import proofs.«01_k».proof.Proof.Rows
public import proofs.«01_k».proof.Proof.DownTile
public import Idealize.ShloMosaic.Lib.Claim
public import Idealize.ShloMosaic.Lib.Pipeline.Value

@[expose] public section

set_option maxRecDepth 16384

noncomputable section

/-! The gradient through the channel mixer's down projection and its activation: the arrays the run leaves. -/

namespace Cert.DownIdeal.Value

open Idealize.ShloMosaic Idealize.ShloMosaic.TcCoe Idealize.ShloMosaic.Tactic Idealize.SL.Sem
open Idealize.ShloMosaic.Pipeline (Dat)
open Cert.DownIdeal Cert.DownIdeal.Gen Cert.Scalars

variable (m : (ℓ : Loc nD τ sig) → Buf (Elt Ideal) ℓ) (ρ : Dev nD → PrngReg) (c : Dev nD)

theorem index_0 : ∀ t : Fin cfg0.N, win0_0.index t 0 = t.val := by decide +kernel
theorem index_2 : ∀ t : Fin cfg0.N, win0_2.index t 0 = t.val := by decide +kernel
theorem index_3 : ∀ t : Fin cfg0.N, win0_3.index t 0 = t.val := by decide +kernel
theorem index_4 : ∀ t : Fin cfg0.N, win0_4.index t 0 = t.val := by decide +kernel
theorem index_5 : ∀ t : Fin cfg0.N, win0_5.index t 0 = t.val := by decide +kernel

theorem points (t : Fin cfg0.N) : t.val < 16 := lt_of_lt_of_eq t.isLt (show cfg0.N = 16 from N_0)

/-- A tile's row in the whole array. -/
def row (t : Fin cfg0.N) (r : Fin 512) : Fin 8192 := ⟨512 * t.val + r.val, by have := points t; omega⟩

/-- The tile holds rows of its array. -/
theorem tile_0 (t : Fin cfg0.N) (r : Fin 512) (k : Fin 1024) : iblk m c 0 t (ix2 r k) = m (c, main_arg0) (ix2 (row t r) k) := by
  refine congrArg (m (c, main_arg0)) (funext fun a => Fin.ext ?_)
  match a with
  | ⟨0, _⟩ =>
    show win0_0.index t 0 * 512 + 1 * r.val = 512 * t.val + r.val
    rw [index_0]; omega
  | ⟨1, _⟩ => exact Rows.at0 _

/-- The window holds the whole array. -/
theorem tile_1 (t : Fin cfg0.N) (j : Fin 2816) (k : Fin 1024) : iblk m c 1 t (ix2 j k) = m (c, main_arg1) (ix2 j k) := by
  refine congrArg (m (c, main_arg1)) (funext fun a => Fin.ext ?_)
  match a with
  | ⟨0, _⟩ => exact Rows.at0 _
  | ⟨1, _⟩ => exact Rows.at0 _

/-- The tile holds rows of its array. -/
theorem tile_2 (t : Fin cfg0.N) (r : Fin 512) (k : Fin 2816) : iblk m c 2 t (ix2 r k) = m (c, main_arg2) (ix2 (row t r) k) := by
  refine congrArg (m (c, main_arg2)) (funext fun a => Fin.ext ?_)
  match a with
  | ⟨0, _⟩ =>
    show win0_2.index t 0 * 512 + 1 * r.val = 512 * t.val + r.val
    rw [index_2]; omega
  | ⟨1, _⟩ => exact Rows.at0 _

/-- The tile holds rows of its array. -/
theorem tile_3 (t : Fin cfg0.N) (r : Fin 512) (k : Fin 2816) : iblk m c 3 t (ix2 r k) = m (c, main_arg3) (ix2 (row t r) k) := by
  refine congrArg (m (c, main_arg3)) (funext fun a => Fin.ext ?_)
  match a with
  | ⟨0, _⟩ =>
    show win0_3.index t 0 * 512 + 1 * r.val = 512 * t.val + r.val
    rw [index_3]; omega
  | ⟨1, _⟩ => exact Rows.at0 _

/-- Argument 0 as the region finds it. -/
def arg0 : S8192x1024.Idx → EReal := m (c, main_arg0)

/-- Argument 1 as the region finds it. -/
def arg1 : S2816x1024.Idx → EReal := m (c, main_arg1)

/-- Argument 2 as the region finds it. -/
def arg2 : S8192x2816.Idx → EReal := m (c, main_arg2)

/-- Argument 3 as the region finds it. -/
def arg3 : S8192x2816.Idx → EReal := m (c, main_arg3)

/-- A product of an array with a weight. -/
def rows_d (x : S8192x1024.Idx → EReal) (w : S2816x1024.Idx → EReal) (y : S8192x2816.Idx) : EReal :=
  ∑ k : Fin 1024, x (ix2 (y 0) k) * w (ix2 (y 1) k)

/-- A tile's product is the product at the tile's place. -/
theorem at_d_0_1 (t : Fin cfg0.N) (i : Fin 512) (j : Fin 2816) :
    prod_d (iblk m c 0 t) (iblk m c 1 t) i j = rows_d (arg0 m c) (arg1 m c) (ix2 (row t i) j) :=
  Finset.sum_congr rfl fun k _ => congrArg₂ (fun a b : EReal => a * b) (tile_0 m c t i k) (tile_1 m c t j k)

/-- The array dgate. -/
def dgate : S8192x2816.Idx → EReal := fun y => slope (rows_d (arg0 m c) (arg1 m c) y) (arg2 m c (ix2 (y 0) (y 1))) (arg3 m c (ix2 (y 0) (y 1)))

theorem flushed_dgate (t : Fin cfg0.N) (_ : (cfg0.win 4).flush t = true) :
    (dats m 0 c).flushed 4 t = ((cfg0.win 4).blk t).view.read (Elt Ideal) (dgate m c) := by
  show (cfg0.win 4).cut (grid0.coords t) ((dats m 0 c).after 4 t) = _
  rw [after0_4]
  funext y
  refine (dgate_tile (iblk m c 0 t) (iblk m c 1 t) (iblk m c 2 t) (iblk m c 3 t) y).trans ?_
  show _ = dgate m c (((cfg0.win 4).blk t).view.emb y)
  refine Eq.trans (congr3 slope (at_d_0_1 m c t (y 0) (y 1)) (tile_2 m c t (y 0) (y 1)) (tile_3 m c t (y 0) (y 1))) (congrArg (dgate m c) (funext fun a => Fin.ext ?_))
  match a with
  | ⟨0, _⟩ =>
    show 512 * t.val + (y 0).val = win0_4.index t 0 * 512 + 1 * (y 0).val
    rw [index_4]; omega
  | ⟨1, _⟩ => exact (Rows.at0 _).symm

theorem box_4 : ∀ t : Fin cfg0.N, win0_4.index t 0 * win0_4.size 0 = 512 * t.val ∧ win0_4.xsize (grid0.coords t) 0 = 512
    ∧ win0_4.index t 1 * win0_4.size 1 = 0 ∧ win0_4.xsize (grid0.coords t) 1 = 2816 := by decide +kernel

theorem cover_dgate (i : S8192x2816.Idx) : ∃ t, (cfg0.win 4).flush t = true ∧ i ∈ ((cfg0.win 4).blk t).view.set := by
  have h0 : (i 0 : ℕ) < 8192 := (i 0).isLt
  have h1 : (i 1 : ℕ) < 2816 := (i 1).isLt
  refine ⟨⟨(i 0 : ℕ) / 512, lt_of_lt_of_eq (by omega) (show 16 = cfg0.N from N_0.symm)⟩, flush0_4 _, ?_⟩
  generalize ht : (⟨(i 0 : ℕ) / 512, _⟩ : Fin cfg0.N) = t
  have hv : (i 0 : ℕ) / 512 = t.val := congrArg Fin.val ht
  show i ∈ ((View.whole main_v0_0).slice (win0_4.rect t)).set
  rw [View.set_slice_whole, Rect.mem_set_unit]
  obtain ⟨b0, b1, b2, b3⟩ := box_4 t
  intro a
  match a with
  | ⟨0, _⟩ =>
    show win0_4.index t 0 * win0_4.size 0 ≤ (i 0 : ℕ) ∧ (i 0 : ℕ) < win0_4.index t 0 * win0_4.size 0 + win0_4.xsize (grid0.coords t) 0
    rw [b0, b1]; omega
  | ⟨1, _⟩ =>
    show win0_4.index t 1 * win0_4.size 1 ≤ (i 1 : ℕ) ∧ (i 1 : ℕ) < win0_4.index t 1 * win0_4.size 1 + win0_4.xsize (grid0.coords t) 1
    rw [b2, b3]; omega

theorem final_dgate : (dats m 0 c).arrAt 4 cfg0.N = dgate m c :=
  Dat.arrAt_eq_of_cover (dats m 0 c) 4 (dgate m c) (fun t ht => flushed_dgate m c t ht) cover_dgate

/-- The array dup. -/
def dup : S8192x2816.Idx → EReal := fun y => through (rows_d (arg0 m c) (arg1 m c) y) (arg2 m c (ix2 (y 0) (y 1)))

theorem flushed_dup (t : Fin cfg0.N) (_ : (cfg0.win 5).flush t = true) :
    (dats m 0 c).flushed 5 t = ((cfg0.win 5).blk t).view.read (Elt Ideal) (dup m c) := by
  show (cfg0.win 5).cut (grid0.coords t) ((dats m 0 c).after 5 t) = _
  rw [after0_5]
  funext y
  refine (dup_tile (iblk m c 0 t) (iblk m c 1 t) (iblk m c 2 t) (iblk m c 3 t) y).trans ?_
  show _ = dup m c (((cfg0.win 5).blk t).view.emb y)
  refine Eq.trans (congr2 through (at_d_0_1 m c t (y 0) (y 1)) (tile_2 m c t (y 0) (y 1))) (congrArg (dup m c) (funext fun a => Fin.ext ?_))
  match a with
  | ⟨0, _⟩ =>
    show 512 * t.val + (y 0).val = win0_5.index t 0 * 512 + 1 * (y 0).val
    rw [index_5]; omega
  | ⟨1, _⟩ => exact (Rows.at0 _).symm

theorem box_5 : ∀ t : Fin cfg0.N, win0_5.index t 0 * win0_5.size 0 = 512 * t.val ∧ win0_5.xsize (grid0.coords t) 0 = 512
    ∧ win0_5.index t 1 * win0_5.size 1 = 0 ∧ win0_5.xsize (grid0.coords t) 1 = 2816 := by decide +kernel

theorem cover_dup (i : S8192x2816.Idx) : ∃ t, (cfg0.win 5).flush t = true ∧ i ∈ ((cfg0.win 5).blk t).view.set := by
  have h0 : (i 0 : ℕ) < 8192 := (i 0).isLt
  have h1 : (i 1 : ℕ) < 2816 := (i 1).isLt
  refine ⟨⟨(i 0 : ℕ) / 512, lt_of_lt_of_eq (by omega) (show 16 = cfg0.N from N_0.symm)⟩, flush0_5 _, ?_⟩
  generalize ht : (⟨(i 0 : ℕ) / 512, _⟩ : Fin cfg0.N) = t
  have hv : (i 0 : ℕ) / 512 = t.val := congrArg Fin.val ht
  show i ∈ ((View.whole main_v0_1).slice (win0_5.rect t)).set
  rw [View.set_slice_whole, Rect.mem_set_unit]
  obtain ⟨b0, b1, b2, b3⟩ := box_5 t
  intro a
  match a with
  | ⟨0, _⟩ =>
    show win0_5.index t 0 * win0_5.size 0 ≤ (i 0 : ℕ) ∧ (i 0 : ℕ) < win0_5.index t 0 * win0_5.size 0 + win0_5.xsize (grid0.coords t) 0
    rw [b0, b1]; omega
  | ⟨1, _⟩ =>
    show win0_5.index t 1 * win0_5.size 1 ≤ (i 1 : ℕ) ∧ (i 1 : ℕ) < win0_5.index t 1 * win0_5.size 1 + win0_5.xsize (grid0.coords t) 1
    rw [b2, b3]; omega

theorem final_dup : (dats m 0 c).arrAt 5 cfg0.N = dup m c :=
  Dat.arrAt_eq_of_cover (dats m 0 c) 5 (dup m c) (fun t ht => flushed_dup m c t ht) cover_dup

/-- The kernel's run leaves the results at these arrays. -/
theorem output : θ_run defs (onTc (τ := τ) (main (F := Ideal))) ⟨m, fun _ => 0, ρ⟩ fun r => ∀ c : Dev nD,
      r.2.mem ((c.tc : Thread nD τ).loc main_v0_0) = dgate m c
      ∧ r.2.mem ((c.tc : Thread nD τ).loc main_v0_1) = dup m c :=
  (θ_run defs _ _).mono (fun _ h c => ⟨((h c).1 4).trans (final_dgate m c), ((h c).1 5).trans (final_dup m c)⟩) (run_main m ρ)

/-- The kernel's run, read: the results, the arguments unchanged. -/
theorem value : θ_run defs (onTc (τ := τ) (main (F := Ideal))) ⟨m, fun _ => 0, ρ⟩ fun r => ∀ c : Dev nD,
      r.2.mem ((c.tc : Thread nD τ).loc main_v0_0) = dgate m c
      ∧ r.2.mem ((c.tc : Thread nD τ).loc main_v0_1) = dup m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).1, (h.1 c).2, h.2.1 c⟩)
    (θ_run_and (output m ρ) (frame m ρ))

end Cert.DownIdeal.Value

end
-- ==== Proof.DownEqual.lean ====
module

public import proofs.«01_k».proof.Defs
public import proofs.«01_k».proof.Proof.DownValue
public import Idealize.ShloMosaic.Lib.Quiescent
public import proofs.«01_k».proof.Proof.Gen.DownReferenceIdeal.Read
public import proofs.«01_k».proof.Proof.Pre

@[expose] public section

set_option maxRecDepth 16384

noncomputable section

/-! The kernel and the reference of the gradient through the down projection compute the same two arrays on finite gradients, weights and products. -/

namespace Cert.DownReferenceIdeal.Value

open Idealize.ShloMosaic Idealize.ShloMosaic.TcCoe Idealize.SL.Sem
open Cert.DownReferenceIdeal Cert.DownReferenceIdeal.Gen Cert.DownReferenceIdeal.Read Cert.Scalars

variable (x0 : (⟨S8192x1024, .bf16⟩ : BufTy).Contents (Elt Ideal)) (x1 : (⟨S2816x1024, .bf16⟩ : BufTy).Contents (Elt Ideal)) (x2 : (⟨S8192x2816, .bf16⟩ : BufTy).Contents (Elt Ideal)) (x3 : (⟨S8192x2816, .bf16⟩ : BufTy).Contents (Elt Ideal))

/-- The product at an index. -/
theorem product (y : S8192x2816.Idx) : val_main_v7 (F := Ideal) x0 x1 y = Cert.DownIdeal.Value.rows_d x0 x1 y := by
  refine (val_main_v7_apply x0 x1 y).trans (Finset.sum_congr rfl fun k _ => ?_)
  rw [val_main_v6_apply]
  have el : lidx_main_v7 y k = ix2 (y 0) k := by
    funext a
    match a with
    | ⟨0, _⟩ => rfl
    | ⟨1, _⟩ => rfl
  have er : ridx_main_v7 y k = ix2 (y 1) k := by
    funext a
    match a with
    | ⟨0, _⟩ => rfl
    | ⟨1, _⟩ => rfl
  rw [el, er]
  rfl

/-- The logistic factor of the gate at an index. -/
theorem factor (y : S8192x2816.Idx) : val_main_v2_2 (F := Ideal) x2 y = logi (x2 y) := by
  rw [val_main_v2_2_apply, val_main_call0_v4_apply, val_main_call0_cst_0_apply, val_main_call0_v3_apply, val_main_call0_v2_apply, val_main_call0_cst_apply,
    val_main_call0_v1_apply, val_main_call0_v0_apply, logistic]
  rfl

theorem at_pair (y : S8192x2816.Idx) : ix2 (y 0) (y 1) = y := by
  funext a
  match a with
  | ⟨0, _⟩ => rfl
  | ⟨1, _⟩ => rfl

/-- The gradient through the other factor at an index: the factors come in the other order. -/
theorem grad_up (y : S8192x2816.Idx) : val_main_v12 (F := Ideal) x0 x1 x2 y
    = through (Cert.DownIdeal.Value.rows_d x0 x1 y) (x2 (ix2 (y 0) (y 1))) := by
  rw [val_main_v12_apply, val_main_v8_apply, val_main_v2_0_apply, factor, product]
  refine (mul_comm (G := EReal) _ _).trans ?_
  exact congrArg (fun q => through (Cert.DownIdeal.Value.rows_d x0 x1 y) (x2 q)) (at_pair y).symm

theorem one_eq : one = 1 := by
  show Ideal.ofBits .f32 0x3F800000#32 = 1
  simp [Ideal.ofBits, Ideal.ieee]
  rw [← EReal.coe_mul]
  norm_num

theorem zero_word : Ideal.ofBits .f32 0x00000000#32 = 0 := by
  simp [Ideal.ofBits, Ideal.ieee]

/-- The logistic factor over the extended reals. -/
theorem logi_eq (z : EReal) : logi z = Ideal.div 1 (1 + Ideal.exp (0 - z)) := by
  have h1 : Ideal.ofBits .f32 0x3F800000#32 = 1 := one_eq
  show Ideal.div (Ideal.ofBits .f32 0x3F800000#32) (Ideal.ofBits .f32 0x3F800000#32 + Ideal.exp (Ideal.ofBits .f32 0x00000000#32 - z)) = _
  rw [h1, zero_word]

theorem logi_top : logi ⊤ = 1 := by
  rw [logi_eq, show (0 : EReal) - ⊤ = ⊥ from rfl, Ideal.exp_bot, add_zero, show (1 : EReal) = ((1 : ℝ) : EReal) from rfl, Ideal.div_coe one_ne_zero]
  simp

theorem logi_bot : logi ⊥ = 0 := by
  rw [logi_eq, show (0 : EReal) - ⊥ = ⊤ from rfl, Ideal.exp_top, show (1 : EReal) + ⊤ = ⊤ from rfl]
  simp [Ideal.div]

theorem logi_real (r : ℝ) : ∃ s : ℝ, logi (r : EReal) = s := by
  have hp : (1 + Real.exp (0 - r)) ≠ 0 := ne_of_gt (by positivity)
  refine ⟨1 * (1 / (1 + Real.exp (0 - r))), ?_⟩
  rw [logi_eq, show (0 : EReal) - (r : EReal) = ((0 - r : ℝ) : EReal) from by push_cast; rfl, Ideal.exp_coe,
    show (1 : EReal) + ((Real.exp (0 - r) : ℝ) : EReal) = ((1 + Real.exp (0 - r) : ℝ) : EReal) from by push_cast; rfl, Ideal.div_coe hp]
  push_cast
  rfl

/-- The reference's sum of two terms is the kernel's product, for a real gradient. -/
theorem slope_split (x : ℝ) (g : EReal) :
    (x : EReal) * logi g + g * x * (logi g * (one - logi g)) = x * (logi g * (one + g * (one - logi g))) := by
  rw [one_eq]
  induction g using EReal.rec with
  | bot => simp [logi_bot]
  | top =>
    rw [logi_top, show (1 : EReal) - 1 = 0 from by rw [show (1 : EReal) = ((1 : ℝ) : EReal) from rfl, ← EReal.coe_sub]; simp]
    simp
  | coe r =>
    obtain ⟨s, hs⟩ := logi_real r
    rw [hs, show (1 : EReal) = ((1 : ℝ) : EReal) from rfl]
    norm_cast
    ring

/-- A product of real arrays is real. -/
theorem rows_real (hx : ∀ i, ∃ r : ℝ, (x0 i : EReal) = r) (hw : ∀ i, ∃ r : ℝ, (x1 i : EReal) = r) (y : S8192x2816.Idx) :
    ∃ r : ℝ, Cert.DownIdeal.Value.rows_d x0 x1 y = r := by
  refine Finset.sum_induction (M := EReal) _ (fun q => ∃ r : ℝ, q = r) ?_ ⟨0, rfl⟩ ?_
  · rintro _ _ ⟨a, rfl⟩ ⟨b, rfl⟩
    exact ⟨a + b, by push_cast; rfl⟩
  · intro k _
    obtain ⟨a, ha⟩ := hx (ix2 (y 0) k)
    obtain ⟨b, hb⟩ := hw (ix2 (y 1) k)
    exact ⟨a * b, by rw [EReal.coe_mul]; exact congr2 (fun p q => p * q) ha hb⟩

/-- The gate's gradient at an index. -/
theorem grad_gate (hx : ∀ i, ∃ r : ℝ, (x0 i : EReal) = r) (hw : ∀ i, ∃ r : ℝ, (x1 i : EReal) = r) (hu : ∀ i, ∃ r : ℝ, (x3 i : EReal) = r)
    (y : S8192x2816.Idx) : val_main_v11 (F := Ideal) x0 x1 x2 x3 y
      = slope (Cert.DownIdeal.Value.rows_d x0 x1 y) (x2 (ix2 (y 0) (y 1))) (x3 (ix2 (y 0) (y 1))) := by
  rw [val_main_v11_apply, val_main_v10_apply, val_main_call1_v1_apply, val_main_call1_v2_apply, val_main_call1_v0_apply, val_main_v9_apply, val_main_v2_1_apply,
    val_main_call0_v7_apply, val_main_call0_v6_apply, val_main_call0_cst_1_apply, factor, product]
  obtain ⟨d, hd⟩ := rows_real x0 x1 hx hw y
  obtain ⟨u, hu⟩ := hu y
  have hx : Cert.DownIdeal.Value.rows_d x0 x1 y * (show EReal from x3 y) = ((d * u : ℝ) : EReal) := by
    rw [EReal.coe_mul]
    exact congr2 (fun p q => p * q) hd hu
  refine Eq.trans ?_ ((slope_split (d * u) (x2 y)).trans ?_)
  · rw [← hx]
    rfl
  · rw [← hx]
    exact congrArg (fun q => slope (Cert.DownIdeal.Value.rows_d x0 x1 y) (x2 q) (x3 q)) (at_pair y).symm

end Cert.DownReferenceIdeal.Value

namespace Cert.DownPre

open Idealize.ShloMosaic Cert.Attn

/-- The side conditions of the precondition's operations. -/
instance preFacts : Cert.Pre_down_finite.Facts where
  bitsLt_bf16_f32 := by decide
  bcast_S_S8192x1024 := by decide
  reducesTo_S8192x1024_S_d0_1 := by decide
  h_S_ := by decide
  bcast_S_S2816x1024 := by decide
  reducesTo_S2816x1024_S_d0_1 := by decide
  bcast_S_S8192x2816 := by decide
  reducesTo_S8192x2816_S_d0_1 := by decide

instance : Subsingleton Cert.Pre_down_finite.S_.Idx := ⟨fun a b => funext fun i => i.elim0⟩

/-- The predicate, all ones, says that the three arrays hold reals. -/
theorem reals_of_pre (a : FVec Ideal Cert.Pre_down_finite.S8192x1024 .bf16) (w : FVec Ideal Cert.Pre_down_finite.S2816x1024 .bf16)
    (g u : FVec Ideal Cert.Pre_down_finite.S8192x2816 .bf16) (h : Cert.Pre_down_finite.fn (F := Ideal) a w g u = fun _ => 1#1) :
    (∀ i, ∃ r : ℝ, (a i : EReal) = r) ∧ (∀ i, ∃ r : ℝ, (w i : EReal) = r) ∧ ∀ i, ∃ r : ℝ, (u i : EReal) = r := by
  have h0 := congrFun h (Shape.Idx.first Cert.Pre_down_finite.Facts.h_S_)
  unfold Cert.Pre_down_finite.fn at h0
  obtain ⟨h1, h2⟩ := both_one _ _ h0
  obtain ⟨h3, h4⟩ := both_one _ _ h1
  exact ⟨fun i => real_of_abs_lt _ (Host.reduce_andi_all _ _ _ _ _ h3 i), fun i => real_of_abs_lt _ (Host.reduce_andi_all _ _ _ _ _ h4 i),
    fun i => real_of_abs_lt _ (Host.reduce_andi_all _ _ _ _ _ h2 i)⟩

end Cert.DownPre

namespace Cert.DownReferenceIdeal.Value

end Cert.DownReferenceIdeal.Value

namespace Cert.DownEqual

open Idealize.ShloMosaic Idealize.ShloMosaic.TcCoe Idealize.SL.Sem

/-- From finite arguments the kernel and the reference end with the same arrays. -/
theorem equal : Cert.algebraic_DownIdeal_DownReferenceIdeal_pre_down_finite := by
  intro m g m' g' H ha
  refine ⟨Cert.DownIdeal.Value.dgate m, Cert.DownIdeal.Value.dup m, Cert.DownIdeal.Value.value m g, ?_⟩
  refine (θ_run Cert.DownReferenceIdeal.defs _ _).mono (fun r h c => ?_) (Cert.DownReferenceIdeal.Value.run (F := Ideal) m' g')
  obtain ⟨hv0, hv1, hargs⟩ := h c
  obtain ⟨h0, h1, h3⟩ := Cert.DownPre.reals_of_pre _ _ _ _ (H c)
  obtain ⟨a0, a1, a2, a3⟩ := ha c
  refine ⟨hv0.trans ?_, hv1.trans ?_, hargs⟩
  · rw [a0, a1, a2, a3]
    exact (Cert.DownReferenceIdeal.Read.val_main_v11_eq (F := Ideal) _ _ _ _).trans (funext fun y => Cert.DownReferenceIdeal.Value.grad_gate _ _ _ _ h0 h1 h3 y)
  · rw [a0, a1, a2]
    exact (Cert.DownReferenceIdeal.Read.val_main_v12_eq (F := Ideal) _ _ _).trans (funext fun y => Cert.DownReferenceIdeal.Value.grad_up _ _ _ y)

/-- The reference ends with its arguments unchanged and every counter at zero. -/
theorem frame_reference : Cert.quiescent_DownReferenceIdeal := by
  intro m ρ _
  exact (θ_run Cert.DownReferenceIdeal.defs _ _).mono (fun r h => ⟨fun c => (h c).2.2,
      Idealize.ShloMosaic.sem_eq_zero_of_no_sems (by decide) r.2⟩)
    (Cert.DownReferenceIdeal.Value.run (F := Ideal) m ρ)

end Cert.DownEqual

end
-- ==== Proof.MixBwdTile.lean ====
module

public import proofs.«01_k».proof.Proof.Gen.MixBwdIdeal.Frame
public import proofs.«01_k».proof.Proof.Scalars
public import Idealize.ShloMosaic.Lib.Pointwise
public import Idealize.ShloMosaic.Lib.Claim
public import Idealize.ShloMosaic.Lib.Pipeline.Value

@[expose] public section

set_option maxRecDepth 16384

noncomputable section

/-! The gradient through the mixer's output product and its gates: one tile of 512 rows, chunk by chunk of columns. -/

namespace Cert.MixBwdIdeal.Value

open Idealize.ShloMosaic Idealize.ShloMosaic.TcCoe Idealize.ShloMosaic.Tactic Idealize.SL.Sem
open Cert.MixBwdIdeal Cert.MixBwdIdeal.Gen Cert.Scalars

/-- A row of the tile against a row or column of the weight. -/
def prod_d (x : S512x1024.Idx → EReal) (w : S1024x1024.Idx → EReal) (i : Fin 512) (j : Fin 1024) : EReal :=
  ∑ k : Fin 1024, x (ix2 i k) * w (ix2 j k)

/-- The chunk's product from the values it reads. -/
theorem apply_d (x : Vec Ideal S512x1024 .bf16) (w : Vec Ideal S512x1024 .bf16) (i : Fin 512) (j : Fin 512) :
    (matmul (F := Ideal) (φ₁ := .bf16) (φ₂ := .bf16) dot_S512x1024_S512x1024_S512x512_1_1_0_0_n_n none x w (constant (F := Ideal) S512x512 .f32 0x00000000#32) : FVec Ideal S512x512 .f32) (ix2 i j)
      = ∑ k : Fin 1024, x (ix2 i k) * w (ix2 j k) := by
  pointwise []

/-- A chunk's product is the tile's product at the chunk's place. -/
theorem chunk_d (x : Vec Ideal S512x1024 .bf16) (w : Vec Ideal S1024x1024 .bf16) (o : ℕ)
    (inb : ∀ a, (![o, 0] : Fin 2 → ℕ) a + S512x1024.size a ≤ S1024x1024.size a) (i : Fin 512) (j : Fin 512) (h : o + j.val < 1024) :
    (matmul (F := Ideal) (φ₁ := .bf16) (φ₂ := .bf16) dot_S512x1024_S512x1024_S512x512_1_1_0_0_n_n none x (View.ld w (Rect.unit (s := S1024x1024) ![o, 0] S512x1024.size inb))
      (constant (F := Ideal) S512x512 .f32 0x00000000#32) : FVec Ideal S512x512 .f32) (ix2 i j) = prod_d x w i ⟨o + j.val, h⟩ := by
  rw [apply_d]
  refine Finset.sum_congr rfl fun k _ => congrArg (fun b : EReal => x (ix2 i k) * b) ?_
  refine congrArg w (funext fun a => Fin.ext ?_)
  match a with
  | ⟨0, _⟩ => show o + 1 * j.val = o + j.val; omega
  | ⟨1, _⟩ => show 0 + 1 * k.val = k.val; omega

/-- A row of the tile against a row or column of the weight. -/
def prod_b (x : S512x512.Idx → EReal) (w : S1024x512.Idx → EReal) (i : Fin 512) (j : Fin 1024) : EReal :=
  ∑ k : Fin 512, x (ix2 i k) * w (ix2 j k)

/-- The chunk's product from the values it reads. -/
theorem apply_b (x : Vec Ideal S512x512 .bf16) (w : Vec Ideal S512x512 .bf16) (i : Fin 512) (j : Fin 512) :
    (matmul (F := Ideal) (φ₁ := .bf16) (φ₂ := .bf16) dot_S512x512_S512x512_S512x512_1_1_0_0_n_n none x w (constant (F := Ideal) S512x512 .f32 0x00000000#32) : FVec Ideal S512x512 .f32) (ix2 i j)
      = ∑ k : Fin 512, x (ix2 i k) * w (ix2 j k) := by
  pointwise []

/-- A chunk's product is the tile's product at the chunk's place. -/
theorem chunk_b (x : Vec Ideal S512x512 .bf16) (w : Vec Ideal S1024x512 .bf16) (o : ℕ)
    (inb : ∀ a, (![o, 0] : Fin 2 → ℕ) a + S512x512.size a ≤ S1024x512.size a) (i : Fin 512) (j : Fin 512) (h : o + j.val < 1024) :
    (matmul (F := Ideal) (φ₁ := .bf16) (φ₂ := .bf16) dot_S512x512_S512x512_S512x512_1_1_0_0_n_n none x (View.ld w (Rect.unit (s := S1024x512) ![o, 0] S512x512.size inb))
      (constant (F := Ideal) S512x512 .f32 0x00000000#32) : FVec Ideal S512x512 .f32) (ix2 i j) = prod_b x w i ⟨o + j.val, h⟩ := by
  rw [apply_b]
  refine Finset.sum_congr rfl fun k _ => congrArg (fun b : EReal => x (ix2 i k) * b) ?_
  refine congrArg w (funext fun a => Fin.ext ?_)
  match a with
  | ⟨0, _⟩ => show o + 1 * j.val = o + j.val; omega
  | ⟨1, _⟩ => show 0 + 1 * k.val = k.val; omega

/-- Reading a whole window reads it. -/
theorem whole_512 (x : Vec Ideal S512x512 .bf16) (inb : ∀ a, (![0, 0] : Fin 2 → ℕ) a + S512x512.size a ≤ S512x512.size a) :
    View.ld x (Rect.unit (s := S512x512) ![0, 0] S512x512.size inb) = x := by
  refine funext fun y => congrArg x (funext fun a => Fin.ext ?_)
  match a with
  | ⟨0, _⟩ => show 0 + 1 * (y 0).val = (y 0).val; omega
  | ⟨1, _⟩ => show 0 + 1 * (y 1).val = (y 1).val; omega

/-- Reading a whole window reads it. -/
theorem whole_1024 (x : Vec Ideal S512x1024 .bf16) (inb : ∀ a, (![0, 0] : Fin 2 → ℕ) a + S512x1024.size a ≤ S512x1024.size a) :
    View.ld x (Rect.unit (s := S512x1024) ![0, 0] S512x1024.size inb) = x := by
  refine funext fun y => congrArg x (funext fun a => Fin.ext ?_)
  match a with
  | ⟨0, _⟩ => show 0 + 1 * (y 0).val = (y 0).val; omega
  | ⟨1, _⟩ => show 0 + 1 * (y 1).val = (y 1).val; omega

/-- The chunk's place in the tile. -/
theorem place_1024_512 (o : ℕ) (inb : ∀ a, (![0, o] : Fin 2 → ℕ) a + S512x512.size a ≤ S512x1024.size a) (i : Fin 512) (j : Fin 512)
    (h : o + j.val < 1024) : (Rect.unit (s := S512x1024) ![0, o] S512x512.size inb).emb (ix2 i j) = ix2 i ⟨o + j.val, h⟩ := by
  refine funext fun a => Fin.ext ?_
  match a with
  | ⟨0, _⟩ => show 0 + 1 * i.val = i.val; omega
  | ⟨1, _⟩ => show o + 1 * j.val = o + j.val; omega

theorem bound_1024_512 (o : ℕ) (inb : ∀ a, (![0, o] : Fin 2 → ℕ) a + S512x512.size a ≤ S512x1024.size a) (j : Fin 512) : o + j.val < 1024 := by
  have h : o + 512 ≤ 1024 := inb 1
  omega

theorem split_512 (y : S512x512.Idx) : ∃ (i : Fin 512) (j : Fin 512), y = ix2 i j :=
  ⟨y 0, y 1, by funext a; match a with | ⟨0, _⟩ => rfl | ⟨1, _⟩ => rfl⟩

variable (x0 : Vec Ideal S512x1024 .bf16) (x1 : Vec Ideal S1024x1024 .bf16) (x2 : Vec Ideal S512x512 .bf16) (x3 : Vec Ideal S1024x512 .bf16) (x4 : Vec Ideal S512x512 .bf16) (x5 : Vec Ideal S1024x512 .bf16) (x6 : Vec Ideal S512x1024 .bf16) (x7 : Vec Ideal S512x1024 .bf16)

/-- The tile of da. -/
def daAt (y : S512x1024.Idx) : EReal := gated (prod_d x0 x1 (y 0) (y 1)) (x6 (ix2 (y 0) (y 1)))

theorem da_piece (o : ℕ) (inw_S1024x1024 : ∀ a, (![o, 0] : Fin 2 → ℕ) a + S512x1024.size a ≤ S1024x1024.size a) (inb : ∀ a, (![0, o] : Fin 2 → ℕ) a + S512x512.size a ≤ S512x1024.size a) (z : S512x512.Idx) :
    gated ((matmul (F := Ideal) (φ₁ := .bf16) (φ₂ := .bf16) dot_S512x1024_S512x1024_S512x512_1_1_0_0_n_n none (View.ld x0 r0_1) (View.ld x1 (Rect.unit (s := S1024x1024) ![o, 0] S512x1024.size inw_S1024x1024)) (constant (F := Ideal) S512x512 .f32 0x00000000#32) : FVec Ideal S512x512 .f32) z)
      (View.ld x6 (Rect.unit (s := S512x1024) ![0, o] S512x512.size inb) z)
      = daAt x0 x1 x6 ((Rect.unit (s := S512x1024) ![0, o] S512x512.size inb).emb z) := by
  obtain ⟨i, j, rfl⟩ := split_512 z
  have h := bound_1024_512 o inb j
  refine Eq.trans ?_ (congrArg (daAt x0 x1 x6) (place_1024_512 o inb i j h).symm)
  exact congr2 gated ((chunk_d (View.ld x0 r0_1) x1 o inw_S1024x1024 i j h).trans (congrArg (fun q => prod_d q x1 i ⟨o + j.val, h⟩) (whole_1024 x0 _)))
    (congrArg x6 (place_1024_512 o inb i j h))

/-- What a tile's body leaves in the window of da. -/
theorem da_tile (y : S512x1024.Idx) : out0_8 (F := Ideal) x0 x1 x2 x3 x4 x5 x6 x7 y = daAt x0 x1 x6 y := by
  unfold out0_8
  refine View.canon_apply_of_pieces (Val := Elt Ideal) (daAt x0 x1 x6) _ ?_ y (cover0_8 _ _ y)
  refine List.forall_mem_cons.2 ⟨da_piece x0 x1 x6 512 inb_S1024x1024_S512x1024_512_0 inb_S512x1024_S512x512_0_512, ?_⟩
  refine List.forall_mem_cons.2 ⟨da_piece x0 x1 x6 0 inb_S1024x1024_S512x1024_0_0 inb_S512x1024_S512x512_0_0, ?_⟩
  exact fun _ h => absurd h List.not_mem_nil

/-- The tile of dm. -/
def dmAt (y : S512x1024.Idx) : EReal := gated (prod_d x0 x1 (y 0) (y 1)) (x7 (ix2 (y 0) (y 1)))

theorem dm_piece (o : ℕ) (inw_S1024x1024 : ∀ a, (![o, 0] : Fin 2 → ℕ) a + S512x1024.size a ≤ S1024x1024.size a) (inb : ∀ a, (![0, o] : Fin 2 → ℕ) a + S512x512.size a ≤ S512x1024.size a) (z : S512x512.Idx) :
    gated ((matmul (F := Ideal) (φ₁ := .bf16) (φ₂ := .bf16) dot_S512x1024_S512x1024_S512x512_1_1_0_0_n_n none (View.ld x0 r0_1) (View.ld x1 (Rect.unit (s := S1024x1024) ![o, 0] S512x1024.size inw_S1024x1024)) (constant (F := Ideal) S512x512 .f32 0x00000000#32) : FVec Ideal S512x512 .f32) z)
      (View.ld x7 (Rect.unit (s := S512x1024) ![0, o] S512x512.size inb) z)
      = dmAt x0 x1 x7 ((Rect.unit (s := S512x1024) ![0, o] S512x512.size inb).emb z) := by
  obtain ⟨i, j, rfl⟩ := split_512 z
  have h := bound_1024_512 o inb j
  refine Eq.trans ?_ (congrArg (dmAt x0 x1 x7) (place_1024_512 o inb i j h).symm)
  exact congr2 gated ((chunk_d (View.ld x0 r0_1) x1 o inw_S1024x1024 i j h).trans (congrArg (fun q => prod_d q x1 i ⟨o + j.val, h⟩) (whole_1024 x0 _)))
    (congrArg x7 (place_1024_512 o inb i j h))

/-- What a tile's body leaves in the window of dm. -/
theorem dm_tile (y : S512x1024.Idx) : out0_9 (F := Ideal) x0 x1 x2 x3 x4 x5 x6 x7 y = dmAt x0 x1 x7 y := by
  unfold out0_9
  refine View.canon_apply_of_pieces (Val := Elt Ideal) (dmAt x0 x1 x7) _ ?_ y (cover0_9 _ _ y)
  refine List.forall_mem_cons.2 ⟨dm_piece x0 x1 x7 512 inb_S1024x1024_S512x1024_512_0 inb_S512x1024_S512x512_0_512, ?_⟩
  refine List.forall_mem_cons.2 ⟨dm_piece x0 x1 x7 0 inb_S1024x1024_S512x1024_0_0 inb_S512x1024_S512x512_0_0, ?_⟩
  exact fun _ h => absurd h List.not_mem_nil

/-- The tile of dga. -/
def dgaAt (y : S512x1024.Idx) : EReal := gateSlope (prod_d x0 x1 (y 0) (y 1)) (prod_b x2 x3 (y 0) (y 1)) (x6 (ix2 (y 0) (y 1)))

theorem dga_piece (o : ℕ) (inw_S1024x1024 : ∀ a, (![o, 0] : Fin 2 → ℕ) a + S512x1024.size a ≤ S1024x1024.size a) (inw_S1024x512 : ∀ a, (![o, 0] : Fin 2 → ℕ) a + S512x512.size a ≤ S1024x512.size a) (inb : ∀ a, (![0, o] : Fin 2 → ℕ) a + S512x512.size a ≤ S512x1024.size a) (z : S512x512.Idx) :
    gateSlope ((matmul (F := Ideal) (φ₁ := .bf16) (φ₂ := .bf16) dot_S512x1024_S512x1024_S512x512_1_1_0_0_n_n none (View.ld x0 r0_1) (View.ld x1 (Rect.unit (s := S1024x1024) ![o, 0] S512x1024.size inw_S1024x1024)) (constant (F := Ideal) S512x512 .f32 0x00000000#32) : FVec Ideal S512x512 .f32) z)
      ((matmul (F := Ideal) (φ₁ := .bf16) (φ₂ := .bf16) dot_S512x512_S512x512_S512x512_1_1_0_0_n_n none (View.ld x2 r0_3) (View.ld x3 (Rect.unit (s := S1024x512) ![o, 0] S512x512.size inw_S1024x512)) (constant (F := Ideal) S512x512 .f32 0x00000000#32) : FVec Ideal S512x512 .f32) z)
      (View.ld x6 (Rect.unit (s := S512x1024) ![0, o] S512x512.size inb) z)
      = dgaAt x0 x1 x2 x3 x6 ((Rect.unit (s := S512x1024) ![0, o] S512x512.size inb).emb z) := by
  obtain ⟨i, j, rfl⟩ := split_512 z
  have h := bound_1024_512 o inb j
  refine Eq.trans ?_ (congrArg (dgaAt x0 x1 x2 x3 x6) (place_1024_512 o inb i j h).symm)
  exact congr3 gateSlope ((chunk_d (View.ld x0 r0_1) x1 o inw_S1024x1024 i j h).trans (congrArg (fun q => prod_d q x1 i ⟨o + j.val, h⟩) (whole_1024 x0 _)))
    ((chunk_b (View.ld x2 r0_3) x3 o inw_S1024x512 i j h).trans (congrArg (fun q => prod_b q x3 i ⟨o + j.val, h⟩) (whole_512 x2 _)))
    (congrArg x6 (place_1024_512 o inb i j h))

/-- What a tile's body leaves in the window of dga. -/
theorem dga_tile (y : S512x1024.Idx) : out0_10 (F := Ideal) x0 x1 x2 x3 x4 x5 x6 x7 y = dgaAt x0 x1 x2 x3 x6 y := by
  unfold out0_10
  refine View.canon_apply_of_pieces (Val := Elt Ideal) (dgaAt x0 x1 x2 x3 x6) _ ?_ y (cover0_10 _ _ y)
  refine List.forall_mem_cons.2 ⟨dga_piece x0 x1 x2 x3 x6 512 inb_S1024x1024_S512x1024_512_0 inb_S1024x512_S512x512_512_0 inb_S512x1024_S512x512_0_512, ?_⟩
  refine List.forall_mem_cons.2 ⟨dga_piece x0 x1 x2 x3 x6 0 inb_S1024x1024_S512x1024_0_0 inb_S1024x512_S512x512_0_0 inb_S512x1024_S512x512_0_0, ?_⟩
  exact fun _ h => absurd h List.not_mem_nil

/-- The tile of dgm. -/
def dgmAt (y : S512x1024.Idx) : EReal := gateSlope (prod_d x0 x1 (y 0) (y 1)) (prod_b x4 x5 (y 0) (y 1)) (x7 (ix2 (y 0) (y 1)))

theorem dgm_piece (o : ℕ) (inw_S1024x1024 : ∀ a, (![o, 0] : Fin 2 → ℕ) a + S512x1024.size a ≤ S1024x1024.size a) (inw_S1024x512 : ∀ a, (![o, 0] : Fin 2 → ℕ) a + S512x512.size a ≤ S1024x512.size a) (inb : ∀ a, (![0, o] : Fin 2 → ℕ) a + S512x512.size a ≤ S512x1024.size a) (z : S512x512.Idx) :
    gateSlope ((matmul (F := Ideal) (φ₁ := .bf16) (φ₂ := .bf16) dot_S512x1024_S512x1024_S512x512_1_1_0_0_n_n none (View.ld x0 r0_1) (View.ld x1 (Rect.unit (s := S1024x1024) ![o, 0] S512x1024.size inw_S1024x1024)) (constant (F := Ideal) S512x512 .f32 0x00000000#32) : FVec Ideal S512x512 .f32) z)
      ((matmul (F := Ideal) (φ₁ := .bf16) (φ₂ := .bf16) dot_S512x512_S512x512_S512x512_1_1_0_0_n_n none (View.ld x4 r0_3) (View.ld x5 (Rect.unit (s := S1024x512) ![o, 0] S512x512.size inw_S1024x512)) (constant (F := Ideal) S512x512 .f32 0x00000000#32) : FVec Ideal S512x512 .f32) z)
      (View.ld x7 (Rect.unit (s := S512x1024) ![0, o] S512x512.size inb) z)
      = dgmAt x0 x1 x4 x5 x7 ((Rect.unit (s := S512x1024) ![0, o] S512x512.size inb).emb z) := by
  obtain ⟨i, j, rfl⟩ := split_512 z
  have h := bound_1024_512 o inb j
  refine Eq.trans ?_ (congrArg (dgmAt x0 x1 x4 x5 x7) (place_1024_512 o inb i j h).symm)
  exact congr3 gateSlope ((chunk_d (View.ld x0 r0_1) x1 o inw_S1024x1024 i j h).trans (congrArg (fun q => prod_d q x1 i ⟨o + j.val, h⟩) (whole_1024 x0 _)))
    ((chunk_b (View.ld x4 r0_3) x5 o inw_S1024x512 i j h).trans (congrArg (fun q => prod_b q x5 i ⟨o + j.val, h⟩) (whole_512 x4 _)))
    (congrArg x7 (place_1024_512 o inb i j h))

/-- What a tile's body leaves in the window of dgm. -/
theorem dgm_tile (y : S512x1024.Idx) : out0_11 (F := Ideal) x0 x1 x2 x3 x4 x5 x6 x7 y = dgmAt x0 x1 x4 x5 x7 y := by
  unfold out0_11
  refine View.canon_apply_of_pieces (Val := Elt Ideal) (dgmAt x0 x1 x4 x5 x7) _ ?_ y (cover0_11 _ _ y)
  refine List.forall_mem_cons.2 ⟨dgm_piece x0 x1 x4 x5 x7 512 inb_S1024x1024_S512x1024_512_0 inb_S1024x512_S512x512_512_0 inb_S512x1024_S512x512_0_512, ?_⟩
  refine List.forall_mem_cons.2 ⟨dgm_piece x0 x1 x4 x5 x7 0 inb_S1024x1024_S512x1024_0_0 inb_S1024x512_S512x512_0_0 inb_S512x1024_S512x512_0_0, ?_⟩
  exact fun _ h => absurd h List.not_mem_nil

end Cert.MixBwdIdeal.Value

end
-- ==== Proof.MixBwdValue.lean ====
module

public import proofs.«01_k».proof.Proof.Rows
public import proofs.«01_k».proof.Proof.MixBwdTile
public import Idealize.ShloMosaic.Lib.Claim
public import Idealize.ShloMosaic.Lib.Pipeline.Value

@[expose] public section

set_option maxRecDepth 16384

noncomputable section

/-! The gradient through the mixer's output product and its gates: the arrays the run leaves. -/

namespace Cert.MixBwdIdeal.Value

open Idealize.ShloMosaic Idealize.ShloMosaic.TcCoe Idealize.ShloMosaic.Tactic Idealize.SL.Sem
open Idealize.ShloMosaic.Pipeline (Dat)
open Cert.MixBwdIdeal Cert.MixBwdIdeal.Gen Cert.Scalars

variable (m : (ℓ : Loc nD τ sig) → Buf (Elt Ideal) ℓ) (ρ : Dev nD → PrngReg) (c : Dev nD)

theorem index_0 : ∀ t : Fin cfg0.N, win0_0.index t 0 = t.val := by decide +kernel
theorem index_2 : ∀ t : Fin cfg0.N, win0_2.index t 0 = t.val := by decide +kernel
theorem index_4 : ∀ t : Fin cfg0.N, win0_4.index t 0 = t.val := by decide +kernel
theorem index_6 : ∀ t : Fin cfg0.N, win0_6.index t 0 = t.val := by decide +kernel
theorem index_7 : ∀ t : Fin cfg0.N, win0_7.index t 0 = t.val := by decide +kernel
theorem index_8 : ∀ t : Fin cfg0.N, win0_8.index t 0 = t.val := by decide +kernel
theorem index_9 : ∀ t : Fin cfg0.N, win0_9.index t 0 = t.val := by decide +kernel
theorem index_10 : ∀ t : Fin cfg0.N, win0_10.index t 0 = t.val := by decide +kernel
theorem index_11 : ∀ t : Fin cfg0.N, win0_11.index t 0 = t.val := by decide +kernel

theorem points (t : Fin cfg0.N) : t.val < 16 := lt_of_lt_of_eq t.isLt (show cfg0.N = 16 from N_0)

/-- A tile's row in the whole array. -/
def row (t : Fin cfg0.N) (r : Fin 512) : Fin 8192 := ⟨512 * t.val + r.val, by have := points t; omega⟩

/-- The tile holds rows of its array. -/
theorem tile_0 (t : Fin cfg0.N) (r : Fin 512) (k : Fin 1024) : iblk m c 0 t (ix2 r k) = m (c, main_arg0) (ix2 (row t r) k) := by
  refine congrArg (m (c, main_arg0)) (funext fun a => Fin.ext ?_)
  match a with
  | ⟨0, _⟩ =>
    show win0_0.index t 0 * 512 + 1 * r.val = 512 * t.val + r.val
    rw [index_0]; omega
  | ⟨1, _⟩ => exact Rows.at0 _

/-- The window holds the whole array. -/
theorem tile_1 (t : Fin cfg0.N) (j : Fin 1024) (k : Fin 1024) : iblk m c 1 t (ix2 j k) = m (c, main_arg1) (ix2 j k) := by
  refine congrArg (m (c, main_arg1)) (funext fun a => Fin.ext ?_)
  match a with
  | ⟨0, _⟩ => exact Rows.at0 _
  | ⟨1, _⟩ => exact Rows.at0 _

/-- The tile holds rows of its array. -/
theorem tile_2 (t : Fin cfg0.N) (r : Fin 512) (k : Fin 512) : iblk m c 2 t (ix2 r k) = m (c, main_arg2) (ix2 (row t r) k) := by
  refine congrArg (m (c, main_arg2)) (funext fun a => Fin.ext ?_)
  match a with
  | ⟨0, _⟩ =>
    show win0_2.index t 0 * 512 + 1 * r.val = 512 * t.val + r.val
    rw [index_2]; omega
  | ⟨1, _⟩ => exact Rows.at0 _

/-- The window holds the whole array. -/
theorem tile_3 (t : Fin cfg0.N) (j : Fin 1024) (k : Fin 512) : iblk m c 3 t (ix2 j k) = m (c, main_arg3) (ix2 j k) := by
  refine congrArg (m (c, main_arg3)) (funext fun a => Fin.ext ?_)
  match a with
  | ⟨0, _⟩ => exact Rows.at0 _
  | ⟨1, _⟩ => exact Rows.at0 _

/-- The tile holds rows of its array. -/
theorem tile_4 (t : Fin cfg0.N) (r : Fin 512) (k : Fin 512) : iblk m c 4 t (ix2 r k) = m (c, main_arg4) (ix2 (row t r) k) := by
  refine congrArg (m (c, main_arg4)) (funext fun a => Fin.ext ?_)
  match a with
  | ⟨0, _⟩ =>
    show win0_4.index t 0 * 512 + 1 * r.val = 512 * t.val + r.val
    rw [index_4]; omega
  | ⟨1, _⟩ => exact Rows.at0 _

/-- The window holds the whole array. -/
theorem tile_5 (t : Fin cfg0.N) (j : Fin 1024) (k : Fin 512) : iblk m c 5 t (ix2 j k) = m (c, main_arg5) (ix2 j k) := by
  refine congrArg (m (c, main_arg5)) (funext fun a => Fin.ext ?_)
  match a with
  | ⟨0, _⟩ => exact Rows.at0 _
  | ⟨1, _⟩ => exact Rows.at0 _

theorem right_6 (k : Fin 1024) : 0 + k.val < 2048 := by omega

/-- The tile holds rows of its array. -/
theorem tile_6 (t : Fin cfg0.N) (r : Fin 512) (k : Fin 1024) : iblk m c 6 t (ix2 r k) = m (c, main_arg6) (ix2 (row t r) ⟨0 + k.val, right_6 k⟩) := by
  refine congrArg (m (c, main_arg6)) (funext fun a => Fin.ext ?_)
  match a with
  | ⟨0, _⟩ =>
    show win0_6.index t 0 * 512 + 1 * r.val = 512 * t.val + r.val
    rw [index_6]; omega
  | ⟨1, _⟩ =>
    show win0_6.index t 1 * 1024 + 1 * k.val = 0 + k.val
    have : win0_6.index t 1 = 0 := rfl
    omega

theorem right_7 (k : Fin 1024) : 1024 + k.val < 2048 := by omega

/-- The tile holds rows of its array. -/
theorem tile_7 (t : Fin cfg0.N) (r : Fin 512) (k : Fin 1024) : iblk m c 7 t (ix2 r k) = m (c, main_arg6) (ix2 (row t r) ⟨1024 + k.val, right_7 k⟩) := by
  refine congrArg (m (c, main_arg6)) (funext fun a => Fin.ext ?_)
  match a with
  | ⟨0, _⟩ =>
    show win0_7.index t 0 * 512 + 1 * r.val = 512 * t.val + r.val
    rw [index_7]; omega
  | ⟨1, _⟩ =>
    show win0_7.index t 1 * 1024 + 1 * k.val = 1024 + k.val
    have : win0_7.index t 1 = 1 := rfl
    omega

/-- Argument 0 as the region finds it. -/
def arg0 : S8192x1024.Idx → EReal := m (c, main_arg0)

/-- Argument 1 as the region finds it. -/
def arg1 : S1024x1024.Idx → EReal := m (c, main_arg1)

/-- Argument 2 as the region finds it. -/
def arg2 : S8192x512.Idx → EReal := m (c, main_arg2)

/-- Argument 3 as the region finds it. -/
def arg3 : S1024x512.Idx → EReal := m (c, main_arg3)

/-- Argument 4 as the region finds it. -/
def arg4 : S8192x512.Idx → EReal := m (c, main_arg4)

/-- Argument 5 as the region finds it. -/
def arg5 : S1024x512.Idx → EReal := m (c, main_arg5)

/-- Argument 6 as the region finds it. -/
def arg6 : S8192x2048.Idx → EReal := m (c, main_arg6)

/-- A product of an array with a weight. -/
def rows_d (x : S8192x1024.Idx → EReal) (w : S1024x1024.Idx → EReal) (y : S8192x1024.Idx) : EReal :=
  ∑ k : Fin 1024, x (ix2 (y 0) k) * w (ix2 (y 1) k)

/-- A product of an array with a weight. -/
def rows_b (x : S8192x512.Idx → EReal) (w : S1024x512.Idx → EReal) (y : S8192x1024.Idx) : EReal :=
  ∑ k : Fin 512, x (ix2 (y 0) k) * w (ix2 (y 1) k)

/-- A tile's product is the product at the tile's place. -/
theorem at_d_0_1 (t : Fin cfg0.N) (i : Fin 512) (j : Fin 1024) :
    prod_d (iblk m c 0 t) (iblk m c 1 t) i j = rows_d (arg0 m c) (arg1 m c) (ix2 (row t i) j) :=
  Finset.sum_congr rfl fun k _ => congrArg₂ (fun a b : EReal => a * b) (tile_0 m c t i k) (tile_1 m c t j k)

/-- A tile's product is the product at the tile's place. -/
theorem at_b_2_3 (t : Fin cfg0.N) (i : Fin 512) (j : Fin 1024) :
    prod_b (iblk m c 2 t) (iblk m c 3 t) i j = rows_b (arg2 m c) (arg3 m c) (ix2 (row t i) j) :=
  Finset.sum_congr rfl fun k _ => congrArg₂ (fun a b : EReal => a * b) (tile_2 m c t i k) (tile_3 m c t j k)

/-- A tile's product is the product at the tile's place. -/
theorem at_b_4_5 (t : Fin cfg0.N) (i : Fin 512) (j : Fin 1024) :
    prod_b (iblk m c 4 t) (iblk m c 5 t) i j = rows_b (arg4 m c) (arg5 m c) (ix2 (row t i) j) :=
  Finset.sum_congr rfl fun k _ => congrArg₂ (fun a b : EReal => a * b) (tile_4 m c t i k) (tile_5 m c t j k)

/-- The array da. -/
def da : S8192x1024.Idx → EReal := fun y => gated (rows_d (arg0 m c) (arg1 m c) y) (arg6 m c (ix2 (y 0) ⟨0 + (y 1).val, right_6 (y 1)⟩))

theorem flushed_da (t : Fin cfg0.N) (_ : (cfg0.win 8).flush t = true) :
    (dats m 0 c).flushed 8 t = ((cfg0.win 8).blk t).view.read (Elt Ideal) (da m c) := by
  show (cfg0.win 8).cut (grid0.coords t) ((dats m 0 c).after 8 t) = _
  rw [after0_8]
  funext y
  refine (da_tile (iblk m c 0 t) (iblk m c 1 t) (iblk m c 2 t) (iblk m c 3 t) (iblk m c 4 t) (iblk m c 5 t) (iblk m c 6 t) (iblk m c 7 t) y).trans ?_
  show _ = da m c (((cfg0.win 8).blk t).view.emb y)
  refine Eq.trans (congr2 gated (at_d_0_1 m c t (y 0) (y 1)) (tile_6 m c t (y 0) (y 1))) (congrArg (da m c) (funext fun a => Fin.ext ?_))
  match a with
  | ⟨0, _⟩ =>
    show 512 * t.val + (y 0).val = win0_8.index t 0 * 512 + 1 * (y 0).val
    rw [index_8]; omega
  | ⟨1, _⟩ => exact (Rows.at0 _).symm

theorem box_8 : ∀ t : Fin cfg0.N, win0_8.index t 0 * win0_8.size 0 = 512 * t.val ∧ win0_8.xsize (grid0.coords t) 0 = 512
    ∧ win0_8.index t 1 * win0_8.size 1 = 0 ∧ win0_8.xsize (grid0.coords t) 1 = 1024 := by decide +kernel

theorem cover_da (i : S8192x1024.Idx) : ∃ t, (cfg0.win 8).flush t = true ∧ i ∈ ((cfg0.win 8).blk t).view.set := by
  have h0 : (i 0 : ℕ) < 8192 := (i 0).isLt
  have h1 : (i 1 : ℕ) < 1024 := (i 1).isLt
  refine ⟨⟨(i 0 : ℕ) / 512, lt_of_lt_of_eq (by omega) (show 16 = cfg0.N from N_0.symm)⟩, flush0_8 _, ?_⟩
  generalize ht : (⟨(i 0 : ℕ) / 512, _⟩ : Fin cfg0.N) = t
  have hv : (i 0 : ℕ) / 512 = t.val := congrArg Fin.val ht
  show i ∈ ((View.whole main_v0_0).slice (win0_8.rect t)).set
  rw [View.set_slice_whole, Rect.mem_set_unit]
  obtain ⟨b0, b1, b2, b3⟩ := box_8 t
  intro a
  match a with
  | ⟨0, _⟩ =>
    show win0_8.index t 0 * win0_8.size 0 ≤ (i 0 : ℕ) ∧ (i 0 : ℕ) < win0_8.index t 0 * win0_8.size 0 + win0_8.xsize (grid0.coords t) 0
    rw [b0, b1]; omega
  | ⟨1, _⟩ =>
    show win0_8.index t 1 * win0_8.size 1 ≤ (i 1 : ℕ) ∧ (i 1 : ℕ) < win0_8.index t 1 * win0_8.size 1 + win0_8.xsize (grid0.coords t) 1
    rw [b2, b3]; omega

theorem final_da : (dats m 0 c).arrAt 8 cfg0.N = da m c :=
  Dat.arrAt_eq_of_cover (dats m 0 c) 8 (da m c) (fun t ht => flushed_da m c t ht) cover_da

/-- The array dm. -/
def dm : S8192x1024.Idx → EReal := fun y => gated (rows_d (arg0 m c) (arg1 m c) y) (arg6 m c (ix2 (y 0) ⟨1024 + (y 1).val, right_7 (y 1)⟩))

theorem flushed_dm (t : Fin cfg0.N) (_ : (cfg0.win 9).flush t = true) :
    (dats m 0 c).flushed 9 t = ((cfg0.win 9).blk t).view.read (Elt Ideal) (dm m c) := by
  show (cfg0.win 9).cut (grid0.coords t) ((dats m 0 c).after 9 t) = _
  rw [after0_9]
  funext y
  refine (dm_tile (iblk m c 0 t) (iblk m c 1 t) (iblk m c 2 t) (iblk m c 3 t) (iblk m c 4 t) (iblk m c 5 t) (iblk m c 6 t) (iblk m c 7 t) y).trans ?_
  show _ = dm m c (((cfg0.win 9).blk t).view.emb y)
  refine Eq.trans (congr2 gated (at_d_0_1 m c t (y 0) (y 1)) (tile_7 m c t (y 0) (y 1))) (congrArg (dm m c) (funext fun a => Fin.ext ?_))
  match a with
  | ⟨0, _⟩ =>
    show 512 * t.val + (y 0).val = win0_9.index t 0 * 512 + 1 * (y 0).val
    rw [index_9]; omega
  | ⟨1, _⟩ => exact (Rows.at0 _).symm

theorem box_9 : ∀ t : Fin cfg0.N, win0_9.index t 0 * win0_9.size 0 = 512 * t.val ∧ win0_9.xsize (grid0.coords t) 0 = 512
    ∧ win0_9.index t 1 * win0_9.size 1 = 0 ∧ win0_9.xsize (grid0.coords t) 1 = 1024 := by decide +kernel

theorem cover_dm (i : S8192x1024.Idx) : ∃ t, (cfg0.win 9).flush t = true ∧ i ∈ ((cfg0.win 9).blk t).view.set := by
  have h0 : (i 0 : ℕ) < 8192 := (i 0).isLt
  have h1 : (i 1 : ℕ) < 1024 := (i 1).isLt
  refine ⟨⟨(i 0 : ℕ) / 512, lt_of_lt_of_eq (by omega) (show 16 = cfg0.N from N_0.symm)⟩, flush0_9 _, ?_⟩
  generalize ht : (⟨(i 0 : ℕ) / 512, _⟩ : Fin cfg0.N) = t
  have hv : (i 0 : ℕ) / 512 = t.val := congrArg Fin.val ht
  show i ∈ ((View.whole main_v0_1).slice (win0_9.rect t)).set
  rw [View.set_slice_whole, Rect.mem_set_unit]
  obtain ⟨b0, b1, b2, b3⟩ := box_9 t
  intro a
  match a with
  | ⟨0, _⟩ =>
    show win0_9.index t 0 * win0_9.size 0 ≤ (i 0 : ℕ) ∧ (i 0 : ℕ) < win0_9.index t 0 * win0_9.size 0 + win0_9.xsize (grid0.coords t) 0
    rw [b0, b1]; omega
  | ⟨1, _⟩ =>
    show win0_9.index t 1 * win0_9.size 1 ≤ (i 1 : ℕ) ∧ (i 1 : ℕ) < win0_9.index t 1 * win0_9.size 1 + win0_9.xsize (grid0.coords t) 1
    rw [b2, b3]; omega

theorem final_dm : (dats m 0 c).arrAt 9 cfg0.N = dm m c :=
  Dat.arrAt_eq_of_cover (dats m 0 c) 9 (dm m c) (fun t ht => flushed_dm m c t ht) cover_dm

/-- The array dga. -/
def dga : S8192x1024.Idx → EReal := fun y => gateSlope (rows_d (arg0 m c) (arg1 m c) y) (rows_b (arg2 m c) (arg3 m c) y) (arg6 m c (ix2 (y 0) ⟨0 + (y 1).val, right_6 (y 1)⟩))

theorem flushed_dga (t : Fin cfg0.N) (_ : (cfg0.win 10).flush t = true) :
    (dats m 0 c).flushed 10 t = ((cfg0.win 10).blk t).view.read (Elt Ideal) (dga m c) := by
  show (cfg0.win 10).cut (grid0.coords t) ((dats m 0 c).after 10 t) = _
  rw [after0_10]
  funext y
  refine (dga_tile (iblk m c 0 t) (iblk m c 1 t) (iblk m c 2 t) (iblk m c 3 t) (iblk m c 4 t) (iblk m c 5 t) (iblk m c 6 t) (iblk m c 7 t) y).trans ?_
  show _ = dga m c (((cfg0.win 10).blk t).view.emb y)
  refine Eq.trans (congr3 gateSlope (at_d_0_1 m c t (y 0) (y 1)) (at_b_2_3 m c t (y 0) (y 1)) (tile_6 m c t (y 0) (y 1))) (congrArg (dga m c) (funext fun a => Fin.ext ?_))
  match a with
  | ⟨0, _⟩ =>
    show 512 * t.val + (y 0).val = win0_10.index t 0 * 512 + 1 * (y 0).val
    rw [index_10]; omega
  | ⟨1, _⟩ => exact (Rows.at0 _).symm

theorem box_10 : ∀ t : Fin cfg0.N, win0_10.index t 0 * win0_10.size 0 = 512 * t.val ∧ win0_10.xsize (grid0.coords t) 0 = 512
    ∧ win0_10.index t 1 * win0_10.size 1 = 0 ∧ win0_10.xsize (grid0.coords t) 1 = 1024 := by decide +kernel

theorem cover_dga (i : S8192x1024.Idx) : ∃ t, (cfg0.win 10).flush t = true ∧ i ∈ ((cfg0.win 10).blk t).view.set := by
  have h0 : (i 0 : ℕ) < 8192 := (i 0).isLt
  have h1 : (i 1 : ℕ) < 1024 := (i 1).isLt
  refine ⟨⟨(i 0 : ℕ) / 512, lt_of_lt_of_eq (by omega) (show 16 = cfg0.N from N_0.symm)⟩, flush0_10 _, ?_⟩
  generalize ht : (⟨(i 0 : ℕ) / 512, _⟩ : Fin cfg0.N) = t
  have hv : (i 0 : ℕ) / 512 = t.val := congrArg Fin.val ht
  show i ∈ ((View.whole main_v0_2).slice (win0_10.rect t)).set
  rw [View.set_slice_whole, Rect.mem_set_unit]
  obtain ⟨b0, b1, b2, b3⟩ := box_10 t
  intro a
  match a with
  | ⟨0, _⟩ =>
    show win0_10.index t 0 * win0_10.size 0 ≤ (i 0 : ℕ) ∧ (i 0 : ℕ) < win0_10.index t 0 * win0_10.size 0 + win0_10.xsize (grid0.coords t) 0
    rw [b0, b1]; omega
  | ⟨1, _⟩ =>
    show win0_10.index t 1 * win0_10.size 1 ≤ (i 1 : ℕ) ∧ (i 1 : ℕ) < win0_10.index t 1 * win0_10.size 1 + win0_10.xsize (grid0.coords t) 1
    rw [b2, b3]; omega

theorem final_dga : (dats m 0 c).arrAt 10 cfg0.N = dga m c :=
  Dat.arrAt_eq_of_cover (dats m 0 c) 10 (dga m c) (fun t ht => flushed_dga m c t ht) cover_dga

/-- The array dgm. -/
def dgm : S8192x1024.Idx → EReal := fun y => gateSlope (rows_d (arg0 m c) (arg1 m c) y) (rows_b (arg4 m c) (arg5 m c) y) (arg6 m c (ix2 (y 0) ⟨1024 + (y 1).val, right_7 (y 1)⟩))

theorem flushed_dgm (t : Fin cfg0.N) (_ : (cfg0.win 11).flush t = true) :
    (dats m 0 c).flushed 11 t = ((cfg0.win 11).blk t).view.read (Elt Ideal) (dgm m c) := by
  show (cfg0.win 11).cut (grid0.coords t) ((dats m 0 c).after 11 t) = _
  rw [after0_11]
  funext y
  refine (dgm_tile (iblk m c 0 t) (iblk m c 1 t) (iblk m c 2 t) (iblk m c 3 t) (iblk m c 4 t) (iblk m c 5 t) (iblk m c 6 t) (iblk m c 7 t) y).trans ?_
  show _ = dgm m c (((cfg0.win 11).blk t).view.emb y)
  refine Eq.trans (congr3 gateSlope (at_d_0_1 m c t (y 0) (y 1)) (at_b_4_5 m c t (y 0) (y 1)) (tile_7 m c t (y 0) (y 1))) (congrArg (dgm m c) (funext fun a => Fin.ext ?_))
  match a with
  | ⟨0, _⟩ =>
    show 512 * t.val + (y 0).val = win0_11.index t 0 * 512 + 1 * (y 0).val
    rw [index_11]; omega
  | ⟨1, _⟩ => exact (Rows.at0 _).symm

theorem box_11 : ∀ t : Fin cfg0.N, win0_11.index t 0 * win0_11.size 0 = 512 * t.val ∧ win0_11.xsize (grid0.coords t) 0 = 512
    ∧ win0_11.index t 1 * win0_11.size 1 = 0 ∧ win0_11.xsize (grid0.coords t) 1 = 1024 := by decide +kernel

theorem cover_dgm (i : S8192x1024.Idx) : ∃ t, (cfg0.win 11).flush t = true ∧ i ∈ ((cfg0.win 11).blk t).view.set := by
  have h0 : (i 0 : ℕ) < 8192 := (i 0).isLt
  have h1 : (i 1 : ℕ) < 1024 := (i 1).isLt
  refine ⟨⟨(i 0 : ℕ) / 512, lt_of_lt_of_eq (by omega) (show 16 = cfg0.N from N_0.symm)⟩, flush0_11 _, ?_⟩
  generalize ht : (⟨(i 0 : ℕ) / 512, _⟩ : Fin cfg0.N) = t
  have hv : (i 0 : ℕ) / 512 = t.val := congrArg Fin.val ht
  show i ∈ ((View.whole main_v0_3).slice (win0_11.rect t)).set
  rw [View.set_slice_whole, Rect.mem_set_unit]
  obtain ⟨b0, b1, b2, b3⟩ := box_11 t
  intro a
  match a with
  | ⟨0, _⟩ =>
    show win0_11.index t 0 * win0_11.size 0 ≤ (i 0 : ℕ) ∧ (i 0 : ℕ) < win0_11.index t 0 * win0_11.size 0 + win0_11.xsize (grid0.coords t) 0
    rw [b0, b1]; omega
  | ⟨1, _⟩ =>
    show win0_11.index t 1 * win0_11.size 1 ≤ (i 1 : ℕ) ∧ (i 1 : ℕ) < win0_11.index t 1 * win0_11.size 1 + win0_11.xsize (grid0.coords t) 1
    rw [b2, b3]; omega

theorem final_dgm : (dats m 0 c).arrAt 11 cfg0.N = dgm m c :=
  Dat.arrAt_eq_of_cover (dats m 0 c) 11 (dgm m c) (fun t ht => flushed_dgm m c t ht) cover_dgm

/-- The kernel's run leaves the results at these arrays. -/
theorem output : θ_run defs (onTc (τ := τ) (main (F := Ideal))) ⟨m, fun _ => 0, ρ⟩ fun r => ∀ c : Dev nD,
      r.2.mem ((c.tc : Thread nD τ).loc main_v0_0) = da m c
      ∧ r.2.mem ((c.tc : Thread nD τ).loc main_v0_1) = dm m c
      ∧ r.2.mem ((c.tc : Thread nD τ).loc main_v0_2) = dga m c
      ∧ r.2.mem ((c.tc : Thread nD τ).loc main_v0_3) = dgm m c :=
  (θ_run defs _ _).mono (fun _ h c => ⟨((h c).1 8).trans (final_da m c), ((h c).1 9).trans (final_dm m c), ((h c).1 10).trans (final_dga m c), ((h c).1 11).trans (final_dgm m c)⟩) (run_main m ρ)

/-- The kernel's run, read: the results, the arguments unchanged. -/
theorem value : θ_run defs (onTc (τ := τ) (main (F := Ideal))) ⟨m, fun _ => 0, ρ⟩ fun r => ∀ c : Dev nD,
      r.2.mem ((c.tc : Thread nD τ).loc main_v0_0) = da m c
      ∧ r.2.mem ((c.tc : Thread nD τ).loc main_v0_1) = dm m c
      ∧ r.2.mem ((c.tc : Thread nD τ).loc main_v0_2) = dga m c
      ∧ r.2.mem ((c.tc : Thread nD τ).loc main_v0_3) = dgm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h.1 c).1, (h.1 c).2.1, (h.1 c).2.2.1, (h.1 c).2.2.2, h.2.1 c⟩)
    (θ_run_and (output m ρ) (frame m ρ))

end Cert.MixBwdIdeal.Value

end
-- ==== Proof.MixBwdEqual.lean ====
module

public import proofs.«01_k».proof.Defs
public import proofs.«01_k».proof.Proof.MixBwdValue
public import Idealize.ShloMosaic.Lib.Quiescent
public import proofs.«01_k».proof.Proof.Gen.MixBwdReferenceIdeal.Read

@[expose] public section

set_option maxRecDepth 16384

noncomputable section

/-! The kernel and the reference of the gradient through the mixer's output compute the same four arrays. -/

namespace Cert.MixBwdReferenceIdeal.Value

open Idealize.ShloMosaic Idealize.ShloMosaic.TcCoe Idealize.SL.Sem
open Cert.MixBwdReferenceIdeal Cert.MixBwdReferenceIdeal.Gen Cert.MixBwdReferenceIdeal.Read Cert.Scalars

variable (x0 : (⟨S8192x1024, .bf16⟩ : BufTy).Contents (Elt Ideal)) (x1 : (⟨S1024x1024, .bf16⟩ : BufTy).Contents (Elt Ideal)) (x2 : (⟨S8192x512, .bf16⟩ : BufTy).Contents (Elt Ideal)) (x3 : (⟨S1024x512, .bf16⟩ : BufTy).Contents (Elt Ideal)) (x4 : (⟨S8192x512, .bf16⟩ : BufTy).Contents (Elt Ideal)) (x5 : (⟨S1024x512, .bf16⟩ : BufTy).Contents (Elt Ideal)) (x6 : (⟨S8192x2048, .bf16⟩ : BufTy).Contents (Elt Ideal))

/-- The product at an index. -/
theorem product_a (y : S8192x1024.Idx) : val_main_v10 (F := Ideal) x2 x3 y = Cert.MixBwdIdeal.Value.rows_b x2 x3 y := by
  refine (val_main_v10_apply x2 x3 y).trans (Finset.sum_congr rfl fun k _ => ?_)
  rw [val_main_v9_apply]
  have el : lidx_main_v10 y k = ix2 (y 0) k := by
    funext a
    match a with
    | ⟨0, _⟩ => rfl
    | ⟨1, _⟩ => rfl
  have er : idx_main_v9 (ridx_main_v10 y k) = ix2 (y 1) k := by
    funext a
    match a with
    | ⟨0, _⟩ => rfl
    | ⟨1, _⟩ => rfl
  rw [el, er]
  rfl

/-- The product at an index. -/
theorem product_m (y : S8192x1024.Idx) : val_main_v12 (F := Ideal) x4 x5 y = Cert.MixBwdIdeal.Value.rows_b x4 x5 y := by
  refine (val_main_v12_apply x4 x5 y).trans (Finset.sum_congr rfl fun k _ => ?_)
  rw [val_main_v11_apply]
  have el : lidx_main_v12 y k = ix2 (y 0) k := by
    funext a
    match a with
    | ⟨0, _⟩ => rfl
    | ⟨1, _⟩ => rfl
  have er : idx_main_v11 (ridx_main_v12 y k) = ix2 (y 1) k := by
    funext a
    match a with
    | ⟨0, _⟩ => rfl
    | ⟨1, _⟩ => rfl
  rw [el, er]
  rfl

/-- The product at an index. -/
theorem product_d (y : S8192x1024.Idx) : val_main_v35 (F := Ideal) x0 x1 y = Cert.MixBwdIdeal.Value.rows_d x0 x1 y := by
  refine (val_main_v35_apply x0 x1 y).trans (Finset.sum_congr rfl fun k _ => ?_)
  rw [val_main_v0_apply]
  have el : lidx_main_v35 y k = ix2 (y 0) k := by
    funext a
    match a with
    | ⟨0, _⟩ => rfl
    | ⟨1, _⟩ => rfl
  have er : ridx_main_v35 y k = ix2 (y 1) k := by
    funext a
    match a with
    | ⟨0, _⟩ => rfl
    | ⟨1, _⟩ => rfl
  rw [el, er]
  rfl

theorem gate_a_place (k : Fin 1024) : 0 + k.val < 2048 := by omega

/-- A gate's logistic factor at an index. -/
theorem gate_a (y : S8192x1024.Idx) : val_main_v18 (F := Ideal) x6 y = logi (x6 (ix2 (y 0) ⟨0 + (y 1).val, gate_a_place (y 1)⟩)) := by
  rw [val_main_v18_apply, val_main_v17_apply, val_main_cst_0_apply, val_main_v16_apply, val_main_v15_apply, val_main_cst_apply, val_main_v14_apply,
    val_main_v13_apply, val_main_v7_apply, logistic]
  have e : idx_main_v7 y = ix2 (y 0) ⟨0 + (y 1).val, gate_a_place (y 1)⟩ := by
    funext a
    match a with
    | ⟨0, _⟩ => rfl
    | ⟨1, _⟩ => exact Fin.ext (by show (y 1).val = 0 + (y 1).val; omega)
  rw [e]
  rfl

theorem gate_m_place (k : Fin 1024) : 1024 + k.val < 2048 := by omega

/-- A gate's logistic factor at an index. -/
theorem gate_m (y : S8192x1024.Idx) : val_main_v28 (F := Ideal) x6 y = logi (x6 (ix2 (y 0) ⟨1024 + (y 1).val, gate_m_place (y 1)⟩)) := by
  rw [val_main_v28_apply, val_main_v27_apply, val_main_cst_3_apply, val_main_v26_apply, val_main_v25_apply, val_main_cst_2_apply, val_main_v24_apply,
    val_main_v23_apply, val_main_v8_apply, logistic]
  have e : idx_main_v8 y = ix2 (y 0) ⟨1024 + (y 1).val, gate_m_place (y 1)⟩ := by
    funext a
    match a with
    | ⟨0, _⟩ => rfl
    | ⟨1, _⟩ => rfl
  rw [e]
  rfl

/-- A branch's gradient at an index: the factors come in the other order. -/
theorem grad_a (y : S8192x1024.Idx) : val_main_v42 (F := Ideal) x0 x1 x6 y
    = gated (Cert.MixBwdIdeal.Value.rows_d x0 x1 y) (x6 (ix2 (y 0) ⟨0 + (y 1).val, gate_a_place (y 1)⟩)) := by
  rw [val_main_v42_apply, val_main_v39_apply, gate_a, product_d]
  exact mul_comm (G := EReal) _ _

/-- A branch's gradient at an index: the factors come in the other order. -/
theorem grad_m (y : S8192x1024.Idx) : val_main_v43 (F := Ideal) x0 x1 x6 y
    = gated (Cert.MixBwdIdeal.Value.rows_d x0 x1 y) (x6 (ix2 (y 0) ⟨1024 + (y 1).val, gate_m_place (y 1)⟩)) := by
  rw [val_main_v43_apply, val_main_v36_apply, gate_m, product_d]
  exact mul_comm (G := EReal) _ _

/-- A gate's gradient at an index. -/
theorem grad_ga (y : S8192x1024.Idx) : val_main_v44 (F := Ideal) x0 x1 x2 x3 x6 y
    = gateSlope (Cert.MixBwdIdeal.Value.rows_d x0 x1 y) (Cert.MixBwdIdeal.Value.rows_b x2 x3 y) (x6 (ix2 (y 0) ⟨0 + (y 1).val, gate_a_place (y 1)⟩)) := by
  rw [val_main_v44_apply, val_main_v41_apply, val_main_v40_apply, val_main_v21_apply, val_main_v20_apply, val_main_v19_apply, val_main_cst_1_apply, gate_a, product_a, product_d]
  rfl

/-- A gate's gradient at an index. -/
theorem grad_gm (y : S8192x1024.Idx) : val_main_v45 (F := Ideal) x0 x1 x4 x5 x6 y
    = gateSlope (Cert.MixBwdIdeal.Value.rows_d x0 x1 y) (Cert.MixBwdIdeal.Value.rows_b x4 x5 y) (x6 (ix2 (y 0) ⟨1024 + (y 1).val, gate_m_place (y 1)⟩)) := by
  rw [val_main_v45_apply, val_main_v38_apply, val_main_v37_apply, val_main_v31_apply, val_main_v30_apply, val_main_v29_apply, val_main_cst_4_apply, gate_m, product_m, product_d]
  rfl

end Cert.MixBwdReferenceIdeal.Value

namespace Cert.MixBwdEqual

open Idealize.ShloMosaic Idealize.ShloMosaic.TcCoe Idealize.SL.Sem

/-- From any arguments the kernel and the reference end with the same arrays. -/
theorem equal : Cert.algebraic_MixBwdIdeal_MixBwdReferenceIdeal := by
  intro m g m' g' _ ha
  refine ⟨Cert.MixBwdIdeal.Value.da m, Cert.MixBwdIdeal.Value.dm m, Cert.MixBwdIdeal.Value.dga m, Cert.MixBwdIdeal.Value.dgm m, Cert.MixBwdIdeal.Value.value m g, ?_⟩
  refine (θ_run Cert.MixBwdReferenceIdeal.defs _ _).mono (fun r h c => ?_) (Cert.MixBwdReferenceIdeal.Value.run (F := Ideal) m' g')
  obtain ⟨hv0, hv1, hv2, hv3, hargs⟩ := h c
  obtain ⟨a0, a1, a2, a3, a4, a5, a6⟩ := ha c
  refine ⟨hv0.trans ?_, hv1.trans ?_, hv2.trans ?_, hv3.trans ?_, hargs⟩
  · rw [a0, a1, a6]
    exact (Cert.MixBwdReferenceIdeal.Read.val_main_v42_eq (F := Ideal) _ _ _).trans (funext fun y => Cert.MixBwdReferenceIdeal.Value.grad_a _ _ _ y)
  · rw [a0, a1, a6]
    exact (Cert.MixBwdReferenceIdeal.Read.val_main_v43_eq (F := Ideal) _ _ _).trans (funext fun y => Cert.MixBwdReferenceIdeal.Value.grad_m _ _ _ y)
  · rw [a0, a1, a2, a3, a6]
    exact (Cert.MixBwdReferenceIdeal.Read.val_main_v44_eq (F := Ideal) _ _ _ _ _).trans (funext fun y => Cert.MixBwdReferenceIdeal.Value.grad_ga _ _ _ _ _ y)
  · rw [a0, a1, a4, a5, a6]
    exact (Cert.MixBwdReferenceIdeal.Read.val_main_v45_eq (F := Ideal) _ _ _ _ _).trans (funext fun y => Cert.MixBwdReferenceIdeal.Value.grad_gm _ _ _ _ _ y)

/-- The reference ends with its arguments unchanged and every counter at zero. -/
theorem frame_reference : Cert.quiescent_MixBwdReferenceIdeal := by
  intro m ρ _
  exact (θ_run Cert.MixBwdReferenceIdeal.defs _ _).mono (fun r h => ⟨fun c => (h c).2.2.2.2,
      Idealize.ShloMosaic.sem_eq_zero_of_no_sems (by decide) r.2⟩)
    (Cert.MixBwdReferenceIdeal.Value.run (F := Ideal) m ρ)

end Cert.MixBwdEqual

end
-- ==== Proof.BranchBwdTile.lean ====
module

public import proofs.«01_k».proof.Proof.Gen.BranchBwdIdeal.Frame
public import proofs.«01_k».proof.Proof.Scalars
public import Idealize.ShloMosaic.Lib.Pointwise
public import Idealize.ShloMosaic.Lib.Claim
public import Idealize.ShloMosaic.Lib.Pipeline.Value

@[expose] public section

set_option maxRecDepth 16384

noncomputable section

/-! The gradient through the attention branch's product: one tile of 512 rows, chunk by chunk of columns. -/

namespace Cert.BranchBwdIdeal.Value

open Idealize.ShloMosaic Idealize.ShloMosaic.TcCoe Idealize.ShloMosaic.Tactic Idealize.SL.Sem
open Cert.BranchBwdIdeal Cert.BranchBwdIdeal.Gen Cert.Scalars

/-- A row of the tile against a row or column of the weight. -/
def prod_d (x : S512x1024.Idx → EReal) (w : S1024x512.Idx → EReal) (i : Fin 512) (j : Fin 512) : EReal :=
  ∑ k : Fin 1024, x (ix2 i k) * w (ix2 k j)

/-- The chunk's product from the values it reads. -/
theorem apply_d (x : Vec Ideal S512x1024 .bf16) (w : Vec Ideal S1024x512 .bf16) (i : Fin 512) (j : Fin 512) :
    (matmul (F := Ideal) (φ₁ := .bf16) (φ₂ := .bf16) dot_S512x1024_S1024x512_S512x512_1_0_0_1_n_n none x w (constant (F := Ideal) S512x512 .f32 0x00000000#32) : FVec Ideal S512x512 .f32) (ix2 i j)
      = ∑ k : Fin 1024, x (ix2 i k) * w (ix2 k j) := by
  pointwise []

/-- A chunk's product is the tile's product at the chunk's place. -/
theorem chunk_d (x : Vec Ideal S512x1024 .bf16) (w : Vec Ideal S1024x512 .bf16) (o : ℕ)
    (inb : ∀ a, (![0, o] : Fin 2 → ℕ) a + S1024x512.size a ≤ S1024x512.size a) (i : Fin 512) (j : Fin 512) (h : o + j.val < 512) :
    (matmul (F := Ideal) (φ₁ := .bf16) (φ₂ := .bf16) dot_S512x1024_S1024x512_S512x512_1_0_0_1_n_n none x (View.ld w (Rect.unit (s := S1024x512) ![0, o] S1024x512.size inb))
      (constant (F := Ideal) S512x512 .f32 0x00000000#32) : FVec Ideal S512x512 .f32) (ix2 i j) = prod_d x w i ⟨o + j.val, h⟩ := by
  rw [apply_d]
  refine Finset.sum_congr rfl fun k _ => congrArg (fun b : EReal => x (ix2 i k) * b) ?_
  refine congrArg w (funext fun a => Fin.ext ?_)
  match a with
  | ⟨0, _⟩ => show 0 + 1 * k.val = k.val; omega
  | ⟨1, _⟩ => show o + 1 * j.val = o + j.val; omega

/-- Reading a whole window reads it. -/
theorem whole_1024 (x : Vec Ideal S512x1024 .bf16) (inb : ∀ a, (![0, 0] : Fin 2 → ℕ) a + S512x1024.size a ≤ S512x1024.size a) :
    View.ld x (Rect.unit (s := S512x1024) ![0, 0] S512x1024.size inb) = x := by
  refine funext fun y => congrArg x (funext fun a => Fin.ext ?_)
  match a with
  | ⟨0, _⟩ => show 0 + 1 * (y 0).val = (y 0).val; omega
  | ⟨1, _⟩ => show 0 + 1 * (y 1).val = (y 1).val; omega

/-- The chunk's place in the tile. -/
theorem place_512_512 (o : ℕ) (inb : ∀ a, (![0, o] : Fin 2 → ℕ) a + S512x512.size a ≤ S512x512.size a) (i : Fin 512) (j : Fin 512)
    (h : o + j.val < 512) : (Rect.unit (s := S512x512) ![0, o] S512x512.size inb).emb (ix2 i j) = ix2 i ⟨o + j.val, h⟩ := by
  refine funext fun a => Fin.ext ?_
  match a with
  | ⟨0, _⟩ => show 0 + 1 * i.val = i.val; omega
  | ⟨1, _⟩ => show o + 1 * j.val = o + j.val; omega

theorem bound_512_512 (o : ℕ) (inb : ∀ a, (![0, o] : Fin 2 → ℕ) a + S512x512.size a ≤ S512x512.size a) (j : Fin 512) : o + j.val < 512 := by
  have h : o + 512 ≤ 512 := inb 1
  omega

theorem split_512 (y : S512x512.Idx) : ∃ (i : Fin 512) (j : Fin 512), y = ix2 i j :=
  ⟨y 0, y 1, by funext a; match a with | ⟨0, _⟩ => rfl | ⟨1, _⟩ => rfl⟩

variable (x0 : Vec Ideal S512x1024 .bf16) (x1 : Vec Ideal S1024x512 .bf16)

/-- The tile of dy. -/
def dyAt (y : S512x512.Idx) : EReal := plain (prod_d x0 x1 (y 0) (y 1))

theorem dy_piece (o : ℕ) (inw_S1024x512 : ∀ a, (![0, o] : Fin 2 → ℕ) a + S1024x512.size a ≤ S1024x512.size a) (inb : ∀ a, (![0, o] : Fin 2 → ℕ) a + S512x512.size a ≤ S512x512.size a) (z : S512x512.Idx) :
    plain ((matmul (F := Ideal) (φ₁ := .bf16) (φ₂ := .bf16) dot_S512x1024_S1024x512_S512x512_1_0_0_1_n_n none (View.ld x0 r0_1) (View.ld x1 (Rect.unit (s := S1024x512) ![0, o] S1024x512.size inw_S1024x512)) (constant (F := Ideal) S512x512 .f32 0x00000000#32) : FVec Ideal S512x512 .f32) z)
      = dyAt x0 x1 ((Rect.unit (s := S512x512) ![0, o] S512x512.size inb).emb z) := by
  obtain ⟨i, j, rfl⟩ := split_512 z
  have h := bound_512_512 o inb j
  refine Eq.trans ?_ (congrArg (dyAt x0 x1) (place_512_512 o inb i j h).symm)
  exact congr1 plain ((chunk_d (View.ld x0 r0_1) x1 o inw_S1024x512 i j h).trans (congrArg (fun q => prod_d q x1 i ⟨o + j.val, h⟩) (whole_1024 x0 _)))

/-- What a tile's body leaves in the window of dy. -/
theorem dy_tile (y : S512x512.Idx) : out0_2 (F := Ideal) x0 x1 y = dyAt x0 x1 y := by
  unfold out0_2
  refine View.canon_apply_of_pieces (Val := Elt Ideal) (dyAt x0 x1) _ ?_ y (cover0_2 _ y)
  refine List.forall_mem_cons.2 ⟨dy_piece x0 x1 0 inb_S1024x512_S1024x512_0_0 inb_S512x512_S512x512_0_0, ?_⟩
  exact fun _ h => absurd h List.not_mem_nil

end Cert.BranchBwdIdeal.Value

end
-- ==== Proof.BranchBwdValue.lean ====
module

public import proofs.«01_k».proof.Proof.Rows
public import proofs.«01_k».proof.Proof.BranchBwdTile
public import Idealize.ShloMosaic.Lib.Claim
public import Idealize.ShloMosaic.Lib.Pipeline.Value

@[expose] public section

set_option maxRecDepth 16384

noncomputable section

/-! The gradient through the attention branch's product: the arrays the run leaves. -/

namespace Cert.BranchBwdIdeal.Value

open Idealize.ShloMosaic Idealize.ShloMosaic.TcCoe Idealize.ShloMosaic.Tactic Idealize.SL.Sem
open Idealize.ShloMosaic.Pipeline (Dat)
open Cert.BranchBwdIdeal Cert.BranchBwdIdeal.Gen Cert.Scalars

variable (m : (ℓ : Loc nD τ sig) → Buf (Elt Ideal) ℓ) (ρ : Dev nD → PrngReg) (c : Dev nD)

theorem index_0 : ∀ t : Fin cfg0.N, win0_0.index t 0 = t.val := by decide +kernel
theorem index_2 : ∀ t : Fin cfg0.N, win0_2.index t 0 = t.val := by decide +kernel

theorem points (t : Fin cfg0.N) : t.val < 16 := lt_of_lt_of_eq t.isLt (show cfg0.N = 16 from N_0)

/-- A tile's row in the whole array. -/
def row (t : Fin cfg0.N) (r : Fin 512) : Fin 8192 := ⟨512 * t.val + r.val, by have := points t; omega⟩

/-- The tile holds rows of its array. -/
theorem tile_0 (t : Fin cfg0.N) (r : Fin 512) (k : Fin 1024) : iblk m c 0 t (ix2 r k) = m (c, main_arg0) (ix2 (row t r) k) := by
  refine congrArg (m (c, main_arg0)) (funext fun a => Fin.ext ?_)
  match a with
  | ⟨0, _⟩ =>
    show win0_0.index t 0 * 512 + 1 * r.val = 512 * t.val + r.val
    rw [index_0]; omega
  | ⟨1, _⟩ => exact Rows.at0 _

/-- The window holds the whole array. -/
theorem tile_1 (t : Fin cfg0.N) (j : Fin 1024) (k : Fin 512) : iblk m c 1 t (ix2 j k) = m (c, main_arg1) (ix2 j k) := by
  refine congrArg (m (c, main_arg1)) (funext fun a => Fin.ext ?_)
  match a with
  | ⟨0, _⟩ => exact Rows.at0 _
  | ⟨1, _⟩ => exact Rows.at0 _

/-- Argument 0 as the region finds it. -/
def arg0 : S8192x1024.Idx → EReal := m (c, main_arg0)

/-- Argument 1 as the region finds it. -/
def arg1 : S1024x512.Idx → EReal := m (c, main_arg1)

/-- A product of an array with a weight. -/
def rows_d (x : S8192x1024.Idx → EReal) (w : S1024x512.Idx → EReal) (y : S8192x512.Idx) : EReal :=
  ∑ k : Fin 1024, x (ix2 (y 0) k) * w (ix2 k (y 1))

/-- A tile's product is the product at the tile's place. -/
theorem at_d_0_1 (t : Fin cfg0.N) (i : Fin 512) (j : Fin 512) :
    prod_d (iblk m c 0 t) (iblk m c 1 t) i j = rows_d (arg0 m c) (arg1 m c) (ix2 (row t i) j) :=
  Finset.sum_congr rfl fun k _ => congrArg₂ (fun a b : EReal => a * b) (tile_0 m c t i k) (tile_1 m c t k j)

/-- The array dy. -/
def dy : S8192x512.Idx → EReal := fun y => plain (rows_d (arg0 m c) (arg1 m c) y)

theorem flushed_dy (t : Fin cfg0.N) (_ : (cfg0.win 2).flush t = true) :
    (dats m 0 c).flushed 2 t = ((cfg0.win 2).blk t).view.read (Elt Ideal) (dy m c) := by
  show (cfg0.win 2).cut (grid0.coords t) ((dats m 0 c).after 2 t) = _
  rw [after0_2]
  funext y
  refine (dy_tile (iblk m c 0 t) (iblk m c 1 t) y).trans ?_
  show _ = dy m c (((cfg0.win 2).blk t).view.emb y)
  refine Eq.trans (congr1 plain (at_d_0_1 m c t (y 0) (y 1))) (congrArg (dy m c) (funext fun a => Fin.ext ?_))
  match a with
  | ⟨0, _⟩ =>
    show 512 * t.val + (y 0).val = win0_2.index t 0 * 512 + 1 * (y 0).val
    rw [index_2]; omega
  | ⟨1, _⟩ => exact (Rows.at0 _).symm

theorem box_2 : ∀ t : Fin cfg0.N, win0_2.index t 0 * win0_2.size 0 = 512 * t.val ∧ win0_2.xsize (grid0.coords t) 0 = 512
    ∧ win0_2.index t 1 * win0_2.size 1 = 0 ∧ win0_2.xsize (grid0.coords t) 1 = 512 := by decide +kernel

theorem cover_dy (i : S8192x512.Idx) : ∃ t, (cfg0.win 2).flush t = true ∧ i ∈ ((cfg0.win 2).blk t).view.set := by
  have h0 : (i 0 : ℕ) < 8192 := (i 0).isLt
  have h1 : (i 1 : ℕ) < 512 := (i 1).isLt
  refine ⟨⟨(i 0 : ℕ) / 512, lt_of_lt_of_eq (by omega) (show 16 = cfg0.N from N_0.symm)⟩, flush0_2 _, ?_⟩
  generalize ht : (⟨(i 0 : ℕ) / 512, _⟩ : Fin cfg0.N) = t
  have hv : (i 0 : ℕ) / 512 = t.val := congrArg Fin.val ht
  show i ∈ ((View.whole main_v0).slice (win0_2.rect t)).set
  rw [View.set_slice_whole, Rect.mem_set_unit]
  obtain ⟨b0, b1, b2, b3⟩ := box_2 t
  intro a
  match a with
  | ⟨0, _⟩ =>
    show win0_2.index t 0 * win0_2.size 0 ≤ (i 0 : ℕ) ∧ (i 0 : ℕ) < win0_2.index t 0 * win0_2.size 0 + win0_2.xsize (grid0.coords t) 0
    rw [b0, b1]; omega
  | ⟨1, _⟩ =>
    show win0_2.index t 1 * win0_2.size 1 ≤ (i 1 : ℕ) ∧ (i 1 : ℕ) < win0_2.index t 1 * win0_2.size 1 + win0_2.xsize (grid0.coords t) 1
    rw [b2, b3]; omega

theorem final_dy : (dats m 0 c).arrAt 2 cfg0.N = dy m c :=
  Dat.arrAt_eq_of_cover (dats m 0 c) 2 (dy m c) (fun t ht => flushed_dy m c t ht) cover_dy

/-- The kernel's run leaves the results at these arrays. -/
theorem output : θ_run defs (onTc (τ := τ) (main (F := Ideal))) ⟨m, fun _ => 0, ρ⟩ fun r => ∀ c : Dev nD,
      r.2.mem ((c.tc : Thread nD τ).loc main_v0) = dy m c :=
  (θ_run defs _ _).mono (fun _ h c => ((h c).1 2).trans (final_dy m c)) (run_main m ρ)

/-- The kernel's run, read: the results, the arguments unchanged. -/
theorem value : θ_run defs (onTc (τ := τ) (main (F := Ideal))) ⟨m, fun _ => 0, ρ⟩ fun r => ∀ c : Dev nD,
      r.2.mem ((c.tc : Thread nD τ).loc main_v0) = dy m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h.1 c, h.2.1 c⟩)
    (θ_run_and (output m ρ) (frame m ρ))

end Cert.BranchBwdIdeal.Value

end
-- ==== Proof.BranchBwdEqual.lean ====
module

public import proofs.«01_k».proof.Defs
public import proofs.«01_k».proof.Proof.BranchBwdValue
public import Idealize.ShloMosaic.Lib.Quiescent
public import proofs.«01_k».proof.Proof.Gen.BranchBwdReferenceIdeal.Read

@[expose] public section

set_option maxRecDepth 16384

noncomputable section

/-! The kernel and the reference of the attention branch's gradient compute the same array. -/

namespace Cert.BranchBwdReferenceIdeal.Value

open Idealize.ShloMosaic Idealize.ShloMosaic.TcCoe Idealize.SL.Sem
open Cert.BranchBwdReferenceIdeal Cert.BranchBwdReferenceIdeal.Gen Cert.BranchBwdReferenceIdeal.Read Cert.Scalars

variable (x0 : (⟨S8192x1024, .bf16⟩ : BufTy).Contents (Elt Ideal)) (x1 : (⟨S1024x512, .bf16⟩ : BufTy).Contents (Elt Ideal))

/-- The product at an index. -/
theorem product (y : S8192x512.Idx) : val_main_v5 (F := Ideal) x0 x1 y = Cert.BranchBwdIdeal.Value.rows_d x0 x1 y := by
  refine (val_main_v5_apply x0 x1 y).trans (Finset.sum_congr rfl fun k _ => ?_)
  rw [val_main_v2_apply]
  have el : lidx_main_v5 y k = ix2 (y 0) k := by
    funext a
    match a with
    | ⟨0, _⟩ => rfl
    | ⟨1, _⟩ => rfl
  have er : idx_main_v2 (ridx_main_v5 y k) = ix2 k (y 1) := by
    funext a
    match a with
    | ⟨0, _⟩ => rfl
    | ⟨1, _⟩ => rfl
  rw [el, er]
  rfl

end Cert.BranchBwdReferenceIdeal.Value

namespace Cert.BranchBwdEqual

open Idealize.ShloMosaic Idealize.ShloMosaic.TcCoe Idealize.SL.Sem

/-- From any arguments the kernel and the reference end with the same arrays. -/
theorem equal : Cert.algebraic_BranchBwdIdeal_BranchBwdReferenceIdeal := by
  intro m g m' g' _ ha
  refine ⟨Cert.BranchBwdIdeal.Value.dy m, Cert.BranchBwdIdeal.Value.value m g, ?_⟩
  refine (θ_run Cert.BranchBwdReferenceIdeal.defs _ _).mono (fun r h c => ?_) (Cert.BranchBwdReferenceIdeal.Value.run (F := Ideal) m' g')
  obtain ⟨hv, hargs⟩ := h c
  obtain ⟨a0, a1⟩ := ha c
  refine ⟨hv.trans ?_, hargs⟩
  · rw [a0, a1]
    exact (Cert.BranchBwdReferenceIdeal.Read.val_main_v5_eq (F := Ideal) _ _).trans (funext fun y => Cert.BranchBwdReferenceIdeal.Value.product _ _ y)

/-- The reference ends with its arguments unchanged and every counter at zero. -/
theorem frame_reference : Cert.quiescent_BranchBwdReferenceIdeal := by
  intro m ρ _
  exact (θ_run Cert.BranchBwdReferenceIdeal.defs _ _).mono (fun r h => ⟨fun c => (h c).2,
      Idealize.ShloMosaic.sem_eq_zero_of_no_sems (by decide) r.2⟩)
    (Cert.BranchBwdReferenceIdeal.Value.run (F := Ideal) m ρ)

end Cert.BranchBwdEqual

end
-- ==== Proof.MergeTile.lean ====
module

public import proofs.«01_k».proof.Proof.Gen.MergeIdeal.Frame
public import proofs.«01_k».proof.Proof.Scalars
public import Idealize.ShloMosaic.Lib.Pointwise
public import Idealize.ShloMosaic.Lib.Claim
public import Idealize.ShloMosaic.Lib.Pipeline.Value

@[expose] public section

set_option maxRecDepth 16384

noncomputable section

/-! The two branches' products merged under their gates: one tile of 512 rows, chunk by chunk of columns. -/

namespace Cert.MergeIdeal.Value

open Idealize.ShloMosaic Idealize.ShloMosaic.TcCoe Idealize.ShloMosaic.Tactic Idealize.SL.Sem
open Cert.MergeIdeal Cert.MergeIdeal.Gen Cert.Scalars

/-- A row of the tile against a row or column of the weight. -/
def prod_b (x : S512x512.Idx → EReal) (w : S1024x512.Idx → EReal) (i : Fin 512) (j : Fin 1024) : EReal :=
  ∑ k : Fin 512, x (ix2 i k) * w (ix2 j k)

/-- The chunk's product from the values it reads. -/
theorem apply_b (x : Vec Ideal S512x512 .bf16) (w : Vec Ideal S512x512 .bf16) (i : Fin 512) (j : Fin 512) :
    (matmul (F := Ideal) (φ₁ := .bf16) (φ₂ := .bf16) dot_S512x512_S512x512_S512x512_1_1_0_0_n_n none x w (constant (F := Ideal) S512x512 .f32 0x00000000#32) : FVec Ideal S512x512 .f32) (ix2 i j)
      = ∑ k : Fin 512, x (ix2 i k) * w (ix2 j k) := by
  pointwise []

/-- A chunk's product is the tile's product at the chunk's place. -/
theorem chunk_b (x : Vec Ideal S512x512 .bf16) (w : Vec Ideal S1024x512 .bf16) (o : ℕ)
    (inb : ∀ a, (![o, 0] : Fin 2 → ℕ) a + S512x512.size a ≤ S1024x512.size a) (i : Fin 512) (j : Fin 512) (h : o + j.val < 1024) :
    (matmul (F := Ideal) (φ₁ := .bf16) (φ₂ := .bf16) dot_S512x512_S512x512_S512x512_1_1_0_0_n_n none x (View.ld w (Rect.unit (s := S1024x512) ![o, 0] S512x512.size inb))
      (constant (F := Ideal) S512x512 .f32 0x00000000#32) : FVec Ideal S512x512 .f32) (ix2 i j) = prod_b x w i ⟨o + j.val, h⟩ := by
  rw [apply_b]
  refine Finset.sum_congr rfl fun k _ => congrArg (fun b : EReal => x (ix2 i k) * b) ?_
  refine congrArg w (funext fun a => Fin.ext ?_)
  match a with
  | ⟨0, _⟩ => show o + 1 * j.val = o + j.val; omega
  | ⟨1, _⟩ => show 0 + 1 * k.val = k.val; omega

/-- Reading a whole window reads it. -/
theorem whole_512 (x : Vec Ideal S512x512 .bf16) (inb : ∀ a, (![0, 0] : Fin 2 → ℕ) a + S512x512.size a ≤ S512x512.size a) :
    View.ld x (Rect.unit (s := S512x512) ![0, 0] S512x512.size inb) = x := by
  refine funext fun y => congrArg x (funext fun a => Fin.ext ?_)
  match a with
  | ⟨0, _⟩ => show 0 + 1 * (y 0).val = (y 0).val; omega
  | ⟨1, _⟩ => show 0 + 1 * (y 1).val = (y 1).val; omega

/-- The chunk's place in the tile. -/
theorem place_1024_512 (o : ℕ) (inb : ∀ a, (![0, o] : Fin 2 → ℕ) a + S512x512.size a ≤ S512x1024.size a) (i : Fin 512) (j : Fin 512)
    (h : o + j.val < 1024) : (Rect.unit (s := S512x1024) ![0, o] S512x512.size inb).emb (ix2 i j) = ix2 i ⟨o + j.val, h⟩ := by
  refine funext fun a => Fin.ext ?_
  match a with
  | ⟨0, _⟩ => show 0 + 1 * i.val = i.val; omega
  | ⟨1, _⟩ => show o + 1 * j.val = o + j.val; omega

theorem bound_1024_512 (o : ℕ) (inb : ∀ a, (![0, o] : Fin 2 → ℕ) a + S512x512.size a ≤ S512x1024.size a) (j : Fin 512) : o + j.val < 1024 := by
  have h : o + 512 ≤ 1024 := inb 1
  omega

theorem split_512 (y : S512x512.Idx) : ∃ (i : Fin 512) (j : Fin 512), y = ix2 i j :=
  ⟨y 0, y 1, by funext a; match a with | ⟨0, _⟩ => rfl | ⟨1, _⟩ => rfl⟩

variable (x0 : Vec Ideal S512x512 .bf16) (x1 : Vec Ideal S1024x512 .bf16) (x2 : Vec Ideal S512x512 .bf16) (x3 : Vec Ideal S1024x512 .bf16) (x4 : Vec Ideal S512x1024 .bf16) (x5 : Vec Ideal S512x1024 .bf16)

/-- The tile of both. -/
def bothAt (y : S512x1024.Idx) : EReal := merged (prod_b x0 x1 (y 0) (y 1)) (prod_b x2 x3 (y 0) (y 1)) (x4 (ix2 (y 0) (y 1))) (x5 (ix2 (y 0) (y 1)))

theorem both_piece (o : ℕ) (inw_S1024x512 : ∀ a, (![o, 0] : Fin 2 → ℕ) a + S512x512.size a ≤ S1024x512.size a) (inb : ∀ a, (![0, o] : Fin 2 → ℕ) a + S512x512.size a ≤ S512x1024.size a) (z : S512x512.Idx) :
    merged ((matmul (F := Ideal) (φ₁ := .bf16) (φ₂ := .bf16) dot_S512x512_S512x512_S512x512_1_1_0_0_n_n none (View.ld x0 r0_1) (View.ld x1 (Rect.unit (s := S1024x512) ![o, 0] S512x512.size inw_S1024x512)) (constant (F := Ideal) S512x512 .f32 0x00000000#32) : FVec Ideal S512x512 .f32) z)
      ((matmul (F := Ideal) (φ₁ := .bf16) (φ₂ := .bf16) dot_S512x512_S512x512_S512x512_1_1_0_0_n_n none (View.ld x2 r0_1) (View.ld x3 (Rect.unit (s := S1024x512) ![o, 0] S512x512.size inw_S1024x512)) (constant (F := Ideal) S512x512 .f32 0x00000000#32) : FVec Ideal S512x512 .f32) z)
      (View.ld x4 (Rect.unit (s := S512x1024) ![0, o] S512x512.size inb) z)
      (View.ld x5 (Rect.unit (s := S512x1024) ![0, o] S512x512.size inb) z)
      = bothAt x0 x1 x2 x3 x4 x5 ((Rect.unit (s := S512x1024) ![0, o] S512x512.size inb).emb z) := by
  obtain ⟨i, j, rfl⟩ := split_512 z
  have h := bound_1024_512 o inb j
  refine Eq.trans ?_ (congrArg (bothAt x0 x1 x2 x3 x4 x5) (place_1024_512 o inb i j h).symm)
  exact congr4 merged ((chunk_b (View.ld x0 r0_1) x1 o inw_S1024x512 i j h).trans (congrArg (fun q => prod_b q x1 i ⟨o + j.val, h⟩) (whole_512 x0 _)))
    ((chunk_b (View.ld x2 r0_1) x3 o inw_S1024x512 i j h).trans (congrArg (fun q => prod_b q x3 i ⟨o + j.val, h⟩) (whole_512 x2 _)))
    (congrArg x4 (place_1024_512 o inb i j h))
    (congrArg x5 (place_1024_512 o inb i j h))

/-- What a tile's body leaves in the window of both. -/
theorem both_tile (y : S512x1024.Idx) : out0_6 (F := Ideal) x0 x1 x2 x3 x4 x5 y = bothAt x0 x1 x2 x3 x4 x5 y := by
  unfold out0_6
  refine View.canon_apply_of_pieces (Val := Elt Ideal) (bothAt x0 x1 x2 x3 x4 x5) _ ?_ y (cover0_6 _ _ y)
  refine List.forall_mem_cons.2 ⟨both_piece x0 x1 x2 x3 x4 x5 512 inb_S1024x512_S512x512_512_0 inb_S512x1024_S512x512_0_512, ?_⟩
  refine List.forall_mem_cons.2 ⟨both_piece x0 x1 x2 x3 x4 x5 0 inb_S1024x512_S512x512_0_0 inb_S512x1024_S512x512_0_0, ?_⟩
  exact fun _ h => absurd h List.not_mem_nil

end Cert.MergeIdeal.Value

end
-- ==== Proof.MergeValue.lean ====
module

public import proofs.«01_k».proof.Proof.Rows
public import proofs.«01_k».proof.Proof.MergeTile
public import Idealize.ShloMosaic.Lib.Claim
public import Idealize.ShloMosaic.Lib.Pipeline.Value

@[expose] public section

set_option maxRecDepth 16384

noncomputable section

/-! The two branches' products merged under their gates: the arrays the run leaves. -/

namespace Cert.MergeIdeal.Value

open Idealize.ShloMosaic Idealize.ShloMosaic.TcCoe Idealize.ShloMosaic.Tactic Idealize.SL.Sem
open Idealize.ShloMosaic.Pipeline (Dat)
open Cert.MergeIdeal Cert.MergeIdeal.Gen Cert.Scalars

variable (m : (ℓ : Loc nD τ sig) → Buf (Elt Ideal) ℓ) (ρ : Dev nD → PrngReg) (c : Dev nD)

theorem index_0 : ∀ t : Fin cfg0.N, win0_0.index t 0 = t.val := by decide +kernel
theorem index_2 : ∀ t : Fin cfg0.N, win0_2.index t 0 = t.val := by decide +kernel
theorem index_4 : ∀ t : Fin cfg0.N, win0_4.index t 0 = t.val := by decide +kernel
theorem index_5 : ∀ t : Fin cfg0.N, win0_5.index t 0 = t.val := by decide +kernel
theorem index_6 : ∀ t : Fin cfg0.N, win0_6.index t 0 = t.val := by decide +kernel

theorem points (t : Fin cfg0.N) : t.val < 16 := lt_of_lt_of_eq t.isLt (show cfg0.N = 16 from N_0)

/-- A tile's row in the whole array. -/
def row (t : Fin cfg0.N) (r : Fin 512) : Fin 8192 := ⟨512 * t.val + r.val, by have := points t; omega⟩

/-- The tile holds rows of its array. -/
theorem tile_0 (t : Fin cfg0.N) (r : Fin 512) (k : Fin 512) : iblk m c 0 t (ix2 r k) = m (c, main_arg0) (ix2 (row t r) k) := by
  refine congrArg (m (c, main_arg0)) (funext fun a => Fin.ext ?_)
  match a with
  | ⟨0, _⟩ =>
    show win0_0.index t 0 * 512 + 1 * r.val = 512 * t.val + r.val
    rw [index_0]; omega
  | ⟨1, _⟩ => exact Rows.at0 _

/-- The window holds the whole array. -/
theorem tile_1 (t : Fin cfg0.N) (j : Fin 1024) (k : Fin 512) : iblk m c 1 t (ix2 j k) = m (c, main_arg1) (ix2 j k) := by
  refine congrArg (m (c, main_arg1)) (funext fun a => Fin.ext ?_)
  match a with
  | ⟨0, _⟩ => exact Rows.at0 _
  | ⟨1, _⟩ => exact Rows.at0 _

/-- The tile holds rows of its array. -/
theorem tile_2 (t : Fin cfg0.N) (r : Fin 512) (k : Fin 512) : iblk m c 2 t (ix2 r k) = m (c, main_arg2) (ix2 (row t r) k) := by
  refine congrArg (m (c, main_arg2)) (funext fun a => Fin.ext ?_)
  match a with
  | ⟨0, _⟩ =>
    show win0_2.index t 0 * 512 + 1 * r.val = 512 * t.val + r.val
    rw [index_2]; omega
  | ⟨1, _⟩ => exact Rows.at0 _

/-- The window holds the whole array. -/
theorem tile_3 (t : Fin cfg0.N) (j : Fin 1024) (k : Fin 512) : iblk m c 3 t (ix2 j k) = m (c, main_arg3) (ix2 j k) := by
  refine congrArg (m (c, main_arg3)) (funext fun a => Fin.ext ?_)
  match a with
  | ⟨0, _⟩ => exact Rows.at0 _
  | ⟨1, _⟩ => exact Rows.at0 _

theorem right_4 (k : Fin 1024) : 0 + k.val < 2048 := by omega

/-- The tile holds rows of its array. -/
theorem tile_4 (t : Fin cfg0.N) (r : Fin 512) (k : Fin 1024) : iblk m c 4 t (ix2 r k) = m (c, main_arg4) (ix2 (row t r) ⟨0 + k.val, right_4 k⟩) := by
  refine congrArg (m (c, main_arg4)) (funext fun a => Fin.ext ?_)
  match a with
  | ⟨0, _⟩ =>
    show win0_4.index t 0 * 512 + 1 * r.val = 512 * t.val + r.val
    rw [index_4]; omega
  | ⟨1, _⟩ =>
    show win0_4.index t 1 * 1024 + 1 * k.val = 0 + k.val
    have : win0_4.index t 1 = 0 := rfl
    omega

theorem right_5 (k : Fin 1024) : 1024 + k.val < 2048 := by omega

/-- The tile holds rows of its array. -/
theorem tile_5 (t : Fin cfg0.N) (r : Fin 512) (k : Fin 1024) : iblk m c 5 t (ix2 r k) = m (c, main_arg4) (ix2 (row t r) ⟨1024 + k.val, right_5 k⟩) := by
  refine congrArg (m (c, main_arg4)) (funext fun a => Fin.ext ?_)
  match a with
  | ⟨0, _⟩ =>
    show win0_5.index t 0 * 512 + 1 * r.val = 512 * t.val + r.val
    rw [index_5]; omega
  | ⟨1, _⟩ =>
    show win0_5.index t 1 * 1024 + 1 * k.val = 1024 + k.val
    have : win0_5.index t 1 = 1 := rfl
    omega

/-- Argument 0 as the region finds it. -/
def arg0 : S8192x512.Idx → EReal := m (c, main_arg0)

/-- Argument 1 as the region finds it. -/
def arg1 : S1024x512.Idx → EReal := m (c, main_arg1)

/-- Argument 2 as the region finds it. -/
def arg2 : S8192x512.Idx → EReal := m (c, main_arg2)

/-- Argument 3 as the region finds it. -/
def arg3 : S1024x512.Idx → EReal := m (c, main_arg3)

/-- Argument 4 as the region finds it. -/
def arg4 : S8192x2048.Idx → EReal := m (c, main_arg4)

/-- A product of an array with a weight. -/
def rows_b (x : S8192x512.Idx → EReal) (w : S1024x512.Idx → EReal) (y : S8192x1024.Idx) : EReal :=
  ∑ k : Fin 512, x (ix2 (y 0) k) * w (ix2 (y 1) k)

/-- A tile's product is the product at the tile's place. -/
theorem at_b_0_1 (t : Fin cfg0.N) (i : Fin 512) (j : Fin 1024) :
    prod_b (iblk m c 0 t) (iblk m c 1 t) i j = rows_b (arg0 m c) (arg1 m c) (ix2 (row t i) j) :=
  Finset.sum_congr rfl fun k _ => congrArg₂ (fun a b : EReal => a * b) (tile_0 m c t i k) (tile_1 m c t j k)

/-- A tile's product is the product at the tile's place. -/
theorem at_b_2_3 (t : Fin cfg0.N) (i : Fin 512) (j : Fin 1024) :
    prod_b (iblk m c 2 t) (iblk m c 3 t) i j = rows_b (arg2 m c) (arg3 m c) (ix2 (row t i) j) :=
  Finset.sum_congr rfl fun k _ => congrArg₂ (fun a b : EReal => a * b) (tile_2 m c t i k) (tile_3 m c t j k)

/-- The array both. -/
def both : S8192x1024.Idx → EReal := fun y => merged (rows_b (arg0 m c) (arg1 m c) y) (rows_b (arg2 m c) (arg3 m c) y) (arg4 m c (ix2 (y 0) ⟨0 + (y 1).val, right_4 (y 1)⟩)) (arg4 m c (ix2 (y 0) ⟨1024 + (y 1).val, right_5 (y 1)⟩))

theorem flushed_both (t : Fin cfg0.N) (_ : (cfg0.win 6).flush t = true) :
    (dats m 0 c).flushed 6 t = ((cfg0.win 6).blk t).view.read (Elt Ideal) (both m c) := by
  show (cfg0.win 6).cut (grid0.coords t) ((dats m 0 c).after 6 t) = _
  rw [after0_6]
  funext y
  refine (both_tile (iblk m c 0 t) (iblk m c 1 t) (iblk m c 2 t) (iblk m c 3 t) (iblk m c 4 t) (iblk m c 5 t) y).trans ?_
  show _ = both m c (((cfg0.win 6).blk t).view.emb y)
  refine Eq.trans (congr4 merged (at_b_0_1 m c t (y 0) (y 1)) (at_b_2_3 m c t (y 0) (y 1)) (tile_4 m c t (y 0) (y 1)) (tile_5 m c t (y 0) (y 1))) (congrArg (both m c) (funext fun a => Fin.ext ?_))
  match a with
  | ⟨0, _⟩ =>
    show 512 * t.val + (y 0).val = win0_6.index t 0 * 512 + 1 * (y 0).val
    rw [index_6]; omega
  | ⟨1, _⟩ => exact (Rows.at0 _).symm

theorem box_6 : ∀ t : Fin cfg0.N, win0_6.index t 0 * win0_6.size 0 = 512 * t.val ∧ win0_6.xsize (grid0.coords t) 0 = 512
    ∧ win0_6.index t 1 * win0_6.size 1 = 0 ∧ win0_6.xsize (grid0.coords t) 1 = 1024 := by decide +kernel

theorem cover_both (i : S8192x1024.Idx) : ∃ t, (cfg0.win 6).flush t = true ∧ i ∈ ((cfg0.win 6).blk t).view.set := by
  have h0 : (i 0 : ℕ) < 8192 := (i 0).isLt
  have h1 : (i 1 : ℕ) < 1024 := (i 1).isLt
  refine ⟨⟨(i 0 : ℕ) / 512, lt_of_lt_of_eq (by omega) (show 16 = cfg0.N from N_0.symm)⟩, flush0_6 _, ?_⟩
  generalize ht : (⟨(i 0 : ℕ) / 512, _⟩ : Fin cfg0.N) = t
  have hv : (i 0 : ℕ) / 512 = t.val := congrArg Fin.val ht
  show i ∈ ((View.whole main_v0).slice (win0_6.rect t)).set
  rw [View.set_slice_whole, Rect.mem_set_unit]
  obtain ⟨b0, b1, b2, b3⟩ := box_6 t
  intro a
  match a with
  | ⟨0, _⟩ =>
    show win0_6.index t 0 * win0_6.size 0 ≤ (i 0 : ℕ) ∧ (i 0 : ℕ) < win0_6.index t 0 * win0_6.size 0 + win0_6.xsize (grid0.coords t) 0
    rw [b0, b1]; omega
  | ⟨1, _⟩ =>
    show win0_6.index t 1 * win0_6.size 1 ≤ (i 1 : ℕ) ∧ (i 1 : ℕ) < win0_6.index t 1 * win0_6.size 1 + win0_6.xsize (grid0.coords t) 1
    rw [b2, b3]; omega

theorem final_both : (dats m 0 c).arrAt 6 cfg0.N = both m c :=
  Dat.arrAt_eq_of_cover (dats m 0 c) 6 (both m c) (fun t ht => flushed_both m c t ht) cover_both

/-- The kernel's run leaves the results at these arrays. -/
theorem output : θ_run defs (onTc (τ := τ) (main (F := Ideal))) ⟨m, fun _ => 0, ρ⟩ fun r => ∀ c : Dev nD,
      r.2.mem ((c.tc : Thread nD τ).loc main_v0) = both m c :=
  (θ_run defs _ _).mono (fun _ h c => ((h c).1 6).trans (final_both m c)) (run_main m ρ)

/-- The kernel's run, read: the results, the arguments unchanged. -/
theorem value : θ_run defs (onTc (τ := τ) (main (F := Ideal))) ⟨m, fun _ => 0, ρ⟩ fun r => ∀ c : Dev nD,
      r.2.mem ((c.tc : Thread nD τ).loc main_v0) = both m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨h.1 c, h.2.1 c⟩)
    (θ_run_and (output m ρ) (frame m ρ))

end Cert.MergeIdeal.Value

end
-- ==== Proof.MergeEqual.lean ====
module

public import proofs.«01_k».proof.Defs
public import proofs.«01_k».proof.Proof.MergeValue
public import Idealize.ShloMosaic.Lib.Quiescent
public import proofs.«01_k».proof.Proof.Gen.MergeReferenceIdeal.Read

@[expose] public section

set_option maxRecDepth 16384

noncomputable section

/-! The kernel and the reference of the gated merge compute the same array. -/

namespace Cert.MergeReferenceIdeal.Value

open Idealize.ShloMosaic Idealize.ShloMosaic.TcCoe Idealize.SL.Sem
open Cert.MergeReferenceIdeal Cert.MergeReferenceIdeal.Gen Cert.MergeReferenceIdeal.Read Cert.Scalars

variable (x0 : (⟨S8192x512, .bf16⟩ : BufTy).Contents (Elt Ideal)) (x1 : (⟨S1024x512, .bf16⟩ : BufTy).Contents (Elt Ideal)) (x2 : (⟨S8192x512, .bf16⟩ : BufTy).Contents (Elt Ideal)) (x3 : (⟨S1024x512, .bf16⟩ : BufTy).Contents (Elt Ideal)) (x4 : (⟨S8192x2048, .bf16⟩ : BufTy).Contents (Elt Ideal))

/-- The product at an index. -/
theorem product_a (y : S8192x1024.Idx) : val_main_v14 (F := Ideal) x0 x1 y = Cert.MergeIdeal.Value.rows_b x0 x1 y := by
  refine (val_main_v14_apply x0 x1 y).trans (Finset.sum_congr rfl fun k _ => ?_)
  rw [val_main_v13_apply]
  have el : lidx_main_v14 y k = ix2 (y 0) k := by
    funext a
    match a with
    | ⟨0, _⟩ => rfl
    | ⟨1, _⟩ => rfl
  have er : idx_main_v13 (ridx_main_v14 y k) = ix2 (y 1) k := by
    funext a
    match a with
    | ⟨0, _⟩ => rfl
    | ⟨1, _⟩ => rfl
  rw [el, er]
  rfl

/-- The product at an index. -/
theorem product_m (y : S8192x1024.Idx) : val_main_v23 (F := Ideal) x2 x3 y = Cert.MergeIdeal.Value.rows_b x2 x3 y := by
  refine (val_main_v23_apply x2 x3 y).trans (Finset.sum_congr rfl fun k _ => ?_)
  rw [val_main_v22_apply]
  have el : lidx_main_v23 y k = ix2 (y 0) k := by
    funext a
    match a with
    | ⟨0, _⟩ => rfl
    | ⟨1, _⟩ => rfl
  have er : idx_main_v22 (ridx_main_v23 y k) = ix2 (y 1) k := by
    funext a
    match a with
    | ⟨0, _⟩ => rfl
    | ⟨1, _⟩ => rfl
  rw [el, er]
  rfl

theorem gate_a_place (k : Fin 1024) : 0 + k.val < 2048 := by omega

/-- A gate's logistic factor at an index. -/
theorem gate_a (y : S8192x1024.Idx) : val_main_v12 (F := Ideal) x4 y = logi (x4 (ix2 (y 0) ⟨0 + (y 1).val, gate_a_place (y 1)⟩)) := by
  rw [val_main_v12_apply, val_main_v11_apply, val_main_cst_0_apply, val_main_v10_apply, val_main_v9_apply, val_main_cst_apply, val_main_v8_apply,
    val_main_v7_apply, val_main_v5_apply, logistic]
  have e : idx_main_v5 y = ix2 (y 0) ⟨0 + (y 1).val, gate_a_place (y 1)⟩ := by
    funext a
    match a with
    | ⟨0, _⟩ => rfl
    | ⟨1, _⟩ => exact Fin.ext (by show (y 1).val = 0 + (y 1).val; omega)
  rw [e]
  rfl

theorem gate_m_place (k : Fin 1024) : 1024 + k.val < 2048 := by omega

/-- A gate's logistic factor at an index. -/
theorem gate_m (y : S8192x1024.Idx) : val_main_v21 (F := Ideal) x4 y = logi (x4 (ix2 (y 0) ⟨1024 + (y 1).val, gate_m_place (y 1)⟩)) := by
  rw [val_main_v21_apply, val_main_v20_apply, val_main_cst_2_apply, val_main_v19_apply, val_main_v18_apply, val_main_cst_1_apply, val_main_v17_apply,
    val_main_v16_apply, val_main_v6_apply, logistic]
  have e : idx_main_v6 y = ix2 (y 0) ⟨1024 + (y 1).val, gate_m_place (y 1)⟩ := by
    funext a
    match a with
    | ⟨0, _⟩ => rfl
    | ⟨1, _⟩ => rfl
  rw [e]
  rfl

/-- The merge at an index. -/
theorem merge (y : S8192x1024.Idx) : val_main_v26 (F := Ideal) x0 x1 x2 x3 x4 y
    = merged (Cert.MergeIdeal.Value.rows_b x0 x1 y) (Cert.MergeIdeal.Value.rows_b x2 x3 y) (x4 (ix2 (y 0) ⟨0 + (y 1).val, gate_a_place (y 1)⟩))
        (x4 (ix2 (y 0) ⟨1024 + (y 1).val, gate_m_place (y 1)⟩)) := by
  rw [val_main_v26_apply, val_main_v25_apply, val_main_v15_apply, val_main_v24_apply, gate_a, gate_m, product_a, product_m]
  rfl

end Cert.MergeReferenceIdeal.Value

namespace Cert.MergeEqual

open Idealize.ShloMosaic Idealize.ShloMosaic.TcCoe Idealize.SL.Sem

/-- From any arguments the kernel and the reference end with the same arrays. -/
theorem equal : Cert.algebraic_MergeIdeal_MergeReferenceIdeal := by
  intro m g m' g' _ ha
  refine ⟨Cert.MergeIdeal.Value.both m, Cert.MergeIdeal.Value.value m g, ?_⟩
  refine (θ_run Cert.MergeReferenceIdeal.defs _ _).mono (fun r h c => ?_) (Cert.MergeReferenceIdeal.Value.run (F := Ideal) m' g')
  obtain ⟨hv, hargs⟩ := h c
  obtain ⟨a0, a1, a2, a3, a4⟩ := ha c
  refine ⟨hv.trans ?_, hargs⟩
  · rw [a0, a1, a2, a3, a4]
    exact (Cert.MergeReferenceIdeal.Read.val_main_v26_eq (F := Ideal) _ _ _ _ _).trans (funext fun y => Cert.MergeReferenceIdeal.Value.merge _ _ _ _ _ y)

/-- The reference ends with its arguments unchanged and every counter at zero. -/
theorem frame_reference : Cert.quiescent_MergeReferenceIdeal := by
  intro m ρ _
  exact (θ_run Cert.MergeReferenceIdeal.defs _ _).mono (fun r h => ⟨fun c => (h c).2,
      Idealize.ShloMosaic.sem_eq_zero_of_no_sems (by decide) r.2⟩)
    (Cert.MergeReferenceIdeal.Value.run (F := Ideal) m ρ)

end Cert.MergeEqual

end
-- ==== Proof.ProjTile.lean ====
module

public import proofs.«01_k».proof.Proof.Gen.ProjIdeal.Frame
public import proofs.«01_k».proof.Proof.Scalars
public import Idealize.ShloMosaic.Lib.Pointwise
public import Idealize.ShloMosaic.Lib.Claim
public import Idealize.ShloMosaic.Lib.Pipeline.Value

@[expose] public section

set_option maxRecDepth 16384

noncomputable section

/-! The mixer's norm and its five input products: one tile of 512 rows, chunk by chunk of columns. -/

namespace Cert.ProjIdeal.Value

open Idealize.ShloMosaic Idealize.ShloMosaic.TcCoe Idealize.ShloMosaic.Tactic Idealize.SL.Sem
open Cert.ProjIdeal Cert.ProjIdeal.Gen Cert.Scalars

/-- A row of the tile against a row or column of the weight. -/
def prod_a (x : S512x1024.Idx → EReal) (w : S768x1024.Idx → EReal) (i : Fin 512) (j : Fin 768) : EReal :=
  ∑ k : Fin 1024, x (ix2 i k) * w (ix2 j k)

/-- The chunk's product from the values it reads. -/
theorem apply_a (x : Vec Ideal S512x1024 .bf16) (w : Vec Ideal S256x1024 .bf16) (i : Fin 512) (j : Fin 256) :
    (matmul (F := Ideal) (φ₁ := .bf16) (φ₂ := .bf16) dot_S512x1024_S256x1024_S512x256_1_1_0_0_n_n none x w (constant (F := Ideal) S512x256 .f32 0x00000000#32) : FVec Ideal S512x256 .f32) (ix2 i j)
      = ∑ k : Fin 1024, x (ix2 i k) * w (ix2 j k) := by
  pointwise []

/-- A chunk's product is the tile's product at the chunk's place. -/
theorem chunk_a (x : Vec Ideal S512x1024 .bf16) (w : Vec Ideal S768x1024 .bf16) (o : ℕ)
    (inb : ∀ a, (![o, 0] : Fin 2 → ℕ) a + S256x1024.size a ≤ S768x1024.size a) (i : Fin 512) (j : Fin 256) (h : o + j.val < 768) :
    (matmul (F := Ideal) (φ₁ := .bf16) (φ₂ := .bf16) dot_S512x1024_S256x1024_S512x256_1_1_0_0_n_n none x (View.ld w (Rect.unit (s := S768x1024) ![o, 0] S256x1024.size inb))
      (constant (F := Ideal) S512x256 .f32 0x00000000#32) : FVec Ideal S512x256 .f32) (ix2 i j) = prod_a x w i ⟨o + j.val, h⟩ := by
  rw [apply_a]
  refine Finset.sum_congr rfl fun k _ => congrArg (fun b : EReal => x (ix2 i k) * b) ?_
  refine congrArg w (funext fun a => Fin.ext ?_)
  match a with
  | ⟨0, _⟩ => show o + 1 * j.val = o + j.val; omega
  | ⟨1, _⟩ => show 0 + 1 * k.val = k.val; omega

/-- A row of the tile against a row or column of the weight. -/
def prod_b (x : S512x1024.Idx → EReal) (w : S1024x1024.Idx → EReal) (i : Fin 512) (j : Fin 1024) : EReal :=
  ∑ k : Fin 1024, x (ix2 i k) * w (ix2 j k)

/-- The chunk's product from the values it reads. -/
theorem apply_b (x : Vec Ideal S512x1024 .bf16) (w : Vec Ideal S512x1024 .bf16) (i : Fin 512) (j : Fin 512) :
    (matmul (F := Ideal) (φ₁ := .bf16) (φ₂ := .bf16) dot_S512x1024_S512x1024_S512x512_1_1_0_0_n_n none x w (constant (F := Ideal) S512x512 .f32 0x00000000#32) : FVec Ideal S512x512 .f32) (ix2 i j)
      = ∑ k : Fin 1024, x (ix2 i k) * w (ix2 j k) := by
  pointwise []

/-- A chunk's product is the tile's product at the chunk's place. -/
theorem chunk_b (x : Vec Ideal S512x1024 .bf16) (w : Vec Ideal S1024x1024 .bf16) (o : ℕ)
    (inb : ∀ a, (![o, 0] : Fin 2 → ℕ) a + S512x1024.size a ≤ S1024x1024.size a) (i : Fin 512) (j : Fin 512) (h : o + j.val < 1024) :
    (matmul (F := Ideal) (φ₁ := .bf16) (φ₂ := .bf16) dot_S512x1024_S512x1024_S512x512_1_1_0_0_n_n none x (View.ld w (Rect.unit (s := S1024x1024) ![o, 0] S512x1024.size inb))
      (constant (F := Ideal) S512x512 .f32 0x00000000#32) : FVec Ideal S512x512 .f32) (ix2 i j) = prod_b x w i ⟨o + j.val, h⟩ := by
  rw [apply_b]
  refine Finset.sum_congr rfl fun k _ => congrArg (fun b : EReal => x (ix2 i k) * b) ?_
  refine congrArg w (funext fun a => Fin.ext ?_)
  match a with
  | ⟨0, _⟩ => show o + 1 * j.val = o + j.val; omega
  | ⟨1, _⟩ => show 0 + 1 * k.val = k.val; omega

/-- A row of the tile against a row or column of the weight. -/
def prod_c (x : S512x1024.Idx → EReal) (w : S128x1024.Idx → EReal) (i : Fin 512) (j : Fin 128) : EReal :=
  ∑ k : Fin 1024, x (ix2 i k) * w (ix2 j k)

/-- The chunk's product from the values it reads. -/
theorem apply_c (x : Vec Ideal S512x1024 .bf16) (w : Vec Ideal S128x1024 .bf16) (i : Fin 512) (j : Fin 128) :
    (matmul (F := Ideal) (φ₁ := .bf16) (φ₂ := .bf16) dot_S512x1024_S128x1024_S512x128_1_1_0_0_n_n none x w (constant (F := Ideal) S512x128 .f32 0x00000000#32) : FVec Ideal S512x128 .f32) (ix2 i j)
      = ∑ k : Fin 1024, x (ix2 i k) * w (ix2 j k) := by
  pointwise []

/-- A chunk's product is the tile's product at the chunk's place. -/
theorem chunk_c (x : Vec Ideal S512x1024 .bf16) (w : Vec Ideal S128x1024 .bf16) (o : ℕ)
    (inb : ∀ a, (![o, 0] : Fin 2 → ℕ) a + S128x1024.size a ≤ S128x1024.size a) (i : Fin 512) (j : Fin 128) (h : o + j.val < 128) :
    (matmul (F := Ideal) (φ₁ := .bf16) (φ₂ := .bf16) dot_S512x1024_S128x1024_S512x128_1_1_0_0_n_n none x (View.ld w (Rect.unit (s := S128x1024) ![o, 0] S128x1024.size inb))
      (constant (F := Ideal) S512x128 .f32 0x00000000#32) : FVec Ideal S512x128 .f32) (ix2 i j) = prod_c x w i ⟨o + j.val, h⟩ := by
  rw [apply_c]
  refine Finset.sum_congr rfl fun k _ => congrArg (fun b : EReal => x (ix2 i k) * b) ?_
  refine congrArg w (funext fun a => Fin.ext ?_)
  match a with
  | ⟨0, _⟩ => show o + 1 * j.val = o + j.val; omega
  | ⟨1, _⟩ => show 0 + 1 * k.val = k.val; omega

/-- A row of the tile against a row or column of the weight. -/
def prod_d (x : S512x1024.Idx → EReal) (w : S2048x1024.Idx → EReal) (i : Fin 512) (j : Fin 2048) : EReal :=
  ∑ k : Fin 1024, x (ix2 i k) * w (ix2 j k)

/-- The chunk's product from the values it reads. -/
theorem apply_d (x : Vec Ideal S512x1024 .bf16) (w : Vec Ideal S512x1024 .bf16) (i : Fin 512) (j : Fin 512) :
    (matmul (F := Ideal) (φ₁ := .bf16) (φ₂ := .bf16) dot_S512x1024_S512x1024_S512x512_1_1_0_0_n_n none x w (constant (F := Ideal) S512x512 .f32 0x00000000#32) : FVec Ideal S512x512 .f32) (ix2 i j)
      = ∑ k : Fin 1024, x (ix2 i k) * w (ix2 j k) := by
  pointwise []

/-- A chunk's product is the tile's product at the chunk's place. -/
theorem chunk_d (x : Vec Ideal S512x1024 .bf16) (w : Vec Ideal S2048x1024 .bf16) (o : ℕ)
    (inb : ∀ a, (![o, 0] : Fin 2 → ℕ) a + S512x1024.size a ≤ S2048x1024.size a) (i : Fin 512) (j : Fin 512) (h : o + j.val < 2048) :
    (matmul (F := Ideal) (φ₁ := .bf16) (φ₂ := .bf16) dot_S512x1024_S512x1024_S512x512_1_1_0_0_n_n none x (View.ld w (Rect.unit (s := S2048x1024) ![o, 0] S512x1024.size inb))
      (constant (F := Ideal) S512x512 .f32 0x00000000#32) : FVec Ideal S512x512 .f32) (ix2 i j) = prod_d x w i ⟨o + j.val, h⟩ := by
  rw [apply_d]
  refine Finset.sum_congr rfl fun k _ => congrArg (fun b : EReal => x (ix2 i k) * b) ?_
  refine congrArg w (funext fun a => Fin.ext ?_)
  match a with
  | ⟨0, _⟩ => show o + 1 * j.val = o + j.val; omega
  | ⟨1, _⟩ => show 0 + 1 * k.val = k.val; omega

/-- The chunk's place in the tile. -/
theorem place_128_128 (o : ℕ) (inb : ∀ a, (![0, o] : Fin 2 → ℕ) a + S512x128.size a ≤ S512x128.size a) (i : Fin 512) (j : Fin 128)
    (h : o + j.val < 128) : (Rect.unit (s := S512x128) ![0, o] S512x128.size inb).emb (ix2 i j) = ix2 i ⟨o + j.val, h⟩ := by
  refine funext fun a => Fin.ext ?_
  match a with
  | ⟨0, _⟩ => show 0 + 1 * i.val = i.val; omega
  | ⟨1, _⟩ => show o + 1 * j.val = o + j.val; omega

theorem bound_128_128 (o : ℕ) (inb : ∀ a, (![0, o] : Fin 2 → ℕ) a + S512x128.size a ≤ S512x128.size a) (j : Fin 128) : o + j.val < 128 := by
  have h : o + 128 ≤ 128 := inb 1
  omega

/-- The chunk's place in the tile. -/
theorem place_768_256 (o : ℕ) (inb : ∀ a, (![0, o] : Fin 2 → ℕ) a + S512x256.size a ≤ S512x768.size a) (i : Fin 512) (j : Fin 256)
    (h : o + j.val < 768) : (Rect.unit (s := S512x768) ![0, o] S512x256.size inb).emb (ix2 i j) = ix2 i ⟨o + j.val, h⟩ := by
  refine funext fun a => Fin.ext ?_
  match a with
  | ⟨0, _⟩ => show 0 + 1 * i.val = i.val; omega
  | ⟨1, _⟩ => show o + 1 * j.val = o + j.val; omega

theorem bound_768_256 (o : ℕ) (inb : ∀ a, (![0, o] : Fin 2 → ℕ) a + S512x256.size a ≤ S512x768.size a) (j : Fin 256) : o + j.val < 768 := by
  have h : o + 256 ≤ 768 := inb 1
  omega

/-- The chunk's place in the tile. -/
theorem place_1024_512 (o : ℕ) (inb : ∀ a, (![0, o] : Fin 2 → ℕ) a + S512x512.size a ≤ S512x1024.size a) (i : Fin 512) (j : Fin 512)
    (h : o + j.val < 1024) : (Rect.unit (s := S512x1024) ![0, o] S512x512.size inb).emb (ix2 i j) = ix2 i ⟨o + j.val, h⟩ := by
  refine funext fun a => Fin.ext ?_
  match a with
  | ⟨0, _⟩ => show 0 + 1 * i.val = i.val; omega
  | ⟨1, _⟩ => show o + 1 * j.val = o + j.val; omega

theorem bound_1024_512 (o : ℕ) (inb : ∀ a, (![0, o] : Fin 2 → ℕ) a + S512x512.size a ≤ S512x1024.size a) (j : Fin 512) : o + j.val < 1024 := by
  have h : o + 512 ≤ 1024 := inb 1
  omega

/-- The chunk's place in the tile. -/
theorem place_1024_1024 (o : ℕ) (inb : ∀ a, (![0, o] : Fin 2 → ℕ) a + S512x1024.size a ≤ S512x1024.size a) (i : Fin 512) (j : Fin 1024)
    (h : o + j.val < 1024) : (Rect.unit (s := S512x1024) ![0, o] S512x1024.size inb).emb (ix2 i j) = ix2 i ⟨o + j.val, h⟩ := by
  refine funext fun a => Fin.ext ?_
  match a with
  | ⟨0, _⟩ => show 0 + 1 * i.val = i.val; omega
  | ⟨1, _⟩ => show o + 1 * j.val = o + j.val; omega

theorem bound_1024_1024 (o : ℕ) (inb : ∀ a, (![0, o] : Fin 2 → ℕ) a + S512x1024.size a ≤ S512x1024.size a) (j : Fin 1024) : o + j.val < 1024 := by
  have h : o + 1024 ≤ 1024 := inb 1
  omega

/-- The chunk's place in the tile. -/
theorem place_2048_512 (o : ℕ) (inb : ∀ a, (![0, o] : Fin 2 → ℕ) a + S512x512.size a ≤ S512x2048.size a) (i : Fin 512) (j : Fin 512)
    (h : o + j.val < 2048) : (Rect.unit (s := S512x2048) ![0, o] S512x512.size inb).emb (ix2 i j) = ix2 i ⟨o + j.val, h⟩ := by
  refine funext fun a => Fin.ext ?_
  match a with
  | ⟨0, _⟩ => show 0 + 1 * i.val = i.val; omega
  | ⟨1, _⟩ => show o + 1 * j.val = o + j.val; omega

theorem bound_2048_512 (o : ℕ) (inb : ∀ a, (![0, o] : Fin 2 → ℕ) a + S512x512.size a ≤ S512x2048.size a) (j : Fin 512) : o + j.val < 2048 := by
  have h : o + 512 ≤ 2048 := inb 1
  omega

theorem split_128 (y : S512x128.Idx) : ∃ (i : Fin 512) (j : Fin 128), y = ix2 i j :=
  ⟨y 0, y 1, by funext a; match a with | ⟨0, _⟩ => rfl | ⟨1, _⟩ => rfl⟩

theorem split_256 (y : S512x256.Idx) : ∃ (i : Fin 512) (j : Fin 256), y = ix2 i j :=
  ⟨y 0, y 1, by funext a; match a with | ⟨0, _⟩ => rfl | ⟨1, _⟩ => rfl⟩

theorem split_512 (y : S512x512.Idx) : ∃ (i : Fin 512) (j : Fin 512), y = ix2 i j :=
  ⟨y 0, y 1, by funext a; match a with | ⟨0, _⟩ => rfl | ⟨1, _⟩ => rfl⟩

theorem split_1024 (y : S512x1024.Idx) : ∃ (i : Fin 512) (j : Fin 1024), y = ix2 i j :=
  ⟨y 0, y 1, by funext a; match a with | ⟨0, _⟩ => rfl | ⟨1, _⟩ => rfl⟩

theorem corner : (![0, 0] : Fin 2 → ℕ) = fun _ => 0 := by funext d; revert d; decide

/-- The factor of a row: the reciprocal square root of its mean square and the norm's constant. -/
def scale (q : EReal) : EReal :=
  Ideal.rsqrt (Ideal.div q (Ideal.ofBits .f32 0x44800000#32) + Ideal.ofBits .f32 0x358637BD#32)

/-- An entry of a normed and modulated row. -/
def normed (x q g sc sh : EReal) : EReal := x * scale q * g * (1 + sc) + sh

theorem norm_apply (x : Vec Ideal S512x1024 .f32) (g sc sh : Vec Ideal S1x1024 .f32) (i : Fin 512) (k : Fin 1024) :
    k0_pay4 (F := Ideal) x g sc sh (ix2 i k) = normed (x (ix2 i k)) (∑ r : Fin 1024, (show EReal from x (ix2 i r)) * (show EReal from x (ix2 i r)))
      (g (ix2 0 k)) (sc (ix2 0 k)) (sh (ix2 0 k)) := by
  pointwise [k0_pay4]
  rfl

/-- The tile of the normed state. -/
def stateAt (x0 : S512x1024.Idx → EReal) (x1 x2 x3 : S1x1024.Idx → EReal) (y : S512x1024.Idx) : EReal :=
  normed (x0 (ix2 (y 0) (y 1))) (∑ r : Fin 1024, x0 (ix2 (y 0) r) * x0 (ix2 (y 0) r)) (x1 (ix2 0 (y 1))) (x2 (ix2 0 (y 1))) (x3 (ix2 0 (y 1)))

theorem state_load (x0 : Vec Ideal S512x1024 .f32) (x1 x2 x3 : Vec Ideal S1x1024 .f32) :
    k0_pay4 (F := Ideal) (View.ld x0 r0_0) (View.ld x1 r0_1) (View.ld x2 r0_1) (View.ld x3 r0_1) = stateAt x0 x1 x2 x3 := by
  funext y
  obtain ⟨i, j, rfl⟩ : ∃ (i : Fin 512) (j : Fin 1024), y = ix2 i j := ⟨y 0, y 1, by funext a; match a with | ⟨0, _⟩ => rfl | ⟨1, _⟩ => rfl⟩
  rw [View.ld_unit_zero (S := S512x1024) corner, View.ld_unit_zero (S := S1x1024) corner, View.ld_unit_zero (S := S1x1024) corner,
    View.ld_unit_zero (S := S1x1024) corner]
  exact norm_apply x0 x1 x2 x3 i j

variable (x0 : Vec Ideal S512x1024 .f32) (x1 : Vec Ideal S1x1024 .f32) (x2 : Vec Ideal S1x1024 .f32) (x3 : Vec Ideal S1x1024 .f32) (x4 : Vec Ideal S768x1024 .bf16) (x5 : Vec Ideal S1024x1024 .bf16) (x6 : Vec Ideal S1024x1024 .bf16) (x7 : Vec Ideal S128x1024 .bf16) (x8 : Vec Ideal S2048x1024 .bf16)

/-- The tile of pa. -/
def paAt (y : S512x768.Idx) : EReal := plain (prod_a (stateAt x0 x1 x2 x3) x4 (y 0) (y 1))

theorem pa_piece (o : ℕ) (inw_S768x1024 : ∀ a, (![o, 0] : Fin 2 → ℕ) a + S256x1024.size a ≤ S768x1024.size a) (inb : ∀ a, (![0, o] : Fin 2 → ℕ) a + S512x256.size a ≤ S512x768.size a) (z : S512x256.Idx) :
    plain ((matmul (F := Ideal) (φ₁ := .bf16) (φ₂ := .bf16) dot_S512x1024_S256x1024_S512x256_1_1_0_0_n_n none (k0_pay4 (F := Ideal) (View.ld x0 r0_0) (View.ld x1 r0_1) (View.ld x2 r0_1) (View.ld x3 r0_1)) (View.ld x4 (Rect.unit (s := S768x1024) ![o, 0] S256x1024.size inw_S768x1024)) (constant (F := Ideal) S512x256 .f32 0x00000000#32) : FVec Ideal S512x256 .f32) z)
      = paAt x0 x1 x2 x3 x4 ((Rect.unit (s := S512x768) ![0, o] S512x256.size inb).emb z) := by
  obtain ⟨i, j, rfl⟩ := split_256 z
  have h := bound_768_256 o inb j
  refine Eq.trans ?_ (congrArg (paAt x0 x1 x2 x3 x4) (place_768_256 o inb i j h).symm)
  exact congr1 plain ((chunk_a (k0_pay4 (F := Ideal) (View.ld x0 r0_0) (View.ld x1 r0_1) (View.ld x2 r0_1) (View.ld x3 r0_1)) x4 o inw_S768x1024 i j h).trans (congrArg (fun q => prod_a q x4 i ⟨o + j.val, h⟩) (state_load x0 x1 x2 x3)))

/-- What a tile's body leaves in the window of pa. -/
theorem pa_tile (y : S512x768.Idx) : out0_10 (F := Ideal) x0 x1 x2 x3 x4 x5 x6 x7 x8 y = paAt x0 x1 x2 x3 x4 y := by
  unfold out0_10
  refine View.canon_apply_of_pieces (Val := Elt Ideal) (paAt x0 x1 x2 x3 x4) _ ?_ y (cover0_10 _ _ _ y)
  refine List.forall_mem_cons.2 ⟨pa_piece x0 x1 x2 x3 x4 512 inb_S768x1024_S256x1024_512_0 inb_S512x768_S512x256_0_512, ?_⟩
  refine List.forall_mem_cons.2 ⟨pa_piece x0 x1 x2 x3 x4 256 inb_S768x1024_S256x1024_256_0 inb_S512x768_S512x256_0_256, ?_⟩
  refine List.forall_mem_cons.2 ⟨pa_piece x0 x1 x2 x3 x4 0 inb_S768x1024_S256x1024_0_0 inb_S512x768_S512x256_0_0, ?_⟩
  exact fun _ h => absurd h List.not_mem_nil

/-- The tile of pqk. -/
def pqkAt (y : S512x1024.Idx) : EReal := plain (prod_b (stateAt x0 x1 x2 x3) x5 (y 0) (y 1))

theorem pqk_piece (o : ℕ) (inw_S1024x1024 : ∀ a, (![o, 0] : Fin 2 → ℕ) a + S512x1024.size a ≤ S1024x1024.size a) (inb : ∀ a, (![0, o] : Fin 2 → ℕ) a + S512x512.size a ≤ S512x1024.size a) (z : S512x512.Idx) :
    plain ((matmul (F := Ideal) (φ₁ := .bf16) (φ₂ := .bf16) dot_S512x1024_S512x1024_S512x512_1_1_0_0_n_n none (k0_pay4 (F := Ideal) (View.ld x0 r0_0) (View.ld x1 r0_1) (View.ld x2 r0_1) (View.ld x3 r0_1)) (View.ld x5 (Rect.unit (s := S1024x1024) ![o, 0] S512x1024.size inw_S1024x1024)) (constant (F := Ideal) S512x512 .f32 0x00000000#32) : FVec Ideal S512x512 .f32) z)
      = pqkAt x0 x1 x2 x3 x5 ((Rect.unit (s := S512x1024) ![0, o] S512x512.size inb).emb z) := by
  obtain ⟨i, j, rfl⟩ := split_512 z
  have h := bound_1024_512 o inb j
  refine Eq.trans ?_ (congrArg (pqkAt x0 x1 x2 x3 x5) (place_1024_512 o inb i j h).symm)
  exact congr1 plain ((chunk_b (k0_pay4 (F := Ideal) (View.ld x0 r0_0) (View.ld x1 r0_1) (View.ld x2 r0_1) (View.ld x3 r0_1)) x5 o inw_S1024x1024 i j h).trans (congrArg (fun q => prod_b q x5 i ⟨o + j.val, h⟩) (state_load x0 x1 x2 x3)))

/-- What a tile's body leaves in the window of pqk. -/
theorem pqk_tile (y : S512x1024.Idx) : out0_11 (F := Ideal) x0 x1 x2 x3 x4 x5 x6 x7 x8 y = pqkAt x0 x1 x2 x3 x5 y := by
  unfold out0_11
  refine View.canon_apply_of_pieces (Val := Elt Ideal) (pqkAt x0 x1 x2 x3 x5) _ ?_ y (cover0_11 _ _ y)
  refine List.forall_mem_cons.2 ⟨pqk_piece x0 x1 x2 x3 x5 512 inb_S1024x1024_S512x1024_512_0 inb_S512x1024_S512x512_0_512, ?_⟩
  refine List.forall_mem_cons.2 ⟨pqk_piece x0 x1 x2 x3 x5 0 inb_S1024x1024_S512x1024_0_0 inb_S512x1024_S512x512_0_0, ?_⟩
  exact fun _ h => absurd h List.not_mem_nil

/-- The tile of pvo. -/
def pvoAt (y : S512x1024.Idx) : EReal := plain (prod_b (stateAt x0 x1 x2 x3) x6 (y 0) (y 1))

theorem pvo_piece (o : ℕ) (inw_S1024x1024 : ∀ a, (![o, 0] : Fin 2 → ℕ) a + S512x1024.size a ≤ S1024x1024.size a) (inb : ∀ a, (![0, o] : Fin 2 → ℕ) a + S512x512.size a ≤ S512x1024.size a) (z : S512x512.Idx) :
    plain ((matmul (F := Ideal) (φ₁ := .bf16) (φ₂ := .bf16) dot_S512x1024_S512x1024_S512x512_1_1_0_0_n_n none (k0_pay4 (F := Ideal) (View.ld x0 r0_0) (View.ld x1 r0_1) (View.ld x2 r0_1) (View.ld x3 r0_1)) (View.ld x6 (Rect.unit (s := S1024x1024) ![o, 0] S512x1024.size inw_S1024x1024)) (constant (F := Ideal) S512x512 .f32 0x00000000#32) : FVec Ideal S512x512 .f32) z)
      = pvoAt x0 x1 x2 x3 x6 ((Rect.unit (s := S512x1024) ![0, o] S512x512.size inb).emb z) := by
  obtain ⟨i, j, rfl⟩ := split_512 z
  have h := bound_1024_512 o inb j
  refine Eq.trans ?_ (congrArg (pvoAt x0 x1 x2 x3 x6) (place_1024_512 o inb i j h).symm)
  exact congr1 plain ((chunk_b (k0_pay4 (F := Ideal) (View.ld x0 r0_0) (View.ld x1 r0_1) (View.ld x2 r0_1) (View.ld x3 r0_1)) x6 o inw_S1024x1024 i j h).trans (congrArg (fun q => prod_b q x6 i ⟨o + j.val, h⟩) (state_load x0 x1 x2 x3)))

/-- What a tile's body leaves in the window of pvo. -/
theorem pvo_tile (y : S512x1024.Idx) : out0_12 (F := Ideal) x0 x1 x2 x3 x4 x5 x6 x7 x8 y = pvoAt x0 x1 x2 x3 x6 y := by
  unfold out0_12
  refine View.canon_apply_of_pieces (Val := Elt Ideal) (pvoAt x0 x1 x2 x3 x6) _ ?_ y (cover0_12 _ _ y)
  refine List.forall_mem_cons.2 ⟨pvo_piece x0 x1 x2 x3 x6 512 inb_S1024x1024_S512x1024_512_0 inb_S512x1024_S512x512_0_512, ?_⟩
  refine List.forall_mem_cons.2 ⟨pvo_piece x0 x1 x2 x3 x6 0 inb_S1024x1024_S512x1024_0_0 inb_S512x1024_S512x512_0_0, ?_⟩
  exact fun _ h => absurd h List.not_mem_nil

/-- The tile of pif. -/
def pifAt (y : S512x128.Idx) : EReal := plain (prod_c (stateAt x0 x1 x2 x3) x7 (y 0) (y 1))

theorem pif_piece (o : ℕ) (inw_S128x1024 : ∀ a, (![o, 0] : Fin 2 → ℕ) a + S128x1024.size a ≤ S128x1024.size a) (inb : ∀ a, (![0, o] : Fin 2 → ℕ) a + S512x128.size a ≤ S512x128.size a) (z : S512x128.Idx) :
    plain ((matmul (F := Ideal) (φ₁ := .bf16) (φ₂ := .bf16) dot_S512x1024_S128x1024_S512x128_1_1_0_0_n_n none (k0_pay4 (F := Ideal) (View.ld x0 r0_0) (View.ld x1 r0_1) (View.ld x2 r0_1) (View.ld x3 r0_1)) (View.ld x7 (Rect.unit (s := S128x1024) ![o, 0] S128x1024.size inw_S128x1024)) (constant (F := Ideal) S512x128 .f32 0x00000000#32) : FVec Ideal S512x128 .f32) z)
      = pifAt x0 x1 x2 x3 x7 ((Rect.unit (s := S512x128) ![0, o] S512x128.size inb).emb z) := by
  obtain ⟨i, j, rfl⟩ := split_128 z
  have h := bound_128_128 o inb j
  refine Eq.trans ?_ (congrArg (pifAt x0 x1 x2 x3 x7) (place_128_128 o inb i j h).symm)
  exact congr1 plain ((chunk_c (k0_pay4 (F := Ideal) (View.ld x0 r0_0) (View.ld x1 r0_1) (View.ld x2 r0_1) (View.ld x3 r0_1)) x7 o inw_S128x1024 i j h).trans (congrArg (fun q => prod_c q x7 i ⟨o + j.val, h⟩) (state_load x0 x1 x2 x3)))

/-- What a tile's body leaves in the window of pif. -/
theorem pif_tile (y : S512x128.Idx) : out0_13 (F := Ideal) x0 x1 x2 x3 x4 x5 x6 x7 x8 y = pifAt x0 x1 x2 x3 x7 y := by
  unfold out0_13
  refine View.canon_apply_of_pieces (Val := Elt Ideal) (pifAt x0 x1 x2 x3 x7) _ ?_ y (cover0_13 _ y)
  refine List.forall_mem_cons.2 ⟨pif_piece x0 x1 x2 x3 x7 0 inb_S128x1024_S128x1024_0_0 inb_S512x128_S512x128_0_0, ?_⟩
  exact fun _ h => absurd h List.not_mem_nil

/-- The tile of pg. -/
def pgAt (y : S512x2048.Idx) : EReal := plain (prod_d (stateAt x0 x1 x2 x3) x8 (y 0) (y 1))

theorem pg_piece (o : ℕ) (inw_S2048x1024 : ∀ a, (![o, 0] : Fin 2 → ℕ) a + S512x1024.size a ≤ S2048x1024.size a) (inb : ∀ a, (![0, o] : Fin 2 → ℕ) a + S512x512.size a ≤ S512x2048.size a) (z : S512x512.Idx) :
    plain ((matmul (F := Ideal) (φ₁ := .bf16) (φ₂ := .bf16) dot_S512x1024_S512x1024_S512x512_1_1_0_0_n_n none (k0_pay4 (F := Ideal) (View.ld x0 r0_0) (View.ld x1 r0_1) (View.ld x2 r0_1) (View.ld x3 r0_1)) (View.ld x8 (Rect.unit (s := S2048x1024) ![o, 0] S512x1024.size inw_S2048x1024)) (constant (F := Ideal) S512x512 .f32 0x00000000#32) : FVec Ideal S512x512 .f32) z)
      = pgAt x0 x1 x2 x3 x8 ((Rect.unit (s := S512x2048) ![0, o] S512x512.size inb).emb z) := by
  obtain ⟨i, j, rfl⟩ := split_512 z
  have h := bound_2048_512 o inb j
  refine Eq.trans ?_ (congrArg (pgAt x0 x1 x2 x3 x8) (place_2048_512 o inb i j h).symm)
  exact congr1 plain ((chunk_d (k0_pay4 (F := Ideal) (View.ld x0 r0_0) (View.ld x1 r0_1) (View.ld x2 r0_1) (View.ld x3 r0_1)) x8 o inw_S2048x1024 i j h).trans (congrArg (fun q => prod_d q x8 i ⟨o + j.val, h⟩) (state_load x0 x1 x2 x3)))

/-- What a tile's body leaves in the window of pg. -/
theorem pg_tile (y : S512x2048.Idx) : out0_14 (F := Ideal) x0 x1 x2 x3 x4 x5 x6 x7 x8 y = pgAt x0 x1 x2 x3 x8 y := by
  unfold out0_14
  refine View.canon_apply_of_pieces (Val := Elt Ideal) (pgAt x0 x1 x2 x3 x8) _ ?_ y (cover0_14 _ _ _ _ y)
  refine List.forall_mem_cons.2 ⟨pg_piece x0 x1 x2 x3 x8 1536 inb_S2048x1024_S512x1024_1536_0 inb_S512x2048_S512x512_0_1536, ?_⟩
  refine List.forall_mem_cons.2 ⟨pg_piece x0 x1 x2 x3 x8 1024 inb_S2048x1024_S512x1024_1024_0 inb_S512x2048_S512x512_0_1024, ?_⟩
  refine List.forall_mem_cons.2 ⟨pg_piece x0 x1 x2 x3 x8 512 inb_S2048x1024_S512x1024_512_0 inb_S512x2048_S512x512_0_512, ?_⟩
  refine List.forall_mem_cons.2 ⟨pg_piece x0 x1 x2 x3 x8 0 inb_S2048x1024_S512x1024_0_0 inb_S512x2048_S512x512_0_0, ?_⟩
  exact fun _ h => absurd h List.not_mem_nil

/-- What a tile's body leaves in the window of the normed state. -/
theorem state_tile (y : S512x1024.Idx) : out0_9 (F := Ideal) x0 x1 x2 x3 x4 x5 x6 x7 x8 y = stateAt x0 x1 x2 x3 y := by
  unfold out0_9
  rw [View.canon_cons_unit_zero (Val := Elt Ideal) (S := S512x1024) corner]
  exact congrFun (state_load x0 x1 x2 x3) y

end Cert.ProjIdeal.Value

end
-- ==== Proof.ProjValue.lean ====
module

public import proofs.«01_k».proof.Proof.Rows
public import proofs.«01_k».proof.Proof.ProjTile
public import Idealize.ShloMosaic.Lib.Claim
public import Idealize.ShloMosaic.Lib.Pipeline.Value

@[expose] public section

set_option maxRecDepth 16384

noncomputable section

/-! The mixer's norm and its five input products: the arrays the run leaves. -/

namespace Cert.ProjIdeal.Value

open Idealize.ShloMosaic Idealize.ShloMosaic.TcCoe Idealize.ShloMosaic.Tactic Idealize.SL.Sem
open Idealize.ShloMosaic.Pipeline (Dat)
open Cert.ProjIdeal Cert.ProjIdeal.Gen Cert.Scalars

variable (m : (ℓ : Loc nD τ sig) → Buf (Elt Ideal) ℓ) (ρ : Dev nD → PrngReg) (c : Dev nD)

theorem index_0 : ∀ t : Fin cfg0.N, win0_0.index t 0 = t.val := by decide +kernel
theorem index_9 : ∀ t : Fin cfg0.N, win0_9.index t 0 = t.val := by decide +kernel
theorem index_10 : ∀ t : Fin cfg0.N, win0_10.index t 0 = t.val := by decide +kernel
theorem index_11 : ∀ t : Fin cfg0.N, win0_11.index t 0 = t.val := by decide +kernel
theorem index_12 : ∀ t : Fin cfg0.N, win0_12.index t 0 = t.val := by decide +kernel
theorem index_13 : ∀ t : Fin cfg0.N, win0_13.index t 0 = t.val := by decide +kernel
theorem index_14 : ∀ t : Fin cfg0.N, win0_14.index t 0 = t.val := by decide +kernel

theorem points (t : Fin cfg0.N) : t.val < 16 := lt_of_lt_of_eq t.isLt (show cfg0.N = 16 from N_0)

/-- A tile's row in the whole array. -/
def row (t : Fin cfg0.N) (r : Fin 512) : Fin 8192 := ⟨512 * t.val + r.val, by have := points t; omega⟩

/-- The tile holds rows of its array. -/
theorem tile_0 (t : Fin cfg0.N) (r : Fin 512) (k : Fin 1024) : iblk m c 0 t (ix2 r k) = m (c, main_arg0) (ix2 (row t r) k) := by
  refine congrArg (m (c, main_arg0)) (funext fun a => Fin.ext ?_)
  match a with
  | ⟨0, _⟩ =>
    show win0_0.index t 0 * 512 + 1 * r.val = 512 * t.val + r.val
    rw [index_0]; omega
  | ⟨1, _⟩ => exact Rows.at0 _

/-- The window holds the whole array. -/
theorem tile_1 (t : Fin cfg0.N) (j : Fin 1) (k : Fin 1024) : iblk m c 1 t (ix2 j k) = m (c, main_arg1) (ix2 j k) := by
  refine congrArg (m (c, main_arg1)) (funext fun a => Fin.ext ?_)
  match a with
  | ⟨0, _⟩ => exact Rows.at0 _
  | ⟨1, _⟩ => exact Rows.at0 _

/-- The window holds the whole array. -/
theorem tile_2 (t : Fin cfg0.N) (j : Fin 1) (k : Fin 1024) : iblk m c 2 t (ix2 j k) = m (c, main_arg2) (ix2 j k) := by
  refine congrArg (m (c, main_arg2)) (funext fun a => Fin.ext ?_)
  match a with
  | ⟨0, _⟩ => exact Rows.at0 _
  | ⟨1, _⟩ => exact Rows.at0 _

/-- The window holds the whole array. -/
theorem tile_3 (t : Fin cfg0.N) (j : Fin 1) (k : Fin 1024) : iblk m c 3 t (ix2 j k) = m (c, main_arg3) (ix2 j k) := by
  refine congrArg (m (c, main_arg3)) (funext fun a => Fin.ext ?_)
  match a with
  | ⟨0, _⟩ => exact Rows.at0 _
  | ⟨1, _⟩ => exact Rows.at0 _

/-- The window holds the whole array. -/
theorem tile_4 (t : Fin cfg0.N) (j : Fin 768) (k : Fin 1024) : iblk m c 4 t (ix2 j k) = m (c, main_arg4) (ix2 j k) := by
  refine congrArg (m (c, main_arg4)) (funext fun a => Fin.ext ?_)
  match a with
  | ⟨0, _⟩ => exact Rows.at0 _
  | ⟨1, _⟩ => exact Rows.at0 _

/-- The window holds the whole array. -/
theorem tile_5 (t : Fin cfg0.N) (j : Fin 1024) (k : Fin 1024) : iblk m c 5 t (ix2 j k) = m (c, main_arg5) (ix2 j k) := by
  refine congrArg (m (c, main_arg5)) (funext fun a => Fin.ext ?_)
  match a with
  | ⟨0, _⟩ => exact Rows.at0 _
  | ⟨1, _⟩ => exact Rows.at0 _

/-- The window holds the whole array. -/
theorem tile_6 (t : Fin cfg0.N) (j : Fin 1024) (k : Fin 1024) : iblk m c 6 t (ix2 j k) = m (c, main_arg6) (ix2 j k) := by
  refine congrArg (m (c, main_arg6)) (funext fun a => Fin.ext ?_)
  match a with
  | ⟨0, _⟩ => exact Rows.at0 _
  | ⟨1, _⟩ => exact Rows.at0 _

/-- The window holds the whole array. -/
theorem tile_7 (t : Fin cfg0.N) (j : Fin 128) (k : Fin 1024) : iblk m c 7 t (ix2 j k) = m (c, main_arg7) (ix2 j k) := by
  refine congrArg (m (c, main_arg7)) (funext fun a => Fin.ext ?_)
  match a with
  | ⟨0, _⟩ => exact Rows.at0 _
  | ⟨1, _⟩ => exact Rows.at0 _

/-- The window holds the whole array. -/
theorem tile_8 (t : Fin cfg0.N) (j : Fin 2048) (k : Fin 1024) : iblk m c 8 t (ix2 j k) = m (c, main_arg8) (ix2 j k) := by
  refine congrArg (m (c, main_arg8)) (funext fun a => Fin.ext ?_)
  match a with
  | ⟨0, _⟩ => exact Rows.at0 _
  | ⟨1, _⟩ => exact Rows.at0 _

/-- Argument 0 as the region finds it. -/
def arg0 : S8192x1024.Idx → EReal := m (c, main_arg0)

/-- Argument 1 as the region finds it. -/
def arg1 : S1x1024.Idx → EReal := m (c, main_arg1)

/-- Argument 2 as the region finds it. -/
def arg2 : S1x1024.Idx → EReal := m (c, main_arg2)

/-- Argument 3 as the region finds it. -/
def arg3 : S1x1024.Idx → EReal := m (c, main_arg3)

/-- Argument 4 as the region finds it. -/
def arg4 : S768x1024.Idx → EReal := m (c, main_arg4)

/-- Argument 5 as the region finds it. -/
def arg5 : S1024x1024.Idx → EReal := m (c, main_arg5)

/-- Argument 6 as the region finds it. -/
def arg6 : S1024x1024.Idx → EReal := m (c, main_arg6)

/-- Argument 7 as the region finds it. -/
def arg7 : S128x1024.Idx → EReal := m (c, main_arg7)

/-- Argument 8 as the region finds it. -/
def arg8 : S2048x1024.Idx → EReal := m (c, main_arg8)

/-- A product of an array with a weight. -/
def rows_a (x : S8192x1024.Idx → EReal) (w : S768x1024.Idx → EReal) (y : S8192x768.Idx) : EReal :=
  ∑ k : Fin 1024, x (ix2 (y 0) k) * w (ix2 (y 1) k)

/-- A product of an array with a weight. -/
def rows_b (x : S8192x1024.Idx → EReal) (w : S1024x1024.Idx → EReal) (y : S8192x1024.Idx) : EReal :=
  ∑ k : Fin 1024, x (ix2 (y 0) k) * w (ix2 (y 1) k)

/-- A product of an array with a weight. -/
def rows_c (x : S8192x1024.Idx → EReal) (w : S128x1024.Idx → EReal) (y : S8192x128.Idx) : EReal :=
  ∑ k : Fin 1024, x (ix2 (y 0) k) * w (ix2 (y 1) k)

/-- A product of an array with a weight. -/
def rows_d (x : S8192x1024.Idx → EReal) (w : S2048x1024.Idx → EReal) (y : S8192x2048.Idx) : EReal :=
  ∑ k : Fin 1024, x (ix2 (y 0) k) * w (ix2 (y 1) k)

/-- The normed state. -/
def state : S8192x1024.Idx → EReal := fun y => normed (arg0 m c (ix2 (y 0) (y 1))) (∑ r : Fin 1024, arg0 m c (ix2 (y 0) r) * arg0 m c (ix2 (y 0) r))
  (arg1 m c (ix2 0 (y 1))) (arg2 m c (ix2 0 (y 1))) (arg3 m c (ix2 0 (y 1)))

theorem congr5 (f : EReal → EReal → EReal → EReal → EReal → EReal) {a a' b b' c c' d d' e e' : EReal} (ha : a = a') (hb : b = b') (hc : c = c')
    (hd : d = d') (he : e = e') : f a b c d e = f a' b' c' d' e' := by rw [ha, hb, hc, hd, he]

/-- A tile's normed state is the normed state at the tile's place. -/
theorem state_at (t : Fin cfg0.N) (i : Fin 512) (k : Fin 1024) :
    stateAt (iblk m c 0 t) (iblk m c 1 t) (iblk m c 2 t) (iblk m c 3 t) (ix2 i k) = state m c (ix2 (row t i) k) :=
  congr5 normed (tile_0 m c t i k)
    (Finset.sum_congr rfl fun r _ => congrArg₂ (fun a b : EReal => a * b) (tile_0 m c t i r) (tile_0 m c t i r))
    (tile_1 m c t 0 k) (tile_2 m c t 0 k) (tile_3 m c t 0 k)

/-- A tile's product is the product at the tile's place. -/
theorem at_a_3_4 (t : Fin cfg0.N) (i : Fin 512) (j : Fin 768) :
    prod_a (stateAt (iblk m c 0 t) (iblk m c 1 t) (iblk m c 2 t) (iblk m c 3 t)) (iblk m c 4 t) i j = rows_a (state m c) (arg4 m c) (ix2 (row t i) j) :=
  Finset.sum_congr rfl fun k _ => congrArg₂ (fun a b : EReal => a * b) (state_at m c t i k) (tile_4 m c t j k)

/-- A tile's product is the product at the tile's place. -/
theorem at_b_3_5 (t : Fin cfg0.N) (i : Fin 512) (j : Fin 1024) :
    prod_b (stateAt (iblk m c 0 t) (iblk m c 1 t) (iblk m c 2 t) (iblk m c 3 t)) (iblk m c 5 t) i j = rows_b (state m c) (arg5 m c) (ix2 (row t i) j) :=
  Finset.sum_congr rfl fun k _ => congrArg₂ (fun a b : EReal => a * b) (state_at m c t i k) (tile_5 m c t j k)

/-- A tile's product is the product at the tile's place. -/
theorem at_b_3_6 (t : Fin cfg0.N) (i : Fin 512) (j : Fin 1024) :
    prod_b (stateAt (iblk m c 0 t) (iblk m c 1 t) (iblk m c 2 t) (iblk m c 3 t)) (iblk m c 6 t) i j = rows_b (state m c) (arg6 m c) (ix2 (row t i) j) :=
  Finset.sum_congr rfl fun k _ => congrArg₂ (fun a b : EReal => a * b) (state_at m c t i k) (tile_6 m c t j k)

/-- A tile's product is the product at the tile's place. -/
theorem at_c_3_7 (t : Fin cfg0.N) (i : Fin 512) (j : Fin 128) :
    prod_c (stateAt (iblk m c 0 t) (iblk m c 1 t) (iblk m c 2 t) (iblk m c 3 t)) (iblk m c 7 t) i j = rows_c (state m c) (arg7 m c) (ix2 (row t i) j) :=
  Finset.sum_congr rfl fun k _ => congrArg₂ (fun a b : EReal => a * b) (state_at m c t i k) (tile_7 m c t j k)

/-- A tile's product is the product at the tile's place. -/
theorem at_d_3_8 (t : Fin cfg0.N) (i : Fin 512) (j : Fin 2048) :
    prod_d (stateAt (iblk m c 0 t) (iblk m c 1 t) (iblk m c 2 t) (iblk m c 3 t)) (iblk m c 8 t) i j = rows_d (state m c) (arg8 m c) (ix2 (row t i) j) :=
  Finset.sum_congr rfl fun k _ => congrArg₂ (fun a b : EReal => a * b) (state_at m c t i k) (tile_8 m c t j k)

theorem flushed_state (t : Fin cfg0.N) (_ : (cfg0.win 9).flush t = true) :
    (dats m 0 c).flushed 9 t = ((cfg0.win 9).blk t).view.read (Elt Ideal) (state m c) := by
  show (cfg0.win 9).cut (grid0.coords t) ((dats m 0 c).after 9 t) = _
  rw [after0_9]
  funext y
  refine (state_tile (iblk m c 0 t) (iblk m c 1 t) (iblk m c 2 t) (iblk m c 3 t) (iblk m c 4 t) (iblk m c 5 t) (iblk m c 6 t) (iblk m c 7 t) (iblk m c 8 t) y).trans ?_
  show _ = state m c (((cfg0.win 9).blk t).view.emb y)
  refine Eq.trans (state_at m c t (y 0) (y 1)) (congrArg (state m c) (funext fun a => Fin.ext ?_))
  match a with
  | ⟨0, _⟩ =>
    show 512 * t.val + (y 0).val = win0_9.index t 0 * 512 + 1 * (y 0).val
    rw [index_9]; omega
  | ⟨1, _⟩ => exact (Rows.at0 _).symm

theorem box_9 : ∀ t : Fin cfg0.N, win0_9.index t 0 * win0_9.size 0 = 512 * t.val ∧ win0_9.xsize (grid0.coords t) 0 = 512
    ∧ win0_9.index t 1 * win0_9.size 1 = 0 ∧ win0_9.xsize (grid0.coords t) 1 = 1024 := by decide +kernel

theorem cover_state (i : S8192x1024.Idx) : ∃ t, (cfg0.win 9).flush t = true ∧ i ∈ ((cfg0.win 9).blk t).view.set := by
  have h0 : (i 0 : ℕ) < 8192 := (i 0).isLt
  have h1 : (i 1 : ℕ) < 1024 := (i 1).isLt
  refine ⟨⟨(i 0 : ℕ) / 512, lt_of_lt_of_eq (by omega) (show 16 = cfg0.N from N_0.symm)⟩, flush0_9 _, ?_⟩
  generalize ht : (⟨(i 0 : ℕ) / 512, _⟩ : Fin cfg0.N) = t
  have hv : (i 0 : ℕ) / 512 = t.val := congrArg Fin.val ht
  show i ∈ ((View.whole main_v0_0).slice (win0_9.rect t)).set
  rw [View.set_slice_whole, Rect.mem_set_unit]
  obtain ⟨b0, b1, b2, b3⟩ := box_9 t
  intro a
  match a with
  | ⟨0, _⟩ =>
    show win0_9.index t 0 * win0_9.size 0 ≤ (i 0 : ℕ) ∧ (i 0 : ℕ) < win0_9.index t 0 * win0_9.size 0 + win0_9.xsize (grid0.coords t) 0
    rw [b0, b1]; omega
  | ⟨1, _⟩ =>
    show win0_9.index t 1 * win0_9.size 1 ≤ (i 1 : ℕ) ∧ (i 1 : ℕ) < win0_9.index t 1 * win0_9.size 1 + win0_9.xsize (grid0.coords t) 1
    rw [b2, b3]; omega

theorem final_state : (dats m 0 c).arrAt 9 cfg0.N = state m c :=
  Dat.arrAt_eq_of_cover (dats m 0 c) 9 (state m c) (fun t ht => flushed_state m c t ht) cover_state

/-- The array pa. -/
def pa : S8192x768.Idx → EReal := fun y => plain (rows_a (state m c) (arg4 m c) y)

theorem flushed_pa (t : Fin cfg0.N) (_ : (cfg0.win 10).flush t = true) :
    (dats m 0 c).flushed 10 t = ((cfg0.win 10).blk t).view.read (Elt Ideal) (pa m c) := by
  show (cfg0.win 10).cut (grid0.coords t) ((dats m 0 c).after 10 t) = _
  rw [after0_10]
  funext y
  refine (pa_tile (iblk m c 0 t) (iblk m c 1 t) (iblk m c 2 t) (iblk m c 3 t) (iblk m c 4 t) (iblk m c 5 t) (iblk m c 6 t) (iblk m c 7 t) (iblk m c 8 t) y).trans ?_
  show _ = pa m c (((cfg0.win 10).blk t).view.emb y)
  refine Eq.trans (congr1 plain (at_a_3_4 m c t (y 0) (y 1))) (congrArg (pa m c) (funext fun a => Fin.ext ?_))
  match a with
  | ⟨0, _⟩ =>
    show 512 * t.val + (y 0).val = win0_10.index t 0 * 512 + 1 * (y 0).val
    rw [index_10]; omega
  | ⟨1, _⟩ => exact (Rows.at0 _).symm

theorem box_10 : ∀ t : Fin cfg0.N, win0_10.index t 0 * win0_10.size 0 = 512 * t.val ∧ win0_10.xsize (grid0.coords t) 0 = 512
    ∧ win0_10.index t 1 * win0_10.size 1 = 0 ∧ win0_10.xsize (grid0.coords t) 1 = 768 := by decide +kernel

theorem cover_pa (i : S8192x768.Idx) : ∃ t, (cfg0.win 10).flush t = true ∧ i ∈ ((cfg0.win 10).blk t).view.set := by
  have h0 : (i 0 : ℕ) < 8192 := (i 0).isLt
  have h1 : (i 1 : ℕ) < 768 := (i 1).isLt
  refine ⟨⟨(i 0 : ℕ) / 512, lt_of_lt_of_eq (by omega) (show 16 = cfg0.N from N_0.symm)⟩, flush0_10 _, ?_⟩
  generalize ht : (⟨(i 0 : ℕ) / 512, _⟩ : Fin cfg0.N) = t
  have hv : (i 0 : ℕ) / 512 = t.val := congrArg Fin.val ht
  show i ∈ ((View.whole main_v0_1).slice (win0_10.rect t)).set
  rw [View.set_slice_whole, Rect.mem_set_unit]
  obtain ⟨b0, b1, b2, b3⟩ := box_10 t
  intro a
  match a with
  | ⟨0, _⟩ =>
    show win0_10.index t 0 * win0_10.size 0 ≤ (i 0 : ℕ) ∧ (i 0 : ℕ) < win0_10.index t 0 * win0_10.size 0 + win0_10.xsize (grid0.coords t) 0
    rw [b0, b1]; omega
  | ⟨1, _⟩ =>
    show win0_10.index t 1 * win0_10.size 1 ≤ (i 1 : ℕ) ∧ (i 1 : ℕ) < win0_10.index t 1 * win0_10.size 1 + win0_10.xsize (grid0.coords t) 1
    rw [b2, b3]; omega

theorem final_pa : (dats m 0 c).arrAt 10 cfg0.N = pa m c :=
  Dat.arrAt_eq_of_cover (dats m 0 c) 10 (pa m c) (fun t ht => flushed_pa m c t ht) cover_pa

/-- The array pqk. -/
def pqk : S8192x1024.Idx → EReal := fun y => plain (rows_b (state m c) (arg5 m c) y)

theorem flushed_pqk (t : Fin cfg0.N) (_ : (cfg0.win 11).flush t = true) :
    (dats m 0 c).flushed 11 t = ((cfg0.win 11).blk t).view.read (Elt Ideal) (pqk m c) := by
  show (cfg0.win 11).cut (grid0.coords t) ((dats m 0 c).after 11 t) = _
  rw [after0_11]
  funext y
  refine (pqk_tile (iblk m c 0 t) (iblk m c 1 t) (iblk m c 2 t) (iblk m c 3 t) (iblk m c 4 t) (iblk m c 5 t) (iblk m c 6 t) (iblk m c 7 t) (iblk m c 8 t) y).trans ?_
  show _ = pqk m c (((cfg0.win 11).blk t).view.emb y)
  refine Eq.trans (congr1 plain (at_b_3_5 m c t (y 0) (y 1))) (congrArg (pqk m c) (funext fun a => Fin.ext ?_))
  match a with
  | ⟨0, _⟩ =>
    show 512 * t.val + (y 0).val = win0_11.index t 0 * 512 + 1 * (y 0).val
    rw [index_11]; omega
  | ⟨1, _⟩ => exact (Rows.at0 _).symm

theorem box_11 : ∀ t : Fin cfg0.N, win0_11.index t 0 * win0_11.size 0 = 512 * t.val ∧ win0_11.xsize (grid0.coords t) 0 = 512
    ∧ win0_11.index t 1 * win0_11.size 1 = 0 ∧ win0_11.xsize (grid0.coords t) 1 = 1024 := by decide +kernel

theorem cover_pqk (i : S8192x1024.Idx) : ∃ t, (cfg0.win 11).flush t = true ∧ i ∈ ((cfg0.win 11).blk t).view.set := by
  have h0 : (i 0 : ℕ) < 8192 := (i 0).isLt
  have h1 : (i 1 : ℕ) < 1024 := (i 1).isLt
  refine ⟨⟨(i 0 : ℕ) / 512, lt_of_lt_of_eq (by omega) (show 16 = cfg0.N from N_0.symm)⟩, flush0_11 _, ?_⟩
  generalize ht : (⟨(i 0 : ℕ) / 512, _⟩ : Fin cfg0.N) = t
  have hv : (i 0 : ℕ) / 512 = t.val := congrArg Fin.val ht
  show i ∈ ((View.whole main_v0_2).slice (win0_11.rect t)).set
  rw [View.set_slice_whole, Rect.mem_set_unit]
  obtain ⟨b0, b1, b2, b3⟩ := box_11 t
  intro a
  match a with
  | ⟨0, _⟩ =>
    show win0_11.index t 0 * win0_11.size 0 ≤ (i 0 : ℕ) ∧ (i 0 : ℕ) < win0_11.index t 0 * win0_11.size 0 + win0_11.xsize (grid0.coords t) 0
    rw [b0, b1]; omega
  | ⟨1, _⟩ =>
    show win0_11.index t 1 * win0_11.size 1 ≤ (i 1 : ℕ) ∧ (i 1 : ℕ) < win0_11.index t 1 * win0_11.size 1 + win0_11.xsize (grid0.coords t) 1
    rw [b2, b3]; omega

theorem final_pqk : (dats m 0 c).arrAt 11 cfg0.N = pqk m c :=
  Dat.arrAt_eq_of_cover (dats m 0 c) 11 (pqk m c) (fun t ht => flushed_pqk m c t ht) cover_pqk

/-- The array pvo. -/
def pvo : S8192x1024.Idx → EReal := fun y => plain (rows_b (state m c) (arg6 m c) y)

theorem flushed_pvo (t : Fin cfg0.N) (_ : (cfg0.win 12).flush t = true) :
    (dats m 0 c).flushed 12 t = ((cfg0.win 12).blk t).view.read (Elt Ideal) (pvo m c) := by
  show (cfg0.win 12).cut (grid0.coords t) ((dats m 0 c).after 12 t) = _
  rw [after0_12]
  funext y
  refine (pvo_tile (iblk m c 0 t) (iblk m c 1 t) (iblk m c 2 t) (iblk m c 3 t) (iblk m c 4 t) (iblk m c 5 t) (iblk m c 6 t) (iblk m c 7 t) (iblk m c 8 t) y).trans ?_
  show _ = pvo m c (((cfg0.win 12).blk t).view.emb y)
  refine Eq.trans (congr1 plain (at_b_3_6 m c t (y 0) (y 1))) (congrArg (pvo m c) (funext fun a => Fin.ext ?_))
  match a with
  | ⟨0, _⟩ =>
    show 512 * t.val + (y 0).val = win0_12.index t 0 * 512 + 1 * (y 0).val
    rw [index_12]; omega
  | ⟨1, _⟩ => exact (Rows.at0 _).symm

theorem box_12 : ∀ t : Fin cfg0.N, win0_12.index t 0 * win0_12.size 0 = 512 * t.val ∧ win0_12.xsize (grid0.coords t) 0 = 512
    ∧ win0_12.index t 1 * win0_12.size 1 = 0 ∧ win0_12.xsize (grid0.coords t) 1 = 1024 := by decide +kernel

theorem cover_pvo (i : S8192x1024.Idx) : ∃ t, (cfg0.win 12).flush t = true ∧ i ∈ ((cfg0.win 12).blk t).view.set := by
  have h0 : (i 0 : ℕ) < 8192 := (i 0).isLt
  have h1 : (i 1 : ℕ) < 1024 := (i 1).isLt
  refine ⟨⟨(i 0 : ℕ) / 512, lt_of_lt_of_eq (by omega) (show 16 = cfg0.N from N_0.symm)⟩, flush0_12 _, ?_⟩
  generalize ht : (⟨(i 0 : ℕ) / 512, _⟩ : Fin cfg0.N) = t
  have hv : (i 0 : ℕ) / 512 = t.val := congrArg Fin.val ht
  show i ∈ ((View.whole main_v0_3).slice (win0_12.rect t)).set
  rw [View.set_slice_whole, Rect.mem_set_unit]
  obtain ⟨b0, b1, b2, b3⟩ := box_12 t
  intro a
  match a with
  | ⟨0, _⟩ =>
    show win0_12.index t 0 * win0_12.size 0 ≤ (i 0 : ℕ) ∧ (i 0 : ℕ) < win0_12.index t 0 * win0_12.size 0 + win0_12.xsize (grid0.coords t) 0
    rw [b0, b1]; omega
  | ⟨1, _⟩ =>
    show win0_12.index t 1 * win0_12.size 1 ≤ (i 1 : ℕ) ∧ (i 1 : ℕ) < win0_12.index t 1 * win0_12.size 1 + win0_12.xsize (grid0.coords t) 1
    rw [b2, b3]; omega

theorem final_pvo : (dats m 0 c).arrAt 12 cfg0.N = pvo m c :=
  Dat.arrAt_eq_of_cover (dats m 0 c) 12 (pvo m c) (fun t ht => flushed_pvo m c t ht) cover_pvo

/-- The array pif. -/
def pif : S8192x128.Idx → EReal := fun y => plain (rows_c (state m c) (arg7 m c) y)

theorem flushed_pif (t : Fin cfg0.N) (_ : (cfg0.win 13).flush t = true) :
    (dats m 0 c).flushed 13 t = ((cfg0.win 13).blk t).view.read (Elt Ideal) (pif m c) := by
  show (cfg0.win 13).cut (grid0.coords t) ((dats m 0 c).after 13 t) = _
  rw [after0_13]
  funext y
  refine (pif_tile (iblk m c 0 t) (iblk m c 1 t) (iblk m c 2 t) (iblk m c 3 t) (iblk m c 4 t) (iblk m c 5 t) (iblk m c 6 t) (iblk m c 7 t) (iblk m c 8 t) y).trans ?_
  show _ = pif m c (((cfg0.win 13).blk t).view.emb y)
  refine Eq.trans (congr1 plain (at_c_3_7 m c t (y 0) (y 1))) (congrArg (pif m c) (funext fun a => Fin.ext ?_))
  match a with
  | ⟨0, _⟩ =>
    show 512 * t.val + (y 0).val = win0_13.index t 0 * 512 + 1 * (y 0).val
    rw [index_13]; omega
  | ⟨1, _⟩ => exact (Rows.at0 _).symm

theorem box_13 : ∀ t : Fin cfg0.N, win0_13.index t 0 * win0_13.size 0 = 512 * t.val ∧ win0_13.xsize (grid0.coords t) 0 = 512
    ∧ win0_13.index t 1 * win0_13.size 1 = 0 ∧ win0_13.xsize (grid0.coords t) 1 = 128 := by decide +kernel

theorem cover_pif (i : S8192x128.Idx) : ∃ t, (cfg0.win 13).flush t = true ∧ i ∈ ((cfg0.win 13).blk t).view.set := by
  have h0 : (i 0 : ℕ) < 8192 := (i 0).isLt
  have h1 : (i 1 : ℕ) < 128 := (i 1).isLt
  refine ⟨⟨(i 0 : ℕ) / 512, lt_of_lt_of_eq (by omega) (show 16 = cfg0.N from N_0.symm)⟩, flush0_13 _, ?_⟩
  generalize ht : (⟨(i 0 : ℕ) / 512, _⟩ : Fin cfg0.N) = t
  have hv : (i 0 : ℕ) / 512 = t.val := congrArg Fin.val ht
  show i ∈ ((View.whole main_v0_4).slice (win0_13.rect t)).set
  rw [View.set_slice_whole, Rect.mem_set_unit]
  obtain ⟨b0, b1, b2, b3⟩ := box_13 t
  intro a
  match a with
  | ⟨0, _⟩ =>
    show win0_13.index t 0 * win0_13.size 0 ≤ (i 0 : ℕ) ∧ (i 0 : ℕ) < win0_13.index t 0 * win0_13.size 0 + win0_13.xsize (grid0.coords t) 0
    rw [b0, b1]; omega
  | ⟨1, _⟩ =>
    show win0_13.index t 1 * win0_13.size 1 ≤ (i 1 : ℕ) ∧ (i 1 : ℕ) < win0_13.index t 1 * win0_13.size 1 + win0_13.xsize (grid0.coords t) 1
    rw [b2, b3]; omega

theorem final_pif : (dats m 0 c).arrAt 13 cfg0.N = pif m c :=
  Dat.arrAt_eq_of_cover (dats m 0 c) 13 (pif m c) (fun t ht => flushed_pif m c t ht) cover_pif

/-- The array pg. -/
def pg : S8192x2048.Idx → EReal := fun y => plain (rows_d (state m c) (arg8 m c) y)

theorem flushed_pg (t : Fin cfg0.N) (_ : (cfg0.win 14).flush t = true) :
    (dats m 0 c).flushed 14 t = ((cfg0.win 14).blk t).view.read (Elt Ideal) (pg m c) := by
  show (cfg0.win 14).cut (grid0.coords t) ((dats m 0 c).after 14 t) = _
  rw [after0_14]
  funext y
  refine (pg_tile (iblk m c 0 t) (iblk m c 1 t) (iblk m c 2 t) (iblk m c 3 t) (iblk m c 4 t) (iblk m c 5 t) (iblk m c 6 t) (iblk m c 7 t) (iblk m c 8 t) y).trans ?_
  show _ = pg m c (((cfg0.win 14).blk t).view.emb y)
  refine Eq.trans (congr1 plain (at_d_3_8 m c t (y 0) (y 1))) (congrArg (pg m c) (funext fun a => Fin.ext ?_))
  match a with
  | ⟨0, _⟩ =>
    show 512 * t.val + (y 0).val = win0_14.index t 0 * 512 + 1 * (y 0).val
    rw [index_14]; omega
  | ⟨1, _⟩ => exact (Rows.at0 _).symm

theorem box_14 : ∀ t : Fin cfg0.N, win0_14.index t 0 * win0_14.size 0 = 512 * t.val ∧ win0_14.xsize (grid0.coords t) 0 = 512
    ∧ win0_14.index t 1 * win0_14.size 1 = 0 ∧ win0_14.xsize (grid0.coords t) 1 = 2048 := by decide +kernel

theorem cover_pg (i : S8192x2048.Idx) : ∃ t, (cfg0.win 14).flush t = true ∧ i ∈ ((cfg0.win 14).blk t).view.set := by
  have h0 : (i 0 : ℕ) < 8192 := (i 0).isLt
  have h1 : (i 1 : ℕ) < 2048 := (i 1).isLt
  refine ⟨⟨(i 0 : ℕ) / 512, lt_of_lt_of_eq (by omega) (show 16 = cfg0.N from N_0.symm)⟩, flush0_14 _, ?_⟩
  generalize ht : (⟨(i 0 : ℕ) / 512, _⟩ : Fin cfg0.N) = t
  have hv : (i 0 : ℕ) / 512 = t.val := congrArg Fin.val ht
  show i ∈ ((View.whole main_v0_5).slice (win0_14.rect t)).set
  rw [View.set_slice_whole, Rect.mem_set_unit]
  obtain ⟨b0, b1, b2, b3⟩ := box_14 t
  intro a
  match a with
  | ⟨0, _⟩ =>
    show win0_14.index t 0 * win0_14.size 0 ≤ (i 0 : ℕ) ∧ (i 0 : ℕ) < win0_14.index t 0 * win0_14.size 0 + win0_14.xsize (grid0.coords t) 0
    rw [b0, b1]; omega
  | ⟨1, _⟩ =>
    show win0_14.index t 1 * win0_14.size 1 ≤ (i 1 : ℕ) ∧ (i 1 : ℕ) < win0_14.index t 1 * win0_14.size 1 + win0_14.xsize (grid0.coords t) 1
    rw [b2, b3]; omega

theorem final_pg : (dats m 0 c).arrAt 14 cfg0.N = pg m c :=
  Dat.arrAt_eq_of_cover (dats m 0 c) 14 (pg m c) (fun t ht => flushed_pg m c t ht) cover_pg

/-- The kernel's run leaves the results at these arrays. -/
theorem output : θ_run defs (onTc (τ := τ) (main (F := Ideal))) ⟨m, fun _ => 0, ρ⟩ fun r => ∀ c : Dev nD,
      r.2.mem ((c.tc : Thread nD τ).loc main_v0_0) = state m c
      ∧ r.2.mem ((c.tc : Thread nD τ).loc main_v0_1) = pa m c
      ∧ r.2.mem ((c.tc : Thread nD τ).loc main_v0_2) = pqk m c
      ∧ r.2.mem ((c.tc : Thread nD τ).loc main_v0_3) = pvo m c
      ∧ r.2.mem ((c.tc : Thread nD τ).loc main_v0_4) = pif m c
      ∧ r.2.mem ((c.tc : Thread nD τ).loc main_v0_5) = pg m c :=
  (θ_run defs _ _).mono (fun _ h c => ⟨((h c).1 9).trans (final_state m c), ((h c).1 10).trans (final_pa m c), ((h c).1 11).trans (final_pqk m c), ((h c).1 12).trans (final_pvo m c), ((h c).1 13).trans (final_pif m c), ((h c).1 14).trans (final_pg m c)⟩) (run_main m ρ)

/-- The kernel's run, read: the results, the arguments unchanged. -/
theorem value : θ_run defs (onTc (τ := τ) (main (F := Ideal))) ⟨m, fun _ => 0, ρ⟩ fun r => ∀ c : Dev nD,
      r.2.mem ((c.tc : Thread nD τ).loc main_v0_0) = state m c
      ∧ r.2.mem ((c.tc : Thread nD τ).loc main_v0_1) = pa m c
      ∧ r.2.mem ((c.tc : Thread nD τ).loc main_v0_2) = pqk m c
      ∧ r.2.mem ((c.tc : Thread nD τ).loc main_v0_3) = pvo m c
      ∧ r.2.mem ((c.tc : Thread nD τ).loc main_v0_4) = pif m c
      ∧ r.2.mem ((c.tc : Thread nD τ).loc main_v0_5) = pg m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h.1 c).1, (h.1 c).2.1, (h.1 c).2.2.1, (h.1 c).2.2.2.1, (h.1 c).2.2.2.2.1, (h.1 c).2.2.2.2.2, h.2.1 c⟩)
    (θ_run_and (output m ρ) (frame m ρ))

end Cert.ProjIdeal.Value

end
-- ==== Proof.ProjEqual.lean ====
module

public import proofs.«01_k».proof.Defs
public import proofs.«01_k».proof.Proof.ProjValue
public import Idealize.ShloMosaic.Lib.Quiescent
public import proofs.«01_k».proof.Proof.Gen.ProjReferenceIdeal.Read

@[expose] public section

set_option maxRecDepth 16384

noncomputable section

/-! The kernel and the reference of the mixer's input products compute the same six arrays. -/

namespace Cert.ProjReferenceIdeal.Value

open Idealize.ShloMosaic Idealize.ShloMosaic.TcCoe Idealize.SL.Sem
open Cert.ProjReferenceIdeal Cert.ProjReferenceIdeal.Gen Cert.ProjReferenceIdeal.Read Cert.Scalars

variable (x0 : (⟨S8192x1024, .f32⟩ : BufTy).Contents (Elt Ideal)) (x1 : (⟨S1x1024, .f32⟩ : BufTy).Contents (Elt Ideal)) (x2 : (⟨S1x1024, .f32⟩ : BufTy).Contents (Elt Ideal)) (x3 : (⟨S1x1024, .f32⟩ : BufTy).Contents (Elt Ideal)) (x4 : (⟨S768x1024, .bf16⟩ : BufTy).Contents (Elt Ideal)) (x5 : (⟨S1024x1024, .bf16⟩ : BufTy).Contents (Elt Ideal)) (x6 : (⟨S1024x1024, .bf16⟩ : BufTy).Contents (Elt Ideal)) (x7 : (⟨S128x1024, .bf16⟩ : BufTy).Contents (Elt Ideal)) (x8 : (⟨S2048x1024, .bf16⟩ : BufTy).Contents (Elt Ideal))

theorem zero_word : Ideal.ofBits .f32 0x00000000#32 = 0 := by
  simp [Ideal.ofBits, Ideal.ieee]

theorem one_word : Ideal.ofBits .f32 0x3F800000#32 = 1 := by
  simp [Ideal.ofBits, Ideal.ieee]
  rw [← EReal.coe_mul]
  norm_num

/-- A row's sum of squares. -/
theorem squares (y : S8192.Idx) : val_main_v1 (F := Ideal) x0 y = ∑ r : Fin 1024, (show EReal from x0 (ix2 (y 0) r)) * (show EReal from x0 (ix2 (y 0) r)) := by
  refine (val_main_v1_apply x0 y).trans ?_
  refine Eq.trans (congrArg₂ (fun a b : EReal => a + b) (show _ = (0 : EReal) from zero_word) (Finset.sum_congr rfl fun r _ => ?_)) (zero_add _)
  have e : idx_main_v1 y r = ix2 (y 0) r := by
    funext a
    match a with
    | ⟨0, _⟩ => rfl
    | ⟨1, _⟩ => rfl
  exact congrArg (fun q => (show EReal from x0 q) * (show EReal from x0 q)) e

/-- The normed state over whole arrays. -/
def state (x : S8192x1024.Idx → EReal) (g sc sh : S1x1024.Idx → EReal) (y : S8192x1024.Idx) : EReal :=
  Cert.ProjIdeal.Value.normed (x (ix2 (y 0) (y 1))) (∑ r : Fin 1024, x (ix2 (y 0) r) * x (ix2 (y 0) r)) (g (ix2 0 (y 1))) (sc (ix2 0 (y 1))) (sh (ix2 0 (y 1)))

theorem row_place (y : S8192x1024.Idx) : idx_main_v10 y = ix2 0 (y 1) := by
  funext a
  match a with
  | ⟨0, _⟩ => rfl
  | ⟨1, _⟩ => rfl

/-- The normed state at an index. -/
theorem state_apply (y : S8192x1024.Idx) : val_main_v17 (F := Ideal) x0 x1 x2 x3 y = state x0 x1 x2 x3 y := by
  rw [val_main_v17_apply, val_main_v16_apply, val_main_v15_apply, val_main_v14_apply, val_main_v13_apply, val_main_v12_apply, val_main_cst_2_apply,
    val_main_v11_apply, val_main_v10_apply, val_main_v9_apply, val_main_v8_apply, val_main_v7_apply, val_main_v6_apply, val_main_v5_apply, val_main_cst_1_apply,
    val_main_v4_apply, val_main_v3_apply, val_main_cst_0_apply, val_main_v2_apply, squares]
  have e : ix2 (y 0) (y 1) = y := by
    funext a
    match a with
    | ⟨0, _⟩ => rfl
    | ⟨1, _⟩ => rfl
  have e0 : idx_main_v10 y = ix2 0 (y 1) := row_place y
  have e1 : idx_main_v14 y = ix2 0 (y 1) := row_place y
  have e2 : idx_main_v16 y = ix2 0 (y 1) := row_place y
  rw [e0, e1, e2]
  have h : state x0 x1 x2 x3 y = Cert.ProjIdeal.Value.normed (x0 y) (∑ r : Fin 1024, (show EReal from x0 (ix2 (y 0) r)) * (show EReal from x0 (ix2 (y 0) r)))
      (x1 (ix2 0 (y 1))) (x2 (ix2 0 (y 1))) (x3 (ix2 0 (y 1))) :=
    congrArg (fun q => Cert.ProjIdeal.Value.normed (x0 q) (∑ r : Fin 1024, (show EReal from x0 (ix2 (y 0) r)) * (show EReal from x0 (ix2 (y 0) r)))
      (x1 (ix2 0 (y 1))) (x2 (ix2 0 (y 1))) (x3 (ix2 0 (y 1)))) e
  rw [h, Cert.ProjIdeal.Value.normed, ← one_word]
  rfl

/-- The product at an index. -/
theorem product_a (y : S8192x768.Idx) : val_main_v20 (F := Ideal) x0 x1 x2 x3 x4 y = Cert.ProjIdeal.Value.rows_a (state x0 x1 x2 x3) x4 y := by
  refine (val_main_v20_apply x0 x1 x2 x3 x4 y).trans (Finset.sum_congr rfl fun k _ => ?_)
  rw [val_main_v19_apply, state_apply]
  have el : lidx_main_v20 y k = ix2 (y 0) k := by
    funext a
    match a with
    | ⟨0, _⟩ => rfl
    | ⟨1, _⟩ => rfl
  have er : idx_main_v19 (ridx_main_v20 y k) = ix2 (y 1) k := by
    funext a
    match a with
    | ⟨0, _⟩ => rfl
    | ⟨1, _⟩ => rfl
  rw [el, er]
  rfl

/-- The product at an index. -/
theorem product_qk (y : S8192x1024.Idx) : val_main_v23 (F := Ideal) x0 x1 x2 x3 x5 y = Cert.ProjIdeal.Value.rows_b (state x0 x1 x2 x3) x5 y := by
  refine (val_main_v23_apply x0 x1 x2 x3 x5 y).trans (Finset.sum_congr rfl fun k _ => ?_)
  rw [val_main_v22_apply, state_apply]
  have el : lidx_main_v23 y k = ix2 (y 0) k := by
    funext a
    match a with
    | ⟨0, _⟩ => rfl
    | ⟨1, _⟩ => rfl
  have er : idx_main_v22 (ridx_main_v23 y k) = ix2 (y 1) k := by
    funext a
    match a with
    | ⟨0, _⟩ => rfl
    | ⟨1, _⟩ => rfl
  rw [el, er]
  rfl

/-- The product at an index. -/
theorem product_vo (y : S8192x1024.Idx) : val_main_v26 (F := Ideal) x0 x1 x2 x3 x6 y = Cert.ProjIdeal.Value.rows_b (state x0 x1 x2 x3) x6 y := by
  refine (val_main_v26_apply x0 x1 x2 x3 x6 y).trans (Finset.sum_congr rfl fun k _ => ?_)
  rw [val_main_v25_apply, state_apply]
  have el : lidx_main_v26 y k = ix2 (y 0) k := by
    funext a
    match a with
    | ⟨0, _⟩ => rfl
    | ⟨1, _⟩ => rfl
  have er : idx_main_v25 (ridx_main_v26 y k) = ix2 (y 1) k := by
    funext a
    match a with
    | ⟨0, _⟩ => rfl
    | ⟨1, _⟩ => rfl
  rw [el, er]
  rfl

/-- The product at an index. -/
theorem product_if (y : S8192x128.Idx) : val_main_v29 (F := Ideal) x0 x1 x2 x3 x7 y = Cert.ProjIdeal.Value.rows_c (state x0 x1 x2 x3) x7 y := by
  refine (val_main_v29_apply x0 x1 x2 x3 x7 y).trans (Finset.sum_congr rfl fun k _ => ?_)
  rw [val_main_v28_apply, state_apply]
  have el : lidx_main_v29 y k = ix2 (y 0) k := by
    funext a
    match a with
    | ⟨0, _⟩ => rfl
    | ⟨1, _⟩ => rfl
  have er : idx_main_v28 (ridx_main_v29 y k) = ix2 (y 1) k := by
    funext a
    match a with
    | ⟨0, _⟩ => rfl
    | ⟨1, _⟩ => rfl
  rw [el, er]
  rfl

/-- The product at an index. -/
theorem product_g (y : S8192x2048.Idx) : val_main_v32 (F := Ideal) x0 x1 x2 x3 x8 y = Cert.ProjIdeal.Value.rows_d (state x0 x1 x2 x3) x8 y := by
  refine (val_main_v32_apply x0 x1 x2 x3 x8 y).trans (Finset.sum_congr rfl fun k _ => ?_)
  rw [val_main_v31_apply, state_apply]
  have el : lidx_main_v32 y k = ix2 (y 0) k := by
    funext a
    match a with
    | ⟨0, _⟩ => rfl
    | ⟨1, _⟩ => rfl
  have er : idx_main_v31 (ridx_main_v32 y k) = ix2 (y 1) k := by
    funext a
    match a with
    | ⟨0, _⟩ => rfl
    | ⟨1, _⟩ => rfl
  rw [el, er]
  rfl

end Cert.ProjReferenceIdeal.Value

namespace Cert.ProjEqual

open Idealize.ShloMosaic Idealize.ShloMosaic.TcCoe Idealize.SL.Sem

/-- From any arguments the kernel and the reference end with the same arrays. -/
theorem equal : Cert.algebraic_ProjIdeal_ProjReferenceIdeal := by
  intro m g m' g' _ ha
  refine ⟨Cert.ProjIdeal.Value.state m, Cert.ProjIdeal.Value.pa m, Cert.ProjIdeal.Value.pqk m, Cert.ProjIdeal.Value.pvo m, Cert.ProjIdeal.Value.pif m, Cert.ProjIdeal.Value.pg m, Cert.ProjIdeal.Value.value m g, ?_⟩
  refine (θ_run Cert.ProjReferenceIdeal.defs _ _).mono (fun r h c => ?_) (Cert.ProjReferenceIdeal.Value.run (F := Ideal) m' g')
  obtain ⟨hv0, hv1, hv2, hv3, hv4, hv5, hargs⟩ := h c
  obtain ⟨a0, a1, a2, a3, a4, a5, a6, a7, a8⟩ := ha c
  refine ⟨hv0.trans ?_, hv1.trans ?_, hv2.trans ?_, hv3.trans ?_, hv4.trans ?_, hv5.trans ?_, hargs⟩
  · rw [a0, a1, a2, a3]
    exact (Cert.ProjReferenceIdeal.Read.val_main_v33_eq (F := Ideal) _ _ _ _).trans (funext fun y => Cert.ProjReferenceIdeal.Value.state_apply _ _ _ _ y)
  · rw [a0, a1, a2, a3, a4]
    exact (Cert.ProjReferenceIdeal.Read.val_main_v20_eq (F := Ideal) _ _ _ _ _).trans (funext fun y => Cert.ProjReferenceIdeal.Value.product_a _ _ _ _ _ y)
  · rw [a0, a1, a2, a3, a5]
    exact (Cert.ProjReferenceIdeal.Read.val_main_v23_eq (F := Ideal) _ _ _ _ _).trans (funext fun y => Cert.ProjReferenceIdeal.Value.product_qk _ _ _ _ _ y)
  · rw [a0, a1, a2, a3, a6]
    exact (Cert.ProjReferenceIdeal.Read.val_main_v34_eq (F := Ideal) _ _ _ _ _).trans (funext fun y => Cert.ProjReferenceIdeal.Value.product_vo _ _ _ _ _ y)
  · rw [a0, a1, a2, a3, a7]
    exact (Cert.ProjReferenceIdeal.Read.val_main_v29_eq (F := Ideal) _ _ _ _ _).trans (funext fun y => Cert.ProjReferenceIdeal.Value.product_if _ _ _ _ _ y)
  · rw [a0, a1, a2, a3, a8]
    exact (Cert.ProjReferenceIdeal.Read.val_main_v35_eq (F := Ideal) _ _ _ _ _).trans (funext fun y => Cert.ProjReferenceIdeal.Value.product_g _ _ _ _ _ y)

/-- The reference ends with its arguments unchanged and every counter at zero. -/
theorem frame_reference : Cert.quiescent_ProjReferenceIdeal := by
  intro m ρ _
  exact (θ_run Cert.ProjReferenceIdeal.defs _ _).mono (fun r h => ⟨fun c => (h c).2.2.2.2.2.2,
      Idealize.ShloMosaic.sem_eq_zero_of_no_sems (by decide) r.2⟩)
    (Cert.ProjReferenceIdeal.Value.run (F := Ideal) m ρ)

end Cert.ProjEqual

end
-- ==== Proof.lean ====
module

public import proofs.«01_k».proof.Defs
public import proofs.«01_k».proof.Proof.Gen.Kernel

public import proofs.«01_k».proof.Proof.Gen.KernelIdeal
public import proofs.«01_k».proof.Proof.Gen.ReferenceIdeal
public import proofs.«01_k».proof.Proof.Gen.ReferenceIdeal.Run
public import proofs.«01_k».proof.Proof.Sweep
public import proofs.«01_k».proof.Proof.SweepKernel
public import proofs.«01_k».proof.Proof.Equal
public import proofs.«01_k».proof.Proof.Gen.Ffn.Frame
public import proofs.«01_k».proof.Proof.FfnEqual
public import proofs.«01_k».proof.Proof.Gen.Out.Frame
public import proofs.«01_k».proof.Proof.OutEqual
public import proofs.«01_k».proof.Proof.Gen.Branch.Frame
public import proofs.«01_k».proof.Proof.BranchEqual
public import proofs.«01_k».proof.Proof.Gen.First.Frame
public import proofs.«01_k».proof.Proof.FirstEqual
public import proofs.«01_k».proof.Proof.Gen.Last.Frame
public import proofs.«01_k».proof.Proof.LastEqual
public import proofs.«01_k».proof.Proof.Gen.Ada.Frame
public import proofs.«01_k».proof.Proof.AdaEqual
public import proofs.«01_k».proof.Proof.Gen.Gate.Frame
public import proofs.«01_k».proof.Proof.GateEqual
public import proofs.«01_k».proof.Proof.Gen.Down.Frame
public import proofs.«01_k».proof.Proof.DownEqual
public import proofs.«01_k».proof.Proof.Gen.MixBwd.Frame
public import proofs.«01_k».proof.Proof.MixBwdEqual
public import proofs.«01_k».proof.Proof.Gen.BranchBwd.Frame
public import proofs.«01_k».proof.Proof.BranchBwdEqual
public import proofs.«01_k».proof.Proof.Gen.Merge.Frame
public import proofs.«01_k».proof.Proof.MergeEqual
public import proofs.«01_k».proof.Proof.Gen.Proj.Frame
public import proofs.«01_k».proof.Proof.ProjEqual
public import Idealize.ShloMosaic.Lib.Quiescent

@[expose] public section

noncomputable section

namespace Cert.Proof

open Idealize.ShloMosaic Idealize.SL.Sem

/-- The reference ends with its arguments unchanged and, declaring no semaphore, with every counter at zero. -/
theorem frame_reference : Cert.quiescent_ReferenceIdeal := by
  intro m ρ _
  exact (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The claims: the frames of the programs, the idealizations, which rewrote nothing, and the equality of the results
    over the extended reals, for the attention's backward pass and for the other calls. -/
theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Out.Gen.facts, Cert.OutIdeal.Gen.facts, Cert.OutReferenceIdeal.Gen.facts,
    Cert.Branch.Gen.facts, Cert.BranchIdeal.Gen.facts, Cert.BranchReferenceIdeal.Gen.facts,
    Cert.First.Gen.facts, Cert.FirstIdeal.Gen.facts, Cert.FirstReferenceIdeal.Gen.facts,
    Cert.Last.Gen.facts, Cert.LastIdeal.Gen.facts, Cert.LastReferenceIdeal.Gen.facts,
    Cert.Ada.Gen.facts, Cert.AdaIdeal.Gen.facts, Cert.AdaReferenceIdeal.Gen.facts,
    Cert.Gate.Gen.facts, Cert.GateIdeal.Gen.facts, Cert.GateReferenceIdeal.Gen.facts,
    Cert.Down.Gen.facts, Cert.DownIdeal.Gen.facts, Cert.DownReferenceIdeal.Gen.facts,
    Cert.MixBwd.Gen.facts, Cert.MixBwdIdeal.Gen.facts, Cert.MixBwdReferenceIdeal.Gen.facts,
    Cert.BranchBwd.Gen.facts, Cert.BranchBwdIdeal.Gen.facts, Cert.BranchBwdReferenceIdeal.Gen.facts,
    Cert.Merge.Gen.facts, Cert.MergeIdeal.Gen.facts, Cert.MergeReferenceIdeal.Gen.facts,
    Cert.Proj.Gen.facts, Cert.ProjIdeal.Gen.facts, Cert.ProjReferenceIdeal.Gen.facts,
    Cert.Attn.preFacts, Cert.DownPre.preFacts,
    fun m ρ _ => Cert.Kernel.Sweep.frame m ρ,
    fun m ρ _ => Cert.KernelIdeal.Sweep.frame m ρ,
    fun m ρ _ => Cert.KernelIdeal.Sweep.frame m ρ,
    frame_reference,
    fun m ρ _ => frame_reference m ρ trivial,
    fun m ρ _ => Cert.Ffn.Gen.frame m ρ,
    fun m ρ _ => Cert.FfnIdeal.Gen.frame m ρ,
    Cert.FfnEqual.frame_reference,
    fun m ρ _ => Cert.Out.Gen.frame m ρ,
    fun m ρ _ => Cert.OutIdeal.Gen.frame m ρ,
    Cert.OutEqual.frame_reference,
    fun m ρ _ => Cert.Branch.Gen.frame m ρ,
    fun m ρ _ => Cert.BranchIdeal.Gen.frame m ρ,
    Cert.BranchEqual.frame_reference,
    fun m ρ _ => Cert.First.Gen.frame m ρ,
    fun m ρ _ => Cert.FirstIdeal.Gen.frame m ρ,
    Cert.FirstEqual.frame_reference,
    fun m ρ _ => Cert.Last.Gen.frame m ρ,
    fun m ρ _ => Cert.LastIdeal.Gen.frame m ρ,
    Cert.LastEqual.frame_reference,
    fun m ρ _ => Cert.Ada.Gen.frame m ρ,
    fun m ρ _ => Cert.AdaIdeal.Gen.frame m ρ,
    Cert.AdaEqual.frame_reference,
    fun m ρ _ => Cert.Gate.Gen.frame m ρ,
    fun m ρ _ => Cert.GateIdeal.Gen.frame m ρ,
    Cert.GateEqual.frame_reference,
    fun m ρ _ => Cert.Down.Gen.frame m ρ,
    fun m ρ _ => Cert.DownIdeal.Gen.frame m ρ,
    fun m ρ _ => Cert.DownIdeal.Gen.frame m ρ,
    Cert.DownEqual.frame_reference,
    fun m ρ _ => Cert.DownEqual.frame_reference m ρ trivial,
    fun m ρ _ => Cert.MixBwd.Gen.frame m ρ,
    fun m ρ _ => Cert.MixBwdIdeal.Gen.frame m ρ,
    Cert.MixBwdEqual.frame_reference,
    fun m ρ _ => Cert.BranchBwd.Gen.frame m ρ,
    fun m ρ _ => Cert.BranchBwdIdeal.Gen.frame m ρ,
    Cert.BranchBwdEqual.frame_reference,
    fun m ρ _ => Cert.Merge.Gen.frame m ρ,
    fun m ρ _ => Cert.MergeIdeal.Gen.frame m ρ,
    Cert.MergeEqual.frame_reference,
    fun m ρ _ => Cert.Proj.Gen.frame m ρ,
    fun m ρ _ => Cert.ProjIdeal.Gen.frame m ρ,
    Cert.ProjEqual.frame_reference,
    trivial,
    Cert.Attn.equal,
    trivial,
    Cert.FfnEqual.equal,
    trivial,
    Cert.OutEqual.equal,
    trivial,
    Cert.BranchEqual.equal,
    trivial,
    Cert.FirstEqual.equal,
    trivial,
    Cert.LastEqual.equal,
    trivial,
    Cert.AdaEqual.equal,
    trivial,
    Cert.GateEqual.equal,
    trivial,
    Cert.DownEqual.equal,
    trivial,
    Cert.MixBwdEqual.equal,
    trivial,
    Cert.BranchBwdEqual.equal,
    trivial,
    Cert.MergeEqual.equal,
    trivial,
    Cert.ProjEqual.equal⟩

end Cert.Proof

end
